-- ==== Defs.lean ====
def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanIdeal_finite_scan [hPre_finite_scan : Cert.Pre_finite_scan.Facts] (m : (ℓ : Loc Cert.ScanIdeal.nD Cert.ScanIdeal.τ Cert.ScanIdeal.sig) → Buf (Elt Ideal) ℓ) : Prop :=
  ∀ c : Dev Cert.ScanIdeal.nD,
    (Cert.Pre_finite_scan.fn (F := Ideal) (m ((c.tc : Thread Cert.ScanIdeal.nD Cert.ScanIdeal.τ).loc Cert.ScanIdeal.main_arg0)) (m ((c.tc : Thread Cert.ScanIdeal.nD Cert.ScanIdeal.τ).loc Cert.ScanIdeal.main_arg1))) = (fun _ => 1#1)

def Pre_ScanRefIdeal (m : (ℓ : Loc Cert.ScanRefIdeal.nD Cert.ScanRefIdeal.τ Cert.ScanRefIdeal.sig) → Buf (Elt Ideal) ℓ) : Prop :=
  True

def Pre_ScanRefIdeal_finite_scan [hPre_finite_scan : Cert.Pre_finite_scan.Facts] (m : (ℓ : Loc Cert.ScanRefIdeal.nD Cert.ScanRefIdeal.τ Cert.ScanRefIdeal.sig) → Buf (Elt Ideal) ℓ) : Prop :=
  ∀ c : Dev Cert.ScanRefIdeal.nD,
    (Cert.Pre_finite_scan.fn (F := Ideal) (m ((c.tc : Thread Cert.ScanRefIdeal.nD Cert.ScanRefIdeal.τ).loc Cert.ScanRefIdeal.main_arg0)) (m ((c.tc : Thread Cert.ScanRefIdeal.nD Cert.ScanRefIdeal.τ).loc Cert.ScanRefIdeal.main_arg1))) = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_finite_ffn [hPre_finite_ffn : Cert.Pre_finite_ffn.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_finite_ffn.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3))) = (fun _ => 1#1)

def Pre_FfnDxRefIdeal (m : (ℓ : Loc Cert.FfnDxRefIdeal.nD Cert.FfnDxRefIdeal.τ Cert.FfnDxRefIdeal.sig) → Buf (Elt Ideal) ℓ) : Prop :=
  True

def Pre_FfnDxRefIdeal_finite_ffn [hPre_finite_ffn : Cert.Pre_finite_ffn.Facts] (m : (ℓ : Loc Cert.FfnDxRefIdeal.nD Cert.FfnDxRefIdeal.τ Cert.FfnDxRefIdeal.sig) → Buf (Elt Ideal) ℓ) : Prop :=
  ∀ c : Dev Cert.FfnDxRefIdeal.nD,
    (Cert.Pre_finite_ffn.fn (F := Ideal) (m ((c.tc : Thread Cert.FfnDxRefIdeal.nD Cert.FfnDxRefIdeal.τ).loc Cert.FfnDxRefIdeal.main_arg0)) (m ((c.tc : Thread Cert.FfnDxRefIdeal.nD Cert.FfnDxRefIdeal.τ).loc Cert.FfnDxRefIdeal.main_arg1)) (m ((c.tc : Thread Cert.FfnDxRefIdeal.nD Cert.FfnDxRefIdeal.τ).loc Cert.FfnDxRefIdeal.main_arg2)) (m ((c.tc : Thread Cert.FfnDxRefIdeal.nD Cert.FfnDxRefIdeal.τ).loc Cert.FfnDxRefIdeal.main_arg3))) = (fun _ => 1#1)

def Pre_FfnDwOut (m : (ℓ : Loc Cert.FfnDwOut.nD Cert.FfnDwOut.τ Cert.FfnDwOut.sig) → Buf (Elt Bits) ℓ) : Prop :=
  True

def Pre_FfnDwOutIdeal (m : (ℓ : Loc Cert.FfnDwOutIdeal.nD Cert.FfnDwOutIdeal.τ Cert.FfnDwOutIdeal.sig) → Buf (Elt Ideal) ℓ) : Prop :=
  True

def Pre_FfnDwOutRefIdeal (m : (ℓ : Loc Cert.FfnDwOutRefIdeal.nD Cert.FfnDwOutRefIdeal.τ Cert.FfnDwOutRefIdeal.sig) → Buf (Elt Ideal) ℓ) : Prop :=
  True

def Pre_FfnDwIn (m : (ℓ : Loc Cert.FfnDwIn.nD Cert.FfnDwIn.τ Cert.FfnDwIn.sig) → Buf (Elt Bits) ℓ) : Prop :=
  True

def Pre_FfnDwInIdeal (m : (ℓ : Loc Cert.FfnDwInIdeal.nD Cert.FfnDwInIdeal.τ Cert.FfnDwInIdeal.sig) → Buf (Elt Ideal) ℓ) : Prop :=
  True

def Pre_FfnDwInRefIdeal (m : (ℓ : Loc Cert.FfnDwInRefIdeal.nD Cert.FfnDwInRefIdeal.τ Cert.FfnDwInRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3))) = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_AttnDwQkv (m : (ℓ : Loc Cert.AttnDwQkv.nD Cert.AttnDwQkv.τ Cert.AttnDwQkv.sig) → Buf (Elt Bits) ℓ) : Prop :=
  True

def Pre_AttnDwQkvIdeal (m : (ℓ : Loc Cert.AttnDwQkvIdeal.nD Cert.AttnDwQkvIdeal.τ Cert.AttnDwQkvIdeal.sig) → Buf (Elt Ideal) ℓ) : Prop :=
  True

def Pre_AttnDwQkvRefIdeal (m : (ℓ : Loc Cert.AttnDwQkvRefIdeal.nD Cert.AttnDwQkvRefIdeal.τ Cert.AttnDwQkvRefIdeal.sig) → Buf (Elt Ideal) ℓ) : Prop :=
  True

def Pre_LruDwIn (m : (ℓ : Loc Cert.LruDwIn.nD Cert.LruDwIn.τ Cert.LruDwIn.sig) → Buf (Elt Bits) ℓ) : Prop :=
  True

def Pre_LruDwInIdeal (m : (ℓ : Loc Cert.LruDwInIdeal.nD Cert.LruDwInIdeal.τ Cert.LruDwInIdeal.sig) → Buf (Elt Ideal) ℓ) : Prop :=
  True

def Pre_LruDwInRefIdeal (m : (ℓ : Loc Cert.LruDwInRefIdeal.nD Cert.LruDwInRefIdeal.τ Cert.LruDwInRefIdeal.sig) → Buf (Elt Ideal) ℓ) : Prop :=
  True

def Pre_LruDwGates (m : (ℓ : Loc Cert.LruDwGates.nD Cert.LruDwGates.τ Cert.LruDwGates.sig) → Buf (Elt Bits) ℓ) : Prop :=
  True

def Pre_LruDwGatesIdeal (m : (ℓ : Loc Cert.LruDwGatesIdeal.nD Cert.LruDwGatesIdeal.τ Cert.LruDwGatesIdeal.sig) → Buf (Elt Ideal) ℓ) : Prop :=
  True

def Pre_LruDwGatesRefIdeal (m : (ℓ : Loc Cert.LruDwGatesRefIdeal.nD Cert.LruDwGatesRefIdeal.τ Cert.LruDwGatesRefIdeal.sig) → Buf (Elt Ideal) ℓ) : Prop :=
  True

def Pre_AttnDo (m : (ℓ : Loc Cert.AttnDo.nD Cert.AttnDo.τ Cert.AttnDo.sig) → Buf (Elt Bits) ℓ) : Prop :=
  True

def Pre_AttnDoIdeal (m : (ℓ : Loc Cert.AttnDoIdeal.nD Cert.AttnDoIdeal.τ Cert.AttnDoIdeal.sig) → Buf (Elt Ideal) ℓ) : Prop :=
  True

def Pre_AttnDoRefIdeal (m : (ℓ : Loc Cert.AttnDoRefIdeal.nD Cert.AttnDoRefIdeal.τ Cert.AttnDoRefIdeal.sig) → Buf (Elt Ideal) ℓ) : Prop :=
  True

def Pre_LruDy (m : (ℓ : Loc Cert.LruDy.nD Cert.LruDy.τ Cert.LruDy.sig) → Buf (Elt Bits) ℓ) : Prop :=
  True

def Pre_LruDyIdeal (m : (ℓ : Loc Cert.LruDyIdeal.nD Cert.LruDyIdeal.τ Cert.LruDyIdeal.sig) → Buf (Elt Ideal) ℓ) : Prop :=
  True

def Pre_LruDyRefIdeal (m : (ℓ : Loc Cert.LruDyRefIdeal.nD Cert.LruDyRefIdeal.τ Cert.LruDyRefIdeal.sig) → Buf (Elt Ideal) ℓ) : Prop :=
  True

def Pre_AttnDx (m : (ℓ : Loc Cert.AttnDx.nD Cert.AttnDx.τ Cert.AttnDx.sig) → Buf (Elt Bits) ℓ) : Prop :=
  True

def Pre_AttnDxIdeal (m : (ℓ : Loc Cert.AttnDxIdeal.nD Cert.AttnDxIdeal.τ Cert.AttnDxIdeal.sig) → Buf (Elt Ideal) ℓ) : Prop :=
  True

def Pre_AttnDxRefIdeal (m : (ℓ : Loc Cert.AttnDxRefIdeal.nD Cert.AttnDxRefIdeal.τ Cert.AttnDxRefIdeal.sig) → Buf (Elt Ideal) ℓ) : Prop :=
  True

def Pre_LruDx (m : (ℓ : Loc Cert.LruDx.nD Cert.LruDx.τ Cert.LruDx.sig) → Buf (Elt Bits) ℓ) : Prop :=
  True

def Pre_LruDxIdeal (m : (ℓ : Loc Cert.LruDxIdeal.nD Cert.LruDxIdeal.τ Cert.LruDxIdeal.sig) → Buf (Elt Ideal) ℓ) : Prop :=
  True

def Pre_LruDxRefIdeal (m : (ℓ : Loc Cert.LruDxRefIdeal.nD Cert.LruDxRefIdeal.τ Cert.LruDxRefIdeal.sig) → Buf (Elt Ideal) ℓ) : Prop :=
  True

def Pre_LruDxc (m : (ℓ : Loc Cert.LruDxc.nD Cert.LruDxc.τ Cert.LruDxc.sig) → Buf (Elt Bits) ℓ) : Prop :=
  True

def Pre_LruDxcIdeal (m : (ℓ : Loc Cert.LruDxcIdeal.nD Cert.LruDxcIdeal.τ Cert.LruDxcIdeal.sig) → Buf (Elt Ideal) ℓ) : Prop :=
  True

def Pre_LruDxcRefIdeal (m : (ℓ : Loc Cert.LruDxcRefIdeal.nD Cert.LruDxcRefIdeal.τ Cert.LruDxcRefIdeal.sig) → Buf (Elt Ideal) ℓ) : Prop :=
  True

def Pre_LruIn (m : (ℓ : Loc Cert.LruIn.nD Cert.LruIn.τ Cert.LruIn.sig) → Buf (Elt Bits) ℓ) : Prop :=
  True

def Pre_LruInIdeal (m : (ℓ : Loc Cert.LruInIdeal.nD Cert.LruInIdeal.τ Cert.LruInIdeal.sig) → Buf (Elt Ideal) ℓ) : Prop :=
  True

def Pre_LruInRefIdeal (m : (ℓ : Loc Cert.LruInRefIdeal.nD Cert.LruInRefIdeal.τ Cert.LruInRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamQkv (m : (ℓ : Loc Cert.AdamQkv.nD Cert.AdamQkv.τ Cert.AdamQkv.sig) → Buf (Elt Bits) ℓ) : Prop :=
  True

def Pre_AdamQkvIdeal (m : (ℓ : Loc Cert.AdamQkvIdeal.nD Cert.AdamQkvIdeal.τ Cert.AdamQkvIdeal.sig) → Buf (Elt Ideal) ℓ) : Prop :=
  True

def Pre_AdamQkvRefIdeal (m : (ℓ : Loc Cert.AdamQkvRefIdeal.nD Cert.AdamQkvRefIdeal.τ Cert.AdamQkvRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamLin (m : (ℓ : Loc Cert.AdamLin.nD Cert.AdamLin.τ Cert.AdamLin.sig) → Buf (Elt Bits) ℓ) : Prop :=
  True

def Pre_AdamLinIdeal (m : (ℓ : Loc Cert.AdamLinIdeal.nD Cert.AdamLinIdeal.τ Cert.AdamLinIdeal.sig) → Buf (Elt Ideal) ℓ) : Prop :=
  True

def Pre_AdamLinRefIdeal (m : (ℓ : Loc Cert.AdamLinRefIdeal.nD Cert.AdamLinRefIdeal.τ Cert.AdamLinRefIdeal.sig) → Buf (Elt Ideal) ℓ) : Prop :=
  True

def Pre_AdamGates (m : (ℓ : Loc Cert.AdamGates.nD Cert.AdamGates.τ Cert.AdamGates.sig) → Buf (Elt Bits) ℓ) : Prop :=
  True

def Pre_AdamGatesIdeal (m : (ℓ : Loc Cert.AdamGatesIdeal.nD Cert.AdamGatesIdeal.τ Cert.AdamGatesIdeal.sig) → Buf (Elt Ideal) ℓ) : Prop :=
  True

def Pre_AdamGatesRefIdeal (m : (ℓ : Loc Cert.AdamGatesRefIdeal.nD Cert.AdamGatesRefIdeal.τ Cert.AdamGatesRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_LruOut (m : (ℓ : Loc Cert.LruOut.nD Cert.LruOut.τ Cert.LruOut.sig) → Buf (Elt Bits) ℓ) : Prop :=
  True

def Pre_LruOutIdeal (m : (ℓ : Loc Cert.LruOutIdeal.nD Cert.LruOutIdeal.τ Cert.LruOutIdeal.sig) → Buf (Elt Ideal) ℓ) : Prop :=
  True

def Pre_LruOutRefIdeal (m : (ℓ : Loc Cert.LruOutRefIdeal.nD Cert.LruOutRefIdeal.τ Cert.LruOutRefIdeal.sig) → Buf (Elt Ideal) ℓ) : Prop :=
  True

def Pre_QkvRope (m : (ℓ : Loc Cert.QkvRope.nD Cert.QkvRope.τ Cert.QkvRope.sig) → Buf (Elt Bits) ℓ) : Prop :=
  True

def Pre_QkvRopeIdeal (m : (ℓ : Loc Cert.QkvRopeIdeal.nD Cert.QkvRopeIdeal.τ Cert.QkvRopeIdeal.sig) → Buf (Elt Ideal) ℓ) : Prop :=
  True

def Pre_QkvRopeRefIdeal (m : (ℓ : Loc Cert.QkvRopeRefIdeal.nD Cert.QkvRopeRefIdeal.τ Cert.QkvRopeRefIdeal.sig) → Buf (Elt Ideal) ℓ) : Prop :=
  True

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_ScanIdeal_pre_finite_scan [hScanIdeal : Cert.ScanIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal_finite_scan m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1))
      ∧ r.2.sem = fun _ => 0)

def quiescent_ScanRefIdeal_pre_finite_scan [hScanRefIdeal : Cert.ScanRefIdeal.Facts] [hPre_finite_scan : Cert.Pre_finite_scan.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal_finite_scan m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ r.2.sem = fun _ => 0)

def quiescent_FfnDxIdeal_pre_finite_ffn [hFfnDxIdeal : Cert.FfnDxIdeal.Facts] [hPre_finite_ffn : Cert.Pre_finite_ffn.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_finite_ffn m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3))
      ∧ r.2.sem = fun _ => 0)

def quiescent_FfnDxRefIdeal_pre_finite_ffn [hFfnDxRefIdeal : Cert.FfnDxRefIdeal.Facts] [hPre_finite_ffn : Cert.Pre_finite_ffn.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal_finite_ffn m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2)
      ∧ r.2.mem ((c.tc : Thread Cert.FfnDxRefIdeal.nD Cert.FfnDxRefIdeal.τ).loc Cert.FfnDxRefIdeal.main_arg3) = m ((c.tc : Thread Cert.FfnDxRefIdeal.nD Cert.FfnDxRefIdeal.τ).loc Cert.FfnDxRefIdeal.main_arg3))
      ∧ r.2.sem = fun _ => 0)

def quiescent_FfnDwOut [hFfnDwOut : Cert.FfnDwOut.Facts] : Prop :=
  ∀ (m : (ℓ : Loc Cert.FfnDwOut.nD Cert.FfnDwOut.τ Cert.FfnDwOut.sig) → Buf (Elt Bits) ℓ) (g : Dev Cert.FfnDwOut.nD → PrngReg), Pre_FfnDwOut m →
    θ_run (Cert.FfnDwOut.defs (F := Bits)) (onTc (τ := Cert.FfnDwOut.τ) (Cert.FfnDwOut.main (F := Bits))) ⟨m, fun _ => 0, g⟩ (fun r => (∀ c : Dev Cert.FfnDwOut.nD,
      r.2.mem ((c.tc : Thread Cert.FfnDwOut.nD Cert.FfnDwOut.τ).loc Cert.FfnDwOut.main_arg0) = m ((c.tc : Thread Cert.FfnDwOut.nD Cert.FfnDwOut.τ).loc Cert.FfnDwOut.main_arg0)
      ∧ r.2.mem ((c.tc : Thread Cert.FfnDwOut.nD Cert.FfnDwOut.τ).loc Cert.FfnDwOut.main_arg1) = m ((c.tc : Thread Cert.FfnDwOut.nD Cert.FfnDwOut.τ).loc Cert.FfnDwOut.main_arg1)
      ∧ r.2.mem ((c.tc : Thread Cert.FfnDwOut.nD Cert.FfnDwOut.τ).loc Cert.FfnDwOut.main_arg2) = m ((c.tc : Thread Cert.FfnDwOut.nD Cert.FfnDwOut.τ).loc Cert.FfnDwOut.main_arg2)
      ∧ r.2.mem ((c.tc : Thread Cert.FfnDwOut.nD Cert.FfnDwOut.τ).loc Cert.FfnDwOut.main_arg3) = m ((c.tc : Thread Cert.FfnDwOut.nD Cert.FfnDwOut.τ).loc Cert.FfnDwOut.main_arg3))
      ∧ r.2.sem = fun _ => 0)

def quiescent_FfnDwOutIdeal [hFfnDwOutIdeal : Cert.FfnDwOutIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg), Pre_FfnDwOutIdeal m →
    θ_run (Cert.FfnDwOutIdeal.defs (F := Ideal)) (onTc (τ := Cert.FfnDwOutIdeal.τ) (Cert.FfnDwOutIdeal.main (F := Ideal))) ⟨m, fun _ => 0, g⟩ (fun r => (∀ c : Dev Cert.FfnDwOutIdeal.nD,
      r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
      ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1)
      ∧ r.2.mem ((c.tc : Thread Cert.FfnDwOutIdeal.nD Cert.FfnDwOutIdeal.τ).loc Cert.FfnDwOutIdeal.main_arg2) = m ((c.tc : Thread Cert.FfnDwOutIdeal.nD Cert.FfnDwOutIdeal.τ).loc Cert.FfnDwOutIdeal.main_arg2)
      ∧ r.2.mem ((c.tc : Thread Cert.FfnDwOutIdeal.nD Cert.FfnDwOutIdeal.τ).loc Cert.FfnDwOutIdeal.main_arg3) = m ((c.tc : Thread Cert.FfnDwOutIdeal.nD Cert.FfnDwOutIdeal.τ).loc Cert.FfnDwOutIdeal.main_arg3))
      ∧ r.2.sem = fun _ => 0)

def quiescent_FfnDwOutRefIdeal [hFfnDwOutRefIdeal : Cert.FfnDwOutRefIdeal.Facts] : Prop :=
  ∀ (m : (ℓ : Loc Cert.FfnDwOutRefIdeal.nD Cert.FfnDwOutRefIdeal.τ Cert.FfnDwOutRefIdeal.sig) → Buf (Elt Ideal) ℓ) (g : Dev Cert.FfnDwOutRefIdeal.nD → PrngReg), Pre_FfnDwOutRefIdeal m →
    θ_run (Cert.FfnDwOutRefIdeal.defs (F := Ideal)) (onTc (τ := Cert.FfnDwOutRefIdeal.τ) (Cert.FfnDwOutRefIdeal.main (F := Ideal))) ⟨m, fun _ => 0, g⟩ (fun r => (∀ c : Dev Cert.FfnDwOutRefIdeal.nD,
      r.2.mem ((c.tc : Thread Cert.FfnDwOutRefIdeal.nD Cert.FfnDwOutRefIdeal.τ).loc Cert.FfnDwOutRefIdeal.main_arg0) = m ((c.tc : Thread Cert.FfnDwOutRefIdeal.nD Cert.FfnDwOutRefIdeal.τ).loc Cert.FfnDwOutRefIdeal.main_arg0)
      ∧ r.2.mem ((c.tc : Thread Cert.FfnDwOutRefIdeal.nD Cert.FfnDwOutRefIdeal.τ).loc Cert.FfnDwOutRefIdeal.main_arg1) = m ((c.tc : Thread Cert.FfnDwOutRefIdeal.nD Cert.FfnDwOutRefIdeal.τ).loc Cert.FfnDwOutRefIdeal.main_arg1)
      ∧ r.2.mem ((c.tc : Thread Cert.FfnDwOutRefIdeal.nD Cert.FfnDwOutRefIdeal.τ).loc Cert.FfnDwOutRefIdeal.main_arg2) = m ((c.tc : Thread Cert.FfnDwOutRefIdeal.nD Cert.FfnDwOutRefIdeal.τ).loc Cert.FfnDwOutRefIdeal.main_arg2)
      ∧ r.2.mem ((c.tc : Thread Cert.FfnDwOutRefIdeal.nD Cert.FfnDwOutRefIdeal.τ).loc Cert.FfnDwOutRefIdeal.main_arg3) = m ((c.tc : Thread Cert.FfnDwOutRefIdeal.nD Cert.FfnDwOutRefIdeal.τ).loc Cert.FfnDwOutRefIdeal.main_arg3))
      ∧ r.2.sem = fun _ => 0)

def quiescent_FfnDwIn [hFfnDwIn : Cert.FfnDwIn.Facts] : Prop :=
  ∀ (m : (ℓ : Loc Cert.FfnDwIn.nD Cert.FfnDwIn.τ Cert.FfnDwIn.sig) → Buf (Elt Bits) ℓ) (g : Dev Cert.FfnDwIn.nD → PrngReg), Pre_FfnDwIn m →
    θ_run (Cert.FfnDwIn.defs (F := Bits)) (onTc (τ := Cert.FfnDwIn.τ) (Cert.FfnDwIn.main (F := Bits))) ⟨m, fun _ => 0, g⟩ (fun r => (∀ c : Dev Cert.FfnDwIn.nD,
      r.2.mem ((c.tc : Thread Cert.FfnDwIn.nD Cert.FfnDwIn.τ).loc Cert.FfnDwIn.main_arg0) = m ((c.tc : Thread Cert.FfnDwIn.nD Cert.FfnDwIn.τ).loc Cert.FfnDwIn.main_arg0)
      ∧ r.2.mem ((c.tc : Thread Cert.FfnDwIn.nD Cert.FfnDwIn.τ).loc Cert.FfnDwIn.main_arg1) = m ((c.tc : Thread Cert.FfnDwIn.nD Cert.FfnDwIn.τ).loc Cert.FfnDwIn.main_arg1)
      ∧ r.2.mem ((c.tc : Thread Cert.FfnDwIn.nD Cert.FfnDwIn.τ).loc Cert.FfnDwIn.main_arg2) = m ((c.tc : Thread Cert.FfnDwIn.nD Cert.FfnDwIn.τ).loc Cert.FfnDwIn.main_arg2)
      ∧ r.2.mem ((c.tc : Thread Cert.FfnDwIn.nD Cert.FfnDwIn.τ).loc Cert.FfnDwIn.main_arg3) = m ((c.tc : Thread Cert.FfnDwIn.nD Cert.FfnDwIn.τ).loc Cert.FfnDwIn.main_arg3))
      ∧ r.2.sem = fun _ => 0)

def quiescent_FfnDwInIdeal [hFfnDwInIdeal : Cert.FfnDwInIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg), Pre_FfnDwInIdeal m →
    θ_run (Cert.FfnDwInIdeal.defs (F := Ideal)) (onTc (τ := Cert.FfnDwInIdeal.τ) (Cert.FfnDwInIdeal.main (F := Ideal))) ⟨m, fun _ => 0, g⟩ (fun r => (∀ c : Dev Cert.FfnDwInIdeal.nD,
      r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
      ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1)
      ∧ r.2.mem ((c.tc : Thread Cert.FfnDwInIdeal.nD Cert.FfnDwInIdeal.τ).loc Cert.FfnDwInIdeal.main_arg2) = m ((c.tc : Thread Cert.FfnDwInIdeal.nD Cert.FfnDwInIdeal.τ).loc Cert.FfnDwInIdeal.main_arg2)
      ∧ r.2.mem ((c.tc : Thread Cert.FfnDwInIdeal.nD Cert.FfnDwInIdeal.τ).loc Cert.FfnDwInIdeal.main_arg3) = m ((c.tc : Thread Cert.FfnDwInIdeal.nD Cert.FfnDwInIdeal.τ).loc Cert.FfnDwInIdeal.main_arg3))
      ∧ r.2.sem = fun _ => 0)

def quiescent_FfnDwInRefIdeal [hFfnDwInRefIdeal : Cert.FfnDwInRefIdeal.Facts] : Prop :=
  ∀ (m : (ℓ : Loc Cert.FfnDwInRefIdeal.nD Cert.FfnDwInRefIdeal.τ Cert.FfnDwInRefIdeal.sig) → Buf (Elt Ideal) ℓ) (g : Dev Cert.FfnDwInRefIdeal.nD → PrngReg), Pre_FfnDwInRefIdeal m →
    θ_run (Cert.FfnDwInRefIdeal.defs (F := Ideal)) (onTc (τ := Cert.FfnDwInRefIdeal.τ) (Cert.FfnDwInRefIdeal.main (F := Ideal))) ⟨m, fun _ => 0, g⟩ (fun r => (∀ c : Dev Cert.FfnDwInRefIdeal.nD,
      r.2.mem ((c.tc : Thread Cert.FfnDwInRefIdeal.nD Cert.FfnDwInRefIdeal.τ).loc Cert.FfnDwInRefIdeal.main_arg0) = m ((c.tc : Thread Cert.FfnDwInRefIdeal.nD Cert.FfnDwInRefIdeal.τ).loc Cert.FfnDwInRefIdeal.main_arg0)
      ∧ r.2.mem ((c.tc : Thread Cert.FfnDwInRefIdeal.nD Cert.FfnDwInRefIdeal.τ).loc Cert.FfnDwInRefIdeal.main_arg1) = m ((c.tc : Thread Cert.FfnDwInRefIdeal.nD Cert.FfnDwInRefIdeal.τ).loc Cert.FfnDwInRefIdeal.main_arg1)
      ∧ r.2.mem ((c.tc : Thread Cert.FfnDwInRefIdeal.nD Cert.FfnDwInRefIdeal.τ).loc Cert.FfnDwInRefIdeal.main_arg2) = m ((c.tc : Thread Cert.FfnDwInRefIdeal.nD Cert.FfnDwInRefIdeal.τ).loc Cert.FfnDwInRefIdeal.main_arg2)
      ∧ r.2.mem ((c.tc : Thread Cert.FfnDwInRefIdeal.nD Cert.FfnDwInRefIdeal.τ).loc Cert.FfnDwInRefIdeal.main_arg3) = m ((c.tc : Thread Cert.FfnDwInRefIdeal.nD Cert.FfnDwInRefIdeal.τ).loc Cert.FfnDwInRefIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1)
      ∧ r.2.mem ((c.tc : Thread Cert.MixDw.nD Cert.MixDw.τ).loc Cert.MixDw.main_arg2) = m ((c.tc : Thread Cert.MixDw.nD Cert.MixDw.τ).loc Cert.MixDw.main_arg2))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
      ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1)
      ∧ r.2.mem ((c.tc : Thread Cert.MixDwRefIdeal.nD Cert.MixDwRefIdeal.τ).loc Cert.MixDwRefIdeal.main_arg2) = m ((c.tc : Thread Cert.MixDwRefIdeal.nD Cert.MixDwRefIdeal.τ).loc Cert.MixDwRefIdeal.main_arg2))
      ∧ r.2.sem = fun _ => 0)

def quiescent_AttnDwQkv [hAttnDwQkv : Cert.AttnDwQkv.Facts] : Prop :=
  ∀ (m : (ℓ : Loc Cert.AttnDwQkv.nD Cert.AttnDwQkv.τ Cert.AttnDwQkv.sig) → Buf (Elt Bits) ℓ) (g : Dev Cert.AttnDwQkv.nD → PrngReg), Pre_AttnDwQkv m →
    θ_run (Cert.AttnDwQkv.defs (F := Bits)) (onTc (τ := Cert.AttnDwQkv.τ) (Cert.AttnDwQkv.main (F := Bits))) ⟨m, fun _ => 0, g⟩ (fun r => (∀ c : Dev Cert.AttnDwQkv.nD,
      r.2.mem ((c.tc : Thread Cert.AttnDwQkv.nD Cert.AttnDwQkv.τ).loc Cert.AttnDwQkv.main_arg0) = m ((c.tc : Thread Cert.AttnDwQkv.nD Cert.AttnDwQkv.τ).loc Cert.AttnDwQkv.main_arg0)
      ∧ r.2.mem ((c.tc : Thread Cert.AttnDwQkv.nD Cert.AttnDwQkv.τ).loc Cert.AttnDwQkv.main_arg1) = m ((c.tc : Thread Cert.AttnDwQkv.nD Cert.AttnDwQkv.τ).loc Cert.AttnDwQkv.main_arg1)
      ∧ r.2.mem ((c.tc : Thread Cert.AttnDwQkv.nD Cert.AttnDwQkv.τ).loc Cert.AttnDwQkv.main_arg2) = m ((c.tc : Thread Cert.AttnDwQkv.nD Cert.AttnDwQkv.τ).loc Cert.AttnDwQkv.main_arg2))
      ∧ r.2.sem = fun _ => 0)

def quiescent_AttnDwQkvIdeal [hAttnDwQkvIdeal : Cert.AttnDwQkvIdeal.Facts] : Prop :=
  ∀ (m : (ℓ : Loc Cert.AttnDwQkvIdeal.nD Cert.AttnDwQkvIdeal.τ Cert.AttnDwQkvIdeal.sig) → Buf (Elt Ideal) ℓ) (g : Dev Cert.AttnDwQkvIdeal.nD → PrngReg), Pre_AttnDwQkvIdeal m →
    θ_run (Cert.AttnDwQkvIdeal.defs (F := Ideal)) (onTc (τ := Cert.AttnDwQkvIdeal.τ) (Cert.AttnDwQkvIdeal.main (F := Ideal))) ⟨m, fun _ => 0, g⟩ (fun r => (∀ c : Dev Cert.AttnDwQkvIdeal.nD,
      r.2.mem ((c.tc : Thread Cert.AttnDwQkvIdeal.nD Cert.AttnDwQkvIdeal.τ).loc Cert.AttnDwQkvIdeal.main_arg0) = m ((c.tc : Thread Cert.AttnDwQkvIdeal.nD Cert.AttnDwQkvIdeal.τ).loc Cert.AttnDwQkvIdeal.main_arg0)
      ∧ r.2.mem ((c.tc : Thread Cert.AttnDwQkvIdeal.nD Cert.AttnDwQkvIdeal.τ).loc Cert.AttnDwQkvIdeal.main_arg1) = m ((c.tc : Thread Cert.AttnDwQkvIdeal.nD Cert.AttnDwQkvIdeal.τ).loc Cert.AttnDwQkvIdeal.main_arg1)
      ∧ r.2.mem ((c.tc : Thread Cert.AttnDwQkvIdeal.nD Cert.AttnDwQkvIdeal.τ).loc Cert.AttnDwQkvIdeal.main_arg2) = m ((c.tc : Thread Cert.AttnDwQkvIdeal.nD Cert.AttnDwQkvIdeal.τ).loc Cert.AttnDwQkvIdeal.main_arg2))
      ∧ r.2.sem = fun _ => 0)

def quiescent_AttnDwQkvRefIdeal [hAttnDwQkvRefIdeal : Cert.AttnDwQkvRefIdeal.Facts] : Prop :=
  ∀ (m : (ℓ : Loc Cert.AttnDwQkvRefIdeal.nD Cert.AttnDwQkvRefIdeal.τ Cert.AttnDwQkvRefIdeal.sig) → Buf (Elt Ideal) ℓ) (g : Dev Cert.AttnDwQkvRefIdeal.nD → PrngReg), Pre_AttnDwQkvRefIdeal m →
    θ_run (Cert.AttnDwQkvRefIdeal.defs (F := Ideal)) (onTc (τ := Cert.AttnDwQkvRefIdeal.τ) (Cert.AttnDwQkvRefIdeal.main (F := Ideal))) ⟨m, fun _ => 0, g⟩ (fun r => (∀ c : Dev Cert.AttnDwQkvRefIdeal.nD,
      r.2.mem ((c.tc : Thread Cert.AttnDwQkvRefIdeal.nD Cert.AttnDwQkvRefIdeal.τ).loc Cert.AttnDwQkvRefIdeal.main_arg0) = m ((c.tc : Thread Cert.AttnDwQkvRefIdeal.nD Cert.AttnDwQkvRefIdeal.τ).loc Cert.AttnDwQkvRefIdeal.main_arg0)
      ∧ r.2.mem ((c.tc : Thread Cert.AttnDwQkvRefIdeal.nD Cert.AttnDwQkvRefIdeal.τ).loc Cert.AttnDwQkvRefIdeal.main_arg1) = m ((c.tc : Thread Cert.AttnDwQkvRefIdeal.nD Cert.AttnDwQkvRefIdeal.τ).loc Cert.AttnDwQkvRefIdeal.main_arg1)
      ∧ r.2.mem ((c.tc : Thread Cert.AttnDwQkvRefIdeal.nD Cert.AttnDwQkvRefIdeal.τ).loc Cert.AttnDwQkvRefIdeal.main_arg2) = m ((c.tc : Thread Cert.AttnDwQkvRefIdeal.nD Cert.AttnDwQkvRefIdeal.τ).loc Cert.AttnDwQkvRefIdeal.main_arg2))
      ∧ r.2.sem = fun _ => 0)

def quiescent_LruDwIn [hLruDwIn : Cert.LruDwIn.Facts] : Prop :=
  ∀ (m : (ℓ : Loc Cert.LruDwIn.nD Cert.LruDwIn.τ Cert.LruDwIn.sig) → Buf (Elt Bits) ℓ) (g : Dev Cert.LruDwIn.nD → PrngReg), Pre_LruDwIn m →
    θ_run (Cert.LruDwIn.defs (F := Bits)) (onTc (τ := Cert.LruDwIn.τ) (Cert.LruDwIn.main (F := Bits))) ⟨m, fun _ => 0, g⟩ (fun r => (∀ c : Dev Cert.LruDwIn.nD,
      r.2.mem ((c.tc : Thread Cert.LruDwIn.nD Cert.LruDwIn.τ).loc Cert.LruDwIn.main_arg0) = m ((c.tc : Thread Cert.LruDwIn.nD Cert.LruDwIn.τ).loc Cert.LruDwIn.main_arg0)
      ∧ r.2.mem ((c.tc : Thread Cert.LruDwIn.nD Cert.LruDwIn.τ).loc Cert.LruDwIn.main_arg1) = m ((c.tc : Thread Cert.LruDwIn.nD Cert.LruDwIn.τ).loc Cert.LruDwIn.main_arg1)
      ∧ r.2.mem ((c.tc : Thread Cert.LruDwIn.nD Cert.LruDwIn.τ).loc Cert.LruDwIn.main_arg2) = m ((c.tc : Thread Cert.LruDwIn.nD Cert.LruDwIn.τ).loc Cert.LruDwIn.main_arg2))
      ∧ r.2.sem = fun _ => 0)

def quiescent_LruDwInIdeal [hLruDwInIdeal : Cert.LruDwInIdeal.Facts] : Prop :=
  ∀ (m : (ℓ : Loc Cert.LruDwInIdeal.nD Cert.LruDwInIdeal.τ Cert.LruDwInIdeal.sig) → Buf (Elt Ideal) ℓ) (g : Dev Cert.LruDwInIdeal.nD → PrngReg), Pre_LruDwInIdeal m →
    θ_run (Cert.LruDwInIdeal.defs (F := Ideal)) (onTc (τ := Cert.LruDwInIdeal.τ) (Cert.LruDwInIdeal.main (F := Ideal))) ⟨m, fun _ => 0, g⟩ (fun r => (∀ c : Dev Cert.LruDwInIdeal.nD,
      r.2.mem ((c.tc : Thread Cert.LruDwInIdeal.nD Cert.LruDwInIdeal.τ).loc Cert.LruDwInIdeal.main_arg0) = m ((c.tc : Thread Cert.LruDwInIdeal.nD Cert.LruDwInIdeal.τ).loc Cert.LruDwInIdeal.main_arg0)
      ∧ r.2.mem ((c.tc : Thread Cert.LruDwInIdeal.nD Cert.LruDwInIdeal.τ).loc Cert.LruDwInIdeal.main_arg1) = m ((c.tc : Thread Cert.LruDwInIdeal.nD Cert.LruDwInIdeal.τ).loc Cert.LruDwInIdeal.main_arg1)
      ∧ r.2.mem ((c.tc : Thread Cert.LruDwInIdeal.nD Cert.LruDwInIdeal.τ).loc Cert.LruDwInIdeal.main_arg2) = m ((c.tc : Thread Cert.LruDwInIdeal.nD Cert.LruDwInIdeal.τ).loc Cert.LruDwInIdeal.main_arg2))
      ∧ r.2.sem = fun _ => 0)

def quiescent_LruDwInRefIdeal [hLruDwInRefIdeal : Cert.LruDwInRefIdeal.Facts] : Prop :=
  ∀ (m : (ℓ : Loc Cert.LruDwInRefIdeal.nD Cert.LruDwInRefIdeal.τ Cert.LruDwInRefIdeal.sig) → Buf (Elt Ideal) ℓ) (g : Dev Cert.LruDwInRefIdeal.nD → PrngReg), Pre_LruDwInRefIdeal m →
    θ_run (Cert.LruDwInRefIdeal.defs (F := Ideal)) (onTc (τ := Cert.LruDwInRefIdeal.τ) (Cert.LruDwInRefIdeal.main (F := Ideal))) ⟨m, fun _ => 0, g⟩ (fun r => (∀ c : Dev Cert.LruDwInRefIdeal.nD,
      r.2.mem ((c.tc : Thread Cert.LruDwInRefIdeal.nD Cert.LruDwInRefIdeal.τ).loc Cert.LruDwInRefIdeal.main_arg0) = m ((c.tc : Thread Cert.LruDwInRefIdeal.nD Cert.LruDwInRefIdeal.τ).loc Cert.LruDwInRefIdeal.main_arg0)
      ∧ r.2.mem ((c.tc : Thread Cert.LruDwInRefIdeal.nD Cert.LruDwInRefIdeal.τ).loc Cert.LruDwInRefIdeal.main_arg1) = m ((c.tc : Thread Cert.LruDwInRefIdeal.nD Cert.LruDwInRefIdeal.τ).loc Cert.LruDwInRefIdeal.main_arg1)
      ∧ r.2.mem ((c.tc : Thread Cert.LruDwInRefIdeal.nD Cert.LruDwInRefIdeal.τ).loc Cert.LruDwInRefIdeal.main_arg2) = m ((c.tc : Thread Cert.LruDwInRefIdeal.nD Cert.LruDwInRefIdeal.τ).loc Cert.LruDwInRefIdeal.main_arg2))
      ∧ r.2.sem = fun _ => 0)

def quiescent_LruDwGates [hLruDwGates : Cert.LruDwGates.Facts] : Prop :=
  ∀ (m : (ℓ : Loc Cert.LruDwGates.nD Cert.LruDwGates.τ Cert.LruDwGates.sig) → Buf (Elt Bits) ℓ) (g : Dev Cert.LruDwGates.nD → PrngReg), Pre_LruDwGates m →
    θ_run (Cert.LruDwGates.defs (F := Bits)) (onTc (τ := Cert.LruDwGates.τ) (Cert.LruDwGates.main (F := Bits))) ⟨m, fun _ => 0, g⟩ (fun r => (∀ c : Dev Cert.LruDwGates.nD,
      r.2.mem ((c.tc : Thread Cert.LruDwGates.nD Cert.LruDwGates.τ).loc Cert.LruDwGates.main_arg0) = m ((c.tc : Thread Cert.LruDwGates.nD Cert.LruDwGates.τ).loc Cert.LruDwGates.main_arg0)
      ∧ r.2.mem ((c.tc : Thread Cert.LruDwGates.nD Cert.LruDwGates.τ).loc Cert.LruDwGates.main_arg1) = m ((c.tc : Thread Cert.LruDwGates.nD Cert.LruDwGates.τ).loc Cert.LruDwGates.main_arg1)
      ∧ r.2.mem ((c.tc : Thread Cert.LruDwGates.nD Cert.LruDwGates.τ).loc Cert.LruDwGates.main_arg2) = m ((c.tc : Thread Cert.LruDwGates.nD Cert.LruDwGates.τ).loc Cert.LruDwGates.main_arg2))
      ∧ r.2.sem = fun _ => 0)

def quiescent_LruDwGatesIdeal [hLruDwGatesIdeal : Cert.LruDwGatesIdeal.Facts] : Prop :=
  ∀ (m : (ℓ : Loc Cert.LruDwGatesIdeal.nD Cert.LruDwGatesIdeal.τ Cert.LruDwGatesIdeal.sig) → Buf (Elt Ideal) ℓ) (g : Dev Cert.LruDwGatesIdeal.nD → PrngReg), Pre_LruDwGatesIdeal m →
    θ_run (Cert.LruDwGatesIdeal.defs (F := Ideal)) (onTc (τ := Cert.LruDwGatesIdeal.τ) (Cert.LruDwGatesIdeal.main (F := Ideal))) ⟨m, fun _ => 0, g⟩ (fun r => (∀ c : Dev Cert.LruDwGatesIdeal.nD,
      r.2.mem ((c.tc : Thread Cert.LruDwGatesIdeal.nD Cert.LruDwGatesIdeal.τ).loc Cert.LruDwGatesIdeal.main_arg0) = m ((c.tc : Thread Cert.LruDwGatesIdeal.nD Cert.LruDwGatesIdeal.τ).loc Cert.LruDwGatesIdeal.main_arg0)
      ∧ r.2.mem ((c.tc : Thread Cert.LruDwGatesIdeal.nD Cert.LruDwGatesIdeal.τ).loc Cert.LruDwGatesIdeal.main_arg1) = m ((c.tc : Thread Cert.LruDwGatesIdeal.nD Cert.LruDwGatesIdeal.τ).loc Cert.LruDwGatesIdeal.main_arg1)
      ∧ r.2.mem ((c.tc : Thread Cert.LruDwGatesIdeal.nD Cert.LruDwGatesIdeal.τ).loc Cert.LruDwGatesIdeal.main_arg2) = m ((c.tc : Thread Cert.LruDwGatesIdeal.nD Cert.LruDwGatesIdeal.τ).loc Cert.LruDwGatesIdeal.main_arg2))
      ∧ r.2.sem = fun _ => 0)

def quiescent_LruDwGatesRefIdeal [hLruDwGatesRefIdeal : Cert.LruDwGatesRefIdeal.Facts] : Prop :=
  ∀ (m : (ℓ : Loc Cert.LruDwGatesRefIdeal.nD Cert.LruDwGatesRefIdeal.τ Cert.LruDwGatesRefIdeal.sig) → Buf (Elt Ideal) ℓ) (g : Dev Cert.LruDwGatesRefIdeal.nD → PrngReg), Pre_LruDwGatesRefIdeal m →
    θ_run (Cert.LruDwGatesRefIdeal.defs (F := Ideal)) (onTc (τ := Cert.LruDwGatesRefIdeal.τ) (Cert.LruDwGatesRefIdeal.main (F := Ideal))) ⟨m, fun _ => 0, g⟩ (fun r => (∀ c : Dev Cert.LruDwGatesRefIdeal.nD,
      r.2.mem ((c.tc : Thread Cert.LruDwGatesRefIdeal.nD Cert.LruDwGatesRefIdeal.τ).loc Cert.LruDwGatesRefIdeal.main_arg0) = m ((c.tc : Thread Cert.LruDwGatesRefIdeal.nD Cert.LruDwGatesRefIdeal.τ).loc Cert.LruDwGatesRefIdeal.main_arg0)
      ∧ r.2.mem ((c.tc : Thread Cert.LruDwGatesRefIdeal.nD Cert.LruDwGatesRefIdeal.τ).loc Cert.LruDwGatesRefIdeal.main_arg1) = m ((c.tc : Thread Cert.LruDwGatesRefIdeal.nD Cert.LruDwGatesRefIdeal.τ).loc Cert.LruDwGatesRefIdeal.main_arg1)
      ∧ r.2.mem ((c.tc : Thread Cert.LruDwGatesRefIdeal.nD Cert.LruDwGatesRefIdeal.τ).loc Cert.LruDwGatesRefIdeal.main_arg2) = m ((c.tc : Thread Cert.LruDwGatesRefIdeal.nD Cert.LruDwGatesRefIdeal.τ).loc Cert.LruDwGatesRefIdeal.main_arg2))
      ∧ r.2.sem = fun _ => 0)

def quiescent_AttnDo [hAttnDo : Cert.AttnDo.Facts] : Prop :=
  ∀ (m : (ℓ : Loc Cert.AttnDo.nD Cert.AttnDo.τ Cert.AttnDo.sig) → Buf (Elt Bits) ℓ) (g : Dev Cert.AttnDo.nD → PrngReg), Pre_AttnDo m →
    θ_run (Cert.AttnDo.defs (F := Bits)) (onTc (τ := Cert.AttnDo.τ) (Cert.AttnDo.main (F := Bits))) ⟨m, fun _ => 0, g⟩ (fun r => (∀ c : Dev Cert.AttnDo.nD,
      r.2.mem ((c.tc : Thread Cert.AttnDo.nD Cert.AttnDo.τ).loc Cert.AttnDo.main_arg0) = m ((c.tc : Thread Cert.AttnDo.nD Cert.AttnDo.τ).loc Cert.AttnDo.main_arg0)
      ∧ r.2.mem ((c.tc : Thread Cert.AttnDo.nD Cert.AttnDo.τ).loc Cert.AttnDo.main_arg1) = m ((c.tc : Thread Cert.AttnDo.nD Cert.AttnDo.τ).loc Cert.AttnDo.main_arg1)
      ∧ r.2.mem ((c.tc : Thread Cert.AttnDo.nD Cert.AttnDo.τ).loc Cert.AttnDo.main_arg2) = m ((c.tc : Thread Cert.AttnDo.nD Cert.AttnDo.τ).loc Cert.AttnDo.main_arg2))
      ∧ r.2.sem = fun _ => 0)

def quiescent_AttnDoIdeal [hAttnDoIdeal : Cert.AttnDoIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg), Pre_AttnDoIdeal m →
    θ_run (Cert.AttnDoIdeal.defs (F := Ideal)) (onTc (τ := Cert.AttnDoIdeal.τ) (Cert.AttnDoIdeal.main (F := Ideal))) ⟨m, fun _ => 0, g⟩ (fun r => (∀ c : Dev Cert.AttnDoIdeal.nD,
      r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
      ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1)
      ∧ r.2.mem ((c.tc : Thread Cert.AttnDoIdeal.nD Cert.AttnDoIdeal.τ).loc Cert.AttnDoIdeal.main_arg2) = m ((c.tc : Thread Cert.AttnDoIdeal.nD Cert.AttnDoIdeal.τ).loc Cert.AttnDoIdeal.main_arg2))
      ∧ r.2.sem = fun _ => 0)

def quiescent_AttnDoRefIdeal [hAttnDoRefIdeal : Cert.AttnDoRefIdeal.Facts] : Prop :=
  ∀ (m : (ℓ : Loc Cert.AttnDoRefIdeal.nD Cert.AttnDoRefIdeal.τ Cert.AttnDoRefIdeal.sig) → Buf (Elt Ideal) ℓ) (g : Dev Cert.AttnDoRefIdeal.nD → PrngReg), Pre_AttnDoRefIdeal m →
    θ_run (Cert.AttnDoRefIdeal.defs (F := Ideal)) (onTc (τ := Cert.AttnDoRefIdeal.τ) (Cert.AttnDoRefIdeal.main (F := Ideal))) ⟨m, fun _ => 0, g⟩ (fun r => (∀ c : Dev Cert.AttnDoRefIdeal.nD,
      r.2.mem ((c.tc : Thread Cert.AttnDoRefIdeal.nD Cert.AttnDoRefIdeal.τ).loc Cert.AttnDoRefIdeal.main_arg0) = m ((c.tc : Thread Cert.AttnDoRefIdeal.nD Cert.AttnDoRefIdeal.τ).loc Cert.AttnDoRefIdeal.main_arg0)
      ∧ r.2.mem ((c.tc : Thread Cert.AttnDoRefIdeal.nD Cert.AttnDoRefIdeal.τ).loc Cert.AttnDoRefIdeal.main_arg1) = m ((c.tc : Thread Cert.AttnDoRefIdeal.nD Cert.AttnDoRefIdeal.τ).loc Cert.AttnDoRefIdeal.main_arg1)
      ∧ r.2.mem ((c.tc : Thread Cert.AttnDoRefIdeal.nD Cert.AttnDoRefIdeal.τ).loc Cert.AttnDoRefIdeal.main_arg2) = m ((c.tc : Thread Cert.AttnDoRefIdeal.nD Cert.AttnDoRefIdeal.τ).loc Cert.AttnDoRefIdeal.main_arg2))
      ∧ r.2.sem = fun _ => 0)

def quiescent_LruDy [hLruDy : Cert.LruDy.Facts] : Prop :=
  ∀ (m : (ℓ : Loc Cert.LruDy.nD Cert.LruDy.τ Cert.LruDy.sig) → Buf (Elt Bits) ℓ) (g : Dev Cert.LruDy.nD → PrngReg), Pre_LruDy m →
    θ_run (Cert.LruDy.defs (F := Bits)) (onTc (τ := Cert.LruDy.τ) (Cert.LruDy.main (F := Bits))) ⟨m, fun _ => 0, g⟩ (fun r => (∀ c : Dev Cert.LruDy.nD,
      r.2.mem ((c.tc : Thread Cert.LruDy.nD Cert.LruDy.τ).loc Cert.LruDy.main_arg0) = m ((c.tc : Thread Cert.LruDy.nD Cert.LruDy.τ).loc Cert.LruDy.main_arg0)
      ∧ r.2.mem ((c.tc : Thread Cert.LruDy.nD Cert.LruDy.τ).loc Cert.LruDy.main_arg1) = m ((c.tc : Thread Cert.LruDy.nD Cert.LruDy.τ).loc Cert.LruDy.main_arg1)
      ∧ r.2.mem ((c.tc : Thread Cert.LruDy.nD Cert.LruDy.τ).loc Cert.LruDy.main_arg2) = m ((c.tc : Thread Cert.LruDy.nD Cert.LruDy.τ).loc Cert.LruDy.main_arg2))
      ∧ r.2.sem = fun _ => 0)

def quiescent_LruDyIdeal [hLruDyIdeal : Cert.LruDyIdeal.Facts] : Prop :=
  ∀ (m : (ℓ : Loc Cert.LruDyIdeal.nD Cert.LruDyIdeal.τ Cert.LruDyIdeal.sig) → Buf (Elt Ideal) ℓ) (g : Dev Cert.LruDyIdeal.nD → PrngReg), Pre_LruDyIdeal m →
    θ_run (Cert.LruDyIdeal.defs (F := Ideal)) (onTc (τ := Cert.LruDyIdeal.τ) (Cert.LruDyIdeal.main (F := Ideal))) ⟨m, fun _ => 0, g⟩ (fun r => (∀ c : Dev Cert.LruDyIdeal.nD,
      r.2.mem ((c.tc : Thread Cert.LruDyIdeal.nD Cert.LruDyIdeal.τ).loc Cert.LruDyIdeal.main_arg0) = m ((c.tc : Thread Cert.LruDyIdeal.nD Cert.LruDyIdeal.τ).loc Cert.LruDyIdeal.main_arg0)
      ∧ r.2.mem ((c.tc : Thread Cert.LruDyIdeal.nD Cert.LruDyIdeal.τ).loc Cert.LruDyIdeal.main_arg1) = m ((c.tc : Thread Cert.LruDyIdeal.nD Cert.LruDyIdeal.τ).loc Cert.LruDyIdeal.main_arg1)
      ∧ r.2.mem ((c.tc : Thread Cert.LruDyIdeal.nD Cert.LruDyIdeal.τ).loc Cert.LruDyIdeal.main_arg2) = m ((c.tc : Thread Cert.LruDyIdeal.nD Cert.LruDyIdeal.τ).loc Cert.LruDyIdeal.main_arg2))
      ∧ r.2.sem = fun _ => 0)

def quiescent_LruDyRefIdeal [hLruDyRefIdeal : Cert.LruDyRefIdeal.Facts] : Prop :=
  ∀ (m : (ℓ : Loc Cert.LruDyRefIdeal.nD Cert.LruDyRefIdeal.τ Cert.LruDyRefIdeal.sig) → Buf (Elt Ideal) ℓ) (g : Dev Cert.LruDyRefIdeal.nD → PrngReg), Pre_LruDyRefIdeal m →
    θ_run (Cert.LruDyRefIdeal.defs (F := Ideal)) (onTc (τ := Cert.LruDyRefIdeal.τ) (Cert.LruDyRefIdeal.main (F := Ideal))) ⟨m, fun _ => 0, g⟩ (fun r => (∀ c : Dev Cert.LruDyRefIdeal.nD,
      r.2.mem ((c.tc : Thread Cert.LruDyRefIdeal.nD Cert.LruDyRefIdeal.τ).loc Cert.LruDyRefIdeal.main_arg0) = m ((c.tc : Thread Cert.LruDyRefIdeal.nD Cert.LruDyRefIdeal.τ).loc Cert.LruDyRefIdeal.main_arg0)
      ∧ r.2.mem ((c.tc : Thread Cert.LruDyRefIdeal.nD Cert.LruDyRefIdeal.τ).loc Cert.LruDyRefIdeal.main_arg1) = m ((c.tc : Thread Cert.LruDyRefIdeal.nD Cert.LruDyRefIdeal.τ).loc Cert.LruDyRefIdeal.main_arg1)
      ∧ r.2.mem ((c.tc : Thread Cert.LruDyRefIdeal.nD Cert.LruDyRefIdeal.τ).loc Cert.LruDyRefIdeal.main_arg2) = m ((c.tc : Thread Cert.LruDyRefIdeal.nD Cert.LruDyRefIdeal.τ).loc Cert.LruDyRefIdeal.main_arg2))
      ∧ r.2.sem = fun _ => 0)

def quiescent_AttnDx [hAttnDx : Cert.AttnDx.Facts] : Prop :=
  ∀ (m : (ℓ : Loc Cert.AttnDx.nD Cert.AttnDx.τ Cert.AttnDx.sig) → Buf (Elt Bits) ℓ) (g : Dev Cert.AttnDx.nD → PrngReg), Pre_AttnDx m →
    θ_run (Cert.AttnDx.defs (F := Bits)) (onTc (τ := Cert.AttnDx.τ) (Cert.AttnDx.main (F := Bits))) ⟨m, fun _ => 0, g⟩ (fun r => (∀ c : Dev Cert.AttnDx.nD,
      r.2.mem ((c.tc : Thread Cert.AttnDx.nD Cert.AttnDx.τ).loc Cert.AttnDx.main_arg0) = m ((c.tc : Thread Cert.AttnDx.nD Cert.AttnDx.τ).loc Cert.AttnDx.main_arg0)
      ∧ r.2.mem ((c.tc : Thread Cert.AttnDx.nD Cert.AttnDx.τ).loc Cert.AttnDx.main_arg1) = m ((c.tc : Thread Cert.AttnDx.nD Cert.AttnDx.τ).loc Cert.AttnDx.main_arg1)
      ∧ r.2.mem ((c.tc : Thread Cert.AttnDx.nD Cert.AttnDx.τ).loc Cert.AttnDx.main_arg2) = m ((c.tc : Thread Cert.AttnDx.nD Cert.AttnDx.τ).loc Cert.AttnDx.main_arg2)
      ∧ r.2.mem ((c.tc : Thread Cert.AttnDx.nD Cert.AttnDx.τ).loc Cert.AttnDx.main_arg3) = m ((c.tc : Thread Cert.AttnDx.nD Cert.AttnDx.τ).loc Cert.AttnDx.main_arg3))
      ∧ r.2.sem = fun _ => 0)

def quiescent_AttnDxIdeal [hAttnDxIdeal : Cert.AttnDxIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg), Pre_AttnDxIdeal m →
    θ_run (Cert.AttnDxIdeal.defs (F := Ideal)) (onTc (τ := Cert.AttnDxIdeal.τ) (Cert.AttnDxIdeal.main (F := Ideal))) ⟨m, fun _ => 0, g⟩ (fun r => (∀ c : Dev Cert.AttnDxIdeal.nD,
      r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
      ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1)
      ∧ r.2.mem ((c.tc : Thread Cert.AttnDxIdeal.nD Cert.AttnDxIdeal.τ).loc Cert.AttnDxIdeal.main_arg2) = m ((c.tc : Thread Cert.AttnDxIdeal.nD Cert.AttnDxIdeal.τ).loc Cert.AttnDxIdeal.main_arg2)
      ∧ r.2.mem ((c.tc : Thread Cert.AttnDxIdeal.nD Cert.AttnDxIdeal.τ).loc Cert.AttnDxIdeal.main_arg3) = m ((c.tc : Thread Cert.AttnDxIdeal.nD Cert.AttnDxIdeal.τ).loc Cert.AttnDxIdeal.main_arg3))
      ∧ r.2.sem = fun _ => 0)

def quiescent_AttnDxRefIdeal [hAttnDxRefIdeal : Cert.AttnDxRefIdeal.Facts] : Prop :=
  ∀ (m : (ℓ : Loc Cert.AttnDxRefIdeal.nD Cert.AttnDxRefIdeal.τ Cert.AttnDxRefIdeal.sig) → Buf (Elt Ideal) ℓ) (g : Dev Cert.AttnDxRefIdeal.nD → PrngReg), Pre_AttnDxRefIdeal m →
    θ_run (Cert.AttnDxRefIdeal.defs (F := Ideal)) (onTc (τ := Cert.AttnDxRefIdeal.τ) (Cert.AttnDxRefIdeal.main (F := Ideal))) ⟨m, fun _ => 0, g⟩ (fun r => (∀ c : Dev Cert.AttnDxRefIdeal.nD,
      r.2.mem ((c.tc : Thread Cert.AttnDxRefIdeal.nD Cert.AttnDxRefIdeal.τ).loc Cert.AttnDxRefIdeal.main_arg0) = m ((c.tc : Thread Cert.AttnDxRefIdeal.nD Cert.AttnDxRefIdeal.τ).loc Cert.AttnDxRefIdeal.main_arg0)
      ∧ r.2.mem ((c.tc : Thread Cert.AttnDxRefIdeal.nD Cert.AttnDxRefIdeal.τ).loc Cert.AttnDxRefIdeal.main_arg1) = m ((c.tc : Thread Cert.AttnDxRefIdeal.nD Cert.AttnDxRefIdeal.τ).loc Cert.AttnDxRefIdeal.main_arg1)
      ∧ r.2.mem ((c.tc : Thread Cert.AttnDxRefIdeal.nD Cert.AttnDxRefIdeal.τ).loc Cert.AttnDxRefIdeal.main_arg2) = m ((c.tc : Thread Cert.AttnDxRefIdeal.nD Cert.AttnDxRefIdeal.τ).loc Cert.AttnDxRefIdeal.main_arg2)
      ∧ r.2.mem ((c.tc : Thread Cert.AttnDxRefIdeal.nD Cert.AttnDxRefIdeal.τ).loc Cert.AttnDxRefIdeal.main_arg3) = m ((c.tc : Thread Cert.AttnDxRefIdeal.nD Cert.AttnDxRefIdeal.τ).loc Cert.AttnDxRefIdeal.main_arg3))
      ∧ r.2.sem = fun _ => 0)

def quiescent_LruDx [hLruDx : Cert.LruDx.Facts] : Prop :=
  ∀ (m : (ℓ : Loc Cert.LruDx.nD Cert.LruDx.τ Cert.LruDx.sig) → Buf (Elt Bits) ℓ) (g : Dev Cert.LruDx.nD → PrngReg), Pre_LruDx m →
    θ_run (Cert.LruDx.defs (F := Bits)) (onTc (τ := Cert.LruDx.τ) (Cert.LruDx.main (F := Bits))) ⟨m, fun _ => 0, g⟩ (fun r => (∀ c : Dev Cert.LruDx.nD,
      r.2.mem ((c.tc : Thread Cert.LruDx.nD Cert.LruDx.τ).loc Cert.LruDx.main_arg0) = m ((c.tc : Thread Cert.LruDx.nD Cert.LruDx.τ).loc Cert.LruDx.main_arg0)
      ∧ r.2.mem ((c.tc : Thread Cert.LruDx.nD Cert.LruDx.τ).loc Cert.LruDx.main_arg1) = m ((c.tc : Thread Cert.LruDx.nD Cert.LruDx.τ).loc Cert.LruDx.main_arg1)
      ∧ r.2.mem ((c.tc : Thread Cert.LruDx.nD Cert.LruDx.τ).loc Cert.LruDx.main_arg2) = m ((c.tc : Thread Cert.LruDx.nD Cert.LruDx.τ).loc Cert.LruDx.main_arg2)
      ∧ r.2.mem ((c.tc : Thread Cert.LruDx.nD Cert.LruDx.τ).loc Cert.LruDx.main_arg3) = m ((c.tc : Thread Cert.LruDx.nD Cert.LruDx.τ).loc Cert.LruDx.main_arg3))
      ∧ r.2.sem = fun _ => 0)

def quiescent_LruDxIdeal [hLruDxIdeal : Cert.LruDxIdeal.Facts] : Prop :=
  ∀ (m : (ℓ : Loc Cert.LruDxIdeal.nD Cert.LruDxIdeal.τ Cert.LruDxIdeal.sig) → Buf (Elt Ideal) ℓ) (g : Dev Cert.LruDxIdeal.nD → PrngReg), Pre_LruDxIdeal m →
    θ_run (Cert.LruDxIdeal.defs (F := Ideal)) (onTc (τ := Cert.LruDxIdeal.τ) (Cert.LruDxIdeal.main (F := Ideal))) ⟨m, fun _ => 0, g⟩ (fun r => (∀ c : Dev Cert.LruDxIdeal.nD,
      r.2.mem ((c.tc : Thread Cert.LruDxIdeal.nD Cert.LruDxIdeal.τ).loc Cert.LruDxIdeal.main_arg0) = m ((c.tc : Thread Cert.LruDxIdeal.nD Cert.LruDxIdeal.τ).loc Cert.LruDxIdeal.main_arg0)
      ∧ r.2.mem ((c.tc : Thread Cert.LruDxIdeal.nD Cert.LruDxIdeal.τ).loc Cert.LruDxIdeal.main_arg1) = m ((c.tc : Thread Cert.LruDxIdeal.nD Cert.LruDxIdeal.τ).loc Cert.LruDxIdeal.main_arg1)
      ∧ r.2.mem ((c.tc : Thread Cert.LruDxIdeal.nD Cert.LruDxIdeal.τ).loc Cert.LruDxIdeal.main_arg2) = m ((c.tc : Thread Cert.LruDxIdeal.nD Cert.LruDxIdeal.τ).loc Cert.LruDxIdeal.main_arg2)
      ∧ r.2.mem ((c.tc : Thread Cert.LruDxIdeal.nD Cert.LruDxIdeal.τ).loc Cert.LruDxIdeal.main_arg3) = m ((c.tc : Thread Cert.LruDxIdeal.nD Cert.LruDxIdeal.τ).loc Cert.LruDxIdeal.main_arg3))
      ∧ r.2.sem = fun _ => 0)

def quiescent_LruDxRefIdeal [hLruDxRefIdeal : Cert.LruDxRefIdeal.Facts] : Prop :=
  ∀ (m : (ℓ : Loc Cert.LruDxRefIdeal.nD Cert.LruDxRefIdeal.τ Cert.LruDxRefIdeal.sig) → Buf (Elt Ideal) ℓ) (g : Dev Cert.LruDxRefIdeal.nD → PrngReg), Pre_LruDxRefIdeal m →
    θ_run (Cert.LruDxRefIdeal.defs (F := Ideal)) (onTc (τ := Cert.LruDxRefIdeal.τ) (Cert.LruDxRefIdeal.main (F := Ideal))) ⟨m, fun _ => 0, g⟩ (fun r => (∀ c : Dev Cert.LruDxRefIdeal.nD,
      r.2.mem ((c.tc : Thread Cert.LruDxRefIdeal.nD Cert.LruDxRefIdeal.τ).loc Cert.LruDxRefIdeal.main_arg0) = m ((c.tc : Thread Cert.LruDxRefIdeal.nD Cert.LruDxRefIdeal.τ).loc Cert.LruDxRefIdeal.main_arg0)
      ∧ r.2.mem ((c.tc : Thread Cert.LruDxRefIdeal.nD Cert.LruDxRefIdeal.τ).loc Cert.LruDxRefIdeal.main_arg1) = m ((c.tc : Thread Cert.LruDxRefIdeal.nD Cert.LruDxRefIdeal.τ).loc Cert.LruDxRefIdeal.main_arg1)
      ∧ r.2.mem ((c.tc : Thread Cert.LruDxRefIdeal.nD Cert.LruDxRefIdeal.τ).loc Cert.LruDxRefIdeal.main_arg2) = m ((c.tc : Thread Cert.LruDxRefIdeal.nD Cert.LruDxRefIdeal.τ).loc Cert.LruDxRefIdeal.main_arg2)
      ∧ r.2.mem ((c.tc : Thread Cert.LruDxRefIdeal.nD Cert.LruDxRefIdeal.τ).loc Cert.LruDxRefIdeal.main_arg3) = m ((c.tc : Thread Cert.LruDxRefIdeal.nD Cert.LruDxRefIdeal.τ).loc Cert.LruDxRefIdeal.main_arg3))
      ∧ r.2.sem = fun _ => 0)

def quiescent_LruDxc [hLruDxc : Cert.LruDxc.Facts] : Prop :=
  ∀ (m : (ℓ : Loc Cert.LruDxc.nD Cert.LruDxc.τ Cert.LruDxc.sig) → Buf (Elt Bits) ℓ) (g : Dev Cert.LruDxc.nD → PrngReg), Pre_LruDxc m →
    θ_run (Cert.LruDxc.defs (F := Bits)) (onTc (τ := Cert.LruDxc.τ) (Cert.LruDxc.main (F := Bits))) ⟨m, fun _ => 0, g⟩ (fun r => (∀ c : Dev Cert.LruDxc.nD,
      r.2.mem ((c.tc : Thread Cert.LruDxc.nD Cert.LruDxc.τ).loc Cert.LruDxc.main_arg0) = m ((c.tc : Thread Cert.LruDxc.nD Cert.LruDxc.τ).loc Cert.LruDxc.main_arg0)
      ∧ r.2.mem ((c.tc : Thread Cert.LruDxc.nD Cert.LruDxc.τ).loc Cert.LruDxc.main_arg1) = m ((c.tc : Thread Cert.LruDxc.nD Cert.LruDxc.τ).loc Cert.LruDxc.main_arg1)
      ∧ r.2.mem ((c.tc : Thread Cert.LruDxc.nD Cert.LruDxc.τ).loc Cert.LruDxc.main_arg2) = m ((c.tc : Thread Cert.LruDxc.nD Cert.LruDxc.τ).loc Cert.LruDxc.main_arg2)
      ∧ r.2.mem ((c.tc : Thread Cert.LruDxc.nD Cert.LruDxc.τ).loc Cert.LruDxc.main_arg3) = m ((c.tc : Thread Cert.LruDxc.nD Cert.LruDxc.τ).loc Cert.LruDxc.main_arg3))
      ∧ r.2.sem = fun _ => 0)

def quiescent_LruDxcIdeal [hLruDxcIdeal : Cert.LruDxcIdeal.Facts] : Prop :=
  ∀ (m : (ℓ : Loc Cert.LruDxcIdeal.nD Cert.LruDxcIdeal.τ Cert.LruDxcIdeal.sig) → Buf (Elt Ideal) ℓ) (g : Dev Cert.LruDxcIdeal.nD → PrngReg), Pre_LruDxcIdeal m →
    θ_run (Cert.LruDxcIdeal.defs (F := Ideal)) (onTc (τ := Cert.LruDxcIdeal.τ) (Cert.LruDxcIdeal.main (F := Ideal))) ⟨m, fun _ => 0, g⟩ (fun r => (∀ c : Dev Cert.LruDxcIdeal.nD,
      r.2.mem ((c.tc : Thread Cert.LruDxcIdeal.nD Cert.LruDxcIdeal.τ).loc Cert.LruDxcIdeal.main_arg0) = m ((c.tc : Thread Cert.LruDxcIdeal.nD Cert.LruDxcIdeal.τ).loc Cert.LruDxcIdeal.main_arg0)
      ∧ r.2.mem ((c.tc : Thread Cert.LruDxcIdeal.nD Cert.LruDxcIdeal.τ).loc Cert.LruDxcIdeal.main_arg1) = m ((c.tc : Thread Cert.LruDxcIdeal.nD Cert.LruDxcIdeal.τ).loc Cert.LruDxcIdeal.main_arg1)
      ∧ r.2.mem ((c.tc : Thread Cert.LruDxcIdeal.nD Cert.LruDxcIdeal.τ).loc Cert.LruDxcIdeal.main_arg2) = m ((c.tc : Thread Cert.LruDxcIdeal.nD Cert.LruDxcIdeal.τ).loc Cert.LruDxcIdeal.main_arg2)
      ∧ r.2.mem ((c.tc : Thread Cert.LruDxcIdeal.nD Cert.LruDxcIdeal.τ).loc Cert.LruDxcIdeal.main_arg3) = m ((c.tc : Thread Cert.LruDxcIdeal.nD Cert.LruDxcIdeal.τ).loc Cert.LruDxcIdeal.main_arg3))
      ∧ r.2.sem = fun _ => 0)

def quiescent_LruDxcRefIdeal [hLruDxcRefIdeal : Cert.LruDxcRefIdeal.Facts] : Prop :=
  ∀ (m : (ℓ : Loc Cert.LruDxcRefIdeal.nD Cert.LruDxcRefIdeal.τ Cert.LruDxcRefIdeal.sig) → Buf (Elt Ideal) ℓ) (g : Dev Cert.LruDxcRefIdeal.nD → PrngReg), Pre_LruDxcRefIdeal m →
    θ_run (Cert.LruDxcRefIdeal.defs (F := Ideal)) (onTc (τ := Cert.LruDxcRefIdeal.τ) (Cert.LruDxcRefIdeal.main (F := Ideal))) ⟨m, fun _ => 0, g⟩ (fun r => (∀ c : Dev Cert.LruDxcRefIdeal.nD,
      r.2.mem ((c.tc : Thread Cert.LruDxcRefIdeal.nD Cert.LruDxcRefIdeal.τ).loc Cert.LruDxcRefIdeal.main_arg0) = m ((c.tc : Thread Cert.LruDxcRefIdeal.nD Cert.LruDxcRefIdeal.τ).loc Cert.LruDxcRefIdeal.main_arg0)
      ∧ r.2.mem ((c.tc : Thread Cert.LruDxcRefIdeal.nD Cert.LruDxcRefIdeal.τ).loc Cert.LruDxcRefIdeal.main_arg1) = m ((c.tc : Thread Cert.LruDxcRefIdeal.nD Cert.LruDxcRefIdeal.τ).loc Cert.LruDxcRefIdeal.main_arg1)
      ∧ r.2.mem ((c.tc : Thread Cert.LruDxcRefIdeal.nD Cert.LruDxcRefIdeal.τ).loc Cert.LruDxcRefIdeal.main_arg2) = m ((c.tc : Thread Cert.LruDxcRefIdeal.nD Cert.LruDxcRefIdeal.τ).loc Cert.LruDxcRefIdeal.main_arg2)
      ∧ r.2.mem ((c.tc : Thread Cert.LruDxcRefIdeal.nD Cert.LruDxcRefIdeal.τ).loc Cert.LruDxcRefIdeal.main_arg3) = m ((c.tc : Thread Cert.LruDxcRefIdeal.nD Cert.LruDxcRefIdeal.τ).loc Cert.LruDxcRefIdeal.main_arg3))
      ∧ r.2.sem = fun _ => 0)

def quiescent_LruIn [hLruIn : Cert.LruIn.Facts] : Prop :=
  ∀ (m : (ℓ : Loc Cert.LruIn.nD Cert.LruIn.τ Cert.LruIn.sig) → Buf (Elt Bits) ℓ) (g : Dev Cert.LruIn.nD → PrngReg), Pre_LruIn m →
    θ_run (Cert.LruIn.defs (F := Bits)) (onTc (τ := Cert.LruIn.τ) (Cert.LruIn.main (F := Bits))) ⟨m, fun _ => 0, g⟩ (fun r => (∀ c : Dev Cert.LruIn.nD,
      r.2.mem ((c.tc : Thread Cert.LruIn.nD Cert.LruIn.τ).loc Cert.LruIn.main_arg0) = m ((c.tc : Thread Cert.LruIn.nD Cert.LruIn.τ).loc Cert.LruIn.main_arg0)
      ∧ r.2.mem ((c.tc : Thread Cert.LruIn.nD Cert.LruIn.τ).loc Cert.LruIn.main_arg1) = m ((c.tc : Thread Cert.LruIn.nD Cert.LruIn.τ).loc Cert.LruIn.main_arg1))
      ∧ r.2.sem = fun _ => 0)

def quiescent_LruInIdeal [hLruInIdeal : Cert.LruInIdeal.Facts] : Prop :=
  ∀ (m : (ℓ : Loc Cert.LruInIdeal.nD Cert.LruInIdeal.τ Cert.LruInIdeal.sig) → Buf (Elt Ideal) ℓ) (g : Dev Cert.LruInIdeal.nD → PrngReg), Pre_LruInIdeal m →
    θ_run (Cert.LruInIdeal.defs (F := Ideal)) (onTc (τ := Cert.LruInIdeal.τ) (Cert.LruInIdeal.main (F := Ideal))) ⟨m, fun _ => 0, g⟩ (fun r => (∀ c : Dev Cert.LruInIdeal.nD,
      r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
      ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ r.2.sem = fun _ => 0)

def quiescent_LruInRefIdeal [hLruInRefIdeal : Cert.LruInRefIdeal.Facts] : Prop :=
  ∀ (m : (ℓ : Loc Cert.LruInRefIdeal.nD Cert.LruInRefIdeal.τ Cert.LruInRefIdeal.sig) → Buf (Elt Ideal) ℓ) (g : Dev Cert.LruInRefIdeal.nD → PrngReg), Pre_LruInRefIdeal m →
    θ_run (Cert.LruInRefIdeal.defs (F := Ideal)) (onTc (τ := Cert.LruInRefIdeal.τ) (Cert.LruInRefIdeal.main (F := Ideal))) ⟨m, fun _ => 0, g⟩ (fun r => (∀ c : Dev Cert.LruInRefIdeal.nD,
      r.2.mem ((c.tc : Thread Cert.LruInRefIdeal.nD Cert.LruInRefIdeal.τ).loc Cert.LruInRefIdeal.main_arg0) = m ((c.tc : Thread Cert.LruInRefIdeal.nD Cert.LruInRefIdeal.τ).loc Cert.LruInRefIdeal.main_arg0)
      ∧ r.2.mem ((c.tc : Thread Cert.LruInRefIdeal.nD Cert.LruInRefIdeal.τ).loc Cert.LruInRefIdeal.main_arg1) = m ((c.tc : Thread Cert.LruInRefIdeal.nD Cert.LruInRefIdeal.τ).loc Cert.LruInRefIdeal.main_arg1))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamQkv [hAdamQkv : Cert.AdamQkv.Facts] : Prop :=
  ∀ (m : (ℓ : Loc Cert.AdamQkv.nD Cert.AdamQkv.τ Cert.AdamQkv.sig) → Buf (Elt Bits) ℓ) (g : Dev Cert.AdamQkv.nD → PrngReg), Pre_AdamQkv m →
    θ_run (Cert.AdamQkv.defs (F := Bits)) (onTc (τ := Cert.AdamQkv.τ) (Cert.AdamQkv.main (F := Bits))) ⟨m, fun _ => 0, g⟩ (fun r => (∀ c : Dev Cert.AdamQkv.nD,
      r.2.mem ((c.tc : Thread Cert.AdamQkv.nD Cert.AdamQkv.τ).loc Cert.AdamQkv.main_arg0) = m ((c.tc : Thread Cert.AdamQkv.nD Cert.AdamQkv.τ).loc Cert.AdamQkv.main_arg0)
      ∧ r.2.mem ((c.tc : Thread Cert.AdamQkv.nD Cert.AdamQkv.τ).loc Cert.AdamQkv.main_arg1) = m ((c.tc : Thread Cert.AdamQkv.nD Cert.AdamQkv.τ).loc Cert.AdamQkv.main_arg1)
      ∧ r.2.mem ((c.tc : Thread Cert.AdamQkv.nD Cert.AdamQkv.τ).loc Cert.AdamQkv.main_arg2) = m ((c.tc : Thread Cert.AdamQkv.nD Cert.AdamQkv.τ).loc Cert.AdamQkv.main_arg2)
      ∧ r.2.mem ((c.tc : Thread Cert.AdamQkv.nD Cert.AdamQkv.τ).loc Cert.AdamQkv.main_arg3) = m ((c.tc : Thread Cert.AdamQkv.nD Cert.AdamQkv.τ).loc Cert.AdamQkv.main_arg3))
      ∧ r.2.sem = fun _ => 0)

def quiescent_AdamQkvIdeal [hAdamQkvIdeal : Cert.AdamQkvIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg), Pre_AdamQkvIdeal m →
    θ_run (Cert.AdamQkvIdeal.defs (F := Ideal)) (onTc (τ := Cert.AdamQkvIdeal.τ) (Cert.AdamQkvIdeal.main (F := Ideal))) ⟨m, fun _ => 0, g⟩ (fun r => (∀ c : Dev Cert.AdamQkvIdeal.nD,
      r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
      ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
      ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
      ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ r.2.sem = fun _ => 0)

def quiescent_AdamQkvRefIdeal [hAdamQkvRefIdeal : Cert.AdamQkvRefIdeal.Facts] : Prop :=
  ∀ (m : (ℓ : Loc Cert.AdamQkvRefIdeal.nD Cert.AdamQkvRefIdeal.τ Cert.AdamQkvRefIdeal.sig) → Buf (Elt Ideal) ℓ) (g : Dev Cert.AdamQkvRefIdeal.nD → PrngReg), Pre_AdamQkvRefIdeal m →
    θ_run (Cert.AdamQkvRefIdeal.defs (F := Ideal)) (onTc (τ := Cert.AdamQkvRefIdeal.τ) (Cert.AdamQkvRefIdeal.main (F := Ideal))) ⟨m, fun _ => 0, g⟩ (fun r => (∀ c : Dev Cert.AdamQkvRefIdeal.nD,
      r.2.mem ((c.tc : Thread Cert.AdamQkvRefIdeal.nD Cert.AdamQkvRefIdeal.τ).loc Cert.AdamQkvRefIdeal.main_arg0) = m ((c.tc : Thread Cert.AdamQkvRefIdeal.nD Cert.AdamQkvRefIdeal.τ).loc Cert.AdamQkvRefIdeal.main_arg0)
      ∧ r.2.mem ((c.tc : Thread Cert.AdamQkvRefIdeal.nD Cert.AdamQkvRefIdeal.τ).loc Cert.AdamQkvRefIdeal.main_arg1) = m ((c.tc : Thread Cert.AdamQkvRefIdeal.nD Cert.AdamQkvRefIdeal.τ).loc Cert.AdamQkvRefIdeal.main_arg1)
      ∧ r.2.mem ((c.tc : Thread Cert.AdamQkvRefIdeal.nD Cert.AdamQkvRefIdeal.τ).loc Cert.AdamQkvRefIdeal.main_arg2) = m ((c.tc : Thread Cert.AdamQkvRefIdeal.nD Cert.AdamQkvRefIdeal.τ).loc Cert.AdamQkvRefIdeal.main_arg2)
      ∧ r.2.mem ((c.tc : Thread Cert.AdamQkvRefIdeal.nD Cert.AdamQkvRefIdeal.τ).loc Cert.AdamQkvRefIdeal.main_arg3) = m ((c.tc : Thread Cert.AdamQkvRefIdeal.nD Cert.AdamQkvRefIdeal.τ).loc Cert.AdamQkvRefIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def quiescent_AdamLin [hAdamLin : Cert.AdamLin.Facts] : Prop :=
  ∀ (m : (ℓ : Loc Cert.AdamLin.nD Cert.AdamLin.τ Cert.AdamLin.sig) → Buf (Elt Bits) ℓ) (g : Dev Cert.AdamLin.nD → PrngReg), Pre_AdamLin m →
    θ_run (Cert.AdamLin.defs (F := Bits)) (onTc (τ := Cert.AdamLin.τ) (Cert.AdamLin.main (F := Bits))) ⟨m, fun _ => 0, g⟩ (fun r => (∀ c : Dev Cert.AdamLin.nD,
      r.2.mem ((c.tc : Thread Cert.AdamLin.nD Cert.AdamLin.τ).loc Cert.AdamLin.main_arg0) = m ((c.tc : Thread Cert.AdamLin.nD Cert.AdamLin.τ).loc Cert.AdamLin.main_arg0)
      ∧ r.2.mem ((c.tc : Thread Cert.AdamLin.nD Cert.AdamLin.τ).loc Cert.AdamLin.main_arg1) = m ((c.tc : Thread Cert.AdamLin.nD Cert.AdamLin.τ).loc Cert.AdamLin.main_arg1)
      ∧ r.2.mem ((c.tc : Thread Cert.AdamLin.nD Cert.AdamLin.τ).loc Cert.AdamLin.main_arg2) = m ((c.tc : Thread Cert.AdamLin.nD Cert.AdamLin.τ).loc Cert.AdamLin.main_arg2)
      ∧ r.2.mem ((c.tc : Thread Cert.AdamLin.nD Cert.AdamLin.τ).loc Cert.AdamLin.main_arg3) = m ((c.tc : Thread Cert.AdamLin.nD Cert.AdamLin.τ).loc Cert.AdamLin.main_arg3))
      ∧ r.2.sem = fun _ => 0)

def quiescent_AdamLinIdeal [hAdamLinIdeal : Cert.AdamLinIdeal.Facts] : Prop :=
  ∀ (m : (ℓ : Loc Cert.AdamLinIdeal.nD Cert.AdamLinIdeal.τ Cert.AdamLinIdeal.sig) → Buf (Elt Ideal) ℓ) (g : Dev Cert.AdamLinIdeal.nD → PrngReg), Pre_AdamLinIdeal m →
    θ_run (Cert.AdamLinIdeal.defs (F := Ideal)) (onTc (τ := Cert.AdamLinIdeal.τ) (Cert.AdamLinIdeal.main (F := Ideal))) ⟨m, fun _ => 0, g⟩ (fun r => (∀ c : Dev Cert.AdamLinIdeal.nD,
      r.2.mem ((c.tc : Thread Cert.AdamLinIdeal.nD Cert.AdamLinIdeal.τ).loc Cert.AdamLinIdeal.main_arg0) = m ((c.tc : Thread Cert.AdamLinIdeal.nD Cert.AdamLinIdeal.τ).loc Cert.AdamLinIdeal.main_arg0)
      ∧ r.2.mem ((c.tc : Thread Cert.AdamLinIdeal.nD Cert.AdamLinIdeal.τ).loc Cert.AdamLinIdeal.main_arg1) = m ((c.tc : Thread Cert.AdamLinIdeal.nD Cert.AdamLinIdeal.τ).loc Cert.AdamLinIdeal.main_arg1)
      ∧ r.2.mem ((c.tc : Thread Cert.AdamLinIdeal.nD Cert.AdamLinIdeal.τ).loc Cert.AdamLinIdeal.main_arg2) = m ((c.tc : Thread Cert.AdamLinIdeal.nD Cert.AdamLinIdeal.τ).loc Cert.AdamLinIdeal.main_arg2)
      ∧ r.2.mem ((c.tc : Thread Cert.AdamLinIdeal.nD Cert.AdamLinIdeal.τ).loc Cert.AdamLinIdeal.main_arg3) = m ((c.tc : Thread Cert.AdamLinIdeal.nD Cert.AdamLinIdeal.τ).loc Cert.AdamLinIdeal.main_arg3))
      ∧ r.2.sem = fun _ => 0)

def quiescent_AdamLinRefIdeal [hAdamLinRefIdeal : Cert.AdamLinRefIdeal.Facts] : Prop :=
  ∀ (m : (ℓ : Loc Cert.AdamLinRefIdeal.nD Cert.AdamLinRefIdeal.τ Cert.AdamLinRefIdeal.sig) → Buf (Elt Ideal) ℓ) (g : Dev Cert.AdamLinRefIdeal.nD → PrngReg), Pre_AdamLinRefIdeal m →
    θ_run (Cert.AdamLinRefIdeal.defs (F := Ideal)) (onTc (τ := Cert.AdamLinRefIdeal.τ) (Cert.AdamLinRefIdeal.main (F := Ideal))) ⟨m, fun _ => 0, g⟩ (fun r => (∀ c : Dev Cert.AdamLinRefIdeal.nD,
      r.2.mem ((c.tc : Thread Cert.AdamLinRefIdeal.nD Cert.AdamLinRefIdeal.τ).loc Cert.AdamLinRefIdeal.main_arg0) = m ((c.tc : Thread Cert.AdamLinRefIdeal.nD Cert.AdamLinRefIdeal.τ).loc Cert.AdamLinRefIdeal.main_arg0)
      ∧ r.2.mem ((c.tc : Thread Cert.AdamLinRefIdeal.nD Cert.AdamLinRefIdeal.τ).loc Cert.AdamLinRefIdeal.main_arg1) = m ((c.tc : Thread Cert.AdamLinRefIdeal.nD Cert.AdamLinRefIdeal.τ).loc Cert.AdamLinRefIdeal.main_arg1)
      ∧ r.2.mem ((c.tc : Thread Cert.AdamLinRefIdeal.nD Cert.AdamLinRefIdeal.τ).loc Cert.AdamLinRefIdeal.main_arg2) = m ((c.tc : Thread Cert.AdamLinRefIdeal.nD Cert.AdamLinRefIdeal.τ).loc Cert.AdamLinRefIdeal.main_arg2)
      ∧ r.2.mem ((c.tc : Thread Cert.AdamLinRefIdeal.nD Cert.AdamLinRefIdeal.τ).loc Cert.AdamLinRefIdeal.main_arg3) = m ((c.tc : Thread Cert.AdamLinRefIdeal.nD Cert.AdamLinRefIdeal.τ).loc Cert.AdamLinRefIdeal.main_arg3))
      ∧ r.2.sem = fun _ => 0)

def quiescent_AdamGates [hAdamGates : Cert.AdamGates.Facts] : Prop :=
  ∀ (m : (ℓ : Loc Cert.AdamGates.nD Cert.AdamGates.τ Cert.AdamGates.sig) → Buf (Elt Bits) ℓ) (g : Dev Cert.AdamGates.nD → PrngReg), Pre_AdamGates m →
    θ_run (Cert.AdamGates.defs (F := Bits)) (onTc (τ := Cert.AdamGates.τ) (Cert.AdamGates.main (F := Bits))) ⟨m, fun _ => 0, g⟩ (fun r => (∀ c : Dev Cert.AdamGates.nD,
      r.2.mem ((c.tc : Thread Cert.AdamGates.nD Cert.AdamGates.τ).loc Cert.AdamGates.main_arg0) = m ((c.tc : Thread Cert.AdamGates.nD Cert.AdamGates.τ).loc Cert.AdamGates.main_arg0)
      ∧ r.2.mem ((c.tc : Thread Cert.AdamGates.nD Cert.AdamGates.τ).loc Cert.AdamGates.main_arg1) = m ((c.tc : Thread Cert.AdamGates.nD Cert.AdamGates.τ).loc Cert.AdamGates.main_arg1)
      ∧ r.2.mem ((c.tc : Thread Cert.AdamGates.nD Cert.AdamGates.τ).loc Cert.AdamGates.main_arg2) = m ((c.tc : Thread Cert.AdamGates.nD Cert.AdamGates.τ).loc Cert.AdamGates.main_arg2)
      ∧ r.2.mem ((c.tc : Thread Cert.AdamGates.nD Cert.AdamGates.τ).loc Cert.AdamGates.main_arg3) = m ((c.tc : Thread Cert.AdamGates.nD Cert.AdamGates.τ).loc Cert.AdamGates.main_arg3))
      ∧ r.2.sem = fun _ => 0)

def quiescent_AdamGatesIdeal [hAdamGatesIdeal : Cert.AdamGatesIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg), Pre_AdamGatesIdeal m →
    θ_run (Cert.AdamGatesIdeal.defs (F := Ideal)) (onTc (τ := Cert.AdamGatesIdeal.τ) (Cert.AdamGatesIdeal.main (F := Ideal))) ⟨m, fun _ => 0, g⟩ (fun r => (∀ c : Dev Cert.AdamGatesIdeal.nD,
      r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
      ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
      ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
      ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ r.2.sem = fun _ => 0)

def quiescent_AdamGatesRefIdeal [hAdamGatesRefIdeal : Cert.AdamGatesRefIdeal.Facts] : Prop :=
  ∀ (m : (ℓ : Loc Cert.AdamGatesRefIdeal.nD Cert.AdamGatesRefIdeal.τ Cert.AdamGatesRefIdeal.sig) → Buf (Elt Ideal) ℓ) (g : Dev Cert.AdamGatesRefIdeal.nD → PrngReg), Pre_AdamGatesRefIdeal m →
    θ_run (Cert.AdamGatesRefIdeal.defs (F := Ideal)) (onTc (τ := Cert.AdamGatesRefIdeal.τ) (Cert.AdamGatesRefIdeal.main (F := Ideal))) ⟨m, fun _ => 0, g⟩ (fun r => (∀ c : Dev Cert.AdamGatesRefIdeal.nD,
      r.2.mem ((c.tc : Thread Cert.AdamGatesRefIdeal.nD Cert.AdamGatesRefIdeal.τ).loc Cert.AdamGatesRefIdeal.main_arg0) = m ((c.tc : Thread Cert.AdamGatesRefIdeal.nD Cert.AdamGatesRefIdeal.τ).loc Cert.AdamGatesRefIdeal.main_arg0)
      ∧ r.2.mem ((c.tc : Thread Cert.AdamGatesRefIdeal.nD Cert.AdamGatesRefIdeal.τ).loc Cert.AdamGatesRefIdeal.main_arg1) = m ((c.tc : Thread Cert.AdamGatesRefIdeal.nD Cert.AdamGatesRefIdeal.τ).loc Cert.AdamGatesRefIdeal.main_arg1)
      ∧ r.2.mem ((c.tc : Thread Cert.AdamGatesRefIdeal.nD Cert.AdamGatesRefIdeal.τ).loc Cert.AdamGatesRefIdeal.main_arg2) = m ((c.tc : Thread Cert.AdamGatesRefIdeal.nD Cert.AdamGatesRefIdeal.τ).loc Cert.AdamGatesRefIdeal.main_arg2)
      ∧ r.2.mem ((c.tc : Thread Cert.AdamGatesRefIdeal.nD Cert.AdamGatesRefIdeal.τ).loc Cert.AdamGatesRefIdeal.main_arg3) = m ((c.tc : Thread Cert.AdamGatesRefIdeal.nD Cert.AdamGatesRefIdeal.τ).loc Cert.AdamGatesRefIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_LruOut [hLruOut : Cert.LruOut.Facts] : Prop :=
  ∀ (m : (ℓ : Loc Cert.LruOut.nD Cert.LruOut.τ Cert.LruOut.sig) → Buf (Elt Bits) ℓ) (g : Dev Cert.LruOut.nD → PrngReg), Pre_LruOut m →
    θ_run (Cert.LruOut.defs (F := Bits)) (onTc (τ := Cert.LruOut.τ) (Cert.LruOut.main (F := Bits))) ⟨m, fun _ => 0, g⟩ (fun r => (∀ c : Dev Cert.LruOut.nD,
      r.2.mem ((c.tc : Thread Cert.LruOut.nD Cert.LruOut.τ).loc Cert.LruOut.main_arg0) = m ((c.tc : Thread Cert.LruOut.nD Cert.LruOut.τ).loc Cert.LruOut.main_arg0)
      ∧ r.2.mem ((c.tc : Thread Cert.LruOut.nD Cert.LruOut.τ).loc Cert.LruOut.main_arg1) = m ((c.tc : Thread Cert.LruOut.nD Cert.LruOut.τ).loc Cert.LruOut.main_arg1))
      ∧ r.2.sem = fun _ => 0)

def quiescent_LruOutIdeal [hLruOutIdeal : Cert.LruOutIdeal.Facts] : Prop :=
  ∀ (m : (ℓ : Loc Cert.LruOutIdeal.nD Cert.LruOutIdeal.τ Cert.LruOutIdeal.sig) → Buf (Elt Ideal) ℓ) (g : Dev Cert.LruOutIdeal.nD → PrngReg), Pre_LruOutIdeal m →
    θ_run (Cert.LruOutIdeal.defs (F := Ideal)) (onTc (τ := Cert.LruOutIdeal.τ) (Cert.LruOutIdeal.main (F := Ideal))) ⟨m, fun _ => 0, g⟩ (fun r => (∀ c : Dev Cert.LruOutIdeal.nD,
      r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
      ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1))
      ∧ r.2.sem = fun _ => 0)

def quiescent_LruOutRefIdeal [hLruOutRefIdeal : Cert.LruOutRefIdeal.Facts] : Prop :=
  ∀ (m : (ℓ : Loc Cert.LruOutRefIdeal.nD Cert.LruOutRefIdeal.τ Cert.LruOutRefIdeal.sig) → Buf (Elt Ideal) ℓ) (g : Dev Cert.LruOutRefIdeal.nD → PrngReg), Pre_LruOutRefIdeal m →
    θ_run (Cert.LruOutRefIdeal.defs (F := Ideal)) (onTc (τ := Cert.LruOutRefIdeal.τ) (Cert.LruOutRefIdeal.main (F := Ideal))) ⟨m, fun _ => 0, g⟩ (fun r => (∀ c : Dev Cert.LruOutRefIdeal.nD,
      r.2.mem ((c.tc : Thread Cert.LruOutRefIdeal.nD Cert.LruOutRefIdeal.τ).loc Cert.LruOutRefIdeal.main_arg0) = m ((c.tc : Thread Cert.LruOutRefIdeal.nD Cert.LruOutRefIdeal.τ).loc Cert.LruOutRefIdeal.main_arg0)
      ∧ r.2.mem ((c.tc : Thread Cert.LruOutRefIdeal.nD Cert.LruOutRefIdeal.τ).loc Cert.LruOutRefIdeal.main_arg1) = m ((c.tc : Thread Cert.LruOutRefIdeal.nD Cert.LruOutRefIdeal.τ).loc Cert.LruOutRefIdeal.main_arg1))
      ∧ r.2.sem = fun _ => 0)

def quiescent_QkvRope [hQkvRope : Cert.QkvRope.Facts] : Prop :=
  ∀ (m : (ℓ : Loc Cert.QkvRope.nD Cert.QkvRope.τ Cert.QkvRope.sig) → Buf (Elt Bits) ℓ) (g : Dev Cert.QkvRope.nD → PrngReg), Pre_QkvRope m →
    θ_run (Cert.QkvRope.defs (F := Bits)) (onTc (τ := Cert.QkvRope.τ) (Cert.QkvRope.main (F := Bits))) ⟨m, fun _ => 0, g⟩ (fun r => (∀ c : Dev Cert.QkvRope.nD,
      r.2.mem ((c.tc : Thread Cert.QkvRope.nD Cert.QkvRope.τ).loc Cert.QkvRope.main_arg0) = m ((c.tc : Thread Cert.QkvRope.nD Cert.QkvRope.τ).loc Cert.QkvRope.main_arg0)
      ∧ r.2.mem ((c.tc : Thread Cert.QkvRope.nD Cert.QkvRope.τ).loc Cert.QkvRope.main_arg1) = m ((c.tc : Thread Cert.QkvRope.nD Cert.QkvRope.τ).loc Cert.QkvRope.main_arg1)
      ∧ r.2.mem ((c.tc : Thread Cert.QkvRope.nD Cert.QkvRope.τ).loc Cert.QkvRope.main_arg2) = m ((c.tc : Thread Cert.QkvRope.nD Cert.QkvRope.τ).loc Cert.QkvRope.main_arg2)
      ∧ r.2.mem ((c.tc : Thread Cert.QkvRope.nD Cert.QkvRope.τ).loc Cert.QkvRope.main_arg3) = m ((c.tc : Thread Cert.QkvRope.nD Cert.QkvRope.τ).loc Cert.QkvRope.main_arg3))
      ∧ r.2.sem = fun _ => 0)

def quiescent_QkvRopeIdeal [hQkvRopeIdeal : Cert.QkvRopeIdeal.Facts] : Prop :=
  ∀ (m : (ℓ : Loc Cert.QkvRopeIdeal.nD Cert.QkvRopeIdeal.τ Cert.QkvRopeIdeal.sig) → Buf (Elt Ideal) ℓ) (g : Dev Cert.QkvRopeIdeal.nD → PrngReg), Pre_QkvRopeIdeal m →
    θ_run (Cert.QkvRopeIdeal.defs (F := Ideal)) (onTc (τ := Cert.QkvRopeIdeal.τ) (Cert.QkvRopeIdeal.main (F := Ideal))) ⟨m, fun _ => 0, g⟩ (fun r => (∀ c : Dev Cert.QkvRopeIdeal.nD,
      r.2.mem ((c.tc : Thread Cert.QkvRopeIdeal.nD Cert.QkvRopeIdeal.τ).loc Cert.QkvRopeIdeal.main_arg0) = m ((c.tc : Thread Cert.QkvRopeIdeal.nD Cert.QkvRopeIdeal.τ).loc Cert.QkvRopeIdeal.main_arg0)
      ∧ r.2.mem ((c.tc : Thread Cert.QkvRopeIdeal.nD Cert.QkvRopeIdeal.τ).loc Cert.QkvRopeIdeal.main_arg1) = m ((c.tc : Thread Cert.QkvRopeIdeal.nD Cert.QkvRopeIdeal.τ).loc Cert.QkvRopeIdeal.main_arg1)
      ∧ r.2.mem ((c.tc : Thread Cert.QkvRopeIdeal.nD Cert.QkvRopeIdeal.τ).loc Cert.QkvRopeIdeal.main_arg2) = m ((c.tc : Thread Cert.QkvRopeIdeal.nD Cert.QkvRopeIdeal.τ).loc Cert.QkvRopeIdeal.main_arg2)
      ∧ r.2.mem ((c.tc : Thread Cert.QkvRopeIdeal.nD Cert.QkvRopeIdeal.τ).loc Cert.QkvRopeIdeal.main_arg3) = m ((c.tc : Thread Cert.QkvRopeIdeal.nD Cert.QkvRopeIdeal.τ).loc Cert.QkvRopeIdeal.main_arg3))
      ∧ r.2.sem = fun _ => 0)

def quiescent_QkvRopeRefIdeal [hQkvRopeRefIdeal : Cert.QkvRopeRefIdeal.Facts] : Prop :=
  ∀ (m : (ℓ : Loc Cert.QkvRopeRefIdeal.nD Cert.QkvRopeRefIdeal.τ Cert.QkvRopeRefIdeal.sig) → Buf (Elt Ideal) ℓ) (g : Dev Cert.QkvRopeRefIdeal.nD → PrngReg), Pre_QkvRopeRefIdeal m →
    θ_run (Cert.QkvRopeRefIdeal.defs (F := Ideal)) (onTc (τ := Cert.QkvRopeRefIdeal.τ) (Cert.QkvRopeRefIdeal.main (F := Ideal))) ⟨m, fun _ => 0, g⟩ (fun r => (∀ c : Dev Cert.QkvRopeRefIdeal.nD,
      r.2.mem ((c.tc : Thread Cert.QkvRopeRefIdeal.nD Cert.QkvRopeRefIdeal.τ).loc Cert.QkvRopeRefIdeal.main_arg0) = m ((c.tc : Thread Cert.QkvRopeRefIdeal.nD Cert.QkvRopeRefIdeal.τ).loc Cert.QkvRopeRefIdeal.main_arg0)
      ∧ r.2.mem ((c.tc : Thread Cert.QkvRopeRefIdeal.nD Cert.QkvRopeRefIdeal.τ).loc Cert.QkvRopeRefIdeal.main_arg1) = m ((c.tc : Thread Cert.QkvRopeRefIdeal.nD Cert.QkvRopeRefIdeal.τ).loc Cert.QkvRopeRefIdeal.main_arg1)
      ∧ r.2.mem ((c.tc : Thread Cert.QkvRopeRefIdeal.nD Cert.QkvRopeRefIdeal.τ).loc Cert.QkvRopeRefIdeal.main_arg2) = m ((c.tc : Thread Cert.QkvRopeRefIdeal.nD Cert.QkvRopeRefIdeal.τ).loc Cert.QkvRopeRefIdeal.main_arg2)
      ∧ r.2.mem ((c.tc : Thread Cert.QkvRopeRefIdeal.nD Cert.QkvRopeRefIdeal.τ).loc Cert.QkvRopeRefIdeal.main_arg3) = m ((c.tc : Thread Cert.QkvRopeRefIdeal.nD Cert.QkvRopeRefIdeal.τ).loc Cert.QkvRopeRefIdeal.main_arg3))
      ∧ r.2.sem = fun _ => 0)

def preserves_Scan_ScanIdeal : Prop :=
  True

def algebraic_ScanIdeal_ScanRefIdeal_pre_finite_scan [hScanIdeal : Cert.ScanIdeal.Facts] [hScanRefIdeal : Cert.ScanRefIdeal.Facts] [hPre_finite_scan : Cert.Pre_finite_scan.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal_finite_scan m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)) →
    ∃ (v0 : (c : Dev Cert.ScanIdeal.nD) → Buf (Elt Ideal) ((c.tc : Thread Cert.ScanIdeal.nD Cert.ScanIdeal.τ).loc Cert.ScanIdeal.main_v0)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0) = v0 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v3_4) = v0 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1))

def preserves_FfnDx_FfnDxIdeal : Prop :=
  True

def algebraic_FfnDxIdeal_FfnDxRefIdeal_pre_finite_ffn [hFfnDxIdeal : Cert.FfnDxIdeal.Facts] [hFfnDxRefIdeal : Cert.FfnDxRefIdeal.Facts] [hPre_finite_ffn : Cert.Pre_finite_ffn.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal_finite_ffn m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)
      ∧ m' ((c.tc : Thread Cert.FfnDxRefIdeal.nD Cert.FfnDxRefIdeal.τ).loc Cert.FfnDxRefIdeal.main_arg3) = m ((c.tc : Thread Cert.FfnDxIdeal.nD Cert.FfnDxIdeal.τ).loc Cert.FfnDxIdeal.main_arg3)) →
    ∃ (v0 : (c : Dev Cert.FfnDxIdeal.nD) → Buf (Elt Ideal) ((c.tc : Thread Cert.FfnDxIdeal.nD Cert.FfnDxIdeal.τ).loc Cert.FfnDxIdeal.main_v13)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v13) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v27) = v0 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2)
          ∧ r.2.mem ((c.tc : Thread Cert.FfnDxRefIdeal.nD Cert.FfnDxRefIdeal.τ).loc Cert.FfnDxRefIdeal.main_arg3) = m' ((c.tc : Thread Cert.FfnDxRefIdeal.nD Cert.FfnDxRefIdeal.τ).loc Cert.FfnDxRefIdeal.main_arg3))

def preserves_FfnDwOut_FfnDwOutIdeal : Prop :=
  True

def algebraic_FfnDwOutIdeal_FfnDwOutRefIdeal [hFfnDwOutIdeal : Cert.FfnDwOutIdeal.Facts] [hFfnDwOutRefIdeal : Cert.FfnDwOutRefIdeal.Facts] : Prop :=
  ∀ (m : (ℓ : Loc Cert.FfnDwOutIdeal.nD Cert.FfnDwOutIdeal.τ Cert.FfnDwOutIdeal.sig) → Buf (Elt Ideal) ℓ) (g : Dev Cert.FfnDwOutIdeal.nD → PrngReg)
    (m' : (ℓ : Loc Cert.FfnDwOutRefIdeal.nD Cert.FfnDwOutRefIdeal.τ Cert.FfnDwOutRefIdeal.sig) → Buf (Elt Ideal) ℓ) (g' : Dev Cert.FfnDwOutRefIdeal.nD → PrngReg), Pre_FfnDwOutIdeal m →
    (∀ c : Dev Cert.FfnDwOutIdeal.nD,
      m' ((c.tc : Thread Cert.FfnDwOutRefIdeal.nD Cert.FfnDwOutRefIdeal.τ).loc Cert.FfnDwOutRefIdeal.main_arg0) = m ((c.tc : Thread Cert.FfnDwOutIdeal.nD Cert.FfnDwOutIdeal.τ).loc Cert.FfnDwOutIdeal.main_arg0)
      ∧ m' ((c.tc : Thread Cert.FfnDwOutRefIdeal.nD Cert.FfnDwOutRefIdeal.τ).loc Cert.FfnDwOutRefIdeal.main_arg1) = m ((c.tc : Thread Cert.FfnDwOutIdeal.nD Cert.FfnDwOutIdeal.τ).loc Cert.FfnDwOutIdeal.main_arg1)
      ∧ m' ((c.tc : Thread Cert.FfnDwOutRefIdeal.nD Cert.FfnDwOutRefIdeal.τ).loc Cert.FfnDwOutRefIdeal.main_arg2) = m ((c.tc : Thread Cert.FfnDwOutIdeal.nD Cert.FfnDwOutIdeal.τ).loc Cert.FfnDwOutIdeal.main_arg2)
      ∧ m' ((c.tc : Thread Cert.FfnDwOutRefIdeal.nD Cert.FfnDwOutRefIdeal.τ).loc Cert.FfnDwOutRefIdeal.main_arg3) = m ((c.tc : Thread Cert.FfnDwOutIdeal.nD Cert.FfnDwOutIdeal.τ).loc Cert.FfnDwOutIdeal.main_arg3)) →
    ∃ (v0 : (c : Dev Cert.FfnDwOutIdeal.nD) → Buf (Elt Ideal) ((c.tc : Thread Cert.FfnDwOutIdeal.nD Cert.FfnDwOutIdeal.τ).loc Cert.FfnDwOutIdeal.main_v11)),
      θ_run (Cert.FfnDwOutIdeal.defs (F := Ideal)) (onTc (τ := Cert.FfnDwOutIdeal.τ) (Cert.FfnDwOutIdeal.main (F := Ideal))) ⟨m, fun _ => 0, g⟩ (fun r => ∀ c : Dev Cert.FfnDwOutIdeal.nD,
          r.2.mem ((c.tc : Thread Cert.FfnDwOutIdeal.nD Cert.FfnDwOutIdeal.τ).loc Cert.FfnDwOutIdeal.main_v11) = v0 c
          ∧ r.2.mem ((c.tc : Thread Cert.FfnDwOutIdeal.nD Cert.FfnDwOutIdeal.τ).loc Cert.FfnDwOutIdeal.main_arg0) = m ((c.tc : Thread Cert.FfnDwOutIdeal.nD Cert.FfnDwOutIdeal.τ).loc Cert.FfnDwOutIdeal.main_arg0)
          ∧ r.2.mem ((c.tc : Thread Cert.FfnDwOutIdeal.nD Cert.FfnDwOutIdeal.τ).loc Cert.FfnDwOutIdeal.main_arg1) = m ((c.tc : Thread Cert.FfnDwOutIdeal.nD Cert.FfnDwOutIdeal.τ).loc Cert.FfnDwOutIdeal.main_arg1)
          ∧ r.2.mem ((c.tc : Thread Cert.FfnDwOutIdeal.nD Cert.FfnDwOutIdeal.τ).loc Cert.FfnDwOutIdeal.main_arg2) = m ((c.tc : Thread Cert.FfnDwOutIdeal.nD Cert.FfnDwOutIdeal.τ).loc Cert.FfnDwOutIdeal.main_arg2)
          ∧ r.2.mem ((c.tc : Thread Cert.FfnDwOutIdeal.nD Cert.FfnDwOutIdeal.τ).loc Cert.FfnDwOutIdeal.main_arg3) = m ((c.tc : Thread Cert.FfnDwOutIdeal.nD Cert.FfnDwOutIdeal.τ).loc Cert.FfnDwOutIdeal.main_arg3))
      ∧ θ_run (Cert.FfnDwOutRefIdeal.defs (F := Ideal)) (onTc (τ := Cert.FfnDwOutRefIdeal.τ) (Cert.FfnDwOutRefIdeal.main (F := Ideal))) ⟨m', fun _ => 0, g'⟩ (fun r => ∀ c : Dev Cert.FfnDwOutRefIdeal.nD,
          r.2.mem ((c.tc : Thread Cert.FfnDwOutRefIdeal.nD Cert.FfnDwOutRefIdeal.τ).loc Cert.FfnDwOutRefIdeal.main_v20) = v0 c
          ∧ r.2.mem ((c.tc : Thread Cert.FfnDwOutRefIdeal.nD Cert.FfnDwOutRefIdeal.τ).loc Cert.FfnDwOutRefIdeal.main_arg0) = m' ((c.tc : Thread Cert.FfnDwOutRefIdeal.nD Cert.FfnDwOutRefIdeal.τ).loc Cert.FfnDwOutRefIdeal.main_arg0)
          ∧ r.2.mem ((c.tc : Thread Cert.FfnDwOutRefIdeal.nD Cert.FfnDwOutRefIdeal.τ).loc Cert.FfnDwOutRefIdeal.main_arg1) = m' ((c.tc : Thread Cert.FfnDwOutRefIdeal.nD Cert.FfnDwOutRefIdeal.τ).loc Cert.FfnDwOutRefIdeal.main_arg1)
          ∧ r.2.mem ((c.tc : Thread Cert.FfnDwOutRefIdeal.nD Cert.FfnDwOutRefIdeal.τ).loc Cert.FfnDwOutRefIdeal.main_arg2) = m' ((c.tc : Thread Cert.FfnDwOutRefIdeal.nD Cert.FfnDwOutRefIdeal.τ).loc Cert.FfnDwOutRefIdeal.main_arg2)
          ∧ r.2.mem ((c.tc : Thread Cert.FfnDwOutRefIdeal.nD Cert.FfnDwOutRefIdeal.τ).loc Cert.FfnDwOutRefIdeal.main_arg3) = m' ((c.tc : Thread Cert.FfnDwOutRefIdeal.nD Cert.FfnDwOutRefIdeal.τ).loc Cert.FfnDwOutRefIdeal.main_arg3))

def preserves_FfnDwIn_FfnDwInIdeal : Prop :=
  True

def algebraic_FfnDwInIdeal_FfnDwInRefIdeal [hFfnDwInIdeal : Cert.FfnDwInIdeal.Facts] [hFfnDwInRefIdeal : Cert.FfnDwInRefIdeal.Facts] : Prop :=
  ∀ (m : (ℓ : Loc Cert.FfnDwInIdeal.nD Cert.FfnDwInIdeal.τ Cert.FfnDwInIdeal.sig) → Buf (Elt Ideal) ℓ) (g : Dev Cert.FfnDwInIdeal.nD → PrngReg)
    (m' : (ℓ : Loc Cert.FfnDwInRefIdeal.nD Cert.FfnDwInRefIdeal.τ Cert.FfnDwInRefIdeal.sig) → Buf (Elt Ideal) ℓ) (g' : Dev Cert.FfnDwInRefIdeal.nD → PrngReg), Pre_FfnDwInIdeal m →
    (∀ c : Dev Cert.FfnDwInIdeal.nD,
      m' ((c.tc : Thread Cert.FfnDwInRefIdeal.nD Cert.FfnDwInRefIdeal.τ).loc Cert.FfnDwInRefIdeal.main_arg0) = m ((c.tc : Thread Cert.FfnDwInIdeal.nD Cert.FfnDwInIdeal.τ).loc Cert.FfnDwInIdeal.main_arg0)
      ∧ m' ((c.tc : Thread Cert.FfnDwInRefIdeal.nD Cert.FfnDwInRefIdeal.τ).loc Cert.FfnDwInRefIdeal.main_arg1) = m ((c.tc : Thread Cert.FfnDwInIdeal.nD Cert.FfnDwInIdeal.τ).loc Cert.FfnDwInIdeal.main_arg1)
      ∧ m' ((c.tc : Thread Cert.FfnDwInRefIdeal.nD Cert.FfnDwInRefIdeal.τ).loc Cert.FfnDwInRefIdeal.main_arg2) = m ((c.tc : Thread Cert.FfnDwInIdeal.nD Cert.FfnDwInIdeal.τ).loc Cert.FfnDwInIdeal.main_arg2)
      ∧ m' ((c.tc : Thread Cert.FfnDwInRefIdeal.nD Cert.FfnDwInRefIdeal.τ).loc Cert.FfnDwInRefIdeal.main_arg3) = m ((c.tc : Thread Cert.FfnDwInIdeal.nD Cert.FfnDwInIdeal.τ).loc Cert.FfnDwInIdeal.main_arg3)) →
    ∃ (v0 : (c : Dev Cert.FfnDwInIdeal.nD) → Buf (Elt Ideal) ((c.tc : Thread Cert.FfnDwInIdeal.nD Cert.FfnDwInIdeal.τ).loc Cert.FfnDwInIdeal.main_v31)),
      θ_run (Cert.FfnDwInIdeal.defs (F := Ideal)) (onTc (τ := Cert.FfnDwInIdeal.τ) (Cert.FfnDwInIdeal.main (F := Ideal))) ⟨m, fun _ => 0, g⟩ (fun r => ∀ c : Dev Cert.FfnDwInIdeal.nD,
          r.2.mem ((c.tc : Thread Cert.FfnDwInIdeal.nD Cert.FfnDwInIdeal.τ).loc Cert.FfnDwInIdeal.main_v31) = v0 c
          ∧ r.2.mem ((c.tc : Thread Cert.FfnDwInIdeal.nD Cert.FfnDwInIdeal.τ).loc Cert.FfnDwInIdeal.main_arg0) = m ((c.tc : Thread Cert.FfnDwInIdeal.nD Cert.FfnDwInIdeal.τ).loc Cert.FfnDwInIdeal.main_arg0)
          ∧ r.2.mem ((c.tc : Thread Cert.FfnDwInIdeal.nD Cert.FfnDwInIdeal.τ).loc Cert.FfnDwInIdeal.main_arg1) = m ((c.tc : Thread Cert.FfnDwInIdeal.nD Cert.FfnDwInIdeal.τ).loc Cert.FfnDwInIdeal.main_arg1)
          ∧ r.2.mem ((c.tc : Thread Cert.FfnDwInIdeal.nD Cert.FfnDwInIdeal.τ).loc Cert.FfnDwInIdeal.main_arg2) = m ((c.tc : Thread Cert.FfnDwInIdeal.nD Cert.FfnDwInIdeal.τ).loc Cert.FfnDwInIdeal.main_arg2)
          ∧ r.2.mem ((c.tc : Thread Cert.FfnDwInIdeal.nD Cert.FfnDwInIdeal.τ).loc Cert.FfnDwInIdeal.main_arg3) = m ((c.tc : Thread Cert.FfnDwInIdeal.nD Cert.FfnDwInIdeal.τ).loc Cert.FfnDwInIdeal.main_arg3))
      ∧ θ_run (Cert.FfnDwInRefIdeal.defs (F := Ideal)) (onTc (τ := Cert.FfnDwInRefIdeal.τ) (Cert.FfnDwInRefIdeal.main (F := Ideal))) ⟨m', fun _ => 0, g'⟩ (fun r => ∀ c : Dev Cert.FfnDwInRefIdeal.nD,
          r.2.mem ((c.tc : Thread Cert.FfnDwInRefIdeal.nD Cert.FfnDwInRefIdeal.τ).loc Cert.FfnDwInRefIdeal.main_v25) = v0 c
          ∧ r.2.mem ((c.tc : Thread Cert.FfnDwInRefIdeal.nD Cert.FfnDwInRefIdeal.τ).loc Cert.FfnDwInRefIdeal.main_arg0) = m' ((c.tc : Thread Cert.FfnDwInRefIdeal.nD Cert.FfnDwInRefIdeal.τ).loc Cert.FfnDwInRefIdeal.main_arg0)
          ∧ r.2.mem ((c.tc : Thread Cert.FfnDwInRefIdeal.nD Cert.FfnDwInRefIdeal.τ).loc Cert.FfnDwInRefIdeal.main_arg1) = m' ((c.tc : Thread Cert.FfnDwInRefIdeal.nD Cert.FfnDwInRefIdeal.τ).loc Cert.FfnDwInRefIdeal.main_arg1)
          ∧ r.2.mem ((c.tc : Thread Cert.FfnDwInRefIdeal.nD Cert.FfnDwInRefIdeal.τ).loc Cert.FfnDwInRefIdeal.main_arg2) = m' ((c.tc : Thread Cert.FfnDwInRefIdeal.nD Cert.FfnDwInRefIdeal.τ).loc Cert.FfnDwInRefIdeal.main_arg2)
          ∧ r.2.mem ((c.tc : Thread Cert.FfnDwInRefIdeal.nD Cert.FfnDwInRefIdeal.τ).loc Cert.FfnDwInRefIdeal.main_arg3) = m' ((c.tc : Thread Cert.FfnDwInRefIdeal.nD Cert.FfnDwInRefIdeal.τ).loc Cert.FfnDwInRefIdeal.main_arg3))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v18_0)) (v1 : (c : Dev Cert.NormIdeal.nD) → Buf (Elt Ideal) ((c.tc : Thread Cert.NormIdeal.nD Cert.NormIdeal.τ).loc Cert.NormIdeal.main_v18_1)) (v2 : (c : Dev Cert.NormIdeal.nD) → Buf (Elt Ideal) ((c.tc : Thread Cert.NormIdeal.nD Cert.NormIdeal.τ).loc Cert.NormIdeal.main_v18_2)) (v3 : (c : Dev Cert.NormIdeal.nD) → Buf (Elt Ideal) ((c.tc : Thread Cert.NormIdeal.nD Cert.NormIdeal.τ).loc Cert.NormIdeal.main_v18_3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v18_0) = v0 c
          ∧ r.2.mem ((c.tc : Thread Cert.NormIdeal.nD Cert.NormIdeal.τ).loc Cert.NormIdeal.main_v18_1) = v1 c
          ∧ r.2.mem ((c.tc : Thread Cert.NormIdeal.nD Cert.NormIdeal.τ).loc Cert.NormIdeal.main_v18_2) = v2 c
          ∧ r.2.mem ((c.tc : Thread Cert.NormIdeal.nD Cert.NormIdeal.τ).loc Cert.NormIdeal.main_v18_3) = v3 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v56) = v0 c
          ∧ r.2.mem ((c.tc : Thread Cert.NormRefIdeal.nD Cert.NormRefIdeal.τ).loc Cert.NormRefIdeal.main_v59) = v1 c
          ∧ r.2.mem ((c.tc : Thread Cert.NormRefIdeal.nD Cert.NormRefIdeal.τ).loc Cert.NormRefIdeal.main_v60) = v2 c
          ∧ r.2.mem ((c.tc : Thread Cert.NormRefIdeal.nD Cert.NormRefIdeal.τ).loc Cert.NormRefIdeal.main_v61) = v3 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v24) = v0 c
          ∧ r.2.mem ((c.tc : Thread Cert.GateRefIdeal.nD Cert.GateRefIdeal.τ).loc Cert.GateRefIdeal.main_v37) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v5_0)) (v1 : (c : Dev Cert.ConvIdeal.nD) → Buf (Elt Ideal) ((c.tc : Thread Cert.ConvIdeal.nD Cert.ConvIdeal.τ).loc Cert.ConvIdeal.main_v5_1)) (v2 : (c : Dev Cert.ConvIdeal.nD) → Buf (Elt Ideal) ((c.tc : Thread Cert.ConvIdeal.nD Cert.ConvIdeal.τ).loc Cert.ConvIdeal.main_v5_2)) (v3 : (c : Dev Cert.ConvIdeal.nD) → Buf (Elt Ideal) ((c.tc : Thread Cert.ConvIdeal.nD Cert.ConvIdeal.τ).loc Cert.ConvIdeal.main_v5_3)) (v4 : (c : Dev Cert.ConvIdeal.nD) → Buf (Elt Ideal) ((c.tc : Thread Cert.ConvIdeal.nD Cert.ConvIdeal.τ).loc Cert.ConvIdeal.main_v5_4)) (v5 : (c : Dev Cert.ConvIdeal.nD) → Buf (Elt Ideal) ((c.tc : Thread Cert.ConvIdeal.nD Cert.ConvIdeal.τ).loc Cert.ConvIdeal.main_v5_5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v5_0) = v0 c
          ∧ r.2.mem ((c.tc : Thread Cert.ConvIdeal.nD Cert.ConvIdeal.τ).loc Cert.ConvIdeal.main_v5_1) = v1 c
          ∧ r.2.mem ((c.tc : Thread Cert.ConvIdeal.nD Cert.ConvIdeal.τ).loc Cert.ConvIdeal.main_v5_2) = v2 c
          ∧ r.2.mem ((c.tc : Thread Cert.ConvIdeal.nD Cert.ConvIdeal.τ).loc Cert.ConvIdeal.main_v5_3) = v3 c
          ∧ r.2.mem ((c.tc : Thread Cert.ConvIdeal.nD Cert.ConvIdeal.τ).loc Cert.ConvIdeal.main_v5_4) = v4 c
          ∧ r.2.mem ((c.tc : Thread Cert.ConvIdeal.nD Cert.ConvIdeal.τ).loc Cert.ConvIdeal.main_v5_5) = v5 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v85) = v0 c
          ∧ r.2.mem ((c.tc : Thread Cert.ConvRefIdeal.nD Cert.ConvRefIdeal.τ).loc Cert.ConvRefIdeal.main_v86) = v1 c
          ∧ r.2.mem ((c.tc : Thread Cert.ConvRefIdeal.nD Cert.ConvRefIdeal.τ).loc Cert.ConvRefIdeal.main_v87) = v2 c
          ∧ r.2.mem ((c.tc : Thread Cert.ConvRefIdeal.nD Cert.ConvRefIdeal.τ).loc Cert.ConvRefIdeal.main_v88) = v3 c
          ∧ r.2.mem ((c.tc : Thread Cert.ConvRefIdeal.nD Cert.ConvRefIdeal.τ).loc Cert.ConvRefIdeal.main_v89) = v4 c
          ∧ r.2.mem ((c.tc : Thread Cert.ConvRefIdeal.nD Cert.ConvRefIdeal.τ).loc Cert.ConvRefIdeal.main_v90) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v13_0)) (v1 : (c : Dev Cert.FfnFwdIdeal.nD) → Buf (Elt Ideal) ((c.tc : Thread Cert.FfnFwdIdeal.nD Cert.FfnFwdIdeal.τ).loc Cert.FfnFwdIdeal.main_v13_1)) (v2 : (c : Dev Cert.FfnFwdIdeal.nD) → Buf (Elt Ideal) ((c.tc : Thread Cert.FfnFwdIdeal.nD Cert.FfnFwdIdeal.τ).loc Cert.FfnFwdIdeal.main_v13_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v13_0) = v0 c
          ∧ r.2.mem ((c.tc : Thread Cert.FfnFwdIdeal.nD Cert.FfnFwdIdeal.τ).loc Cert.FfnFwdIdeal.main_v13_1) = v1 c
          ∧ r.2.mem ((c.tc : Thread Cert.FfnFwdIdeal.nD Cert.FfnFwdIdeal.τ).loc Cert.FfnFwdIdeal.main_v13_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v30) = v0 c
          ∧ r.2.mem ((c.tc : Thread Cert.FfnFwdRefIdeal.nD Cert.FfnFwdRefIdeal.τ).loc Cert.FfnFwdRefIdeal.main_v53) = v1 c
          ∧ r.2.mem ((c.tc : Thread Cert.FfnFwdRefIdeal.nD Cert.FfnFwdRefIdeal.τ).loc Cert.FfnFwdRefIdeal.main_v54) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)
      ∧ m' ((c.tc : Thread Cert.MixDwRefIdeal.nD Cert.MixDwRefIdeal.τ).loc Cert.MixDwRefIdeal.main_arg2) = m ((c.tc : Thread Cert.MixDwIdeal.nD Cert.MixDwIdeal.τ).loc Cert.MixDwIdeal.main_arg2)) →
    ∃ (v0 : (c : Dev Cert.MixDwIdeal.nD) → Buf (Elt Ideal) ((c.tc : Thread Cert.MixDwIdeal.nD Cert.MixDwIdeal.τ).loc Cert.MixDwIdeal.main_v2)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v2) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1)
          ∧ r.2.mem ((c.tc : Thread Cert.MixDwIdeal.nD Cert.MixDwIdeal.τ).loc Cert.MixDwIdeal.main_arg2) = m ((c.tc : Thread Cert.MixDwIdeal.nD Cert.MixDwIdeal.τ).loc Cert.MixDwIdeal.main_arg2))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v4) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1)
          ∧ r.2.mem ((c.tc : Thread Cert.MixDwRefIdeal.nD Cert.MixDwRefIdeal.τ).loc Cert.MixDwRefIdeal.main_arg2) = m' ((c.tc : Thread Cert.MixDwRefIdeal.nD Cert.MixDwRefIdeal.τ).loc Cert.MixDwRefIdeal.main_arg2))

def preserves_AttnDwQkv_AttnDwQkvIdeal : Prop :=
  True

def algebraic_AttnDwQkvIdeal_AttnDwQkvRefIdeal [hAttnDwQkvIdeal : Cert.AttnDwQkvIdeal.Facts] [hAttnDwQkvRefIdeal : Cert.AttnDwQkvRefIdeal.Facts] : Prop :=
  ∀ (m : (ℓ : Loc Cert.AttnDwQkvIdeal.nD Cert.AttnDwQkvIdeal.τ Cert.AttnDwQkvIdeal.sig) → Buf (Elt Ideal) ℓ) (g : Dev Cert.AttnDwQkvIdeal.nD → PrngReg)
    (m' : (ℓ : Loc Cert.AttnDwQkvRefIdeal.nD Cert.AttnDwQkvRefIdeal.τ Cert.AttnDwQkvRefIdeal.sig) → Buf (Elt Ideal) ℓ) (g' : Dev Cert.AttnDwQkvRefIdeal.nD → PrngReg), Pre_AttnDwQkvIdeal m →
    (∀ c : Dev Cert.AttnDwQkvIdeal.nD,
      m' ((c.tc : Thread Cert.AttnDwQkvRefIdeal.nD Cert.AttnDwQkvRefIdeal.τ).loc Cert.AttnDwQkvRefIdeal.main_arg0) = m ((c.tc : Thread Cert.AttnDwQkvIdeal.nD Cert.AttnDwQkvIdeal.τ).loc Cert.AttnDwQkvIdeal.main_arg0)
      ∧ m' ((c.tc : Thread Cert.AttnDwQkvRefIdeal.nD Cert.AttnDwQkvRefIdeal.τ).loc Cert.AttnDwQkvRefIdeal.main_arg1) = m ((c.tc : Thread Cert.AttnDwQkvIdeal.nD Cert.AttnDwQkvIdeal.τ).loc Cert.AttnDwQkvIdeal.main_arg1)
      ∧ m' ((c.tc : Thread Cert.AttnDwQkvRefIdeal.nD Cert.AttnDwQkvRefIdeal.τ).loc Cert.AttnDwQkvRefIdeal.main_arg2) = m ((c.tc : Thread Cert.AttnDwQkvIdeal.nD Cert.AttnDwQkvIdeal.τ).loc Cert.AttnDwQkvIdeal.main_arg2)) →
    ∃ (v0 : (c : Dev Cert.AttnDwQkvIdeal.nD) → Buf (Elt Ideal) ((c.tc : Thread Cert.AttnDwQkvIdeal.nD Cert.AttnDwQkvIdeal.τ).loc Cert.AttnDwQkvIdeal.main_v2)),
      θ_run (Cert.AttnDwQkvIdeal.defs (F := Ideal)) (onTc (τ := Cert.AttnDwQkvIdeal.τ) (Cert.AttnDwQkvIdeal.main (F := Ideal))) ⟨m, fun _ => 0, g⟩ (fun r => ∀ c : Dev Cert.AttnDwQkvIdeal.nD,
          r.2.mem ((c.tc : Thread Cert.AttnDwQkvIdeal.nD Cert.AttnDwQkvIdeal.τ).loc Cert.AttnDwQkvIdeal.main_v2) = v0 c
          ∧ r.2.mem ((c.tc : Thread Cert.AttnDwQkvIdeal.nD Cert.AttnDwQkvIdeal.τ).loc Cert.AttnDwQkvIdeal.main_arg0) = m ((c.tc : Thread Cert.AttnDwQkvIdeal.nD Cert.AttnDwQkvIdeal.τ).loc Cert.AttnDwQkvIdeal.main_arg0)
          ∧ r.2.mem ((c.tc : Thread Cert.AttnDwQkvIdeal.nD Cert.AttnDwQkvIdeal.τ).loc Cert.AttnDwQkvIdeal.main_arg1) = m ((c.tc : Thread Cert.AttnDwQkvIdeal.nD Cert.AttnDwQkvIdeal.τ).loc Cert.AttnDwQkvIdeal.main_arg1)
          ∧ r.2.mem ((c.tc : Thread Cert.AttnDwQkvIdeal.nD Cert.AttnDwQkvIdeal.τ).loc Cert.AttnDwQkvIdeal.main_arg2) = m ((c.tc : Thread Cert.AttnDwQkvIdeal.nD Cert.AttnDwQkvIdeal.τ).loc Cert.AttnDwQkvIdeal.main_arg2))
      ∧ θ_run (Cert.AttnDwQkvRefIdeal.defs (F := Ideal)) (onTc (τ := Cert.AttnDwQkvRefIdeal.τ) (Cert.AttnDwQkvRefIdeal.main (F := Ideal))) ⟨m', fun _ => 0, g'⟩ (fun r => ∀ c : Dev Cert.AttnDwQkvRefIdeal.nD,
          r.2.mem ((c.tc : Thread Cert.AttnDwQkvRefIdeal.nD Cert.AttnDwQkvRefIdeal.τ).loc Cert.AttnDwQkvRefIdeal.main_v4) = v0 c
          ∧ r.2.mem ((c.tc : Thread Cert.AttnDwQkvRefIdeal.nD Cert.AttnDwQkvRefIdeal.τ).loc Cert.AttnDwQkvRefIdeal.main_arg0) = m' ((c.tc : Thread Cert.AttnDwQkvRefIdeal.nD Cert.AttnDwQkvRefIdeal.τ).loc Cert.AttnDwQkvRefIdeal.main_arg0)
          ∧ r.2.mem ((c.tc : Thread Cert.AttnDwQkvRefIdeal.nD Cert.AttnDwQkvRefIdeal.τ).loc Cert.AttnDwQkvRefIdeal.main_arg1) = m' ((c.tc : Thread Cert.AttnDwQkvRefIdeal.nD Cert.AttnDwQkvRefIdeal.τ).loc Cert.AttnDwQkvRefIdeal.main_arg1)
          ∧ r.2.mem ((c.tc : Thread Cert.AttnDwQkvRefIdeal.nD Cert.AttnDwQkvRefIdeal.τ).loc Cert.AttnDwQkvRefIdeal.main_arg2) = m' ((c.tc : Thread Cert.AttnDwQkvRefIdeal.nD Cert.AttnDwQkvRefIdeal.τ).loc Cert.AttnDwQkvRefIdeal.main_arg2))

def preserves_LruDwIn_LruDwInIdeal : Prop :=
  True

def algebraic_LruDwInIdeal_LruDwInRefIdeal [hLruDwInIdeal : Cert.LruDwInIdeal.Facts] [hLruDwInRefIdeal : Cert.LruDwInRefIdeal.Facts] : Prop :=
  ∀ (m : (ℓ : Loc Cert.LruDwInIdeal.nD Cert.LruDwInIdeal.τ Cert.LruDwInIdeal.sig) → Buf (Elt Ideal) ℓ) (g : Dev Cert.LruDwInIdeal.nD → PrngReg)
    (m' : (ℓ : Loc Cert.LruDwInRefIdeal.nD Cert.LruDwInRefIdeal.τ Cert.LruDwInRefIdeal.sig) → Buf (Elt Ideal) ℓ) (g' : Dev Cert.LruDwInRefIdeal.nD → PrngReg), Pre_LruDwInIdeal m →
    (∀ c : Dev Cert.LruDwInIdeal.nD,
      m' ((c.tc : Thread Cert.LruDwInRefIdeal.nD Cert.LruDwInRefIdeal.τ).loc Cert.LruDwInRefIdeal.main_arg0) = m ((c.tc : Thread Cert.LruDwInIdeal.nD Cert.LruDwInIdeal.τ).loc Cert.LruDwInIdeal.main_arg0)
      ∧ m' ((c.tc : Thread Cert.LruDwInRefIdeal.nD Cert.LruDwInRefIdeal.τ).loc Cert.LruDwInRefIdeal.main_arg1) = m ((c.tc : Thread Cert.LruDwInIdeal.nD Cert.LruDwInIdeal.τ).loc Cert.LruDwInIdeal.main_arg1)
      ∧ m' ((c.tc : Thread Cert.LruDwInRefIdeal.nD Cert.LruDwInRefIdeal.τ).loc Cert.LruDwInRefIdeal.main_arg2) = m ((c.tc : Thread Cert.LruDwInIdeal.nD Cert.LruDwInIdeal.τ).loc Cert.LruDwInIdeal.main_arg2)) →
    ∃ (v0 : (c : Dev Cert.LruDwInIdeal.nD) → Buf (Elt Ideal) ((c.tc : Thread Cert.LruDwInIdeal.nD Cert.LruDwInIdeal.τ).loc Cert.LruDwInIdeal.main_v2)),
      θ_run (Cert.LruDwInIdeal.defs (F := Ideal)) (onTc (τ := Cert.LruDwInIdeal.τ) (Cert.LruDwInIdeal.main (F := Ideal))) ⟨m, fun _ => 0, g⟩ (fun r => ∀ c : Dev Cert.LruDwInIdeal.nD,
          r.2.mem ((c.tc : Thread Cert.LruDwInIdeal.nD Cert.LruDwInIdeal.τ).loc Cert.LruDwInIdeal.main_v2) = v0 c
          ∧ r.2.mem ((c.tc : Thread Cert.LruDwInIdeal.nD Cert.LruDwInIdeal.τ).loc Cert.LruDwInIdeal.main_arg0) = m ((c.tc : Thread Cert.LruDwInIdeal.nD Cert.LruDwInIdeal.τ).loc Cert.LruDwInIdeal.main_arg0)
          ∧ r.2.mem ((c.tc : Thread Cert.LruDwInIdeal.nD Cert.LruDwInIdeal.τ).loc Cert.LruDwInIdeal.main_arg1) = m ((c.tc : Thread Cert.LruDwInIdeal.nD Cert.LruDwInIdeal.τ).loc Cert.LruDwInIdeal.main_arg1)
          ∧ r.2.mem ((c.tc : Thread Cert.LruDwInIdeal.nD Cert.LruDwInIdeal.τ).loc Cert.LruDwInIdeal.main_arg2) = m ((c.tc : Thread Cert.LruDwInIdeal.nD Cert.LruDwInIdeal.τ).loc Cert.LruDwInIdeal.main_arg2))
      ∧ θ_run (Cert.LruDwInRefIdeal.defs (F := Ideal)) (onTc (τ := Cert.LruDwInRefIdeal.τ) (Cert.LruDwInRefIdeal.main (F := Ideal))) ⟨m', fun _ => 0, g'⟩ (fun r => ∀ c : Dev Cert.LruDwInRefIdeal.nD,
          r.2.mem ((c.tc : Thread Cert.LruDwInRefIdeal.nD Cert.LruDwInRefIdeal.τ).loc Cert.LruDwInRefIdeal.main_v4) = v0 c
          ∧ r.2.mem ((c.tc : Thread Cert.LruDwInRefIdeal.nD Cert.LruDwInRefIdeal.τ).loc Cert.LruDwInRefIdeal.main_arg0) = m' ((c.tc : Thread Cert.LruDwInRefIdeal.nD Cert.LruDwInRefIdeal.τ).loc Cert.LruDwInRefIdeal.main_arg0)
          ∧ r.2.mem ((c.tc : Thread Cert.LruDwInRefIdeal.nD Cert.LruDwInRefIdeal.τ).loc Cert.LruDwInRefIdeal.main_arg1) = m' ((c.tc : Thread Cert.LruDwInRefIdeal.nD Cert.LruDwInRefIdeal.τ).loc Cert.LruDwInRefIdeal.main_arg1)
          ∧ r.2.mem ((c.tc : Thread Cert.LruDwInRefIdeal.nD Cert.LruDwInRefIdeal.τ).loc Cert.LruDwInRefIdeal.main_arg2) = m' ((c.tc : Thread Cert.LruDwInRefIdeal.nD Cert.LruDwInRefIdeal.τ).loc Cert.LruDwInRefIdeal.main_arg2))

def preserves_LruDwGates_LruDwGatesIdeal : Prop :=
  True

def algebraic_LruDwGatesIdeal_LruDwGatesRefIdeal [hLruDwGatesIdeal : Cert.LruDwGatesIdeal.Facts] [hLruDwGatesRefIdeal : Cert.LruDwGatesRefIdeal.Facts] : Prop :=
  ∀ (m : (ℓ : Loc Cert.LruDwGatesIdeal.nD Cert.LruDwGatesIdeal.τ Cert.LruDwGatesIdeal.sig) → Buf (Elt Ideal) ℓ) (g : Dev Cert.LruDwGatesIdeal.nD → PrngReg)
    (m' : (ℓ : Loc Cert.LruDwGatesRefIdeal.nD Cert.LruDwGatesRefIdeal.τ Cert.LruDwGatesRefIdeal.sig) → Buf (Elt Ideal) ℓ) (g' : Dev Cert.LruDwGatesRefIdeal.nD → PrngReg), Pre_LruDwGatesIdeal m →
    (∀ c : Dev Cert.LruDwGatesIdeal.nD,
      m' ((c.tc : Thread Cert.LruDwGatesRefIdeal.nD Cert.LruDwGatesRefIdeal.τ).loc Cert.LruDwGatesRefIdeal.main_arg0) = m ((c.tc : Thread Cert.LruDwGatesIdeal.nD Cert.LruDwGatesIdeal.τ).loc Cert.LruDwGatesIdeal.main_arg0)
      ∧ m' ((c.tc : Thread Cert.LruDwGatesRefIdeal.nD Cert.LruDwGatesRefIdeal.τ).loc Cert.LruDwGatesRefIdeal.main_arg1) = m ((c.tc : Thread Cert.LruDwGatesIdeal.nD Cert.LruDwGatesIdeal.τ).loc Cert.LruDwGatesIdeal.main_arg1)
      ∧ m' ((c.tc : Thread Cert.LruDwGatesRefIdeal.nD Cert.LruDwGatesRefIdeal.τ).loc Cert.LruDwGatesRefIdeal.main_arg2) = m ((c.tc : Thread Cert.LruDwGatesIdeal.nD Cert.LruDwGatesIdeal.τ).loc Cert.LruDwGatesIdeal.main_arg2)) →
    ∃ (v0 : (c : Dev Cert.LruDwGatesIdeal.nD) → Buf (Elt Ideal) ((c.tc : Thread Cert.LruDwGatesIdeal.nD Cert.LruDwGatesIdeal.τ).loc Cert.LruDwGatesIdeal.main_v2)),
      θ_run (Cert.LruDwGatesIdeal.defs (F := Ideal)) (onTc (τ := Cert.LruDwGatesIdeal.τ) (Cert.LruDwGatesIdeal.main (F := Ideal))) ⟨m, fun _ => 0, g⟩ (fun r => ∀ c : Dev Cert.LruDwGatesIdeal.nD,
          r.2.mem ((c.tc : Thread Cert.LruDwGatesIdeal.nD Cert.LruDwGatesIdeal.τ).loc Cert.LruDwGatesIdeal.main_v2) = v0 c
          ∧ r.2.mem ((c.tc : Thread Cert.LruDwGatesIdeal.nD Cert.LruDwGatesIdeal.τ).loc Cert.LruDwGatesIdeal.main_arg0) = m ((c.tc : Thread Cert.LruDwGatesIdeal.nD Cert.LruDwGatesIdeal.τ).loc Cert.LruDwGatesIdeal.main_arg0)
          ∧ r.2.mem ((c.tc : Thread Cert.LruDwGatesIdeal.nD Cert.LruDwGatesIdeal.τ).loc Cert.LruDwGatesIdeal.main_arg1) = m ((c.tc : Thread Cert.LruDwGatesIdeal.nD Cert.LruDwGatesIdeal.τ).loc Cert.LruDwGatesIdeal.main_arg1)
          ∧ r.2.mem ((c.tc : Thread Cert.LruDwGatesIdeal.nD Cert.LruDwGatesIdeal.τ).loc Cert.LruDwGatesIdeal.main_arg2) = m ((c.tc : Thread Cert.LruDwGatesIdeal.nD Cert.LruDwGatesIdeal.τ).loc Cert.LruDwGatesIdeal.main_arg2))
      ∧ θ_run (Cert.LruDwGatesRefIdeal.defs (F := Ideal)) (onTc (τ := Cert.LruDwGatesRefIdeal.τ) (Cert.LruDwGatesRefIdeal.main (F := Ideal))) ⟨m', fun _ => 0, g'⟩ (fun r => ∀ c : Dev Cert.LruDwGatesRefIdeal.nD,
          r.2.mem ((c.tc : Thread Cert.LruDwGatesRefIdeal.nD Cert.LruDwGatesRefIdeal.τ).loc Cert.LruDwGatesRefIdeal.main_v9) = v0 c
          ∧ r.2.mem ((c.tc : Thread Cert.LruDwGatesRefIdeal.nD Cert.LruDwGatesRefIdeal.τ).loc Cert.LruDwGatesRefIdeal.main_arg0) = m' ((c.tc : Thread Cert.LruDwGatesRefIdeal.nD Cert.LruDwGatesRefIdeal.τ).loc Cert.LruDwGatesRefIdeal.main_arg0)
          ∧ r.2.mem ((c.tc : Thread Cert.LruDwGatesRefIdeal.nD Cert.LruDwGatesRefIdeal.τ).loc Cert.LruDwGatesRefIdeal.main_arg1) = m' ((c.tc : Thread Cert.LruDwGatesRefIdeal.nD Cert.LruDwGatesRefIdeal.τ).loc Cert.LruDwGatesRefIdeal.main_arg1)
          ∧ r.2.mem ((c.tc : Thread Cert.LruDwGatesRefIdeal.nD Cert.LruDwGatesRefIdeal.τ).loc Cert.LruDwGatesRefIdeal.main_arg2) = m' ((c.tc : Thread Cert.LruDwGatesRefIdeal.nD Cert.LruDwGatesRefIdeal.τ).loc Cert.LruDwGatesRefIdeal.main_arg2))

def preserves_AttnDo_AttnDoIdeal : Prop :=
  True

def algebraic_AttnDoIdeal_AttnDoRefIdeal [hAttnDoIdeal : Cert.AttnDoIdeal.Facts] [hAttnDoRefIdeal : Cert.AttnDoRefIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg)
    (m' : (ℓ : Loc Cert.AttnDoRefIdeal.nD Cert.AttnDoRefIdeal.τ Cert.AttnDoRefIdeal.sig) → Buf (Elt Ideal) ℓ) (g' : Dev Cert.AttnDoRefIdeal.nD → PrngReg), Pre_AttnDoIdeal m →
    (∀ c : Dev Cert.AttnDoIdeal.nD,
      m' ((c.tc : Thread Cert.AttnDoRefIdeal.nD Cert.AttnDoRefIdeal.τ).loc Cert.AttnDoRefIdeal.main_arg0) = m ((c.tc : Thread Cert.AttnDoIdeal.nD Cert.AttnDoIdeal.τ).loc Cert.AttnDoIdeal.main_arg0)
      ∧ m' ((c.tc : Thread Cert.AttnDoRefIdeal.nD Cert.AttnDoRefIdeal.τ).loc Cert.AttnDoRefIdeal.main_arg1) = m ((c.tc : Thread Cert.AttnDoIdeal.nD Cert.AttnDoIdeal.τ).loc Cert.AttnDoIdeal.main_arg1)
      ∧ m' ((c.tc : Thread Cert.AttnDoRefIdeal.nD Cert.AttnDoRefIdeal.τ).loc Cert.AttnDoRefIdeal.main_arg2) = m ((c.tc : Thread Cert.AttnDoIdeal.nD Cert.AttnDoIdeal.τ).loc Cert.AttnDoIdeal.main_arg2)) →
    ∃ (v0 : (c : Dev Cert.AttnDoIdeal.nD) → Buf (Elt Ideal) ((c.tc : Thread Cert.AttnDoIdeal.nD Cert.AttnDoIdeal.τ).loc Cert.AttnDoIdeal.main_v2)),
      θ_run (Cert.AttnDoIdeal.defs (F := Ideal)) (onTc (τ := Cert.AttnDoIdeal.τ) (Cert.AttnDoIdeal.main (F := Ideal))) ⟨m, fun _ => 0, g⟩ (fun r => ∀ c : Dev Cert.AttnDoIdeal.nD,
          r.2.mem ((c.tc : Thread Cert.AttnDoIdeal.nD Cert.AttnDoIdeal.τ).loc Cert.AttnDoIdeal.main_v2) = v0 c
          ∧ r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
          ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1)
          ∧ r.2.mem ((c.tc : Thread Cert.AttnDoIdeal.nD Cert.AttnDoIdeal.τ).loc Cert.AttnDoIdeal.main_arg2) = m ((c.tc : Thread Cert.AttnDoIdeal.nD Cert.AttnDoIdeal.τ).loc Cert.AttnDoIdeal.main_arg2))
      ∧ θ_run (Cert.AttnDoRefIdeal.defs (F := Ideal)) (onTc (τ := Cert.AttnDoRefIdeal.τ) (Cert.AttnDoRefIdeal.main (F := Ideal))) ⟨m', fun _ => 0, g'⟩ (fun r => ∀ c : Dev Cert.AttnDoRefIdeal.nD,
          r.2.mem ((c.tc : Thread Cert.AttnDoRefIdeal.nD Cert.AttnDoRefIdeal.τ).loc Cert.AttnDoRefIdeal.main_v4) = v0 c
          ∧ r.2.mem ((c.tc : Thread Cert.AttnDoRefIdeal.nD Cert.AttnDoRefIdeal.τ).loc Cert.AttnDoRefIdeal.main_arg0) = m' ((c.tc : Thread Cert.AttnDoRefIdeal.nD Cert.AttnDoRefIdeal.τ).loc Cert.AttnDoRefIdeal.main_arg0)
          ∧ r.2.mem ((c.tc : Thread Cert.AttnDoRefIdeal.nD Cert.AttnDoRefIdeal.τ).loc Cert.AttnDoRefIdeal.main_arg1) = m' ((c.tc : Thread Cert.AttnDoRefIdeal.nD Cert.AttnDoRefIdeal.τ).loc Cert.AttnDoRefIdeal.main_arg1)
          ∧ r.2.mem ((c.tc : Thread Cert.AttnDoRefIdeal.nD Cert.AttnDoRefIdeal.τ).loc Cert.AttnDoRefIdeal.main_arg2) = m' ((c.tc : Thread Cert.AttnDoRefIdeal.nD Cert.AttnDoRefIdeal.τ).loc Cert.AttnDoRefIdeal.main_arg2))

def preserves_LruDy_LruDyIdeal : Prop :=
  True

def algebraic_LruDyIdeal_LruDyRefIdeal [hLruDyIdeal : Cert.LruDyIdeal.Facts] [hLruDyRefIdeal : Cert.LruDyRefIdeal.Facts] : Prop :=
  ∀ (m : (ℓ : Loc Cert.LruDyIdeal.nD Cert.LruDyIdeal.τ Cert.LruDyIdeal.sig) → Buf (Elt Ideal) ℓ) (g : Dev Cert.LruDyIdeal.nD → PrngReg)
    (m' : (ℓ : Loc Cert.LruDyRefIdeal.nD Cert.LruDyRefIdeal.τ Cert.LruDyRefIdeal.sig) → Buf (Elt Ideal) ℓ) (g' : Dev Cert.LruDyRefIdeal.nD → PrngReg), Pre_LruDyIdeal m →
    (∀ c : Dev Cert.LruDyIdeal.nD,
      m' ((c.tc : Thread Cert.LruDyRefIdeal.nD Cert.LruDyRefIdeal.τ).loc Cert.LruDyRefIdeal.main_arg0) = m ((c.tc : Thread Cert.LruDyIdeal.nD Cert.LruDyIdeal.τ).loc Cert.LruDyIdeal.main_arg0)
      ∧ m' ((c.tc : Thread Cert.LruDyRefIdeal.nD Cert.LruDyRefIdeal.τ).loc Cert.LruDyRefIdeal.main_arg1) = m ((c.tc : Thread Cert.LruDyIdeal.nD Cert.LruDyIdeal.τ).loc Cert.LruDyIdeal.main_arg1)
      ∧ m' ((c.tc : Thread Cert.LruDyRefIdeal.nD Cert.LruDyRefIdeal.τ).loc Cert.LruDyRefIdeal.main_arg2) = m ((c.tc : Thread Cert.LruDyIdeal.nD Cert.LruDyIdeal.τ).loc Cert.LruDyIdeal.main_arg2)) →
    ∃ (v0 : (c : Dev Cert.LruDyIdeal.nD) → Buf (Elt Ideal) ((c.tc : Thread Cert.LruDyIdeal.nD Cert.LruDyIdeal.τ).loc Cert.LruDyIdeal.main_v2)),
      θ_run (Cert.LruDyIdeal.defs (F := Ideal)) (onTc (τ := Cert.LruDyIdeal.τ) (Cert.LruDyIdeal.main (F := Ideal))) ⟨m, fun _ => 0, g⟩ (fun r => ∀ c : Dev Cert.LruDyIdeal.nD,
          r.2.mem ((c.tc : Thread Cert.LruDyIdeal.nD Cert.LruDyIdeal.τ).loc Cert.LruDyIdeal.main_v2) = v0 c
          ∧ r.2.mem ((c.tc : Thread Cert.LruDyIdeal.nD Cert.LruDyIdeal.τ).loc Cert.LruDyIdeal.main_arg0) = m ((c.tc : Thread Cert.LruDyIdeal.nD Cert.LruDyIdeal.τ).loc Cert.LruDyIdeal.main_arg0)
          ∧ r.2.mem ((c.tc : Thread Cert.LruDyIdeal.nD Cert.LruDyIdeal.τ).loc Cert.LruDyIdeal.main_arg1) = m ((c.tc : Thread Cert.LruDyIdeal.nD Cert.LruDyIdeal.τ).loc Cert.LruDyIdeal.main_arg1)
          ∧ r.2.mem ((c.tc : Thread Cert.LruDyIdeal.nD Cert.LruDyIdeal.τ).loc Cert.LruDyIdeal.main_arg2) = m ((c.tc : Thread Cert.LruDyIdeal.nD Cert.LruDyIdeal.τ).loc Cert.LruDyIdeal.main_arg2))
      ∧ θ_run (Cert.LruDyRefIdeal.defs (F := Ideal)) (onTc (τ := Cert.LruDyRefIdeal.τ) (Cert.LruDyRefIdeal.main (F := Ideal))) ⟨m', fun _ => 0, g'⟩ (fun r => ∀ c : Dev Cert.LruDyRefIdeal.nD,
          r.2.mem ((c.tc : Thread Cert.LruDyRefIdeal.nD Cert.LruDyRefIdeal.τ).loc Cert.LruDyRefIdeal.main_v3) = v0 c
          ∧ r.2.mem ((c.tc : Thread Cert.LruDyRefIdeal.nD Cert.LruDyRefIdeal.τ).loc Cert.LruDyRefIdeal.main_arg0) = m' ((c.tc : Thread Cert.LruDyRefIdeal.nD Cert.LruDyRefIdeal.τ).loc Cert.LruDyRefIdeal.main_arg0)
          ∧ r.2.mem ((c.tc : Thread Cert.LruDyRefIdeal.nD Cert.LruDyRefIdeal.τ).loc Cert.LruDyRefIdeal.main_arg1) = m' ((c.tc : Thread Cert.LruDyRefIdeal.nD Cert.LruDyRefIdeal.τ).loc Cert.LruDyRefIdeal.main_arg1)
          ∧ r.2.mem ((c.tc : Thread Cert.LruDyRefIdeal.nD Cert.LruDyRefIdeal.τ).loc Cert.LruDyRefIdeal.main_arg2) = m' ((c.tc : Thread Cert.LruDyRefIdeal.nD Cert.LruDyRefIdeal.τ).loc Cert.LruDyRefIdeal.main_arg2))

def preserves_AttnDx_AttnDxIdeal : Prop :=
  True

def algebraic_AttnDxIdeal_AttnDxRefIdeal [hAttnDxIdeal : Cert.AttnDxIdeal.Facts] [hAttnDxRefIdeal : Cert.AttnDxRefIdeal.Facts] : Prop :=
  ∀ (m : (ℓ : Loc Cert.AttnDxIdeal.nD Cert.AttnDxIdeal.τ Cert.AttnDxIdeal.sig) → Buf (Elt Ideal) ℓ) (g : Dev Cert.AttnDxIdeal.nD → PrngReg)
    (m' : (ℓ : Loc Cert.AttnDxRefIdeal.nD Cert.AttnDxRefIdeal.τ Cert.AttnDxRefIdeal.sig) → Buf (Elt Ideal) ℓ) (g' : Dev Cert.AttnDxRefIdeal.nD → PrngReg), Pre_AttnDxIdeal m →
    (∀ c : Dev Cert.AttnDxIdeal.nD,
      m' ((c.tc : Thread Cert.AttnDxRefIdeal.nD Cert.AttnDxRefIdeal.τ).loc Cert.AttnDxRefIdeal.main_arg0) = m ((c.tc : Thread Cert.AttnDxIdeal.nD Cert.AttnDxIdeal.τ).loc Cert.AttnDxIdeal.main_arg0)
      ∧ m' ((c.tc : Thread Cert.AttnDxRefIdeal.nD Cert.AttnDxRefIdeal.τ).loc Cert.AttnDxRefIdeal.main_arg1) = m ((c.tc : Thread Cert.AttnDxIdeal.nD Cert.AttnDxIdeal.τ).loc Cert.AttnDxIdeal.main_arg1)
      ∧ m' ((c.tc : Thread Cert.AttnDxRefIdeal.nD Cert.AttnDxRefIdeal.τ).loc Cert.AttnDxRefIdeal.main_arg2) = m ((c.tc : Thread Cert.AttnDxIdeal.nD Cert.AttnDxIdeal.τ).loc Cert.AttnDxIdeal.main_arg2)
      ∧ m' ((c.tc : Thread Cert.AttnDxRefIdeal.nD Cert.AttnDxRefIdeal.τ).loc Cert.AttnDxRefIdeal.main_arg3) = m ((c.tc : Thread Cert.AttnDxIdeal.nD Cert.AttnDxIdeal.τ).loc Cert.AttnDxIdeal.main_arg3)) →
    ∃ (v0 : (c : Dev Cert.AttnDxIdeal.nD) → Buf (Elt Ideal) ((c.tc : Thread Cert.AttnDxIdeal.nD Cert.AttnDxIdeal.τ).loc Cert.AttnDxIdeal.main_v2)),
      θ_run (Cert.AttnDxIdeal.defs (F := Ideal)) (onTc (τ := Cert.AttnDxIdeal.τ) (Cert.AttnDxIdeal.main (F := Ideal))) ⟨m, fun _ => 0, g⟩ (fun r => ∀ c : Dev Cert.AttnDxIdeal.nD,
          r.2.mem ((c.tc : Thread Cert.AttnDxIdeal.nD Cert.AttnDxIdeal.τ).loc Cert.AttnDxIdeal.main_v2) = v0 c
          ∧ r.2.mem ((c.tc : Thread Cert.AttnDxIdeal.nD Cert.AttnDxIdeal.τ).loc Cert.AttnDxIdeal.main_arg0) = m ((c.tc : Thread Cert.AttnDxIdeal.nD Cert.AttnDxIdeal.τ).loc Cert.AttnDxIdeal.main_arg0)
          ∧ r.2.mem ((c.tc : Thread Cert.AttnDxIdeal.nD Cert.AttnDxIdeal.τ).loc Cert.AttnDxIdeal.main_arg1) = m ((c.tc : Thread Cert.AttnDxIdeal.nD Cert.AttnDxIdeal.τ).loc Cert.AttnDxIdeal.main_arg1)
          ∧ r.2.mem ((c.tc : Thread Cert.AttnDxIdeal.nD Cert.AttnDxIdeal.τ).loc Cert.AttnDxIdeal.main_arg2) = m ((c.tc : Thread Cert.AttnDxIdeal.nD Cert.AttnDxIdeal.τ).loc Cert.AttnDxIdeal.main_arg2)
          ∧ r.2.mem ((c.tc : Thread Cert.AttnDxIdeal.nD Cert.AttnDxIdeal.τ).loc Cert.AttnDxIdeal.main_arg3) = m ((c.tc : Thread Cert.AttnDxIdeal.nD Cert.AttnDxIdeal.τ).loc Cert.AttnDxIdeal.main_arg3))
      ∧ θ_run (Cert.AttnDxRefIdeal.defs (F := Ideal)) (onTc (τ := Cert.AttnDxRefIdeal.τ) (Cert.AttnDxRefIdeal.main (F := Ideal))) ⟨m', fun _ => 0, g'⟩ (fun r => ∀ c : Dev Cert.AttnDxRefIdeal.nD,
          r.2.mem ((c.tc : Thread Cert.AttnDxRefIdeal.nD Cert.AttnDxRefIdeal.τ).loc Cert.AttnDxRefIdeal.main_v8) = v0 c
          ∧ r.2.mem ((c.tc : Thread Cert.AttnDxRefIdeal.nD Cert.AttnDxRefIdeal.τ).loc Cert.AttnDxRefIdeal.main_arg0) = m' ((c.tc : Thread Cert.AttnDxRefIdeal.nD Cert.AttnDxRefIdeal.τ).loc Cert.AttnDxRefIdeal.main_arg0)
          ∧ r.2.mem ((c.tc : Thread Cert.AttnDxRefIdeal.nD Cert.AttnDxRefIdeal.τ).loc Cert.AttnDxRefIdeal.main_arg1) = m' ((c.tc : Thread Cert.AttnDxRefIdeal.nD Cert.AttnDxRefIdeal.τ).loc Cert.AttnDxRefIdeal.main_arg1)
          ∧ r.2.mem ((c.tc : Thread Cert.AttnDxRefIdeal.nD Cert.AttnDxRefIdeal.τ).loc Cert.AttnDxRefIdeal.main_arg2) = m' ((c.tc : Thread Cert.AttnDxRefIdeal.nD Cert.AttnDxRefIdeal.τ).loc Cert.AttnDxRefIdeal.main_arg2)
          ∧ r.2.mem ((c.tc : Thread Cert.AttnDxRefIdeal.nD Cert.AttnDxRefIdeal.τ).loc Cert.AttnDxRefIdeal.main_arg3) = m' ((c.tc : Thread Cert.AttnDxRefIdeal.nD Cert.AttnDxRefIdeal.τ).loc Cert.AttnDxRefIdeal.main_arg3))

def preserves_LruDx_LruDxIdeal : Prop :=
  True

def algebraic_LruDxIdeal_LruDxRefIdeal [hLruDxIdeal : Cert.LruDxIdeal.Facts] [hLruDxRefIdeal : Cert.LruDxRefIdeal.Facts] : Prop :=
  ∀ (m : (ℓ : Loc Cert.LruDxIdeal.nD Cert.LruDxIdeal.τ Cert.LruDxIdeal.sig) → Buf (Elt Ideal) ℓ) (g : Dev Cert.LruDxIdeal.nD → PrngReg)
    (m' : (ℓ : Loc Cert.LruDxRefIdeal.nD Cert.LruDxRefIdeal.τ Cert.LruDxRefIdeal.sig) → Buf (Elt Ideal) ℓ) (g' : Dev Cert.LruDxRefIdeal.nD → PrngReg), Pre_LruDxIdeal m →
    (∀ c : Dev Cert.LruDxIdeal.nD,
      m' ((c.tc : Thread Cert.LruDxRefIdeal.nD Cert.LruDxRefIdeal.τ).loc Cert.LruDxRefIdeal.main_arg0) = m ((c.tc : Thread Cert.LruDxIdeal.nD Cert.LruDxIdeal.τ).loc Cert.LruDxIdeal.main_arg0)
      ∧ m' ((c.tc : Thread Cert.LruDxRefIdeal.nD Cert.LruDxRefIdeal.τ).loc Cert.LruDxRefIdeal.main_arg1) = m ((c.tc : Thread Cert.LruDxIdeal.nD Cert.LruDxIdeal.τ).loc Cert.LruDxIdeal.main_arg1)
      ∧ m' ((c.tc : Thread Cert.LruDxRefIdeal.nD Cert.LruDxRefIdeal.τ).loc Cert.LruDxRefIdeal.main_arg2) = m ((c.tc : Thread Cert.LruDxIdeal.nD Cert.LruDxIdeal.τ).loc Cert.LruDxIdeal.main_arg2)
      ∧ m' ((c.tc : Thread Cert.LruDxRefIdeal.nD Cert.LruDxRefIdeal.τ).loc Cert.LruDxRefIdeal.main_arg3) = m ((c.tc : Thread Cert.LruDxIdeal.nD Cert.LruDxIdeal.τ).loc Cert.LruDxIdeal.main_arg3)) →
    ∃ (v0 : (c : Dev Cert.LruDxIdeal.nD) → Buf (Elt Ideal) ((c.tc : Thread Cert.LruDxIdeal.nD Cert.LruDxIdeal.τ).loc Cert.LruDxIdeal.main_v2)),
      θ_run (Cert.LruDxIdeal.defs (F := Ideal)) (onTc (τ := Cert.LruDxIdeal.τ) (Cert.LruDxIdeal.main (F := Ideal))) ⟨m, fun _ => 0, g⟩ (fun r => ∀ c : Dev Cert.LruDxIdeal.nD,
          r.2.mem ((c.tc : Thread Cert.LruDxIdeal.nD Cert.LruDxIdeal.τ).loc Cert.LruDxIdeal.main_v2) = v0 c
          ∧ r.2.mem ((c.tc : Thread Cert.LruDxIdeal.nD Cert.LruDxIdeal.τ).loc Cert.LruDxIdeal.main_arg0) = m ((c.tc : Thread Cert.LruDxIdeal.nD Cert.LruDxIdeal.τ).loc Cert.LruDxIdeal.main_arg0)
          ∧ r.2.mem ((c.tc : Thread Cert.LruDxIdeal.nD Cert.LruDxIdeal.τ).loc Cert.LruDxIdeal.main_arg1) = m ((c.tc : Thread Cert.LruDxIdeal.nD Cert.LruDxIdeal.τ).loc Cert.LruDxIdeal.main_arg1)
          ∧ r.2.mem ((c.tc : Thread Cert.LruDxIdeal.nD Cert.LruDxIdeal.τ).loc Cert.LruDxIdeal.main_arg2) = m ((c.tc : Thread Cert.LruDxIdeal.nD Cert.LruDxIdeal.τ).loc Cert.LruDxIdeal.main_arg2)
          ∧ r.2.mem ((c.tc : Thread Cert.LruDxIdeal.nD Cert.LruDxIdeal.τ).loc Cert.LruDxIdeal.main_arg3) = m ((c.tc : Thread Cert.LruDxIdeal.nD Cert.LruDxIdeal.τ).loc Cert.LruDxIdeal.main_arg3))
      ∧ θ_run (Cert.LruDxRefIdeal.defs (F := Ideal)) (onTc (τ := Cert.LruDxRefIdeal.τ) (Cert.LruDxRefIdeal.main (F := Ideal))) ⟨m', fun _ => 0, g'⟩ (fun r => ∀ c : Dev Cert.LruDxRefIdeal.nD,
          r.2.mem ((c.tc : Thread Cert.LruDxRefIdeal.nD Cert.LruDxRefIdeal.τ).loc Cert.LruDxRefIdeal.main_v8) = v0 c
          ∧ r.2.mem ((c.tc : Thread Cert.LruDxRefIdeal.nD Cert.LruDxRefIdeal.τ).loc Cert.LruDxRefIdeal.main_arg0) = m' ((c.tc : Thread Cert.LruDxRefIdeal.nD Cert.LruDxRefIdeal.τ).loc Cert.LruDxRefIdeal.main_arg0)
          ∧ r.2.mem ((c.tc : Thread Cert.LruDxRefIdeal.nD Cert.LruDxRefIdeal.τ).loc Cert.LruDxRefIdeal.main_arg1) = m' ((c.tc : Thread Cert.LruDxRefIdeal.nD Cert.LruDxRefIdeal.τ).loc Cert.LruDxRefIdeal.main_arg1)
          ∧ r.2.mem ((c.tc : Thread Cert.LruDxRefIdeal.nD Cert.LruDxRefIdeal.τ).loc Cert.LruDxRefIdeal.main_arg2) = m' ((c.tc : Thread Cert.LruDxRefIdeal.nD Cert.LruDxRefIdeal.τ).loc Cert.LruDxRefIdeal.main_arg2)
          ∧ r.2.mem ((c.tc : Thread Cert.LruDxRefIdeal.nD Cert.LruDxRefIdeal.τ).loc Cert.LruDxRefIdeal.main_arg3) = m' ((c.tc : Thread Cert.LruDxRefIdeal.nD Cert.LruDxRefIdeal.τ).loc Cert.LruDxRefIdeal.main_arg3))

def preserves_LruDxc_LruDxcIdeal : Prop :=
  True

def algebraic_LruDxcIdeal_LruDxcRefIdeal [hLruDxcIdeal : Cert.LruDxcIdeal.Facts] [hLruDxcRefIdeal : Cert.LruDxcRefIdeal.Facts] : Prop :=
  ∀ (m : (ℓ : Loc Cert.LruDxcIdeal.nD Cert.LruDxcIdeal.τ Cert.LruDxcIdeal.sig) → Buf (Elt Ideal) ℓ) (g : Dev Cert.LruDxcIdeal.nD → PrngReg)
    (m' : (ℓ : Loc Cert.LruDxcRefIdeal.nD Cert.LruDxcRefIdeal.τ Cert.LruDxcRefIdeal.sig) → Buf (Elt Ideal) ℓ) (g' : Dev Cert.LruDxcRefIdeal.nD → PrngReg), Pre_LruDxcIdeal m →
    (∀ c : Dev Cert.LruDxcIdeal.nD,
      m' ((c.tc : Thread Cert.LruDxcRefIdeal.nD Cert.LruDxcRefIdeal.τ).loc Cert.LruDxcRefIdeal.main_arg0) = m ((c.tc : Thread Cert.LruDxcIdeal.nD Cert.LruDxcIdeal.τ).loc Cert.LruDxcIdeal.main_arg0)
      ∧ m' ((c.tc : Thread Cert.LruDxcRefIdeal.nD Cert.LruDxcRefIdeal.τ).loc Cert.LruDxcRefIdeal.main_arg1) = m ((c.tc : Thread Cert.LruDxcIdeal.nD Cert.LruDxcIdeal.τ).loc Cert.LruDxcIdeal.main_arg1)
      ∧ m' ((c.tc : Thread Cert.LruDxcRefIdeal.nD Cert.LruDxcRefIdeal.τ).loc Cert.LruDxcRefIdeal.main_arg2) = m ((c.tc : Thread Cert.LruDxcIdeal.nD Cert.LruDxcIdeal.τ).loc Cert.LruDxcIdeal.main_arg2)
      ∧ m' ((c.tc : Thread Cert.LruDxcRefIdeal.nD Cert.LruDxcRefIdeal.τ).loc Cert.LruDxcRefIdeal.main_arg3) = m ((c.tc : Thread Cert.LruDxcIdeal.nD Cert.LruDxcIdeal.τ).loc Cert.LruDxcIdeal.main_arg3)) →
    ∃ (v0 : (c : Dev Cert.LruDxcIdeal.nD) → Buf (Elt Ideal) ((c.tc : Thread Cert.LruDxcIdeal.nD Cert.LruDxcIdeal.τ).loc Cert.LruDxcIdeal.main_v2)),
      θ_run (Cert.LruDxcIdeal.defs (F := Ideal)) (onTc (τ := Cert.LruDxcIdeal.τ) (Cert.LruDxcIdeal.main (F := Ideal))) ⟨m, fun _ => 0, g⟩ (fun r => ∀ c : Dev Cert.LruDxcIdeal.nD,
          r.2.mem ((c.tc : Thread Cert.LruDxcIdeal.nD Cert.LruDxcIdeal.τ).loc Cert.LruDxcIdeal.main_v2) = v0 c
          ∧ r.2.mem ((c.tc : Thread Cert.LruDxcIdeal.nD Cert.LruDxcIdeal.τ).loc Cert.LruDxcIdeal.main_arg0) = m ((c.tc : Thread Cert.LruDxcIdeal.nD Cert.LruDxcIdeal.τ).loc Cert.LruDxcIdeal.main_arg0)
          ∧ r.2.mem ((c.tc : Thread Cert.LruDxcIdeal.nD Cert.LruDxcIdeal.τ).loc Cert.LruDxcIdeal.main_arg1) = m ((c.tc : Thread Cert.LruDxcIdeal.nD Cert.LruDxcIdeal.τ).loc Cert.LruDxcIdeal.main_arg1)
          ∧ r.2.mem ((c.tc : Thread Cert.LruDxcIdeal.nD Cert.LruDxcIdeal.τ).loc Cert.LruDxcIdeal.main_arg2) = m ((c.tc : Thread Cert.LruDxcIdeal.nD Cert.LruDxcIdeal.τ).loc Cert.LruDxcIdeal.main_arg2)
          ∧ r.2.mem ((c.tc : Thread Cert.LruDxcIdeal.nD Cert.LruDxcIdeal.τ).loc Cert.LruDxcIdeal.main_arg3) = m ((c.tc : Thread Cert.LruDxcIdeal.nD Cert.LruDxcIdeal.τ).loc Cert.LruDxcIdeal.main_arg3))
      ∧ θ_run (Cert.LruDxcRefIdeal.defs (F := Ideal)) (onTc (τ := Cert.LruDxcRefIdeal.τ) (Cert.LruDxcRefIdeal.main (F := Ideal))) ⟨m', fun _ => 0, g'⟩ (fun r => ∀ c : Dev Cert.LruDxcRefIdeal.nD,
          r.2.mem ((c.tc : Thread Cert.LruDxcRefIdeal.nD Cert.LruDxcRefIdeal.τ).loc Cert.LruDxcRefIdeal.main_v11) = v0 c
          ∧ r.2.mem ((c.tc : Thread Cert.LruDxcRefIdeal.nD Cert.LruDxcRefIdeal.τ).loc Cert.LruDxcRefIdeal.main_arg0) = m' ((c.tc : Thread Cert.LruDxcRefIdeal.nD Cert.LruDxcRefIdeal.τ).loc Cert.LruDxcRefIdeal.main_arg0)
          ∧ r.2.mem ((c.tc : Thread Cert.LruDxcRefIdeal.nD Cert.LruDxcRefIdeal.τ).loc Cert.LruDxcRefIdeal.main_arg1) = m' ((c.tc : Thread Cert.LruDxcRefIdeal.nD Cert.LruDxcRefIdeal.τ).loc Cert.LruDxcRefIdeal.main_arg1)
          ∧ r.2.mem ((c.tc : Thread Cert.LruDxcRefIdeal.nD Cert.LruDxcRefIdeal.τ).loc Cert.LruDxcRefIdeal.main_arg2) = m' ((c.tc : Thread Cert.LruDxcRefIdeal.nD Cert.LruDxcRefIdeal.τ).loc Cert.LruDxcRefIdeal.main_arg2)
          ∧ r.2.mem ((c.tc : Thread Cert.LruDxcRefIdeal.nD Cert.LruDxcRefIdeal.τ).loc Cert.LruDxcRefIdeal.main_arg3) = m' ((c.tc : Thread Cert.LruDxcRefIdeal.nD Cert.LruDxcRefIdeal.τ).loc Cert.LruDxcRefIdeal.main_arg3))

def preserves_LruIn_LruInIdeal : Prop :=
  True

def algebraic_LruInIdeal_LruInRefIdeal [hLruInIdeal : Cert.LruInIdeal.Facts] [hLruInRefIdeal : Cert.LruInRefIdeal.Facts] : Prop :=
  ∀ (m : (ℓ : Loc Cert.LruInIdeal.nD Cert.LruInIdeal.τ Cert.LruInIdeal.sig) → Buf (Elt Ideal) ℓ) (g : Dev Cert.LruInIdeal.nD → PrngReg)
    (m' : (ℓ : Loc Cert.LruInRefIdeal.nD Cert.LruInRefIdeal.τ Cert.LruInRefIdeal.sig) → Buf (Elt Ideal) ℓ) (g' : Dev Cert.LruInRefIdeal.nD → PrngReg), Pre_LruInIdeal m →
    (∀ c : Dev Cert.LruInIdeal.nD,
      m' ((c.tc : Thread Cert.LruInRefIdeal.nD Cert.LruInRefIdeal.τ).loc Cert.LruInRefIdeal.main_arg0) = m ((c.tc : Thread Cert.LruInIdeal.nD Cert.LruInIdeal.τ).loc Cert.LruInIdeal.main_arg0)
      ∧ m' ((c.tc : Thread Cert.LruInRefIdeal.nD Cert.LruInRefIdeal.τ).loc Cert.LruInRefIdeal.main_arg1) = m ((c.tc : Thread Cert.LruInIdeal.nD Cert.LruInIdeal.τ).loc Cert.LruInIdeal.main_arg1)) →
    ∃ (v0 : (c : Dev Cert.LruInIdeal.nD) → Buf (Elt Ideal) ((c.tc : Thread Cert.LruInIdeal.nD Cert.LruInIdeal.τ).loc Cert.LruInIdeal.main_v2)),
      θ_run (Cert.LruInIdeal.defs (F := Ideal)) (onTc (τ := Cert.LruInIdeal.τ) (Cert.LruInIdeal.main (F := Ideal))) ⟨m, fun _ => 0, g⟩ (fun r => ∀ c : Dev Cert.LruInIdeal.nD,
          r.2.mem ((c.tc : Thread Cert.LruInIdeal.nD Cert.LruInIdeal.τ).loc Cert.LruInIdeal.main_v2) = v0 c
          ∧ r.2.mem ((c.tc : Thread Cert.LruInIdeal.nD Cert.LruInIdeal.τ).loc Cert.LruInIdeal.main_arg0) = m ((c.tc : Thread Cert.LruInIdeal.nD Cert.LruInIdeal.τ).loc Cert.LruInIdeal.main_arg0)
          ∧ r.2.mem ((c.tc : Thread Cert.LruInIdeal.nD Cert.LruInIdeal.τ).loc Cert.LruInIdeal.main_arg1) = m ((c.tc : Thread Cert.LruInIdeal.nD Cert.LruInIdeal.τ).loc Cert.LruInIdeal.main_arg1))
      ∧ θ_run (Cert.LruInRefIdeal.defs (F := Ideal)) (onTc (τ := Cert.LruInRefIdeal.τ) (Cert.LruInRefIdeal.main (F := Ideal))) ⟨m', fun _ => 0, g'⟩ (fun r => ∀ c : Dev Cert.LruInRefIdeal.nD,
          r.2.mem ((c.tc : Thread Cert.LruInRefIdeal.nD Cert.LruInRefIdeal.τ).loc Cert.LruInRefIdeal.main_v2) = v0 c
          ∧ r.2.mem ((c.tc : Thread Cert.LruInRefIdeal.nD Cert.LruInRefIdeal.τ).loc Cert.LruInRefIdeal.main_arg0) = m' ((c.tc : Thread Cert.LruInRefIdeal.nD Cert.LruInRefIdeal.τ).loc Cert.LruInRefIdeal.main_arg0)
          ∧ r.2.mem ((c.tc : Thread Cert.LruInRefIdeal.nD Cert.LruInRefIdeal.τ).loc Cert.LruInRefIdeal.main_arg1) = m' ((c.tc : Thread Cert.LruInRefIdeal.nD Cert.LruInRefIdeal.τ).loc Cert.LruInRefIdeal.main_arg1))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)) (v3 : (c : Dev Cert.AdamWInIdeal.nD) → Buf (Elt Ideal) ((c.tc : Thread Cert.AdamWInIdeal.nD Cert.AdamWInIdeal.τ).loc Cert.AdamWInIdeal.main_v0_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_v0_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_arg1) = v0 c
          ∧ r.2.mem ((c.tc : Thread Cert.AdamWInRefIdeal.nD Cert.AdamWInRefIdeal.τ).loc Cert.AdamWInRefIdeal.main_v23) = v1 c
          ∧ r.2.mem ((c.tc : Thread Cert.AdamWInRefIdeal.nD Cert.AdamWInRefIdeal.τ).loc Cert.AdamWInRefIdeal.main_v4) = v2 c
          ∧ r.2.mem ((c.tc : Thread Cert.AdamWInRefIdeal.nD Cert.AdamWInRefIdeal.τ).loc Cert.AdamWInRefIdeal.main_v10) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)) (v3 : (c : Dev Cert.AdamWOutIdeal.nD) → Buf (Elt Ideal) ((c.tc : Thread Cert.AdamWOutIdeal.nD Cert.AdamWOutIdeal.τ).loc Cert.AdamWOutIdeal.main_v0_3)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_v0_3) = v3 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_arg1) = v0 c
          ∧ r.2.mem ((c.tc : Thread Cert.AdamWOutRefIdeal.nD Cert.AdamWOutRefIdeal.τ).loc Cert.AdamWOutRefIdeal.main_v23) = v1 c
          ∧ r.2.mem ((c.tc : Thread Cert.AdamWOutRefIdeal.nD Cert.AdamWOutRefIdeal.τ).loc Cert.AdamWOutRefIdeal.main_v4) = v2 c
          ∧ r.2.mem ((c.tc : Thread Cert.AdamWOutRefIdeal.nD Cert.AdamWOutRefIdeal.τ).loc Cert.AdamWOutRefIdeal.main_v10) = v3 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamQkv_AdamQkvIdeal : Prop :=
  True

def algebraic_AdamQkvIdeal_AdamQkvRefIdeal [hAdamQkvIdeal : Cert.AdamQkvIdeal.Facts] [hAdamQkvRefIdeal : Cert.AdamQkvRefIdeal.Facts] : Prop :=
  ∀ (m : (ℓ : Loc Cert.AdamQkvIdeal.nD Cert.AdamQkvIdeal.τ Cert.AdamQkvIdeal.sig) → Buf (Elt Ideal) ℓ) (g : Dev Cert.AdamQkvIdeal.nD → PrngReg)
    (m' : (ℓ : Loc Cert.AdamQkvRefIdeal.nD Cert.AdamQkvRefIdeal.τ Cert.AdamQkvRefIdeal.sig) → Buf (Elt Ideal) ℓ) (g' : Dev Cert.AdamQkvRefIdeal.nD → PrngReg), Pre_AdamQkvIdeal m →
    (∀ c : Dev Cert.AdamQkvIdeal.nD,
      m' ((c.tc : Thread Cert.AdamQkvRefIdeal.nD Cert.AdamQkvRefIdeal.τ).loc Cert.AdamQkvRefIdeal.main_arg0) = m ((c.tc : Thread Cert.AdamQkvIdeal.nD Cert.AdamQkvIdeal.τ).loc Cert.AdamQkvIdeal.main_arg0)
      ∧ m' ((c.tc : Thread Cert.AdamQkvRefIdeal.nD Cert.AdamQkvRefIdeal.τ).loc Cert.AdamQkvRefIdeal.main_arg1) = m ((c.tc : Thread Cert.AdamQkvIdeal.nD Cert.AdamQkvIdeal.τ).loc Cert.AdamQkvIdeal.main_arg1)
      ∧ m' ((c.tc : Thread Cert.AdamQkvRefIdeal.nD Cert.AdamQkvRefIdeal.τ).loc Cert.AdamQkvRefIdeal.main_arg2) = m ((c.tc : Thread Cert.AdamQkvIdeal.nD Cert.AdamQkvIdeal.τ).loc Cert.AdamQkvIdeal.main_arg2)
      ∧ m' ((c.tc : Thread Cert.AdamQkvRefIdeal.nD Cert.AdamQkvRefIdeal.τ).loc Cert.AdamQkvRefIdeal.main_arg3) = m ((c.tc : Thread Cert.AdamQkvIdeal.nD Cert.AdamQkvIdeal.τ).loc Cert.AdamQkvIdeal.main_arg3)) →
    ∃ (v0 : (c : Dev Cert.AdamQkvIdeal.nD) → Buf (Elt Ideal) ((c.tc : Thread Cert.AdamQkvIdeal.nD Cert.AdamQkvIdeal.τ).loc Cert.AdamQkvIdeal.main_v0_0)) (v1 : (c : Dev Cert.AdamQkvIdeal.nD) → Buf (Elt Ideal) ((c.tc : Thread Cert.AdamQkvIdeal.nD Cert.AdamQkvIdeal.τ).loc Cert.AdamQkvIdeal.main_v0_1)) (v2 : (c : Dev Cert.AdamQkvIdeal.nD) → Buf (Elt Ideal) ((c.tc : Thread Cert.AdamQkvIdeal.nD Cert.AdamQkvIdeal.τ).loc Cert.AdamQkvIdeal.main_v0_2)) (v3 : (c : Dev Cert.AdamQkvIdeal.nD) → Buf (Elt Ideal) ((c.tc : Thread Cert.AdamQkvIdeal.nD Cert.AdamQkvIdeal.τ).loc Cert.AdamQkvIdeal.main_v0_3)),
      θ_run (Cert.AdamQkvIdeal.defs (F := Ideal)) (onTc (τ := Cert.AdamQkvIdeal.τ) (Cert.AdamQkvIdeal.main (F := Ideal))) ⟨m, fun _ => 0, g⟩ (fun r => ∀ c : Dev Cert.AdamQkvIdeal.nD,
          r.2.mem ((c.tc : Thread Cert.AdamQkvIdeal.nD Cert.AdamQkvIdeal.τ).loc Cert.AdamQkvIdeal.main_v0_0) = v0 c
          ∧ r.2.mem ((c.tc : Thread Cert.AdamQkvIdeal.nD Cert.AdamQkvIdeal.τ).loc Cert.AdamQkvIdeal.main_v0_1) = v1 c
          ∧ r.2.mem ((c.tc : Thread Cert.AdamQkvIdeal.nD Cert.AdamQkvIdeal.τ).loc Cert.AdamQkvIdeal.main_v0_2) = v2 c
          ∧ r.2.mem ((c.tc : Thread Cert.AdamQkvIdeal.nD Cert.AdamQkvIdeal.τ).loc Cert.AdamQkvIdeal.main_v0_3) = v3 c
          ∧ r.2.mem ((c.tc : Thread Cert.AdamQkvIdeal.nD Cert.AdamQkvIdeal.τ).loc Cert.AdamQkvIdeal.main_arg0) = m ((c.tc : Thread Cert.AdamQkvIdeal.nD Cert.AdamQkvIdeal.τ).loc Cert.AdamQkvIdeal.main_arg0)
          ∧ r.2.mem ((c.tc : Thread Cert.AdamQkvIdeal.nD Cert.AdamQkvIdeal.τ).loc Cert.AdamQkvIdeal.main_arg1) = m ((c.tc : Thread Cert.AdamQkvIdeal.nD Cert.AdamQkvIdeal.τ).loc Cert.AdamQkvIdeal.main_arg1)
          ∧ r.2.mem ((c.tc : Thread Cert.AdamQkvIdeal.nD Cert.AdamQkvIdeal.τ).loc Cert.AdamQkvIdeal.main_arg2) = m ((c.tc : Thread Cert.AdamQkvIdeal.nD Cert.AdamQkvIdeal.τ).loc Cert.AdamQkvIdeal.main_arg2)
          ∧ r.2.mem ((c.tc : Thread Cert.AdamQkvIdeal.nD Cert.AdamQkvIdeal.τ).loc Cert.AdamQkvIdeal.main_arg3) = m ((c.tc : Thread Cert.AdamQkvIdeal.nD Cert.AdamQkvIdeal.τ).loc Cert.AdamQkvIdeal.main_arg3))
      ∧ θ_run (Cert.AdamQkvRefIdeal.defs (F := Ideal)) (onTc (τ := Cert.AdamQkvRefIdeal.τ) (Cert.AdamQkvRefIdeal.main (F := Ideal))) ⟨m', fun _ => 0, g'⟩ (fun r => ∀ c : Dev Cert.AdamQkvRefIdeal.nD,
          r.2.mem ((c.tc : Thread Cert.AdamQkvRefIdeal.nD Cert.AdamQkvRefIdeal.τ).loc Cert.AdamQkvRefIdeal.main_arg1) = v0 c
          ∧ r.2.mem ((c.tc : Thread Cert.AdamQkvRefIdeal.nD Cert.AdamQkvRefIdeal.τ).loc Cert.AdamQkvRefIdeal.main_v23) = v1 c
          ∧ r.2.mem ((c.tc : Thread Cert.AdamQkvRefIdeal.nD Cert.AdamQkvRefIdeal.τ).loc Cert.AdamQkvRefIdeal.main_v4) = v2 c
          ∧ r.2.mem ((c.tc : Thread Cert.AdamQkvRefIdeal.nD Cert.AdamQkvRefIdeal.τ).loc Cert.AdamQkvRefIdeal.main_v10) = v3 c
          ∧ r.2.mem ((c.tc : Thread Cert.AdamQkvRefIdeal.nD Cert.AdamQkvRefIdeal.τ).loc Cert.AdamQkvRefIdeal.main_arg0) = m' ((c.tc : Thread Cert.AdamQkvRefIdeal.nD Cert.AdamQkvRefIdeal.τ).loc Cert.AdamQkvRefIdeal.main_arg0)
          ∧ r.2.mem ((c.tc : Thread Cert.AdamQkvRefIdeal.nD Cert.AdamQkvRefIdeal.τ).loc Cert.AdamQkvRefIdeal.main_arg1) = m' ((c.tc : Thread Cert.AdamQkvRefIdeal.nD Cert.AdamQkvRefIdeal.τ).loc Cert.AdamQkvRefIdeal.main_arg1)
          ∧ r.2.mem ((c.tc : Thread Cert.AdamQkvRefIdeal.nD Cert.AdamQkvRefIdeal.τ).loc Cert.AdamQkvRefIdeal.main_arg2) = m' ((c.tc : Thread Cert.AdamQkvRefIdeal.nD Cert.AdamQkvRefIdeal.τ).loc Cert.AdamQkvRefIdeal.main_arg2)
          ∧ r.2.mem ((c.tc : Thread Cert.AdamQkvRefIdeal.nD Cert.AdamQkvRefIdeal.τ).loc Cert.AdamQkvRefIdeal.main_arg3) = m' ((c.tc : Thread Cert.AdamQkvRefIdeal.nD Cert.AdamQkvRefIdeal.τ).loc Cert.AdamQkvRefIdeal.main_arg3))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_arg1) = v0 c
          ∧ r.2.mem ((c.tc : Thread Cert.AdamSqRefIdeal.nD Cert.AdamSqRefIdeal.τ).loc Cert.AdamSqRefIdeal.main_v23) = v1 c
          ∧ r.2.mem ((c.tc : Thread Cert.AdamSqRefIdeal.nD Cert.AdamSqRefIdeal.τ).loc Cert.AdamSqRefIdeal.main_v4) = v2 c
          ∧ r.2.mem ((c.tc : Thread Cert.AdamSqRefIdeal.nD Cert.AdamSqRefIdeal.τ).loc Cert.AdamSqRefIdeal.main_v10) = v3 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def preserves_AdamLin_AdamLinIdeal : Prop :=
  True

def algebraic_AdamLinIdeal_AdamLinRefIdeal [hAdamLinIdeal : Cert.AdamLinIdeal.Facts] [hAdamLinRefIdeal : Cert.AdamLinRefIdeal.Facts] : Prop :=
  ∀ (m : (ℓ : Loc Cert.AdamLinIdeal.nD Cert.AdamLinIdeal.τ Cert.AdamLinIdeal.sig) → Buf (Elt Ideal) ℓ) (g : Dev Cert.AdamLinIdeal.nD → PrngReg)
    (m' : (ℓ : Loc Cert.AdamLinRefIdeal.nD Cert.AdamLinRefIdeal.τ Cert.AdamLinRefIdeal.sig) → Buf (Elt Ideal) ℓ) (g' : Dev Cert.AdamLinRefIdeal.nD → PrngReg), Pre_AdamLinIdeal m →
    (∀ c : Dev Cert.AdamLinIdeal.nD,
      m' ((c.tc : Thread Cert.AdamLinRefIdeal.nD Cert.AdamLinRefIdeal.τ).loc Cert.AdamLinRefIdeal.main_arg0) = m ((c.tc : Thread Cert.AdamLinIdeal.nD Cert.AdamLinIdeal.τ).loc Cert.AdamLinIdeal.main_arg0)
      ∧ m' ((c.tc : Thread Cert.AdamLinRefIdeal.nD Cert.AdamLinRefIdeal.τ).loc Cert.AdamLinRefIdeal.main_arg1) = m ((c.tc : Thread Cert.AdamLinIdeal.nD Cert.AdamLinIdeal.τ).loc Cert.AdamLinIdeal.main_arg1)
      ∧ m' ((c.tc : Thread Cert.AdamLinRefIdeal.nD Cert.AdamLinRefIdeal.τ).loc Cert.AdamLinRefIdeal.main_arg2) = m ((c.tc : Thread Cert.AdamLinIdeal.nD Cert.AdamLinIdeal.τ).loc Cert.AdamLinIdeal.main_arg2)
      ∧ m' ((c.tc : Thread Cert.AdamLinRefIdeal.nD Cert.AdamLinRefIdeal.τ).loc Cert.AdamLinRefIdeal.main_arg3) = m ((c.tc : Thread Cert.AdamLinIdeal.nD Cert.AdamLinIdeal.τ).loc Cert.AdamLinIdeal.main_arg3)) →
    ∃ (v0 : (c : Dev Cert.AdamLinIdeal.nD) → Buf (Elt Ideal) ((c.tc : Thread Cert.AdamLinIdeal.nD Cert.AdamLinIdeal.τ).loc Cert.AdamLinIdeal.main_v0_0)) (v1 : (c : Dev Cert.AdamLinIdeal.nD) → Buf (Elt Ideal) ((c.tc : Thread Cert.AdamLinIdeal.nD Cert.AdamLinIdeal.τ).loc Cert.AdamLinIdeal.main_v0_1)) (v2 : (c : Dev Cert.AdamLinIdeal.nD) → Buf (Elt Ideal) ((c.tc : Thread Cert.AdamLinIdeal.nD Cert.AdamLinIdeal.τ).loc Cert.AdamLinIdeal.main_v0_2)) (v3 : (c : Dev Cert.AdamLinIdeal.nD) → Buf (Elt Ideal) ((c.tc : Thread Cert.AdamLinIdeal.nD Cert.AdamLinIdeal.τ).loc Cert.AdamLinIdeal.main_v0_3)),
      θ_run (Cert.AdamLinIdeal.defs (F := Ideal)) (onTc (τ := Cert.AdamLinIdeal.τ) (Cert.AdamLinIdeal.main (F := Ideal))) ⟨m, fun _ => 0, g⟩ (fun r => ∀ c : Dev Cert.AdamLinIdeal.nD,
          r.2.mem ((c.tc : Thread Cert.AdamLinIdeal.nD Cert.AdamLinIdeal.τ).loc Cert.AdamLinIdeal.main_v0_0) = v0 c
          ∧ r.2.mem ((c.tc : Thread Cert.AdamLinIdeal.nD Cert.AdamLinIdeal.τ).loc Cert.AdamLinIdeal.main_v0_1) = v1 c
          ∧ r.2.mem ((c.tc : Thread Cert.AdamLinIdeal.nD Cert.AdamLinIdeal.τ).loc Cert.AdamLinIdeal.main_v0_2) = v2 c
          ∧ r.2.mem ((c.tc : Thread Cert.AdamLinIdeal.nD Cert.AdamLinIdeal.τ).loc Cert.AdamLinIdeal.main_v0_3) = v3 c
          ∧ r.2.mem ((c.tc : Thread Cert.AdamLinIdeal.nD Cert.AdamLinIdeal.τ).loc Cert.AdamLinIdeal.main_arg0) = m ((c.tc : Thread Cert.AdamLinIdeal.nD Cert.AdamLinIdeal.τ).loc Cert.AdamLinIdeal.main_arg0)
          ∧ r.2.mem ((c.tc : Thread Cert.AdamLinIdeal.nD Cert.AdamLinIdeal.τ).loc Cert.AdamLinIdeal.main_arg1) = m ((c.tc : Thread Cert.AdamLinIdeal.nD Cert.AdamLinIdeal.τ).loc Cert.AdamLinIdeal.main_arg1)
          ∧ r.2.mem ((c.tc : Thread Cert.AdamLinIdeal.nD Cert.AdamLinIdeal.τ).loc Cert.AdamLinIdeal.main_arg2) = m ((c.tc : Thread Cert.AdamLinIdeal.nD Cert.AdamLinIdeal.τ).loc Cert.AdamLinIdeal.main_arg2)
          ∧ r.2.mem ((c.tc : Thread Cert.AdamLinIdeal.nD Cert.AdamLinIdeal.τ).loc Cert.AdamLinIdeal.main_arg3) = m ((c.tc : Thread Cert.AdamLinIdeal.nD Cert.AdamLinIdeal.τ).loc Cert.AdamLinIdeal.main_arg3))
      ∧ θ_run (Cert.AdamLinRefIdeal.defs (F := Ideal)) (onTc (τ := Cert.AdamLinRefIdeal.τ) (Cert.AdamLinRefIdeal.main (F := Ideal))) ⟨m', fun _ => 0, g'⟩ (fun r => ∀ c : Dev Cert.AdamLinRefIdeal.nD,
          r.2.mem ((c.tc : Thread Cert.AdamLinRefIdeal.nD Cert.AdamLinRefIdeal.τ).loc Cert.AdamLinRefIdeal.main_arg1) = v0 c
          ∧ r.2.mem ((c.tc : Thread Cert.AdamLinRefIdeal.nD Cert.AdamLinRefIdeal.τ).loc Cert.AdamLinRefIdeal.main_v23) = v1 c
          ∧ r.2.mem ((c.tc : Thread Cert.AdamLinRefIdeal.nD Cert.AdamLinRefIdeal.τ).loc Cert.AdamLinRefIdeal.main_v4) = v2 c
          ∧ r.2.mem ((c.tc : Thread Cert.AdamLinRefIdeal.nD Cert.AdamLinRefIdeal.τ).loc Cert.AdamLinRefIdeal.main_v10) = v3 c
          ∧ r.2.mem ((c.tc : Thread Cert.AdamLinRefIdeal.nD Cert.AdamLinRefIdeal.τ).loc Cert.AdamLinRefIdeal.main_arg0) = m' ((c.tc : Thread Cert.AdamLinRefIdeal.nD Cert.AdamLinRefIdeal.τ).loc Cert.AdamLinRefIdeal.main_arg0)
          ∧ r.2.mem ((c.tc : Thread Cert.AdamLinRefIdeal.nD Cert.AdamLinRefIdeal.τ).loc Cert.AdamLinRefIdeal.main_arg1) = m' ((c.tc : Thread Cert.AdamLinRefIdeal.nD Cert.AdamLinRefIdeal.τ).loc Cert.AdamLinRefIdeal.main_arg1)
          ∧ r.2.mem ((c.tc : Thread Cert.AdamLinRefIdeal.nD Cert.AdamLinRefIdeal.τ).loc Cert.AdamLinRefIdeal.main_arg2) = m' ((c.tc : Thread Cert.AdamLinRefIdeal.nD Cert.AdamLinRefIdeal.τ).loc Cert.AdamLinRefIdeal.main_arg2)
          ∧ r.2.mem ((c.tc : Thread Cert.AdamLinRefIdeal.nD Cert.AdamLinRefIdeal.τ).loc Cert.AdamLinRefIdeal.main_arg3) = m' ((c.tc : Thread Cert.AdamLinRefIdeal.nD Cert.AdamLinRefIdeal.τ).loc Cert.AdamLinRefIdeal.main_arg3))

def preserves_AdamGates_AdamGatesIdeal : Prop :=
  True

def algebraic_AdamGatesIdeal_AdamGatesRefIdeal [hAdamGatesIdeal : Cert.AdamGatesIdeal.Facts] [hAdamGatesRefIdeal : Cert.AdamGatesRefIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg)
    (m' : (ℓ : Loc Cert.AdamGatesRefIdeal.nD Cert.AdamGatesRefIdeal.τ Cert.AdamGatesRefIdeal.sig) → Buf (Elt Ideal) ℓ) (g' : Dev Cert.AdamGatesRefIdeal.nD → PrngReg), Pre_AdamGatesIdeal m →
    (∀ c : Dev Cert.AdamGatesIdeal.nD,
      m' ((c.tc : Thread Cert.AdamGatesRefIdeal.nD Cert.AdamGatesRefIdeal.τ).loc Cert.AdamGatesRefIdeal.main_arg0) = m ((c.tc : Thread Cert.AdamGatesIdeal.nD Cert.AdamGatesIdeal.τ).loc Cert.AdamGatesIdeal.main_arg0)
      ∧ m' ((c.tc : Thread Cert.AdamGatesRefIdeal.nD Cert.AdamGatesRefIdeal.τ).loc Cert.AdamGatesRefIdeal.main_arg1) = m ((c.tc : Thread Cert.AdamGatesIdeal.nD Cert.AdamGatesIdeal.τ).loc Cert.AdamGatesIdeal.main_arg1)
      ∧ m' ((c.tc : Thread Cert.AdamGatesRefIdeal.nD Cert.AdamGatesRefIdeal.τ).loc Cert.AdamGatesRefIdeal.main_arg2) = m ((c.tc : Thread Cert.AdamGatesIdeal.nD Cert.AdamGatesIdeal.τ).loc Cert.AdamGatesIdeal.main_arg2)
      ∧ m' ((c.tc : Thread Cert.AdamGatesRefIdeal.nD Cert.AdamGatesRefIdeal.τ).loc Cert.AdamGatesRefIdeal.main_arg3) = m ((c.tc : Thread Cert.AdamGatesIdeal.nD Cert.AdamGatesIdeal.τ).loc Cert.AdamGatesIdeal.main_arg3)) →
    ∃ (v0 : (c : Dev Cert.AdamGatesIdeal.nD) → Buf (Elt Ideal) ((c.tc : Thread Cert.AdamGatesIdeal.nD Cert.AdamGatesIdeal.τ).loc Cert.AdamGatesIdeal.main_v0_0)) (v1 : (c : Dev Cert.AdamGatesIdeal.nD) → Buf (Elt Ideal) ((c.tc : Thread Cert.AdamGatesIdeal.nD Cert.AdamGatesIdeal.τ).loc Cert.AdamGatesIdeal.main_v0_1)) (v2 : (c : Dev Cert.AdamGatesIdeal.nD) → Buf (Elt Ideal) ((c.tc : Thread Cert.AdamGatesIdeal.nD Cert.AdamGatesIdeal.τ).loc Cert.AdamGatesIdeal.main_v0_2)) (v3 : (c : Dev Cert.AdamGatesIdeal.nD) → Buf (Elt Ideal) ((c.tc : Thread Cert.AdamGatesIdeal.nD Cert.AdamGatesIdeal.τ).loc Cert.AdamGatesIdeal.main_v0_3)),
      θ_run (Cert.AdamGatesIdeal.defs (F := Ideal)) (onTc (τ := Cert.AdamGatesIdeal.τ) (Cert.AdamGatesIdeal.main (F := Ideal))) ⟨m, fun _ => 0, g⟩ (fun r => ∀ c : Dev Cert.AdamGatesIdeal.nD,
          r.2.mem ((c.tc : Thread Cert.AdamGatesIdeal.nD Cert.AdamGatesIdeal.τ).loc Cert.AdamGatesIdeal.main_v0_0) = v0 c
          ∧ r.2.mem ((c.tc : Thread Cert.AdamGatesIdeal.nD Cert.AdamGatesIdeal.τ).loc Cert.AdamGatesIdeal.main_v0_1) = v1 c
          ∧ r.2.mem ((c.tc : Thread Cert.AdamGatesIdeal.nD Cert.AdamGatesIdeal.τ).loc Cert.AdamGatesIdeal.main_v0_2) = v2 c
          ∧ r.2.mem ((c.tc : Thread Cert.AdamGatesIdeal.nD Cert.AdamGatesIdeal.τ).loc Cert.AdamGatesIdeal.main_v0_3) = v3 c
          ∧ r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
          ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
          ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
          ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3))
      ∧ θ_run (Cert.AdamGatesRefIdeal.defs (F := Ideal)) (onTc (τ := Cert.AdamGatesRefIdeal.τ) (Cert.AdamGatesRefIdeal.main (F := Ideal))) ⟨m', fun _ => 0, g'⟩ (fun r => ∀ c : Dev Cert.AdamGatesRefIdeal.nD,
          r.2.mem ((c.tc : Thread Cert.AdamGatesRefIdeal.nD Cert.AdamGatesRefIdeal.τ).loc Cert.AdamGatesRefIdeal.main_arg1) = v0 c
          ∧ r.2.mem ((c.tc : Thread Cert.AdamGatesRefIdeal.nD Cert.AdamGatesRefIdeal.τ).loc Cert.AdamGatesRefIdeal.main_v23) = v1 c
          ∧ r.2.mem ((c.tc : Thread Cert.AdamGatesRefIdeal.nD Cert.AdamGatesRefIdeal.τ).loc Cert.AdamGatesRefIdeal.main_v4) = v2 c
          ∧ r.2.mem ((c.tc : Thread Cert.AdamGatesRefIdeal.nD Cert.AdamGatesRefIdeal.τ).loc Cert.AdamGatesRefIdeal.main_v10) = v3 c
          ∧ r.2.mem ((c.tc : Thread Cert.AdamGatesRefIdeal.nD Cert.AdamGatesRefIdeal.τ).loc Cert.AdamGatesRefIdeal.main_arg0) = m' ((c.tc : Thread Cert.AdamGatesRefIdeal.nD Cert.AdamGatesRefIdeal.τ).loc Cert.AdamGatesRefIdeal.main_arg0)
          ∧ r.2.mem ((c.tc : Thread Cert.AdamGatesRefIdeal.nD Cert.AdamGatesRefIdeal.τ).loc Cert.AdamGatesRefIdeal.main_arg1) = m' ((c.tc : Thread Cert.AdamGatesRefIdeal.nD Cert.AdamGatesRefIdeal.τ).loc Cert.AdamGatesRefIdeal.main_arg1)
          ∧ r.2.mem ((c.tc : Thread Cert.AdamGatesRefIdeal.nD Cert.AdamGatesRefIdeal.τ).loc Cert.AdamGatesRefIdeal.main_arg2) = m' ((c.tc : Thread Cert.AdamGatesRefIdeal.nD Cert.AdamGatesRefIdeal.τ).loc Cert.AdamGatesRefIdeal.main_arg2)
          ∧ r.2.mem ((c.tc : Thread Cert.AdamGatesRefIdeal.nD Cert.AdamGatesRefIdeal.τ).loc Cert.AdamGatesRefIdeal.main_arg3) = m' ((c.tc : Thread Cert.AdamGatesRefIdeal.nD Cert.AdamGatesRefIdeal.τ).loc Cert.AdamGatesRefIdeal.main_arg3))

def preserves_AttnFwd_AttnFwdIdeal : Prop :=
  IdealRules.named_const.Statement Cert.AttnFwdIdeal.κ "mask" .f32 0xF149F2CA#32 ⊥

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v5)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v5) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v71) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v6_0)) (v1 : (c : Dev Cert.MixOutIdeal.nD) → Buf (Elt Ideal) ((c.tc : Thread Cert.MixOutIdeal.nD Cert.MixOutIdeal.τ).loc Cert.MixOutIdeal.main_v6_1)) (v2 : (c : Dev Cert.MixOutIdeal.nD) → Buf (Elt Ideal) ((c.tc : Thread Cert.MixOutIdeal.nD Cert.MixOutIdeal.τ).loc Cert.MixOutIdeal.main_v6_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v6_0) = v0 c
          ∧ r.2.mem ((c.tc : Thread Cert.MixOutIdeal.nD Cert.MixOutIdeal.τ).loc Cert.MixOutIdeal.main_v6_1) = v1 c
          ∧ r.2.mem ((c.tc : Thread Cert.MixOutIdeal.nD Cert.MixOutIdeal.τ).loc Cert.MixOutIdeal.main_v6_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v27) = v0 c
          ∧ r.2.mem ((c.tc : Thread Cert.MixOutRefIdeal.nD Cert.MixOutRefIdeal.τ).loc Cert.MixOutRefIdeal.main_v50) = v1 c
          ∧ r.2.mem ((c.tc : Thread Cert.MixOutRefIdeal.nD Cert.MixOutRefIdeal.τ).loc Cert.MixOutRefIdeal.main_v51) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_LruOut_LruOutIdeal : Prop :=
  True

def algebraic_LruOutIdeal_LruOutRefIdeal [hLruOutIdeal : Cert.LruOutIdeal.Facts] [hLruOutRefIdeal : Cert.LruOutRefIdeal.Facts] : Prop :=
  ∀ (m : (ℓ : Loc Cert.LruOutIdeal.nD Cert.LruOutIdeal.τ Cert.LruOutIdeal.sig) → Buf (Elt Ideal) ℓ) (g : Dev Cert.LruOutIdeal.nD → PrngReg)
    (m' : (ℓ : Loc Cert.LruOutRefIdeal.nD Cert.LruOutRefIdeal.τ Cert.LruOutRefIdeal.sig) → Buf (Elt Ideal) ℓ) (g' : Dev Cert.LruOutRefIdeal.nD → PrngReg), Pre_LruOutIdeal m →
    (∀ c : Dev Cert.LruOutIdeal.nD,
      m' ((c.tc : Thread Cert.LruOutRefIdeal.nD Cert.LruOutRefIdeal.τ).loc Cert.LruOutRefIdeal.main_arg0) = m ((c.tc : Thread Cert.LruOutIdeal.nD Cert.LruOutIdeal.τ).loc Cert.LruOutIdeal.main_arg0)
      ∧ m' ((c.tc : Thread Cert.LruOutRefIdeal.nD Cert.LruOutRefIdeal.τ).loc Cert.LruOutRefIdeal.main_arg1) = m ((c.tc : Thread Cert.LruOutIdeal.nD Cert.LruOutIdeal.τ).loc Cert.LruOutIdeal.main_arg1)) →
    ∃ (v0 : (c : Dev Cert.LruOutIdeal.nD) → Buf (Elt Ideal) ((c.tc : Thread Cert.LruOutIdeal.nD Cert.LruOutIdeal.τ).loc Cert.LruOutIdeal.main_v0)),
      θ_run (Cert.LruOutIdeal.defs (F := Ideal)) (onTc (τ := Cert.LruOutIdeal.τ) (Cert.LruOutIdeal.main (F := Ideal))) ⟨m, fun _ => 0, g⟩ (fun r => ∀ c : Dev Cert.LruOutIdeal.nD,
          r.2.mem ((c.tc : Thread Cert.LruOutIdeal.nD Cert.LruOutIdeal.τ).loc Cert.LruOutIdeal.main_v0) = v0 c
          ∧ r.2.mem ((c.tc : Thread Cert.LruOutIdeal.nD Cert.LruOutIdeal.τ).loc Cert.LruOutIdeal.main_arg0) = m ((c.tc : Thread Cert.LruOutIdeal.nD Cert.LruOutIdeal.τ).loc Cert.LruOutIdeal.main_arg0)
          ∧ r.2.mem ((c.tc : Thread Cert.LruOutIdeal.nD Cert.LruOutIdeal.τ).loc Cert.LruOutIdeal.main_arg1) = m ((c.tc : Thread Cert.LruOutIdeal.nD Cert.LruOutIdeal.τ).loc Cert.LruOutIdeal.main_arg1))
      ∧ θ_run (Cert.LruOutRefIdeal.defs (F := Ideal)) (onTc (τ := Cert.LruOutRefIdeal.τ) (Cert.LruOutRefIdeal.main (F := Ideal))) ⟨m', fun _ => 0, g'⟩ (fun r => ∀ c : Dev Cert.LruOutRefIdeal.nD,
          r.2.mem ((c.tc : Thread Cert.LruOutRefIdeal.nD Cert.LruOutRefIdeal.τ).loc Cert.LruOutRefIdeal.main_v15) = v0 c
          ∧ r.2.mem ((c.tc : Thread Cert.LruOutRefIdeal.nD Cert.LruOutRefIdeal.τ).loc Cert.LruOutRefIdeal.main_arg0) = m' ((c.tc : Thread Cert.LruOutRefIdeal.nD Cert.LruOutRefIdeal.τ).loc Cert.LruOutRefIdeal.main_arg0)
          ∧ r.2.mem ((c.tc : Thread Cert.LruOutRefIdeal.nD Cert.LruOutRefIdeal.τ).loc Cert.LruOutRefIdeal.main_arg1) = m' ((c.tc : Thread Cert.LruOutRefIdeal.nD Cert.LruOutRefIdeal.τ).loc Cert.LruOutRefIdeal.main_arg1))

def preserves_QkvRope_QkvRopeIdeal : Prop :=
  True

def algebraic_QkvRopeIdeal_QkvRopeRefIdeal [hQkvRopeIdeal : Cert.QkvRopeIdeal.Facts] [hQkvRopeRefIdeal : Cert.QkvRopeRefIdeal.Facts] : Prop :=
  ∀ (m : (ℓ : Loc Cert.QkvRopeIdeal.nD Cert.QkvRopeIdeal.τ Cert.QkvRopeIdeal.sig) → Buf (Elt Ideal) ℓ) (g : Dev Cert.QkvRopeIdeal.nD → PrngReg)
    (m' : (ℓ : Loc Cert.QkvRopeRefIdeal.nD Cert.QkvRopeRefIdeal.τ Cert.QkvRopeRefIdeal.sig) → Buf (Elt Ideal) ℓ) (g' : Dev Cert.QkvRopeRefIdeal.nD → PrngReg), Pre_QkvRopeIdeal m →
    (∀ c : Dev Cert.QkvRopeIdeal.nD,
      m' ((c.tc : Thread Cert.QkvRopeRefIdeal.nD Cert.QkvRopeRefIdeal.τ).loc Cert.QkvRopeRefIdeal.main_arg0) = m ((c.tc : Thread Cert.QkvRopeIdeal.nD Cert.QkvRopeIdeal.τ).loc Cert.QkvRopeIdeal.main_arg0)
      ∧ m' ((c.tc : Thread Cert.QkvRopeRefIdeal.nD Cert.QkvRopeRefIdeal.τ).loc Cert.QkvRopeRefIdeal.main_arg1) = m ((c.tc : Thread Cert.QkvRopeIdeal.nD Cert.QkvRopeIdeal.τ).loc Cert.QkvRopeIdeal.main_arg1)
      ∧ m' ((c.tc : Thread Cert.QkvRopeRefIdeal.nD Cert.QkvRopeRefIdeal.τ).loc Cert.QkvRopeRefIdeal.main_arg2) = m ((c.tc : Thread Cert.QkvRopeIdeal.nD Cert.QkvRopeIdeal.τ).loc Cert.QkvRopeIdeal.main_arg2)
      ∧ m' ((c.tc : Thread Cert.QkvRopeRefIdeal.nD Cert.QkvRopeRefIdeal.τ).loc Cert.QkvRopeRefIdeal.main_arg3) = m ((c.tc : Thread Cert.QkvRopeIdeal.nD Cert.QkvRopeIdeal.τ).loc Cert.QkvRopeIdeal.main_arg3)) →
    ∃ (v0 : (c : Dev Cert.QkvRopeIdeal.nD) → Buf (Elt Ideal) ((c.tc : Thread Cert.QkvRopeIdeal.nD Cert.QkvRopeIdeal.τ).loc Cert.QkvRopeIdeal.main_v10)),
      θ_run (Cert.QkvRopeIdeal.defs (F := Ideal)) (onTc (τ := Cert.QkvRopeIdeal.τ) (Cert.QkvRopeIdeal.main (F := Ideal))) ⟨m, fun _ => 0, g⟩ (fun r => ∀ c : Dev Cert.QkvRopeIdeal.nD,
          r.2.mem ((c.tc : Thread Cert.QkvRopeIdeal.nD Cert.QkvRopeIdeal.τ).loc Cert.QkvRopeIdeal.main_v10) = v0 c
          ∧ r.2.mem ((c.tc : Thread Cert.QkvRopeIdeal.nD Cert.QkvRopeIdeal.τ).loc Cert.QkvRopeIdeal.main_arg0) = m ((c.tc : Thread Cert.QkvRopeIdeal.nD Cert.QkvRopeIdeal.τ).loc Cert.QkvRopeIdeal.main_arg0)
          ∧ r.2.mem ((c.tc : Thread Cert.QkvRopeIdeal.nD Cert.QkvRopeIdeal.τ).loc Cert.QkvRopeIdeal.main_arg1) = m ((c.tc : Thread Cert.QkvRopeIdeal.nD Cert.QkvRopeIdeal.τ).loc Cert.QkvRopeIdeal.main_arg1)
          ∧ r.2.mem ((c.tc : Thread Cert.QkvRopeIdeal.nD Cert.QkvRopeIdeal.τ).loc Cert.QkvRopeIdeal.main_arg2) = m ((c.tc : Thread Cert.QkvRopeIdeal.nD Cert.QkvRopeIdeal.τ).loc Cert.QkvRopeIdeal.main_arg2)
          ∧ r.2.mem ((c.tc : Thread Cert.QkvRopeIdeal.nD Cert.QkvRopeIdeal.τ).loc Cert.QkvRopeIdeal.main_arg3) = m ((c.tc : Thread Cert.QkvRopeIdeal.nD Cert.QkvRopeIdeal.τ).loc Cert.QkvRopeIdeal.main_arg3))
      ∧ θ_run (Cert.QkvRopeRefIdeal.defs (F := Ideal)) (onTc (τ := Cert.QkvRopeRefIdeal.τ) (Cert.QkvRopeRefIdeal.main (F := Ideal))) ⟨m', fun _ => 0, g'⟩ (fun r => ∀ c : Dev Cert.QkvRopeRefIdeal.nD,
          r.2.mem ((c.tc : Thread Cert.QkvRopeRefIdeal.nD Cert.QkvRopeRefIdeal.τ).loc Cert.QkvRopeRefIdeal.main_v27) = v0 c
          ∧ r.2.mem ((c.tc : Thread Cert.QkvRopeRefIdeal.nD Cert.QkvRopeRefIdeal.τ).loc Cert.QkvRopeRefIdeal.main_arg0) = m' ((c.tc : Thread Cert.QkvRopeRefIdeal.nD Cert.QkvRopeRefIdeal.τ).loc Cert.QkvRopeRefIdeal.main_arg0)
          ∧ r.2.mem ((c.tc : Thread Cert.QkvRopeRefIdeal.nD Cert.QkvRopeRefIdeal.τ).loc Cert.QkvRopeRefIdeal.main_arg1) = m' ((c.tc : Thread Cert.QkvRopeRefIdeal.nD Cert.QkvRopeRefIdeal.τ).loc Cert.QkvRopeRefIdeal.main_arg1)
          ∧ r.2.mem ((c.tc : Thread Cert.QkvRopeRefIdeal.nD Cert.QkvRopeRefIdeal.τ).loc Cert.QkvRopeRefIdeal.main_arg2) = m' ((c.tc : Thread Cert.QkvRopeRefIdeal.nD Cert.QkvRopeRefIdeal.τ).loc Cert.QkvRopeRefIdeal.main_arg2)
          ∧ r.2.mem ((c.tc : Thread Cert.QkvRopeRefIdeal.nD Cert.QkvRopeRefIdeal.τ).loc Cert.QkvRopeRefIdeal.main_arg3) = m' ((c.tc : Thread Cert.QkvRopeRefIdeal.nD Cert.QkvRopeRefIdeal.τ).loc Cert.QkvRopeRefIdeal.main_arg3))

def Claim : Prop :=
  ∃ (hScan : Cert.Scan.Facts) (hScanIdeal : Cert.ScanIdeal.Facts) (hScanRefIdeal : Cert.ScanRefIdeal.Facts) (hFfnDx : Cert.FfnDx.Facts) (hFfnDxIdeal : Cert.FfnDxIdeal.Facts) (hFfnDxRefIdeal : Cert.FfnDxRefIdeal.Facts) (hFfnDwOut : Cert.FfnDwOut.Facts) (hFfnDwOutIdeal : Cert.FfnDwOutIdeal.Facts) (hFfnDwOutRefIdeal : Cert.FfnDwOutRefIdeal.Facts) (hFfnDwIn : Cert.FfnDwIn.Facts) (hFfnDwInIdeal : Cert.FfnDwInIdeal.Facts) (hFfnDwInRefIdeal : Cert.FfnDwInRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hConv : Cert.Conv.Facts) (hConvIdeal : Cert.ConvIdeal.Facts) (hConvRefIdeal : Cert.ConvRefIdeal.Facts) (hFfnFwd : Cert.FfnFwd.Facts) (hFfnFwdIdeal : Cert.FfnFwdIdeal.Facts) (hFfnFwdRefIdeal : Cert.FfnFwdRefIdeal.Facts) (hMixDw : Cert.MixDw.Facts) (hMixDwIdeal : Cert.MixDwIdeal.Facts) (hMixDwRefIdeal : Cert.MixDwRefIdeal.Facts) (hAttnDwQkv : Cert.AttnDwQkv.Facts) (hAttnDwQkvIdeal : Cert.AttnDwQkvIdeal.Facts) (hAttnDwQkvRefIdeal : Cert.AttnDwQkvRefIdeal.Facts) (hLruDwIn : Cert.LruDwIn.Facts) (hLruDwInIdeal : Cert.LruDwInIdeal.Facts) (hLruDwInRefIdeal : Cert.LruDwInRefIdeal.Facts) (hLruDwGates : Cert.LruDwGates.Facts) (hLruDwGatesIdeal : Cert.LruDwGatesIdeal.Facts) (hLruDwGatesRefIdeal : Cert.LruDwGatesRefIdeal.Facts) (hAttnDo : Cert.AttnDo.Facts) (hAttnDoIdeal : Cert.AttnDoIdeal.Facts) (hAttnDoRefIdeal : Cert.AttnDoRefIdeal.Facts) (hLruDy : Cert.LruDy.Facts) (hLruDyIdeal : Cert.LruDyIdeal.Facts) (hLruDyRefIdeal : Cert.LruDyRefIdeal.Facts) (hAttnDx : Cert.AttnDx.Facts) (hAttnDxIdeal : Cert.AttnDxIdeal.Facts) (hAttnDxRefIdeal : Cert.AttnDxRefIdeal.Facts) (hLruDx : Cert.LruDx.Facts) (hLruDxIdeal : Cert.LruDxIdeal.Facts) (hLruDxRefIdeal : Cert.LruDxRefIdeal.Facts) (hLruDxc : Cert.LruDxc.Facts) (hLruDxcIdeal : Cert.LruDxcIdeal.Facts) (hLruDxcRefIdeal : Cert.LruDxcRefIdeal.Facts) (hLruIn : Cert.LruIn.Facts) (hLruInIdeal : Cert.LruInIdeal.Facts) (hLruInRefIdeal : Cert.LruInRefIdeal.Facts) (hAdamWIn : Cert.AdamWIn.Facts) (hAdamWInIdeal : Cert.AdamWInIdeal.Facts) (hAdamWInRefIdeal : Cert.AdamWInRefIdeal.Facts) (hAdamWOut : Cert.AdamWOut.Facts) (hAdamWOutIdeal : Cert.AdamWOutIdeal.Facts) (hAdamWOutRefIdeal : Cert.AdamWOutRefIdeal.Facts) (hAdamQkv : Cert.AdamQkv.Facts) (hAdamQkvIdeal : Cert.AdamQkvIdeal.Facts) (hAdamQkvRefIdeal : Cert.AdamQkvRefIdeal.Facts) (hAdamSq : Cert.AdamSq.Facts) (hAdamSqIdeal : Cert.AdamSqIdeal.Facts) (hAdamSqRefIdeal : Cert.AdamSqRefIdeal.Facts) (hAdamLin : Cert.AdamLin.Facts) (hAdamLinIdeal : Cert.AdamLinIdeal.Facts) (hAdamLinRefIdeal : Cert.AdamLinRefIdeal.Facts) (hAdamGates : Cert.AdamGates.Facts) (hAdamGatesIdeal : Cert.AdamGatesIdeal.Facts) (hAdamGatesRefIdeal : Cert.AdamGatesRefIdeal.Facts) (hAttnFwd : Cert.AttnFwd.Facts) (hAttnFwdIdeal : Cert.AttnFwdIdeal.Facts) (hAttnFwdRefIdeal : Cert.AttnFwdRefIdeal.Facts) (hMixOut : Cert.MixOut.Facts) (hMixOutIdeal : Cert.MixOutIdeal.Facts) (hMixOutRefIdeal : Cert.MixOutRefIdeal.Facts) (hLruOut : Cert.LruOut.Facts) (hLruOutIdeal : Cert.LruOutIdeal.Facts) (hLruOutRefIdeal : Cert.LruOutRefIdeal.Facts) (hQkvRope : Cert.QkvRope.Facts) (hQkvRopeIdeal : Cert.QkvRopeIdeal.Facts) (hQkvRopeRefIdeal : Cert.QkvRopeRefIdeal.Facts) (hPre_finite_scan : Cert.Pre_finite_scan.Facts) (hPre_finite_ffn : Cert.Pre_finite_ffn.Facts) (hPre_finite_norm : Cert.Pre_finite_norm.Facts),
    quiescent_Scan (hScan := hScan)
    ∧ quiescent_ScanIdeal (hScanIdeal := hScanIdeal)
    ∧ quiescent_ScanIdeal_pre_finite_scan (hScanIdeal := hScanIdeal) (hPre_finite_scan := hPre_finite_scan)
    ∧ quiescent_ScanRefIdeal (hScanRefIdeal := hScanRefIdeal)
    ∧ quiescent_ScanRefIdeal_pre_finite_scan (hScanRefIdeal := hScanRefIdeal) (hPre_finite_scan := hPre_finite_scan)
    ∧ quiescent_FfnDx (hFfnDx := hFfnDx)
    ∧ quiescent_FfnDxIdeal (hFfnDxIdeal := hFfnDxIdeal)
    ∧ quiescent_FfnDxIdeal_pre_finite_ffn (hFfnDxIdeal := hFfnDxIdeal) (hPre_finite_ffn := hPre_finite_ffn)
    ∧ quiescent_FfnDxRefIdeal (hFfnDxRefIdeal := hFfnDxRefIdeal)
    ∧ quiescent_FfnDxRefIdeal_pre_finite_ffn (hFfnDxRefIdeal := hFfnDxRefIdeal) (hPre_finite_ffn := hPre_finite_ffn)
    ∧ quiescent_FfnDwOut (hFfnDwOut := hFfnDwOut)
    ∧ quiescent_FfnDwOutIdeal (hFfnDwOutIdeal := hFfnDwOutIdeal)
    ∧ quiescent_FfnDwOutRefIdeal (hFfnDwOutRefIdeal := hFfnDwOutRefIdeal)
    ∧ quiescent_FfnDwIn (hFfnDwIn := hFfnDwIn)
    ∧ quiescent_FfnDwInIdeal (hFfnDwInIdeal := hFfnDwInIdeal)
    ∧ quiescent_FfnDwInRefIdeal (hFfnDwInRefIdeal := hFfnDwInRefIdeal)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Gate (hGate := hGate)
    ∧ quiescent_GateIdeal (hGateIdeal := hGateIdeal)
    ∧ quiescent_GateRefIdeal (hGateRefIdeal := hGateRefIdeal)
    ∧ quiescent_Conv (hConv := hConv)
    ∧ quiescent_ConvIdeal (hConvIdeal := hConvIdeal)
    ∧ quiescent_ConvRefIdeal (hConvRefIdeal := hConvRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_AttnDwQkv (hAttnDwQkv := hAttnDwQkv)
    ∧ quiescent_AttnDwQkvIdeal (hAttnDwQkvIdeal := hAttnDwQkvIdeal)
    ∧ quiescent_AttnDwQkvRefIdeal (hAttnDwQkvRefIdeal := hAttnDwQkvRefIdeal)
    ∧ quiescent_LruDwIn (hLruDwIn := hLruDwIn)
    ∧ quiescent_LruDwInIdeal (hLruDwInIdeal := hLruDwInIdeal)
    ∧ quiescent_LruDwInRefIdeal (hLruDwInRefIdeal := hLruDwInRefIdeal)
    ∧ quiescent_LruDwGates (hLruDwGates := hLruDwGates)
    ∧ quiescent_LruDwGatesIdeal (hLruDwGatesIdeal := hLruDwGatesIdeal)
    ∧ quiescent_LruDwGatesRefIdeal (hLruDwGatesRefIdeal := hLruDwGatesRefIdeal)
    ∧ quiescent_AttnDo (hAttnDo := hAttnDo)
    ∧ quiescent_AttnDoIdeal (hAttnDoIdeal := hAttnDoIdeal)
    ∧ quiescent_AttnDoRefIdeal (hAttnDoRefIdeal := hAttnDoRefIdeal)
    ∧ quiescent_LruDy (hLruDy := hLruDy)
    ∧ quiescent_LruDyIdeal (hLruDyIdeal := hLruDyIdeal)
    ∧ quiescent_LruDyRefIdeal (hLruDyRefIdeal := hLruDyRefIdeal)
    ∧ quiescent_AttnDx (hAttnDx := hAttnDx)
    ∧ quiescent_AttnDxIdeal (hAttnDxIdeal := hAttnDxIdeal)
    ∧ quiescent_AttnDxRefIdeal (hAttnDxRefIdeal := hAttnDxRefIdeal)
    ∧ quiescent_LruDx (hLruDx := hLruDx)
    ∧ quiescent_LruDxIdeal (hLruDxIdeal := hLruDxIdeal)
    ∧ quiescent_LruDxRefIdeal (hLruDxRefIdeal := hLruDxRefIdeal)
    ∧ quiescent_LruDxc (hLruDxc := hLruDxc)
    ∧ quiescent_LruDxcIdeal (hLruDxcIdeal := hLruDxcIdeal)
    ∧ quiescent_LruDxcRefIdeal (hLruDxcRefIdeal := hLruDxcRefIdeal)
    ∧ quiescent_LruIn (hLruIn := hLruIn)
    ∧ quiescent_LruInIdeal (hLruInIdeal := hLruInIdeal)
    ∧ quiescent_LruInRefIdeal (hLruInRefIdeal := hLruInRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamQkv (hAdamQkv := hAdamQkv)
    ∧ quiescent_AdamQkvIdeal (hAdamQkvIdeal := hAdamQkvIdeal)
    ∧ quiescent_AdamQkvRefIdeal (hAdamQkvRefIdeal := hAdamQkvRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamLin (hAdamLin := hAdamLin)
    ∧ quiescent_AdamLinIdeal (hAdamLinIdeal := hAdamLinIdeal)
    ∧ quiescent_AdamLinRefIdeal (hAdamLinRefIdeal := hAdamLinRefIdeal)
    ∧ quiescent_AdamGates (hAdamGates := hAdamGates)
    ∧ quiescent_AdamGatesIdeal (hAdamGatesIdeal := hAdamGatesIdeal)
    ∧ quiescent_AdamGatesRefIdeal (hAdamGatesRefIdeal := hAdamGatesRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_LruOut (hLruOut := hLruOut)
    ∧ quiescent_LruOutIdeal (hLruOutIdeal := hLruOutIdeal)
    ∧ quiescent_LruOutRefIdeal (hLruOutRefIdeal := hLruOutRefIdeal)
    ∧ quiescent_QkvRope (hQkvRope := hQkvRope)
    ∧ quiescent_QkvRopeIdeal (hQkvRopeIdeal := hQkvRopeIdeal)
    ∧ quiescent_QkvRopeRefIdeal (hQkvRopeRefIdeal := hQkvRopeRefIdeal)
    ∧ preserves_Scan_ScanIdeal
    ∧ algebraic_ScanIdeal_ScanRefIdeal_pre_finite_scan (hScanIdeal := hScanIdeal) (hScanRefIdeal := hScanRefIdeal) (hPre_finite_scan := hPre_finite_scan)
    ∧ preserves_FfnDx_FfnDxIdeal
    ∧ algebraic_FfnDxIdeal_FfnDxRefIdeal_pre_finite_ffn (hFfnDxIdeal := hFfnDxIdeal) (hFfnDxRefIdeal := hFfnDxRefIdeal) (hPre_finite_ffn := hPre_finite_ffn)
    ∧ preserves_FfnDwOut_FfnDwOutIdeal
    ∧ algebraic_FfnDwOutIdeal_FfnDwOutRefIdeal (hFfnDwOutIdeal := hFfnDwOutIdeal) (hFfnDwOutRefIdeal := hFfnDwOutRefIdeal)
    ∧ preserves_FfnDwIn_FfnDwInIdeal
    ∧ algebraic_FfnDwInIdeal_FfnDwInRefIdeal (hFfnDwInIdeal := hFfnDwInIdeal) (hFfnDwInRefIdeal := hFfnDwInRefIdeal)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Gate_GateIdeal
    ∧ algebraic_GateIdeal_GateRefIdeal (hGateIdeal := hGateIdeal) (hGateRefIdeal := hGateRefIdeal)
    ∧ preserves_Conv_ConvIdeal
    ∧ algebraic_ConvIdeal_ConvRefIdeal (hConvIdeal := hConvIdeal) (hConvRefIdeal := hConvRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_MixDw_MixDwIdeal
    ∧ algebraic_MixDwIdeal_MixDwRefIdeal (hMixDwIdeal := hMixDwIdeal) (hMixDwRefIdeal := hMixDwRefIdeal)
    ∧ preserves_AttnDwQkv_AttnDwQkvIdeal
    ∧ algebraic_AttnDwQkvIdeal_AttnDwQkvRefIdeal (hAttnDwQkvIdeal := hAttnDwQkvIdeal) (hAttnDwQkvRefIdeal := hAttnDwQkvRefIdeal)
    ∧ preserves_LruDwIn_LruDwInIdeal
    ∧ algebraic_LruDwInIdeal_LruDwInRefIdeal (hLruDwInIdeal := hLruDwInIdeal) (hLruDwInRefIdeal := hLruDwInRefIdeal)
    ∧ preserves_LruDwGates_LruDwGatesIdeal
    ∧ algebraic_LruDwGatesIdeal_LruDwGatesRefIdeal (hLruDwGatesIdeal := hLruDwGatesIdeal) (hLruDwGatesRefIdeal := hLruDwGatesRefIdeal)
    ∧ preserves_AttnDo_AttnDoIdeal
    ∧ algebraic_AttnDoIdeal_AttnDoRefIdeal (hAttnDoIdeal := hAttnDoIdeal) (hAttnDoRefIdeal := hAttnDoRefIdeal)
    ∧ preserves_LruDy_LruDyIdeal
    ∧ algebraic_LruDyIdeal_LruDyRefIdeal (hLruDyIdeal := hLruDyIdeal) (hLruDyRefIdeal := hLruDyRefIdeal)
    ∧ preserves_AttnDx_AttnDxIdeal
    ∧ algebraic_AttnDxIdeal_AttnDxRefIdeal (hAttnDxIdeal := hAttnDxIdeal) (hAttnDxRefIdeal := hAttnDxRefIdeal)
    ∧ preserves_LruDx_LruDxIdeal
    ∧ algebraic_LruDxIdeal_LruDxRefIdeal (hLruDxIdeal := hLruDxIdeal) (hLruDxRefIdeal := hLruDxRefIdeal)
    ∧ preserves_LruDxc_LruDxcIdeal
    ∧ algebraic_LruDxcIdeal_LruDxcRefIdeal (hLruDxcIdeal := hLruDxcIdeal) (hLruDxcRefIdeal := hLruDxcRefIdeal)
    ∧ preserves_LruIn_LruInIdeal
    ∧ algebraic_LruInIdeal_LruInRefIdeal (hLruInIdeal := hLruInIdeal) (hLruInRefIdeal := hLruInRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamQkv_AdamQkvIdeal
    ∧ algebraic_AdamQkvIdeal_AdamQkvRefIdeal (hAdamQkvIdeal := hAdamQkvIdeal) (hAdamQkvRefIdeal := hAdamQkvRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamLin_AdamLinIdeal
    ∧ algebraic_AdamLinIdeal_AdamLinRefIdeal (hAdamLinIdeal := hAdamLinIdeal) (hAdamLinRefIdeal := hAdamLinRefIdeal)
    ∧ preserves_AdamGates_AdamGatesIdeal
    ∧ algebraic_AdamGatesIdeal_AdamGatesRefIdeal (hAdamGatesIdeal := hAdamGatesIdeal) (hAdamGatesRefIdeal := hAdamGatesRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_MixOut_MixOutIdeal
    ∧ algebraic_MixOutIdeal_MixOutRefIdeal (hMixOutIdeal := hMixOutIdeal) (hMixOutRefIdeal := hMixOutRefIdeal)
    ∧ preserves_LruOut_LruOutIdeal
    ∧ algebraic_LruOutIdeal_LruOutRefIdeal (hLruOutIdeal := hLruOutIdeal) (hLruOutRefIdeal := hLruOutRefIdeal)
    ∧ preserves_QkvRope_QkvRopeIdeal
    ∧ algebraic_QkvRopeIdeal_QkvRopeRefIdeal (hQkvRopeIdeal := hQkvRopeIdeal) (hQkvRopeRefIdeal := hQkvRopeRefIdeal)
-- ==== Pre_finite_ffn.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x1024x5632 : S_.BroadcastsInDim S4x1024x5632 (![] : Fin 0 → Fin S4x1024x5632.rank)
  reducesTo_S4x1024x5632_S_d0_1_2 : S4x1024x5632.ReducesTo [0, 1, 2] S_
  bcast_S_S4x2816x1024 : S_.BroadcastsInDim S4x2816x1024 (![] : Fin 0 → Fin S4x2816x1024.rank)
  reducesTo_S4x2816x1024_S_d0_1_2 : S4x2816x1024.ReducesTo [0, 1, 2] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S4x1024x5632 .f32) (main_arg2 : FVec F S4x2816x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4x1024x5632 .f32 := Host.absf main_arg1
  let main_cst_0 : FVec F S_ .f32 := constant S_ .f32 0x7F800000#32
  let main_v5 : FVec F S4x1024x5632 .f32 := broadcastInDim S4x1024x5632 ![] bcast_S_S4x1024x5632 main_cst_0
  let main_v6 : IVec S4x1024x5632 1 := cmpf .olt main_v4 main_v5
  let main_c_1 : IVec S_ 1 := constantI S_ 1 1#1
  let main_v7 : IVec S_ 1 := (fun x v => Host.reduce IntOp.andi x v reducesTo_S4x1024x5632_S_d0_1_2 h_S_) main_v6 main_c_1
  let main_v8 : IVec S_ 1 := andi main_v3 main_v7
  let main_v9 : FVec F S4x2816x1024 .f32 := Host.absf main_arg2
  let main_cst_2 : FVec F S_ .f32 := constant S_ .f32 0x7F800000#32
  let main_v10 : FVec F S4x2816x1024 .f32 := broadcastInDim S4x2816x1024 ![] bcast_S_S4x2816x1024 main_cst_2
  let main_v11 : IVec S4x2816x1024 1 := cmpf .olt main_v9 main_v10
  let main_c_3 : IVec S_ 1 := constantI S_ 1 1#1
  let main_v12 : IVec S_ 1 := (fun x v => Host.reduce IntOp.andi x v reducesTo_S4x2816x1024_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_norm.lean ====
abbrev S8192x1024 : Shape := ⟨2, ![8192, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x1024 .f32) (main_arg1 : FVec F S1024 .f32) (main_arg2 : FVec F S1024 .f32) (main_arg3 : FVec F S8192x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S8192x1024 .f32 := Host.absf main_arg3
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_finite_scan.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Scan.lean ====
abbrev S8192x1024 : Shape := ⟨2, ![8192, 1024]⟩
abbrev S512x1024 : Shape := ⟨2, ![512, 1024]⟩
abbrev S8x1024 : Shape := ⟨2, ![8, 1024]⟩
abbrev S1x1024 : Shape := ⟨2, ![1, 1024]⟩
abbrev S1024 : Shape := ⟨1, ![1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_3 : BitVec 32 := 0#32
  let c64_i32 : BitVec 32 := 64#32
  let v6 : BitVec 32 := Scalar.addi c0_i32_3 c64_i32
  let c1_i32 : BitVec 32 := 1#32
  ⟨c0_i32_3, v6, c1_i32⟩
def k0_mult1 (k0_t1 : Fin k0_t1_loop.trips) : BitVec 32 :=
  let c63_i32 : BitVec 32 := 63#32
  let c0_i32_3 : BitVec 32 := 0#32
  let c1_i32 : BitVec 32 := 1#32
  let arg5 : BitVec 32 := Scf.iv c0_i32_3 c1_i32 k0_t1
  let v14 : BitVec 32 := Scalar.subi c63_i32 arg5
  let c8_i32 : BitVec 32 := 8#32
  let v15 : BitVec 32 := Scalar.muli v14 c8_i32
  v15
def k0_off1 (k0_t1 : Fin k0_t1_loop.trips) : Fin 2 → Nat :=
  let c63_i32 : BitVec 32 := 63#32
  let c0_i32_3 : BitVec 32 := 0#32
  let c1_i32 : BitVec 32 := 1#32
  let arg5 : BitVec 32 := Scf.iv c0_i32_3 c1_i32 k0_t1
  let v14 : BitVec 32 := Scalar.subi c63_i32 arg5
  let c8_i32 : BitVec 32 := 8#32
  let v15 : BitVec 32 := Scalar.muli v14 c8_i32
  let v16 : BitVec 32 := v15
  let v17 : Index := Scalar.indexCast v16
  let c0_9 : Index := 0#32
  ![v17.toNat, 0]
def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ScanRefIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S_, .i32⟩
  | .hbm, ⟨9, _⟩ => ⟨S8192x1024, .f32⟩
  | .hbm, ⟨10, _⟩ => ⟨S8192x1024, .f32⟩
  | .hbm, ⟨11, _⟩ => ⟨S_, .i32⟩
  | .hbm, ⟨12, _⟩ => ⟨S1024, .f32⟩
  | .hbm, ⟨13, _⟩ => ⟨S8192x1024, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1024, .f32⟩
  | .hbm, ⟨22, _⟩ => ⟨S1024, .f32⟩
  | .hbm, ⟨23, _⟩ => ⟨S_, .i32⟩
  | .hbm, ⟨24, _⟩ => ⟨S1x1024, .f32⟩
  | .hbm, ⟨25, _⟩ => ⟨S1024, .f32⟩
  | .hbm, ⟨26, _⟩ => ⟨S1024, .f32⟩
  | .hbm, ⟨27, _⟩ => ⟨S1024, .f32⟩
  | .hbm, ⟨28, _⟩ => ⟨S1x1024, .f32⟩
  | .hbm, ⟨29, _⟩ => ⟨S_, .i32⟩
  | .hbm, ⟨30, _⟩ => ⟨S8192x1024, .f32⟩
  | .hbm, ⟨31, _⟩ => ⟨S_, .i32⟩
  | .hbm, ⟨32, _⟩ => ⟨S_, .i32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_c : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_while0c_c_6 : Ref sig .tc := ⟨.hbm, 14, rfl⟩
abbrev main_while0c_v4 : Ref sig .tc := ⟨.hbm, 15, rfl⟩
abbrev main_while0b_c_6 : Ref sig .tc := ⟨.hbm, 16, rfl⟩
abbrev main_while0b_v4 : Ref sig .tc := ⟨.hbm, 17, rfl⟩
abbrev main_while0b_c_7 : Ref sig .tc := ⟨.hbm, 18, rfl⟩
abbrev main_while0b_v5 : Ref sig .tc := ⟨.hbm, 19, rfl⟩
abbrev main_while0b_call0_c : Ref sig .tc := ⟨.hbm, 20, rfl⟩
abbrev main_while0b_call0_v0 : Ref sig .tc := ⟨.hbm, 21, rfl⟩
abbrev main_while0b_v6 : Ref sig .tc := ⟨.hbm, 22, rfl⟩
abbrev main_while0b_call1_c : Ref sig .tc := ⟨.hbm, 23, rfl⟩
abbrev main_while0b_call1_v0 : Ref sig .tc := ⟨.hbm, 24, rfl⟩
abbrev main_while0b_v7 : Ref sig .tc := ⟨.hbm, 25, rfl⟩
abbrev main_while0b_v8 : Ref sig .tc := ⟨.hbm, 26, rfl⟩
abbrev main_while0b_v9 : Ref sig .tc := ⟨.hbm, 27, rfl⟩
abbrev main_while0b_call2_v0 : Ref sig .tc := ⟨.hbm, 28, rfl⟩
abbrev main_while0b_call2_c : Ref sig .tc := ⟨.hbm, 29, rfl⟩
abbrev main_while0b_v10 : Ref sig .tc := ⟨.hbm, 30, rfl⟩
abbrev main_while0b_c_8 : Ref sig .tc := ⟨.hbm, 31, rfl⟩
abbrev main_while0b_v11 : Ref sig .tc := ⟨.hbm, 32, rfl⟩

abbrev nD : Nat := 1
abbrev τ : Topo := Topo.v7x

variable {F : FTy → Type} [FloatOps F]

abbrev main_while0_count : Scf.Loop 32 := ⟨0#32, 8192#32, 1#32⟩
-- ==== FfnDx.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S4x1024x1408 : Shape := ⟨3, ![4, 1024, 1408]⟩
abbrev S8192x5632 : Shape := ⟨2, ![8192, 5632]⟩
abbrev S8192x2816 : Shape := ⟨2, ![8192, 2816]⟩
abbrev S1024x1024 : Shape := ⟨2, ![1024, 1024]⟩
abbrev S1x1024x2816 : Shape := ⟨3, ![1, 1024, 2816]⟩
abbrev S1024x2816 : Shape := ⟨2, ![1024, 2816]⟩
abbrev S1024x1408 : Shape := ⟨2, ![1024, 1408]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S_ : Shape := ⟨0, ![]⟩
abbrev S1x1408x1024 : Shape := ⟨3, ![1, 1408, 1024]⟩
abbrev S1x256x1024 : Shape := ⟨3, ![1, 256, 1024]⟩
abbrev S256x1024 : Shape := ⟨2, ![256, 1024]⟩
abbrev S1x128x1024 : Shape := ⟨3, ![1, 128, 1024]⟩
abbrev S128x1024 : Shape := ⟨2, ![128, 1024]⟩
abbrev S1024x5632 : Shape := ⟨2, ![1024, 5632]⟩
abbrev S1x1024x5632 : Shape := ⟨3, ![1, 1024, 5632]⟩

abbrev nBuf : Space → Nat
  | .hbm => 20
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x2816x1024, .f32⟩
  | .hbm, ⟨3, _⟩ => ⟨S8192x1024, .f32⟩
  | .hbm, ⟨4, _⟩ => ⟨S4x1024x5632, .bf16⟩
  | .hbm, ⟨5, _⟩ => ⟨S4x1024x1408, .bf16⟩
  | .hbm, ⟨6, _⟩ => ⟨S4x1024x1408, .bf16⟩
  | .hbm, ⟨7, _⟩ => ⟨S4x1024x1408, .bf16⟩
  | .hbm, ⟨8, _⟩ => ⟨S4x1024x1408, .bf16⟩
  | .hbm, ⟨9, _⟩ => ⟨S4x1024x5632, .bf16⟩
  | .hbm, ⟨10, _⟩ => ⟨S4x2816x1024, .bf16⟩
  | .hbm, ⟨11, _⟩ => ⟨S8192x1024, .bf16⟩
  | .hbm, ⟨12, _⟩ => ⟨S8192x5632, .bf16⟩
  | .hbm, ⟨13, _⟩ => ⟨S8192x2816, .bf16⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .bf16⟩
  | .hbm, ⟨18, _⟩ => ⟨S8192x5632, .bf16⟩
  | .hbm, ⟨19, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .bf16⟩
  | .local _ .vmem, ⟨9, _⟩ => ⟨S1024x1024, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S1024x2816, .bf16⟩
  | .local _ .vmem, ⟨13, _⟩ => ⟨S1024x2816, .bf16⟩
  | .local _ .vmem, ⟨14, _⟩ => ⟨S1024x2816, .bf16⟩
  | .local _ .vmem, ⟨15, _⟩ => ⟨S1024x2816, .bf16⟩
  | .local _ .vmem, ⟨16, _⟩ => ⟨S1024x5632, .bf16⟩
  | .local _ .vmem, ⟨17, _⟩ => ⟨S1024x5632, .bf16⟩
  | .local _ .vmem, ⟨18, _⟩ => ⟨S1x1024x5632, .bf16⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![8, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage2_0 : Fin 2 → Memref sig .tc .vmem S1024x5632 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, false]

abbrev stage2_1 : Fin 1 → Memref sig .tc .vmem S1x1024x5632 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]
-- ==== FfnDxRefIdeal.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x2816x1024, .f32⟩
  | .hbm, ⟨3, _⟩ => ⟨S8192x1024, .f32⟩
  | .hbm, ⟨4, _⟩ => ⟨S1x1024x5632, .f32⟩
  | .hbm, ⟨5, _⟩ => ⟨S1024x5632, .f32⟩
  | .hbm, ⟨6, _⟩ => ⟨S1x2816x1024, .f32⟩
  | .hbm, ⟨7, _⟩ => ⟨S2816x1024, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x5632, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== FfnDwOut.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S1x2816x1024 : Shape := ⟨3, ![1, 2816, 1024]⟩
abbrev S4096x1408 : Shape := ⟨2, ![4096, 1408]⟩
abbrev S4096x512 : Shape := ⟨2, ![4096, 512]⟩
abbrev S1x1408x512 : Shape := ⟨3, ![1, 1408, 512]⟩
abbrev S1408x512 : Shape := ⟨2, ![1408, 512]⟩

abbrev nBuf : Space → Nat
  | .hbm => 25
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x2816x1024, .f32⟩
  | .hbm, ⟨3, _⟩ => ⟨S8192x1024, .f32⟩
  | .hbm, ⟨4, _⟩ => ⟨S1x1024x5632, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S1x2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1x1408x512, .bf16⟩
  | .local _ .vmem, ⟨5, _⟩ => ⟨S1x1408x512, .bf16⟩
  | .local _ .vmem, ⟨6, _⟩ => ⟨S1408x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwOutRefIdeal.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S1x2816x1024 : Shape := ⟨3, ![1, 2816, 1024]⟩
abbrev S2816x1024 : Shape := ⟨2, ![2816, 1024]⟩
abbrev S1x1024x5632 : Shape := ⟨3, ![1, 1024, 5632]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S1024x2816 : Shape := ⟨2, ![1024, 2816]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x2816x1024, .f32⟩
  | .hbm, ⟨3, _⟩ => ⟨S8192x1024, .f32⟩
  | .hbm, ⟨4, _⟩ => ⟨S1x2816x1024, .f32⟩
  | .hbm, ⟨5, _⟩ => ⟨S2816x1024, .f32⟩
  | .hbm, ⟨6, _⟩ => ⟨S1x1024x5632, .f32⟩
  | .hbm, ⟨7, _⟩ => ⟨S1024x5632, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S1024x2816, .f32⟩
  | .hbm, ⟨33, _⟩ => ⟨S2816x1024, .f32⟩
  | .hbm, ⟨34, _⟩ => ⟨S2816x1024, .bf16⟩
  | .hbm, ⟨35, _⟩ => ⟨S1x2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== FfnDwIn.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S1x2816x1024 : Shape := ⟨3, ![1, 2816, 1024]⟩
abbrev S2816x1024 : Shape := ⟨2, ![2816, 1024]⟩
abbrev S8192x1408 : Shape := ⟨2, ![8192, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩
abbrev S1x1024x1408 : Shape := ⟨3, ![1, 1024, 1408]⟩

abbrev nBuf : Space → Nat
  | .hbm => 53
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x2816x1024, .f32⟩
  | .hbm, ⟨3, _⟩ => ⟨S8192x1024, .f32⟩
  | .hbm, ⟨4, _⟩ => ⟨S1x1024x5632, .f32⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S1x2816x1024, .f32⟩
  | .hbm, ⟨24, _⟩ => ⟨S2816x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x5632, .f32⟩
  | .hbm, ⟨40, _⟩ => ⟨S8192x1408, .f32⟩
  | .hbm, ⟨41, _⟩ => ⟨S8192x1408, .f32⟩
  | .hbm, ⟨42, _⟩ => ⟨S8192x1408, .f32⟩
  | .hbm, ⟨43, _⟩ => ⟨S8192x1408, .f32⟩
  | .hbm, ⟨44, _⟩ => ⟨S8192x5632, .f32⟩
  | .hbm, ⟨45, _⟩ => ⟨S8192x5632, .bf16⟩
  | .hbm, ⟨46, _⟩ => ⟨S8192x1024, .bf16⟩
  | .hbm, ⟨47, _⟩ => ⟨S1x1024x5632, .bf16⟩
  | .hbm, ⟨48, _⟩ => ⟨S1x1024x1408, .bf16⟩
  | .hbm, ⟨49, _⟩ => ⟨S1x1024x1408, .bf16⟩
  | .hbm, ⟨50, _⟩ => ⟨S1x1024x1408, .bf16⟩
  | .hbm, ⟨51, _⟩ => ⟨S1x1024x1408, .bf16⟩
  | .hbm, ⟨52, _⟩ => ⟨S1x1024x5632, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v5_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v5_1 : Ref sig .tc := ⟨.hbm, 20, rfl⟩
abbrev main_v5_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwInRefIdeal.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S5632x1024 : Shape := ⟨2, ![5632, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x2816x1024, .f32⟩
  | .hbm, ⟨3, _⟩ => ⟨S8192x1024, .f32⟩
  | .hbm, ⟨4, _⟩ => ⟨S1x1024x5632, .f32⟩
  | .hbm, ⟨5, _⟩ => ⟨S1024x5632, .f32⟩
  | .hbm, ⟨6, _⟩ => ⟨S1x2816x1024, .f32⟩
  | .hbm, ⟨7, _⟩ => ⟨S2816x1024, .f32⟩
  | .hbm, ⟨8, _⟩ => ⟨S8192x5632, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x5632, .f32⟩
  | .hbm, ⟨44, _⟩ => ⟨S5632x1024, .f32⟩
  | .hbm, ⟨45, _⟩ => ⟨S1024x5632, .f32⟩
  | .hbm, ⟨46, _⟩ => ⟨S1024x5632, .bf16⟩
  | .hbm, ⟨47, _⟩ => ⟨S1x1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v9_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v9_1 : Ref sig .tc := ⟨.hbm, 25, rfl⟩
abbrev main_v9_0 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== Norm.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 31
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x128, .f32⟩
  | .hbm, ⟨26, _⟩ => ⟨S1x1024, .f32⟩
  | .hbm, ⟨27, _⟩ => ⟨S8192x1024, .f32⟩
  | .hbm, ⟨28, _⟩ => ⟨S8192x1024, .bf16⟩
  | .hbm, ⟨29, _⟩ => ⟨S1x1024, .f32⟩
  | .hbm, ⟨30, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S8192x1024, .bf16⟩
  | .hbm, ⟨81, _⟩ => ⟨S1x1024, .f32⟩
  | .hbm, ⟨82, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Gate.lean ====
abbrev S8192x1024 : Shape := ⟨2, ![8192, 1024]⟩
abbrev S8192x2048 : Shape := ⟨2, ![8192, 2048]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateRefIdeal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Conv.lean ====
abbrev S8192x2048 : Shape := ⟨2, ![8192, 2048]⟩
abbrev S4x1024 : Shape := ⟨2, ![4, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S8x1024 : Shape := ⟨2, ![8, 1024]⟩
abbrev S512x2048 : Shape := ⟨2, ![512, 2048]⟩
abbrev S520x1024 : Shape := ⟨2, ![520, 1024]⟩

abbrev nBuf : Space → Nat
  | .hbm => 16
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S4x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x2048, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S8x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x2048, .bf16⟩
  | .local _ .vmem, ⟨15, _⟩ => ⟨S512x2048, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v5_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvRefIdeal.lean ====
abbrev S8192x2048 : Shape := ⟨2, ![8192, 2048]⟩
abbrev S4x1024 : Shape := ⟨2, ![4, 1024]⟩
abbrev S1024 : Shape := ⟨1, ![1024]⟩
abbrev S8192x1024 : Shape := ⟨2, ![8192, 1024]⟩
abbrev S_ : Shape := ⟨0, ![]⟩
abbrev S3x1024 : Shape := ⟨2, ![3, 1024]⟩
abbrev S8195x1024 : Shape := ⟨2, ![8195, 1024]⟩
abbrev S1x1024 : Shape := ⟨2, ![1, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S3x1024, .f32⟩
  | .hbm, ⟨8, _⟩ => ⟨S8195x1024, .f32⟩
  | .hbm, ⟨9, _⟩ => ⟨S_, .f32⟩
  | .hbm, ⟨10, _⟩ => ⟨S3x1024, .f32⟩
  | .hbm, ⟨11, _⟩ => ⟨S8192x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S_, .f32⟩
  | .hbm, ⟨49, _⟩ => ⟨S1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S4x1024, .f32⟩
  | .hbm, ⟨61, _⟩ => ⟨S_, .f32⟩
  | .hbm, ⟨62, _⟩ => ⟨S8195x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S_, .f32⟩
  | .hbm, ⟨73, _⟩ => ⟨S4x1024, .f32⟩
  | .hbm, ⟨74, _⟩ => ⟨S4x1024, .f32⟩
  | .hbm, ⟨75, _⟩ => ⟨S_, .f32⟩
  | .hbm, ⟨76, _⟩ => ⟨S8195x1024, .f32⟩
  | .hbm, ⟨77, _⟩ => ⟨S8195x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S1024, .f32⟩
  | .hbm, ⟨86, _⟩ => ⟨S1x1024, .f32⟩
  | .hbm, ⟨87, _⟩ => ⟨S_, .f32⟩
  | .hbm, ⟨88, _⟩ => ⟨S4x1024, .f32⟩
  | .hbm, ⟨89, _⟩ => ⟨S4x1024, .f32⟩
  | .hbm, ⟨90, _⟩ => ⟨S_, .f32⟩
  | .hbm, ⟨91, _⟩ => ⟨S8195x1024, .f32⟩
  | .hbm, ⟨92, _⟩ => ⟨S8195x1024, .f32⟩
  | .hbm, ⟨93, _⟩ => ⟨S8192x1024, .f32⟩
  | .hbm, ⟨94, _⟩ => ⟨S_, .f32⟩
  | .hbm, ⟨95, _⟩ => ⟨S1024, .f32⟩
  | .hbm, ⟨96, _⟩ => ⟨S1x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S_, .f32⟩
  | .hbm, ⟨103, _⟩ => ⟨S4x1024, .f32⟩
  | .hbm, ⟨104, _⟩ => ⟨S4x1024, .f32⟩
  | .hbm, ⟨105, _⟩ => ⟨S_, .f32⟩
  | .hbm, ⟨106, _⟩ => ⟨S8195x1024, .f32⟩
  | .hbm, ⟨107, _⟩ => ⟨S8195x1024, .f32⟩
  | .hbm, ⟨108, _⟩ => ⟨S3x1024, .f32⟩
  | .hbm, ⟨109, _⟩ => ⟨S8192x1024, .f32⟩
  | .hbm, ⟨110, _⟩ => ⟨S8192x2048, .f32⟩
  | .hbm, ⟨111, _⟩ => ⟨S8192x2048, .bf16⟩
  | .hbm, ⟨112, _⟩ => ⟨S1x1024, .f32⟩
  | .hbm, ⟨113, _⟩ => ⟨S1x1024, .f32⟩
  | .hbm, ⟨114, _⟩ => ⟨S1x1024, .f32⟩
  | .hbm, ⟨115, _⟩ => ⟨S1x1024, .f32⟩
  | .hbm, ⟨116, _⟩ => ⟨S1x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_cst_4 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_cst_7 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_v55 : Ref sig .tc := ⟨.hbm, 71, rfl⟩
abbrev main_cst_10 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_cst_15 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_16 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_17 : Ref sig .tc := ⟨.hbm, 99, rfl⟩
abbrev main_v76 : Ref sig .tc := ⟨.hbm, 100, rfl⟩
abbrev main_v77 : Ref sig .tc := ⟨.hbm, 101, rfl⟩
abbrev main_cst_18 : Ref sig .tc := ⟨.hbm, 102, rfl⟩
abbrev main_v78 : Ref sig .tc := ⟨.hbm, 103, rfl⟩
abbrev main_v79 : Ref sig .tc := ⟨.hbm, 104, rfl⟩
abbrev main_cst_19 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]
-- ==== FfnFwd.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S1024 : Shape := ⟨1, ![1024]⟩
abbrev S4x1024x1408 : Shape := ⟨3, ![4, 1024, 1408]⟩
abbrev S8192x5632 : Shape := ⟨2, ![8192, 5632]⟩
abbrev S8192x2816 : Shape := ⟨2, ![8192, 2816]⟩
abbrev S1024x1024 : Shape := ⟨2, ![1024, 1024]⟩
abbrev S1x1024x2816 : Shape := ⟨3, ![1, 1024, 2816]⟩
abbrev S1024x2816 : Shape := ⟨2, ![1024, 2816]⟩
abbrev S1024x1408 : Shape := ⟨2, ![1024, 1408]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S_ : Shape := ⟨0, ![]⟩
abbrev S1x1024 : Shape := ⟨2, ![1, 1024]⟩
abbrev S8192x128 : Shape := ⟨2, ![8192, 128]⟩
abbrev S1x2816x1024 : Shape := ⟨3, ![1, 2816, 1024]⟩
abbrev S2816x1024 : Shape := ⟨2, ![2816, 1024]⟩
abbrev S1024x1 : Shape := ⟨2, ![1024, 1]⟩

abbrev nBuf : Space → Nat
  | .hbm => 24
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x2816x1024, .f32⟩
  | .hbm, ⟨3, _⟩ => ⟨S1024, .f32⟩
  | .hbm, ⟨4, _⟩ => ⟨S1024, .f32⟩
  | .hbm, ⟨5, _⟩ => ⟨S8192x1024, .bf16⟩
  | .hbm, ⟨6, _⟩ => ⟨S4x1024x5632, .bf16⟩
  | .hbm, ⟨7, _⟩ => ⟨S4x1024x1408, .bf16⟩
  | .hbm, ⟨8, _⟩ => ⟨S4x1024x1408, .bf16⟩
  | .hbm, ⟨9, _⟩ => ⟨S4x1024x1408, .bf16⟩
  | .hbm, ⟨10, _⟩ => ⟨S4x1024x1408, .bf16⟩
  | .hbm, ⟨11, _⟩ => ⟨S4x1024x5632, .bf16⟩
  | .hbm, ⟨12, _⟩ => ⟨S8192x5632, .bf16⟩
  | .hbm, ⟨13, _⟩ => ⟨S8192x2816, .bf16⟩
  | .hbm, ⟨14, _⟩ => ⟨S_, .f32⟩
  | .hbm, ⟨15, _⟩ => ⟨S1x1024, .f32⟩
  | .hbm, ⟨16, _⟩ => ⟨S_, .f32⟩
  | .hbm, ⟨17, _⟩ => ⟨S1x1024, .f32⟩
  | .hbm, ⟨18, _⟩ => ⟨S4x2816x1024, .bf16⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S8192x1024, .bf16⟩
  | .hbm, ⟨23, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x2816, .bf16⟩
  | .local _ .vmem, ⟨5, _⟩ => ⟨S1024x2816, .bf16⟩
  | .local _ .vmem, ⟨6, _⟩ => ⟨S1024x1408, .bf16⟩
  | .local _ .vmem, ⟨7, _⟩ => ⟨S1024x1408, .bf16⟩
  | .local _ .vmem, ⟨8, _⟩ => ⟨S1024x2816, .bf16⟩
  | .local _ .vmem, ⟨9, _⟩ => ⟨S1024x2816, .bf16⟩
  | .local _ .vmem, ⟨10, _⟩ => ⟨S1x2816x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .bf16⟩
  | .local _ .vmem, ⟨20, _⟩ => ⟨S1024x1024, .bf16⟩
  | .local _ .vmem, ⟨21, _⟩ => ⟨S1024x128, .f32⟩
  | .local _ .vmem, ⟨22, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S1x2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S1024x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false, false]

abbrev stage1_9 : Fin 2 → Memref sig .tc .vmem S1024x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false, false]
-- ==== FfnFwdRefIdeal.lean ====
abbrev S8192x1024 : Shape := ⟨2, ![8192, 1024]⟩
abbrev S4x1024x5632 : Shape := ⟨3, ![4, 1024, 5632]⟩
abbrev S4x2816x1024 : Shape := ⟨3, ![4, 2816, 1024]⟩
abbrev S1024 : Shape := ⟨1, ![1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x128 : Shape := ⟨2, ![8192, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x1024x5632, .f32⟩
  | .hbm, ⟨2, _⟩ => ⟨S4x2816x1024, .f32⟩
  | .hbm, ⟨3, _⟩ => ⟨S1024, .f32⟩
  | .hbm, ⟨4, _⟩ => ⟨S1024, .f32⟩
  | .hbm, ⟨5, _⟩ => ⟨S1x1024x5632, .f32⟩
  | .hbm, ⟨6, _⟩ => ⟨S1024x5632, .f32⟩
  | .hbm, ⟨7, _⟩ => ⟨S1x2816x1024, .f32⟩
  | .hbm, ⟨8, _⟩ => ⟨S2816x1024, .f32⟩
  | .hbm, ⟨9, _⟩ => ⟨S8192x5632, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x1, .f32⟩
  | .hbm, ⟨70, _⟩ => ⟨S8192x1024, .f32⟩
  | .hbm, ⟨71, _⟩ => ⟨S8192x1024, .f32⟩
  | .hbm, ⟨72, _⟩ => ⟨S1x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .bf16⟩
  | .hbm, ⟨79, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_cst_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩

abbrev nD : Nat := 1
abbrev τ : Topo := Topo.v7x

variable {F : FTy → Type} [FloatOps F]
-- ==== MixDw.lean ====
abbrev S8192x1024 : Shape := ⟨2, ![8192, 1024]⟩
abbrev S1024x1024 : Shape := ⟨2, ![1024, 1024]⟩
abbrev S1x1024x1024 : Shape := ⟨3, ![1, 1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixDwRefIdeal.lean ====
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | .hbm, ⟨7, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnDwQkv.lean ====
abbrev S8192x1024 : Shape := ⟨2, ![8192, 1024]⟩
abbrev S1024x1536 : Shape := ⟨2, ![1024, 1536]⟩
abbrev S8192x1536 : Shape := ⟨2, ![8192, 1536]⟩
abbrev S1x1024x1536 : Shape := ⟨3, ![1, 1024, 1536]⟩
abbrev S2048x1024 : Shape := ⟨2, ![2048, 1024]⟩
abbrev S2048x1536 : Shape := ⟨2, ![2048, 1536]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1024, .bf16⟩
  | .hbm, ⟨4, _⟩ => ⟨S8192x1536, .bf16⟩
  | .hbm, ⟨5, _⟩ => ⟨S1x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnDwQkvRefIdeal.lean ====
abbrev S8192x1024 : Shape := ⟨2, ![8192, 1024]⟩
abbrev S1024x1536 : Shape := ⟨2, ![1024, 1536]⟩
abbrev S8192x1536 : Shape := ⟨2, ![8192, 1536]⟩
abbrev S1536x1024 : Shape := ⟨2, ![1536, 1024]⟩
abbrev S1x1024x1536 : Shape := ⟨3, ![1, 1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x1536, .f32⟩
  | .hbm, ⟨3, _⟩ => ⟨S8192x1536, .f32⟩
  | .hbm, ⟨4, _⟩ => ⟨S1536x1024, .f32⟩
  | .hbm, ⟨5, _⟩ => ⟨S1024x1536, .f32⟩
  | .hbm, ⟨6, _⟩ => ⟨S1024x1536, .bf16⟩
  | .hbm, ⟨7, _⟩ => ⟨S1x1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruDwIn.lean ====
abbrev S8192x1024 : Shape := ⟨2, ![8192, 1024]⟩
abbrev S1024x2048 : Shape := ⟨2, ![1024, 2048]⟩
abbrev S8192x2048 : Shape := ⟨2, ![8192, 2048]⟩
abbrev S1x1024x2048 : Shape := ⟨3, ![1, 1024, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S1x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LruDwInRefIdeal.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1x1024x2048 : Shape := ⟨3, ![1, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | .hbm, ⟨7, _⟩ => ⟨S1x1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruDwGates.lean ====
abbrev S8192x1024 : Shape := ⟨2, ![8192, 1024]⟩
abbrev S4x256x512 : Shape := ⟨3, ![4, 256, 512]⟩
abbrev S8192x2048 : Shape := ⟨2, ![8192, 2048]⟩
abbrev S1x4x256x512 : Shape := ⟨4, ![1, 4, 256, 512]⟩
abbrev S2048x256 : Shape := ⟨2, ![2048, 256]⟩
abbrev S2048x512 : Shape := ⟨2, ![2048, 512]⟩
abbrev S1x1x256x512 : Shape := ⟨4, ![1, 1, 256, 512]⟩
abbrev S256x512 : Shape := ⟨2, ![256, 512]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S4x256x512, .f32⟩
  | .hbm, ⟨2, _⟩ => ⟨S8192x2048, .f32⟩
  | .hbm, ⟨3, _⟩ => ⟨S8192x1024, .bf16⟩
  | .hbm, ⟨4, _⟩ => ⟨S8192x2048, .bf16⟩
  | .hbm, ⟨5, _⟩ => ⟨S1x4x256x512, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S1x1x256x512, .bf16⟩
  | .local _ .vmem, ⟨5, _⟩ => ⟨S1x1x256x512, .bf16⟩
  | .local _ .vmem, ⟨6, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== LruDwGatesRefIdeal.lean ====
abbrev S8192x1024 : Shape := ⟨2, ![8192, 1024]⟩
abbrev S4x256x512 : Shape := ⟨3, ![4, 256, 512]⟩
abbrev S8192x2048 : Shape := ⟨2, ![8192, 2048]⟩
abbrev S8192x4x256 : Shape := ⟨3, ![8192, 4, 256]⟩
abbrev S4x512x8192 : Shape := ⟨3, ![4, 512, 8192]⟩
abbrev S8192x4x512 : Shape := ⟨3, ![8192, 4, 512]⟩
abbrev S4x512x256 : Shape := ⟨3, ![4, 512, 256]⟩
abbrev S1x4x256x512 : Shape := ⟨4, ![1, 4, 256, 512]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x256x512, .f32⟩
  | .hbm, ⟨2, _⟩ => ⟨S8192x2048, .f32⟩
  | .hbm, ⟨3, _⟩ => ⟨S8192x4x256, .f32⟩
  | .hbm, ⟨4, _⟩ => ⟨S4x512x8192, .f32⟩
  | .hbm, ⟨5, _⟩ => ⟨S8192x4x512, .f32⟩
  | .hbm, ⟨6, _⟩ => ⟨S8192x2048, .f32⟩
  | .hbm, ⟨7, _⟩ => ⟨S8192x4x512, .f32⟩
  | .hbm, ⟨8, _⟩ => ⟨S4x512x8192, .f32⟩
  | .hbm, ⟨9, _⟩ => ⟨S4x512x256, .f32⟩
  | .hbm, ⟨10, _⟩ => ⟨S4x256x512, .f32⟩
  | .hbm, ⟨11, _⟩ => ⟨S4x256x512, .bf16⟩
  | .hbm, ⟨12, _⟩ => ⟨S1x4x256x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnDo.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .f32⟩
  | .hbm, ⟨2, _⟩ => ⟨S8192x1024, .f32⟩
  | .hbm, ⟨3, _⟩ => ⟨S8192x1024, .bf16⟩
  | .hbm, ⟨4, _⟩ => ⟨S2x1024x1024, .bf16⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== AttnDoRefIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .f32⟩
  | .hbm, ⟨2, _⟩ => ⟨S8192x1024, .f32⟩
  | .hbm, ⟨3, _⟩ => ⟨S1x1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LruDy.lean ====
abbrev S8192x1024 : Shape := ⟨2, ![8192, 1024]⟩
abbrev S2x1024x1024 : Shape := ⟨3, ![2, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .f32⟩
  | .hbm, ⟨2, _⟩ => ⟨S8192x1024, .f32⟩
  | .hbm, ⟨3, _⟩ => ⟨S8192x1024, .bf16⟩
  | .hbm, ⟨4, _⟩ => ⟨S2x1024x1024, .bf16⟩
  | .hbm, ⟨5, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== LruDyRefIdeal.lean ====
abbrev S8192x1024 : Shape := ⟨2, ![8192, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .f32⟩
  | .hbm, ⟨2, _⟩ => ⟨S8192x1024, .f32⟩
  | .hbm, ⟨3, _⟩ => ⟨S1x1024x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnDx.lean ====
abbrev S8192x1024 : Shape := ⟨2, ![8192, 1024]⟩
abbrev S2x1024x1536 : Shape := ⟨3, ![2, 1024, 1536]⟩
abbrev S8192x1536 : Shape := ⟨2, ![8192, 1536]⟩
abbrev S512x1536 : Shape := ⟨2, ![512, 1536]⟩
abbrev S1x1024x1536 : Shape := ⟨3, ![1, 1024, 1536]⟩
abbrev S512x1024 : Shape := ⟨2, ![512, 1024]⟩
abbrev S1024x1536 : Shape := ⟨2, ![1024, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x1024x1536, .f32⟩
  | .hbm, ⟨2, _⟩ => ⟨S8192x1024, .f32⟩
  | .hbm, ⟨3, _⟩ => ⟨S8192x1536, .f32⟩
  | .hbm, ⟨4, _⟩ => ⟨S8192x1536, .bf16⟩
  | .hbm, ⟨5, _⟩ => ⟨S2x1024x1536, .bf16⟩
  | .hbm, ⟨6, _⟩ => ⟨S8192x1024, .f32⟩
  | .local _ .vmem, ⟨0, _⟩ => ⟨S512x1536, .bf16⟩
  | .local _ .vmem, ⟨1, _⟩ => ⟨S512x1536, .bf16⟩
  | .local _ .vmem, ⟨2, _⟩ => ⟨S1x1024x1536, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== AttnDxRefIdeal.lean ====
abbrev S8192x1024 : Shape := ⟨2, ![8192, 1024]⟩
abbrev S2x1024x1536 : Shape := ⟨3, ![2, 1024, 1536]⟩
abbrev S8192x1536 : Shape := ⟨2, ![8192, 1536]⟩
abbrev S_ : Shape := ⟨0, ![]⟩
abbrev S1x1024x1536 : Shape := ⟨3, ![1, 1024, 1536]⟩
abbrev S1024x1536 : Shape := ⟨2, ![1024, 1536]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1536, .f32⟩
  | .hbm, ⟨2, _⟩ => ⟨S8192x1024, .f32⟩
  | .hbm, ⟨3, _⟩ => ⟨S8192x1536, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S1x1024x1536, .f32⟩
  | .hbm, ⟨8, _⟩ => ⟨S1024x1536, .f32⟩
  | .hbm, ⟨9, _⟩ => ⟨S8192x1536, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== LruDx.lean ====
abbrev S8192x1024 : Shape := ⟨2, ![8192, 1024]⟩
abbrev S2x1024x2048 : Shape := ⟨3, ![2, 1024, 2048]⟩
abbrev S8192x2048 : Shape := ⟨2, ![8192, 2048]⟩
abbrev S512x2048 : Shape := ⟨2, ![512, 2048]⟩
abbrev S1x1024x2048 : Shape := ⟨3, ![1, 1024, 2048]⟩
abbrev S512x1024 : Shape := ⟨2, ![512, 1024]⟩
abbrev S1024x2048 : Shape := ⟨2, ![1024, 2048]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S8192x1024, .f32⟩
  | .hbm, ⟨3, _⟩ => ⟨S8192x2048, .f32⟩
  | .hbm, ⟨4, _⟩ => ⟨S8192x2048, .bf16⟩
  | .hbm, ⟨5, _⟩ => ⟨S2x1024x2048, .bf16⟩
  | .hbm, ⟨6, _⟩ => ⟨S8192x1024, .f32⟩
  | .local _ .vmem, ⟨0, _⟩ => ⟨S512x2048, .bf16⟩
  | .local _ .vmem, ⟨1, _⟩ => ⟨S512x2048, .bf16⟩
  | .local _ .vmem, ⟨2, _⟩ => ⟨S1x1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== LruDxRefIdeal.lean ====
abbrev S8192x1024 : Shape := ⟨2, ![8192, 1024]⟩
abbrev S2x1024x2048 : Shape := ⟨3, ![2, 1024, 2048]⟩
abbrev S8192x2048 : Shape := ⟨2, ![8192, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S8192x1024, .f32⟩
  | .hbm, ⟨3, _⟩ => ⟨S8192x2048, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S1x1024x2048, .f32⟩
  | .hbm, ⟨8, _⟩ => ⟨S1024x2048, .f32⟩
  | .hbm, ⟨9, _⟩ => ⟨S8192x2048, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== LruDxc.lean ====
abbrev S8192x1024 : Shape := ⟨2, ![8192, 1024]⟩
abbrev S2x4x256x512 : Shape := ⟨4, ![2, 4, 256, 512]⟩
abbrev S8192x2048 : Shape := ⟨2, ![8192, 2048]⟩
abbrev S512x512 : Shape := ⟨2, ![512, 512]⟩
abbrev S1x1x256x512 : Shape := ⟨4, ![1, 1, 256, 512]⟩
abbrev S512x256 : Shape := ⟨2, ![512, 256]⟩
abbrev S256x512 : Shape := ⟨2, ![256, 512]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S2x4x256x512, .f32⟩
  | .hbm, ⟨2, _⟩ => ⟨S8192x1024, .f32⟩
  | .hbm, ⟨3, _⟩ => ⟨S8192x2048, .f32⟩
  | .hbm, ⟨4, _⟩ => ⟨S8192x2048, .bf16⟩
  | .hbm, ⟨5, _⟩ => ⟨S2x4x256x512, .bf16⟩
  | .hbm, ⟨6, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S1x1x256x512, .bf16⟩
  | .local _ .vmem, ⟨3, _⟩ => ⟨S1x1x256x512, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LruDxcRefIdeal.lean ====
abbrev S8192x1024 : Shape := ⟨2, ![8192, 1024]⟩
abbrev S2x4x256x512 : Shape := ⟨4, ![2, 4, 256, 512]⟩
abbrev S8192x2048 : Shape := ⟨2, ![8192, 2048]⟩
abbrev S1x4x256x512 : Shape := ⟨4, ![1, 4, 256, 512]⟩
abbrev S4x256x512 : Shape := ⟨3, ![4, 256, 512]⟩
abbrev S8192x4x256 : Shape := ⟨3, ![8192, 4, 256]⟩
abbrev S4x512x8192 : Shape := ⟨3, ![4, 512, 8192]⟩
abbrev S8192x4x512 : Shape := ⟨3, ![8192, 4, 512]⟩
abbrev S4x8192x256 : Shape := ⟨3, ![4, 8192, 256]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4x256x512, .f32⟩
  | .hbm, ⟨2, _⟩ => ⟨S8192x1024, .f32⟩
  | .hbm, ⟨3, _⟩ => ⟨S8192x2048, .f32⟩
  | .hbm, ⟨4, _⟩ => ⟨S1x4x256x512, .f32⟩
  | .hbm, ⟨5, _⟩ => ⟨S4x256x512, .f32⟩
  | .hbm, ⟨6, _⟩ => ⟨S8192x4x256, .f32⟩
  | .hbm, ⟨7, _⟩ => ⟨S4x512x8192, .f32⟩
  | .hbm, ⟨8, _⟩ => ⟨S8192x4x512, .f32⟩
  | .hbm, ⟨9, _⟩ => ⟨S8192x2048, .f32⟩
  | .hbm, ⟨10, _⟩ => ⟨S8192x4x512, .f32⟩
  | .hbm, ⟨11, _⟩ => ⟨S4x512x8192, .f32⟩
  | .hbm, ⟨12, _⟩ => ⟨S4x8192x256, .f32⟩
  | .hbm, ⟨13, _⟩ => ⟨S8192x4x256, .f32⟩
  | .hbm, ⟨14, _⟩ => ⟨S8192x1024, .f32⟩
  | .hbm, ⟨15, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== LruIn.lean ====
abbrev S8192x1024 : Shape := ⟨2, ![8192, 1024]⟩
abbrev S2x1024x2048 : Shape := ⟨3, ![2, 1024, 2048]⟩
abbrev S8192x2048 : Shape := ⟨2, ![8192, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S8192x1024, .bf16⟩
  | .hbm, ⟨3, _⟩ => ⟨S2x1024x2048, .bf16⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S1x1024x2048, .bf16⟩
  | .local _ .vmem, ⟨3, _⟩ => ⟨S512x2048, .f32⟩
  | .local _ .vmem, ⟨4, _⟩ => ⟨S512x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== LruInRefIdeal.lean ====
abbrev S8192x1024 : Shape := ⟨2, ![8192, 1024]⟩
abbrev S2x1024x2048 : Shape := ⟨3, ![2, 1024, 2048]⟩
abbrev S1x1024x2048 : Shape := ⟨3, ![1, 1024, 2048]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x2048, .f32⟩
  | .hbm, ⟨2, _⟩ => ⟨S1x1024x2048, .f32⟩
  | .hbm, ⟨3, _⟩ => ⟨S1024x2048, .f32⟩
  | .hbm, ⟨4, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AdamWIn.lean ====
abbrev S4096x1408 : Shape := ⟨2, ![4096, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInIdeal.lean ====
abbrev S4096x1408 : Shape := ⟨2, ![4096, 1408]⟩
abbrev S256x1408 : Shape := ⟨2, ![256, 1408]⟩

abbrev nBuf : Space → Nat
  | .hbm => 8
  | .vmem => 16
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInRefIdeal.lean ====
abbrev S4096x1408 : Shape := ⟨2, ![4096, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S4096x1408, .f32⟩
  | .hbm, ⟨2, _⟩ => ⟨S4096x1408, .f32⟩
  | .hbm, ⟨3, _⟩ => ⟨S4096x1408, .f32⟩
  | .hbm, ⟨4, _⟩ => ⟨S_, .f32⟩
  | .hbm, ⟨5, _⟩ => ⟨S4096x1408, .f32⟩
  | .hbm, ⟨6, _⟩ => ⟨S4096x1408, .f32⟩
  | .hbm, ⟨7, _⟩ => ⟨S_, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S_, .f32⟩
  | .hbm, ⟨12, _⟩ => ⟨S4096x1408, .f32⟩
  | .hbm, ⟨13, _⟩ => ⟨S4096x1408, .f32⟩
  | .hbm, ⟨14, _⟩ => ⟨S4096x1408, .f32⟩
  | .hbm, ⟨15, _⟩ => ⟨S_, .f32⟩
  | .hbm, ⟨16, _⟩ => ⟨S4096x1408, .f32⟩
  | .hbm, ⟨17, _⟩ => ⟨S4096x1408, .f32⟩
  | .hbm, ⟨18, _⟩ => ⟨S4096x1408, .f32⟩
  | .hbm, ⟨19, _⟩ => ⟨S_, .f32⟩
  | .hbm, ⟨20, _⟩ => ⟨S4096x1408, .f32⟩
  | .hbm, ⟨21, _⟩ => ⟨S4096x1408, .f32⟩
  | .hbm, ⟨22, _⟩ => ⟨S_, .f32⟩
  | .hbm, ⟨23, _⟩ => ⟨S4096x1408, .f32⟩
  | .hbm, ⟨24, _⟩ => ⟨S4096x1408, .f32⟩
  | .hbm, ⟨25, _⟩ => ⟨S4096x1408, .f32⟩
  | .hbm, ⟨26, _⟩ => ⟨S_, .f32⟩
  | .hbm, ⟨27, _⟩ => ⟨S4096x1408, .f32⟩
  | .hbm, ⟨28, _⟩ => ⟨S4096x1408, .f32⟩
  | .hbm, ⟨29, _⟩ => ⟨S4096x1408, .f32⟩
  | .hbm, ⟨30, _⟩ => ⟨S_, .f32⟩
  | .hbm, ⟨31, _⟩ => ⟨S4096x1408, .f32⟩
  | .hbm, ⟨32, _⟩ => ⟨S4096x1408, .f32⟩
  | .hbm, ⟨33, _⟩ => ⟨S4096x1408, .f32⟩
  | .hbm, ⟨34, _⟩ => ⟨S_, .f32⟩
  | .hbm, ⟨35, _⟩ => ⟨S4096x1408, .f32⟩
  | .hbm, ⟨36, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S2816x1024 : Shape := ⟨2, ![2816, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWOutIdeal.lean ====
abbrev S2816x1024 : Shape := ⟨2, ![2816, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S2816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWOutRefIdeal.lean ====
abbrev S2816x1024 : Shape := ⟨2, ![2816, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2816x1024, .f32⟩
  | .hbm, ⟨1, _⟩ => ⟨S2816x1024, .f32⟩
  | .hbm, ⟨2, _⟩ => ⟨S2816x1024, .f32⟩
  | .hbm, ⟨3, _⟩ => ⟨S2816x1024, .f32⟩
  | .hbm, ⟨4, _⟩ => ⟨S_, .f32⟩
  | .hbm, ⟨5, _⟩ => ⟨S2816x1024, .f32⟩
  | .hbm, ⟨6, _⟩ => ⟨S2816x1024, .f32⟩
  | .hbm, ⟨7, _⟩ => ⟨S_, .f32⟩
  | .hbm, ⟨8, _⟩ => ⟨S2816x1024, .f32⟩
  | .hbm, ⟨9, _⟩ => ⟨S2816x1024, .f32⟩
  | .hbm, ⟨10, _⟩ => ⟨S2816x1024, .f32⟩
  | .hbm, ⟨11, _⟩ => ⟨S_, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S_, .f32⟩
  | .hbm, ⟨16, _⟩ => ⟨S2816x1024, .f32⟩
  | .hbm, ⟨17, _⟩ => ⟨S2816x1024, .f32⟩
  | .hbm, ⟨18, _⟩ => ⟨S2816x1024, .f32⟩
  | .hbm, ⟨19, _⟩ => ⟨S_, .f32⟩
  | .hbm, ⟨20, _⟩ => ⟨S2816x1024, .f32⟩
  | .hbm, ⟨21, _⟩ => ⟨S2816x1024, .f32⟩
  | .hbm, ⟨22, _⟩ => ⟨S_, .f32⟩
  | .hbm, ⟨23, _⟩ => ⟨S2816x1024, .f32⟩
  | .hbm, ⟨24, _⟩ => ⟨S2816x1024, .f32⟩
  | .hbm, ⟨25, _⟩ => ⟨S2816x1024, .f32⟩
  | .hbm, ⟨26, _⟩ => ⟨S_, .f32⟩
  | .hbm, ⟨27, _⟩ => ⟨S2816x1024, .f32⟩
  | .hbm, ⟨28, _⟩ => ⟨S2816x1024, .f32⟩
  | .hbm, ⟨29, _⟩ => ⟨S2816x1024, .f32⟩
  | .hbm, ⟨30, _⟩ => ⟨S_, .f32⟩
  | .hbm, ⟨31, _⟩ => ⟨S2816x1024, .f32⟩
  | .hbm, ⟨32, _⟩ => ⟨S2816x1024, .f32⟩
  | .hbm, ⟨33, _⟩ => ⟨S2816x1024, .f32⟩
  | .hbm, ⟨34, _⟩ => ⟨S_, .f32⟩
  | .hbm, ⟨35, _⟩ => ⟨S2816x1024, .f32⟩
  | .hbm, ⟨36, _⟩ => ⟨S2816x1024, .f32⟩
  | _, _ => ⟨S2816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQkv.lean ====
abbrev S2048x384 : Shape := ⟨2, ![2048, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQkvIdeal.lean ====
abbrev S2048x384 : Shape := ⟨2, ![2048, 384]⟩
abbrev S256x384 : Shape := ⟨2, ![256, 384]⟩

abbrev nBuf : Space → Nat
  | .hbm => 8
  | .vmem => 16
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .f32⟩
  | .hbm, ⟨6, _⟩ => ⟨S2048x384, .f32⟩
  | .hbm, ⟨7, _⟩ => ⟨S2048x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S2048x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamQkvRefIdeal.lean ====
abbrev S2048x384 : Shape := ⟨2, ![2048, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x384, .f32⟩
  | .hbm, ⟨1, _⟩ => ⟨S2048x384, .f32⟩
  | .hbm, ⟨2, _⟩ => ⟨S2048x384, .f32⟩
  | .hbm, ⟨3, _⟩ => ⟨S2048x384, .f32⟩
  | .hbm, ⟨4, _⟩ => ⟨S_, .f32⟩
  | .hbm, ⟨5, _⟩ => ⟨S2048x384, .f32⟩
  | .hbm, ⟨6, _⟩ => ⟨S2048x384, .f32⟩
  | .hbm, ⟨7, _⟩ => ⟨S_, .f32⟩
  | .hbm, ⟨8, _⟩ => ⟨S2048x384, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S2048x384, .f32⟩
  | .hbm, ⟨15, _⟩ => ⟨S_, .f32⟩
  | .hbm, ⟨16, _⟩ => ⟨S2048x384, .f32⟩
  | .hbm, ⟨17, _⟩ => ⟨S2048x384, .f32⟩
  | .hbm, ⟨18, _⟩ => ⟨S2048x384, .f32⟩
  | .hbm, ⟨19, _⟩ => ⟨S_, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S2048x384, .f32⟩
  | .hbm, ⟨30, _⟩ => ⟨S_, .f32⟩
  | .hbm, ⟨31, _⟩ => ⟨S2048x384, .f32⟩
  | .hbm, ⟨32, _⟩ => ⟨S2048x384, .f32⟩
  | .hbm, ⟨33, _⟩ => ⟨S2048x384, .f32⟩
  | .hbm, ⟨34, _⟩ => ⟨S_, .f32⟩
  | .hbm, ⟨35, _⟩ => ⟨S2048x384, .f32⟩
  | .hbm, ⟨36, _⟩ => ⟨S2048x384, .f32⟩
  | _, _ => ⟨S2048x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSq.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSqIdeal.lean ====
abbrev S512x1024 : Shape := ⟨2, ![512, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSqRefIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamLin.lean ====
abbrev S2048x512 : Shape := ⟨2, ![2048, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLinIdeal.lean ====
abbrev S2048x512 : Shape := ⟨2, ![2048, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLinRefIdeal.lean ====
abbrev S2048x512 : Shape := ⟨2, ![2048, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S2048x512, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGates.lean ====
abbrev S512x256 : Shape := ⟨2, ![512, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamGatesRefIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AttnFwd.lean ====
abbrev S8192x1024 : Shape := ⟨2, ![8192, 1024]⟩
abbrev S8192x256 : Shape := ⟨2, ![8192, 256]⟩
abbrev S16 : Shape := ⟨1, ![16]⟩
abbrev S_ : Shape := ⟨0, ![]⟩
abbrev S8192x1536 : Shape := ⟨2, ![8192, 1536]⟩
abbrev S1x16 : Shape := ⟨2, ![1, 16]⟩
abbrev S128x1024 : Shape := ⟨2, ![128, 1024]⟩
abbrev S128x256 : Shape := ⟨2, ![128, 256]⟩
abbrev S512x256 : Shape := ⟨2, ![512, 256]⟩
abbrev S256x256 : Shape := ⟨2, ![256, 256]⟩
abbrev S128x64 : Shape := ⟨2, ![128, 64]⟩
abbrev S512x64 : Shape := ⟨2, ![512, 64]⟩
abbrev S256x64 : Shape := ⟨2, ![256, 64]⟩
abbrev S512x1 : Shape := ⟨2, ![512, 1]⟩
abbrev S1x1 : Shape := ⟨2, ![1, 1]⟩
abbrev S512 : Shape := ⟨1, ![512]⟩

abbrev nBuf : Space → Nat
  | .hbm => 11
  | .vmem => 12
  | .smem => 1
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S16, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1536, .f32⟩
  | .hbm, ⟨8, _⟩ => ⟨S8192x1536, .bf16⟩
  | .hbm, ⟨9, _⟩ => ⟨S1x16, .f32⟩
  | .hbm, ⟨10, _⟩ => ⟨S8192x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x1024, .bf16⟩
  | .local _ .vmem, ⟨11, _⟩ => ⟨S128x1024, .bf16⟩
  | .local _ .smem, ⟨0, _⟩ => ⟨S1x16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S8192x1024 : Shape := ⟨2, ![8192, 1024]⟩
abbrev S8192x256 : Shape := ⟨2, ![8192, 256]⟩
abbrev S16 : Shape := ⟨1, ![16]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S_ : Shape := ⟨0, ![]⟩
abbrev S63x128x4x64 : Shape := ⟨4, ![63, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S4x4 : Shape := ⟨2, ![4, 4]⟩
abbrev S1x4x4x1x1 : Shape := ⟨5, ![1, 4, 4, 1, 1]⟩
abbrev S64x4x4x128 : Shape := ⟨4, ![64, 4, 4, 128]⟩
abbrev S64x4x4x128x1 : Shape := ⟨5, ![64, 4, 4, 128, 1]⟩
abbrev S64x4x64x4x128 : Shape := ⟨5, ![64, 4, 64, 4, 128]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S16, .f32⟩
  | .hbm, ⟨4, _⟩ => ⟨S64x128x4x4x64, .f32⟩
  | .hbm, ⟨5, _⟩ => ⟨S64x128x4x64, .f32⟩
  | .hbm, ⟨6, _⟩ => ⟨S1x128x4x64, .f32⟩
  | .hbm, ⟨7, _⟩ => ⟨S_, .f32⟩
  | .hbm, ⟨8, _⟩ => ⟨S1x128x4x64, .f32⟩
  | .hbm, ⟨9, _⟩ => ⟨S63x128x4x64, .f32⟩
  | .hbm, ⟨10, _⟩ => ⟨S64x128x4x64, .f32⟩
  | .hbm, ⟨11, _⟩ => ⟨S64x256x4x64, .f32⟩
  | .hbm, ⟨12, _⟩ => ⟨S64x128x4x64, .f32⟩
  | .hbm, ⟨13, _⟩ => ⟨S1x128x4x64, .f32⟩
  | .hbm, ⟨14, _⟩ => ⟨S_, .f32⟩
  | .hbm, ⟨15, _⟩ => ⟨S1x128x4x64, .f32⟩
  | .hbm, ⟨16, _⟩ => ⟨S63x128x4x64, .f32⟩
  | .hbm, ⟨17, _⟩ => ⟨S64x128x4x64, .f32⟩
  | .hbm, ⟨18, _⟩ => ⟨S64x256x4x64, .f32⟩
  | .hbm, ⟨19, _⟩ => ⟨S64x4x256x128x4, .f32⟩
  | .hbm, ⟨20, _⟩ => ⟨S64x4x4x128x256, .f32⟩
  | .hbm, ⟨21, _⟩ => ⟨S_, .f32⟩
  | .hbm, ⟨22, _⟩ => ⟨S64x4x4x128x256, .f32⟩
  | .hbm, ⟨23, _⟩ => ⟨S64x4x4x128x256, .f32⟩
  | .hbm, ⟨24, _⟩ => ⟨S128, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S64, .i32⟩
  | .hbm, ⟨35, _⟩ => ⟨S64x1, .i32⟩
  | .hbm, ⟨36, _⟩ => ⟨S_, .i32⟩
  | .hbm, ⟨37, _⟩ => ⟨S64x1, .i32⟩
  | .hbm, ⟨38, _⟩ => ⟨S64x1, .i32⟩
  | .hbm, ⟨39, _⟩ => ⟨S_, .i32⟩
  | .hbm, ⟨40, _⟩ => ⟨S64x1, .i32⟩
  | .hbm, ⟨41, _⟩ => ⟨S64x1, .i32⟩
  | .hbm, ⟨42, _⟩ => ⟨S256, .i32⟩
  | .hbm, ⟨43, _⟩ => ⟨S1x256, .i32⟩
  | .hbm, ⟨44, _⟩ => ⟨S64x256, .i32⟩
  | .hbm, ⟨45, _⟩ => ⟨S64x256, .i32⟩
  | .hbm, ⟨46, _⟩ => ⟨S64x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .i1⟩
  | .hbm, ⟨54, _⟩ => ⟨S1x128x256, .i1⟩
  | .hbm, ⟨55, _⟩ => ⟨S_, .i32⟩
  | .hbm, ⟨56, _⟩ => ⟨S64x256, .i32⟩
  | .hbm, ⟨57, _⟩ => ⟨S64x256, .i1⟩
  | .hbm, ⟨58, _⟩ => ⟨S64x1x256, .i1⟩
  | .hbm, ⟨59, _⟩ => ⟨S64x128x256, .i1⟩
  | .hbm, ⟨60, _⟩ => ⟨S64x128x256, .i1⟩
  | .hbm, ⟨61, _⟩ => ⟨S64x128x256, .i1⟩
  | .hbm, ⟨62, _⟩ => ⟨S64x1x1x128x256, .i1⟩
  | .hbm, ⟨63, _⟩ => ⟨S_, .f32⟩
  | .hbm, ⟨64, _⟩ => ⟨S_, .f32⟩
  | .hbm, ⟨65, _⟩ => ⟨S64x4x4x128x256, .i1⟩
  | .hbm, ⟨66, _⟩ => ⟨S64x4x4x128x256, .f32⟩
  | .hbm, ⟨67, _⟩ => ⟨S64x4x4x128x256, .f32⟩
  | .hbm, ⟨68, _⟩ => ⟨S4x4, .f32⟩
  | .hbm, ⟨69, _⟩ => ⟨S1x4x4x1x1, .f32⟩
  | .hbm, ⟨70, _⟩ => ⟨S_, .f32⟩
  | .hbm, ⟨71, _⟩ => ⟨S64x4x4x128, .f32⟩
  | .hbm, ⟨72, _⟩ => ⟨S64x4x4x128x1, .f32⟩
  | .hbm, ⟨73, _⟩ => ⟨S64x4x4x128x1, .f32⟩
  | .hbm, ⟨74, _⟩ => ⟨S64x4x4x128x1, .f32⟩
  | .hbm, ⟨75, _⟩ => ⟨S64x4x4x128x256, .f32⟩
  | .hbm, ⟨76, _⟩ => ⟨S64x4x4x128x256, .f32⟩
  | .hbm, ⟨77, _⟩ => ⟨S64x4x4x128x256, .f32⟩
  | .hbm, ⟨78, _⟩ => ⟨S_, .f32⟩
  | .hbm, ⟨79, _⟩ => ⟨S64x4x4x128, .f32⟩
  | .hbm, ⟨80, _⟩ => ⟨S64x4x4x128x1, .f32⟩
  | .hbm, ⟨81, _⟩ => ⟨S64x4x4x128x1, .f32⟩
  | .hbm, ⟨82, _⟩ => ⟨S64x4x4x128x1, .f32⟩
  | .hbm, ⟨83, _⟩ => ⟨S64x4x4x128x1, .f32⟩
  | .hbm, ⟨84, _⟩ => ⟨S64x4x4x128x1, .f32⟩
  | .hbm, ⟨85, _⟩ => ⟨S64x4x4x128x256, .f32⟩
  | .hbm, ⟨86, _⟩ => ⟨S64x4x4x128x256, .f32⟩
  | .hbm, ⟨87, _⟩ => ⟨S64x4x64x4x128, .f32⟩
  | .hbm, ⟨88, _⟩ => ⟨S64x128x4x4x64, .f32⟩
  | .hbm, ⟨89, _⟩ => ⟨S8192x1024, .f32⟩
  | .hbm, ⟨90, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_c_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== MixOut.lean ====
abbrev S8192x1024 : Shape := ⟨2, ![8192, 1024]⟩
abbrev S2x1024x1024 : Shape := ⟨3, ![2, 1024, 1024]⟩
abbrev S1024 : Shape := ⟨1, ![1024]⟩
abbrev S1x1024 : Shape := ⟨2, ![1, 1024]⟩
abbrev S8192x128 : Shape := ⟨2, ![8192, 128]⟩
abbrev S1024x1024 : Shape := ⟨2, ![1024, 1024]⟩
abbrev S1x1024x1024 : Shape := ⟨3, ![1, 1024, 1024]⟩
abbrev S1024x128 : Shape := ⟨2, ![1024, 128]⟩
abbrev S1024x1 : Shape := ⟨2, ![1024, 1]⟩

abbrev nBuf : Space → Nat
  | .hbm => 16
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8192x1024, .bf16⟩
  | .hbm, ⟨8, _⟩ => ⟨S2x1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x128, .f32⟩
  | .local _ .vmem, ⟨14, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== MixOutRefIdeal.lean ====
abbrev S8192x1024 : Shape := ⟨2, ![8192, 1024]⟩
abbrev S2x1024x1024 : Shape := ⟨3, ![2, 1024, 1024]⟩
abbrev S1024 : Shape := ⟨1, ![1024]⟩
abbrev S1x1024 : Shape := ⟨2, ![1, 1024]⟩
abbrev S_ : Shape := ⟨0, ![]⟩
abbrev S1x1024x1024 : Shape := ⟨3, ![1, 1024, 1024]⟩
abbrev S1024x1024 : Shape := ⟨2, ![1024, 1024]⟩
abbrev S8192 : Shape := ⟨1, ![8192]⟩
abbrev S8192x1 : Shape := ⟨2, ![8192, 1]⟩
abbrev S8192x128 : Shape := ⟨2, ![8192, 128]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S1x1024x1024, .f32⟩
  | .hbm, ⟨17, _⟩ => ⟨S1024x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S1x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .bf16⟩
  | .hbm, ⟨69, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== LruOut.lean ====
abbrev S8192x1024 : Shape := ⟨2, ![8192, 1024]⟩
abbrev S8192x2048 : Shape := ⟨2, ![8192, 2048]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LruOutRefIdeal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== QkvRope.lean ====
abbrev S8192x1024 : Shape := ⟨2, ![8192, 1024]⟩
abbrev S2x1024x1536 : Shape := ⟨3, ![2, 1024, 1536]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x1536 : Shape := ⟨2, ![8192, 1536]⟩
abbrev S512x1024 : Shape := ⟨2, ![512, 1024]⟩
abbrev S1x1024x1536 : Shape := ⟨3, ![1, 1024, 1536]⟩
abbrev S512x128 : Shape := ⟨2, ![512, 128]⟩
abbrev S512x1536 : Shape := ⟨2, ![512, 1536]⟩
abbrev S1024x1536 : Shape := ⟨2, ![1024, 1536]⟩
abbrev S512x1280 : Shape := ⟨2, ![512, 1280]⟩
abbrev S512x256 : Shape := ⟨2, ![512, 256]⟩

abbrev nBuf : Space → Nat
  | .hbm => 15
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S2x1024x1536, .f32⟩
  | .hbm, ⟨2, _⟩ => ⟨S8192x32, .f32⟩
  | .hbm, ⟨3, _⟩ => ⟨S8192x32, .f32⟩
  | .hbm, ⟨4, _⟩ => ⟨S1x8192x1x32, .f32⟩
  | .hbm, ⟨5, _⟩ => ⟨S1x8192x4x32, .f32⟩
  | .hbm, ⟨6, _⟩ => ⟨S8192x128, .f32⟩
  | .hbm, ⟨7, _⟩ => ⟨S8192x32, .f32⟩
  | .hbm, ⟨8, _⟩ => ⟨S8192x64, .f32⟩
  | .hbm, ⟨9, _⟩ => ⟨S1x8192x1x64, .f32⟩
  | .hbm, ⟨10, _⟩ => ⟨S1x8192x2x64, .f32⟩
  | .hbm, ⟨11, _⟩ => ⟨S8192x128, .f32⟩
  | .hbm, ⟨12, _⟩ => ⟨S8192x1024, .bf16⟩
  | .hbm, ⟨13, _⟩ => ⟨S2x1024x1536, .bf16⟩
  | .hbm, ⟨14, _⟩ => ⟨S8192x1536, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1536, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x1536, .bf16⟩
  | .local _ .vmem, ⟨8, _⟩ => ⟨S512x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== QkvRopeRefIdeal.lean ====
abbrev S8192x1024 : Shape := ⟨2, ![8192, 1024]⟩
abbrev S2x1024x1536 : Shape := ⟨3, ![2, 1024, 1536]⟩
abbrev S8192x32 : Shape := ⟨2, ![8192, 32]⟩
abbrev S1x1024x1536 : Shape := ⟨3, ![1, 1024, 1536]⟩
abbrev S1024x1536 : Shape := ⟨2, ![1024, 1536]⟩
abbrev S8192x1536 : Shape := ⟨2, ![8192, 1536]⟩
abbrev S8192x1280 : Shape := ⟨2, ![8192, 1280]⟩
abbrev S8192x20x64 : Shape := ⟨3, ![8192, 20, 64]⟩
abbrev S8192x20x32 : Shape := ⟨3, ![8192, 20, 32]⟩
abbrev S8192x1x32 : Shape := ⟨3, ![8192, 1, 32]⟩
abbrev S_ : Shape := ⟨0, ![]⟩
abbrev S8192x256 : Shape := ⟨2, ![8192, 256]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x1024x1536, .f32⟩
  | .hbm, ⟨2, _⟩ => ⟨S8192x32, .f32⟩
  | .hbm, ⟨3, _⟩ => ⟨S8192x32, .f32⟩
  | .hbm, ⟨4, _⟩ => ⟨S1x1024x1536, .f32⟩
  | .hbm, ⟨5, _⟩ => ⟨S1024x1536, .f32⟩
  | .hbm, ⟨6, _⟩ => ⟨S8192x1536, .f32⟩
  | .hbm, ⟨7, _⟩ => ⟨S8192x1280, .f32⟩
  | .hbm, ⟨8, _⟩ => ⟨S8192x20x64, .f32⟩
  | .hbm, ⟨9, _⟩ => ⟨S8192x20x32, .f32⟩
  | .hbm, ⟨10, _⟩ => ⟨S8192x20x32, .f32⟩
  | .hbm, ⟨11, _⟩ => ⟨S8192x1x32, .f32⟩
  | .hbm, ⟨12, _⟩ => ⟨S8192x1x32, .f32⟩
  | .hbm, ⟨13, _⟩ => ⟨S8192x20x32, .f32⟩
  | .hbm, ⟨14, _⟩ => ⟨S8192x20x32, .f32⟩
  | .hbm, ⟨15, _⟩ => ⟨S8192x20x32, .f32⟩
  | .hbm, ⟨16, _⟩ => ⟨S8192x20x32, .f32⟩
  | .hbm, ⟨17, _⟩ => ⟨S8192x20x32, .f32⟩
  | .hbm, ⟨18, _⟩ => ⟨S8192x20x32, .f32⟩
  | .hbm, ⟨19, _⟩ => ⟨S8192x20x32, .f32⟩
  | .hbm, ⟨20, _⟩ => ⟨S8192x20x32, .f32⟩
  | .hbm, ⟨21, _⟩ => ⟨S8192x20x32, .f32⟩
  | .hbm, ⟨22, _⟩ => ⟨S8192x20x32, .f32⟩
  | .hbm, ⟨23, _⟩ => ⟨S8192x20x64, .f32⟩
  | .hbm, ⟨24, _⟩ => ⟨S8192x1280, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x256, .f32⟩
  | .hbm, ⟨30, _⟩ => ⟨S8192x256, .f32⟩
  | .hbm, ⟨31, _⟩ => ⟨S8192x1536, .f32⟩
  | .hbm, ⟨32, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Proof.ScanBody.lean ====
/- The body of the scan's backward kernel at one grid point, for any number type: the tile it leaves in the output and the carry it
   leaves in the scratch, as functions of the two input tiles and of the carry it found. The tile is cut into 64 chunks of 8 rows,
   taken from the last to the first; the carry is a pair of rows, the first row of the adjoint and of the coefficients of the chunk
   taken before. -/
module

public import proofs.«01_k».proof.Proof.Gen.ScanIdeal.Frame
public import proofs.«01_k».proof.Proof.Gen.ScanIdeal.Loops
public import Idealize.ShloMosaic.Lib.Claim
public import Idealize.ShloMosaic.Lib.WholeRead
public import Idealize.ShloMosaic.Lib.Pipeline.ReadBack
public import Idealize.ShloMosaic.Lib.WritesUnit
public import Idealize.ShloMosaic.Lib.Pipeline.ValueKit

@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ScanIdeal.Gen

variable {F : FTy → Type} [FloatOps F]

local notation "𝕄" => MT nD τ sig Unit (Elt F) ℕ (UR sig nD τ) ℕ

/-- The loop takes 64 trips. -/
theorem trips_eq : k0_t1_loop.trips = 64 := by decide +kernel

/-- The carry: the adjoint's row and the coefficient's row that stand after a chunk. -/
abbrev Carry (F : FTy → Type) := Vec F S1x1024 .f32 × Vec F S1x1024 .f32

/-- The 8 rows of a tile that trip `k` takes. -/
def rows (x : Vec F S512x1024 .f32) (k : Fin k0_t1_loop.trips) : Vec F S8x1024 .f32 :=
  View.ld x (Rect.unit (s := S512x1024) (k0_off1 k) S8x1024.size (k0_off1_inb k))

/-- The adjoint on the chunk of trip `k`, from the carry `s`. -/
def chunk (x0 x1 : Vec F S512x1024 .f32) (k : Fin k0_t1_loop.trips) (s : Carry F) : Vec F S8x1024 .f32 :=
  k0_pay6 (iota .tc S8x1024 32 [0] iota_S8x1024_d0_w32) s.1 s.2 (rows x0 k) (rows x1 k)

/-- The carry after trip `k`, from the carry `s` before it. -/
def next (x0 x1 : Vec F S512x1024 .f32) (k : Fin k0_t1_loop.trips) (s : Carry F) : Carry F :=
  (k0_pay2 (chunk x0 x1 k s), k0_pay3 (rows x0 k))

/-- The carry before trip `n`, from the carry `s` before the first. -/
def carry (x0 x1 : Vec F S512x1024 .f32) (s : Carry F) : ℕ → Carry F
  | 0 => s
  | n + 1 => if h : n < k0_t1_loop.trips then next x0 x1 ⟨n, h⟩ (carry x0 x1 s n) else carry x0 x1 s n

theorem carry_succ (x0 x1 : Vec F S512x1024 .f32) (s : Carry F) (k : Fin k0_t1_loop.trips) :
    carry x0 x1 s (k.val + 1) = next x0 x1 k (carry x0 x1 s k.val) := dif_pos k.isLt

/-- The trip that takes row `r` of a tile. -/
def tripOf (y : S512x1024.Idx) : Fin k0_t1_loop.trips :=
  ⟨63 - (y 0).val / 8, by rw [trips_eq]; omega⟩

/-- The place of row `r` in its chunk. -/
def inChunk (y : S512x1024.Idx) : S8x1024.Idx
  | ⟨0, _⟩ => (⟨(y 0).val % 8, Nat.mod_lt _ (by decide)⟩ : Fin 8)
  | ⟨1, _⟩ => (⟨(y 1).val, (y 1).isLt⟩ : Fin 1024)

/-- The tile the body leaves: each chunk's adjoint from the carry before its trip. -/
def tile (x0 x1 : Vec F S512x1024 .f32) (s : Carry F) : Vec F S512x1024 .f32 := fun y =>
  chunk x0 x1 (tripOf y) (carry x0 x1 s (tripOf y).val) (inChunk y)

/-- Column `j` of a one-row array. -/
def col (y : S8x1024.Idx) : S1x1024.Idx
  | ⟨0, _⟩ => (0 : Fin 1)
  | ⟨1, _⟩ => (⟨(y 1).val, (y 1).isLt⟩ : Fin 1024)

/-- The scratch that keeps a carry between grid points: its rows 0 and 1, the rest at the first fill. -/
def scratch (s : Carry F) : Vec F S8x1024 .f32 := fun y =>
  if (y 0).val = 0 then s.1 (col y) else if (y 0).val = 1 then s.2 (col y) else k0_pay1 y

/-- The carry before the last rows: zeros. -/
def start : Carry F := (fun _ => Scalar.ofBits .f32 0x00000000#32, fun _ => Scalar.ofBits .f32 0x00000000#32)

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x1024 .f32)
  (harg3 : arg3.IsWhole) (arg4 : Memref sig .tc .vmem S8x1024 .f32) (harg4 : arg4.IsWhole)

/-- The state the loop keeps before trip `n`, its values spelt out: the carry, and pieces that agree with the tile and hold
    the rows from `512 - 8 n` on. -/
theorem state_eq (x0 x1 : Vec F S512x1024 .f32) (s : Carry F) (f : BufTy.Contents (Elt F) arg3.view.ty) (n : ℕ) (hn : n ≤ 64) :
    (st_k0_t1 (F := F) Variants.none c none i arg1 harg1 arg2 harg2 arg3 harg3 arg4 harg4 (iota .tc S8x1024 32 [0] iota_S8x1024_d0_w32) (harg1.unread x0) (harg2.unread x1) s n).1
        = carry x0 x1 s n
      ∧ ∀ y : S512x1024.Idx, 512 ≤ (y 0).val + 8 * n →
        arg3.view.read (Elt F) (arg3.view.writes (Elt F) f
          (st_k0_t1 (F := F) Variants.none c none i arg1 harg1 arg2 harg2 arg3 harg3 arg4 harg4 (iota .tc S8x1024 32 [0] iota_S8x1024_d0_w32) (harg1.unread x0) (harg2.unread x1) s n).2) y
          = tile x0 x1 s y := by
  induction n with
  | zero => exact ⟨rfl, fun y hy => by have : (y 0).val < 512 := (y 0).isLt; omega⟩
  | succ n ih =>
    obtain ⟨ih1, ih2⟩ := ih (by omega)
    have hk : n < k0_t1_loop.trips := by rw [trips_eq]; omega
    have e := st_k0_t1_succ (F := F) Variants.none c none i arg1 harg1 arg2 harg2 arg3 harg3 arg4 harg4 (iota .tc S8x1024 32 [0] iota_S8x1024_d0_w32) (harg1.unread x0) (harg2.unread x1) s ⟨n, hk⟩
    have r0 : trip_k0_t1.sl.r arg1 (harg1.unread x0) ⟨n, hk⟩ = rows x0 ⟨n, hk⟩ :=
      funext fun x => harg1.readAt_unread x0 _ x
    have r1 (s' : Carry F) : trip_k0_t1.sl.r_1 arg1 arg2 (iota Kind.tc S8x1024 32 [0] iota_S8x1024_d0_w32) (harg1.unread x0)
        (harg2.unread x1) ⟨n, hk⟩ s' = chunk x0 x1 ⟨n, hk⟩ s' := by
      show k0_pay6 _ s'.1 s'.2 _ _ = k0_pay6 _ s'.1 s'.2 _ _
      congr 1
      exact funext fun x => harg2.readAt_unread x1 _ x
    unfold tripR_k0_t1 tripL_k0_t1 trip_k0_t1 at e
    dsimp only at e
    rw [r0, r1, ih1] at e
    rw [e]
    dsimp only
    refine ⟨(carry_succ x0 x1 s ⟨n, hk⟩).symm, fun y hy => ?_⟩
    rw [List.cons_append, List.nil_append]
    have hoff : k0_off1 ⟨n, hk⟩ = ![504 - 8 * n, 0] := k0_off1_eq ⟨n, hk⟩
    by_cases hc : 512 ≤ (y 0).val + 8 * n
    · exact (View.read_writes_cons_rows_of_not_mem (o := 504 - 8 * n) (W := 8) _ _ _ _ _ y hoff rfl (Or.inr (by omega))).trans
        (ih2 y hc)
    · refine (View.read_writes_cons_rows_of_mem (o := 504 - 8 * n) _ _ _ _ _ y (inChunk y) hoff
        (by show (y 0).val = 504 - 8 * n + (y 0).val % 8; omega) rfl).trans ?_
      have ht : tripOf y = ⟨n, hk⟩ := Fin.ext (by show 63 - (y 0).val / 8 = n; omega)
      unfold tile
      rw [ht]

/-- The first fill is zero everywhere. -/
theorem fill_eq : k0_pay1 (F := F) = fun _ => Scalar.ofBits .f32 0x00000000#32 := rfl

/-- The scratch after the first fill reads zero everywhere. -/
theorem fill_at (f : BufTy.Contents (Elt F) arg4.view.ty) (y : S8x1024.Idx) :
    arg4.view.read (Elt F) (arg4.view.writes (Elt F) f
      [⟨Rect.unit ![0, 0] S8x1024.size inb_S8x1024_S8x1024_0_0, k0_pay1 (F := F)⟩]) y = Scalar.ofBits .f32 0x00000000#32 :=
  (View.read_writes_cons_rows_of_mem (o := 0) arg4.view f inb_S8x1024_S8x1024_0_0 (k0_pay1 (F := F)) [] y y rfl
    (Nat.zero_add _).symm rfl).trans (congrFun fill_eq y)

/-- A load after the first fill reads zeros. -/
theorem fill_read (r : Rect S8x1024) :
    arg4.view.readCov (Val := Elt F) [⟨Rect.unit ![0, 0] S8x1024.size inb_S8x1024_S8x1024_0_0, k0_pay1 (F := F)⟩] r.toLoadRect
      = fun _ => Scalar.ofBits .f32 0x00000000#32 := by
  funext x
  exact fill_at arg4 _ _

/-- Two rows stored over a scratch whose other rows hold the first fill leave it as the scratch of that carry. -/
theorem scratch_read (f : BufTy.Contents (Elt F) arg4.view.ty) (L : List (View.Piece (Elt F) S8x1024 .f32)) {s s' : Carry F} (hs : s' = s)
    (hL : ∀ y : S8x1024.Idx, 2 ≤ (y 0).val → arg4.view.read (Elt F) (arg4.view.writes (Elt F) f L) y = k0_pay1 y) :
    arg4.view.read (Elt F) (arg4.view.writes (Elt F) f
      (⟨Rect.unit ![1, 0] S1x1024.size inb_S8x1024_S1x1024_1_0, k0_pay5 s'.2⟩ ::
        ⟨Rect.unit ![0, 0] S1x1024.size inb_S8x1024_S1x1024_0_0, k0_pay4 s'.1⟩ :: L)) = scratch s := by
  subst hs
  funext y
  have h4 : k0_pay4 s'.1 = s'.1 := shapeCast_self _ _
  have h5 : k0_pay5 s'.2 = s'.2 := shapeCast_self _ _
  rw [h4, h5]
  unfold scratch
  by_cases h0 : (y 0).val = 0
  · rw [if_pos h0]
    refine (View.read_writes_cons_rows_of_not_mem (o := 1) (W := 1) _ _ _ _ _ y rfl rfl (Or.inl (by omega))).trans ?_
    exact View.read_writes_cons_rows_of_mem (o := 0) _ _ _ _ _ y (col y) rfl (by rw [h0]; rfl) rfl
  · rw [if_neg h0]
    by_cases h1 : (y 0).val = 1
    · rw [if_pos h1]
      exact View.read_writes_cons_rows_of_mem (o := 1) _ _ _ _ _ y (col y) rfl (by rw [h1]; rfl) rfl
    · rw [if_neg h1]
      refine (View.read_writes_cons_rows_of_not_mem (o := 1) (W := 1) _ _ _ _ _ y rfl rfl (Or.inr (by omega))).trans ?_
      refine (View.read_writes_cons_rows_of_not_mem (o := 0) (W := 1) _ _ _ _ _ y rfl rfl (Or.inr (by omega))).trans ?_
      exact hL y (by omega)

/-- The two rows of the scratch of a carry read the carry back. -/
theorem carry_read (s : Carry F) :
    (View.readAt (Elt F) arg4.view (Rect.unit (s := S8x1024) ![0, 0] S1x1024.size inb_S8x1024_S1x1024_0_0).toLoadRect (harg4.unread (scratch s)),
      View.readAt (Elt F) arg4.view (Rect.unit (s := S8x1024) ![1, 0] S1x1024.size inb_S8x1024_S1x1024_1_0).toLoadRect (harg4.unread (scratch s)))
      = s := by
  have hcol (o : ℕ) (inb : ∀ a, (![o, 0] : Fin 2 → ℕ) a + S1x1024.size a ≤ S8x1024.size a) (x : S1x1024.Idx) :
      col ((Rect.unit (s := S8x1024) ![o, 0] S1x1024.size inb).emb x) = x := by
    funext a
    fin_cases a
    · exact Subsingleton.elim (α := Fin 1) _ _
    · exact Fin.ext (by show 0 + 1 * (x 1).val = (x 1).val; omega)
  have hx (x : S1x1024.Idx) : (x 0).val = 0 := by have : (x 0).val < 1 := (x 0).isLt; omega
  refine Prod.ext (funext fun x => ?_) (funext fun x => ?_)
  · refine (harg4.readAt_unread (scratch s) _ x).trans ?_
    refine (if_pos (show 0 + 1 * (x 0).val = 0 by rw [hx])).trans ?_
    exact congrArg s.1 (hcol 0 _ x)
  · refine (harg4.readAt_unread (scratch s) _ x).trans ?_
    refine (if_neg (show ¬(1 + 1 * (x 0).val = 0) by omega)).trans ?_
    refine (if_pos (show 1 + 1 * (x 0).val = 1 by rw [hx])).trans ?_
    exact congrArg s.2 (hcol 1 _ x)

/-- The grid point is the first. -/
abbrev k0_cond (i : grid0.Coords) : Prop := (Scalar.cmpi .ne (Scalar.extui (Scalar.cmpi .eq (BitVec.ofNat 32 (i 0).val) 0#32)) 0#32) = 1#1

/-- The body at the first grid point, whatever the scratch held. -/
theorem body_first (hc0 : k0_cond i) (x0 x1 : Vec F S512x1024 .f32) (E : Set ℕ) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ owns (c : Thread nD τ) arg3 fullShare (tile x0 x1 start) ∗ owns (c : Thread nD τ) arg4 fullShare (scratch (carry x0 x1 start 64))) -∗ K ⟨⟩))
          ⊢ wp frame (wpE (defs₀ (F := F)) Variants.none c none) E (cc0_lru_scan_bwd i arg1 harg1 arg2 harg2 arg3 harg3 arg4 harg4) K := by
    simp only [cc0_lru_scan_bwd_eq_skeleton]; unfold cc0_lru_scan_bwd_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec (disch := first | sl_exact hc0)
    sl_step
    have hinit : (body_first.sl.v4 c arg4, body_first.sl.v5 (F := F) c arg4) = start :=
      Prod.ext (fill_read arg4 (Rect.unit ![0, 0] S1x1024.size inb_S8x1024_S1x1024_0_0))
        (fill_read arg4 (Rect.unit ![1, 0] S1x1024.size inb_S8x1024_S1x1024_1_0))
    have hv3 : body_first.sl.v3 = iota .tc S8x1024 32 [0] iota_S8x1024_d0_w32 := rfl
    have htr : Scf.trips k0_t1_loop.lb k0_t1_loop.ub k0_t1_loop.st = 64 := trips_eq
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [hv3, hinit, htr]
      exact funext fun y => (state_eq c i arg1 harg1 arg2 harg2 arg3 harg3 arg4 harg4 x0 x1 start f2 64 le_rfl).2 y (Nat.le_add_left _ _)
    · iexists _; isplitr; swap; · iexact HS0
      ipureintro
      rw [hv3, hinit, htr]
      refine scratch_read arg4 _ _ (state_eq c i arg1 harg1 arg2 harg2 arg3 harg3 arg4 harg4 x0 x1 start arg3.view.junk 64 le_rfl).1 fun y _ => ?_
      exact (fill_at arg4 _ y).trans (congrFun fill_eq y).symm

/-- The body at a later grid point, the scratch holding the carry `s`. -/
theorem body_later (hc0 : ¬k0_cond i) (x0 x1 : Vec F S512x1024 .f32) (s : Carry F) (E : Set ℕ) (K : PUnit → sProp 𝕄) :
        iprop(owns (c : Thread nD τ) arg1 fullShare x0 ∗ owns (c : Thread nD τ) arg2 fullShare x1 ∗ (∃ d, owns (c : Thread nD τ) arg3 fullShare d) ∗ owns (c : Thread nD τ) arg4 fullShare (scratch s)
            ∗ (iprop(owns (c : Thread nD τ) arg1 fullShare x0 ∗ owns (c : Thread nD τ) arg2 fullShare x1 ∗ owns (c : Thread nD τ) arg3 fullShare (tile x0 x1 s) ∗ owns (c : Thread nD τ) arg4 fullShare (scratch (carry x0 x1 s 64))) -∗ K ⟨⟩))
          ⊢ wp frame (wpE (defs₀ (F := F)) Variants.none c none) E (cc0_lru_scan_bwd i arg1 harg1 arg2 harg2 arg3 harg3 arg4 harg4) K := by
    simp only [cc0_lru_scan_bwd_eq_skeleton]; unfold cc0_lru_scan_bwd_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | sl_exact hc0)
    sl_step
    have hinit : (View.readAt (Elt F) arg4.view (Rect.unit (s := S8x1024) ![0, 0] S1x1024.size inb_S8x1024_S1x1024_0_0).toLoadRect
          (harg4.unread (scratch s)),
        View.readAt (Elt F) arg4.view (Rect.unit (s := S8x1024) ![1, 0] S1x1024.size inb_S8x1024_S1x1024_1_0).toLoadRect
          (harg4.unread (scratch s))) = s := carry_read arg4 harg4 s
    have hv3 : body_later.sl.v3 = iota .tc S8x1024 32 [0] iota_S8x1024_d0_w32 := rfl
    have htr : Scf.trips k0_t1_loop.lb k0_t1_loop.ub k0_t1_loop.st = 64 := trips_eq
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [hv3, hinit, htr]
      exact funext fun y => (state_eq c i arg1 harg1 arg2 harg2 arg3 harg3 arg4 harg4 x0 x1 s f2 64 le_rfl).2 y (Nat.le_add_left _ _)
    · iexists _; isplitr; swap; · iexact HS0
      ipureintro
      rw [hv3, hinit, htr]
      refine scratch_read arg4 _ _ (state_eq c i arg1 harg1 arg2 harg2 arg3 harg3 arg4 harg4 x0 x1 s arg3.view.junk 64 le_rfl).1 fun y hy => ?_
      rw [View.writes_nil, harg4.read_unread]
      exact (if_neg (by omega)).trans (if_neg (by omega))

end Cert.ScanIdeal.Body

end
-- ==== Proof.ScanRun.lean ====
/- The run of the scan's backward call, for any number type: the 16 tiles are taken from the last to the first, the carry going from
   one grid point to the next in the scratch. The frame and what the result array holds follow. -/
module

public import proofs.«01_k».proof.Proof.ScanBody

@[expose] public section

set_option maxRecDepth 16384

noncomputable section

namespace Cert.ScanIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ScanIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's condition for its first point. -/
theorem first_iff : ∀ t : Fin cfg0.N, k0_cond (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : (grid0.coords t 0).val = t.val := by omega
    simp only [k0_cond, e1]
    word_cmp
   : ∀ t : Fin grid0.N, k0_cond (grid0.coords t) ↔ t.val = 0)

/-- The scratch, as the body is handed it. -/
abbrev scr : Memref sig .tc .vmem S8x1024 .f32 := Memref.whole cc0_scratch0

/-- The carry before grid point `n`. -/
def carryAt (c : Dev nD) : ℕ → Carry F
  | 0 => start
  | n + 1 => if h : n < cfg0.N then carry (iblk m c 0 ⟨n, h⟩) (iblk m c 1 ⟨n, h⟩) (carryAt c n) 64 else carryAt c n

theorem carryAt_succ (c : Dev nD) (t : Fin cfg0.N) :
    carryAt m c (t.val + 1) = carry (iblk m c 0 t) (iblk m c 1 t) (carryAt m c t.val) 64 := dif_pos t.isLt

/-- What holds between grid points: after the first, the scratch keeps the carry. -/
def between (c : Dev nD) : ℕ → sProp 𝕄
  | 0 => Pipeline.ΦA spec0 c
  | n + 1 => iprop(owns (c : Thread nD τ) scr fullShare (scratch (carryAt m c (n + 1))) ∗ (∃ r, prngReg c r))

/-- The proof data: the inputs' blocks stay, the output's block is the tile computed from the carry. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tile (iblk m c 0 t) (iblk m c 1 t) (carryAt m c t.val)
  Φ t := between m c t.val
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = tile (iblk m c 0 t) (iblk m c 1 t) (carryAt m c t.val) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d

/-- Before the first point nothing is known of the scratch. -/
theorem scratch_any (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-- The body at a grid point: its precondition's and postcondition's windows one by one. -/
theorem point (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t)
        ∗ owns (c : Thread nD τ) (st0_2 t) fullShare ((dats m 0 c).after 2 t))) := by
  unfold bodyAt0
  simp only [before_0, before_1]
  rw [show (dats m 0 c).owesAt () t.succ = (dats m 0 c).owesAt () t.castSucc from rfl, after_0, after_1, after_2,
    show (dats m 0 c).Φ t.succ = between m c (t.val + 1) from rfl,
    show (dats m 0 c).Φ t.castSucc = between m c t.val from rfl]
  rw [show between m c (t.val + 1)
    = iprop(owns (c : Thread nD τ) scr fullShare (scratch (carryAt m c (t.val + 1))) ∗ (∃ r, prngReg c r)) from rfl, carryAt_succ]
  obtain ht | ⟨n, ht⟩ : t.val = 0 ∨ ∃ n, t.val = n + 1 := by
    rcases h : t.val with _ | n
    · exact Or.inl rfl
    · exact Or.inr ⟨n, rfl⟩
  · rw [ht, show between m c 0 = Pipeline.ΦA spec0 c from rfl, scratch_any, show carryAt m c 0 = start from rfl]
    iintro ⟨⟨HS, Hg⟩, Ho, ⟨%d0, H0⟩, ⟨%d1, H1⟩, ⟨%d2, H2⟩⟩
    iapply (body_first c (grid0.coords t) _ _ _ _ _ _ _ _ ((first_iff t).mpr ht) (iblk m c 0 t) (iblk m c 1 t) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [ht, show between m c (n + 1)
      = iprop(owns (c : Thread nD τ) scr fullShare (scratch (carryAt m c (n + 1))) ∗ (∃ r, prngReg c r)) from rfl]
    iintro ⟨⟨HS, Hg⟩, Ho, ⟨%d0, H0⟩, ⟨%d1, H1⟩, ⟨%d2, H2⟩⟩
    iapply (body_later c (grid0.coords t) _ _ _ _ _ _ _ _ (fun h => by have := (first_iff t).mp h; omega) (iblk m c 0 t) (iblk m c 1 t)
      (carryAt m c (n + 1)) Set.univ _)
    isplitl [H0]; · iexact H0
    isplitl [H1]; · iexact H1
    isplitl [H2]; · iexists _; iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2

/-- The library's obligation of the body, at every grid point. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point m c t) rfl .rfl fun _ => .rfl

/-- What the launch hands over is the invariant before the first point. -/
theorem enter (c : Dev nD) : Pipeline.ΦA spec0 c ⊢ (dats m 0 c).Φ 0 := Idealize.SL.BI.Entails.refl _

/-- After the last point the scratch's contents are forgotten. -/
theorem leave (c : Dev nD) : (dats m 0 c).Φ (Fin.last cfg0.N) ⊢ Pipeline.ΦA spec0 c := by
  rw [show (dats m 0 c).Φ (Fin.last cfg0.N) = between m c cfg0.N from rfl, show cfg0.N = 15 + 1 from N_0,
    show between m c (15 + 1)
      = iprop(owns (c : Thread nD τ) scr fullShare (scratch (carryAt m c (15 + 1))) ∗ (∃ r, prngReg c r)) from rfl, scratch_any]
  iintro ⟨HS, Hg⟩
  isplitl [HS]
  · iexists _; iexact HS
  iexact Hg

set_option backward.isDefEq.respectTransparency.types false in
/-- The run of @main: every array of the pipeline ends as the proof data say, every counter at zero. -/
theorem run_counted : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_counted m ρ)

/-- The frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_counted m ρ))

end Cert.ScanIdeal.Body

end
-- ==== Proof.Frames.lean ====
module

public import proofs.«01_k».proof.Defs
public import proofs.«01_k».proof.Proof.ScanRun
public import proofs.«01_k».proof.Proof.Gen.Scan.Frame
public import proofs.«01_k».proof.Proof.Gen.ScanRefIdeal.Run
public import proofs.«01_k».proof.Proof.Gen.FfnDxRefIdeal.Run
public import proofs.«01_k».proof.Proof.Gen.FfnDwOutRefIdeal.Run
public import proofs.«01_k».proof.Proof.Gen.FfnDwInRefIdeal.Run
public import proofs.«01_k».proof.Proof.Gen.NormRefIdeal.Run
public import proofs.«01_k».proof.Proof.Gen.GateRefIdeal.Run
public import proofs.«01_k».proof.Proof.Gen.ConvRefIdeal.Run
public import proofs.«01_k».proof.Proof.Gen.FfnFwdRefIdeal.Run
public import proofs.«01_k».proof.Proof.Gen.MixDwRefIdeal.Run
public import proofs.«01_k».proof.Proof.Gen.AttnDwQkvRefIdeal.Run
public import proofs.«01_k».proof.Proof.Gen.LruDwInRefIdeal.Run
public import proofs.«01_k».proof.Proof.Gen.LruDwGatesRefIdeal.Run
public import proofs.«01_k».proof.Proof.Gen.AttnDoRefIdeal.Run
public import proofs.«01_k».proof.Proof.Gen.LruDyRefIdeal.Run
public import proofs.«01_k».proof.Proof.Gen.AttnDxRefIdeal.Run
public import proofs.«01_k».proof.Proof.Gen.LruDxRefIdeal.Run
public import proofs.«01_k».proof.Proof.Gen.LruDxcRefIdeal.Run
public import proofs.«01_k».proof.Proof.Gen.LruInRefIdeal.Run
public import proofs.«01_k».proof.Proof.Gen.AdamWInRefIdeal.Run
public import proofs.«01_k».proof.Proof.Gen.AdamWOutRefIdeal.Run
public import proofs.«01_k».proof.Proof.Gen.AdamQkvRefIdeal.Run
public import proofs.«01_k».proof.Proof.Gen.AdamSqRefIdeal.Run
public import proofs.«01_k».proof.Proof.Gen.AdamLinRefIdeal.Run
public import proofs.«01_k».proof.Proof.Gen.AdamGatesRefIdeal.Run
public import proofs.«01_k».proof.Proof.Gen.AttnFwdRefIdeal.Run
public import proofs.«01_k».proof.Proof.Gen.MixOutRefIdeal.Run
public import proofs.«01_k».proof.Proof.Gen.LruOutRefIdeal.Run
public import proofs.«01_k».proof.Proof.Gen.QkvRopeRefIdeal.Run
public import Idealize.ShloMosaic.Lib.Claim
public import Idealize.ShloMosaic.Lib.Quiescent

@[expose] public section

set_option maxRecDepth 16384

noncomputable section

/-! The scan kernel's and the references' runs leave their arguments unchanged and every counter at zero. -/

namespace Cert.Frames

open Idealize.ShloMosaic Idealize.SL.Sem

/-- The printed scan kernel and its idealization have one table of bodies. -/
theorem scan_bodies (F : FTy → Type) [FloatOps F] : @Cert.Scan.defs₀ F _ Cert.Scan.Gen.facts = @Cert.ScanIdeal.defs₀ F _ Cert.ScanIdeal.Gen.facts := by
  unfold Cert.Scan.defs₀ Cert.ScanIdeal.defs₀
  congr 1
  funext l a
  obtain rfl : l = 0 := Subsingleton.elim _ _
  rfl

theorem scan_defs (F : FTy → Type) [FloatOps F] : @Cert.Scan.defs F _ Cert.Scan.Gen.facts = @Cert.ScanIdeal.defs F _ Cert.ScanIdeal.Gen.facts :=
  congrArg (Pipeline.defs (Cert.Scan.pcfgs (F := F))) (scan_bodies F)

/-- They are one program, so one run serves both frames. -/
theorem scan : Cert.quiescent_Scan := fun m g _ => by
  rw [scan_defs]
  exact (θ_run Cert.ScanIdeal.defs _ _).mono (fun _ h => h) (Cert.ScanIdeal.Body.frame (F := Bits) m g)

theorem scanRef : Cert.quiescent_ScanRefIdeal :=
  fun m g _ => (θ_run _ _ _).mono (fun r h => ⟨fun c => (h c).2, sem_eq_zero_of_no_sems (by decide) r.2⟩) (Cert.ScanRefIdeal.Value.run m g)

theorem dxRef : Cert.quiescent_FfnDxRefIdeal :=
  fun m g _ => (θ_run _ _ _).mono (fun r h => ⟨fun c => (h c).2, sem_eq_zero_of_no_sems (by decide) r.2⟩) (Cert.FfnDxRefIdeal.Value.run m g)

theorem dwOutRef : Cert.quiescent_FfnDwOutRefIdeal :=
  fun m g _ => (θ_run _ _ _).mono (fun r h => ⟨fun c => (h c).2, sem_eq_zero_of_no_sems (by decide) r.2⟩) (Cert.FfnDwOutRefIdeal.Value.run m g)

theorem dwInRef : Cert.quiescent_FfnDwInRefIdeal :=
  fun m g _ => (θ_run _ _ _).mono (fun r h => ⟨fun c => (h c).2, sem_eq_zero_of_no_sems (by decide) r.2⟩) (Cert.FfnDwInRefIdeal.Value.run m g)

theorem normRef : Cert.quiescent_NormRefIdeal :=
  fun m g _ => (θ_run _ _ _).mono (fun r h => ⟨fun c => (h c).2.2.2.2, sem_eq_zero_of_no_sems (by decide) r.2⟩) (Cert.NormRefIdeal.Value.run m g)

theorem gateRef : Cert.quiescent_GateRefIdeal :=
  fun m g _ => (θ_run _ _ _).mono (fun r h => ⟨fun c => (h c).2.2, sem_eq_zero_of_no_sems (by decide) r.2⟩) (Cert.GateRefIdeal.Value.run m g)

theorem convRef : Cert.quiescent_ConvRefIdeal :=
  fun m g _ => (θ_run _ _ _).mono (fun r h => ⟨fun c => (h c).2.2.2.2.2.2, sem_eq_zero_of_no_sems (by decide) r.2⟩) (Cert.ConvRefIdeal.Value.run m g)

theorem ffnFwdRef : Cert.quiescent_FfnFwdRefIdeal :=
  fun m g _ => (θ_run _ _ _).mono (fun r h => ⟨fun c => (h c).2.2.2, sem_eq_zero_of_no_sems (by decide) r.2⟩) (Cert.FfnFwdRefIdeal.Value.run m g)

theorem mixDwRef : Cert.quiescent_MixDwRefIdeal :=
  fun m g _ => (θ_run _ _ _).mono (fun r h => ⟨fun c => (h c).2, sem_eq_zero_of_no_sems (by decide) r.2⟩) (Cert.MixDwRefIdeal.Value.run m g)

theorem attnDwQkvRef : Cert.quiescent_AttnDwQkvRefIdeal :=
  fun m g _ => (θ_run _ _ _).mono (fun r h => ⟨fun c => (h c).2, sem_eq_zero_of_no_sems (by decide) r.2⟩) (Cert.AttnDwQkvRefIdeal.Value.run m g)

theorem lruDwInRef : Cert.quiescent_LruDwInRefIdeal :=
  fun m g _ => (θ_run _ _ _).mono (fun r h => ⟨fun c => (h c).2, sem_eq_zero_of_no_sems (by decide) r.2⟩) (Cert.LruDwInRefIdeal.Value.run m g)

theorem lruDwGatesRef : Cert.quiescent_LruDwGatesRefIdeal :=
  fun m g _ => (θ_run _ _ _).mono (fun r h => ⟨fun c => (h c).2, sem_eq_zero_of_no_sems (by decide) r.2⟩) (Cert.LruDwGatesRefIdeal.Value.run m g)

theorem attnDoRef : Cert.quiescent_AttnDoRefIdeal :=
  fun m g _ => (θ_run _ _ _).mono (fun r h => ⟨fun c => (h c).2, sem_eq_zero_of_no_sems (by decide) r.2⟩) (Cert.AttnDoRefIdeal.Value.run m g)

theorem lruDyRef : Cert.quiescent_LruDyRefIdeal :=
  fun m g _ => (θ_run _ _ _).mono (fun r h => ⟨fun c => (h c).2, sem_eq_zero_of_no_sems (by decide) r.2⟩) (Cert.LruDyRefIdeal.Value.run m g)

theorem attnDxRef : Cert.quiescent_AttnDxRefIdeal :=
  fun m g _ => (θ_run _ _ _).mono (fun r h => ⟨fun c => (h c).2, sem_eq_zero_of_no_sems (by decide) r.2⟩) (Cert.AttnDxRefIdeal.Value.run m g)

theorem lruDxRef : Cert.quiescent_LruDxRefIdeal :=
  fun m g _ => (θ_run _ _ _).mono (fun r h => ⟨fun c => (h c).2, sem_eq_zero_of_no_sems (by decide) r.2⟩) (Cert.LruDxRefIdeal.Value.run m g)

theorem lruDxcRef : Cert.quiescent_LruDxcRefIdeal :=
  fun m g _ => (θ_run _ _ _).mono (fun r h => ⟨fun c => (h c).2, sem_eq_zero_of_no_sems (by decide) r.2⟩) (Cert.LruDxcRefIdeal.Value.run m g)

theorem lruInRef : Cert.quiescent_LruInRefIdeal :=
  fun m g _ => (θ_run _ _ _).mono (fun r h => ⟨fun c => (h c).2, sem_eq_zero_of_no_sems (by decide) r.2⟩) (Cert.LruInRefIdeal.Value.run m g)

theorem adamWInRef : Cert.quiescent_AdamWInRefIdeal :=
  fun m g _ => (θ_run _ _ _).mono (fun r h => ⟨fun c => (h c).2.2.2.2, sem_eq_zero_of_no_sems (by decide) r.2⟩) (Cert.AdamWInRefIdeal.Value.run m g)

theorem adamWOutRef : Cert.quiescent_AdamWOutRefIdeal :=
  fun m g _ => (θ_run _ _ _).mono (fun r h => ⟨fun c => (h c).2.2.2.2, sem_eq_zero_of_no_sems (by decide) r.2⟩) (Cert.AdamWOutRefIdeal.Value.run m g)

theorem adamQkvRef : Cert.quiescent_AdamQkvRefIdeal :=
  fun m g _ => (θ_run _ _ _).mono (fun r h => ⟨fun c => (h c).2.2.2.2, sem_eq_zero_of_no_sems (by decide) r.2⟩) (Cert.AdamQkvRefIdeal.Value.run m g)

theorem adamSqRef : Cert.quiescent_AdamSqRefIdeal :=
  fun m g _ => (θ_run _ _ _).mono (fun r h => ⟨fun c => (h c).2.2.2.2, sem_eq_zero_of_no_sems (by decide) r.2⟩) (Cert.AdamSqRefIdeal.Value.run m g)

theorem adamLinRef : Cert.quiescent_AdamLinRefIdeal :=
  fun m g _ => (θ_run _ _ _).mono (fun r h => ⟨fun c => (h c).2.2.2.2, sem_eq_zero_of_no_sems (by decide) r.2⟩) (Cert.AdamLinRefIdeal.Value.run m g)

theorem adamGatesRef : Cert.quiescent_AdamGatesRefIdeal :=
  fun m g _ => (θ_run _ _ _).mono (fun r h => ⟨fun c => (h c).2.2.2.2, sem_eq_zero_of_no_sems (by decide) r.2⟩) (Cert.AdamGatesRefIdeal.Value.run m g)

theorem attnFwdRef : Cert.quiescent_AttnFwdRefIdeal :=
  fun m g _ => (θ_run _ _ _).mono (fun r h => ⟨fun c => (h c).2, sem_eq_zero_of_no_sems (by decide) r.2⟩) (Cert.AttnFwdRefIdeal.Value.run m g)

theorem mixOutRef : Cert.quiescent_MixOutRefIdeal :=
  fun m g _ => (θ_run _ _ _).mono (fun r h => ⟨fun c => (h c).2.2.2, sem_eq_zero_of_no_sems (by decide) r.2⟩) (Cert.MixOutRefIdeal.Value.run m g)

theorem lruOutRef : Cert.quiescent_LruOutRefIdeal :=
  fun m g _ => (θ_run _ _ _).mono (fun r h => ⟨fun c => (h c).2, sem_eq_zero_of_no_sems (by decide) r.2⟩) (Cert.LruOutRefIdeal.Value.run m g)

theorem qkvRopeRef : Cert.quiescent_QkvRopeRefIdeal :=
  fun m g _ => (θ_run _ _ _).mono (fun r h => ⟨fun c => (h c).2, sem_eq_zero_of_no_sems (by decide) r.2⟩) (Cert.QkvRopeRefIdeal.Value.run m g)

end Cert.Frames

end
-- ==== Proof.DwOutValue.lean ====
module

public import proofs.«01_k».proof.Proof.Gen.FfnDwOutIdeal.Frame
public import proofs.«01_k».proof.Proof.Gen.FfnDwOutRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDwOutIdeal.Math

open Cert.FfnDwOutIdeal Cert.FfnDwOutIdeal.Gen

variable (m : (ℓ : Loc nD τ sig) → Buf (Elt Ideal) ℓ)

/-- The grid is 2 × 2 tiles of the result by 2 halves of the rows, the halves fastest. -/
theorem idx : ∀ t : Fin cfg0.N, win0_0.index t = ![t.val % 2, t.val / 4] ∧ win0_1.index t = ![t.val % 2, t.val / 2 % 2] ∧
    win0_2.index t = ![0, t.val / 4, t.val / 2 % 2] :=
  (by decide +kernel : ∀ t : Fin grid0.N, _)

/-- Half a product: 4096 rows contracted. -/
theorem part_apply (x : FVec Ideal S4096x1408 .bf16) (y : FVec Ideal S4096x512 .bf16) (j : S1408x512.Idx) :
    k0_pay1 (F := Ideal) x y j = ∑ k : Fin 4096, x (ix2 k (j 0)) * y (ix2 k (j 1)) := by
  pointwise [k0_pay1]

/-- What a tile's second point stores: the first half's product plus the second's. -/
theorem tile_apply (x y : FVec Ideal S4096x1408 .bf16) (u v : FVec Ideal S4096x512 .bf16) (j : S1x1408x512.Idx) :
    k0_pay4 (F := Ideal) (k0_pay3 (F := Ideal) y v (k0_pay2 (F := Ideal) x u)) j
      = ∑ k : Fin 4096, x (ix2 k (j 1)) * u (ix2 k (j 2)) + ∑ k : Fin 4096, y (ix2 k (j 1)) * v (ix2 k (j 2)) := by
  pointwise [k0_pay4, k0_pay3, k0_pay2, k0_pay1]

/-- The grid point before `t`. -/
abbrev prev (t : Fin cfg0.N) : Fin cfg0.N := ⟨t.val - 1, Nat.lt_of_le_of_lt (Nat.sub_le _ _) t.isLt⟩

/-- What the kernel's first operand holds when the grid starts: the activations, as the reference computes them. -/
theorem entry_act (c : Dev nD) : (V m c main_v7 : FVec Ideal S8192x2816 .bf16)
    = Cert.FfnDwOutRefIdeal.Read.val_main_v10 (F := Ideal) (m ((c : Thread nD τ).loc main_arg0)) (m ((c : Thread nD τ).loc main_arg1)) := by
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- What the kernel's second operand holds when the grid starts: half the gradient of the layer's output. -/
theorem entry_ct (c : Dev nD) : (V m c main_v10 : FVec Ideal S8192x1024 .bf16)
    = Cert.FfnDwOutRefIdeal.Read.val_main_v16 (F := Ideal) (m ((c : Thread nD τ).loc main_arg3)) := by
  unfold V
  simp only [hostOps0, hostOps0_1, hostOps0_2, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index: all 8192 rows contracted. -/
theorem ref_apply (x0 : FVec Ideal Cert.FfnDwOutRefIdeal.S8192x1024 .f32) (x1 : FVec Ideal Cert.FfnDwOutRefIdeal.S4x1024x5632 .f32)
    (x3 : FVec Ideal Cert.FfnDwOutRefIdeal.S8192x1024 .f32) (i : S1x2816x1024.Idx) :
    Cert.FfnDwOutRefIdeal.Read.val_main_v20 (F := Ideal) x0 x1 x3 i
      = ∑ k : Fin 8192, Cert.FfnDwOutRefIdeal.Read.val_main_v10 (F := Ideal) x0 x1 (ix2 k (i 1))
          * Cert.FfnDwOutRefIdeal.Read.val_main_v16 (F := Ideal) x3 (ix2 k (i 2)) := by
  rw [Cert.FfnDwOutRefIdeal.Read.val_main_v20_apply, Cert.FfnDwOutRefIdeal.Read.val_main_v19_apply,
    Cert.FfnDwOutRefIdeal.Read.val_main_v18_apply]
  refine (Cert.FfnDwOutRefIdeal.Read.val_main_v17_apply x0 x1 x3 _).trans ?_
  refine Fin.sum_fin_congr fun k => ?_
  rw [mul_comm]
  congr 2 <;> funext a <;> match a with
    | ⟨0, _⟩ => rfl
    | ⟨1, _⟩ => rfl

/-- The sum over all rows, split into its two halves. -/
theorem sum_halves (f : Fin 8192 → EReal) :
    ∑ k : Fin 8192, f k = ∑ k : Fin 4096, f ⟨k.val, by omega⟩ + ∑ k : Fin 4096, f ⟨4096 + k.val, by omega⟩ :=
  Fin.sum_univ_add (a := 4096) (b := 4096) f

/-- Row `k` of the activations times row `k` of the cotangent, summed over the 8192 rows. -/
def product (A : FVec Ideal S8192x2816 .bf16) (B : FVec Ideal S8192x1024 .bf16) : FVec Ideal S1x2816x1024 .bf16 :=
  fun i => ∑ k : Fin 8192, A (ix2 k (i 1)) * B (ix2 k (i 2))

theorem product_halves (A : FVec Ideal S8192x2816 .bf16) (B : FVec Ideal S8192x1024 .bf16) (i : S1x2816x1024.Idx) :
    product A B i = ∑ k : Fin 4096, A (ix2 (⟨k.val, by omega⟩ : Fin 8192) (i 1)) * B (ix2 (⟨k.val, by omega⟩ : Fin 8192) (i 2))
      + ∑ k : Fin 4096, A (ix2 (⟨4096 + k.val, by omega⟩ : Fin 8192) (i 1)) * B (ix2 (⟨4096 + k.val, by omega⟩ : Fin 8192) (i 2)) :=
  sum_halves _

/-- The result array after the run is the product of the two operands' arrays. -/
theorem final_product (c : Dev nD) : (dats m 0 c).arrAt 2 (cfgs 0).N = product (V m c main_v7) (V m c main_v10) := by
  refine (dats m 0 c).arrAt_eq_of_covers 2 _ (by decide +kernel) fun t hf y => ?_
  have hodd : t.val % 2 = 1 := (flush0_2 t).mp hf
  have hpos : 0 < t.val := by omega
  blk_simp
  have hprev := outsAt0_A m c (prev t) (by show (t.val - 1) % 2 = 0; omega) (by show ¬ (t.val - 1) % 2 = 1; omega) (by show ¬ (t.val - 1) % 2 = 1; omega)
  rw [after0_2, outsAt0_B m c t (by omega) hodd hodd, show outsAt0 m c (t.val - 1) _ = _ from hprev]
  frame_out
  rw [read_unread_whole, tile_apply, product_halves]
  clear hprev
  blk_simp [iblk]
  generalize V m c main_v7 = A
  generalize V m c main_v10 = B
  blk_point [idx t, idx (prev t)]

theorem final (c : Dev nD) : (dats m 0 c).arrAt 2 (cfgs 0).N
    = Cert.FfnDwOutRefIdeal.Read.val_main_v20 (F := Ideal) (m ((c : Thread nD τ).loc main_arg0)) (m ((c : Thread nD τ).loc main_arg1))
        (m ((c : Thread nD τ).loc main_arg3)) := by
  refine (final_product m c).trans (funext fun i => ?_)
  rw [ref_apply, entry_act, entry_ct]
  rfl

end Cert.FfnDwOutIdeal.Math

end
-- ==== Proof.DwOutClaim.lean ====
module

public import proofs.«01_k».proof.Defs
public import proofs.«01_k».proof.Proof.DwOutValue
public import proofs.«01_k».proof.Proof.Gen.FfnDwOutIdeal.Value
public import proofs.«01_k».proof.Proof.Gen.FfnDwOutRefIdeal.Run
public import Idealize.ShloMosaic.Lib.Claim

@[expose] public section

set_option maxRecDepth 16384

noncomputable section

open Idealize.ShloMosaic Idealize.SL.Sem

/-- The gradient of the feed-forward block's second weight: the kernel's tiled sum over the rows is the reference's product. -/
theorem Cert.FfnDwOutIdeal.Math.claim : Cert.algebraic_FfnDwOutIdeal_FfnDwOutRefIdeal := by
  intro m g m' g' _ hagree
  refine ⟨fun c => (Cert.FfnDwOutIdeal.Gen.dats m 0 c).arrAt 2 Cert.FfnDwOutIdeal.cfg0.N, Cert.FfnDwOutIdeal.Value.run_blocks m g, ?_⟩
  refine (θ_run _ _ _).mono (fun r h c => ⟨?_, (h c).2⟩) (Cert.FfnDwOutRefIdeal.Value.run m' g')
  refine (h c).1.trans ?_
  refine (Cert.FfnDwOutRefIdeal.Read.val_main_v20_eq _ _ _).trans ?_
  rw [(hagree c).1, (hagree c).2.1, (hagree c).2.2.2]
  exact (Cert.FfnDwOutIdeal.Math.final m c).symm

end
-- ==== Proof.DwInValue.lean ====
module

public import proofs.«01_k».proof.Proof.Gen.FfnDwInIdeal.Frame
public import proofs.«01_k».proof.Proof.Gen.FfnDwInRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDwInIdeal.Math

open Cert.FfnDwInIdeal Cert.FfnDwInIdeal.Gen

variable (m : (ℓ : Loc nD τ sig) → Buf (Elt Ideal) ℓ)

/-- The grid is 2 × 4 tiles of the result by 2 halves of the rows, the halves fastest. -/
theorem idx : ∀ t : Fin cfg0.N, win0_0.index t = ![t.val % 2, t.val / 8] ∧ win0_1.index t = ![t.val % 2, t.val / 2 % 4] ∧
    win0_2.index t = ![0, t.val / 8, t.val / 2 % 4] :=
  (by decide +kernel : ∀ t : Fin grid0.N, _)

/-- What a tile's second point stores: the first half's product plus the second's. -/
theorem tile_apply (x y : FVec Ideal S4096x512 .bf16) (u v : FVec Ideal S4096x1408 .bf16) (j : S1x512x1408.Idx) :
    k0_pay4 (F := Ideal) (k0_pay3 (F := Ideal) y v (k0_pay2 (F := Ideal) x u)) j
      = ∑ k : Fin 4096, x (ix2 k (j 1)) * u (ix2 k (j 2)) + ∑ k : Fin 4096, y (ix2 k (j 1)) * v (ix2 k (j 2)) := by
  pointwise [k0_pay4, k0_pay3, k0_pay2, k0_pay1]

/-- The grid point before `t`. -/
abbrev prev (t : Fin cfg0.N) : Fin cfg0.N := ⟨t.val - 1, Nat.lt_of_le_of_lt (Nat.sub_le _ _) t.isLt⟩

/-- The sum over all rows, split into its two halves. -/
theorem sum_halves (f : Fin 8192 → EReal) :
    ∑ k : Fin 8192, f k = ∑ k : Fin 4096, f ⟨k.val, by omega⟩ + ∑ k : Fin 4096, f ⟨4096 + k.val, by omega⟩ :=
  Fin.sum_univ_add (a := 4096) (b := 4096) f

/-- Row `k` of the inputs times row `k` of the cotangents, summed over the 8192 rows. -/
def product (A : FVec Ideal S8192x1024 .bf16) (B : FVec Ideal S8192x5632 .bf16) : FVec Ideal S1x1024x5632 .bf16 :=
  fun i => ∑ k : Fin 8192, A (ix2 k (i 1)) * B (ix2 k (i 2))

theorem product_halves (A : FVec Ideal S8192x1024 .bf16) (B : FVec Ideal S8192x5632 .bf16) (i : S1x1024x5632.Idx) :
    product A B i = ∑ k : Fin 4096, A (ix2 (⟨k.val, by omega⟩ : Fin 8192) (i 1)) * B (ix2 (⟨k.val, by omega⟩ : Fin 8192) (i 2))
      + ∑ k : Fin 4096, A (ix2 (⟨4096 + k.val, by omega⟩ : Fin 8192) (i 1)) * B (ix2 (⟨4096 + k.val, by omega⟩ : Fin 8192) (i 2)) :=
  sum_halves _

/-- The result array after the region is the product of the two operands' arrays. -/
theorem final_product (c : Dev nD) : (dats m 0 c).arrAt 2 (cfgs 0).N = product (V m c main_v25) (V m c main_v24) := by
  refine (dats m 0 c).arrAt_eq_of_covers 2 _ (by decide +kernel) fun t hf y => ?_
  have hodd : t.val % 2 = 1 := (flush0_2 t).mp hf
  have hpos : 0 < t.val := by omega
  blk_simp
  have hprev := outsAt0_A m c (prev t) (by show (t.val - 1) % 2 = 0; omega) (by show ¬ (t.val - 1) % 2 = 1; omega) (by show ¬ (t.val - 1) % 2 = 1; omega)
  rw [after0_2, outsAt0_B m c t (by omega) hodd hodd, show outsAt0 m c (t.val - 1) _ = _ from hprev]
  frame_out
  rw [read_unread_whole, tile_apply, product_halves]
  clear hprev
  blk_simp [iblk]
  generalize V m c main_v25 = A
  generalize V m c main_v24 = B
  blk_point [idx t, idx (prev t)]

/-- The four blocks of 1408 columns, the two inner ones exchanged: where the host's gather takes column `j` from. -/
def col (j : Fin 5632) : Fin 5632 :=
  ⟨if j.val < 1408 then j.val else if j.val < 2816 then j.val + 1408 else if j.val < 4224 then j.val - 1408 else j.val, by split_ifs <;> omega⟩

theorem col_col (j : Fin 5632) : col (col j) = j := by
  apply Fin.ext
  dsimp only [col]
  split_ifs <;> omega

/-- The host's gather of the cotangents' columns before the call. -/
def gather2 (D : FVec Ideal S8192x5632 .f32) : FVec Ideal S8192x5632 .f32 :=
  concatenate S8192x5632 1
    [⟨S8192x1408, extractStridedSlice S8192x1408 ![0, 0] D slices_S8192x5632_S8192x1408_0_0⟩,
     ⟨S8192x1408, extractStridedSlice S8192x1408 ![0, 2816] D slices_S8192x5632_S8192x1408_0_2816⟩,
     ⟨S8192x1408, extractStridedSlice S8192x1408 ![0, 1408] D slices_S8192x5632_S8192x1408_0_1408⟩,
     ⟨S8192x1408, extractStridedSlice S8192x1408 ![0, 4224] D slices_S8192x5632_S8192x1408_0_4224⟩]
    concatenates_S8192x1408_S8192x1408_S8192x1408_S8192x1408_S8192x5632_d1

theorem gather2_apply (D : FVec Ideal S8192x5632 .f32) (r : Fin 8192) (j : Fin 5632) : gather2 D (ix2 r j) = D (ix2 r (col j)) := by
  pointwise [gather2]
  split_ifs <;> refine congrArg (fun q => D (ix2 r q)) (Fin.ext ?_) <;> dsimp only [col] <;> split_ifs <;> omega

/-- The host's gather of the result's columns after the call. -/
def gather3 (D : FVec Ideal S1x1024x5632 .bf16) : FVec Ideal S1x1024x5632 .bf16 :=
  concatenate S1x1024x5632 2
    [⟨S1x1024x1408, extractStridedSlice S1x1024x1408 ![0, 0, 0] D slices_S1x1024x5632_S1x1024x1408_0_0_0⟩,
     ⟨S1x1024x1408, extractStridedSlice S1x1024x1408 ![0, 0, 2816] D slices_S1x1024x5632_S1x1024x1408_0_0_2816⟩,
     ⟨S1x1024x1408, extractStridedSlice S1x1024x1408 ![0, 0, 1408] D slices_S1x1024x5632_S1x1024x1408_0_0_1408⟩,
     ⟨S1x1024x1408, extractStridedSlice S1x1024x1408 ![0, 0, 4224] D slices_S1x1024x5632_S1x1024x1408_0_0_4224⟩]
    concatenates_S1x1024x1408_S1x1024x1408_S1x1024x1408_S1x1024x1408_S1x1024x5632_d2

theorem gather3_apply (D : FVec Ideal S1x1024x5632 .bf16) (i : S1x1024x5632.Idx) : gather3 D i = D (ix3 (i 0) (i 1) (col (i 2))) := by
  pointwise [gather3]
  have h0 : (0 : Fin 1) = i 0 := Subsingleton.elim _ _
  rw [h0]
  split_ifs <;> refine congrArg (fun q => D (ix3 (i 0) (i 1) q)) (Fin.ext ?_) <;> dsimp only [col] <;> split_ifs <;> omega

/-- What the kernel's first operand holds when the grid starts: the layer's input. -/
theorem entry_x (c : Dev nD) : (V m c main_v25 : FVec Ideal S8192x1024 .bf16) = (m ((c : Thread nD τ).loc main_arg0) : FVec Ideal S8192x1024 .f32) := by
  unfold V V0
  simp only [hostOps0, hostOps0_1, hostOps0_2, hostOps0_3, hostOps0_4, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The host's cotangents of the layer's activations are the reference's. -/
theorem entry_raw (c : Dev nD) : (V m c main_v18 : FVec Ideal S8192x5632 .f32)
    = Cert.FfnDwInRefIdeal.Read.val_main_v21 (F := Ideal) (m ((c : Thread nD τ).loc main_arg0)) (m ((c : Thread nD τ).loc main_arg1))
        (m ((c : Thread nD τ).loc main_arg2)) (m ((c : Thread nD τ).loc main_arg3)) := by
  unfold V V0
  simp only [hostOps0, hostOps0_1, hostOps0_2, hostOps0_3, hostOps0_4, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- What the kernel's second operand holds when the grid starts: those cotangents, their columns gathered. -/
theorem entry_ct (c : Dev nD) : (V m c main_v24 : FVec Ideal S8192x5632 .bf16) = gather2 (V m c main_v18 : FVec Ideal S8192x5632 .f32) := by
  unfold V V0
  simp only [hostOps0, hostOps0_1, hostOps0_2, hostOps0_3, hostOps0_4, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- What the module returns: the region's result, its columns gathered. -/
theorem exit_result (c : Dev nD) : (Pipeline.afterTail₀ cfgs (dats m) 0 (V0 m) [hostOps1] c main_v31 : FVec Ideal S1x1024x5632 .bf16)
    = gather3 ((dats m 0 c).arrAt 2 (cfgs 0).N) := by
  have harr : Pipeline.withArrays (cfgs 0).spec c (V0 m c) (fun w => (dats m 0 c).arrAt w (cfgs 0).N) (Proc.devRef .tc main_v26)
      = (dats m 0 c).arrAt 2 (cfgs 0).N := Pipeline.withArrays_arr (cfgs 0).spec (by decide) c _ _ 2
  rw [← harr]
  unfold Pipeline.afterTail₀
  generalize Pipeline.withArrays (cfgs 0).spec c (V0 m c) (fun w => (dats m 0 c).arrAt w (cfgs 0).N) = W
  simp only [hostOps1, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index: all 8192 rows contracted. -/
theorem ref_apply (x0 : FVec Ideal Cert.FfnDwInRefIdeal.S8192x1024 .f32) (x1 : FVec Ideal Cert.FfnDwInRefIdeal.S4x1024x5632 .f32)
    (x2 : FVec Ideal Cert.FfnDwInRefIdeal.S4x2816x1024 .f32) (x3 : FVec Ideal Cert.FfnDwInRefIdeal.S8192x1024 .f32) (i : S1x1024x5632.Idx) :
    Cert.FfnDwInRefIdeal.Read.val_main_v25 (F := Ideal) x0 x1 x2 x3 i
      = ∑ k : Fin 8192, x0 (ix2 k (i 1)) * Cert.FfnDwInRefIdeal.Read.val_main_v21 (F := Ideal) x0 x1 x2 x3 (ix2 k (i 2)) := by
  rw [Cert.FfnDwInRefIdeal.Read.val_main_v25_apply, Cert.FfnDwInRefIdeal.Read.val_main_v24_apply,
    Cert.FfnDwInRefIdeal.Read.val_main_v23_apply]
  refine (Cert.FfnDwInRefIdeal.Read.val_main_v22_apply x0 x1 x2 x3 _).trans ?_
  refine Fin.sum_fin_congr fun k => ?_
  rw [mul_comm]
  congr 2 <;> funext a <;> match a with
    | ⟨0, _⟩ => rfl
    | ⟨1, _⟩ => rfl

/-- The product against gathered columns, its own columns gathered, is the product. -/
theorem gather_product (A : FVec Ideal S8192x1024 .bf16) (B : FVec Ideal S8192x5632 .f32) (i : S1x1024x5632.Idx) :
    gather3 (product A (gather2 B)) i = ∑ k : Fin 8192, A (ix2 k (i 1)) * B (ix2 k (i 2)) := by
  rw [gather3_apply]
  unfold product
  refine Fin.sum_fin_congr fun k => ?_
  show A (ix2 k (i 1)) * gather2 B (ix2 k (col (i 2))) = _
  rw [gather2_apply]
  exact congrArg (fun q => A (ix2 k (i 1)) * B (ix2 k q)) (col_col (i 2))

theorem final (c : Dev nD) : (Pipeline.afterTail₀ cfgs (dats m) 0 (V0 m) [hostOps1] c main_v31 : FVec Ideal S1x1024x5632 .bf16)
    = Cert.FfnDwInRefIdeal.Read.val_main_v25 (F := Ideal) (m ((c : Thread nD τ).loc main_arg0)) (m ((c : Thread nD τ).loc main_arg1))
        (m ((c : Thread nD τ).loc main_arg2)) (m ((c : Thread nD τ).loc main_arg3)) := by
  rw [exit_result, final_product, entry_x, entry_ct, entry_raw]
  refine funext fun i => ?_
  rw [ref_apply]
  exact gather_product _ _ i

end Cert.FfnDwInIdeal.Math

end
-- ==== Proof.DwInClaim.lean ====
module

public import proofs.«01_k».proof.Defs
public import proofs.«01_k».proof.Proof.DwInValue
public import proofs.«01_k».proof.Proof.Gen.FfnDwInRefIdeal.Run
public import Idealize.ShloMosaic.Lib.Claim

@[expose] public section

set_option maxRecDepth 16384

noncomputable section

open Idealize.ShloMosaic Idealize.SL.Sem

/-- The gradient of the feed-forward block's first weight: the kernel's tiled sum over the rows, its columns gathered before and
    after, is the reference's product. -/
theorem Cert.FfnDwInIdeal.Math.claim : Cert.algebraic_FfnDwInIdeal_FfnDwInRefIdeal := by
  intro m g m' g' _ hagree
  refine ⟨fun c => Pipeline.afterTail₀ Cert.FfnDwInIdeal.cfgs (Cert.FfnDwInIdeal.Gen.dats m) 0 (Cert.FfnDwInIdeal.Gen.V0 m)
    [Cert.FfnDwInIdeal.Gen.hostOps1] c Cert.FfnDwInIdeal.main_v31, ?_, ?_⟩
  · refine (θ_run _ _ _).mono (fun r h c => ⟨?_, ?_, ?_, ?_, ?_⟩) (Cert.FfnDwInIdeal.Gen.run_main m g)
    · exact (h c).2 Cert.FfnDwInIdeal.main_v31 (Pipeline.mem_restRefs_of Cert.FfnDwInIdeal.main_v31 (by decide) (by decide))
    · exact ((h c).2 Cert.FfnDwInIdeal.main_arg0 (Pipeline.mem_restRefs_of Cert.FfnDwInIdeal.main_arg0 (by decide) (by decide))).trans
        (Cert.FfnDwInIdeal.Gen.W_main_arg0 m (Cert.FfnDwInIdeal.Gen.dats m) c)
    · exact ((h c).2 Cert.FfnDwInIdeal.main_arg1 (Pipeline.mem_restRefs_of Cert.FfnDwInIdeal.main_arg1 (by decide) (by decide))).trans
        (Cert.FfnDwInIdeal.Gen.W_main_arg1 m (Cert.FfnDwInIdeal.Gen.dats m) c)
    · exact ((h c).2 Cert.FfnDwInIdeal.main_arg2 (Pipeline.mem_restRefs_of Cert.FfnDwInIdeal.main_arg2 (by decide) (by decide))).trans
        (Cert.FfnDwInIdeal.Gen.W_main_arg2 m (Cert.FfnDwInIdeal.Gen.dats m) c)
    · exact ((h c).2 Cert.FfnDwInIdeal.main_arg3 (Pipeline.mem_restRefs_of Cert.FfnDwInIdeal.main_arg3 (by decide) (by decide))).trans
        (Cert.FfnDwInIdeal.Gen.W_main_arg3 m (Cert.FfnDwInIdeal.Gen.dats m) c)
  refine (θ_run _ _ _).mono (fun r h c => ⟨?_, (h c).2⟩) (Cert.FfnDwInRefIdeal.Value.run m' g')
  refine (h c).1.trans ?_
  refine (Cert.FfnDwInRefIdeal.Read.val_main_v25_eq _ _).trans ?_
  rw [(hagree c).1, (hagree c).2.1, (hagree c).2.2.1, (hagree c).2.2.2]
  exact (Cert.FfnDwInIdeal.Math.final m c).symm

end
-- ==== Proof.DxUp.lean ====
module

public import proofs.«01_k».proof.Proof.Gen.FfnDxIdeal.Frame
public import proofs.«01_k».proof.Proof.Gen.FfnDxRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDxIdeal.Math

open Cert.FfnDxIdeal Cert.FfnDxIdeal.Gen

variable (V : (c : Dev nD) → (b : Ref sig .tc) → Buf (Elt Ideal) ((c : Thread nD τ).loc b))

/-- An entry of the product of a tile of rows and a tile of the first weight. -/
def dot (x : FVec Ideal S1024x1024 .bf16) (w : FVec Ideal S1x1024x2816 .bf16) (r : Fin 1024) (j : Fin 2816) : EReal :=
  ∑ k : Fin 1024, x (ix2 r k) * w (ix3 (0 : Fin 1) k j)

/-- The gate's sigmoid-weighted value. -/
def swish (g : EReal) : EReal := g * Ideal.logistic g

/-- The derivative of the gated product with respect to the gate. -/
def slope (g u : EReal) : EReal := u * (Ideal.logistic g + swish g * (1 - Ideal.logistic g))

/-- What a point of the first call stores: the two factors of the cotangents, the gate's beside the other's. -/
def factors (x : FVec Ideal S1024x1024 .bf16) (w : FVec Ideal S1x1024x2816 .bf16) (r : Fin 1024) (j : Fin 2816) : EReal :=
  if h : j.val < 1408 then slope (dot x w r j) (dot x w r ⟨j.val + 1408, by omega⟩) else swish (dot x w r ⟨j.val - 1408, by omega⟩)

theorem factors_lo (x : FVec Ideal S1024x1024 .bf16) (w : FVec Ideal S1x1024x2816 .bf16) (r p : Fin 1024) (j a b : Fin 2816) (hr : r.val = p.val)
    (ha : j.val = a.val) (hb : j.val + 1408 = b.val) : slope (dot x w p a) (dot x w p b) = factors x w r j := by
  obtain rfl := Fin.ext hr
  obtain rfl := Fin.ext ha
  have hj : j.val < 1408 := by omega
  have e : b = ⟨j.val + 1408, by omega⟩ := Fin.ext hb.symm
  rw [e, factors, dif_pos hj]

theorem factors_hi (x : FVec Ideal S1024x1024 .bf16) (w : FVec Ideal S1x1024x2816 .bf16) (r p : Fin 1024) (j a : Fin 2816) (hr : r.val = p.val)
    (ha : j.val = 1408 + a.val) : swish (dot x w p a) = factors x w r j := by
  obtain rfl := Fin.ext hr
  have hj : ¬ j.val < 1408 := by omega
  have e : a = ⟨j.val - 1408, by omega⟩ := Fin.ext (by show a.val = j.val - 1408; omega)
  rw [e, factors, dif_neg hj]

set_option maxHeartbeats 4000000 in
theorem up_block (c : Dev nD) (t : Fin cfg0.N) (y : S1024x2816.Idx) :
    (dat0 V c).after 2 t y = factors (iblk0 V c 0 t) (iblk0 V c 1 t) (y 0) (y 1) := by
  rw [after0_2]; unfold outsAt0; frame_out
  generalize (iblk0 V c 0 t : FVec Ideal S1024x1024 .bf16) = X
  generalize (iblk0 V c 1 t : FVec Ideal S1x1024x2816 .bf16) = W
  canon_tiles x h using (View.cover_of_tiledBy _ ![1024, 128] (by sl_kernel_rfl) y)
  all_goals open_payloads
  all_goals pointwise
  all_goals first
    | exact factors_hi X W (y 0) (x 0) (y 1) _ h0 h1
    | refine factors_hi X W (y 0) (x 0) (y 1) _ h0 ?_
      rw [h1]
      dsimp only
      omega
    | refine factors_lo X W (y 0) (x 0) (y 1) _ _ h0 ?_ ?_
      all_goals rw [h1]
      all_goals dsimp only
      all_goals omega

end Cert.FfnDxIdeal.Math

end
-- ==== Proof.DxCots.lean ====
module

public import proofs.«01_k».proof.Proof.Gen.FfnDxIdeal.Frame
public import proofs.«01_k».proof.Proof.Gen.FfnDxRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDxIdeal.Math

open Cert.FfnDxIdeal Cert.FfnDxIdeal.Gen

variable (V : (c : Dev nD) → (b : Ref sig .tc) → Buf (Elt Ideal) ((c : Thread nD τ).loc b))

/-- What a point of the second call stores: the cotangent of the gated product, times the factor that the first call stored. -/
def cots (d : FVec Ideal S1024x1024 .bf16) (w : FVec Ideal S1x1408x1024 .bf16) (f : FVec Ideal S1024x2816 .bf16) (r : Fin 1024) (j : Fin 2816) : EReal :=
  (∑ k : Fin 1024, d (ix2 r k) * w (ix3 (0 : Fin 1) (⟨j.val % 1408, Nat.mod_lt _ (by decide)⟩ : Fin 1408) k)) * f (ix2 r j)

theorem cots_of (d : FVec Ideal S1024x1024 .bf16) (w : FVec Ideal S1x1408x1024 .bf16) (f : FVec Ideal S1024x2816 .bf16) (r p : Fin 1024) (j b : Fin 2816)
    (a : Fin 1408) (hr : r.val = p.val) (hb : j.val = b.val) (ha : j.val % 1408 = a.val) :
    (∑ k : Fin 1024, d (ix2 p k) * w (ix3 (0 : Fin 1) a k)) * f (ix2 p b) = cots d w f r j := by
  obtain rfl := Fin.ext hr
  obtain rfl := Fin.ext hb
  have e : a = ⟨j.val % 1408, Nat.mod_lt _ (by decide)⟩ := Fin.ext ha.symm
  rw [e, cots]

set_option maxHeartbeats 4000000 in
theorem cots_block (c : Dev nD) (t : Fin cfg1.N) (y : S1024x2816.Idx) :
    (dat1 V c).after 3 t y = cots (iblk1 V c 0 t) (iblk1 V c 1 t) (iblk1 V c 2 t) (y 0) (y 1) := by
  rw [after1_3]; unfold outsAt1; frame_out
  generalize (iblk1 V c 0 t : FVec Ideal S1024x1024 .bf16) = X
  generalize (iblk1 V c 1 t : FVec Ideal S1x1408x1024 .bf16) = W
  generalize (iblk1 V c 2 t : FVec Ideal S1024x2816 .bf16) = Z
  canon_tiles x h using (View.cover_of_tiledBy _ ![1024, 128] (by sl_kernel_rfl) y)
  all_goals open_payloads
  all_goals pointwise
  all_goals
    refine cots_of X W Z (y 0) (x 0) (y 1) _ _ h0 h1 ?_
    rw [h1]
    dsimp only
    omega

end Cert.FfnDxIdeal.Math

end
-- ==== Proof.DxSum.lean ====
module

public import proofs.«01_k».proof.Proof.Gen.FfnDxIdeal.Frame
public import proofs.«01_k».proof.Proof.Gen.FfnDxRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDxIdeal.Math

open Cert.FfnDxIdeal Cert.FfnDxIdeal.Gen

variable (V : (c : Dev nD) → (b : Ref sig .tc) → Buf (Elt Ideal) ((c : Thread nD τ).loc b))

/-- What a point of the third call stores: the residual's share of the gradient, plus the product with the first weight. -/
def tile (Z : FVec Ideal S1024x5632 .bf16) (W : FVec Ideal S1x1024x5632 .bf16) (D : FVec Ideal S1024x1024 .f32) (r d : Fin 1024) : EReal :=
  Ideal.ofBits .f32 0x3FD744FD#32 * D (ix2 r d) + ∑ q : Fin 5632, Z (ix2 r q) * W (ix3 (0 : Fin 1) d q)

theorem sum_block (c : Dev nD) (t : Fin cfg2.N) (y : S1024x1024.Idx) :
    (dat2 V c).after 3 t y = tile (iblk2 V c 0 t) (iblk2 V c 1 t) (iblk2 V c 2 t) (y 0) (y 1) := by
  rw [after2_3]; frame_out
  pointwise [k2_pay1, tile]

theorem idx0 : ∀ t : Fin cfg0.N, win0_0.index t = ![t.val % 8, 0] ∧ win0_1.index t = ![3, 0, t.val / 8] ∧ win0_2.index t = ![t.val % 8, t.val / 8] :=
  (by decide +kernel : ∀ t : Fin grid0.N, _)

theorem idx1 : ∀ t : Fin cfg1.N, win1_0.index t = ![t.val % 8, 0] ∧ win1_1.index t = ![3, t.val / 8, 0] ∧ win1_2.index t = ![t.val % 8, t.val / 8]
    ∧ win1_3.index t = ![t.val % 8, t.val / 8] :=
  (by decide +kernel : ∀ t : Fin grid1.N, _)

theorem idx2 : ∀ t : Fin cfg2.N, win2_0.index t = ![t.val, 0] ∧ win2_1.index t = ![3, 0, 0] ∧ win2_2.index t = ![t.val, 0]
    ∧ win2_3.index t = ![t.val, 0] :=
  (by decide +kernel : ∀ t : Fin grid2.N, _)

/-- The third call's result: row `r` of the cotangents against row `d` of the gathered weight, plus the residual's share. -/
def total (Z : FVec Ideal S8192x5632 .bf16) (W : FVec Ideal S4x1024x5632 .bf16) (D : FVec Ideal S8192x1024 .f32) : FVec Ideal S8192x1024 .f32 :=
  fun i => Ideal.ofBits .f32 0x3FD744FD#32 * D i + ∑ q : Fin 5632, Z (ix2 (i 0) q) * W (ix3 (3 : Fin 4) (i 1) q)

theorem final2 (c : Dev nD) : (dat2 V c).arrAt 3 cfg2.N = total (V c main_v12) (V c main_v5) (V c main_arg3) := by
  refine (dat2 V c).arrAt_eq_of_covers 3 _ (by decide +kernel) fun t hf y => ?_
  blk_simp
  rw [sum_block]
  unfold total tile
  blk_simp [iblk2]
  generalize V c main_v12 = A
  generalize V c main_v5 = B
  generalize V c main_arg3 = C
  blk_point [idx2 t]

end Cert.FfnDxIdeal.Math

end
-- ==== Proof.DxFinal.lean ====
module

public import proofs.«01_k».proof.Proof.Gen.FfnDxIdeal.Frame
public import proofs.«01_k».proof.Proof.Gen.FfnDxRefIdeal.Read
public import proofs.«01_k».proof.Proof.DxUp
public import proofs.«01_k».proof.Proof.DxCots
public import proofs.«01_k».proof.Proof.DxSum
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDxIdeal.Math

open Cert.FfnDxIdeal Cert.FfnDxIdeal.Gen

variable (V : (c : Dev nD) → (b : Ref sig .tc) → Buf (Elt Ideal) ((c : Thread nD τ).loc b))

/-- Entry (`r`, `q`) of the product with layer 3's gathered first weight. -/
def dotAt (X : FVec Ideal S8192x1024 .bf16) (W : FVec Ideal S4x1024x5632 .bf16) (r : Fin 8192) (q : Fin 5632) : EReal :=
  ∑ k : Fin 1024, X (ix2 r k) * W (ix3 (3 : Fin 4) k q)

/-- The first call's result: in each half of the columns, the slopes beside the gates' values. -/
def factorsAt (X : FVec Ideal S8192x1024 .bf16) (W : FVec Ideal S4x1024x5632 .bf16) (r : Fin 8192) (q : Fin 5632) : EReal :=
  if h : q.val % 2816 < 1408 then slope (dotAt X W r q) (dotAt X W r ⟨q.val + 1408, by omega⟩) else swish (dotAt X W r ⟨q.val - 1408, by omega⟩)

theorem dot_block (c : Dev nD) (t : Fin cfg0.N) (r : Fin 1024) (j : Fin 2816) (p : Fin 8192) (q : Fin 5632) (hr : p.val = t.val % 8 * 1024 + r.val)
    (hq : q.val = t.val / 8 * 2816 + j.val) : dot (iblk0 V c 0 t) (iblk0 V c 1 t) r j = dotAt (V c main_v7) (V c main_v5) p q := by
  unfold dot dotAt
  blk_simp [iblk0]
  generalize V c main_v7 = A
  generalize V c main_v5 = B
  blk_point [idx0 t]

theorem final0 (c : Dev nD) : (dat0 V c).arrAt 2 cfg0.N = fun i => factorsAt (V c main_v7) (V c main_v5) (i 0) (i 1) := by
  refine (dat0 V c).arrAt_eq_of_covers 2 _ (by decide +kernel) fun t hf y => ?_
  blk_simp
  rw [up_block]
  have e0 : ((win0_2.blk t).view.emb y 0).val = t.val % 8 * 1024 + (y 0).val := by blk_point [idx0 t]
  have e1 : ((win0_2.blk t).view.emb y 1).val = t.val / 8 * 2816 + (y 1).val := by blk_point [idx0 t]
  generalize ((win0_2.blk t).view.emb y 0 : Fin 8192) = p at e0
  generalize ((win0_2.blk t).view.emb y 1 : Fin 5632) = q at e1
  have hj : (y 1).val < 2816 := (y 1).isLt
  have hq : q.val < 5632 := q.isLt
  have ht : t.val < 16 := t.isLt
  unfold factors factorsAt
  by_cases h : (y 1).val < 1408
  · have h' : q.val % 2816 < 1408 := by omega
    rw [dif_pos h, dif_pos h', dot_block V c t (y 0) (y 1) p q e0 e1,
      dot_block V c t (y 0) ⟨(y 1).val + 1408, by omega⟩ p ⟨q.val + 1408, by omega⟩ e0 (by show q.val + 1408 = _ + ((y 1).val + 1408); omega)]
  · have h' : ¬ q.val % 2816 < 1408 := by omega
    rw [dif_neg h, dif_neg h',
      dot_block V c t (y 0) ⟨(y 1).val - 1408, by omega⟩ p ⟨q.val - 1408, by omega⟩ e0 (by show q.val - 1408 = _ + ((y 1).val - 1408); omega)]

/-- The column of the second weight's gradient that the gathered column `q` belongs to. -/
def unit (q : Fin 5632) : Fin 2816 := ⟨q.val / 2816 * 1408 + q.val % 1408, by omega⟩

/-- The second call's result. -/
def cotsAt (D : FVec Ideal S8192x1024 .bf16) (W : FVec Ideal S4x2816x1024 .bf16) (Z : FVec Ideal S8192x5632 .bf16) (r : Fin 8192) (q : Fin 5632) : EReal :=
  (∑ k : Fin 1024, D (ix2 r k) * W (ix3 (3 : Fin 4) (unit q) k)) * Z (ix2 r q)

theorem final1 (c : Dev nD) : (dat1 V c).arrAt 3 cfg1.N = fun i => cotsAt (V c main_v11) (V c main_v6) (V c main_v8_0) (i 0) (i 1) := by
  refine (dat1 V c).arrAt_eq_of_covers 3 _ (by decide +kernel) fun t hf y => ?_
  blk_simp
  rw [cots_block]
  have hj : (y 1).val < 2816 := (y 1).isLt
  have ht : t.val < 16 := t.isLt
  have e1 : ((win1_3.blk t).view.emb y 1).val = t.val / 8 * 2816 + (y 1).val := by blk_point [idx1 t]
  have hu : (unit ((win1_3.blk t).view.emb y 1)).val = t.val / 8 * 1408 + (y 1).val % 1408 := by
    show ((win1_3.blk t).view.emb y 1).val / 2816 * 1408 + ((win1_3.blk t).view.emb y 1).val % 1408 = _
    rw [e1]; omega
  unfold cots cotsAt
  generalize unit ((win1_3.blk t).view.emb y 1) = u at hu
  generalize hv : (⟨(y 1).val % 1408, Nat.mod_lt _ (by decide)⟩ : Fin 1408) = v
  have hw : v.val = (y 1).val % 1408 := by rw [← hv]
  rw [← hw] at hu
  blk_simp [iblk1]
  generalize V c main_v11 = A
  generalize V c main_v6 = B
  generalize V c main_v8_0 = C
  blk_point [idx1 t]

end Cert.FfnDxIdeal.Math

end
-- ==== Proof.DxMath.lean ====
module

public import proofs.«01_k».proof.Proof.Gen.FfnDxIdeal.Frame
public import proofs.«01_k».proof.Proof.Gen.FfnDxRefIdeal.Read
public import proofs.«01_k».proof.Proof.DxFinal
public import proofs.«01_k».proof.Proof.DwInValue
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDxIdeal.Math

open Cert.FfnDxIdeal Cert.FfnDxIdeal.Gen

open Cert.FfnDwInIdeal.Math (col col_col)

/-- Entry (`r`, `q`) of the product with layer 3's first weight: the gates in the first 2816 columns, the other factors in the rest. -/
def preAct (x : FVec Ideal S8192x1024 .f32) (w : FVec Ideal S4x1024x5632 .f32) (r : Fin 8192) (q : Fin 5632) : EReal :=
  ∑ k : Fin 1024, x (ix2 r k) * w (ix3 (3 : Fin 4) k q)

/-- The cotangent of the gated product. -/
def cot (w : FVec Ideal S4x2816x1024 .f32) (d : FVec Ideal S8192x1024 .f32) (r : Fin 8192) (j : Fin 2816) : EReal :=
  ∑ k : Fin 1024, Ideal.ofBits .f32 0x3F000000#32 * d (ix2 r k) * w (ix3 (3 : Fin 4) j k)

/-- The reference's cotangent of the pre-activations. -/
def grad (x : FVec Ideal S8192x1024 .f32) (w : FVec Ideal S4x1024x5632 .f32) (v : FVec Ideal S4x2816x1024 .f32) (d : FVec Ideal S8192x1024 .f32)
    (r : Fin 8192) (q : Fin 5632) : EReal :=
  if h : q.val < 2816 then
    cot v d r ⟨q.val, h⟩ * preAct x w r ⟨q.val + 2816, by omega⟩ * Ideal.logistic (preAct x w r q)
      + preAct x w r q * (cot v d r ⟨q.val, h⟩ * preAct x w r ⟨q.val + 2816, by omega⟩)
        * (Ideal.logistic (preAct x w r q) * (1 - Ideal.logistic (preAct x w r q)))
  else preAct x w r ⟨q.val - 2816, by omega⟩ * Ideal.logistic (preAct x w r ⟨q.val - 2816, by omega⟩) * cot v d r ⟨q.val - 2816, by omega⟩

/-- A real number's extended real. -/
def Real' (x : EReal) : Prop := ∃ r : ℝ, x = (r : EReal)

theorem real'_of {x : EReal} (h : x ≠ ⊤ ∧ x ≠ ⊥) : Real' x := ⟨x.toReal, (EReal.coe_toReal h.1 h.2).symm⟩

theorem real'_mul {x y : EReal} (hx : Real' x) (hy : Real' y) : Real' (x * y) := by
  obtain ⟨a, rfl⟩ := hx; obtain ⟨b, rfl⟩ := hy; exact ⟨a * b, by push_cast; rfl⟩

theorem real'_sum {n : ℕ} (f : Fin n → EReal) (h : ∀ k, Real' (f k)) : Real' (∑ k, f k) := by
  choose g hg using h
  refine ⟨∑ k, g k, ?_⟩
  rw [Finset.sum_congr rfl fun k _ => hg k]
  exact (map_sum (⟨⟨(fun r : ℝ => (r : EReal)), EReal.coe_zero⟩, EReal.coe_add⟩ : ℝ →+ EReal) g Finset.univ).symm

theorem half_real : Real' (Ideal.ofBits .f32 0x3F000000#32) := by
  refine ⟨8388608 * (2 ^ 24 : ℝ)⁻¹, ?_⟩
  simp [Ideal.ofBits, Ideal.ieee]

/-- The product rule for the gate, the kernel's factored form against the reference's. -/
theorem slope_eq {g u d : EReal} (hg : Real' g) (hu : Real' u) (hd : Real' d) :
    d * slope g u = d * u * Ideal.logistic g + g * (d * u) * (Ideal.logistic g * (1 - Ideal.logistic g)) := by
  obtain ⟨a, rfl⟩ := hg; obtain ⟨b, rfl⟩ := hu; obtain ⟨c, rfl⟩ := hd
  unfold slope swish
  rw [Ideal.logistic_coe]
  generalize (1 + Real.exp (-a))⁻¹ = s
  have e : ((1 : EReal)) = ((1 : ℝ) : EReal) := rfl
  rw [e]
  norm_cast
  ring

section Ref

open Cert.FfnDxRefIdeal.Read

variable (x : FVec Ideal S8192x1024 .f32) (w : FVec Ideal S4x1024x5632 .f32) (v : FVec Ideal S4x2816x1024 .f32) (d : FVec Ideal S8192x1024 .f32)

theorem ref_v1 (k : Fin 1024) (q : Fin 5632) : val_main_v1 (F := Ideal) w (ix2 k q) = w (ix3 (3 : Fin 4) k q) := by
  pointwise [val_main_v1, val_main_v0]

theorem ref_v3 (j : Fin 2816) (k : Fin 1024) : val_main_v3 (F := Ideal) v (ix2 j k) = v (ix3 (3 : Fin 4) j k) := by
  pointwise [val_main_v3, val_main_v2]

theorem ref_v4 (r : Fin 8192) (q : Fin 5632) : val_main_v4 (F := Ideal) x w (ix2 r q) = preAct x w r q := by
  refine (val_main_v4_apply x w _).trans (Fin.sum_fin_congr fun k => ?_)
  rw [show lidx_main_v4 (ix2 r q) k = ix2 r k from ?_, show ridx_main_v4 (ix2 r q) k = ix2 k q from ?_, ref_v1]
  all_goals
    funext a
    match a with
    | ⟨0, _⟩ => rfl
    | ⟨1, _⟩ => rfl

theorem ref_v5 (r : Fin 8192) (j : Fin 2816) : val_main_v5 (F := Ideal) x w (ix2 r j) = preAct x w r ⟨j.val, by omega⟩ := by
  rw [val_main_v5_apply, ← ref_v4]
  refine congrArg _ (funext fun a => ?_)
  match a with
  | ⟨0, _⟩ => rfl
  | ⟨1, _⟩ => rfl

theorem ref_v6 (r : Fin 8192) (j : Fin 2816) : val_main_v6 (F := Ideal) x w (ix2 r j) = preAct x w r ⟨j.val + 2816, by omega⟩ := by
  rw [val_main_v6_apply, ← ref_v4]
  refine congrArg _ (funext fun a => Fin.ext ?_)
  match a with
  | ⟨0, _⟩ => rfl
  | ⟨1, _⟩ => exact Nat.add_comm _ _

theorem ref_v18 (r : Fin 8192) (k : Fin 1024) : val_main_v18 (F := Ideal) d (ix2 r k) = Ideal.ofBits .f32 0x3F000000#32 * d (ix2 r k) := by
  pointwise [val_main_v18, val_main_v17, val_main_v16, val_main_cst_1]

theorem ref_v19 (r : Fin 8192) (j : Fin 2816) : val_main_v19 (F := Ideal) v d (ix2 r j) = cot v d r j := by
  refine (val_main_v19_apply _ _ _).trans (Fin.sum_fin_congr fun k => ?_)
  rw [show lidx_main_v19 (ix2 r j) k = ix2 r k from ?_, show ridx_main_v19 (ix2 r j) k = ix2 j k from ?_, ref_v3, ref_v18]
  all_goals
    funext a
    match a with
    | ⟨0, _⟩ => rfl
    | ⟨1, _⟩ => rfl

theorem one_eq : Ideal.ofBits .f32 0x3F800000#32 = 1 := by
  simp [Ideal.ofBits, Ideal.ieee]
  norm_cast
  norm_num

theorem ref_sig (i : S8192x2816.Idx) : val_main_v9_2 (F := Ideal) x w i = Ideal.logistic (val_main_v5 (F := Ideal) x w i) := by
  show Ideal.div (Ideal.ofBits .f32 0x3F800000#32) (Ideal.ofBits .f32 0x3F800000#32 + Ideal.exp (-(val_main_v5 (F := Ideal) x w i))) = _
  rw [one_eq]
  rfl

theorem ref_v20 (r : Fin 8192) (j : Fin 2816) : val_main_v20 (F := Ideal) x w v d (ix2 r j)
    = preAct x w r ⟨j.val, by omega⟩ * Ideal.logistic (preAct x w r ⟨j.val, by omega⟩) * cot v d r j := by
  show val_main_v5 (F := Ideal) x w (ix2 r j) * val_main_v9_2 (F := Ideal) x w (ix2 r j) * val_main_v19 (F := Ideal) v d (ix2 r j) = _
  rw [ref_sig, ref_v5, ref_v19]

theorem ref_v22 (r : Fin 8192) (j : Fin 2816) : val_main_v22 (F := Ideal) x w v d (ix2 r j)
    = cot v d r j * preAct x w r ⟨j.val + 2816, by omega⟩ * Ideal.logistic (preAct x w r ⟨j.val, by omega⟩)
      + preAct x w r ⟨j.val, by omega⟩ * (cot v d r j * preAct x w r ⟨j.val + 2816, by omega⟩)
        * (Ideal.logistic (preAct x w r ⟨j.val, by omega⟩) * (1 - Ideal.logistic (preAct x w r ⟨j.val, by omega⟩))) := by
  show val_main_v19 (F := Ideal) v d (ix2 r j) * val_main_v6 (F := Ideal) x w (ix2 r j) * val_main_v9_2 (F := Ideal) x w (ix2 r j)
      + val_main_v5 (F := Ideal) x w (ix2 r j) * (val_main_v19 (F := Ideal) v d (ix2 r j) * val_main_v6 (F := Ideal) x w (ix2 r j))
        * (val_main_v9_2 (F := Ideal) x w (ix2 r j) * (Ideal.ofBits .f32 0x3F800000#32 - val_main_v9_2 (F := Ideal) x w (ix2 r j))) = _
  rw [ref_sig, ref_v5, ref_v6, ref_v19, one_eq]

theorem ref_v25 (r : Fin 8192) (q : Fin 5632) : val_main_v25 (F := Ideal) x w v d (ix2 r q) = grad x w v d r q := by
  unfold val_main_v25 grad
  split_ifs with h
  · have e := ref_v22 x w v d r ⟨q.val, h⟩
    refine Eq.trans ?_ e
    generalize val_main_v22 (F := Ideal) x w v d = A
    generalize val_main_v20 (F := Ideal) x w v d = B
    pointwise
    exact dif_pos h
  · have e := ref_v20 x w v d r ⟨q.val - 2816, by omega⟩
    refine Eq.trans ?_ e
    generalize val_main_v22 (F := Ideal) x w v d = A
    generalize val_main_v20 (F := Ideal) x w v d = B
    pointwise
    exact dif_neg h

/-- The reference's result, entry by entry. -/
theorem ref_apply (r : Fin 8192) (n : Fin 1024) : val_main_v27 (F := Ideal) x w v d (ix2 r n)
      = Ideal.ofBits .f32 0x3FD744FD#32 * d (ix2 r n) + ∑ q : Fin 5632, grad x w v d r q * w (ix3 (3 : Fin 4) n q) := by
  have e24 : val_main_v24 (F := Ideal) d (ix2 r n) = Ideal.ofBits .f32 0x3FD744FD#32 * d (ix2 r n) := by
    pointwise [val_main_v24, val_main_v23, val_main_v15, val_main_cst_2]
  show val_main_v24 (F := Ideal) d (ix2 r n) + val_main_v26 (F := Ideal) x w v d (ix2 r n) = _
  rw [e24, val_main_v26_apply]
  refine congrArg _ (Fin.sum_fin_congr fun q => ?_)
  rw [show lidx_main_v26 (ix2 r n) q = ix2 r q from ?_, show ridx_main_v26 (ix2 r n) q = ix2 n q from ?_, ref_v1, ref_v25]
  all_goals
    funext a
    match a with
    | ⟨0, _⟩ => rfl
    | ⟨1, _⟩ => rfl

end Ref

section Columns

variable (x : FVec Ideal S8192x1024 .f32) (w : FVec Ideal S4x1024x5632 .f32) (v : FVec Ideal S4x2816x1024 .f32) (d : FVec Ideal S8192x1024 .f32)
  (X : FVec Ideal S8192x1024 .bf16) (W : FVec Ideal S4x1024x5632 .bf16)

theorem preAct_real (hx : ∀ i, Real' (x i)) (hw : ∀ i, Real' (w i)) (r : Fin 8192) (q : Fin 5632) : Real' (preAct x w r q) :=
  real'_sum _ fun _ => real'_mul (hx _) (hw _)

theorem cot_real (hv : ∀ i, Real' (v i)) (hd : ∀ i, Real' (d i)) (r : Fin 8192) (j : Fin 2816) : Real' (cot v d r j) :=
  real'_sum _ fun _ => real'_mul (real'_mul half_real (hd _)) (hv _)

theorem col_lo (q : Fin 5632) (h : q.val % 2816 < 1408) : (col q).val = q.val / 2816 * 1408 + q.val % 1408 := by
  have hq : q.val < 5632 := q.isLt
  dsimp only [col]
  split_ifs <;> omega

theorem col_hi (q : Fin 5632) (h : ¬ q.val % 2816 < 1408) : (col q).val = q.val / 2816 * 1408 + q.val % 1408 + 2816 := by
  have hq : q.val < 5632 := q.isLt
  dsimp only [col]
  split_ifs <;> omega

/-- Over real arrays, column `q` of the kernel's cotangents is the reference's column `col q`. -/
theorem cots_eq (D : FVec Ideal S8192x1024 .bf16) (U : FVec Ideal S4x2816x1024 .bf16) (Z : FVec Ideal S8192x5632 .bf16)
    (hZ : ∀ r q, Z (ix2 r q) = factorsAt X W r q)
    (hX : ∀ r q, dotAt X W r q = preAct x w r (col q))
    (hD : ∀ r k, D (ix2 r k) = Ideal.ofBits .f32 0x3F000000#32 * d (ix2 r k)) (hU : ∀ j k, U (ix3 3 j k) = v (ix3 3 j k))
    (hx : ∀ i, Real' (x i)) (hw : ∀ i, Real' (w i)) (hv : ∀ i, Real' (v i)) (hd : ∀ i, Real' (d i)) (r : Fin 8192) (q : Fin 5632) :
    cotsAt D U Z r q = grad x w v d r (col q) := by
  have hq : q.val < 5632 := q.isLt
  have ec : ∑ k : Fin 1024, D (ix2 r k) * U (ix3 (3 : Fin 4) (unit q) k) = cot v d r (unit q) :=
    Fin.sum_fin_congr fun k => by rw [hD, hU]
  unfold cotsAt
  rw [ec, hZ]
  unfold factorsAt grad
  by_cases h : q.val % 2816 < 1408
  · have e := col_lo q h
    have hlt : (col q).val < 2816 := by omega
    rw [dif_pos hlt]
    have eu : unit q = ⟨(col q).val, hlt⟩ := Fin.ext e.symm
    have e2 : col ⟨q.val + 1408, by omega⟩ = ⟨(col q).val + 2816, by omega⟩ := by
      apply Fin.ext
      rw [col_hi ⟨q.val + 1408, by omega⟩ (by show ¬ (q.val + 1408) % 2816 < 1408; omega)]
      show (q.val + 1408) / 2816 * 1408 + (q.val + 1408) % 1408 + 2816 = (col q).val + 2816
      omega
    rw [← eu]
    simp only [h, if_true, dif_pos]
    rw [hX, hX, e2]
    have r1 := preAct_real x w hx hw r (col q)
    have r2 := preAct_real x w hx hw r ⟨(col q).val + 2816, by omega⟩
    have r3 := cot_real v d hv hd r (unit q)
    generalize preAct x w r (col q) = g at r1 ⊢
    generalize preAct x w r ⟨(col q).val + 2816, _⟩ = u at r2 ⊢
    generalize cot v d r (unit q) = c at r3 ⊢
    exact slope_eq r1 r2 r3
  · have e := col_hi q h
    have hlt : ¬ (col q).val < 2816 := by omega
    rw [dif_neg hlt]
    have ev : q.val / 2816 * 1408 + q.val % 1408 = (col q).val - 2816 := by omega
    have eu : unit q = ⟨(col q).val - 2816, by omega⟩ := Fin.ext ev
    have e2 : col ⟨q.val - 1408, by omega⟩ = ⟨(col q).val - 2816, by omega⟩ := by
      apply Fin.ext
      rw [col_lo ⟨q.val - 1408, by omega⟩ (by show (q.val - 1408) % 2816 < 1408; omega)]
      show (q.val - 1408) / 2816 * 1408 + (q.val - 1408) % 1408 = (col q).val - 2816
      omega
    rw [← eu]
    simp only [h, if_false, dif_neg, not_false_eq_true]
    rw [hX, e2, mul_comm]
    rfl

/-- A sum over the gathered columns is the sum over the columns. -/
theorem sum_col (f : Fin 5632 → EReal) : ∑ q : Fin 5632, f (col q) = ∑ q : Fin 5632, f q :=
  Equiv.sum_comp (Function.Involutive.toPerm col col_col) f

end Columns

end Cert.FfnDxIdeal.Math

end
-- ==== Proof.Reals.lean ====
/- A precondition that every entry of an array is smaller than infinity in absolute value: the entries are real numbers. -/
module

public import Idealize.ShloMosaic.Lib.StableHlo
public import Idealize.ShloMosaic.PureOps
public import Idealize.ShloMosaic.Lib.ReduceAll
public import Idealize.ShloMosaic.Lib.Pointwise

@[expose] public section

set_option maxRecDepth 16384

noncomputable section

open Idealize.ShloMosaic

namespace Cert.Reals

/-- The shape with no axes. -/
abbrev S_ : Shape := ⟨0, ![]⟩

instance : Subsingleton S_.Idx := ⟨fun a b => funext fun k => k.elim0⟩

/-- The pattern of infinity denotes infinity. -/
theorem inf_eq : Ideal.ofBits .f32 0x7F800000#32 = ⊤ := by
  simp [Ideal.ofBits, Ideal.ieee]

/-- An absolute value below infinity belongs to a real number. -/
theorem real_of_lt (x : EReal) (h : max x (-x) < ⊤) : x ≠ ⊤ ∧ x ≠ ⊥ := by
  refine ⟨fun e => ?_, fun e => ?_⟩ <;> subst e <;> simp at h

/-- The comparison over a whole array. -/
theorem all_real {s u : Shape} {axes : List (Fin s.rank)} (x : FVec Ideal s .f32) (bc : S_.BroadcastsInDim s (![] : Fin 0 → Fin s.rank))
    (init : u.Idx → BitVec 1) (hr : s.ReducesTo axes S_) (hu : 0 < u.numel) (j : S_.Idx)
    (h : Host.reduce IntOp.andi (cmpf .olt (Host.absf x) (broadcastInDim s ![] bc (constant S_ .f32 0x7F800000#32))) init hr hu j = 1#1)
    (i : s.Idx) : (show EReal from x i) ≠ ⊤ ∧ (show EReal from x i) ≠ ⊥ := by
  have e := Host.reduce_andi_all _ init hr hu j h i
  refine real_of_lt _ ?_
  have e' : Ideal.cmp .olt (max (show EReal from x i) (-(show EReal from x i))) (Ideal.ofBits .f32 0x7F800000#32) = 1#1 := e
  rw [inf_eq] at e'
  by_contra hn
  simp [Ideal.cmp, hn] at e'

end Cert.Reals

end
-- ==== Proof.DxClaim.lean ====
module

public import proofs.«01_k».proof.Proof.Gen.FfnDxIdeal.Frame
public import proofs.«01_k».proof.Proof.Gen.FfnDxRefIdeal.Read
public import proofs.«01_k».proof.Defs
public import proofs.«01_k».proof.Proof.DxMath
public import proofs.«01_k».proof.Proof.Reals
public import proofs.«01_k».proof.Proof.Gen.Pre_finite_ffn
public import proofs.«01_k».proof.Proof.Gen.FfnDxRefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDxIdeal.Math

open Cert.FfnDxIdeal Cert.FfnDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.FfnDwInIdeal.Math (col col_col)

set_option backward.isDefEq.respectTransparency.types false in
/-- Every execution ends with the last region's result array in the result and the arguments as launched. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v13) = (dat2 (V4 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨(h c _ (mem_uc main_v13 (by decide))).trans (W5_arr m ρ c 3),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

variable (m : (ℓ : Loc nD τ sig) → Buf (Elt Ideal) ℓ) (ρ : Dev nD → PrngReg)

/-- The host's gather of the first weight's columns. -/
def gatherW (D : FVec Ideal S4x1024x5632 .bf16) : FVec Ideal S4x1024x5632 .bf16 :=
  concatenate S4x1024x5632 2
    [⟨S4x1024x1408, extractStridedSlice S4x1024x1408 ![0, 0, 0] D slices_S4x1024x5632_S4x1024x1408_0_0_0⟩,
     ⟨S4x1024x1408, extractStridedSlice S4x1024x1408 ![0, 0, 2816] D slices_S4x1024x5632_S4x1024x1408_0_0_2816⟩,
     ⟨S4x1024x1408, extractStridedSlice S4x1024x1408 ![0, 0, 1408] D slices_S4x1024x5632_S4x1024x1408_0_0_1408⟩,
     ⟨S4x1024x1408, extractStridedSlice S4x1024x1408 ![0, 0, 4224] D slices_S4x1024x5632_S4x1024x1408_0_0_4224⟩]
    concatenates_S4x1024x1408_S4x1024x1408_S4x1024x1408_S4x1024x1408_S4x1024x5632_d2

theorem gatherW_apply (D : FVec Ideal S4x1024x5632 .bf16) (l : Fin 4) (k : Fin 1024) (j : Fin 5632) : gatherW D (ix3 l k j) = D (ix3 l k (col j)) := by
  pointwise [gatherW]
  split_ifs <;> refine congrArg (fun q => D (ix3 l k q)) (Fin.ext ?_) <;> dsimp only [col] <;> split_ifs <;> omega

theorem entry_x (c : Dev nD) : (V1 m ρ c main_v7 : FVec Ideal S8192x1024 .bf16) = (m ((c : Thread nD τ).loc main_arg0) : FVec Ideal S8192x1024 .f32) := by
  show (W1 m ρ c (Proc.devRef .tc main_v7) : FVec Ideal S8192x1024 .bf16) = _
  unfold W1 W0
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V1 m ρ c main_v5 : FVec Ideal S4x1024x5632 .bf16) = gatherW (m ((c : Thread nD τ).loc main_arg1) : FVec Ideal S4x1024x5632 .f32) := by
  show (W1 m ρ c (Proc.devRef .tc main_v5) : FVec Ideal S4x1024x5632 .bf16) = _
  unfold W1 W0
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_v (c : Dev nD) : (V1 m ρ c main_v6 : FVec Ideal S4x2816x1024 .bf16) = (m ((c : Thread nD τ).loc main_arg2) : FVec Ideal S4x2816x1024 .f32) := by
  show (W1 m ρ c (Proc.devRef .tc main_v6) : FVec Ideal S4x2816x1024 .bf16) = _
  unfold W1 W0
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_v3 (c : Dev nD) : (V3 m ρ c main_v6 : FVec Ideal S4x2816x1024 .bf16) = (m ((c : Thread nD τ).loc main_arg2) : FVec Ideal S4x2816x1024 .f32) :=
  ((W3_of m ρ c main_v6 (by decide)).trans (W2_of m ρ c main_v6 (by decide))).trans (entry_v m ρ c)

theorem entry_w4 (c : Dev nD) : (V4 m ρ c main_v5 : FVec Ideal S4x1024x5632 .bf16) = gatherW (m ((c : Thread nD τ).loc main_arg1) : FVec Ideal S4x1024x5632 .f32) :=
  (((W4_of m ρ c main_v5 (by decide)).trans (W3_of m ρ c main_v5 (by decide))).trans (W2_of m ρ c main_v5 (by decide))).trans (entry_w m ρ c)

theorem entry_d4 (c : Dev nD) : (V4 m ρ c main_arg3 : FVec Ideal S8192x1024 .f32) = (m ((c : Thread nD τ).loc main_arg3) : FVec Ideal S8192x1024 .f32) :=
  W4_args m ρ c main_arg3 (by decide)

theorem entry_z (c : Dev nD) : (V3 m ρ c main_v8_0 : FVec Ideal S8192x5632 .bf16) = (dat0 (V1 m ρ) c).arrAt 2 cfg0.N :=
  (W3_of m ρ c main_v8_0 (by decide)).trans (W2_arr m ρ c 2)

theorem entry_t (c : Dev nD) : (V4 m ρ c main_v12 : FVec Ideal S8192x5632 .bf16) = (dat1 (V3 m ρ) c).arrAt 3 cfg1.N :=
  W4_arr m ρ c 3

theorem entry_d (c : Dev nD) (r : Fin 8192) (k : Fin 1024) : (V3 m ρ c main_v11 : FVec Ideal S8192x1024 .bf16) (ix2 r k)
    = Ideal.ofBits .f32 0x3F000000#32 * (m ((c : Thread nD τ).loc main_arg3) : FVec Ideal S8192x1024 .f32) (ix2 r k) := by
  have h : W2 m ρ c (Proc.devRef .tc main_arg3) = m ((c : Thread nD τ).loc main_arg3) := W2_args m ρ c main_arg3 (by decide)
  rw [← h]
  show (W3 m ρ c (Proc.devRef .tc main_v11) : FVec Ideal S8192x1024 .bf16) (ix2 r k) = _
  unfold W3
  generalize W2 m ρ c = W
  simp only [hostOps1, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The last call's sum over gathered columns is the reference's result. -/
theorem finish (x : FVec Ideal S8192x1024 .f32) (w : FVec Ideal S4x1024x5632 .f32) (v : FVec Ideal S4x2816x1024 .f32) (d : FVec Ideal S8192x1024 .f32)
    (T : FVec Ideal S8192x5632 .bf16) (hT : ∀ r q, T (ix2 r q) = grad x w v d r (col q)) :
    total T (gatherW w) d = Cert.FfnDxRefIdeal.Read.val_main_v27 (F := Ideal) x w v d := by
  refine funext fun i => ?_
  obtain ⟨r, n, rfl⟩ : ∃ r n, i = ix2 r n := ⟨i 0, i 1, eq_ix2 i⟩
  rw [ref_apply]
  unfold total
  refine congrArg _ ((Fin.sum_fin_congr fun q => ?_).trans (sum_col _))
  show T (ix2 r q) * gatherW w (ix3 3 n q) = _
  rw [hT, gatherW_apply]

theorem final (c : Dev nD)
    (hx : ∀ i, Real' ((m ((c : Thread nD τ).loc main_arg0) : FVec Ideal S8192x1024 .f32) i))
    (hw : ∀ i, Real' ((m ((c : Thread nD τ).loc main_arg1) : FVec Ideal S4x1024x5632 .f32) i))
    (hv : ∀ i, Real' ((m ((c : Thread nD τ).loc main_arg2) : FVec Ideal S4x2816x1024 .f32) i))
    (hd : ∀ i, Real' ((m ((c : Thread nD τ).loc main_arg3) : FVec Ideal S8192x1024 .f32) i)) :
    ((dat2 (V4 m ρ) c).arrAt 3 cfg2.N : FVec Ideal S8192x1024 .f32)
      = Cert.FfnDxRefIdeal.Read.val_main_v27 (F := Ideal) (m ((c : Thread nD τ).loc main_arg0)) (m ((c : Thread nD τ).loc main_arg1))
          (m ((c : Thread nD τ).loc main_arg2)) (m ((c : Thread nD τ).loc main_arg3)) := by
  have hT : ∀ r q, (V4 m ρ c main_v12 : FVec Ideal S8192x5632 .bf16) (ix2 r q) = grad (m ((c : Thread nD τ).loc main_arg0)) (m ((c : Thread nD τ).loc main_arg1))
      (m ((c : Thread nD τ).loc main_arg2)) (m ((c : Thread nD τ).loc main_arg3)) r (col q) := by
    intro r q
    rw [entry_t, final1]
    show cotsAt _ _ _ r q = _
    refine cots_eq _ _ _ _ (V1 m ρ c main_v7) (V1 m ρ c main_v5) _ _ _ (fun r q => ?_) (fun r q => ?_) (fun r k => entry_d m ρ c r k) (fun j k => ?_) hx hw hv hd r q
    · rw [entry_z, final0]; rfl
    · rw [entry_x, entry_w]
      exact Fin.sum_fin_congr fun k => by rw [gatherW_apply]
    · rw [entry_v3]
  rw [final2, entry_d4, entry_w4]
  exact finish _ _ _ _ _ hT

theorem real_of_pre (x : FVec Ideal S8192x1024 .f32) (w : FVec Ideal S4x1024x5632 .f32) (v : FVec Ideal S4x2816x1024 .f32) (d : FVec Ideal S8192x1024 .f32)
    (h : Cert.Pre_finite_ffn.fn (F := Ideal) x w v d = fun _ => 1#1) :
    (∀ i, Real' (x i)) ∧ (∀ i, Real' (w i)) ∧ (∀ i, Real' (v i)) ∧ ∀ i, Real' (d i) := by
  have e := congrFun h ix0
  obtain ⟨e, e4⟩ := IntOp.andi_eq_one.1 e
  obtain ⟨e, e3⟩ := IntOp.andi_eq_one.1 e
  obtain ⟨e1, e2⟩ := IntOp.andi_eq_one.1 e
  exact ⟨fun i => real'_of (Cert.Reals.all_real x _ _ _ _ _ e1 i), fun i => real'_of (Cert.Reals.all_real w _ _ _ _ _ e2 i),
    fun i => real'_of (Cert.Reals.all_real v _ _ _ _ _ e3 i), fun i => real'_of (Cert.Reals.all_real d _ _ _ _ _ e4 i)⟩

/-- The cotangent of a feed-forward block's input: the three calls' tiles and factored gate derivative compute the reference's gradient. -/
theorem claim : Cert.algebraic_FfnDxIdeal_FfnDxRefIdeal_pre_finite_ffn := by
  intro m g m' g' hpre hagree
  refine ⟨fun c => (dat2 (V4 m g) c).arrAt 3 cfg2.N, run m g, ?_⟩
  refine (θ_run _ _ _).mono (fun r h c => ⟨?_, (h c).2⟩) (Cert.FfnDxRefIdeal.Value.run m' g')
  obtain ⟨hx, hw, hv, hd⟩ := real_of_pre _ _ _ _ (hpre c)
  refine (h c).1.trans ?_
  refine (Cert.FfnDxRefIdeal.Read.val_main_v27_eq _ _).trans ?_
  rw [(hagree c).1, (hagree c).2.1, (hagree c).2.2.1, (hagree c).2.2.2]
  exact (final m g c hx hw hv hd).symm

end Cert.FfnDxIdeal.Math

end
-- ==== Proof.ScanChunk.lean ====
/- One chunk of the scan's backward kernel over the reals: the eight rows it computes by doubling steps are eight steps of the
   recurrence. -/
module

public import proofs.«01_k».proof.Proof.ScanBody
public import Idealize.ShloMosaic.Lib.Pointwise

@[expose] public section

set_option maxRecDepth 16384

noncomputable section

open Idealize.ShloMosaic Idealize.ShloMosaic.TcCoe Idealize.SL.Sem

namespace Cert.ScanIdeal.Math

open Cert.ScanIdeal Cert.ScanIdeal.Gen

/-- The recurrence of one column: each value is the coefficient times the value before, plus the term. -/
def rec (v u : ℕ → ℝ) : ℕ → ℝ
  | 0 => 0
  | n + 1 => v n * rec v u n + u n

/-- A chunk that starts from step `n` of the recurrence computes steps `n + 8` down to `n + 1`. -/
theorem chunk_rec (v u : ℕ → ℝ) (n : ℕ) (g h : FVec Ideal S1x1024 .f32) (a b : FVec Ideal S8x1024 .f32) (l : Fin 1024)
    (hg : g (ix2 0 l) = ((rec v u n : ℝ) : EReal)) (hh : h (ix2 0 l) = ((v n : ℝ) : EReal))
    (ha : ∀ r : Fin 8, a (ix2 r l) = ((v (n + (8 - r.val)) : ℝ) : EReal))
    (hb : ∀ r : Fin 8, b (ix2 r l) = ((u (n + (7 - r.val)) : ℝ) : EReal)) (r : Fin 8) :
    k0_pay6 (F := Ideal) (iota .tc S8x1024 32 [0] iota_S8x1024_d0_w32) g h a b (ix2 r l)
      = ((rec v u (n + (8 - r.val)) : ℝ) : EReal) := by
  have s7 (k : ℕ) (hk : k < 8) (x y : EReal) : Scalar.select (IntOp.cmpi .slt (BitVec.ofNat 32 k) 7#32) x y = if k < 7 then x else y := by
    interval_cases k <;> rfl
  have s6 (k : ℕ) (hk : k < 8) (x y : EReal) : Scalar.select (IntOp.cmpi .slt (BitVec.ofNat 32 k) 6#32) x y = if k < 6 then x else y := by
    interval_cases k <;> rfl
  have s4 (k : ℕ) (hk : k < 8) (x y : EReal) : Scalar.select (IntOp.cmpi .slt (BitVec.ofNat 32 k) 4#32) x y = if k < 4 then x else y := by
    interval_cases k <;> rfl
  have e1 : rec v u (n + 1) = v n * rec v u n + u n := rfl
  have e2 : rec v u (n + 2) = v (n + 1) * rec v u (n + 1) + u (n + 1) := rfl
  have e3 : rec v u (n + 3) = v (n + 2) * rec v u (n + 2) + u (n + 2) := rfl
  have e4 : rec v u (n + 4) = v (n + 3) * rec v u (n + 3) + u (n + 3) := rfl
  have e5 : rec v u (n + 5) = v (n + 4) * rec v u (n + 4) + u (n + 4) := rfl
  have e6 : rec v u (n + 6) = v (n + 5) * rec v u (n + 5) + u (n + 5) := rfl
  have e7 : rec v u (n + 7) = v (n + 6) * rec v u (n + 6) + u (n + 6) := rfl
  have e8 : rec v u (n + 8) = v (n + 7) * rec v u (n + 7) + u (n + 7) := rfl
  pointwise [k0_pay6]
  fin_cases r
  all_goals
    simp only [Nat.reduceAdd, Nat.reduceSub, Nat.reduceMod, Nat.reduceLT, s7, s6, s4, ↓reduceIte, ha, hb, hg, hh]
    norm_cast
    try simp only [e8, e7, e6, e5, e4, e3, e2, e1, Nat.add_zero]
    try ring

/-- The row of the result that a chunk hands on: the masked sum reads row 0. -/
theorem first_row (b : FVec Ideal S8x1024 .f32) (l : Fin 1024) :
    k0_pay2 (F := Ideal) b (ix2 0 l) = b (ix2 0 l) := by
  have s0 (k : ℕ) (hk : k < 8) (x : EReal) : Scalar.select (IntOp.cmpi .eq (BitVec.ofNat 32 k) 0#32) x 0 = if k = 0 then x else 0 := by
    interval_cases k <;> rfl
  pointwise [k0_pay2]
  have e (k : Fin 8) := s0 k.val k.isLt
  simp only [e]
  rw [Fin.sum_univ_eight]
  simp

/-- The row of the coefficients that a chunk hands on: the masked sum reads row 0. -/
theorem first_coeff (b : FVec Ideal S8x1024 .f32) (l : Fin 1024) :
    k0_pay3 (F := Ideal) b (ix2 0 l) = b (ix2 0 l) := first_row b l

/-- The rows of a tile that trip `k` takes, at an index. -/
theorem rows_apply (x : FVec Ideal S512x1024 .f32) (k : Fin k0_t1_loop.trips) (r : Fin 8) (l : Fin 1024) :
    Body.rows (F := Ideal) x k (ix2 r l)
      = x (ix2 (⟨504 - 8 * k.val + r.val, by have := lt_of_lt_of_eq k.isLt Body.trips_eq; omega⟩ : Fin 512) l) := by
  unfold Body.rows
  refine congrArg x (funext fun a => Fin.ext ?_)
  have e := congrFun (k0_off1_eq k) a
  fin_cases a
  · show k0_off1 k 0 + 1 * r.val = 504 - 8 * k.val + r.val
    rw [show k0_off1 k 0 = 504 - 8 * k.val from e]; omega
  · show k0_off1 k 1 + 1 * l.val = l.val
    rw [show k0_off1 k 1 = 0 from e]; omega

variable (v u : ℕ → ℝ) (n : ℕ) (x0 x1 : FVec Ideal S512x1024 .f32) (s : Body.Carry Ideal) (l : Fin 1024)

/-- The rows of one column of a tile that starts from step `n`. -/
def Holds : Prop :=
  s.1 (ix2 0 l) = ((rec v u n : ℝ) : EReal) ∧ s.2 (ix2 0 l) = ((v n : ℝ) : EReal) ∧
    (∀ r : Fin 512, x0 (ix2 r l) = ((v (n + (512 - r.val)) : ℝ) : EReal)) ∧
    ∀ r : Fin 512, x1 (ix2 r l) = ((u (n + (511 - r.val)) : ℝ) : EReal)

/-- A chunk of the tile, from a carry at its step. -/
theorem chunk_apply (h : Holds v u n x0 x1 s l) (k : Fin k0_t1_loop.trips) (z : Body.Carry Ideal)
    (hz : z.1 (ix2 0 l) = ((rec v u (n + 8 * k.val) : ℝ) : EReal) ∧ z.2 (ix2 0 l) = ((v (n + 8 * k.val) : ℝ) : EReal)) (r : Fin 8) :
    Body.chunk (F := Ideal) x0 x1 k z (ix2 r l) = ((rec v u (n + 8 * k.val + (8 - r.val)) : ℝ) : EReal) := by
  have hk : k.val < 64 := lt_of_lt_of_eq k.isLt Body.trips_eq
  refine chunk_rec v u (n + 8 * k.val) z.1 z.2 _ _ l hz.1 hz.2 (fun r => ?_) (fun r => ?_) r
  · rw [rows_apply, h.2.2.1]
    have e : n + (512 - (504 - 8 * k.val + r.val)) = n + 8 * k.val + (8 - r.val) := by omega
    rw [e]
  · rw [rows_apply, h.2.2.2]
    have e : n + (511 - (504 - 8 * k.val + r.val)) = n + 8 * k.val + (7 - r.val) := by omega
    rw [e]

/-- The carry before trip `k` stands at step `n + 8 k`. -/
theorem carry_apply (h : Holds v u n x0 x1 s l) (k : ℕ) (hk : k ≤ 64) :
    (Body.carry (F := Ideal) x0 x1 s k).1 (ix2 0 l) = ((rec v u (n + 8 * k) : ℝ) : EReal)
      ∧ (Body.carry (F := Ideal) x0 x1 s k).2 (ix2 0 l) = ((v (n + 8 * k) : ℝ) : EReal) := by
  induction k with
  | zero => exact ⟨h.1, h.2.1⟩
  | succ k ih =>
    have hlt : k < k0_t1_loop.trips := by rw [Body.trips_eq]; omega
    have e : Body.carry (F := Ideal) x0 x1 s (k + 1) = Body.next (F := Ideal) x0 x1 ⟨k, hlt⟩ (Body.carry (F := Ideal) x0 x1 s k) := dif_pos hlt
    rw [e]
    have e8 : n + 8 * k + (8 - (0 : Fin 8).val) = n + 8 * (k + 1) := by
      show n + 8 * k + (8 - 0) = n + 8 * (k + 1); omega
    refine ⟨(first_row _ l).trans ((chunk_apply v u n x0 x1 s l h ⟨k, hlt⟩ _ (ih (by omega)) 0).trans
      (congrArg (fun j => ((rec v u j : ℝ) : EReal)) e8)), ?_⟩
    refine (first_coeff _ l).trans ((rows_apply x0 ⟨k, hlt⟩ 0 l).trans ((h.2.2.1 _).trans ?_))
    have e : n + (512 - (504 - 8 * k + (0 : Fin 8).val)) = n + 8 * (k + 1) := by
      show n + (512 - (504 - 8 * k + 0)) = n + 8 * (k + 1); omega
    exact congrArg (fun j => ((v j : ℝ) : EReal)) e

/-- The tile's row `r` stands at step `n + 512 - r`. -/
theorem tile_apply (h : Holds v u n x0 x1 s l) (r : Fin 512) :
    Body.tile (F := Ideal) x0 x1 s (ix2 r l) = ((rec v u (n + (512 - r.val)) : ℝ) : EReal) := by
  have hr := r.isLt
  have e : Body.inChunk (ix2 r l) = ix2 (⟨r.val % 8, Nat.mod_lt _ (by decide)⟩ : Fin 8) l := by
    funext a; fin_cases a <;> rfl
  unfold Body.tile
  rw [e]
  refine (chunk_apply v u n x0 x1 s l h _ _ (carry_apply v u n x0 x1 s l h _ ?_) _).trans ?_
  · show 63 - r.val / 8 ≤ 64; omega
  · refine congrArg (fun j => ((rec v u j : ℝ) : EReal)) ?_
    show n + 8 * (63 - r.val / 8) + (8 - r.val % 8) = n + (512 - r.val)
    omega

end Cert.ScanIdeal.Math

end
-- ==== Proof.ScanValue.lean ====
/- The array that the scan's backward kernel leaves, over the reals: at each row and column the recurrence run down from the last row. -/
module

public import proofs.«01_k».proof.Proof.ScanChunk
public import proofs.«01_k».proof.Proof.ScanRun

@[expose] public section

set_option maxRecDepth 16384

noncomputable section

open Idealize.ShloMosaic Idealize.ShloMosaic.TcCoe Idealize.SL.Sem
open Idealize.ShloMosaic.Pipeline (Dat)

namespace Cert.ScanIdeal.Math

open Cert.ScanIdeal Cert.ScanIdeal.Gen

/-- Row `n` of an array, the count taken round. -/
abbrev row (n : ℕ) : Fin 8192 := ⟨n % 8192, Nat.mod_lt _ (by decide)⟩

/-- The coefficient of step `n` of column `l`: the one of the row after; no row comes after the last. -/
def coef (a : FVec Ideal S8192x1024 .f32) (l : Fin 1024) (n : ℕ) : ℝ :=
  if n = 0 then 0 else (show EReal from a (ix2 (row (8192 - n)) l)).toReal

/-- The term of step `n` of column `l`. -/
def term (d : FVec Ideal S8192x1024 .f32) (l : Fin 1024) (n : ℕ) : ℝ := (show EReal from d (ix2 (row (8191 - n)) l)).toReal

/-- The scan's gradient: row `t` of column `l` is step `8192 - t` of its recurrence. -/
def adjoint (a d : FVec Ideal S8192x1024 .f32) : FVec Ideal S8192x1024 .f32 := fun i =>
  ((rec (coef a (i 1)) (term d (i 1)) (8192 - (show Fin 8192 from i 0).val) : ℝ) : EReal)

/-- Every entry of an array is a real number. -/
def Finite (a : FVec Ideal S8192x1024 .f32) : Prop := ∀ i, (show EReal from a i) ≠ ⊤ ∧ (show EReal from a i) ≠ ⊥

theorem coef_at {a : FVec Ideal S8192x1024 .f32} (h : Finite a) (l : Fin 1024) (n : ℕ) (hn : 0 < n) (r : Fin 8192) (hr : r.val + n = 8192) :
    a (ix2 r l) = ((coef a l n : ℝ) : EReal) := by
  have e : row (8192 - n) = r := Fin.ext (by show (8192 - n) % 8192 = r.val; have := r.isLt; omega)
  unfold coef
  rw [if_neg (by omega), e]
  exact (EReal.coe_toReal (h _).1 (h _).2).symm

theorem term_at {d : FVec Ideal S8192x1024 .f32} (h : Finite d) (l : Fin 1024) (n : ℕ) (r : Fin 8192) (hr : r.val + n = 8191) :
    d (ix2 r l) = ((term d l n : ℝ) : EReal) := by
  have e : row (8191 - n) = r := Fin.ext (by show (8191 - n) % 8192 = r.val; have := r.isLt; omega)
  unfold term
  rw [e]
  exact (EReal.coe_toReal (h _).1 (h _).2).symm

variable (m : (ℓ : Loc nD τ sig) → Buf (Elt Ideal) ℓ)

/-- The grid takes the tiles from the last to the first. -/
theorem idx : ∀ t : Fin cfg0.N, win0_0.index t = ![15 - t.val, 0] ∧ win0_1.index t = ![15 - t.val, 0] ∧ win0_2.index t = ![15 - t.val, 0] :=
  (by decide +kernel : ∀ t : Fin grid0.N, _)

theorem N_eq : cfg0.N = 16 := by decide +kernel

/-- The coefficients' array on device `c`. -/
abbrev argA (c : Dev nD) : FVec Ideal S8192x1024 .f32 := m ((c.tc : Thread nD τ).loc main_arg0)
/-- The array to be carried back on device `c`. -/
abbrev argD (c : Dev nD) : FVec Ideal S8192x1024 .f32 := m ((c.tc : Thread nD τ).loc main_arg1)

theorem block_a (c : Dev nD) (t : Fin cfg0.N) (r : Fin 512) (l : Fin 1024) (q : Fin 8192) (hq : q.val = (15 - t.val) * 512 + r.val) :
    iblk m c 0 t (ix2 r l) = argA m c (ix2 q l) := by
  blk_ext [iblk, V, idx t]

theorem block_d (c : Dev nD) (t : Fin cfg0.N) (r : Fin 512) (l : Fin 1024) (q : Fin 8192) (hq : q.val = (15 - t.val) * 512 + r.val) :
    iblk m c 1 t (ix2 r l) = argD m c (ix2 q l) := by
  blk_ext [iblk, V, idx t]

/-- Before grid point `t` the carry stands at step `512 t`. -/
theorem carryAt_apply (c : Dev nD) (ha : Finite (argA m c)) (hd : Finite (argD m c)) (l : Fin 1024) (t : ℕ) (ht : t ≤ 16) :
    (Body.carryAt m c t).1 (ix2 0 l) = ((rec (coef (argA m c) l) (term (argD m c) l) (512 * t) : ℝ) : EReal)
      ∧ (Body.carryAt m c t).2 (ix2 0 l) = ((coef (argA m c) l (512 * t) : ℝ) : EReal)
      ∧ ∀ h : t < cfg0.N, Holds (coef (argA m c) l) (term (argD m c) l) (512 * t) (iblk m c 0 ⟨t, h⟩) (iblk m c 1 ⟨t, h⟩)
          (Body.carryAt m c t) l := by
  have key : ∀ t : ℕ, t ≤ 16 → (Body.carryAt m c t).1 (ix2 0 l) = ((rec (coef (argA m c) l) (term (argD m c) l) (512 * t) : ℝ) : EReal)
      ∧ (Body.carryAt m c t).2 (ix2 0 l) = ((coef (argA m c) l (512 * t) : ℝ) : EReal)
      → ∀ h : t < cfg0.N, Holds (coef (argA m c) l) (term (argD m c) l) (512 * t) (iblk m c 0 ⟨t, h⟩) (iblk m c 1 ⟨t, h⟩)
          (Body.carryAt m c t) l := by
    intro t ht hc h
    have h16 : t < 16 := lt_of_lt_of_eq h N_eq
    refine ⟨hc.1, hc.2, fun r => ?_, fun r => ?_⟩
    · have hr := r.isLt
      refine (block_a m c ⟨t, h⟩ r l ⟨(15 - t) * 512 + r.val, by omega⟩ rfl).trans ?_
      exact coef_at ha l _ (by omega) _ (by show (15 - t) * 512 + r.val + (512 * t + (512 - r.val)) = 8192; omega)
    · have hr := r.isLt
      refine (block_d m c ⟨t, h⟩ r l ⟨(15 - t) * 512 + r.val, by omega⟩ rfl).trans ?_
      exact term_at hd l _ _ (by show (15 - t) * 512 + r.val + (512 * t + (511 - r.val)) = 8191; omega)
  have main : (Body.carryAt m c t).1 (ix2 0 l) = ((rec (coef (argA m c) l) (term (argD m c) l) (512 * t) : ℝ) : EReal)
      ∧ (Body.carryAt m c t).2 (ix2 0 l) = ((coef (argA m c) l (512 * t) : ℝ) : EReal) := by
    induction t with
    | zero =>
      have z : (Scalar.ofBits .f32 0x00000000#32 : Ideal .f32) = ((0 : ℝ) : EReal) := by
        show Ideal.ofBits .f32 0x00000000#32 = _
        simp
      exact ⟨z, z⟩
    | succ t ih =>
      have h16 : t < cfg0.N := by rw [N_eq]; omega
      have hc := ih (by omega)
      have e : Body.carryAt m c (t + 1) = Body.carry (F := Ideal) (iblk m c 0 ⟨t, h16⟩) (iblk m c 1 ⟨t, h16⟩) (Body.carryAt m c t) 64 := dif_pos h16
      rw [e]
      exact carry_apply _ _ (512 * t) _ _ _ l (key t (by omega) hc h16) 64 le_rfl
  exact ⟨main.1, main.2, key t ht main⟩

/-- The array the run leaves is the gradient. -/
theorem final (c : Dev nD) (ha : Finite (argA m c)) (hd : Finite (argD m c)) :
    (Body.dats m 0 c).arrAt 2 (cfgs 0).N = adjoint (argA m c) (argD m c) := by
  refine (Body.dats m 0 c).arrAt_eq_of_covers 2 _ (by decide +kernel) fun t hf y => ?_
  have h16 : t.val < 16 := lt_of_lt_of_eq t.isLt N_eq
  rw [Body.after_2]
  blk_simp [idx t]
  revert y
  intro (y : S512x1024.Idx)
  have hy0 : (y 0).val < 512 := (y 0).isLt
  have e : (win0_2.blk t).view.emb y = ix2 (⟨(15 - t.val) * 512 + (y 0).val, by omega⟩ : Fin 8192) (⟨(y 1).val, (y 1).isLt⟩ : Fin 1024) := by
    blk_ext [idx t]
  refine Eq.trans ?_ (congrArg (adjoint (argA m c) (argD m c)) e).symm
  have hy : y = ix2 (⟨(y 0).val, hy0⟩ : Fin 512) (⟨(y 1).val, (y 1).isLt⟩ : Fin 1024) := by
    funext a; fin_cases a <;> rfl
  refine Eq.trans (congrArg (Body.tile (F := Ideal) (iblk m c 0 t) (iblk m c 1 t) (Body.carryAt m c t.val)) hy) ?_
  refine (tile_apply _ _ _ _ _ _ _ ((carryAt_apply m c ha hd (⟨(y 1).val, (y 1).isLt⟩ : Fin 1024) t.val h16.le).2.2 t.isLt) _).trans ?_
  refine congrArg (fun j => ((rec (coef (argA m c) (⟨(y 1).val, (y 1).isLt⟩ : Fin 1024)) (term (argD m c) (⟨(y 1).val, (y 1).isLt⟩ : Fin 1024)) j : ℝ) : EReal)) ?_
  show 512 * t.val + (512 - (y 0).val) = 8192 - ((15 - t.val) * 512 + (y 0).val)
  omega

end Cert.ScanIdeal.Math

end
-- ==== Proof.ScanRefValue.lean ====
/- The array that the reference's backward scan leaves, over the reals: its loop runs the same recurrence one row a trip. -/
module

public import proofs.«01_k».proof.Proof.ScanValue
public import proofs.«01_k».proof.Proof.Gen.ScanRefIdeal.Run
public import Idealize.ShloMosaic.Lib.Pointwise

@[expose] public section

set_option maxRecDepth 16384

noncomputable section

open Idealize.ShloMosaic Idealize.ShloMosaic.TcCoe Idealize.SL.Sem
open Idealize.ShloMosaic.StableHlo

namespace Cert.ScanRefIdeal.Math

open Cert.ScanRefIdeal Cert.ScanRefIdeal.Gen Cert.ScanRefIdeal.Value
open Cert.ScanIdeal.Math (coef term adjoint Finite coef_at term_at)

/-- The recurrence of one column of the two arrays. -/
abbrev steps (a d : FVec Ideal S8192x1024 .f32) (l : Fin 1024) (n : ℕ) : ℝ := Cert.ScanIdeal.Math.rec (coef a l) (term d l) n

/-- What the loop's buffers hold before trip `k`. -/
structure Inv (a d : FVec Ideal S8192x1024 .f32) (k : ℕ) (V : Valuation τ sig (Elt Ideal)) : Prop where
  dh : V (Proc.devRef .tc main_v3_0) = d
  co : V (Proc.devRef .tc main_v3_1) = a
  ctr : V (Proc.devRef .tc main_v3_2) = fun _ => (BitVec.ofNat 32 k : BitVec 32)
  carry : ∀ l : Fin 1024, (V (Proc.devRef .tc main_v3_3) : FVec Ideal S1024 .f32) (ix1 l) = ((coef a l k * steps a d l k : ℝ) : EReal)
  done : ∀ (r : Fin 8192) (l : Fin 1024), 8192 ≤ r.val + k →
    (V (Proc.devRef .tc main_v3_4) : FVec Ideal S8192x1024 .f32) (ix2 r l) = ((steps a d l (8192 - r.val) : ℝ) : EReal)

theorem row_word (k : ℕ) (hk : k < 8192) : ((8192#32 - BitVec.ofNat 32 k) - 1#32).toInt = ((8191 - k : ℕ) : ℤ) := by
  have e : (8192#32 - BitVec.ofNat 32 k) - 1#32 = BitVec.ofNat 32 (8191 - k) := by
    apply BitVec.eq_of_toNat_eq
    simp only [BitVec.toNat_sub, BitVec.toNat_ofNat]
    omega
  rw [e, BitVec.toInt_eq_toNat_of_lt (by simp only [BitVec.toNat_ofNat]; omega)]
  simp only [BitVec.toNat_ofNat]
  omega

theorem row_eq {a d : FVec Ideal S8192x1024 .f32} {k : ℕ} {V : Valuation τ sig (Elt Ideal)} (h : Inv a d k V) (hk : k < 8192) (j) :
    (res_main_while0b_v5 V j).toInt = ((8191 - k : ℕ) : ℤ) := by
  unfold res_main_while0b_v5
  rw [h.ctr]
  exact row_word k hk

/-- The start of a one-row slice, kept as it is: the row lies in the array. -/
theorem start_row (hr : S1x1024.rank = S8192x1024.rank) (off : Fin 2 → ℤ) (q : Fin 8192) (h0 : off 0 = (q.val : ℤ)) :
    Host.clampedStart S8192x1024 S1x1024 hr off 0 = q.val := by
  have hq := q.isLt
  show (min (max (off 0) 0) ((8192 - 1 : ℕ) : ℤ)).toNat = q.val
  rw [h0]; omega

theorem start_col (hr : S1x1024.rank = S8192x1024.rank) (off : Fin 2 → ℤ) (h1 : off 1 = 0) :
    Host.clampedStart S8192x1024 S1x1024 hr off 1 = 0 := by
  show (min (max (off 1) 0) ((1024 - 1024 : ℕ) : ℤ)).toNat = 0
  rw [h1]; omega

/-- One row read out of an array. -/
theorem slice_apply (x : FVec Ideal S8192x1024 .f32) (off : Fin 2 → ℤ) (q : Fin 8192) (h0 : off 0 = (q.val : ℤ)) (h1 : off 1 = 0) (l : Fin 1024) :
    (shapeCast S1024 (Host.dynamicSlice S1x1024 x off sliceFits_S8192x1024_S1x1024) shapeCasts_S1x1024_S1024) (ix1 l) = x (ix2 q l) := by
  pointwise []
  refine congrArg x ((ix2_inj ..).2 ⟨Fin.ext (start_row sliceFits_S8192x1024_S1x1024.1 off q h0), Fin.ext ?_⟩)
  show Host.clampedStart S8192x1024 S1x1024 _ off 1 + l.val = l.val
  rw [start_col _ off h1, Nat.zero_add]

/-- One row written into an array. -/
theorem update_apply (x : FVec Ideal S8192x1024 .f32) (y : FVec Ideal S1024 .f32) (off : Fin 2 → ℤ) (q : Fin 8192) (h0 : off 0 = (q.val : ℤ)) (h1 : off 1 = 0)
    (r : Fin 8192) (l : Fin 1024) :
    (Host.dynamicUpdateSlice x (broadcastInDim S1x1024 ![1] bcast_S1024_S1x1024_1 y) off updateFits_S8192x1024_S1x1024) (ix2 r l)
      = if r = q then y (ix1 l) else x (ix2 r l) := by
  pointwise []
  have hl := l.isLt
  have e0 := start_row updateFits_S8192x1024_S1x1024.1 off q h0
  have e1 := start_col updateFits_S8192x1024_S1x1024.1 off h1
  by_cases hq : r = q
  · subst hq
    rw [if_pos rfl, dif_pos ⟨⟨e0.le, by omega⟩, by omega, by omega⟩]
    exact congrArg (fun j : Fin 1024 => y (ix1 j)) (Fin.ext (by show l.val - Host.clampedStart S8192x1024 S1x1024 _ off 1 = l.val; omega))
  · rw [if_neg hq, dif_neg fun h => hq (Fin.ext (by omega))]

/-- The row that trip `k` takes. -/
abbrev at_ (k : ℕ) (hk : k < 8192) : Fin 8192 := ⟨8191 - k, by omega⟩

/-- A carry plus a row read out of an array. -/
theorem sum_apply (c : FVec Ideal S1024 .f32) (x : FVec Ideal S8192x1024 .f32) (off : Fin 2 → ℤ) (q : Fin 8192) (h0 : off 0 = (q.val : ℤ)) (h1 : off 1 = 0)
    (l : Fin 1024) (p r : ℝ) (hc : c (ix1 l) = ((p : ℝ) : EReal)) (hx : x (ix2 q l) = ((r : ℝ) : EReal)) :
    (addf c (shapeCast S1024 (Host.dynamicSlice S1x1024 x off sliceFits_S8192x1024_S1x1024) shapeCasts_S1x1024_S1024)) (ix1 l)
      = ((p + r : ℝ) : EReal) := by
  refine (congrArg₂ (fun p q : EReal => p + q) hc ((slice_apply x off q h0 h1 l).trans hx)).trans ?_
  exact (EReal.coe_add _ _).symm

/-- A row read out of an array times a carry. -/
theorem prod_apply (c : FVec Ideal S1024 .f32) (x : FVec Ideal S8192x1024 .f32) (off : Fin 2 → ℤ) (q : Fin 8192) (h0 : off 0 = (q.val : ℤ)) (h1 : off 1 = 0)
    (l : Fin 1024) (p r : ℝ) (hc : c (ix1 l) = ((p : ℝ) : EReal)) (hx : x (ix2 q l) = ((r : ℝ) : EReal)) :
    (mulf (shapeCast S1024 (Host.dynamicSlice S1x1024 x off sliceFits_S8192x1024_S1x1024) shapeCasts_S1x1024_S1024) c) (ix1 l)
      = ((r * p : ℝ) : EReal) := by
  refine (congrArg₂ (fun p q : EReal => p * q) ((slice_apply x off q h0 h1 l).trans hx) hc).trans ?_
  exact (EReal.coe_mul _ _).symm

theorem steps_succ (a d : FVec Ideal S8192x1024 .f32) (l : Fin 1024) (k : ℕ) :
    coef a l k * steps a d l k + term d l k = steps a d l (k + 1) := rfl

/-- The row that trip `k` writes. -/
theorem out_apply {a d : FVec Ideal S8192x1024 .f32} (hd : Finite d) {k : ℕ} {V : Valuation τ sig (Elt Ideal)} (h : Inv a d k V) (hk : k < 8192) (l : Fin 1024) :
    (res_main_while0b_v8 V : FVec Ideal S1024 .f32) (ix1 l) = ((steps a d l (k + 1) : ℝ) : EReal) := by
  have hx : (V (Proc.devRef .tc main_v3_0) : FVec Ideal S8192x1024 .f32) (ix2 (at_ k hk) l) = ((term d l k : ℝ) : EReal) := by
    rw [h.dh]
    exact term_at hd l k (at_ k hk) (by show 8191 - k + k = 8191; omega)
  rw [← steps_succ]
  unfold res_main_while0b_v8
  refine sum_apply _ _ _ (at_ k hk) ?_ ?_ l _ _ (h.carry l) hx
  · exact row_eq h hk _
  · exact BitVec.toInt_zero

/-- One trip of the loop. -/
theorem step_inv {a d : FVec Ideal S8192x1024 .f32} (ha : Finite a) (hd : Finite d) {k : ℕ} {V : Valuation τ sig (Elt Ideal)} (h : Inv a d k V) (hk : k < 8192) :
    Inv a d (k + 1) (STEP V) where
  dh := (STEP_main_v3_0 V).trans h.dh
  co := (STEP_main_v3_1 V).trans h.co
  ctr := by
    rw [STEP_main_v3_2]
    unfold step_main_v3_2
    rw [h.ctr]
    funext j
    show BitVec.ofNat 32 k + 1#32 = BitVec.ofNat 32 (k + 1)
    rw [BitVec.ofNat_add]
  carry l := by
    have hx : (V (Proc.devRef .tc main_v3_1) : FVec Ideal S8192x1024 .f32) (ix2 (at_ k hk) l) = ((coef a l (k + 1) : ℝ) : EReal) := by
      rw [h.co]
      exact coef_at ha l (k + 1) (by omega) (at_ k hk) (by show 8191 - k + (k + 1) = 8192; omega)
    rw [STEP_main_v3_3]
    unfold step_main_v3_3
    refine prod_apply _ _ _ (at_ k hk) ?_ ?_ l _ _ (out_apply hd h hk l) hx
    · exact row_eq h hk _
    · exact BitVec.toInt_zero
  done r l hrk := by
    rw [STEP_main_v3_4]
    unfold step_main_v3_4
    rw [id_eq]
    refine (update_apply _ _ _ (at_ k hk) ?_ ?_ r l).trans ?_
    · exact row_eq h hk _
    · exact BitVec.toInt_zero
    by_cases hq : r = at_ k hk
    · rw [if_pos hq, out_apply hd h hk l, hq]
      have e : 8192 - (at_ k hk).val = k + 1 := by show 8192 - (8191 - k) = k + 1; omega
      rw [e]
    · rw [if_neg hq]
      refine h.done r l ?_
      have : r.val ≠ 8191 - k := fun e => hq (Fin.ext e)
      have := r.isLt
      omega

theorem iterate_inv {a d : FVec Ideal S8192x1024 .f32} (ha : Finite a) (hd : Finite d) {V : Valuation τ sig (Elt Ideal)} (h : Inv a d 0 V) :
    ∀ k ≤ 8192, Inv a d k (STEP^[k] V)
  | 0, _ => h
  | k + 1, hk => by
    rw [Function.iterate_succ_apply']
    exact step_inv ha hd (iterate_inv ha hd h k (by omega)) (by omega)

variable (m : (ℓ : Loc nD τ sig) → Buf (Elt Ideal) ℓ)

/-- What the loop finds. -/
theorem entry_inv (c : Dev nD) : Inv (m ((c.tc : Thread nD τ).loc main_arg0)) (m ((c.tc : Thread nD τ).loc main_arg1)) 0 (entryContents preI m c) where
  dh := by
    simp only [entryContents, afterL_cons, afterL_nil]
    after_results_simp
    rfl
  co := by
    simp only [entryContents, afterL_cons, afterL_nil]
    after_results_simp
    rfl
  ctr := ctr_entry m c
  carry l := by
    have e : (entryContents preI m c (Proc.devRef .tc main_v3_3) : FVec Ideal S1024 .f32) = fun _ => Ideal.ofBits .f32 0x00000000#32 := by
      simp only [entryContents, afterL_cons, afterL_nil]
      after_results_simp
      rfl
    rw [e]
    simp [coef]
  done r l h := absurd r.isLt (by omega)

/-- The reference's result is the gradient. -/
theorem result (c : Dev nD) (ha : Finite (m ((c.tc : Thread nD τ).loc main_arg0))) (hd : Finite (m ((c.tc : Thread nD τ).loc main_arg1))) :
    (STEP^[8192] (entryContents preI m c)) (Proc.devRef .tc main_v3_4)
      = adjoint (m ((c.tc : Thread nD τ).loc main_arg0)) (m ((c.tc : Thread nD τ).loc main_arg1)) := by
  have h := iterate_inv ha hd (entry_inv m c) 8192 le_rfl
  funext i
  have hi : i = ix2 (⟨(i 0).val, (i 0).isLt⟩ : Fin 8192) (⟨(i 1).val, (i 1).isLt⟩ : Fin 1024) := by
    funext a; fin_cases a <;> rfl
  rw [hi]
  exact h.done _ _ (by omega)

end Cert.ScanRefIdeal.Math

end
-- ==== Proof.ScanClaim.lean ====
module

public import proofs.«01_k».proof.Defs
public import proofs.«01_k».proof.Proof.ScanRefValue
public import proofs.«01_k».proof.Proof.Reals
public import proofs.«01_k».proof.Proof.Gen.Pre_finite_scan
public import Idealize.ShloMosaic.Lib.Claim

@[expose] public section

set_option maxRecDepth 16384

noncomputable section

open Idealize.ShloMosaic Idealize.ShloMosaic.TcCoe Idealize.SL.Sem

namespace Cert.ScanIdeal.Math

open Cert.ScanIdeal Cert.ScanIdeal.Gen

theorem finite_of_pre (a d : FVec Ideal S8192x1024 .f32) (h : Cert.Pre_finite_scan.fn (F := Ideal) a d = fun _ => 1#1) :
    Finite a ∧ Finite d := by
  have e := congrFun h ix0
  obtain ⟨e1, e2⟩ := IntOp.andi_eq_one.1 e
  exact ⟨fun i => Cert.Reals.all_real a _ _ _ _ _ e1 i, fun i => Cert.Reals.all_real d _ _ _ _ _ e2 i⟩

/-- The backward scan: the kernel's tiles, chunks and doubling steps compute the reference's recurrence. -/
theorem claim : Cert.algebraic_ScanIdeal_ScanRefIdeal_pre_finite_scan := by
  intro m g m' g' hpre hagree
  refine ⟨fun c => (Body.dats m 0 c).arrAt 2 (cfgs 0).N, ?_, ?_⟩
  · refine (θ_run _ _ _).mono (fun r h c => ?_) (Body.run_main m g)
    exact ⟨(h c).1 2,
      ((h c).1 0).trans (((Body.dats m 0 c).arrAt_in 0 rfl _).trans ((Body.A_eq m c 0).trans (V_main_arg0 m c))),
      ((h c).1 1).trans (((Body.dats m 0 c).arrAt_in 1 rfl _).trans ((Body.A_eq m c 1).trans (V_main_arg1 m c)))⟩
  · refine (θ_run _ _ _).mono (fun r h c => ⟨?_, (h c).2⟩) (Cert.ScanRefIdeal.Value.run m' g')
    obtain ⟨ha, hd⟩ := finite_of_pre _ _ (hpre c)
    refine (h c).1.trans ?_
    refine (Cert.ScanRefIdeal.Math.result m' c ?_ ?_).trans ?_
    · rw [(hagree c).1]; exact ha
    · rw [(hagree c).2]; exact hd
    · rw [(hagree c).1, (hagree c).2]
      exact (final m c ha hd).symm

end Cert.ScanIdeal.Math

end
-- ==== Proof.NormValue.lean ====
module

public import proofs.«01_k».proof.Defs
public import proofs.«01_k».proof.Proof.Gen.NormIdeal.Value
public import proofs.«01_k».proof.Proof.Gen.NormRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormIdeal.Math

open Cert.NormIdeal Cert.NormIdeal.Gen

variable (m : (ℓ : Loc nD τ sig) → Buf (Elt Ideal) ℓ)

theorem zero_eq : Ideal.ofBits .f32 0x00000000#32 = 0 := by
  simp [Ideal.ofBits, Ideal.ieee]

section Payloads

variable (d x : FVec Ideal S512x1024 .f32) (p : FVec Ideal S512x128 .f32) (g z : FVec Ideal S1x1024 .f32)

theorem pay6_apply (ρ : Fin 512 → EReal) (hp : ∀ r l, p (ix2 r l) = ρ r) (r : Fin 512) (q : Fin 1024) :
    k0_pay6 (F := Ideal) d x p g (ix2 r q) = ρ r * (d (ix2 r q) * g (ix2 (0 : Fin 1) q)
      - Ideal.div (∑ k : Fin 1024, d (ix2 r k) * g (ix2 (0 : Fin 1) k)) (Ideal.ofBits .f32 0x44800000#32)
      - x (ix2 r q) * Ideal.div (∑ k : Fin 1024, d (ix2 r k) * g (ix2 (0 : Fin 1) k) * x (ix2 r k)) (Ideal.ofBits .f32 0x44800000#32)) := by
  pointwise [k0_pay6, k0_pay5]
  simp only [hp]
  refine congrArg (· * _) ?_
  simp only [dite_eq_ite, ite_self]

theorem pay9_apply (i : S512x1024.Idx) : k0_pay9 (F := Ideal) d x p g i = Ideal.ofBits .f32 0x3F000000#32 * k0_pay6 (F := Ideal) d x p g i := rfl

theorem pay7_apply (q : S1x1024.Idx) :
    k0_pay3 (F := Ideal) (k0_pay7 (F := Ideal) d x) z q = z q + ∑ r : Fin 512, d (ix2 r (q 1)) * x (ix2 r (q 1)) := by
  pointwise [k0_pay3, k0_pay7, k0_pay5]

theorem pay8_apply (q : S1x1024.Idx) :
    k0_pay4 (F := Ideal) (k0_pay8 (F := Ideal) d) z q = z q + ∑ r : Fin 512, d (ix2 r (q 1)) := by
  pointwise [k0_pay4, k0_pay8]

end Payloads

/-- A row's gradient: the spread, times the cotangent less its mean and less its share along the normalised row. -/
def dZ (d x : FVec Ideal S8192x1024 .f32) (p : FVec Ideal S8192x128 .f32) (g : FVec Ideal S1x1024 .f32) : FVec Ideal S8192x1024 .f32 :=
  fun j => p (ix2 (j 0) (0 : Fin 128)) * (d (ix2 (j 0) (j 1)) * g (ix2 (0 : Fin 1) (j 1))
      - Ideal.div (∑ k : Fin 1024, d (ix2 (j 0) k) * g (ix2 (0 : Fin 1) k)) (Ideal.ofBits .f32 0x44800000#32)
      - x (ix2 (j 0) (j 1)) * Ideal.div (∑ k : Fin 1024, d (ix2 (j 0) k) * g (ix2 (0 : Fin 1) k) * x (ix2 (j 0) k)) (Ideal.ofBits .f32 0x44800000#32))

/-- The scale's gradient: the cotangents against the normalised rows. -/
def dScale (d x : FVec Ideal S8192x1024 .f32) : FVec Ideal S1x1024 .f32 :=
  fun q => ∑ n : Fin 8192, d (ix2 n (q 1)) * x (ix2 n (q 1))

/-- The shift's gradient: the cotangents over all rows. -/
def dShift (d : FVec Ideal S8192x1024 .f32) : FVec Ideal S1x1024 .f32 :=
  fun q => ∑ n : Fin 8192, d (ix2 n (q 1))

theorem idx : ∀ t : Fin cfg0.N, win0_0.index t = ![t.val, 0] ∧ win0_1.index t = ![t.val, 0] ∧ win0_2.index t = ![t.val, 0] ∧
    win0_3.index t = ![0, 0] ∧ win0_4.index t = ![t.val, 0] ∧ win0_5.index t = ![t.val, 0] ∧ win0_6.index t = ![0, 0] ∧ win0_7.index t = ![0, 0] :=
  (by decide +kernel : ∀ t : Fin grid0.N, _)

theorem out4 (c : Dev nD) (t : Fin cfg0.N) : (outsAt0 m c t.val t.isLt).1
    = k0_pay6 (F := Ideal) (iblk m c 0 t) (iblk m c 1 t) (iblk m c 2 t) (iblk m c 3 t) := by
  by_cases h0 : t.val % 16 = 0
  · rw [outsAt0_A m c t h0]
    frame_out
  · rw [outsAt0_B m c t h0]
    frame_out

theorem out5 (c : Dev nD) (t : Fin cfg0.N) : (outsAt0 m c t.val t.isLt).2.1
    = k0_pay9 (F := Ideal) (iblk m c 0 t) (iblk m c 1 t) (iblk m c 2 t) (iblk m c 3 t) := by
  by_cases h0 : t.val % 16 = 0
  · rw [outsAt0_A m c t h0]
    frame_out
  · rw [outsAt0_B m c t h0]
    frame_out

theorem blk0 (c : Dev nD) (t : Fin cfg0.N) (r : Fin 512) (q : Fin 1024) (n : Fin 8192) (hn : t.val * 512 + r.val = n.val) :
    iblk m c 0 t (ix2 r q) = V m c main_arg3 (ix2 n q) := by
  obtain ⟨n, h⟩ := n
  dsimp only at hn
  subst hn
  blk_simp [iblk]
  generalize V m c main_arg3 = A
  blk_point [idx t]

theorem blk1 (c : Dev nD) (t : Fin cfg0.N) (r : Fin 512) (q : Fin 1024) (n : Fin 8192) (hn : t.val * 512 + r.val = n.val) :
    iblk m c 1 t (ix2 r q) = V m c main_v15 (ix2 n q) := by
  obtain ⟨n, h⟩ := n
  dsimp only at hn
  subst hn
  blk_simp [iblk]
  generalize V m c main_v15 = A
  blk_point [idx t]

theorem blk2 (c : Dev nD) (t : Fin cfg0.N) (r : Fin 512) (l : Fin 128) (n : Fin 8192) (hn : t.val * 512 + r.val = n.val) :
    iblk m c 2 t (ix2 r l) = V m c main_v16 (ix2 n l) := by
  obtain ⟨n, h⟩ := n
  dsimp only at hn
  subst hn
  blk_simp [iblk]
  generalize V m c main_v16 = A
  blk_point [idx t]

theorem blk3 (c : Dev nD) (t : Fin cfg0.N) (q : Fin 1024) : iblk m c 3 t (ix2 (0 : Fin 1) q) = V m c main_v17 (ix2 (0 : Fin 1) q) := by
  blk_simp [iblk]
  generalize V m c main_v17 = A
  blk_point [idx t]

theorem tile (hp : ∀ c r l, V m c main_v16 (ix2 r l) = V m c main_v16 (ix2 r (0 : Fin 128))) (c : Dev nD) (t : Fin cfg0.N) (r : Fin 512) (q : Fin 1024)
    (n : Fin 8192) (hn : t.val * 512 + r.val = n.val) :
    k0_pay6 (F := Ideal) (iblk m c 0 t) (iblk m c 1 t) (iblk m c 2 t) (iblk m c 3 t) (ix2 r q)
      = dZ (V m c main_arg3) (V m c main_v15) (V m c main_v16) (V m c main_v17) (ix2 n q) := by
  have ht : t.val < 16 := lt_of_lt_of_eq t.isLt N_0
  rw [pay6_apply _ _ _ _ (fun r => V m c main_v16 (ix2 (⟨t.val * 512 + r.val, by omega⟩ : Fin 8192) (0 : Fin 128)))
    (fun r l => (blk2 m c t r l _ rfl).trans (hp c _ _))]
  have e : (⟨t.val * 512 + r.val, by omega⟩ : Fin 8192) = n := Fin.ext hn
  simp only [e, blk0 m c t r _ n hn, blk1 m c t r _ n hn, blk3 m c t]
  rfl

theorem final4 (hp : ∀ c r l, V m c main_v16 (ix2 r l) = V m c main_v16 (ix2 r (0 : Fin 128))) (c : Dev nD) : (dats m 0 c).arrAt 4 (cfgs 0).N
    = dZ (V m c main_arg3) (V m c main_v15) (V m c main_v16) (V m c main_v17) := by
  refine (dats m 0 c).arrAt_eq_of_covers 4 _ (by decide +kernel) fun t hf y => ?_
  have ht : t.val < 16 := lt_of_lt_of_eq t.isLt N_0
  blk_simp
  rw [after0_4, out4]
  have hr : (y 0).val < 512 := (y 0).isLt
  have hq : (y 1).val < 1024 := (y 1).isLt
  have e0 : (((win0_4.blk t).view.emb y) 0).val = t.val * 512 + (y 0).val := by
    blk_simp [idx t]
  have e1 : (((win0_4.blk t).view.emb y) 1).val = (y 1).val := by
    blk_simp [idx t]
  have hb : t.val * 512 + (y 0).val < 8192 := by omega
  generalize (win0_4.blk t).view.emb y = j at e0 e1
  have hj : j = ix2 (⟨t.val * 512 + (y 0).val, hb⟩ : Fin 8192) (⟨(y 1).val, hq⟩ : Fin 1024) := by
    refine funext fun a => ?_
    match a with
    | ⟨0, _⟩ => exact Fin.ext e0
    | ⟨1, _⟩ => exact Fin.ext e1
  subst hj
  have key := tile m hp c t ⟨(y 0).val, hr⟩ ⟨(y 1).val, hq⟩ ⟨t.val * 512 + (y 0).val, hb⟩ rfl
  have hy : y = ix2 (⟨(y 0).val, hr⟩ : Fin 512) (⟨(y 1).val, hq⟩ : Fin 1024) := by
    refine funext fun a => ?_
    match a with
    | ⟨0, _⟩ => rfl
    | ⟨1, _⟩ => rfl
  exact (congrArg _ hy).trans key

theorem final5 (hp : ∀ c r l, V m c main_v16 (ix2 r l) = V m c main_v16 (ix2 r (0 : Fin 128))) (c : Dev nD) : (dats m 0 c).arrAt 5 (cfgs 0).N
    = fun j => Ideal.ofBits .f32 0x3F000000#32 * dZ (V m c main_arg3) (V m c main_v15) (V m c main_v16) (V m c main_v17) j := by
  refine (dats m 0 c).arrAt_eq_of_covers 5 _ (by decide +kernel) fun t hf y => ?_
  have ht : t.val < 16 := lt_of_lt_of_eq t.isLt N_0
  blk_simp
  rw [after0_5, out5]
  have hr : (y 0).val < 512 := (y 0).isLt
  have hq : (y 1).val < 1024 := (y 1).isLt
  have e0 : (((win0_5.blk t).view.emb y) 0).val = t.val * 512 + (y 0).val := by
    blk_simp [idx t]
  have e1 : (((win0_5.blk t).view.emb y) 1).val = (y 1).val := by
    blk_simp [idx t]
  have hb : t.val * 512 + (y 0).val < 8192 := by omega
  generalize (win0_5.blk t).view.emb y = j at e0 e1
  have hj : j = ix2 (⟨t.val * 512 + (y 0).val, hb⟩ : Fin 8192) (⟨(y 1).val, hq⟩ : Fin 1024) := by
    refine funext fun a => ?_
    match a with
    | ⟨0, _⟩ => exact Fin.ext e0
    | ⟨1, _⟩ => exact Fin.ext e1
  subst hj
  have key := tile m hp c t ⟨(y 0).val, hr⟩ ⟨(y 1).val, hq⟩ ⟨t.val * 512 + (y 0).val, hb⟩ rfl
  have hy : y = ix2 (⟨(y 0).val, hr⟩ : Fin 512) (⟨(y 1).val, hq⟩ : Fin 1024) := by
    refine funext fun a => ?_
    match a with
    | ⟨0, _⟩ => rfl
    | ⟨1, _⟩ => rfl
  exact (congrArg _ hy).trans ((pay9_apply _ _ _ _ _).trans (congrArg (Ideal.ofBits .f32 0x3F000000#32 * ·) key))

theorem final6 (c : Dev nD) : (dats m 0 c).arrAt 6 (cfgs 0).N = dScale (V m c main_arg3) (V m c main_v15) := by
  refine (dats m 0 c).arrAt_eq_of_covers 6 _ (by decide +kernel) fun t hf y => ?_
  have ht : t.val < 16 := lt_of_lt_of_eq t.isLt N_0
  blk_simp
  rw [after0_6, Pipeline.eq_sum_fin_of_reset_step_apply_of_flush (fun n h => (outsAt0 m c n h).2.2.1) 16 (fun _ => 0) _
    (fun t h j => by rw [outsAt0_A m c t h]; frame_out; rw [pay7_apply, show k0_pay1 (F := Ideal) j = 0 from zero_eq])
    (fun t h j => by rw [outsAt0_B m c t h]; frame_out; rw [pay7_apply])
    t ((flush0_6 t).mp hf) _, zero_add]
  have e1 : (win0_6.blk t).view.emb y 1 = y 1 := Fin.ext (by blk_simp [idx t])
  unfold dScale
  refine Fin.sum_mul_add_congr fun s k hl => ?_
  have hs : (16 * (t.val / 16) + s.val) * 512 + k.val = s.val * 512 + k.val := by omega
  rw [e1]
  exact congrArg₂ _ (blk0 m c _ k _ _ hs) (blk1 m c _ k _ _ hs)

theorem final7 (c : Dev nD) : (dats m 0 c).arrAt 7 (cfgs 0).N = dShift (V m c main_arg3) := by
  refine (dats m 0 c).arrAt_eq_of_covers 7 _ (by decide +kernel) fun t hf y => ?_
  have ht : t.val < 16 := lt_of_lt_of_eq t.isLt N_0
  blk_simp
  rw [after0_7, Pipeline.eq_sum_fin_of_reset_step_apply_of_flush (fun n h => (outsAt0 m c n h).2.2.2) 16 (fun _ => 0) _
    (fun t h j => by rw [outsAt0_A m c t h]; frame_out; rw [pay8_apply, show k0_pay2 (F := Ideal) j = 0 from zero_eq])
    (fun t h j => by rw [outsAt0_B m c t h]; frame_out; rw [pay8_apply])
    t ((flush0_7 t).mp hf) _, zero_add]
  have e1 : (win0_7.blk t).view.emb y 1 = y 1 := Fin.ext (by blk_simp [idx t])
  unfold dShift
  refine Fin.sum_mul_add_congr fun s k hl => ?_
  have hs : (16 * (t.val / 16) + s.val) * 512 + k.val = s.val * 512 + k.val := by omega
  rw [e1]
  exact blk0 m c _ k _ _ hs

end Cert.NormIdeal.Math

end
-- ==== Proof.NormClaim.lean ====
module

public import proofs.«01_k».proof.Defs
public import proofs.«01_k».proof.Proof.Gen.NormIdeal.Value
public import proofs.«01_k».proof.Proof.Gen.NormRefIdeal.Read
public import proofs.«01_k».proof.Proof.NormValue
public import proofs.«01_k».proof.Proof.Reals
public import proofs.«01_k».proof.Proof.Gen.Pre_finite_norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.NormIdeal.Math

open Cert.NormIdeal Cert.NormIdeal.Gen

theorem coe_sum {n : ℕ} (f : Fin n → ℝ) : ∑ k, (f k : EReal) = ((∑ k, f k : ℝ) : EReal) :=
  (map_sum (⟨⟨fun r : ℝ => (r : EReal), EReal.coe_zero⟩, EReal.coe_add⟩ : ℝ →+ EReal) f Finset.univ).symm

theorem width_eq : Ideal.ofBits .f32 0x44800000#32 = ((1024 : ℝ) : EReal) := by
  simp [Ideal.ofBits, Ideal.ieee]
  rw [← EReal.coe_mul]
  norm_num

theorem minus_half : Ideal.ofBits .f32 0xBF000000#32 = ((-(1/2) : ℝ) : EReal) := by
  simp [Ideal.ofBits, Ideal.ieee]
  rw [← EReal.coe_mul]
  norm_num

theorem small_pos : ∃ e : ℝ, 0 < e ∧ Ideal.ofBits .f32 0x3727C5AC#32 = (e : EReal) := by
  refine ⟨_, ?_, by simp [Ideal.ofBits, Ideal.ieee]; rfl⟩
  norm_num

/-- The gradient of a row, taken apart: what flows through the spread, through the squares and through the mean. -/
theorem row_real (c a : Fin 1024 → ℝ) (s : ℝ) (hs : 0 < s) (hc : ∑ k, c k = 0) (i : Fin 1024) :
    (a i * (Real.sqrt s)⁻¹ + c i * ((∑ k, c k * a k) * (-(1/2) * ((Real.sqrt s)⁻¹ * (1 / s))) * (1 / 1024))
        + (∑ k, c k * a k) * (-(1/2) * ((Real.sqrt s)⁻¹ * (1 / s))) * (1 / 1024) * c i)
      + (∑ j, -(a j * (Real.sqrt s)⁻¹ + c j * ((∑ k, c k * a k) * (-(1/2) * ((Real.sqrt s)⁻¹ * (1 / s))) * (1 / 1024))
        + (∑ k, c k * a k) * (-(1/2) * ((Real.sqrt s)⁻¹ * (1 / s))) * (1 / 1024) * c j)) * (1 / 1024)
    = (Real.sqrt s)⁻¹ * (a i - (∑ k, a k) * (1 / 1024) - c i * (Real.sqrt s)⁻¹ * ((∑ k, a k * (c k * (Real.sqrt s)⁻¹)) * (1 / 1024))) := by
  have hr : (Real.sqrt s)⁻¹ * (Real.sqrt s)⁻¹ = 1 / s := by
    rw [← mul_inv, Real.mul_self_sqrt hs.le, one_div]
  generalize (Real.sqrt s)⁻¹ = r at hr
  have e1 : ∑ k, a k * (c k * r) = (∑ k, c k * a k) * r := by
    rw [Finset.sum_mul]
    exact Finset.sum_congr rfl fun k _ => by ring
  rw [e1]
  generalize ∑ k, c k * a k = P
  have e2 : ∑ j, -(a j * r + c j * (P * (-(1/2) * (r * (1 / s))) * (1 / 1024)) + P * (-(1/2) * (r * (1 / s))) * (1 / 1024) * c j)
      = -((∑ k, a k) * r + (∑ k, c k) * (2 * (P * (-(1/2) * (r * (1 / s))) * (1 / 1024)))) := by
    rw [Finset.sum_neg_distrib, Finset.sum_mul, Finset.sum_mul, ← Finset.sum_add_distrib]
    exact congrArg _ (Finset.sum_congr rfl fun k _ => by ring)
  rw [e2, hc, ← hr]
  ring

section Ref

open Cert.NormRefIdeal.Gen Cert.NormRefIdeal.Read

variable (z : FVec Ideal S8192x1024 .f32) (g : FVec Ideal Cert.NormRefIdeal.S1024 .f32) (d : FVec Ideal S8192x1024 .f32)

theorem constant_zero (s : Shape) (j : s.Idx) : constant (F := Ideal) s .f32 0x00000000#32 j = 0 := zero_eq

theorem v5_apply (n : Fin 8192) (q : Fin 1024) : val_main_v5 (F := Ideal) z (ix2 n q) = z (ix2 n q) - (∑ k : Fin 1024, z (ix2 n k)) * ((1 / 1024 : ℝ) : EReal) := by
  pointwise [val_main_v5, val_main_v4, val_main_v3, val_main_v2, val_main_v1, val_main_v0]
  simp only [val_main_cst, val_main_cst_0, constant_zero, zero_add, show ∀ (s : Shape) (j : s.Idx), constant (F := Ideal) s .f32 0x44800000#32 j = ((1024 : ℝ) : EReal) from fun _ _ => width_eq,
    Ideal.div_coe (by norm_num : (1024 : ℝ) ≠ 0)]

theorem v12_apply (n : Fin 8192) : val_main_v12 (F := Ideal) z (ix2 n (0 : Fin 1))
    = (∑ k : Fin 1024, val_main_v5 (F := Ideal) z (ix2 n k) * val_main_v5 (F := Ideal) z (ix2 n k)) * ((1 / 1024 : ℝ) : EReal) + Ideal.ofBits .f32 0x3727C5AC#32 := by
  pointwise [val_main_v12, val_main_v11, val_main_v10, val_main_v9, val_main_v8, val_main_v7, val_main_v6]
  simp only [val_main_cst_1, val_main_cst_2, val_main_cst_3, constant_zero, zero_add, show ∀ (s : Shape) (j : s.Idx), constant (F := Ideal) s .f32 0x44800000#32 j = ((1024 : ℝ) : EReal) from fun _ _ => width_eq,
    Ideal.div_coe (by norm_num : (1024 : ℝ) ≠ 0)]
  rfl

/-- The reference's gradient of a row, in terms of the row less its mean, of its spread and of the cotangents. -/
def rowRef (c a : Fin 1024 → EReal) (r s : EReal) (i : Fin 1024) : EReal :=
  (a i * r + c i * ((∑ k, c k * a k) * (((-(1/2) : ℝ) : EReal) * Ideal.div r s) * ((1 / 1024 : ℝ) : EReal))
      + (∑ k, c k * a k) * (((-(1/2) : ℝ) : EReal) * Ideal.div r s) * ((1 / 1024 : ℝ) : EReal) * c i)
    + (∑ j, -(a j * r + c j * ((∑ k, c k * a k) * (((-(1/2) : ℝ) : EReal) * Ideal.div r s) * ((1 / 1024 : ℝ) : EReal))
      + (∑ k, c k * a k) * (((-(1/2) : ℝ) : EReal) * Ideal.div r s) * ((1 / 1024 : ℝ) : EReal) * c j)) * ((1 / 1024 : ℝ) : EReal)

theorem v56_apply (n : Fin 8192) (q : Fin 1024) : val_main_v56 (F := Ideal) z g d (ix2 n q)
    = rowRef (fun k => val_main_v5 (F := Ideal) z (ix2 n k)) (fun k => d (ix2 n k) * g (ix1 k))
        (Ideal.rsqrt (val_main_v12 (F := Ideal) z (ix2 n (0 : Fin 1)))) (val_main_v12 (F := Ideal) z (ix2 n (0 : Fin 1))) q := by
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v33, val_main_v32, val_main_v25, val_main_v19, val_main_v16, val_main_v15, val_main_v14, val_main_v13]
  simp only [val_main_cst_4, val_main_cst_9, val_main_cst_10, val_main_cst_11, val_main_cst_12, val_main_cst_13, val_main_cst_14, constant_zero, zero_add, Fin.sum_univ_one,
    show ∀ (s : Shape) (j : s.Idx), constant (F := Ideal) s .f32 0x44800000#32 j = ((1024 : ℝ) : EReal) from fun _ _ => width_eq,
    show ∀ (s : Shape) (j : s.Idx), constant (F := Ideal) s .f32 0xBF000000#32 j = ((-(1/2) : ℝ) : EReal) from fun _ _ => minus_half,
    Ideal.div_coe (by norm_num : (1024 : ℝ) ≠ 0)]
  rfl

/-- The kernel's, in the same terms. -/
def rowKer (c a : Fin 1024 → EReal) (r : EReal) (i : Fin 1024) : EReal :=
  r * (a i - (∑ k, a k) * ((1 / 1024 : ℝ) : EReal) - c i * r * ((∑ k, a k * (c k * r)) * ((1 / 1024 : ℝ) : EReal)))

theorem sum_bot {n : ℕ} (f : Fin n → EReal) (i : Fin n) (h : f i = ⊥) : ∑ k, f k = ⊥ := by
  rw [← Finset.add_sum_erase _ f (Finset.mem_univ i), h, EReal.bot_add]

theorem sum_top {n : ℕ} (f : Fin n → EReal) (i : Fin n) (h : f i = ⊤) (hb : ∀ k, f k ≠ ⊥) : ∑ k, f k = ⊤ := by
  rw [← Finset.add_sum_erase _ f (Finset.mem_univ i), h]
  refine EReal.top_add_of_ne_bot ?_
  exact Finset.sum_induction f (fun x => x ≠ ⊥) (fun x y hx hy => by rw [Ne, EReal.add_eq_bot_iff]; tauto) EReal.zero_ne_bot (fun k _ => hb k)

/-- A row with an infinite entry has an infinite spread. -/
theorem spread_top (n : Fin 8192) (i : Fin 1024) (h : z (ix2 n i) = ⊤ ∨ z (ix2 n i) = ⊥) : val_main_v12 (F := Ideal) z (ix2 n (0 : Fin 1)) = ⊤ := by
  have hpos : (0 : ℝ) < 1 / 1024 := by norm_num
  have hc : ∀ k, val_main_v5 (F := Ideal) z (ix2 n k) = ⊤ ∨ val_main_v5 (F := Ideal) z (ix2 n k) = ⊥ := by
    intro k
    rw [v5_apply]
    by_cases hb : ∃ j, z (ix2 n j) = ⊥
    · obtain ⟨j, hj⟩ := hb
      rw [sum_bot (fun k => z (ix2 n k)) j hj, EReal.bot_mul_coe_of_pos hpos]
      by_cases hk : z (ix2 n k) = ⊥
      · right
        rw [hk]
        rfl
      · left
        rw [sub_eq_add_neg, EReal.neg_bot]
        exact EReal.add_top_of_ne_bot hk
    · push Not at hb
      rw [sum_top (fun k => z (ix2 n k)) i (h.resolve_right (hb i)) hb, EReal.top_mul_coe_of_pos hpos]
      right
      rw [sub_eq_add_neg, EReal.neg_top]
      exact EReal.add_bot _
  have hsq : ∀ k, val_main_v5 (F := Ideal) z (ix2 n k) * val_main_v5 (F := Ideal) z (ix2 n k) = ⊤ := by
    intro k
    rcases hc k with e | e <;> rw [e] <;> rfl
  obtain ⟨e, he, heq⟩ := small_pos
  rw [v12_apply, sum_top _ (0 : Fin 1024) (hsq 0) (fun k => by rw [hsq k]; exact top_ne_bot), EReal.top_mul_coe_of_pos hpos, heq]
  rfl

theorem row_eq (n : Fin 8192) (q : Fin 1024) (hg : ∀ i, g i ≠ ⊤ ∧ g i ≠ ⊥) (hd : ∀ i, d i ≠ ⊤ ∧ d i ≠ ⊥) :
    rowRef (fun k => val_main_v5 (F := Ideal) z (ix2 n k)) (fun k => d (ix2 n k) * g (ix1 k))
        (Ideal.rsqrt (val_main_v12 (F := Ideal) z (ix2 n (0 : Fin 1)))) (val_main_v12 (F := Ideal) z (ix2 n (0 : Fin 1))) q
      = rowKer (fun k => val_main_v5 (F := Ideal) z (ix2 n k)) (fun k => d (ix2 n k) * g (ix1 k))
        (Ideal.rsqrt (val_main_v12 (F := Ideal) z (ix2 n (0 : Fin 1)))) q := by
  by_cases hz : ∃ i, z (ix2 n i) = ⊤ ∨ z (ix2 n i) = ⊥
  · obtain ⟨i, hi⟩ := hz
    rw [spread_top z n i hi]
    unfold rowRef rowKer
    simp [Ideal.div]
  · push Not at hz
    have hc : ∃ c : Fin 1024 → ℝ, (∀ k, val_main_v5 (F := Ideal) z (ix2 n k) = (c k : EReal)) ∧ ∑ k, c k = 0 := by
      have hzr : ∀ k, z (ix2 n k) = ((z (ix2 n k)).toReal : EReal) := fun k => (EReal.coe_toReal (hz k).1 (hz k).2).symm
      refine ⟨fun k => (z (ix2 n k)).toReal - (∑ j : Fin 1024, (z (ix2 n j)).toReal) * (1 / 1024), fun k => ?_, ?_⟩
      · rw [v5_apply, Fin.sum_fin_congr hzr, coe_sum, ← EReal.coe_mul]
        conv_lhs => rw [hzr k]
        rw [← EReal.coe_sub]
      · rw [Finset.sum_sub_distrib, Finset.sum_const, Finset.card_univ, Fintype.card_fin, nsmul_eq_mul]
        push_cast
        ring
    obtain ⟨c, hc, hsum⟩ := hc
    have hs : ∃ s : ℝ, 0 < s ∧ val_main_v12 (F := Ideal) z (ix2 n (0 : Fin 1)) = (s : EReal) := by
      obtain ⟨e, he, heq⟩ := small_pos
      refine ⟨(∑ k, c k * c k) * (1 / 1024) + e, ?_, ?_⟩
      · have : 0 ≤ ∑ k, c k * c k := Finset.sum_nonneg fun k _ => mul_self_nonneg _
        positivity
      · rw [v12_apply, heq]
        simp only [hc, ← EReal.coe_mul, coe_sum, ← EReal.coe_add]
    obtain ⟨s, hs, hseq⟩ := hs
    have ha : ∀ k, d (ix2 n k) * g (ix1 k) = (((d (ix2 n k)).toReal * (g (ix1 k)).toReal : ℝ) : EReal) := by
      intro k
      rw [EReal.coe_mul, EReal.coe_toReal (hd _).1 (hd _).2, EReal.coe_toReal (hg _).1 (hg _).2]
    have hr : Ideal.rsqrt (s : EReal) = (((Real.sqrt s)⁻¹ : ℝ) : EReal) := by
      rw [Ideal.rsqrt_coe, if_neg (not_lt.mpr hs.le), if_neg hs.ne']
    unfold rowRef rowKer
    rw [hseq, hr]
    simp only [hc, ha, Ideal.div_coe hs.ne', ← EReal.coe_mul, coe_sum, ← EReal.coe_add, ← EReal.coe_neg, ← EReal.coe_sub]
    exact congrArg _ (row_real c (fun k => (d (ix2 n k)).toReal * (g (ix1 k)).toReal) s hs hsum q)

end Ref

section Entry

variable (m : (ℓ : Loc nD τ sig) → Buf (Elt Ideal) ℓ)

/-- The rows. -/
abbrev argZ (c : Dev nD) : FVec Ideal S8192x1024 .f32 := m ((c.tc : Thread nD τ).loc main_arg0)

/-- The scale. -/
abbrev argG (c : Dev nD) : FVec Ideal S1024 .f32 := m ((c.tc : Thread nD τ).loc main_arg1)

/-- The cotangents. -/
abbrev argD (c : Dev nD) : FVec Ideal S8192x1024 .f32 := m ((c.tc : Thread nD τ).loc main_arg3)

theorem entry15 (c : Dev nD) : V m c main_v15 = Cert.NormRefIdeal.Read.val_main_v18 (F := Ideal) (m ((c.tc : Thread nD τ).loc main_arg0)) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry16 (c : Dev nD) : V m c main_v16 = broadcastInDim S8192x128 ![0, 1] bcast_S8192x1_S8192x128_0_1 (Cert.NormRefIdeal.Read.val_main_v13 (F := Ideal) (m ((c.tc : Thread nD τ).loc main_arg0))) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry17 (c : Dev nD) : V m c main_v17 = broadcastInDim S1x1024 ![1] bcast_S1024_S1x1024_1 (m ((c.tc : Thread nD τ).loc main_arg1)) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp

theorem lane (c : Dev nD) (n : Fin 8192) (l : Fin 128) : V m c main_v16 (ix2 n l)
    = Ideal.rsqrt (Cert.NormRefIdeal.Read.val_main_v12 (F := Ideal) (argZ m c) (ix2 n (0 : Fin 1))) := by
  rw [entry16]
  pointwise [Cert.NormRefIdeal.Read.val_main_v13]

theorem lanes (c : Dev nD) (n : Fin 8192) (l : Fin 128) : V m c main_v16 (ix2 n l) = V m c main_v16 (ix2 n (0 : Fin 128)) :=
  (lane m c n l).trans (lane m c n 0).symm

theorem dZ_ix2 (d x : FVec Ideal S8192x1024 .f32) (p : FVec Ideal S8192x128 .f32) (g : FVec Ideal S1x1024 .f32) (n : Fin 8192) (q : Fin 1024) :
    dZ d x p g (ix2 n q) = p (ix2 n (0 : Fin 128)) * (d (ix2 n q) * g (ix2 (0 : Fin 1) q)
      - Ideal.div (∑ k : Fin 1024, d (ix2 n k) * g (ix2 (0 : Fin 1) k)) (Ideal.ofBits .f32 0x44800000#32)
      - x (ix2 n q) * Ideal.div (∑ k : Fin 1024, d (ix2 n k) * g (ix2 (0 : Fin 1) k) * x (ix2 n k)) (Ideal.ofBits .f32 0x44800000#32)) := rfl

/-- The kernel's gradient of a row, in the terms of the reference. -/
theorem dZ_eq (c : Dev nD) (n : Fin 8192) (q : Fin 1024) :
    dZ (argD m c) (V m c main_v15) (V m c main_v16) (V m c main_v17) (ix2 n q)
      = rowKer (fun k => Cert.NormRefIdeal.Read.val_main_v5 (F := Ideal) (argZ m c) (ix2 n k))
          (fun k => (argD m c) (ix2 n k) * (argG m c) (ix1 k))
          (Ideal.rsqrt (Cert.NormRefIdeal.Read.val_main_v12 (F := Ideal) (argZ m c) (ix2 n (0 : Fin 1)))) q := by
  have hx : ∀ k : Fin 1024, V m c main_v15 (ix2 n k) = Cert.NormRefIdeal.Read.val_main_v5 (F := Ideal) (argZ m c) (ix2 n k)
      * Ideal.rsqrt (Cert.NormRefIdeal.Read.val_main_v12 (F := Ideal) (argZ m c) (ix2 n (0 : Fin 1))) := by
    intro k
    rw [entry15]
    pointwise [Cert.NormRefIdeal.Read.val_main_v18, Cert.NormRefIdeal.Read.val_main_v17, Cert.NormRefIdeal.Read.val_main_v13]
  have hw : ∀ k : Fin 1024, V m c main_v17 (ix2 (0 : Fin 1) k) = (argG m c) (ix1 k) := by
    intro k
    rw [entry17]
    pointwise []
  rw [dZ_ix2]
  simp only [lane m c n, hx, hw, width_eq, Ideal.div_coe (by norm_num : (1024 : ℝ) ≠ 0)]
  rfl

end Entry

section Sums

open Cert.NormRefIdeal.Gen Cert.NormRefIdeal.Read

variable (z : FVec Ideal S8192x1024 .f32) (d : FVec Ideal S8192x1024 .f32)

theorem ref_scale : val_main_v60 (F := Ideal) z d = dScale d (val_main_v18 (F := Ideal) z) := by
  refine funext fun q => ?_
  refine Eq.trans (b := ∑ n : Fin 8192, val_main_v18 (F := Ideal) z (ix2 n (q 1)) * d (ix2 n (q 1))) ?_
    (Fin.sum_fin_congr fun n => mul_comm _ _)
  pointwise [val_main_v60, val_main_v34, val_main_v31, val_main_v30, val_main_v29, val_main_v25]
  simp only [val_main_cst_7, val_main_cst_8, constant_zero, zero_add, Fin.sum_univ_one]

theorem ref_shift : val_main_v61 (F := Ideal) d = dShift d := by
  refine funext fun q => ?_
  unfold dShift
  pointwise [val_main_v61, val_main_v28, val_main_v27, val_main_v26]
  simp only [val_main_cst_5, val_main_cst_6, constant_zero, zero_add, Fin.sum_univ_one]

end Sums

theorem finite_of_pre (z : FVec Ideal S8192x1024 .f32) (g b : FVec Ideal S1024 .f32) (d : FVec Ideal S8192x1024 .f32)
    (h : Cert.Pre_finite_norm.fn (F := Ideal) z g b d = fun _ => 1#1) : (∀ i, g i ≠ ⊤ ∧ g i ≠ ⊥) ∧ (∀ i, d i ≠ ⊤ ∧ d i ≠ ⊥) := by
  have e := congrFun h ix0
  obtain ⟨e1, e2⟩ := IntOp.andi_eq_one.1 e
  exact ⟨fun i => Cert.Reals.all_real g _ _ _ _ _ e1 i, fun i => Cert.Reals.all_real d _ _ _ _ _ e2 i⟩

theorem dZ_ref (m : (ℓ : Loc nD τ sig) → Buf (Elt Ideal) ℓ) (c : Dev nD)
    (hg : ∀ i, (argG m c) i ≠ ⊤ ∧ (argG m c) i ≠ ⊥)
    (hd : ∀ i, (argD m c) i ≠ ⊤ ∧ (argD m c) i ≠ ⊥) :
    Cert.NormRefIdeal.Read.val_main_v56 (F := Ideal) (argZ m c) (argG m c) (argD m c)
      = dZ (argD m c) (V m c main_v15) (V m c main_v16) (V m c main_v17) := by
  refine funext fun j => ?_
  have hj : j = ix2 (j 0) (j 1) := funext fun a => by
    match a with
    | ⟨0, _⟩ => rfl
    | ⟨1, _⟩ => rfl
  refine (congrArg _ hj).trans (Eq.trans ?_ (congrArg _ hj).symm)
  exact (v56_apply _ _ _ (j 0) (j 1)).trans ((row_eq _ _ _ (j 0) (j 1) hg hd).trans (dZ_eq m c (j 0) (j 1)).symm)

/-- The norm's gradients: the kernel's tiles hold the reference's. -/
theorem claim : Cert.algebraic_NormIdeal_NormRefIdeal_pre_finite_norm := by
  intro m g m' g' hpre hagree
  refine ⟨fun c => (dats m 0 c).arrAt 4 cfg0.N, fun c => (dats m 0 c).arrAt 5 cfg0.N, fun c => (dats m 0 c).arrAt 6 cfg0.N,
    fun c => (dats m 0 c).arrAt 7 cfg0.N, ?_, ?_⟩
  · exact Cert.NormIdeal.Value.run_blocks m g
  · refine (θ_run _ _ _).mono (fun r h c => ⟨?_, ?_, ?_, ?_, (h c).2.2.2.2⟩) (Cert.NormRefIdeal.Value.run m' g')
    all_goals obtain ⟨hg, hd⟩ := finite_of_pre _ _ _ _ (hpre c)
    · refine (h c).1.trans ?_
      refine (Cert.NormRefIdeal.Read.val_main_v56_eq _ _).trans ?_
      show _ = (dats m 0 c).arrAt 4 cfg0.N
      rw [final4 m (fun c r l => lanes m c r l), V_main_arg3, (hagree c).1, (hagree c).2.1, (hagree c).2.2.2]
      exact dZ_ref m c hg hd
    · refine (h c).2.1.trans ?_
      refine (Cert.NormRefIdeal.Read.val_main_v59_eq _ _).trans ?_
      show _ = (dats m 0 c).arrAt 5 cfg0.N
      rw [final5 m (fun c r l => lanes m c r l), V_main_arg3, (hagree c).1, (hagree c).2.1, (hagree c).2.2.2]
      refine funext fun j => ?_
      exact congrArg (Ideal.ofBits .f32 0x3F000000#32 * ·) (congrFun (dZ_ref m c hg hd) j)
    · refine (h c).2.2.1.trans ?_
      refine (Cert.NormRefIdeal.Read.val_main_v60_eq _ _).trans ?_
      show _ = (dats m 0 c).arrAt 6 cfg0.N
      rw [final6, V_main_arg3, entry15, (hagree c).1, (hagree c).2.2.2]
      exact ref_scale _ _
    · refine (h c).2.2.2.1.trans ?_
      refine (Cert.NormRefIdeal.Read.val_main_v61_eq _).trans ?_
      show _ = (dats m 0 c).arrAt 7 cfg0.N
      rw [final7, V_main_arg3, (hagree c).2.2.2]
      exact ref_shift _

end Cert.NormIdeal.Math

end
-- ==== Proof.GateValue.lean ====
module

public import proofs.«01_k».proof.Defs
public import proofs.«01_k».proof.Proof.Gen.GateIdeal.Value
public import proofs.«01_k».proof.Proof.Gen.GateRefIdeal.Read
public import proofs.«01_k».proof.Proof.Gen.GateRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateIdeal.Math

open Cert.GateIdeal Cert.GateIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 1] ∧
    win0_3.index t = ![t.val, 0] ∧ win0_4.index t = ![t.val, 0] :=
  (by decide +kernel : ∀ t : Fin grid0.N, _)

/-- The hyperbolic tangent inside the gelu. -/
def th (x : EReal) : EReal :=
  Ideal.tanh (Ideal.ofBits .f32 0x3F4C422A#32 * (x + Ideal.ofBits .f32 0x3D372713#32 * (x * x * x)))

/-- The factor the gelu multiplies its argument with. -/
def phi (x : EReal) : EReal := Ideal.ofBits .f32 0x3F000000#32 * (Ideal.ofBits .f32 0x3F800000#32 + th x)

/-- The cotangent of the tangent's argument, scaled. -/
def inner (x w : EReal) : EReal :=
  Ideal.ofBits .f32 0x3F4C422A#32 * (Ideal.ofBits .f32 0x3F000000#32 * (x * w)
    * ((Ideal.ofBits .f32 0x3F800000#32 + th x) * (Ideal.ofBits .f32 0x3F800000#32 - th x)))

/-- The gate's cotangent as the kernel adds it up, one term for each factor of the cube. -/
def dgate (x w : EReal) : EReal :=
  w * phi x + inner x w + x * x * (Ideal.ofBits .f32 0x3D372713#32 * inner x w)
    + x * (Ideal.ofBits .f32 0x3D372713#32 * inner x w * x) + Ideal.ofBits .f32 0x3D372713#32 * inner x w * x * x

/-- The reference's, with the cube differentiated at once. -/
def dgateRef (x w : EReal) : EReal :=
  w * phi x + inner x w + Ideal.ofBits .f32 0x3D372713#32 * inner x w * (Ideal.ofBits .f32 0x40400000#32 * (x * x))

theorem three_eq : Ideal.ofBits .f32 0x40400000#32 = ((3 : ℝ) : EReal) := by
  simp [Ideal.ofBits, Ideal.ieee]
  norm_cast
  norm_num

theorem thrice (p : EReal) : p + p + p = ((3 : ℝ) : EReal) * p := by
  induction p with
  | bot => rw [EReal.coe_mul_bot_of_pos (by norm_num)]; rfl
  | coe r => norm_cast; ring
  | top => rw [EReal.coe_mul_top_of_pos (by norm_num)]; rfl

/-- The two sums agree on all extended reals. -/
theorem dgate_eq (x w : EReal) : dgate x w = dgateRef x w := by
  unfold dgate dgateRef
  generalize w * phi x + inner x w = a
  generalize Ideal.ofBits .f32 0x3D372713#32 * inner x w = q
  rw [three_eq]
  have e1 : x * (q * x) = x * x * q := by rw [mul_left_comm, mul_comm]
  have e2 : q * x * x = x * x * q := by rw [mul_assoc, mul_comm]
  have e3 : q * (((3 : ℝ) : EReal) * (x * x)) = ((3 : ℝ) : EReal) * (x * x * q) := by rw [mul_left_comm, mul_comm q]
  rw [e1, e2, e3, ← thrice, add_assoc, add_assoc, add_assoc]

theorem pay5_apply (d x : FVec Ideal S512x1024 .f32) (j : S512x1024.Idx) : k0_pay5 (F := Ideal) d x j = d j * (x j * phi (x j)) := by
  rfl

theorem pay1_apply (d h x : FVec Ideal S512x1024 .f32) (j : S512x1024.Idx) :
    k0_pay1 (F := Ideal) (k0_pay6 (F := Ideal) d h x) j = dgate (x j) (h j * d j) := by
  rfl

/-- The gate's pre-activation beside entry `i`: the second half of the projection's columns. -/
def gateAt (g : FVec Ideal S8192x2048 .f32) (i : S8192x1024.Idx) : EReal :=
  g (ix2 (i 0) ⟨1024 + (i 1).val, by have h1 : (i 1).val < 1024 := (i 1).isLt; show 1024 + (i 1).val < 2048; omega⟩)

/-- The cotangent of the recurrence's states. -/
def dH (h : FVec Ideal S8192x1024 .f32) (g : FVec Ideal S8192x2048 .f32) (d : FVec Ideal S8192x1024 .f32) : FVec Ideal S8192x1024 .f32 :=
  fun i => d i * (gateAt g i * phi (gateAt g i))

/-- The cotangent of the gates. -/
def dG (h : FVec Ideal S8192x1024 .f32) (g : FVec Ideal S8192x2048 .f32) (d : FVec Ideal S8192x1024 .f32) : FVec Ideal S8192x1024 .bf16 :=
  fun i => dgate (gateAt g i) (h i * d i)

theorem final_h (c : Dev nD) : (dats m 0 c).arrAt 3 cfg0.N = dH (V m c main_arg0) (V m c main_arg1) (V m c main_arg2) := by
  refine (dats m 0 c).arrAt_eq_of_covers 3 _ (by decide +kernel) fun t hf y => ?_
  blk_simp
  rw [after0_3]
  frame_out
  rw [pay5_apply]
  blk_simp [iblk]
  unfold dH gateAt
  generalize V m c main_arg0 = A
  generalize V m c main_arg1 = B
  generalize V m c main_arg2 = C
  blk_point [idx t]

theorem final_g (c : Dev nD) : (dats m 0 c).arrAt 4 cfg0.N = dG (V m c main_arg0) (V m c main_arg1) (V m c main_arg2) := by
  refine (dats m 0 c).arrAt_eq_of_covers 4 _ (by decide +kernel) fun t hf y => ?_
  blk_simp
  rw [after0_4]
  frame_out
  rw [pay1_apply]
  blk_simp [iblk]
  unfold dG gateAt
  generalize V m c main_arg0 = A
  generalize V m c main_arg1 = B
  generalize V m c main_arg2 = C
  blk_point [idx t]

section Ref

open Cert.GateRefIdeal.Read

variable (h : FVec Ideal S8192x1024 .f32) (g : FVec Ideal S8192x2048 .f32) (d : FVec Ideal S8192x1024 .f32)

theorem ref_gate (i : S8192x1024.Idx) : val_main_v0 (F := Ideal) g i = gateAt g i := by
  unfold gateAt
  rw [val_main_v0_apply]
  refine congrArg g (funext fun a => ?_)
  match a with
  | ⟨0, _⟩ => rfl
  | ⟨1, _⟩ => rfl

theorem ref_h : val_main_v24 (F := Ideal) g d = dH h g d := by
  refine funext fun i => ?_
  show d i * (val_main_v0 (F := Ideal) g i * phi (val_main_v0 (F := Ideal) g i)) = d i * (gateAt g i * phi (gateAt g i))
  rw [ref_gate]

theorem ref_g : val_main_v37 (F := Ideal) h g d = dG h g d := by
  refine funext fun i => ?_
  show dgateRef (val_main_v0 (F := Ideal) g i) (h i * d i) = dgate (gateAt g i) (h i * d i)
  rw [ref_gate, dgate_eq]

end Ref

/-- The gate's gradients: the kernel's tiles hold the reference's. -/
theorem claim : Cert.algebraic_GateIdeal_GateRefIdeal := by
  intro m g m' g' _ hagree
  refine ⟨fun c => (dats m 0 c).arrAt 3 cfg0.N, fun c => (dats m 0 c).arrAt 4 cfg0.N, ?_, ?_⟩
  · exact Cert.GateIdeal.Value.run_blocks m g
  · refine (θ_run _ _ _).mono (fun r h c => ⟨?_, ?_, (h c).2.2⟩) (Cert.GateRefIdeal.Value.run m' g')
    · refine (h c).1.trans ?_
      refine (Cert.GateRefIdeal.Read.val_main_v24_eq _ _).trans ?_
      show _ = (dats m 0 c).arrAt 3 cfg0.N
      rw [final_h, V_main_arg0, V_main_arg1, V_main_arg2, (hagree c).2.1, (hagree c).2.2]
      exact ref_h _ _ _
    · refine (h c).2.1.trans ?_
      refine (Cert.GateRefIdeal.Read.val_main_v37_eq _ _).trans ?_
      show _ = (dats m 0 c).arrAt 4 cfg0.N
      rw [final_g, V_main_arg0, V_main_arg1, V_main_arg2, (hagree c).1, (hagree c).2.1, (hagree c).2.2]
      exact ref_g _ _ _

end Cert.GateIdeal.Math

end
-- ==== Proof.ConvValue.lean ====
module

public import proofs.«01_k».proof.Defs
public import proofs.«01_k».proof.Proof.Gen.ConvIdeal.Value
public import proofs.«01_k».proof.Proof.Gen.ConvRefIdeal.Read
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ConvIdeal.Math

open Cert.ConvIdeal Cert.ConvIdeal.Gen

variable (m : (ℓ : Loc nD τ sig) → Buf (Elt Ideal) ℓ)

theorem zero_eq : Ideal.ofBits .f32 0x00000000#32 = 0 := by
  simp [Ideal.ofBits, Ideal.ieee]

theorem cmp_last : ∀ n : Fin 16, Scalar.cmpi .eq (BitVec.ofNat 32 n.val) 15#32 = if n.val = 15 then 1#1 else 0#1 := by
  decide +kernel

theorem cmp_first : ∀ n : Fin 16, Scalar.cmpi .eq (BitVec.ofNat 32 n.val) 0#32 = if n.val = 0 then 1#1 else 0#1 := by
  decide +kernel

theorem pay8_apply (i : grid0.Coords) (x : FVec Ideal S8x1024 .f32) (j : S8x1024.Idx) :
    k0_pay8 (F := Ideal) i x j = if (i 0).val = 15 then 0 else x j := by
  show Scalar.select (Scalar.cmpi .eq (BitVec.ofNat 32 (i 0).val) 15#32) (fun _ => Ideal.ofBits .f32 0x00000000#32) x j = _
  rw [cmp_last (i 0), zero_eq]
  split_ifs <;> rfl

theorem pay9_apply (i : grid0.Coords) (x : FVec Ideal S8x1024 .f32) (j : S8x1024.Idx) :
    k0_pay9 (F := Ideal) i x j = if (i 0).val = 0 then 0 else x j := by
  show Scalar.select (Scalar.cmpi .eq (BitVec.ofNat 32 (i 0).val) 0#32) (fun _ => Ideal.ofBits .f32 0x00000000#32) x j = _
  rw [cmp_first (i 0), zero_eq]
  split_ifs <;> rfl

/-- Row `r` of a tile continued by the first rows of the tile after it. -/
def below (x : FVec Ideal S512x1024 .f32) (y : FVec Ideal S8x1024 .f32) (r : Fin 512) (s : Fin 8) (q : Fin 1024) : EReal :=
  if h : r.val + s.val < 512 then x (ix2 ⟨r.val + s.val, h⟩ q) else y (ix2 ⟨r.val + s.val - 512, by omega⟩ q)

/-- Row `r` of a tile preceded by the last rows of the tile before it. -/
def above (x : FVec Ideal S512x1024 .f32) (y : FVec Ideal S8x1024 .f32) (r : Fin 512) (s : Fin 8) (q : Fin 1024) : EReal :=
  if h : 8 + r.val - s.val < 8 then y (ix2 ⟨8 + r.val - s.val, h⟩ q) else x (ix2 ⟨8 + r.val - s.val - 8, by omega⟩ q)

theorem below_of (x : FVec Ideal S512x1024 .f32) (y : FVec Ideal S8x1024 .f32) (r : Fin 512) (s : Fin 8) (q : Fin 1024) (e : ℕ)
    (he : e = r.val + s.val) (h1 : ¬ e < 512 → e - 512 < 8) :
    (if h : e < 512 then x (ix2 (⟨e, h⟩ : Fin 512) q) else y (ix2 (⟨e - 512, h1 h⟩ : Fin 8) q)) = below x y r s q := by
  subst he
  rfl

theorem above_of (x : FVec Ideal S512x1024 .f32) (y : FVec Ideal S8x1024 .f32) (r : Fin 512) (s : Fin 8) (q : Fin 1024) (e : ℕ)
    (he : e = 8 + r.val - s.val) (h1 : ¬ e < 8 → e - 8 < 512) :
    (if h : e < 8 then y (ix2 (⟨e, h⟩ : Fin 8) q) else x (ix2 (⟨e - 8, h1 h⟩ : Fin 512) q)) = above x y r s q := by
  subst he
  rfl

section Payloads

variable (i : grid0.Coords) (d x : FVec Ideal S512x1024 .f32) (y : FVec Ideal S8x1024 .f32) (a b z w : FVec Ideal S1x1024 .f32)
  (g : FVec Ideal S512x1024 .bf16)

theorem pay11_apply (r : Fin 512) (q : Fin 1024) : k0_pay11 (F := Ideal) i d y a b (ix2 r q)
      = b (ix2 (0 : Fin 1) q) * d (ix2 r q) + a (ix2 (0 : Fin 1) q) * below d (k0_pay8 (F := Ideal) i y) r 1 q := by
  pointwise [k0_pay11]
  exact congrArg _ (congrArg _ (below_of _ _ _ _ _ _ (by show (r.val + 520 - 519) % 520 = r.val + 1; omega) (by omega)))

theorem pay15_apply (r : Fin 512) (j : Fin 2048) :
    k0_pay15 (F := Ideal) d g a b (k0_pay8 (F := Ideal) i y) (k0_pay11 (F := Ideal) i d y z w) (ix2 r j)
      = if h : j.val < 1024 then
          w (ix2 (0 : Fin 1) (⟨j.val, h⟩ : Fin 1024)) * d (ix2 r ⟨j.val, h⟩)
            + z (ix2 (0 : Fin 1) ⟨j.val, h⟩) * below d (k0_pay8 (F := Ideal) i y) r 1 ⟨j.val, h⟩
            + b (ix2 (0 : Fin 1) ⟨j.val, h⟩) * below d (k0_pay8 (F := Ideal) i y) r 2 ⟨j.val, h⟩
            + a (ix2 (0 : Fin 1) ⟨j.val, h⟩) * below d (k0_pay8 (F := Ideal) i y) r 3 ⟨j.val, h⟩
        else g (ix2 r (⟨j.val - 1024, by omega⟩ : Fin 1024)) := by
  generalize hA : k0_pay11 (F := Ideal) i d y z w = A
  generalize hB : k0_pay8 (F := Ideal) i y = B
  pointwise [k0_pay15]
  by_cases h : j.val < 1024
  · refine (dif_pos h).trans (Eq.trans ?_ (dif_pos h).symm)
    refine congrArg₂ _ (congrArg₂ _ ?_ (congrArg₂ _ rfl ?_)) (congrArg₂ _ rfl ?_)
    · rw [← hA, pay11_apply, hB]
    · exact below_of d B r 2 ⟨j.val, h⟩ _ (by show (r.val + 520 - 518) % 520 = r.val + 2; omega) (by omega)
    · exact below_of d B r 3 ⟨j.val, h⟩ _ (by show (r.val + 520 - 517) % 520 = r.val + 3; omega) (by omega)
  · rw [dif_neg h, dif_neg h]

theorem pay10_apply (q : S1x1024.Idx) :
    k0_pay3 (F := Ideal) (k0_pay10 (F := Ideal) d x) z q = z q + ∑ r : Fin 512, d (ix2 r (q 1)) * x (ix2 r (q 1)) := by
  pointwise [k0_pay3, k0_pay10]

theorem pay16_apply (q : S1x1024.Idx) :
    k0_pay4 (F := Ideal) (k0_pay16 (F := Ideal) d) z q = z q + ∑ r : Fin 512, d (ix2 r (q 1)) := by
  pointwise [k0_pay4, k0_pay16]

theorem pay12_apply (r : Fin 512) (q : Fin 1024) : k0_pay12 (F := Ideal) i x y (ix2 r q) = above x (k0_pay9 (F := Ideal) i y) r 1 q := by
  pointwise [k0_pay12]
  exact above_of _ _ _ _ _ _ (by show (8 + r.val + 520 - 1) % 520 = 8 + r.val - 1; omega) (by omega)

theorem pay13_apply (q : S1x1024.Idx) : k0_pay2 (F := Ideal) (k0_pay13 (F := Ideal) d (k0_pay12 (F := Ideal) i x y)) z q
    = z q + ∑ r : Fin 512, d (ix2 r (q 1)) * above x (k0_pay9 (F := Ideal) i y) r 1 (q 1) := by
  refine Eq.trans (b := z q + ∑ r : Fin 512, d (ix2 r (q 1)) * k0_pay12 (F := Ideal) i x y (ix2 r (q 1))) ?_ ?_
  · generalize k0_pay12 (F := Ideal) i x y = A
    pointwise [k0_pay2, k0_pay13]
  · exact congrArg _ (Fin.sum_fin_congr fun r => congrArg _ (pay12_apply i x y r (q 1)))

theorem pay14_apply (q : S1x1024.Idx) : k0_pay1 (F := Ideal) (k0_pay14 (F := Ideal) d x y) z q
    = z q + ∑ r : Fin 512, d (ix2 r (q 1)) * above x y r 2 (q 1) := by
  pointwise [k0_pay1, k0_pay14]
  refine congrArg _ (Fin.sum_fin_congr fun r => congrArg _ ?_)
  exact above_of _ _ _ _ _ _ (by show (8 + r.val + 520 - 2) % 520 = 8 + r.val - 2; omega) (by omega)

theorem pay22_apply (q : S1x1024.Idx) : k0_pay22 (F := Ideal) d x y z q
    = z q + ∑ r : Fin 512, d (ix2 r (q 1)) * above x y r 3 (q 1) := by
  pointwise [k0_pay22]
  refine congrArg _ (Fin.sum_fin_congr fun r => congrArg _ ?_)
  exact above_of _ _ _ _ _ _ (by show (8 + r.val + 520 - 3) % 520 = 8 + r.val - 3; omega) (by omega)

end Payloads

/-- Row `n` of an array, zero beyond its last. -/
def padded (d : FVec Ideal S8192x1024 .f32) (n : ℕ) (q : Fin 1024) : EReal :=
  if h : n < 8192 then d (ix2 ⟨n, h⟩ q) else 0

/-- The inputs' cotangent, four shifted products, beside the gates'. -/
def dX (d : FVec Ideal S8192x1024 .f32) (g : FVec Ideal S8192x1024 .bf16) (a b z w : FVec Ideal S1x1024 .f32) : FVec Ideal S8192x2048 .bf16 :=
  fun j => if h : (j 1).val < 1024 then
          w (ix2 (0 : Fin 1) (⟨(j 1).val, h⟩ : Fin 1024)) * d (ix2 (j 0) ⟨(j 1).val, h⟩)
            + z (ix2 (0 : Fin 1) ⟨(j 1).val, h⟩) * padded d ((j 0).val + 1) ⟨(j 1).val, h⟩
            + b (ix2 (0 : Fin 1) ⟨(j 1).val, h⟩) * padded d ((j 0).val + 2) ⟨(j 1).val, h⟩
            + a (ix2 (0 : Fin 1) ⟨(j 1).val, h⟩) * padded d ((j 0).val + 3) ⟨(j 1).val, h⟩
        else g (ix2 (j 0) (⟨(j 1).val - 1024, by have hj : (j 1).val < 2048 := (j 1).isLt; omega⟩ : Fin 1024))

theorem idx : ∀ t : Fin cfg0.N, win0_0.index t = ![t.val, 0] ∧ win0_1.index t = ![min ((t.val + 1) * 64) 1023, 0] ∧ win0_2.index t = ![t.val, 0] ∧
    win0_3.index t = ![t.val * 64 - 1, 0] ∧ win0_4.index t = ![t.val, 0] ∧ win0_9.index t = ![t.val, 0] ∧
    win0_5.index t = ![0, 0] ∧ win0_6.index t = ![0, 0] ∧ win0_7.index t = ![0, 0] ∧ win0_8.index t = ![0, 0] ∧
    win0_10.index t = ![0, 0] ∧ win0_11.index t = ![0, 0] ∧ win0_12.index t = ![0, 0] ∧ win0_13.index t = ![0, 0] ∧ win0_14.index t = ![0, 0] :=
  (by decide +kernel : ∀ t : Fin grid0.N, _)

theorem coord : ∀ t : Fin cfg0.N, (grid0.coords t 0).val = t.val :=
  (by decide +kernel : ∀ t : Fin grid0.N, _)

theorem out9 (c : Dev nD) (t : Fin cfg0.N) : (outsAt0 m c t.val t.isLt).1
    = k0_pay15 (F := Ideal) (iblk m c 0 t) (k0_pay5 (F := Ideal) (iblk m c 4 t)) (k0_pay6 (F := Ideal) (iblk m c 5 t)) (k0_pay7 (F := Ideal) (iblk m c 6 t))
        (k0_pay8 (F := Ideal) (grid0.coords t) (iblk m c 1 t))
        (k0_pay11 (F := Ideal) (grid0.coords t) (iblk m c 0 t) (iblk m c 1 t) (iblk m c 7 t) (iblk m c 8 t)) := by
  by_cases h0 : t.val % 16 = 0
  · rw [outsAt0_A m c t h0]
    frame_out
  · rw [outsAt0_B m c t h0]
    frame_out

theorem ix2_eta {n k : ℕ} (y : (⟨2, ![n, k]⟩ : Shape).Idx) : y = ix2 (y 0) (y 1) := by
  refine funext fun a => ?_
  match a with
  | ⟨0, _⟩ => rfl
  | ⟨1, _⟩ => rfl

/-- Row `n - s` of an array, zero before its first. -/
def before (x : FVec Ideal S8192x2048 .f32) (n : Fin 8192) (s : ℕ) (q : Fin 1024) : EReal :=
  if h : s ≤ n.val then x (ix2 (⟨n.val - s, by omega⟩ : Fin 8192) (⟨q.val, by omega⟩ : Fin 2048)) else 0

/-- A tap's gradient: the cotangents against the inputs shifted, over all rows. -/
def dW (d : FVec Ideal S8192x1024 .f32) (x : FVec Ideal S8192x2048 .f32) (s : ℕ) : FVec Ideal S1x1024 .f32 :=
  fun q => ∑ n : Fin 8192, d (ix2 n (q 1)) * before x n s (q 1)

/-- The bias's gradient: the cotangents over all rows. -/
def dB (d : FVec Ideal S8192x1024 .f32) : FVec Ideal S1x1024 .f32 :=
  fun q => ∑ n : Fin 8192, d (ix2 n (q 1))

theorem blk0 (c : Dev nD) (t : Fin cfg0.N) (r : Fin 512) (q : Fin 1024) (h : t.val * 512 + r.val < 8192) :
    iblk m c 0 t (ix2 r q) = V m c main_arg3 (ix2 ⟨t.val * 512 + r.val, h⟩ q) := by
  blk_simp [iblk]
  generalize V m c main_arg3 = A
  blk_point [idx t]

theorem blk1 (c : Dev nD) (t : Fin cfg0.N) (r : Fin 8) (q : Fin 1024) (n : ℕ) (h : n < 8192) (hn : min ((t.val + 1) * 64) 1023 * 8 + r.val = n) :
    iblk m c 1 t (ix2 r q) = V m c main_arg3 (ix2 ⟨n, h⟩ q) := by
  blk_simp [iblk]
  generalize V m c main_arg3 = A
  subst hn
  blk_point [idx t]

theorem blk2 (c : Dev nD) (t : Fin cfg0.N) (r : Fin 512) (q : Fin 1024) (h : t.val * 512 + r.val < 8192) :
    iblk m c 2 t (ix2 r q) = V m c main_arg0 (ix2 ⟨t.val * 512 + r.val, h⟩ (⟨q.val, by omega⟩ : Fin 2048)) := by
  blk_simp [iblk]
  generalize V m c main_arg0 = A
  blk_point [idx t]

theorem blk3 (c : Dev nD) (t : Fin cfg0.N) (r : Fin 8) (q : Fin 1024) (n : ℕ) (h : n < 8192) (hn : (t.val * 64 - 1) * 8 + r.val = n) :
    iblk m c 3 t (ix2 r q) = V m c main_arg0 (ix2 ⟨n, h⟩ (⟨q.val, by omega⟩ : Fin 2048)) := by
  blk_simp [iblk]
  generalize V m c main_arg0 = A
  subst hn
  blk_point [idx t]

theorem blk4 (c : Dev nD) (t : Fin cfg0.N) (r : Fin 512) (q : Fin 1024) (h : t.val * 512 + r.val < 8192) :
    iblk m c 4 t (ix2 r q) = V m c main_v0 (ix2 ⟨t.val * 512 + r.val, h⟩ q) := by
  blk_simp [iblk]
  generalize V m c main_v0 = A
  blk_point [idx t]

theorem blk5 (c : Dev nD) (t : Fin cfg0.N) (q : Fin 1024) : iblk m c 5 t (ix2 (0 : Fin 1) q) = V m c main_v1 (ix2 (0 : Fin 1) q) := by
  blk_simp [iblk]
  generalize V m c main_v1 = A
  blk_point [idx t]

theorem blk6 (c : Dev nD) (t : Fin cfg0.N) (q : Fin 1024) : iblk m c 6 t (ix2 (0 : Fin 1) q) = V m c main_v2 (ix2 (0 : Fin 1) q) := by
  blk_simp [iblk]
  generalize V m c main_v2 = A
  blk_point [idx t]

theorem blk7 (c : Dev nD) (t : Fin cfg0.N) (q : Fin 1024) : iblk m c 7 t (ix2 (0 : Fin 1) q) = V m c main_v3 (ix2 (0 : Fin 1) q) := by
  blk_simp [iblk]
  generalize V m c main_v3 = A
  blk_point [idx t]

theorem blk8 (c : Dev nD) (t : Fin cfg0.N) (q : Fin 1024) : iblk m c 8 t (ix2 (0 : Fin 1) q) = V m c main_v4 (ix2 (0 : Fin 1) q) := by
  blk_simp [iblk]
  generalize V m c main_v4 = A
  blk_point [idx t]

theorem below_block (c : Dev nD) (t : Fin cfg0.N) (r : Fin 512) (s : Fin 8) (q : Fin 1024) (n : ℕ) (hn : t.val * 512 + r.val + s.val = n) :
    below (iblk m c 0 t) (k0_pay8 (F := Ideal) (grid0.coords t) (iblk m c 1 t)) r s q = padded (V m c main_arg3) n q := by
  have ht : t.val < 16 := lt_of_lt_of_eq t.isLt N_0
  have hc := coord t
  subst hn
  unfold below padded
  by_cases h : r.val + s.val < 512
  · rw [dif_pos h, dif_pos (by omega), blk0 m c t _ q (by show t.val * 512 + (r.val + s.val) < 8192; omega)]
    congr 2
    exact Fin.ext (Nat.add_assoc _ _ _).symm
  · rw [dif_neg h, pay8_apply, hc]
    by_cases h15 : t.val = 15
    · rw [if_pos h15, dif_neg (by omega)]
    · rw [if_neg h15, dif_pos (by omega)]
      exact blk1 m c t _ q _ _ (by show min ((t.val + 1) * 64) 1023 * 8 + (r.val + s.val - 512) = _; omega)

theorem above_block (c : Dev nD) (t : Fin cfg0.N) (r : Fin 512) (s : Fin 8) (q : Fin 1024) (n : Fin 8192) (hn : t.val * 512 + r.val = n.val) :
    above (iblk m c 2 t) (k0_pay9 (F := Ideal) (grid0.coords t) (iblk m c 3 t)) r s q = before (V m c main_arg0) n s q := by
  have ht : t.val < 16 := lt_of_lt_of_eq t.isLt N_0
  have hc := coord t
  unfold above before
  by_cases h : 8 + r.val - s.val < 8
  · rw [dif_pos h, pay9_apply, hc]
    by_cases h15 : t.val = 0
    · rw [if_pos h15, dif_neg (by omega)]
    · rw [if_neg h15, dif_pos (by omega)]
      exact blk3 m c t _ q _ _ (by show (t.val * 64 - 1) * 8 + (8 + r.val - s.val) = _; omega)
  · rw [dif_neg h, dif_pos (by omega), blk2 m c t _ q (by show t.val * 512 + (8 + r.val - s.val - 8) < 8192; omega)]
    congr 2
    exact Fin.ext (by show t.val * 512 + (8 + r.val - s.val - 8) = n.val - s.val; omega)

theorem final9 (c : Dev nD) : (dats m 0 c).arrAt 9 (cfgs 0).N
    = dX (V m c main_arg3) (V m c main_v0) (V m c main_v1) (V m c main_v2) (V m c main_v3) (V m c main_v4) := by
  refine (dats m 0 c).arrAt_eq_of_covers 9 _ (by decide +kernel) fun t hf y => ?_
  have ht : t.val < 16 := lt_of_lt_of_eq t.isLt N_0
  blk_simp
  rw [after0_9, out9]
  have hr : (y 0).val < 512 := (y 0).isLt
  have hq : (y 1).val < 2048 := (y 1).isLt
  refine Eq.trans (b := k0_pay15 (F := Ideal) (iblk m c 0 t) (iblk m c 4 t) (iblk m c 5 t) (iblk m c 6 t)
        (k0_pay8 (F := Ideal) (grid0.coords t) (iblk m c 1 t))
        (k0_pay11 (F := Ideal) (grid0.coords t) (iblk m c 0 t) (iblk m c 1 t) (iblk m c 7 t) (iblk m c 8 t)) (ix2 (⟨(y 0).val, hr⟩ : Fin 512) (⟨(y 1).val, hq⟩ : Fin 2048))) ?_ ?_
  · rw [show k0_pay5 (F := Ideal) (iblk m c 4 t) = iblk m c 4 t by pointwise [k0_pay5], show k0_pay6 (F := Ideal) (iblk m c 5 t) = iblk m c 5 t by pointwise [k0_pay6],
      show k0_pay7 (F := Ideal) (iblk m c 6 t) = iblk m c 6 t by pointwise [k0_pay7]]
    exact congrArg _ (ix2_eta y)
  rw [pay15_apply]
  have e0 : (((win0_9.blk t).view.emb y) 0).val = t.val * 512 + (y 0).val := by
    blk_simp [idx t]
  have e1 : (((win0_9.blk t).view.emb y) 1).val = (y 1).val := by
    blk_simp [idx t]
  have hb : t.val * 512 + (y 0).val < 8192 := by omega
  generalize (win0_9.blk t).view.emb y = j at e0 e1
  unfold dX
  have hj : j = ix2 (⟨t.val * 512 + (y 0).val, hb⟩ : Fin 8192) (⟨(y 1).val, hq⟩ : Fin 2048) := by
    refine funext fun a => ?_
    match a with
    | ⟨0, _⟩ => exact Fin.ext e0
    | ⟨1, _⟩ => exact Fin.ext e1
  subst hj
  by_cases h : (y 1).val < 1024
  · refine (dif_pos h).trans (Eq.trans ?_ (dif_pos h).symm)
    rw [blk5, blk6, blk7, blk8, blk0 m c t _ _ (by show t.val * 512 + (y 0).val < 8192; omega),
      below_block m c t _ _ _ (t.val * 512 + (y 0).val + 1) rfl, below_block m c t _ _ _ (t.val * 512 + (y 0).val + 2) rfl,
      below_block m c t _ _ _ (t.val * 512 + (y 0).val + 3) rfl]
    rfl
  · refine (dif_neg h).trans (Eq.trans ?_ (dif_neg h).symm)
    exact blk4 m c t _ _ _

theorem blk0' (c : Dev nD) (t : Fin cfg0.N) (r : Fin 512) (q : Fin 1024) (n : Fin 8192) (hn : t.val * 512 + r.val = n.val) :
    iblk m c 0 t (ix2 r q) = V m c main_arg3 (ix2 n q) := by
  obtain ⟨n, h⟩ := n
  subst hn
  exact blk0 m c t r q h

theorem before_zero (x : FVec Ideal S8192x2048 .f32) (n : Fin 8192) (q : Fin 1024) :
    before x n 0 q = x (ix2 n (⟨q.val, by omega⟩ : Fin 2048)) := rfl

theorem blk2' (c : Dev nD) (t : Fin cfg0.N) (r : Fin 512) (q : Fin 1024) (n : Fin 8192) (hn : t.val * 512 + r.val = n.val) :
    iblk m c 2 t (ix2 r q) = before (V m c main_arg0) n 0 q := by
  obtain ⟨n, h⟩ := n
  subst hn
  exact (blk2 m c t r q h).trans (before_zero _ _ _).symm

theorem final10 (c : Dev nD) : (dats m 0 c).arrAt 10 (cfgs 0).N = dW (V m c main_arg3) (V m c main_arg0) 3 := by
  refine (dats m 0 c).arrAt_eq_of_covers 10 _ (by decide +kernel) fun t hf y => ?_
  have ht : t.val < 16 := lt_of_lt_of_eq t.isLt N_0
  blk_simp
  rw [after0_10, Pipeline.eq_sum_fin_of_reset_step_apply_of_flush (fun n h => (outsAt0 m c n h).2.1) 16 (fun _ => 0) _
    (fun t h j => by rw [outsAt0_A m c t h]; frame_out; rw [pay22_apply, show k0_pay17 (F := Ideal) j = 0 from zero_eq])
    (fun t h j => by rw [outsAt0_B m c t h]; frame_out; rw [pay22_apply])
    t ((flush0_10 t).mp hf) _, zero_add]
  have e1 : (win0_10.blk t).view.emb y 1 = y 1 := Fin.ext (by blk_simp [idx t])
  unfold dW
  refine Fin.sum_mul_add_congr fun s k hl => ?_
  have hs : (16 * (t.val / 16) + s.val) * 512 + k.val = s.val * 512 + k.val := by omega
  rw [e1]
  exact congrArg₂ _ (blk0' m c _ k _ _ hs) (above_block m c _ k 3 _ _ hs)

theorem final11 (c : Dev nD) : (dats m 0 c).arrAt 11 (cfgs 0).N = dW (V m c main_arg3) (V m c main_arg0) 2 := by
  refine (dats m 0 c).arrAt_eq_of_covers 11 _ (by decide +kernel) fun t hf y => ?_
  have ht : t.val < 16 := lt_of_lt_of_eq t.isLt N_0
  blk_simp
  rw [after0_11, Pipeline.eq_sum_fin_of_reset_step_apply_of_flush (fun n h => (outsAt0 m c n h).2.2.1) 16 (fun _ => 0) _
    (fun t h j => by rw [outsAt0_A m c t h]; frame_out; rw [pay14_apply, show k0_pay18 (F := Ideal) j = 0 from zero_eq])
    (fun t h j => by rw [outsAt0_B m c t h]; frame_out; rw [pay14_apply])
    t ((flush0_11 t).mp hf) _, zero_add]
  have e1 : (win0_11.blk t).view.emb y 1 = y 1 := Fin.ext (by blk_simp [idx t])
  unfold dW
  refine Fin.sum_mul_add_congr fun s k hl => ?_
  have hs : (16 * (t.val / 16) + s.val) * 512 + k.val = s.val * 512 + k.val := by omega
  rw [e1]
  exact congrArg₂ _ (blk0' m c _ k _ _ hs) (above_block m c _ k 2 _ _ hs)

theorem final12 (c : Dev nD) : (dats m 0 c).arrAt 12 (cfgs 0).N = dW (V m c main_arg3) (V m c main_arg0) 1 := by
  refine (dats m 0 c).arrAt_eq_of_covers 12 _ (by decide +kernel) fun t hf y => ?_
  have ht : t.val < 16 := lt_of_lt_of_eq t.isLt N_0
  blk_simp
  rw [after0_12, Pipeline.eq_sum_fin_of_reset_step_apply_of_flush (fun n h => (outsAt0 m c n h).2.2.2.1) 16 (fun _ => 0) _
    (fun t h j => by rw [outsAt0_A m c t h]; frame_out; rw [pay13_apply, show k0_pay19 (F := Ideal) j = 0 from zero_eq])
    (fun t h j => by rw [outsAt0_B m c t h]; frame_out; rw [pay13_apply])
    t ((flush0_12 t).mp hf) _, zero_add]
  have e1 : (win0_12.blk t).view.emb y 1 = y 1 := Fin.ext (by blk_simp [idx t])
  unfold dW
  refine Fin.sum_mul_add_congr fun s k hl => ?_
  have hs : (16 * (t.val / 16) + s.val) * 512 + k.val = s.val * 512 + k.val := by omega
  rw [e1]
  exact congrArg₂ _ (blk0' m c _ k _ _ hs) (above_block m c _ k 1 _ _ hs)

theorem final13 (c : Dev nD) : (dats m 0 c).arrAt 13 (cfgs 0).N = dW (V m c main_arg3) (V m c main_arg0) 0 := by
  refine (dats m 0 c).arrAt_eq_of_covers 13 _ (by decide +kernel) fun t hf y => ?_
  have ht : t.val < 16 := lt_of_lt_of_eq t.isLt N_0
  blk_simp
  rw [after0_13, Pipeline.eq_sum_fin_of_reset_step_apply_of_flush (fun n h => (outsAt0 m c n h).2.2.2.2.1) 16 (fun _ => 0) _
    (fun t h j => by rw [outsAt0_A m c t h]; frame_out; rw [pay10_apply, show k0_pay20 (F := Ideal) j = 0 from zero_eq])
    (fun t h j => by rw [outsAt0_B m c t h]; frame_out; rw [pay10_apply])
    t ((flush0_13 t).mp hf) _, zero_add]
  have e1 : (win0_13.blk t).view.emb y 1 = y 1 := Fin.ext (by blk_simp [idx t])
  unfold dW
  refine Fin.sum_mul_add_congr fun s k hl => ?_
  have hs : (16 * (t.val / 16) + s.val) * 512 + k.val = s.val * 512 + k.val := by omega
  rw [e1]
  exact congrArg₂ _ (blk0' m c _ k _ _ hs) (blk2' m c _ k _ _ hs)

theorem final14 (c : Dev nD) : (dats m 0 c).arrAt 14 (cfgs 0).N = dB (V m c main_arg3) := by
  refine (dats m 0 c).arrAt_eq_of_covers 14 _ (by decide +kernel) fun t hf y => ?_
  have ht : t.val < 16 := lt_of_lt_of_eq t.isLt N_0
  blk_simp
  rw [after0_14, Pipeline.eq_sum_fin_of_reset_step_apply_of_flush (fun n h => (outsAt0 m c n h).2.2.2.2.2) 16 (fun _ => 0) _
    (fun t h j => by rw [outsAt0_A m c t h]; frame_out; rw [pay16_apply, show k0_pay21 (F := Ideal) j = 0 from zero_eq])
    (fun t h j => by rw [outsAt0_B m c t h]; frame_out; rw [pay16_apply])
    t ((flush0_14 t).mp hf) _, zero_add]
  have e1 : (win0_14.blk t).view.emb y 1 = y 1 := Fin.ext (by blk_simp [idx t])
  unfold dB
  refine Fin.sum_mul_add_congr fun s k hl => ?_
  have hs : (16 * (t.val / 16) + s.val) * 512 + k.val = s.val * 512 + k.val := by omega
  rw [e1]
  exact blk0' m c _ k _ _ hs

end Cert.ConvIdeal.Math
-- ==== Proof.ConvClaim.lean ====
module

public import proofs.«01_k».proof.Defs
public import proofs.«01_k».proof.Proof.Gen.ConvIdeal.Value
public import proofs.«01_k».proof.Proof.Gen.ConvRefIdeal.Read
public import Idealize.ShloMosaic.Lib.Pipeline.ValueKit
public import Idealize.ShloMosaic.Lib.Pipeline.ReadBack

public import proofs.«01_k».proof.Proof.ConvValue

@[expose] public section

set_option maxRecDepth 16384

noncomputable section

open Idealize.ShloMosaic Idealize.ShloMosaic.TcCoe Idealize.SL.Sem
open Idealize.ShloMosaic.Pipeline (Dat)

namespace Cert.ConvIdeal.Math

open Cert.ConvIdeal Cert.ConvIdeal.Gen

section Entry

variable (m : (ℓ : Loc nD τ sig) → Buf (Elt Ideal) ℓ)

theorem entry0 (c : Dev nD) : V m c main_v0 = truncf (F := Ideal) .bf16 (m ((c.tc : Thread nD τ).loc main_arg4)) bitsLt_bf16_f32 := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp

theorem entry1 (c : Dev nD) : V m c main_v1 = extractStridedSlice S1x1024 ![0, 0] (m ((c.tc : Thread nD τ).loc main_arg1)) slices_S4x1024_S1x1024_0_0 := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp

theorem entry2 (c : Dev nD) : V m c main_v2 = extractStridedSlice S1x1024 ![1, 0] (m ((c.tc : Thread nD τ).loc main_arg1)) slices_S4x1024_S1x1024_1_0 := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp

theorem entry3 (c : Dev nD) : V m c main_v3 = extractStridedSlice S1x1024 ![2, 0] (m ((c.tc : Thread nD τ).loc main_arg1)) slices_S4x1024_S1x1024_2_0 := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp

theorem entry4 (c : Dev nD) : V m c main_v4 = extractStridedSlice S1x1024 ![3, 0] (m ((c.tc : Thread nD τ).loc main_arg1)) slices_S4x1024_S1x1024_3_0 := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp

end Entry

section Ref

open Cert.ConvRefIdeal.Gen Cert.ConvRefIdeal.Read

variable (x : FVec Ideal S8192x2048 .f32) (w : FVec Ideal Cert.ConvRefIdeal.S4x1024 .f32) (d g : FVec Ideal S8192x1024 .f32)

theorem constant_zero (s : Shape) (j : s.Idx) : constant (F := Ideal) s .f32 0x00000000#32 j = 0 := zero_eq

theorem ref_b : val_main_v90 (F := Ideal) d = dB d := by
  refine funext fun q => ?_
  unfold dB
  pointwise [val_main_v90, val_main_v39, val_main_v38, val_main_v37]
  simp only [val_main_cst_2, val_main_cst_3, constant_zero, zero_add, Fin.sum_univ_one]

theorem shifted3 (n : Fin 8192) (q : Fin 1024) : val_main_v4 (F := Ideal) x (ix2 n q) = before x n 3 q := by
  unfold before
  pointwise [val_main_v4, val_main_v2, val_main_v1, val_main_v0]
  simp only [val_main_cst, constant_zero]
  by_cases h : n.val < 3
  · rw [dif_pos h, dif_neg (by omega : ¬ 3 ≤ n.val)]
  · refine (dif_neg h).trans (Eq.trans ?_ (dif_pos (by omega : 3 ≤ n.val)).symm)
    rfl

theorem shifted2 (n : Fin 8192) (q : Fin 1024) : val_main_v12 (F := Ideal) x (ix2 n q) = before x n 2 q := by
  unfold before
  pointwise [val_main_v12, val_main_v2, val_main_v1, val_main_v0]
  simp only [val_main_cst, constant_zero]
  by_cases h : 1 + n.val < 3
  · rw [dif_pos h, dif_neg (by omega : ¬ 2 ≤ n.val)]
  · refine (dif_neg h).trans (Eq.trans ?_ (dif_pos (by omega : 2 ≤ n.val)).symm)
    congr 2
    exact Fin.ext (by show 1 + n.val - 3 = n.val - 2; omega)

theorem shifted1 (n : Fin 8192) (q : Fin 1024) : val_main_v19 (F := Ideal) x (ix2 n q) = before x n 1 q := by
  unfold before
  pointwise [val_main_v19, val_main_v2, val_main_v1, val_main_v0]
  simp only [val_main_cst, constant_zero]
  by_cases h : 2 + n.val < 3
  · rw [dif_pos h, dif_neg (by omega : ¬ 1 ≤ n.val)]
  · refine (dif_neg h).trans (Eq.trans ?_ (dif_pos (by omega : 1 ≤ n.val)).symm)
    congr 2
    exact Fin.ext (by show 2 + n.val - 3 = n.val - 1; omega)

theorem shifted0 (n : Fin 8192) (q : Fin 1024) : val_main_v26 (F := Ideal) x (ix2 n q) = before x n 0 q := by
  unfold before
  pointwise [val_main_v26, val_main_v2, val_main_v1, val_main_v0]

theorem ref_w0 : val_main_v89 (F := Ideal) x d = dW d x 0 := by
  refine funext fun q => ?_
  refine Eq.trans (b := ∑ n : Fin 8192, val_main_v26 (F := Ideal) x (ix2 n (q 1)) * d (ix2 n (q 1))) ?_
    (Fin.sum_fin_congr fun n => (congrArg (· * _) (shifted0 x n (q 1))).trans (mul_comm _ _))
  pointwise [val_main_v89, val_main_v79, val_main_v78, val_main_v68, val_main_v67, val_main_v57, val_main_v56, val_main_v47, val_main_v46, val_main_v45, val_main_v42, val_main_v41, val_main_v36, val_main_v40]
  simp only [val_main_cst, val_main_cst_2, val_main_cst_3, val_main_cst_4, val_main_cst_5, val_main_cst_6, val_main_cst_8, val_main_cst_9, val_main_cst_10, val_main_cst_12, val_main_cst_13, val_main_cst_14, val_main_cst_16, val_main_cst_17, val_main_cst_18, constant_zero, zero_add, add_zero, Fin.sum_univ_one]

theorem ref_w1 : val_main_v88 (F := Ideal) x d = dW d x 1 := by
  refine funext fun q => ?_
  refine Eq.trans (b := ∑ n : Fin 8192, val_main_v19 (F := Ideal) x (ix2 n (q 1)) * d (ix2 n (q 1))) ?_
    (Fin.sum_fin_congr fun n => (congrArg (· * _) (shifted1 x n (q 1))).trans (mul_comm _ _))
  pointwise [val_main_v88, val_main_v79, val_main_v78, val_main_v68, val_main_v67, val_main_v57, val_main_v56, val_main_v47, val_main_v55, val_main_v54, val_main_v51, val_main_v50, val_main_v36, val_main_v49]
  simp only [val_main_cst, val_main_cst_2, val_main_cst_3, val_main_cst_4, val_main_cst_5, val_main_cst_6, val_main_cst_8, val_main_cst_9, val_main_cst_10, val_main_cst_12, val_main_cst_13, val_main_cst_14, val_main_cst_16, val_main_cst_17, val_main_cst_18, constant_zero, zero_add, add_zero, Fin.sum_univ_one]

theorem ref_w2 : val_main_v87 (F := Ideal) x d = dW d x 2 := by
  refine funext fun q => ?_
  refine Eq.trans (b := ∑ n : Fin 8192, val_main_v12 (F := Ideal) x (ix2 n (q 1)) * d (ix2 n (q 1))) ?_
    (Fin.sum_fin_congr fun n => (congrArg (· * _) (shifted2 x n (q 1))).trans (mul_comm _ _))
  pointwise [val_main_v87, val_main_v79, val_main_v78, val_main_v68, val_main_v67, val_main_v57, val_main_v56, val_main_v47, val_main_v66, val_main_v65, val_main_v62, val_main_v61, val_main_v36, val_main_v60]
  simp only [val_main_cst, val_main_cst_2, val_main_cst_3, val_main_cst_4, val_main_cst_5, val_main_cst_6, val_main_cst_8, val_main_cst_9, val_main_cst_10, val_main_cst_12, val_main_cst_13, val_main_cst_14, val_main_cst_16, val_main_cst_17, val_main_cst_18, constant_zero, zero_add, add_zero, Fin.sum_univ_one]

theorem ref_w3 : val_main_v86 (F := Ideal) x d = dW d x 3 := by
  refine funext fun q => ?_
  refine Eq.trans (b := ∑ n : Fin 8192, val_main_v4 (F := Ideal) x (ix2 n (q 1)) * d (ix2 n (q 1))) ?_
    (Fin.sum_fin_congr fun n => (congrArg (· * _) (shifted3 x n (q 1))).trans (mul_comm _ _))
  pointwise [val_main_v86, val_main_v79, val_main_v78, val_main_v68, val_main_v67, val_main_v57, val_main_v56, val_main_v47, val_main_v77, val_main_v76, val_main_v73, val_main_v72, val_main_v36, val_main_v71]
  simp only [val_main_cst, val_main_cst_2, val_main_cst_3, val_main_cst_4, val_main_cst_5, val_main_cst_6, val_main_cst_8, val_main_cst_9, val_main_cst_10, val_main_cst_12, val_main_cst_13, val_main_cst_14, val_main_cst_16, val_main_cst_17, val_main_cst_18, constant_zero, zero_add, add_zero, Fin.sum_univ_one]

theorem ref_x (n : Fin 8192) (q : Fin 1024) : val_main_v83 (F := Ideal) w d (ix2 n q)
    = w (ix2 3 q) * d (ix2 n q) + w (ix2 2 q) * padded d (n.val + 1) q + w (ix2 1 q) * padded d (n.val + 2) q + w (ix2 0 q) * padded d (n.val + 3) q := by
  have key : ∀ (k : ℕ) (u : EReal), k < 3 → u * padded d (n.val + (3 - k)) q
      = if h : k ≤ 3 + n.val ∧ 3 + n.val - k < 8192 then d (ix2 (⟨3 + n.val - k, h.2⟩ : Fin 8192) q) * u else 0 := by
    intro k u hk
    unfold padded
    by_cases h : 3 + n.val - k < 8192
    · rw [dif_pos (by omega), dif_pos ⟨by omega, h⟩, mul_comm]
      congr 3
      exact Fin.ext (by show n.val + (3 - k) = 3 + n.val - k; omega)
    · rw [dif_neg (by omega), dif_neg (by omega), mul_zero]
  have k0 : w (ix2 0 q) * padded d (n.val + 3) q = if h : 3 + n.val < 8192 then d (ix2 (⟨3 + n.val, h⟩ : Fin 8192) q) * w (ix2 0 q) else 0 := by
    unfold padded
    by_cases h : 3 + n.val < 8192
    · rw [dif_pos (by omega), dif_pos h, mul_comm]
      congr 3
      exact Fin.ext (Nat.add_comm _ _)
    · rw [dif_neg (by omega), dif_neg h, mul_zero]
  rw [key 2 _ (by omega), key 1 _ (by omega), k0, mul_comm]
  clear key k0
  pointwise [val_main_v83, val_main_v81, val_main_v80, val_main_v75, val_main_v74, val_main_v70, val_main_v69, val_main_v64, val_main_v63, val_main_v59, val_main_v58, val_main_v53, val_main_v52, val_main_v48, val_main_v44, val_main_v43, val_main_v36, val_main_v7, val_main_v6, val_main_v5, val_main_v15, val_main_v14, val_main_v13, val_main_v22, val_main_v21, val_main_v20, val_main_v29, val_main_v28, val_main_v27]
  simp only [val_main_cst_11, val_main_cst_15, val_main_cst_19, constant_zero]

theorem slice0 (q : Fin 1024) : extractStridedSlice S1x1024 ![0, 0] w Cert.ConvIdeal.Gen.slices_S4x1024_S1x1024_0_0 (ix2 0 q) = w (ix2 0 q) := by
  pointwise []

theorem slice1 (q : Fin 1024) : extractStridedSlice S1x1024 ![1, 0] w Cert.ConvIdeal.Gen.slices_S4x1024_S1x1024_1_0 (ix2 0 q) = w (ix2 1 q) := by
  pointwise []

theorem slice2 (q : Fin 1024) : extractStridedSlice S1x1024 ![2, 0] w Cert.ConvIdeal.Gen.slices_S4x1024_S1x1024_2_0 (ix2 0 q) = w (ix2 2 q) := by
  pointwise []

theorem slice3 (q : Fin 1024) : extractStridedSlice S1x1024 ![3, 0] w Cert.ConvIdeal.Gen.slices_S4x1024_S1x1024_3_0 (ix2 0 q) = w (ix2 3 q) := by
  pointwise []

theorem ref_dx : val_main_v85 (F := Ideal) w d g = dX d (truncf (F := Ideal) .bf16 g Cert.ConvIdeal.Gen.bitsLt_bf16_f32)
    (extractStridedSlice S1x1024 ![0, 0] w Cert.ConvIdeal.Gen.slices_S4x1024_S1x1024_0_0) (extractStridedSlice S1x1024 ![1, 0] w Cert.ConvIdeal.Gen.slices_S4x1024_S1x1024_1_0)
    (extractStridedSlice S1x1024 ![2, 0] w Cert.ConvIdeal.Gen.slices_S4x1024_S1x1024_2_0) (extractStridedSlice S1x1024 ![3, 0] w Cert.ConvIdeal.Gen.slices_S4x1024_S1x1024_3_0) := by
  refine funext fun j => ?_
  unfold dX
  by_cases h : (j 1).val < 1024
  · refine Eq.trans ?_ (dif_pos h).symm
    refine Eq.trans (b := val_main_v83 (F := Ideal) w d (ix2 (j 0) (⟨(j 1).val, h⟩ : Fin 1024))) ?_ ?_
    · have hA : val_main_v84 (F := Ideal) w d g = concatenate S8192x2048 1 [⟨S8192x1024, val_main_v83 (F := Ideal) w d⟩, ⟨S8192x1024, g⟩] concatenates_S8192x1024_S8192x1024_S8192x2048_d1 := rfl
      generalize val_main_v83 (F := Ideal) w d = A at hA
      pointwise [val_main_v85, hA]
      exact dif_pos h
    · refine (ref_x w d (j 0) ⟨(j 1).val, h⟩).trans ?_
      exact congrArg₂ _ (congrArg₂ _ (congrArg₂ _ (congrArg (· * _) (slice3 w _).symm) (congrArg (· * _) (slice2 w _).symm))
        (congrArg (· * _) (slice1 w _).symm)) (congrArg (· * _) (slice0 w _).symm)
  · refine Eq.trans ?_ (dif_neg h).symm
    have hA : val_main_v84 (F := Ideal) w d g = concatenate S8192x2048 1 [⟨S8192x1024, val_main_v83 (F := Ideal) w d⟩, ⟨S8192x1024, g⟩] concatenates_S8192x1024_S8192x1024_S8192x2048_d1 := rfl
    generalize val_main_v83 (F := Ideal) w d = A at hA
    pointwise [val_main_v85, hA]
    exact dif_neg h

end Ref

/-- The convolution's gradients: the kernel's tiles hold the reference's. -/
theorem claim : Cert.algebraic_ConvIdeal_ConvRefIdeal := by
  intro m g m' g' _ hagree
  refine ⟨fun c => (dats m 0 c).arrAt 9 cfg0.N, fun c => (dats m 0 c).arrAt 10 cfg0.N, fun c => (dats m 0 c).arrAt 11 cfg0.N,
    fun c => (dats m 0 c).arrAt 12 cfg0.N, fun c => (dats m 0 c).arrAt 13 cfg0.N, fun c => (dats m 0 c).arrAt 14 cfg0.N, ?_, ?_⟩
  · exact Cert.ConvIdeal.Value.run_blocks m g
  · refine (θ_run _ _ _).mono (fun r h c => ⟨?_, ?_, ?_, ?_, ?_, ?_, (h c).2.2.2.2.2.2⟩) (Cert.ConvRefIdeal.Value.run m' g')
    · refine (h c).1.trans ?_
      refine (Cert.ConvRefIdeal.Read.val_main_v85_eq _ _ _).trans ?_
      show _ = (dats m 0 c).arrAt 9 cfg0.N
      rw [final9, V_main_arg3, entry0, entry1, entry2, entry3, entry4, (hagree c).2.1, (hagree c).2.2.2.1, (hagree c).2.2.2.2]
      exact ref_dx _ _ _
    · refine (h c).2.1.trans ?_
      refine (Cert.ConvRefIdeal.Read.val_main_v86_eq _ _).trans ?_
      show _ = (dats m 0 c).arrAt 10 cfg0.N
      rw [final10, V_main_arg0, V_main_arg3, (hagree c).1, (hagree c).2.2.2.1]
      exact ref_w3 _ _
    · refine (h c).2.2.1.trans ?_
      refine (Cert.ConvRefIdeal.Read.val_main_v87_eq _ _).trans ?_
      show _ = (dats m 0 c).arrAt 11 cfg0.N
      rw [final11, V_main_arg0, V_main_arg3, (hagree c).1, (hagree c).2.2.2.1]
      exact ref_w2 _ _
    · refine (h c).2.2.2.1.trans ?_
      refine (Cert.ConvRefIdeal.Read.val_main_v88_eq _ _).trans ?_
      show _ = (dats m 0 c).arrAt 12 cfg0.N
      rw [final12, V_main_arg0, V_main_arg3, (hagree c).1, (hagree c).2.2.2.1]
      exact ref_w1 _ _
    · refine (h c).2.2.2.2.1.trans ?_
      refine (Cert.ConvRefIdeal.Read.val_main_v89_eq _ _).trans ?_
      show _ = (dats m 0 c).arrAt 13 cfg0.N
      rw [final13, V_main_arg0, V_main_arg3, (hagree c).1, (hagree c).2.2.2.1]
      exact ref_w0 _ _
    · refine (h c).2.2.2.2.2.1.trans ?_
      refine (Cert.ConvRefIdeal.Read.val_main_v90_eq _).trans ?_
      show _ = (dats m 0 c).arrAt 14 cfg0.N
      rw [final14, V_main_arg3, (hagree c).2.2.2.1]
      exact ref_b _

end Cert.ConvIdeal.Math

end
-- ==== Proof.FwdUp.lean ====
module

public import proofs.«01_k».proof.Proof.Gen.FfnFwdIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnFwdIdeal.Math

open Cert.FfnFwdIdeal Cert.FfnFwdIdeal.Gen

variable (V : (c : Dev nD) → (b : Ref sig .tc) → Buf (Elt Ideal) ((c : Thread nD τ).loc b))

/-- An entry of the product of a tile of rows and a tile of the first weight. -/
def dot (x : FVec Ideal S1024x1024 .bf16) (w : FVec Ideal S1x1024x2816 .bf16) (r : Fin 1024) (j : Fin 2816) : EReal :=
  ∑ k : Fin 1024, x (ix2 r k) * w (ix3 (0 : Fin 1) k j)

/-- A gated unit: the gate's sigmoid-weighted value times the other projection. -/
def unit (g u : EReal) : EReal := g * Ideal.logistic g * u

/-- What a point of the first call stores in its tile of the activations. -/
def gated (x : FVec Ideal S1024x1024 .bf16) (w : FVec Ideal S1x1024x2816 .bf16) (r : Fin 1024) (j : Fin 1408) : EReal :=
  unit (dot x w r ⟨j.val, by omega⟩) (dot x w r ⟨j.val + 1408, by omega⟩)

theorem gated_of (x : FVec Ideal S1024x1024 .bf16) (w : FVec Ideal S1x1024x2816 .bf16) (r p : Fin 1024) (j : Fin 1408) (a b : Fin 2816) (hr : r.val = p.val)
    (ha : j.val = a.val) (hb : j.val + 1408 = b.val) : unit (dot x w p a) (dot x w p b) = gated x w r j := by
  obtain rfl := Fin.ext hr
  have ea : a = ⟨j.val, by omega⟩ := Fin.ext ha.symm
  have eb : b = ⟨j.val + 1408, by omega⟩ := Fin.ext hb.symm
  exact congrArg₂ unit (congrArg (dot x w r) ea) (congrArg (dot x w r) eb)

set_option maxHeartbeats 4000000 in
theorem act_block (c : Dev nD) (t : Fin cfg0.N) (y : S1024x1408.Idx) :
    (dat0 V c).after 3 t y = gated (iblk0 V c 0 t) (iblk0 V c 1 t) (y 0) (y 1) := by
  rw [after0_3]; unfold outsAt0; frame_out
  generalize (iblk0 V c 0 t : FVec Ideal S1024x1024 .bf16) = X
  generalize (iblk0 V c 1 t : FVec Ideal S1x1024x2816 .bf16) = W
  canon_tiles x h using (View.cover_of_tiledBy _ ![1024, 128] (by sl_kernel_rfl) y)
  all_goals open_payloads
  all_goals pointwise
  all_goals
    refine gated_of X W (y 0) (x 0) (y 1) _ _ h0 ?_ ?_
    all_goals rw [h1]
    all_goals dsimp only
    all_goals omega

/-- A row's entry less the row's mean. -/
def center (z : Fin 1024 → EReal) (n : Fin 1024) : EReal := z n - Ideal.div (∑ k : Fin 1024, z k) (Ideal.ofBits .f32 0x44800000#32)

/-- A row's reciprocal standard deviation. -/
def invDev (z : Fin 1024 → EReal) : EReal :=
  Ideal.rsqrt (Ideal.div (∑ k : Fin 1024, center z k * center z k) (Ideal.ofBits .f32 0x44800000#32) + Ideal.ofBits .f32 0x3727C5AC#32)

/-- A row of the second call's sum before the norm. -/
def row (A : FVec Ideal S1024x2816 .bf16) (w : FVec Ideal S1x2816x1024 .bf16) (x : FVec Ideal S1024x1024 .f32) (s o : FVec Ideal S1x1024 .f32)
    (r n : Fin 1024) : EReal :=
  Ideal.ofBits .f32 0x3FD744FD#32 * (x (ix2 r n) * s (ix2 (0 : Fin 1) n) + o (ix2 (0 : Fin 1) n))
    + Ideal.ofBits .f32 0x3F000000#32 * ∑ k : Fin 2816, A (ix2 r k) * w (ix3 (0 : Fin 1) k n)

theorem pay7 (A : FVec Ideal S1024x2816 .bf16) (w : FVec Ideal S1x2816x1024 .bf16) (x : FVec Ideal S1024x1024 .f32) (s o : FVec Ideal S1x1024 .f32)
    (r n : Fin 1024) : k1_pay7 (F := Ideal) A w x s o (ix2 r n) = center (row A w x s o r) n := by
  pointwise [k1_pay7, center, row]

theorem pay8 (A : FVec Ideal S1024x2816 .bf16) (w : FVec Ideal S1x2816x1024 .bf16) (x : FVec Ideal S1024x1024 .f32) (s o : FVec Ideal S1x1024 .f32)
    (r : Fin 1024) (q : Fin 1) : k1_pay8 (F := Ideal) A w x s o (ix2 r q)
      = Ideal.div (∑ k : Fin 1024, center (row A w x s o r) k * center (row A w x s o r) k) (Ideal.ofBits .f32 0x44800000#32) := by
  pointwise [k1_pay8, pay7]

theorem pay9 (A : FVec Ideal S1024x2816 .bf16) (w : FVec Ideal S1x2816x1024 .bf16) (x : FVec Ideal S1024x1024 .f32) (s o g b : FVec Ideal S1x1024 .f32)
    (r n : Fin 1024) : k1_pay9 (F := Ideal) A w x s o g b (ix2 r n) = center (row A w x s o r) n := by
  unfold k1_pay9
  frame_out
  exact pay7 A w x s o r n

theorem pay10 (A : FVec Ideal S1024x2816 .bf16) (w : FVec Ideal S1x2816x1024 .bf16) (x : FVec Ideal S1024x1024 .f32) (s o g b : FVec Ideal S1x1024 .f32)
    (r : Fin 1024) (q : Fin 1) : k1_pay10 (F := Ideal) A w x s o g b (ix2 r q)
      = Ideal.div (∑ k : Fin 1024, center (row A w x s o r) k * center (row A w x s o r) k) (Ideal.ofBits .f32 0x44800000#32) := by
  unfold k1_pay10
  frame_out
  exact pay8 A w x s o r q

theorem norm_block (c : Dev nD) (t : Fin cfg1.N) (r n : Fin 1024) :
    (dat1 V c).after 7 t (ix2 r n) = center (row (iblk1 V c 0 t) (iblk1 V c 1 t) (iblk1 V c 2 t) (iblk1 V c 3 t) (iblk1 V c 4 t) r) n
      * invDev (row (iblk1 V c 0 t) (iblk1 V c 1 t) (iblk1 V c 2 t) (iblk1 V c 3 t) (iblk1 V c 4 t) r) := by
  rw [after1_7]; frame_out
  pointwise [k1_pay2, k1_pay1, pay9, pay10, invDev]

theorem out_block (c : Dev nD) (t : Fin cfg1.N) (r n : Fin 1024) :
    (dat1 V c).after 8 t (ix2 r n) = center (row (iblk1 V c 0 t) (iblk1 V c 1 t) (iblk1 V c 2 t) (iblk1 V c 3 t) (iblk1 V c 4 t) r) n
      * invDev (row (iblk1 V c 0 t) (iblk1 V c 1 t) (iblk1 V c 2 t) (iblk1 V c 3 t) (iblk1 V c 4 t) r)
      * (iblk1 V c 5 t : FVec Ideal S1x1024 .f32) (ix2 (0 : Fin 1) n) + (iblk1 V c 6 t : FVec Ideal S1x1024 .f32) (ix2 (0 : Fin 1) n) := by
  rw [after1_8]; frame_out
  pointwise [k1_pay2, k1_pay1, k1_pay4, k1_pay5, k1_pay6, pay9, pay10, invDev]

theorem dev_block (c : Dev nD) (t : Fin cfg1.N) (r : Fin 1024) (n : Fin 128) :
    (dat1 V c).after 9 t (ix2 r n) = invDev (row (iblk1 V c 0 t) (iblk1 V c 1 t) (iblk1 V c 2 t) (iblk1 V c 3 t) (iblk1 V c 4 t) r) := by
  rw [after1_9]; frame_out
  pointwise [k1_pay1, k1_pay3, pay9, pay10, invDev]

end Cert.FfnFwdIdeal.Math

end
-- ==== Proof.FwdClaim.lean ====
module

public import proofs.«01_k».proof.Proof.Gen.FfnFwdIdeal.Frame
public import proofs.«01_k».proof.Proof.Gen.FfnFwdRefIdeal.Read
public import proofs.«01_k».proof.Defs
public import proofs.«01_k».proof.Proof.FwdUp
public import proofs.«01_k».proof.Proof.Gen.FfnFwdRefIdeal.Run
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnFwdIdeal.Math

open Cert.FfnFwdIdeal Cert.FfnFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

set_option backward.isDefEq.respectTransparency.types false in
/-- Every execution ends with the last region's result array in the result and the arguments as launched. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v13_0) = (dat1 (V3 m ρ) c).arrAt 7 cfg1.N
      ∧ r.2.mem ((c.tc : Thread nD τ).loc main_v13_1) = (dat1 (V3 m ρ) c).arrAt 8 cfg1.N
      ∧ r.2.mem ((c.tc : Thread nD τ).loc main_v13_2) = (dat1 (V3 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v13_0 (by decide))).trans (W4_arr m ρ c 7),
       (h c _ (mem_uc main_v13_1 (by decide))).trans (W4_arr m ρ c 8),
       (h c _ (mem_uc main_v13_2 (by decide))).trans (W4_arr m ρ c 9),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

section Blocks

variable (V : (c : Dev nD) → (b : Ref sig .tc) → Buf (Elt Ideal) ((c : Thread nD τ).loc b))

theorem idx0 : ∀ t : Fin cfg0.N, win0_0.index t = ![t.val % 8, 0] ∧ win0_1.index t = ![0, 0, t.val / 8] ∧ win0_3.index t = ![t.val % 8, t.val / 8] :=
  (by decide +kernel : ∀ t : Fin grid0.N, _)

theorem idx1 : ∀ t : Fin cfg1.N, win1_0.index t = ![t.val, 0] ∧ win1_1.index t = ![0, 0, 0] ∧ win1_2.index t = ![t.val, 0]
    ∧ win1_3.index t = ![0, 0] ∧ win1_4.index t = ![0, 0] ∧ win1_5.index t = ![0, 0] ∧ win1_6.index t = ![0, 0]
    ∧ win1_7.index t = ![t.val, 0] ∧ win1_8.index t = ![t.val, 0] ∧ win1_9.index t = ![t.val, 0] :=
  (by decide +kernel : ∀ t : Fin grid1.N, _)

/-- Entry (`r`, `q`) of the product with layer 0's gathered first weight. -/
def dotAt (X : FVec Ideal S8192x1024 .bf16) (W : FVec Ideal S4x1024x5632 .bf16) (r : Fin 8192) (q : Fin 5632) : EReal :=
  ∑ k : Fin 1024, X (ix2 r k) * W (ix3 (0 : Fin 4) k q)

/-- The gathered column of a unit's gate. -/
def gateCol (q : Fin 2816) : Fin 5632 := ⟨q.val / 1408 * 2816 + q.val % 1408, by omega⟩

/-- The gathered column of a unit's other projection. -/
def upCol (q : Fin 2816) : Fin 5632 := ⟨q.val / 1408 * 2816 + q.val % 1408 + 1408, by omega⟩

/-- The first call's second result: the gated units, in their own order. -/
def actAt (X : FVec Ideal S8192x1024 .bf16) (W : FVec Ideal S4x1024x5632 .bf16) (r : Fin 8192) (q : Fin 2816) : EReal :=
  unit (dotAt X W r (gateCol q)) (dotAt X W r (upCol q))

theorem dot_block (c : Dev nD) (t : Fin cfg0.N) (r : Fin 1024) (j : Fin 2816) (p : Fin 8192) (q : Fin 5632) (hr : p.val = t.val % 8 * 1024 + r.val)
    (hq : q.val = t.val / 8 * 2816 + j.val) : dot (iblk0 V c 0 t) (iblk0 V c 1 t) r j = dotAt (V c main_v0) (V c main_v6) p q := by
  unfold dot dotAt
  blk_simp [iblk0]
  generalize V c main_v0 = A
  generalize V c main_v6 = B
  blk_point [idx0 t]

theorem final0 (c : Dev nD) : (dat0 V c).arrAt 3 cfg0.N = fun i => actAt (V c main_v0) (V c main_v6) (i 0) (i 1) := by
  refine (dat0 V c).arrAt_eq_of_covers 3 _ (by decide +kernel) fun t hf y => ?_
  blk_simp
  rw [act_block]
  have e0 : ((win0_3.blk t).view.emb y 0).val = t.val % 8 * 1024 + (y 0).val := by blk_point [idx0 t]
  have e1 : ((win0_3.blk t).view.emb y 1).val = t.val / 8 * 1408 + (y 1).val := by blk_point [idx0 t]
  generalize ((win0_3.blk t).view.emb y 0 : Fin 8192) = p at e0
  generalize ((win0_3.blk t).view.emb y 1 : Fin 2816) = q at e1
  have hj : (y 1).val < 1408 := (y 1).isLt
  have ht : t.val < 16 := t.isLt
  unfold gated actAt
  rw [dot_block V c t (y 0) ⟨(y 1).val, by omega⟩ p (gateCol q) e0 (by show q.val / 1408 * 2816 + q.val % 1408 = _ + (y 1).val; omega),
    dot_block V c t (y 0) ⟨(y 1).val + 1408, by omega⟩ p (upCol q) e0
      (by show q.val / 1408 * 2816 + q.val % 1408 + 1408 = _ + ((y 1).val + 1408); omega)]

/-- A row of the half step before the norm. -/
def rowAt (A : FVec Ideal S8192x2816 .bf16) (w : FVec Ideal S4x2816x1024 .bf16) (x : FVec Ideal S8192x1024 .f32) (s o : FVec Ideal S1x1024 .f32)
    (p : Fin 8192) (n : Fin 1024) : EReal :=
  Ideal.ofBits .f32 0x3FD744FD#32 * (x (ix2 p n) * s (ix2 (0 : Fin 1) n) + o (ix2 (0 : Fin 1) n))
    + Ideal.ofBits .f32 0x3F000000#32 * ∑ k : Fin 2816, A (ix2 p k) * w (ix3 (0 : Fin 4) k n)

theorem row_block (c : Dev nD) (t : Fin cfg1.N) (r : Fin 1024) (p : Fin 8192) (hr : p.val = t.val * 1024 + r.val) :
    row (iblk1 V c 0 t) (iblk1 V c 1 t) (iblk1 V c 2 t) (iblk1 V c 3 t) (iblk1 V c 4 t) r
      = rowAt (V c main_v7_1) (V c main_v10) (V c main_arg0) (V c main_v8) (V c main_v9) p := by
  funext n
  unfold row rowAt
  blk_simp [iblk1]
  generalize V c main_v7_1 = A
  generalize V c main_v10 = B
  generalize V c main_arg0 = C
  generalize V c main_v8 = D
  generalize V c main_v9 = E
  blk_point [idx1 t]

theorem final7 (c : Dev nD) : (dat1 V c).arrAt 7 cfg1.N = fun i =>
    center (rowAt (V c main_v7_1) (V c main_v10) (V c main_arg0) (V c main_v8) (V c main_v9) (i 0)) (i 1)
      * invDev (rowAt (V c main_v7_1) (V c main_v10) (V c main_arg0) (V c main_v8) (V c main_v9) (i 0)) := by
  refine (dat1 V c).arrAt_eq_of_covers 7 _ (by decide +kernel) fun t hf y => ?_
  blk_simp
  have e0 : ((win1_7.blk t).view.emb y 0).val = t.val * 1024 + (y 0).val := by blk_point [idx1 t]
  have e1 : ((win1_7.blk t).view.emb y 1).val = (y 1).val := by blk_point [idx1 t]
  obtain ⟨r, n, rfl⟩ : ∃ r n, y = ix2 r n := ⟨y 0, y 1, eq_ix2 y⟩
  rw [norm_block, row_block V c t r _ e0]
  exact congrArg (fun k => center _ k * _) (Fin.ext e1).symm

theorem final8 (c : Dev nD) : (dat1 V c).arrAt 8 cfg1.N = fun i =>
    center (rowAt (V c main_v7_1) (V c main_v10) (V c main_arg0) (V c main_v8) (V c main_v9) (i 0)) (i 1)
      * invDev (rowAt (V c main_v7_1) (V c main_v10) (V c main_arg0) (V c main_v8) (V c main_v9) (i 0))
      * (V c main_v11 : FVec Ideal S1x1024 .f32) (ix2 (0 : Fin 1) (i 1)) + (V c main_v12 : FVec Ideal S1x1024 .f32) (ix2 (0 : Fin 1) (i 1)) := by
  refine (dat1 V c).arrAt_eq_of_covers 8 _ (by decide +kernel) fun t hf y => ?_
  blk_simp
  have e0 : ((win1_8.blk t).view.emb y 0).val = t.val * 1024 + (y 0).val := by blk_point [idx1 t]
  have e1 : ((win1_8.blk t).view.emb y 1).val = (y 1).val := by blk_point [idx1 t]
  obtain ⟨r, n, rfl⟩ : ∃ r n, y = ix2 r n := ⟨y 0, y 1, eq_ix2 y⟩
  have g5 : (iblk1 V c 5 t : FVec Ideal S1x1024 .f32) (ix2 (0 : Fin 1) n) = (V c main_v11 : FVec Ideal S1x1024 .f32) (ix2 (0 : Fin 1) n) := by
    blk_simp [iblk1]
    generalize V c main_v11 = A
    blk_point [idx1 t]
  have g6 : (iblk1 V c 6 t : FVec Ideal S1x1024 .f32) (ix2 (0 : Fin 1) n) = (V c main_v12 : FVec Ideal S1x1024 .f32) (ix2 (0 : Fin 1) n) := by
    blk_simp [iblk1]
    generalize V c main_v12 = A
    blk_point [idx1 t]
  rw [out_block, row_block V c t r _ e0, g5, g6]
  exact congrArg (fun k => center _ k * _ * (V c main_v11 : FVec Ideal S1x1024 .f32) (ix2 (0 : Fin 1) k)
    + (V c main_v12 : FVec Ideal S1x1024 .f32) (ix2 (0 : Fin 1) k)) (Fin.ext e1).symm

theorem final9 (c : Dev nD) : (dat1 V c).arrAt 9 cfg1.N = fun i =>
    invDev (rowAt (V c main_v7_1) (V c main_v10) (V c main_arg0) (V c main_v8) (V c main_v9) (i 0)) := by
  refine (dat1 V c).arrAt_eq_of_covers 9 _ (by decide +kernel) fun t hf y => ?_
  blk_simp
  have e0 : ((win1_9.blk t).view.emb y 0).val = t.val * 1024 + (y 0).val := by blk_point [idx1 t]
  obtain ⟨r, n, rfl⟩ : ∃ r n, y = ix2 r n := ⟨y 0, y 1, eq_ix2 y⟩
  rw [dev_block, row_block V c t r _ e0]

end Blocks

section Ref

open Cert.FfnFwdRefIdeal.Read

variable (x : FVec Ideal S8192x1024 .f32) (w : FVec Ideal S4x1024x5632 .f32) (v : FVec Ideal S4x2816x1024 .f32) (g b : FVec Ideal S1024 .f32)

/-- A row of the half step, in the arguments. -/
def rowRef (p : Fin 8192) (n : Fin 1024) : EReal :=
  Ideal.ofBits .f32 0x3FD744FD#32 * x (ix2 p n) + Ideal.ofBits .f32 0x3F000000#32 * ∑ q : Fin 2816,
    unit (∑ k : Fin 1024, x (ix2 p k) * w (ix3 (0 : Fin 4) k ⟨q.val, by omega⟩)) (∑ k : Fin 1024, x (ix2 p k) * w (ix3 (0 : Fin 4) k ⟨2816 + q.val, by omega⟩))
      * v (ix3 (0 : Fin 4) q n)

theorem one_eq : Ideal.ofBits .f32 0x3F800000#32 = 1 := by
  simp [Ideal.ofBits, Ideal.ieee]
  norm_cast
  norm_num

theorem ref_sig (i : S8192x2816.Idx) : val_main_call0_v5 (F := Ideal) x w i = Ideal.logistic (val_main_v5 (F := Ideal) x w i) := by
  show Ideal.div (Ideal.ofBits .f32 0x3F800000#32) (Ideal.ofBits .f32 0x3F800000#32 + Ideal.exp (-(val_main_v5 (F := Ideal) x w i))) = _
  rw [one_eq]
  rfl

theorem ref_act (p : Fin 8192) (q : Fin 2816) : val_main_v10 (F := Ideal) x w (ix2 p q)
    = unit (∑ k : Fin 1024, x (ix2 p k) * w (ix3 (0 : Fin 4) k ⟨q.val, by omega⟩)) (∑ k : Fin 1024, x (ix2 p k) * w (ix3 (0 : Fin 4) k ⟨2816 + q.val, by omega⟩)) := by
  show val_main_v5 (F := Ideal) x w (ix2 p q) * val_main_call0_v5 (F := Ideal) x w (ix2 p q) * val_main_v6 (F := Ideal) x w (ix2 p q) = _
  rw [ref_sig]
  have h5 : val_main_v5 (F := Ideal) x w (ix2 p q) = ∑ k : Fin 1024, x (ix2 p k) * w (ix3 (0 : Fin 4) k ⟨q.val, by omega⟩) := by
    pointwise [val_main_v5, val_main_v4, val_main_v1, val_main_v0]
  have h6 : val_main_v6 (F := Ideal) x w (ix2 p q) = ∑ k : Fin 1024, x (ix2 p k) * w (ix3 (0 : Fin 4) k ⟨2816 + q.val, by omega⟩) := by
    pointwise [val_main_v6, val_main_v4, val_main_v1, val_main_v0]
  rw [h5, h6]
  rfl

theorem ref_row (p : Fin 8192) (n : Fin 1024) : val_main_v14 (F := Ideal) x w v (ix2 p n) = rowRef x w v p n := by
  pointwise [val_main_v14, val_main_v13, val_main_v12, val_main_v11, val_main_v8, val_main_v7, val_main_v3, val_main_v2, val_main_cst, val_main_cst_0, ref_act, rowRef]

theorem zero_eq : Ideal.ofBits .f32 0x00000000#32 = 0 := by simp [Ideal.ofBits, Ideal.ieee]

theorem constant_zero (s : Shape) (j : s.Idx) : constant (F := Ideal) s .f32 0x00000000#32 j = 0 := zero_eq

theorem ref_center (p : Fin 8192) (n : Fin 1024) : val_main_v20 (F := Ideal) x w v (ix2 p n) = center (rowRef x w v p) n := by
  pointwise [val_main_v20, val_main_v19, val_main_v18, val_main_v17, val_main_v16, val_main_v15, val_main_cst_2, ref_row, center]
  simp only [val_main_cst_1, constant_zero, zero_add]

theorem ref_dev (p : Fin 8192) (q : Fin 1) : val_main_v28 (F := Ideal) x w v (ix2 p q) = invDev (rowRef x w v p) := by
  pointwise [val_main_v28, val_main_v27, val_main_v26, val_main_v25, val_main_v24, val_main_v23, val_main_v22, val_main_v21, val_main_cst_4, val_main_cst_5, ref_center, invDev]
  simp only [val_main_cst_3, constant_zero, zero_add]

theorem ref_center' (p : Fin 8192) (n : Fin 1024) : val_main_v36 (F := Ideal) x w v (ix2 p n) = center (rowRef x w v p) n := by
  pointwise [val_main_v36, val_main_v35, val_main_v34, val_main_v33, val_main_v32, val_main_v31, val_main_cst_7, ref_row, center]
  simp only [val_main_cst_6, constant_zero, zero_add]

theorem ref_dev' (p : Fin 8192) (q : Fin 1) : val_main_v44 (F := Ideal) x w v (ix2 p q) = invDev (rowRef x w v p) := by
  pointwise [val_main_v44, val_main_v43, val_main_v42, val_main_v41, val_main_v40, val_main_v39, val_main_v38, val_main_v37, val_main_cst_9, val_main_cst_10, ref_center', invDev]
  simp only [val_main_cst_8, constant_zero, zero_add]

theorem ref_norm (p : Fin 8192) (n : Fin 1024) : val_main_v30 (F := Ideal) x w v (ix2 p n) = center (rowRef x w v p) n * invDev (rowRef x w v p) := by
  pointwise [val_main_v30, val_main_v29, ref_center, ref_dev]

theorem ref_out (p : Fin 8192) (n : Fin 1024) : val_main_v53 (F := Ideal) x w v g b (ix2 p n)
    = center (rowRef x w v p) n * invDev (rowRef x w v p) * g (ix1 n) + b (ix1 n) := by
  pointwise [val_main_v53, val_main_v52, val_main_v51, val_main_v50, val_main_v49, val_main_v48, val_main_v47, val_main_v46, val_main_v45, ref_center', ref_dev']

theorem ref_wide (p : Fin 8192) (n : Fin 128) : val_main_v54 (F := Ideal) x w v (ix2 p n) = invDev (rowRef x w v p) := by
  pointwise [val_main_v54, ref_dev]

end Ref

section Entries

variable (m : (ℓ : Loc nD τ sig) → Buf (Elt Ideal) ℓ) (ρ : Dev nD → PrngReg)

/-- The host's gather of the first weight's columns. -/
def gatherW (D : FVec Ideal S4x1024x5632 .bf16) : FVec Ideal S4x1024x5632 .bf16 :=
  concatenate S4x1024x5632 2
    [⟨S4x1024x1408, extractStridedSlice S4x1024x1408 ![0, 0, 0] D slices_S4x1024x5632_S4x1024x1408_0_0_0⟩,
     ⟨S4x1024x1408, extractStridedSlice S4x1024x1408 ![0, 0, 2816] D slices_S4x1024x5632_S4x1024x1408_0_0_2816⟩,
     ⟨S4x1024x1408, extractStridedSlice S4x1024x1408 ![0, 0, 1408] D slices_S4x1024x5632_S4x1024x1408_0_0_1408⟩,
     ⟨S4x1024x1408, extractStridedSlice S4x1024x1408 ![0, 0, 4224] D slices_S4x1024x5632_S4x1024x1408_0_0_4224⟩]
    concatenates_S4x1024x1408_S4x1024x1408_S4x1024x1408_S4x1024x1408_S4x1024x5632_d2

theorem gatherW_gate (D : FVec Ideal S4x1024x5632 .bf16) (l : Fin 4) (k : Fin 1024) (q : Fin 2816) :
    gatherW D (ix3 l k (gateCol q)) = D (ix3 l k ⟨q.val, by omega⟩) := by
  pointwise [gatherW, gateCol]
  split_ifs <;> first | omega | (refine congrArg (fun j => D (ix3 l k j)) (Fin.ext ?_); dsimp only; omega)

theorem gatherW_up (D : FVec Ideal S4x1024x5632 .bf16) (l : Fin 4) (k : Fin 1024) (q : Fin 2816) :
    gatherW D (ix3 l k (upCol q)) = D (ix3 l k ⟨2816 + q.val, by omega⟩) := by
  pointwise [gatherW, upCol]
  split_ifs <;> first | omega | (refine congrArg (fun j => D (ix3 l k j)) (Fin.ext ?_); dsimp only; omega)

theorem entry_x (c : Dev nD) : (V1 m ρ c main_v0 : FVec Ideal S8192x1024 .bf16) = (m ((c : Thread nD τ).loc main_arg0) : FVec Ideal S8192x1024 .f32) := by
  show (W1 m ρ c (Proc.devRef .tc main_v0) : FVec Ideal S8192x1024 .bf16) = _
  unfold W1 W0
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V1 m ρ c main_v6 : FVec Ideal S4x1024x5632 .bf16) = gatherW (m ((c : Thread nD τ).loc main_arg1) : FVec Ideal S4x1024x5632 .f32) := by
  show (W1 m ρ c (Proc.devRef .tc main_v6) : FVec Ideal S4x1024x5632 .bf16) = _
  unfold W1 W0
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_v (c : Dev nD)  : (V3 m ρ c main_v10 : FVec Ideal S4x2816x1024 .bf16)  = (m ((c : Thread nD τ).loc main_arg2) : FVec Ideal S4x2816x1024 .f32) := by
  have h : W2 m ρ c (Proc.devRef .tc main_arg2) = m ((c : Thread nD τ).loc main_arg2) := W2_args m ρ c main_arg2 (by decide)
  rw [← h]
  show (W3 m ρ c (Proc.devRef .tc main_v10) : FVec Ideal S4x2816x1024 .bf16)  = _
  unfold W3
  generalize W2 m ρ c = W
  simp only [hostOps1, List.flatten_cons, List.flatten_nil, List.cons_append, List.nil_append,
    StableHlo.TRef.binary, StableHlo.TRef.nullary, StableHlo.TRef.unary, StableHlo.TRef.toBuf, StableHlo.TRef.ofBuf, cast_eq]
  after_results_simp
  first | rfl | pointwise

theorem entry_s (c : Dev nD) (n : Fin 1024) : (V3 m ρ c main_v8 : FVec Ideal S1x1024 .f32) (ix2 (0 : Fin 1) n) = Ideal.ofBits .f32 0x3F800000#32 := by
  show (W3 m ρ c (Proc.devRef .tc main_v8) : FVec Ideal S1x1024 .f32) (ix2 (0 : Fin 1) n) = _
  unfold W3
  generalize W2 m ρ c = W
  simp only [hostOps1, List.flatten_cons, List.flatten_nil, List.cons_append, List.nil_append,
    StableHlo.TRef.binary, StableHlo.TRef.nullary, StableHlo.TRef.unary, StableHlo.TRef.toBuf, StableHlo.TRef.ofBuf, cast_eq]
  after_results_simp
  first | rfl | pointwise

theorem entry_o (c : Dev nD) (n : Fin 1024) : (V3 m ρ c main_v9 : FVec Ideal S1x1024 .f32) (ix2 (0 : Fin 1) n) = Ideal.ofBits .f32 0x00000000#32 := by
  show (W3 m ρ c (Proc.devRef .tc main_v9) : FVec Ideal S1x1024 .f32) (ix2 (0 : Fin 1) n) = _
  unfold W3
  generalize W2 m ρ c = W
  simp only [hostOps1, List.flatten_cons, List.flatten_nil, List.cons_append, List.nil_append,
    StableHlo.TRef.binary, StableHlo.TRef.nullary, StableHlo.TRef.unary, StableHlo.TRef.toBuf, StableHlo.TRef.ofBuf, cast_eq]
  after_results_simp
  first | rfl | pointwise

theorem entry_g (c : Dev nD) (n : Fin 1024) : (V3 m ρ c main_v11 : FVec Ideal S1x1024 .f32) (ix2 (0 : Fin 1) n) = (m ((c : Thread nD τ).loc main_arg3) : FVec Ideal S1024 .f32) (ix1 n) := by
  have h : W2 m ρ c (Proc.devRef .tc main_arg3) = m ((c : Thread nD τ).loc main_arg3) := W2_args m ρ c main_arg3 (by decide)
  rw [← h]
  show (W3 m ρ c (Proc.devRef .tc main_v11) : FVec Ideal S1x1024 .f32) (ix2 (0 : Fin 1) n) = _
  unfold W3
  generalize W2 m ρ c = W
  simp only [hostOps1, List.flatten_cons, List.flatten_nil, List.cons_append, List.nil_append,
    StableHlo.TRef.binary, StableHlo.TRef.nullary, StableHlo.TRef.unary, StableHlo.TRef.toBuf, StableHlo.TRef.ofBuf, cast_eq]
  after_results_simp
  first | rfl | pointwise

theorem entry_b (c : Dev nD) (n : Fin 1024) : (V3 m ρ c main_v12 : FVec Ideal S1x1024 .f32) (ix2 (0 : Fin 1) n) = (m ((c : Thread nD τ).loc main_arg4) : FVec Ideal S1024 .f32) (ix1 n) := by
  have h : W2 m ρ c (Proc.devRef .tc main_arg4) = m ((c : Thread nD τ).loc main_arg4) := W2_args m ρ c main_arg4 (by decide)
  rw [← h]
  show (W3 m ρ c (Proc.devRef .tc main_v12) : FVec Ideal S1x1024 .f32) (ix2 (0 : Fin 1) n) = _
  unfold W3
  generalize W2 m ρ c = W
  simp only [hostOps1, List.flatten_cons, List.flatten_nil, List.cons_append, List.nil_append,
    StableHlo.TRef.binary, StableHlo.TRef.nullary, StableHlo.TRef.unary, StableHlo.TRef.toBuf, StableHlo.TRef.ofBuf, cast_eq]
  after_results_simp
  first | rfl | pointwise

theorem entry_r (c : Dev nD) : (V3 m ρ c main_arg0 : FVec Ideal S8192x1024 .f32) = (m ((c : Thread nD τ).loc main_arg0) : FVec Ideal S8192x1024 .f32) :=
  W3_args m ρ c main_arg0 (by decide)

theorem entry_a (c : Dev nD) : (V3 m ρ c main_v7_1 : FVec Ideal S8192x2816 .bf16) = (dat0 (V1 m ρ) c).arrAt 3 cfg0.N :=
  (W3_of m ρ c main_v7_1 (by decide)).trans (W2_arr m ρ c 3)

abbrev argX (c : Dev nD) : FVec Ideal S8192x1024 .f32 := m ((c : Thread nD τ).loc main_arg0)
abbrev argW (c : Dev nD) : FVec Ideal S4x1024x5632 .f32 := m ((c : Thread nD τ).loc main_arg1)
abbrev argV (c : Dev nD) : FVec Ideal S4x2816x1024 .f32 := m ((c : Thread nD τ).loc main_arg2)

theorem act_eq (c : Dev nD) (p : Fin 8192) (q : Fin 2816) : (V3 m ρ c main_v7_1 : FVec Ideal S8192x2816 .bf16) (ix2 p q)
    = unit (∑ k : Fin 1024, argX m c (ix2 p k) * argW m c (ix3 (0 : Fin 4) k ⟨q.val, by omega⟩))
        (∑ k : Fin 1024, argX m c (ix2 p k) * argW m c (ix3 (0 : Fin 4) k ⟨2816 + q.val, by omega⟩)) := by
  rw [entry_a, final0]
  show actAt _ _ p q = _
  rw [entry_x, entry_w]
  unfold actAt dotAt
  exact congrArg₂ unit (Fin.sum_fin_congr fun k => congrArg (argX m c (ix2 p k) * ·) (gatherW_gate _ _ _ _))
    (Fin.sum_fin_congr fun k => congrArg (argX m c (ix2 p k) * ·) (gatherW_up _ _ _ _))

theorem row_eq (c : Dev nD) (p : Fin 8192) : rowAt (V3 m ρ c main_v7_1) (V3 m ρ c main_v10) (V3 m ρ c main_arg0) (V3 m ρ c main_v8) (V3 m ρ c main_v9) p
    = rowRef (argX m c) (argW m c) (argV m c) p := by
  funext n
  unfold rowAt rowRef
  rw [entry_s, entry_o, entry_r, one_eq, zero_eq, mul_one, add_zero]
  refine congrArg (fun z => _ + _ * z) (Fin.sum_fin_congr fun q => ?_)
  rw [act_eq, entry_v]

/-- The first feed-forward half step: the two calls compute the reference's normalised rows, output and reciprocal deviations. -/
theorem claim : Cert.algebraic_FfnFwdIdeal_FfnFwdRefIdeal := by
  intro m g m' g' hpre hagree
  refine ⟨fun c => (dat1 (V3 m g) c).arrAt 7 cfg1.N, fun c => (dat1 (V3 m g) c).arrAt 8 cfg1.N, fun c => (dat1 (V3 m g) c).arrAt 9 cfg1.N, run m g, ?_⟩
  refine (θ_run _ _ _).mono (fun r h c => ⟨?_, ?_, ?_, (h c).2.2.2⟩) (Cert.FfnFwdRefIdeal.Value.run m' g')
  · refine (h c).1.trans ?_
    refine (Cert.FfnFwdRefIdeal.Read.val_main_v30_eq _ _).trans ?_
    rw [(hagree c).1, (hagree c).2.1, (hagree c).2.2.1]
    refine Eq.trans ?_ (final7 (V3 m g) c).symm
    funext i
    obtain ⟨p, n, rfl⟩ : ∃ p n, i = ix2 p n := ⟨i 0, i 1, eq_ix2 i⟩
    exact (ref_norm _ _ _ p n).trans (congrArg (fun z => center z n * invDev z) (row_eq m g c p).symm)
  · refine (h c).2.1.trans ?_
    refine (Cert.FfnFwdRefIdeal.Read.val_main_v53_eq _ _).trans ?_
    rw [(hagree c).1, (hagree c).2.1, (hagree c).2.2.1, (hagree c).2.2.2.1, (hagree c).2.2.2.2]
    refine Eq.trans ?_ (final8 (V3 m g) c).symm
    funext i
    obtain ⟨p, n, rfl⟩ : ∃ p n, i = ix2 p n := ⟨i 0, i 1, eq_ix2 i⟩
    refine (ref_out _ _ _ _ _ p n).trans ((congrArg (fun z => center z n * invDev z * _ + _) (row_eq m g c p).symm).trans ?_)
    exact congrArg₂ (fun u z => center _ n * invDev _ * u + z) (entry_g m g c n).symm (entry_b m g c n).symm
  · refine (h c).2.2.1.trans ?_
    refine (Cert.FfnFwdRefIdeal.Read.val_main_v54_eq _ _).trans ?_
    rw [(hagree c).1, (hagree c).2.1, (hagree c).2.2.1]
    refine Eq.trans ?_ (final9 (V3 m g) c).symm
    funext i
    obtain ⟨p, n, rfl⟩ : ∃ p n, i = ix2 p n := ⟨i 0, i 1, eq_ix2 i⟩
    exact (ref_wide _ _ _ p n).trans (congrArg invDev (row_eq m g c p).symm)

end Entries

end Cert.FfnFwdIdeal.Math

end
-- ==== Proof.MixDwClaim.lean ====
module

public import proofs.«01_k».proof.Defs
public import proofs.«01_k».proof.Proof.Gen.MixDwIdeal.Value
public import proofs.«01_k».proof.Proof.Gen.MixDwRefIdeal.Read
public import proofs.«01_k».proof.Proof.Gen.MixDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixDwIdeal.Math

open Cert.MixDwIdeal Cert.MixDwIdeal.Gen

variable (m : (ℓ : Loc nD τ sig) → Buf (Elt Ideal) ℓ)

/-- The rows are contracted in four quarters, the fastest axis of the grid. -/
theorem idx : ∀ t : Fin cfg0.N, win0_0.index t = ![t.val % 4, 0] ∧ win0_1.index t = ![t.val % 4, 0] ∧ win0_2.index t = ![0, 0, 0] :=
  (by decide +kernel : ∀ t : Fin grid0.N, _)

/-- What a tile's fourth point stores: the four quarters' products added up. -/
theorem tile_apply (x0 x1 x2 x3 : FVec Ideal S2048x1024 .bf16) (y0 y1 y2 y3 : FVec Ideal S2048x1024 .bf16) (j : S1x1024x1024.Idx) :
    k0_pay4 (F := Ideal) (k0_pay3 (F := Ideal) x3 y3 (k0_pay3 (F := Ideal) x2 y2 (k0_pay3 (F := Ideal) x1 y1 (k0_pay2 (F := Ideal) x0 y0)))) j
      = ∑ k : Fin 2048, x0 (ix2 k (j 1)) * y0 (ix2 k (j 2))
        + ∑ k : Fin 2048, x1 (ix2 k (j 1)) * y1 (ix2 k (j 2))
        + ∑ k : Fin 2048, x2 (ix2 k (j 1)) * y2 (ix2 k (j 2))
        + ∑ k : Fin 2048, x3 (ix2 k (j 1)) * y3 (ix2 k (j 2)) := by
  pointwise [k0_pay4, k0_pay3, k0_pay2, k0_pay1]

/-- The grid point before `t`. -/
abbrev prev (t : Fin cfg0.N) : Fin cfg0.N := ⟨t.val - 1, Nat.lt_of_le_of_lt (Nat.sub_le _ _) t.isLt⟩

/-- The sum over all rows, split into its quarters. -/
theorem sum_quarters (f : Fin 8192 → EReal) :
    ∑ k : Fin 8192, f k = ∑ k : Fin 2048, f ⟨k.val, by omega⟩ + ∑ k : Fin 2048, f ⟨2048 + k.val, by omega⟩
      + ∑ k : Fin 2048, f ⟨4096 + k.val, by omega⟩ + ∑ k : Fin 2048, f ⟨6144 + k.val, by omega⟩ := by
  refine (Fin.sum_univ_add (a := 6144) (b := 2048) f).trans (congrArg₂ (· + ·) ?_ rfl)
  refine (Fin.sum_univ_add (a := 4096) (b := 2048) _).trans (congrArg₂ (· + ·) ?_ rfl)
  exact Fin.sum_univ_add (a := 2048) (b := 2048) _

/-- The rows of the two operands multiplied and summed over the 8192 rows. -/
def product (A : FVec Ideal S8192x1024 .bf16) (B : FVec Ideal S8192x1024 .bf16) : FVec Ideal S1x1024x1024 .bf16 :=
  fun i => ∑ k : Fin 8192, A (ix2 k (i 1)) * B (ix2 k (i 2))

theorem product_quarters (A : FVec Ideal S8192x1024 .bf16) (B : FVec Ideal S8192x1024 .bf16) (i : S1x1024x1024.Idx) :
    product A B i = ∑ k : Fin 2048, A (ix2 (⟨k.val, by omega⟩ : Fin 8192) (i 1)) * B (ix2 (⟨k.val, by omega⟩ : Fin 8192) (i 2))
      + ∑ k : Fin 2048, A (ix2 (⟨2048 + k.val, by omega⟩ : Fin 8192) (i 1)) * B (ix2 (⟨2048 + k.val, by omega⟩ : Fin 8192) (i 2))
      + ∑ k : Fin 2048, A (ix2 (⟨4096 + k.val, by omega⟩ : Fin 8192) (i 1)) * B (ix2 (⟨4096 + k.val, by omega⟩ : Fin 8192) (i 2))
      + ∑ k : Fin 2048, A (ix2 (⟨6144 + k.val, by omega⟩ : Fin 8192) (i 1)) * B (ix2 (⟨6144 + k.val, by omega⟩ : Fin 8192) (i 2)) :=
  sum_quarters _

/-- The result array after the run is the product of the two operands' arrays. -/
theorem final_product (c : Dev nD) : (dats m 0 c).arrAt 2 cfg0.N = product (V m c main_v0) (V m c main_v1) := by
  refine (dats m 0 c).arrAt_eq_of_covers 2 _ (by decide +kernel) fun t hf y => ?_
  have h3 : t.val % 4 = 3 := (flush0_2 t).mp hf
  blk_simp
  have hA := outsAt0_A m c (prev (prev (prev t))) (by show (t.val - 1 - 1 - 1) % 4 = 0; omega) (by show ¬1 ≤ (t.val - 1 - 1 - 1); have hN : t.val < 4 := lt_of_lt_of_eq t.isLt (show cfg0.N = 4 from N_0); omega)
    (by show ¬(t.val - 1 - 1 - 1) % 4 = 3; omega)
  have hB1 := outsAt0_B m c (prev (prev t)) (by show ¬(t.val - 1 - 1) % 4 = 0; omega) (by show 1 ≤ (t.val - 1 - 1); omega)
    (by show ¬(t.val - 1 - 1) % 4 = 3; omega)
  have hB2 := outsAt0_B m c (prev t) (by show ¬(t.val - 1) % 4 = 0; omega) (by show 1 ≤ (t.val - 1); omega)
    (by show ¬(t.val - 1) % 4 = 3; omega)
  rw [after0_2, outsAt0_C m c t (by omega) (by omega) h3, show outsAt0 m c (t.val - 1) _ = _ from hB2,
    show outsAt0 m c ((prev t).val - 1) _ = _ from hB1, show outsAt0 m c ((prev (prev t)).val - 1) _ = _ from hA]
  clear hA hB1 hB2
  frame_out
  simp only [read_unread_whole]
  rw [tile_apply, product_quarters]
  blk_simp [iblk]
  generalize V m c main_v0 = A
  generalize V m c main_v1 = B
  blk_point [idx t, idx (prev t), idx (prev (prev t)), idx (prev (prev (prev t)))]

/-- The kernel's operands are the arguments: the casts change nothing on the reals. -/
theorem entry_a (c : Dev nD) : (V m c main_v0 : FVec Ideal S8192x1024 .bf16) = m ((c : Thread nD τ).loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_b (c : Dev nD) : (V m c main_v1 : FVec Ideal S8192x1024 .bf16) = m ((c : Thread nD τ).loc main_arg2) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index: all 8192 rows contracted. -/
theorem ref_apply (x0 : FVec Ideal Cert.MixDwRefIdeal.S8192x1024 .f32) (x2 : FVec Ideal Cert.MixDwRefIdeal.S8192x1024 .f32) (i : S1x1024x1024.Idx) :
    Cert.MixDwRefIdeal.Read.val_main_v4 (F := Ideal) x0 x2 i = ∑ k : Fin 8192, x0 (ix2 k (i 1)) * x2 (ix2 k (i 2)) := by
  rw [Cert.MixDwRefIdeal.Read.val_main_v4_apply, Cert.MixDwRefIdeal.Read.val_main_v3_apply, Cert.MixDwRefIdeal.Read.val_main_v2_apply]
  refine (Cert.MixDwRefIdeal.Read.val_main_v1_apply x0 x2 _).trans ?_
  refine Fin.sum_fin_congr fun k => ?_
  rw [mul_comm]
  congr 2 <;> funext a <;> match a with
    | ⟨0, _⟩ => rfl
    | ⟨1, _⟩ => rfl

theorem final (c : Dev nD) : (dats m 0 c).arrAt 2 cfg0.N
    = Cert.MixDwRefIdeal.Read.val_main_v4 (F := Ideal) (m ((c : Thread nD τ).loc main_arg0)) (m ((c : Thread nD τ).loc main_arg2)) := by
  refine (final_product m c).trans (funext fun i => ?_)
  rw [ref_apply, entry_a, entry_b]
  rfl

/-- The gradient of a mixer's output weight (1024 × 1024): the kernel's tiled sum over the rows is the reference's product. -/
theorem claim : Cert.algebraic_MixDwIdeal_MixDwRefIdeal := by
  intro m g m' g' _ hagree
  refine ⟨fun c => (dats m 0 c).arrAt 2 cfg0.N, Cert.MixDwIdeal.Value.run_blocks m g, ?_⟩
  refine (θ_run _ _ _).mono (fun r h c => ⟨?_, (h c).2⟩) (Cert.MixDwRefIdeal.Value.run m' g')
  refine (h c).1.trans ?_
  refine (Cert.MixDwRefIdeal.Read.val_main_v4_eq _ _).trans ?_
  show _ = (dats m 0 c).arrAt 2 cfg0.N
  rw [final, (hagree c).1, (hagree c).2.2]

end Cert.MixDwIdeal.Math

end
-- ==== Proof.AttnDwQkvClaim.lean ====
module

public import proofs.«01_k».proof.Defs
public import proofs.«01_k».proof.Proof.Gen.AttnDwQkvIdeal.Value
public import proofs.«01_k».proof.Proof.Gen.AttnDwQkvRefIdeal.Read
public import proofs.«01_k».proof.Proof.Gen.AttnDwQkvRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnDwQkvIdeal.Math

open Cert.AttnDwQkvIdeal Cert.AttnDwQkvIdeal.Gen

variable (m : (ℓ : Loc nD τ sig) → Buf (Elt Ideal) ℓ)

/-- The rows are contracted in four quarters, the fastest axis of the grid. -/
theorem idx : ∀ t : Fin cfg0.N, win0_0.index t = ![t.val % 4, 0] ∧ win0_1.index t = ![t.val % 4, 0] ∧ win0_2.index t = ![0, 0, 0] :=
  (by decide +kernel : ∀ t : Fin grid0.N, _)

/-- What a tile's fourth point stores: the four quarters' products added up. -/
theorem tile_apply (x0 x1 x2 x3 : FVec Ideal S2048x1024 .bf16) (y0 y1 y2 y3 : FVec Ideal S2048x1536 .bf16) (j : S1x1024x1536.Idx) :
    k0_pay4 (F := Ideal) (k0_pay3 (F := Ideal) x3 y3 (k0_pay3 (F := Ideal) x2 y2 (k0_pay3 (F := Ideal) x1 y1 (k0_pay2 (F := Ideal) x0 y0)))) j
      = ∑ k : Fin 2048, x0 (ix2 k (j 1)) * y0 (ix2 k (j 2))
        + ∑ k : Fin 2048, x1 (ix2 k (j 1)) * y1 (ix2 k (j 2))
        + ∑ k : Fin 2048, x2 (ix2 k (j 1)) * y2 (ix2 k (j 2))
        + ∑ k : Fin 2048, x3 (ix2 k (j 1)) * y3 (ix2 k (j 2)) := by
  pointwise [k0_pay4, k0_pay3, k0_pay2, k0_pay1]

/-- The grid point before `t`. -/
abbrev prev (t : Fin cfg0.N) : Fin cfg0.N := ⟨t.val - 1, Nat.lt_of_le_of_lt (Nat.sub_le _ _) t.isLt⟩

/-- The sum over all rows, split into its quarters. -/
theorem sum_quarters (f : Fin 8192 → EReal) :
    ∑ k : Fin 8192, f k = ∑ k : Fin 2048, f ⟨k.val, by omega⟩ + ∑ k : Fin 2048, f ⟨2048 + k.val, by omega⟩
      + ∑ k : Fin 2048, f ⟨4096 + k.val, by omega⟩ + ∑ k : Fin 2048, f ⟨6144 + k.val, by omega⟩ := by
  refine (Fin.sum_univ_add (a := 6144) (b := 2048) f).trans (congrArg₂ (· + ·) ?_ rfl)
  refine (Fin.sum_univ_add (a := 4096) (b := 2048) _).trans (congrArg₂ (· + ·) ?_ rfl)
  exact Fin.sum_univ_add (a := 2048) (b := 2048) _

/-- The rows of the two operands multiplied and summed over the 8192 rows. -/
def product (A : FVec Ideal S8192x1024 .bf16) (B : FVec Ideal S8192x1536 .bf16) : FVec Ideal S1x1024x1536 .bf16 :=
  fun i => ∑ k : Fin 8192, A (ix2 k (i 1)) * B (ix2 k (i 2))

theorem product_quarters (A : FVec Ideal S8192x1024 .bf16) (B : FVec Ideal S8192x1536 .bf16) (i : S1x1024x1536.Idx) :
    product A B i = ∑ k : Fin 2048, A (ix2 (⟨k.val, by omega⟩ : Fin 8192) (i 1)) * B (ix2 (⟨k.val, by omega⟩ : Fin 8192) (i 2))
      + ∑ k : Fin 2048, A (ix2 (⟨2048 + k.val, by omega⟩ : Fin 8192) (i 1)) * B (ix2 (⟨2048 + k.val, by omega⟩ : Fin 8192) (i 2))
      + ∑ k : Fin 2048, A (ix2 (⟨4096 + k.val, by omega⟩ : Fin 8192) (i 1)) * B (ix2 (⟨4096 + k.val, by omega⟩ : Fin 8192) (i 2))
      + ∑ k : Fin 2048, A (ix2 (⟨6144 + k.val, by omega⟩ : Fin 8192) (i 1)) * B (ix2 (⟨6144 + k.val, by omega⟩ : Fin 8192) (i 2)) :=
  sum_quarters _

/-- The result array after the run is the product of the two operands' arrays. -/
theorem final_product (c : Dev nD) : (dats m 0 c).arrAt 2 cfg0.N = product (V m c main_v0) (V m c main_v1) := by
  refine (dats m 0 c).arrAt_eq_of_covers 2 _ (by decide +kernel) fun t hf y => ?_
  have h3 : t.val % 4 = 3 := (flush0_2 t).mp hf
  blk_simp
  have hA := outsAt0_A m c (prev (prev (prev t))) (by show (t.val - 1 - 1 - 1) % 4 = 0; omega) (by show ¬1 ≤ (t.val - 1 - 1 - 1); have hN : t.val < 4 := lt_of_lt_of_eq t.isLt (show cfg0.N = 4 from N_0); omega)
    (by show ¬(t.val - 1 - 1 - 1) % 4 = 3; omega)
  have hB1 := outsAt0_B m c (prev (prev t)) (by show ¬(t.val - 1 - 1) % 4 = 0; omega) (by show 1 ≤ (t.val - 1 - 1); omega)
    (by show ¬(t.val - 1 - 1) % 4 = 3; omega)
  have hB2 := outsAt0_B m c (prev t) (by show ¬(t.val - 1) % 4 = 0; omega) (by show 1 ≤ (t.val - 1); omega)
    (by show ¬(t.val - 1) % 4 = 3; omega)
  rw [after0_2, outsAt0_C m c t (by omega) (by omega) h3, show outsAt0 m c (t.val - 1) _ = _ from hB2,
    show outsAt0 m c ((prev t).val - 1) _ = _ from hB1, show outsAt0 m c ((prev (prev t)).val - 1) _ = _ from hA]
  clear hA hB1 hB2
  frame_out
  simp only [read_unread_whole]
  rw [tile_apply, product_quarters]
  blk_simp [iblk]
  generalize V m c main_v0 = A
  generalize V m c main_v1 = B
  blk_point [idx t, idx (prev t), idx (prev (prev t)), idx (prev (prev (prev t)))]

/-- The kernel's operands are the arguments: the casts change nothing on the reals. -/
theorem entry_a (c : Dev nD) : (V m c main_v0 : FVec Ideal S8192x1024 .bf16) = m ((c : Thread nD τ).loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_b (c : Dev nD) : (V m c main_v1 : FVec Ideal S8192x1536 .bf16) = m ((c : Thread nD τ).loc main_arg2) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index: all 8192 rows contracted. -/
theorem ref_apply (x0 : FVec Ideal Cert.AttnDwQkvRefIdeal.S8192x1024 .f32) (x2 : FVec Ideal Cert.AttnDwQkvRefIdeal.S8192x1536 .f32) (i : S1x1024x1536.Idx) :
    Cert.AttnDwQkvRefIdeal.Read.val_main_v4 (F := Ideal) x0 x2 i = ∑ k : Fin 8192, x0 (ix2 k (i 1)) * x2 (ix2 k (i 2)) := by
  rw [Cert.AttnDwQkvRefIdeal.Read.val_main_v4_apply, Cert.AttnDwQkvRefIdeal.Read.val_main_v3_apply, Cert.AttnDwQkvRefIdeal.Read.val_main_v2_apply]
  refine (Cert.AttnDwQkvRefIdeal.Read.val_main_v1_apply x0 x2 _).trans ?_
  refine Fin.sum_fin_congr fun k => ?_
  rw [mul_comm]
  congr 2 <;> funext a <;> match a with
    | ⟨0, _⟩ => rfl
    | ⟨1, _⟩ => rfl

theorem final (c : Dev nD) : (dats m 0 c).arrAt 2 cfg0.N
    = Cert.AttnDwQkvRefIdeal.Read.val_main_v4 (F := Ideal) (m ((c : Thread nD τ).loc main_arg0)) (m ((c : Thread nD τ).loc main_arg2)) := by
  refine (final_product m c).trans (funext fun i => ?_)
  rw [ref_apply, entry_a, entry_b]
  rfl

/-- The gradient of the query, key and value weight (1024 × 1536): the kernel's tiled sum over the rows is the reference's product. -/
theorem claim : Cert.algebraic_AttnDwQkvIdeal_AttnDwQkvRefIdeal := by
  intro m g m' g' _ hagree
  refine ⟨fun c => (dats m 0 c).arrAt 2 cfg0.N, Cert.AttnDwQkvIdeal.Value.run_blocks m g, ?_⟩
  refine (θ_run _ _ _).mono (fun r h c => ⟨?_, (h c).2⟩) (Cert.AttnDwQkvRefIdeal.Value.run m' g')
  refine (h c).1.trans ?_
  refine (Cert.AttnDwQkvRefIdeal.Read.val_main_v4_eq _ _).trans ?_
  show _ = (dats m 0 c).arrAt 2 cfg0.N
  rw [final, (hagree c).1, (hagree c).2.2]

end Cert.AttnDwQkvIdeal.Math

end
-- ==== Proof.LruDwInClaim.lean ====
module

public import proofs.«01_k».proof.Defs
public import proofs.«01_k».proof.Proof.Gen.LruDwInIdeal.Value
public import proofs.«01_k».proof.Proof.Gen.LruDwInRefIdeal.Read
public import proofs.«01_k».proof.Proof.Gen.LruDwInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LruDwInIdeal.Math

open Cert.LruDwInIdeal Cert.LruDwInIdeal.Gen

variable (m : (ℓ : Loc nD τ sig) → Buf (Elt Ideal) ℓ)

/-- The rows are contracted in four quarters, the fastest axis of the grid. -/
theorem idx : ∀ t : Fin cfg0.N, win0_0.index t = ![t.val % 4, 0] ∧ win0_1.index t = ![t.val % 4, t.val / 4] ∧ win0_2.index t = ![0, 0, t.val / 4] :=
  (by decide +kernel : ∀ t : Fin grid0.N, _)

/-- What a tile's fourth point stores: the four quarters' products added up. -/
theorem tile_apply (x0 x1 x2 x3 : FVec Ideal S2048x1024 .bf16) (y0 y1 y2 y3 : FVec Ideal S2048x1024 .bf16) (j : S1x1024x1024.Idx) :
    k0_pay4 (F := Ideal) (k0_pay3 (F := Ideal) x3 y3 (k0_pay3 (F := Ideal) x2 y2 (k0_pay3 (F := Ideal) x1 y1 (k0_pay2 (F := Ideal) x0 y0)))) j
      = ∑ k : Fin 2048, x0 (ix2 k (j 1)) * y0 (ix2 k (j 2))
        + ∑ k : Fin 2048, x1 (ix2 k (j 1)) * y1 (ix2 k (j 2))
        + ∑ k : Fin 2048, x2 (ix2 k (j 1)) * y2 (ix2 k (j 2))
        + ∑ k : Fin 2048, x3 (ix2 k (j 1)) * y3 (ix2 k (j 2)) := by
  pointwise [k0_pay4, k0_pay3, k0_pay2, k0_pay1]

/-- The grid point before `t`. -/
abbrev prev (t : Fin cfg0.N) : Fin cfg0.N := ⟨t.val - 1, Nat.lt_of_le_of_lt (Nat.sub_le _ _) t.isLt⟩

/-- The sum over all rows, split into its quarters. -/
theorem sum_quarters (f : Fin 8192 → EReal) :
    ∑ k : Fin 8192, f k = ∑ k : Fin 2048, f ⟨k.val, by omega⟩ + ∑ k : Fin 2048, f ⟨2048 + k.val, by omega⟩
      + ∑ k : Fin 2048, f ⟨4096 + k.val, by omega⟩ + ∑ k : Fin 2048, f ⟨6144 + k.val, by omega⟩ := by
  refine (Fin.sum_univ_add (a := 6144) (b := 2048) f).trans (congrArg₂ (· + ·) ?_ rfl)
  refine (Fin.sum_univ_add (a := 4096) (b := 2048) _).trans (congrArg₂ (· + ·) ?_ rfl)
  exact Fin.sum_univ_add (a := 2048) (b := 2048) _

/-- The rows of the two operands multiplied and summed over the 8192 rows. -/
def product (A : FVec Ideal S8192x1024 .bf16) (B : FVec Ideal S8192x2048 .bf16) : FVec Ideal S1x1024x2048 .bf16 :=
  fun i => ∑ k : Fin 8192, A (ix2 k (i 1)) * B (ix2 k (i 2))

theorem product_quarters (A : FVec Ideal S8192x1024 .bf16) (B : FVec Ideal S8192x2048 .bf16) (i : S1x1024x2048.Idx) :
    product A B i = ∑ k : Fin 2048, A (ix2 (⟨k.val, by omega⟩ : Fin 8192) (i 1)) * B (ix2 (⟨k.val, by omega⟩ : Fin 8192) (i 2))
      + ∑ k : Fin 2048, A (ix2 (⟨2048 + k.val, by omega⟩ : Fin 8192) (i 1)) * B (ix2 (⟨2048 + k.val, by omega⟩ : Fin 8192) (i 2))
      + ∑ k : Fin 2048, A (ix2 (⟨4096 + k.val, by omega⟩ : Fin 8192) (i 1)) * B (ix2 (⟨4096 + k.val, by omega⟩ : Fin 8192) (i 2))
      + ∑ k : Fin 2048, A (ix2 (⟨6144 + k.val, by omega⟩ : Fin 8192) (i 1)) * B (ix2 (⟨6144 + k.val, by omega⟩ : Fin 8192) (i 2)) :=
  sum_quarters _

/-- The result array after the run is the product of the two operands' arrays. -/
theorem final_product (c : Dev nD) : (dats m 0 c).arrAt 2 cfg0.N = product (V m c main_v0) (V m c main_v1) := by
  refine (dats m 0 c).arrAt_eq_of_covers 2 _ (by decide +kernel) fun t hf y => ?_
  have h3 : t.val % 4 = 3 := (flush0_2 t).mp hf
  blk_simp
  have hA := outsAt0_A m c (prev (prev (prev t))) (by show (t.val - 1 - 1 - 1) % 4 = 0; omega) (by show ¬1 ≤ (t.val - 1 - 1 - 1) % 4; omega)
    (by show ¬(t.val - 1 - 1 - 1) % 4 = 3; omega)
  have hB1 := outsAt0_B m c (prev (prev t)) (by show ¬(t.val - 1 - 1) % 4 = 0; omega) (by show 1 ≤ (t.val - 1 - 1) % 4; omega)
    (by show ¬(t.val - 1 - 1) % 4 = 3; omega)
  have hB2 := outsAt0_B m c (prev t) (by show ¬(t.val - 1) % 4 = 0; omega) (by show 1 ≤ (t.val - 1) % 4; omega)
    (by show ¬(t.val - 1) % 4 = 3; omega)
  rw [after0_2, outsAt0_C m c t (by omega) (by omega) h3, show outsAt0 m c (t.val - 1) _ = _ from hB2,
    show outsAt0 m c ((prev t).val - 1) _ = _ from hB1, show outsAt0 m c ((prev (prev t)).val - 1) _ = _ from hA]
  clear hA hB1 hB2
  frame_out
  simp only [read_unread_whole]
  rw [tile_apply, product_quarters]
  blk_simp [iblk]
  generalize V m c main_v0 = A
  generalize V m c main_v1 = B
  blk_point [idx t, idx (prev t), idx (prev (prev t)), idx (prev (prev (prev t)))]

/-- The kernel's operands are the arguments: the casts change nothing on the reals. -/
theorem entry_a (c : Dev nD) : (V m c main_v0 : FVec Ideal S8192x1024 .bf16) = m ((c : Thread nD τ).loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_b (c : Dev nD) : (V m c main_v1 : FVec Ideal S8192x2048 .bf16) = m ((c : Thread nD τ).loc main_arg2) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index: all 8192 rows contracted. -/
theorem ref_apply (x0 : FVec Ideal Cert.LruDwInRefIdeal.S8192x1024 .f32) (x2 : FVec Ideal Cert.LruDwInRefIdeal.S8192x2048 .f32) (i : S1x1024x2048.Idx) :
    Cert.LruDwInRefIdeal.Read.val_main_v4 (F := Ideal) x0 x2 i = ∑ k : Fin 8192, x0 (ix2 k (i 1)) * x2 (ix2 k (i 2)) := by
  rw [Cert.LruDwInRefIdeal.Read.val_main_v4_apply, Cert.LruDwInRefIdeal.Read.val_main_v3_apply, Cert.LruDwInRefIdeal.Read.val_main_v2_apply]
  refine (Cert.LruDwInRefIdeal.Read.val_main_v1_apply x0 x2 _).trans ?_
  refine Fin.sum_fin_congr fun k => ?_
  rw [mul_comm]
  congr 2 <;> funext a <;> match a with
    | ⟨0, _⟩ => rfl
    | ⟨1, _⟩ => rfl

theorem final (c : Dev nD) : (dats m 0 c).arrAt 2 cfg0.N
    = Cert.LruDwInRefIdeal.Read.val_main_v4 (F := Ideal) (m ((c : Thread nD τ).loc main_arg0)) (m ((c : Thread nD τ).loc main_arg2)) := by
  refine (final_product m c).trans (funext fun i => ?_)
  rw [ref_apply, entry_a, entry_b]
  rfl

/-- The gradient of the recurrent mixer's input weight (1024 × 2048): the kernel's tiled sum over the rows is the reference's product. -/
theorem claim : Cert.algebraic_LruDwInIdeal_LruDwInRefIdeal := by
  intro m g m' g' _ hagree
  refine ⟨fun c => (dats m 0 c).arrAt 2 cfg0.N, Cert.LruDwInIdeal.Value.run_blocks m g, ?_⟩
  refine (θ_run _ _ _).mono (fun r h c => ⟨?_, (h c).2⟩) (Cert.LruDwInRefIdeal.Value.run m' g')
  refine (h c).1.trans ?_
  refine (Cert.LruDwInRefIdeal.Read.val_main_v4_eq _ _).trans ?_
  show _ = (dats m 0 c).arrAt 2 cfg0.N
  rw [final, (hagree c).1, (hagree c).2.2]

end Cert.LruDwInIdeal.Math

end
-- ==== Proof.LruDwGatesClaim.lean ====
module

public import proofs.«01_k».proof.Defs
public import proofs.«01_k».proof.Proof.Gen.LruDwGatesIdeal.Value
public import proofs.«01_k».proof.Proof.Gen.LruDwGatesRefIdeal.Read
public import proofs.«01_k».proof.Proof.Gen.LruDwGatesRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LruDwGatesIdeal.Math

open Cert.LruDwGatesIdeal Cert.LruDwGatesIdeal.Gen

variable (m : (ℓ : Loc nD τ sig) → Buf (Elt Ideal) ℓ)

/-- The rows are contracted in four quarters, the fastest axis of the grid. -/
theorem idx : ∀ t : Fin cfg0.N, win0_0.index t = ![t.val % 4, t.val / 4] ∧ win0_1.index t = ![t.val % 4, t.val / 4] ∧ win0_2.index t = ![0, t.val / 4, 0, 0] :=
  (by decide +kernel : ∀ t : Fin grid0.N, _)

/-- What a tile's fourth point stores: the four quarters' products added up. -/
theorem tile_apply (x0 x1 x2 x3 : FVec Ideal S2048x256 .bf16) (y0 y1 y2 y3 : FVec Ideal S2048x512 .bf16) (j : S1x1x256x512.Idx) :
    k0_pay4 (F := Ideal) (k0_pay3 (F := Ideal) x3 y3 (k0_pay3 (F := Ideal) x2 y2 (k0_pay3 (F := Ideal) x1 y1 (k0_pay2 (F := Ideal) x0 y0)))) j
      = ∑ k : Fin 2048, x0 (ix2 k (j 2)) * y0 (ix2 k (j 3))
        + ∑ k : Fin 2048, x1 (ix2 k (j 2)) * y1 (ix2 k (j 3))
        + ∑ k : Fin 2048, x2 (ix2 k (j 2)) * y2 (ix2 k (j 3))
        + ∑ k : Fin 2048, x3 (ix2 k (j 2)) * y3 (ix2 k (j 3)) := by
  pointwise [k0_pay4, k0_pay3, k0_pay2, k0_pay1]

/-- The grid point before `t`. -/
abbrev prev (t : Fin cfg0.N) : Fin cfg0.N := ⟨t.val - 1, Nat.lt_of_le_of_lt (Nat.sub_le _ _) t.isLt⟩

/-- The sum over all rows, split into its quarters. -/
theorem sum_quarters (f : Fin 8192 → EReal) :
    ∑ k : Fin 8192, f k = ∑ k : Fin 2048, f ⟨k.val, by omega⟩ + ∑ k : Fin 2048, f ⟨2048 + k.val, by omega⟩
      + ∑ k : Fin 2048, f ⟨4096 + k.val, by omega⟩ + ∑ k : Fin 2048, f ⟨6144 + k.val, by omega⟩ := by
  refine (Fin.sum_univ_add (a := 6144) (b := 2048) f).trans (congrArg₂ (· + ·) ?_ rfl)
  refine (Fin.sum_univ_add (a := 4096) (b := 2048) _).trans (congrArg₂ (· + ·) ?_ rfl)
  exact Fin.sum_univ_add (a := 2048) (b := 2048) _

/-- The column of the first operand behind an entry of the result: block `i 1`, row `i 2` of it. -/
def rowOf (i : S1x4x256x512.Idx) : Fin 1024 :=
  ⟨256 * (i 1).val + (i 2).val, by
    have h1 : (i 1).val < 4 := (i 1).isLt
    have h2 : (i 2).val < 256 := (i 2).isLt
    omega⟩

/-- The column of the second operand behind an entry of the result: block `i 1`, column `i 3` of it. -/
def colOf (i : S1x4x256x512.Idx) : Fin 2048 :=
  ⟨512 * (i 1).val + (i 3).val, by
    have h1 : (i 1).val < 4 := (i 1).isLt
    have h3 : (i 3).val < 512 := (i 3).isLt
    omega⟩

/-- The rows of the two operands multiplied and summed over the 8192 rows. -/
def product (A : FVec Ideal S8192x1024 .bf16) (B : FVec Ideal S8192x2048 .bf16) : FVec Ideal S1x4x256x512 .bf16 :=
  fun i => ∑ k : Fin 8192, A (ix2 k (rowOf i)) * B (ix2 k (colOf i))

theorem product_quarters (A : FVec Ideal S8192x1024 .bf16) (B : FVec Ideal S8192x2048 .bf16) (i : S1x4x256x512.Idx) :
    product A B i = ∑ k : Fin 2048, A (ix2 (⟨k.val, by omega⟩ : Fin 8192) (rowOf i)) * B (ix2 (⟨k.val, by omega⟩ : Fin 8192) (colOf i))
      + ∑ k : Fin 2048, A (ix2 (⟨2048 + k.val, by omega⟩ : Fin 8192) (rowOf i)) * B (ix2 (⟨2048 + k.val, by omega⟩ : Fin 8192) (colOf i))
      + ∑ k : Fin 2048, A (ix2 (⟨4096 + k.val, by omega⟩ : Fin 8192) (rowOf i)) * B (ix2 (⟨4096 + k.val, by omega⟩ : Fin 8192) (colOf i))
      + ∑ k : Fin 2048, A (ix2 (⟨6144 + k.val, by omega⟩ : Fin 8192) (rowOf i)) * B (ix2 (⟨6144 + k.val, by omega⟩ : Fin 8192) (colOf i)) :=
  sum_quarters _

/-- The result array after the run is the product of the two operands' arrays. -/
theorem final_product (c : Dev nD) : (dats m 0 c).arrAt 2 cfg0.N = product (V m c main_v0) (V m c main_v1) := by
  refine (dats m 0 c).arrAt_eq_of_covers 2 _ (by decide +kernel) fun t hf y => ?_
  have h3 : t.val % 4 = 3 := (flush0_2 t).mp hf
  blk_simp
  have hA := outsAt0_A m c (prev (prev (prev t))) (by show (t.val - 1 - 1 - 1) % 4 = 0; omega) (by show ¬1 ≤ (t.val - 1 - 1 - 1) % 4; omega)
    (by show ¬(t.val - 1 - 1 - 1) % 4 = 3; omega)
  have hB1 := outsAt0_B m c (prev (prev t)) (by show ¬(t.val - 1 - 1) % 4 = 0; omega) (by show 1 ≤ (t.val - 1 - 1) % 4; omega)
    (by show ¬(t.val - 1 - 1) % 4 = 3; omega)
  have hB2 := outsAt0_B m c (prev t) (by show ¬(t.val - 1) % 4 = 0; omega) (by show 1 ≤ (t.val - 1) % 4; omega)
    (by show ¬(t.val - 1) % 4 = 3; omega)
  rw [after0_2, outsAt0_C m c t (by omega) (by omega) h3, show outsAt0 m c (t.val - 1) _ = _ from hB2,
    show outsAt0 m c ((prev t).val - 1) _ = _ from hB1, show outsAt0 m c ((prev (prev t)).val - 1) _ = _ from hA]
  clear hA hB1 hB2
  frame_out
  simp only [read_unread_whole]
  rw [tile_apply, product_quarters]
  simp only [rowOf, colOf]
  blk_simp [iblk]
  generalize V m c main_v0 = A
  generalize V m c main_v1 = B
  blk_point [idx t, idx (prev t), idx (prev (prev t)), idx (prev (prev (prev t)))]

/-- The kernel's operands are the arguments: the casts change nothing on the reals. -/
theorem entry_a (c : Dev nD) : (V m c main_v0 : FVec Ideal S8192x1024 .bf16) = m ((c : Thread nD τ).loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_b (c : Dev nD) : (V m c main_v1 : FVec Ideal S8192x2048 .bf16) = m ((c : Thread nD τ).loc main_arg2) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index: all 8192 rows contracted. -/
theorem ref_apply (x0 : FVec Ideal Cert.LruDwGatesRefIdeal.S8192x1024 .f32) (x2 : FVec Ideal Cert.LruDwGatesRefIdeal.S8192x2048 .f32) (i : S1x4x256x512.Idx) :
    Cert.LruDwGatesRefIdeal.Read.val_main_v9 (F := Ideal) x0 x2 i = ∑ k : Fin 8192, x0 (ix2 k (rowOf i)) * x2 (ix2 k (colOf i)) := by
  rw [Cert.LruDwGatesRefIdeal.Read.val_main_v9_apply, Cert.LruDwGatesRefIdeal.Read.val_main_v8_apply, Cert.LruDwGatesRefIdeal.Read.val_main_v7_apply]
  refine (Cert.LruDwGatesRefIdeal.Read.val_main_v6_apply x0 x2 _).trans ?_
  refine Fin.sum_fin_congr fun k => ?_
  rw [Cert.LruDwGatesRefIdeal.Read.val_main_v5_apply, Cert.LruDwGatesRefIdeal.Read.val_main_v4_apply, Cert.LruDwGatesRefIdeal.Read.val_main_v0_apply, mul_comm]
  have h1 : (i 1).val < 4 := (i 1).isLt
  have h2 : (i 2).val < 256 := (i 2).isLt
  have h3 : (i 3).val < 512 := (i 3).isLt
  refine congrArg₂ (· * ·) (congrArg x0 (funext fun a => Fin.ext ?_)) (congrArg x2 (funext fun a => Fin.ext ?_))
  · match a with
    | ⟨0, _⟩ => show ((k.val * 4 + (i 1).val) * 256 + (i 2).val) / 1024 = k.val; omega
    | ⟨1, _⟩ => show ((k.val * 4 + (i 1).val) * 256 + (i 2).val) % 1024 = 256 * (i 1).val + (i 2).val; omega
  · match a with
    | ⟨0, _⟩ => show ((k.val * 4 + (i 1).val) * 512 + (i 3).val) / 2048 = k.val; omega
    | ⟨1, _⟩ => show ((k.val * 4 + (i 1).val) * 512 + (i 3).val) % 2048 = 512 * (i 1).val + (i 3).val; omega

theorem final (c : Dev nD) : (dats m 0 c).arrAt 2 cfg0.N
    = Cert.LruDwGatesRefIdeal.Read.val_main_v9 (F := Ideal) (m ((c : Thread nD τ).loc main_arg0)) (m ((c : Thread nD τ).loc main_arg2)) := by
  refine (final_product m c).trans (funext fun i => ?_)
  rw [ref_apply, entry_a, entry_b]
  rfl

/-- The gradient of the two gate weights, four diagonal blocks of 256 × 512: the kernel's tiled sum over the rows is the reference's product. -/
theorem claim : Cert.algebraic_LruDwGatesIdeal_LruDwGatesRefIdeal := by
  intro m g m' g' _ hagree
  refine ⟨fun c => (dats m 0 c).arrAt 2 cfg0.N, Cert.LruDwGatesIdeal.Value.run_blocks m g, ?_⟩
  refine (θ_run _ _ _).mono (fun r h c => ⟨?_, (h c).2⟩) (Cert.LruDwGatesRefIdeal.Value.run m' g')
  refine (h c).1.trans ?_
  refine (Cert.LruDwGatesRefIdeal.Read.val_main_v9_eq _ _).trans ?_
  show _ = (dats m 0 c).arrAt 2 cfg0.N
  rw [final, (hagree c).1, (hagree c).2.2]

end Cert.LruDwGatesIdeal.Math

end
-- ==== Proof.AttnDoClaim.lean ====
module

public import proofs.«01_k».proof.Defs
public import proofs.«01_k».proof.Proof.Gen.AttnDoIdeal.Value
public import proofs.«01_k».proof.Proof.Gen.AttnDoRefIdeal.Read
public import proofs.«01_k».proof.Proof.Gen.AttnDoRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnDoIdeal.Math

open Cert.AttnDoIdeal Cert.AttnDoIdeal.Gen

variable (m : (ℓ : Loc nD τ sig) → Buf (Elt Ideal) ℓ)

/-- The grid is 16 tiles of 512 rows; the weight is layer 1, whole. -/
theorem idx : ∀ t : Fin cfg0.N, win0_0.index t = ![t.val, 0] ∧ win0_1.index t = ![1, 0, 0] ∧ win0_2.index t = ![t.val, 0] :=
  (by decide +kernel : ∀ t : Fin grid0.N, _)

/-- One tile's product. -/
theorem pay_apply (x : FVec Ideal S512x1024 .bf16) (w : FVec Ideal S1x1024x1024 .bf16) (j : S512x1024.Idx) :
    k0_pay1 (F := Ideal) x w j = ∑ k : Fin 1024, x (ix2 (j 0) k) * w (ix3 (0 : Fin 1) (j 1) k) := by
  pointwise [k0_pay1]

/-- The rows of the operand times the layer's weight. -/
def product (A : FVec Ideal S8192x1024 .bf16) (B : FVec Ideal S2x1024x1024 .bf16) : FVec Ideal S8192x1024 .bf16 :=
  fun i => ∑ k : Fin 1024, A (ix2 (i 0) k) * B (ix3 (1 : Fin 2) (i 1) k)

/-- The result array after the run. -/
theorem final_product (c : Dev nD) : (dats m 0 c).arrAt 2 cfg0.N = product (V m c main_v0) (V m c main_v1) := by
  refine (dats m 0 c).arrAt_eq_of_covers 2 _ (by decide +kernel) fun t hf y => ?_
  blk_simp
  rw [after0_2]
  frame_out
  rw [pay_apply]
  unfold product
  blk_simp [iblk]
  generalize V m c main_v0 = A
  generalize V m c main_v1 = B
  blk_point [idx t]

/-- The kernel's operands are the arguments: the casts change nothing on the reals. -/
theorem entry_a (c : Dev nD) : (V m c main_v0 : FVec Ideal S8192x1024 .bf16) = m ((c : Thread nD τ).loc main_arg2) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V m c main_v1 : FVec Ideal S2x1024x1024 .bf16) = m ((c : Thread nD τ).loc main_arg1) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index. -/
theorem ref_apply (x1 : FVec Ideal Cert.AttnDoRefIdeal.S2x1024x1024 .f32) (x2 : FVec Ideal Cert.AttnDoRefIdeal.S8192x1024 .f32) (r : Fin 8192) (q : Fin 1024) :
    Cert.AttnDoRefIdeal.Read.val_main_v4 (F := Ideal) x1 x2 (ix2 r q) = ∑ k : Fin 1024, x2 (ix2 r k) * x1 (ix3 (1 : Fin 2) q k) := by
  pointwise [Cert.AttnDoRefIdeal.Read.val_main_v4, Cert.AttnDoRefIdeal.Read.val_main_v3, Cert.AttnDoRefIdeal.Read.val_main_v1, Cert.AttnDoRefIdeal.Read.val_main_v0]

theorem final (c : Dev nD) : (dats m 0 c).arrAt 2 cfg0.N
    = Cert.AttnDoRefIdeal.Read.val_main_v4 (F := Ideal) (m ((c : Thread nD τ).loc main_arg1)) (m ((c : Thread nD τ).loc main_arg2)) := by
  refine (final_product m c).trans (funext fun i => ?_)
  obtain ⟨r, q, rfl⟩ : ∃ r q, i = ix2 r q := ⟨i 0, i 1, eq_ix2 i⟩
  rw [ref_apply, entry_a, entry_w]
  rfl

/-- The gradient of the attention heads' outputs: the kernel's tiles of rows are the reference's whole product. -/
theorem claim : Cert.algebraic_AttnDoIdeal_AttnDoRefIdeal := by
  intro m g m' g' _ hagree
  refine ⟨fun c => (dats m 0 c).arrAt 2 cfg0.N, Cert.AttnDoIdeal.Value.run_blocks m g, ?_⟩
  refine (θ_run _ _ _).mono (fun r h c => ⟨?_, (h c).2⟩) (Cert.AttnDoRefIdeal.Value.run m' g')
  refine (h c).1.trans ?_
  refine (Cert.AttnDoRefIdeal.Read.val_main_v4_eq _ _).trans ?_
  show _ = (dats m 0 c).arrAt 2 cfg0.N
  rw [final, (hagree c).2.1, (hagree c).2.2]

end Cert.AttnDoIdeal.Math

end
-- ==== Proof.LruDyClaim.lean ====
module

public import proofs.«01_k».proof.Defs
public import proofs.«01_k».proof.Proof.Gen.LruDyIdeal.Value
public import proofs.«01_k».proof.Proof.Gen.LruDyRefIdeal.Read
public import proofs.«01_k».proof.Proof.Gen.LruDyRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LruDyIdeal.Math

open Cert.LruDyIdeal Cert.LruDyIdeal.Gen

variable (m : (ℓ : Loc nD τ sig) → Buf (Elt Ideal) ℓ)

/-- The grid is 16 tiles of 512 rows; the weight is layer 1, whole. -/
theorem idx : ∀ t : Fin cfg0.N, win0_0.index t = ![t.val, 0] ∧ win0_1.index t = ![1, 0, 0] ∧ win0_2.index t = ![t.val, 0] :=
  (by decide +kernel : ∀ t : Fin grid0.N, _)

/-- One tile's product. -/
theorem pay_apply (x : FVec Ideal S512x1024 .bf16) (w : FVec Ideal S1x1024x1024 .bf16) (j : S512x1024.Idx) :
    k0_pay1 (F := Ideal) x w j = ∑ k : Fin 1024, x (ix2 (j 0) k) * w (ix3 (0 : Fin 1) (j 1) k) := by
  pointwise [k0_pay1]

/-- The rows of the operand times the layer's weight. -/
def product (A : FVec Ideal S8192x1024 .bf16) (B : FVec Ideal S2x1024x1024 .bf16) : FVec Ideal S8192x1024 .f32 :=
  fun i => ∑ k : Fin 1024, A (ix2 (i 0) k) * B (ix3 (1 : Fin 2) (i 1) k)

/-- The result array after the run. -/
theorem final_product (c : Dev nD) : (dats m 0 c).arrAt 2 cfg0.N = product (V m c main_v0) (V m c main_v1) := by
  refine (dats m 0 c).arrAt_eq_of_covers 2 _ (by decide +kernel) fun t hf y => ?_
  blk_simp
  rw [after0_2]
  frame_out
  rw [pay_apply]
  unfold product
  blk_simp [iblk]
  generalize V m c main_v0 = A
  generalize V m c main_v1 = B
  blk_point [idx t]

/-- The kernel's operands are the arguments: the casts change nothing on the reals. -/
theorem entry_a (c : Dev nD) : (V m c main_v0 : FVec Ideal S8192x1024 .bf16) = m ((c : Thread nD τ).loc main_arg2) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V m c main_v1 : FVec Ideal S2x1024x1024 .bf16) = m ((c : Thread nD τ).loc main_arg1) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index. -/
theorem ref_apply (x1 : FVec Ideal Cert.LruDyRefIdeal.S2x1024x1024 .f32) (x2 : FVec Ideal Cert.LruDyRefIdeal.S8192x1024 .f32) (r : Fin 8192) (q : Fin 1024) :
    Cert.LruDyRefIdeal.Read.val_main_v3 (F := Ideal) x1 x2 (ix2 r q) = ∑ k : Fin 1024, x2 (ix2 r k) * x1 (ix3 (1 : Fin 2) q k) := by
  pointwise [Cert.LruDyRefIdeal.Read.val_main_v3, Cert.LruDyRefIdeal.Read.val_main_v1, Cert.LruDyRefIdeal.Read.val_main_v0]

theorem final (c : Dev nD) : (dats m 0 c).arrAt 2 cfg0.N
    = Cert.LruDyRefIdeal.Read.val_main_v3 (F := Ideal) (m ((c : Thread nD τ).loc main_arg1)) (m ((c : Thread nD τ).loc main_arg2)) := by
  refine (final_product m c).trans (funext fun i => ?_)
  obtain ⟨r, q, rfl⟩ : ∃ r q, i = ix2 r q := ⟨i 0, i 1, eq_ix2 i⟩
  rw [ref_apply, entry_a, entry_w]
  rfl

/-- The gradient of the gated recurrence's output: the kernel's tiles of rows are the reference's whole product. -/
theorem claim : Cert.algebraic_LruDyIdeal_LruDyRefIdeal := by
  intro m g m' g' _ hagree
  refine ⟨fun c => (dats m 0 c).arrAt 2 cfg0.N, Cert.LruDyIdeal.Value.run_blocks m g, ?_⟩
  refine (θ_run _ _ _).mono (fun r h c => ⟨?_, (h c).2⟩) (Cert.LruDyRefIdeal.Value.run m' g')
  refine (h c).1.trans ?_
  refine (Cert.LruDyRefIdeal.Read.val_main_v3_eq _ _).trans ?_
  show _ = (dats m 0 c).arrAt 2 cfg0.N
  rw [final, (hagree c).2.1, (hagree c).2.2]

end Cert.LruDyIdeal.Math

end
-- ==== Proof.AttnDxClaim.lean ====
module

public import proofs.«01_k».proof.Defs
public import proofs.«01_k».proof.Proof.Gen.AttnDxIdeal.Value
public import proofs.«01_k».proof.Proof.Gen.AttnDxRefIdeal.Read
public import proofs.«01_k».proof.Proof.Gen.AttnDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnDxIdeal.Math

open Cert.AttnDxIdeal Cert.AttnDxIdeal.Gen

variable (m : (ℓ : Loc nD τ sig) → Buf (Elt Ideal) ℓ)

/-- The grid is 16 tiles of 512 rows; the weight is layer 1, whole. -/
theorem idx : ∀ t : Fin cfg0.N, win0_0.index t = ![t.val, 0] ∧ win0_1.index t = ![1, 0, 0] ∧ win0_2.index t = ![t.val, 0] ∧ win0_3.index t = ![t.val, 0] :=
  (by decide +kernel : ∀ t : Fin grid0.N, _)

/-- One tile's product. -/
theorem pay_apply (x : FVec Ideal S512x1536 .bf16) (w : FVec Ideal S1x1024x1536 .bf16) (z : FVec Ideal S512x1024 .f32) (j : S512x1024.Idx) :
    k0_pay1 (F := Ideal) x w z j = Ideal.ofBits .f32 0x3FD744FD#32 * z j + ∑ k : Fin 1536, x (ix2 (j 0) k) * w (ix3 (0 : Fin 1) (j 1) k) := by
  pointwise [k0_pay1]

/-- The rows of the operand times the layer's weight, added to the scaled gradient that passes by the layer. -/
def product (A : FVec Ideal S8192x1536 .bf16) (B : FVec Ideal S2x1024x1536 .bf16) (Z : FVec Ideal S8192x1024 .f32) : FVec Ideal S8192x1024 .f32 :=
  fun i => Ideal.ofBits .f32 0x3FD744FD#32 * Z i + ∑ k : Fin 1536, A (ix2 (i 0) k) * B (ix3 (1 : Fin 2) (i 1) k)

/-- The result array after the run. -/
theorem final_product (c : Dev nD) : (dats m 0 c).arrAt 3 cfg0.N = product (V m c main_v0) (V m c main_v1) (V m c main_arg2) := by
  refine (dats m 0 c).arrAt_eq_of_covers 3 _ (by decide +kernel) fun t hf y => ?_
  blk_simp
  rw [after0_3]
  frame_out
  rw [pay_apply]
  unfold product
  blk_simp [iblk]
  generalize V m c main_v0 = A
  generalize V m c main_v1 = B
  generalize V m c main_arg2 = Z
  blk_point [idx t]

/-- The kernel's operands are the arguments: the casts change nothing on the reals. -/
theorem entry_a (c : Dev nD) : (V m c main_v0 : FVec Ideal S8192x1536 .bf16) = m ((c : Thread nD τ).loc main_arg3) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V m c main_v1 : FVec Ideal S2x1024x1536 .bf16) = m ((c : Thread nD τ).loc main_arg1) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index. -/
theorem ref_apply (x1 : FVec Ideal Cert.AttnDxRefIdeal.S2x1024x1536 .f32) (x2 : FVec Ideal Cert.AttnDxRefIdeal.S8192x1024 .f32) (x3 : FVec Ideal Cert.AttnDxRefIdeal.S8192x1536 .f32) (r : Fin 8192) (q : Fin 1024) :
    Cert.AttnDxRefIdeal.Read.val_main_v8 (F := Ideal) x1 x2 x3 (ix2 r q) = Ideal.ofBits .f32 0x3FD744FD#32 * x2 (ix2 r q) + ∑ k : Fin 1536, x3 (ix2 r k) * x1 (ix3 (1 : Fin 2) q k) := by
  pointwise [Cert.AttnDxRefIdeal.Read.val_main_v8, Cert.AttnDxRefIdeal.Read.val_main_v7, Cert.AttnDxRefIdeal.Read.val_main_v6, Cert.AttnDxRefIdeal.Read.val_main_cst_0, Cert.AttnDxRefIdeal.Read.val_main_v5, Cert.AttnDxRefIdeal.Read.val_main_v3, Cert.AttnDxRefIdeal.Read.val_main_v2]
  exact add_comm _ _

theorem final (c : Dev nD) : (dats m 0 c).arrAt 3 cfg0.N
    = Cert.AttnDxRefIdeal.Read.val_main_v8 (F := Ideal) (m ((c : Thread nD τ).loc main_arg1)) (m ((c : Thread nD τ).loc main_arg2)) (m ((c : Thread nD τ).loc main_arg3)) := by
  refine (final_product m c).trans (funext fun i => ?_)
  obtain ⟨r, q, rfl⟩ : ∃ r q, i = ix2 r q := ⟨i 0, i 1, eq_ix2 i⟩
  rw [ref_apply, entry_a, entry_w, V_main_arg2]
  rfl

/-- The gradient of the attention mixer's input: the kernel's tiles of rows are the reference's whole product. -/
theorem claim : Cert.algebraic_AttnDxIdeal_AttnDxRefIdeal := by
  intro m g m' g' _ hagree
  refine ⟨fun c => (dats m 0 c).arrAt 3 cfg0.N, Cert.AttnDxIdeal.Value.run_blocks m g, ?_⟩
  refine (θ_run _ _ _).mono (fun r h c => ⟨?_, (h c).2⟩) (Cert.AttnDxRefIdeal.Value.run m' g')
  refine (h c).1.trans ?_
  refine (Cert.AttnDxRefIdeal.Read.val_main_v8_eq _ _ _).trans ?_
  show _ = (dats m 0 c).arrAt 3 cfg0.N
  rw [final, (hagree c).2.1, (hagree c).2.2.1, (hagree c).2.2.2]

end Cert.AttnDxIdeal.Math

end
-- ==== Proof.LruDxClaim.lean ====
module

public import proofs.«01_k».proof.Defs
public import proofs.«01_k».proof.Proof.Gen.LruDxIdeal.Value
public import proofs.«01_k».proof.Proof.Gen.LruDxRefIdeal.Read
public import proofs.«01_k».proof.Proof.Gen.LruDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LruDxIdeal.Math

open Cert.LruDxIdeal Cert.LruDxIdeal.Gen

variable (m : (ℓ : Loc nD τ sig) → Buf (Elt Ideal) ℓ)

/-- The grid is 16 tiles of 512 rows; the weight is layer 1, whole. -/
theorem idx : ∀ t : Fin cfg0.N, win0_0.index t = ![t.val, 0] ∧ win0_1.index t = ![1, 0, 0] ∧ win0_2.index t = ![t.val, 0] ∧ win0_3.index t = ![t.val, 0] :=
  (by decide +kernel : ∀ t : Fin grid0.N, _)

/-- One tile's product. -/
theorem pay_apply (x : FVec Ideal S512x2048 .bf16) (w : FVec Ideal S1x1024x2048 .bf16) (z : FVec Ideal S512x1024 .f32) (j : S512x1024.Idx) :
    k0_pay1 (F := Ideal) x w z j = Ideal.ofBits .f32 0x3FD744FD#32 * z j + ∑ k : Fin 2048, x (ix2 (j 0) k) * w (ix3 (0 : Fin 1) (j 1) k) := by
  pointwise [k0_pay1]

/-- The rows of the operand times the layer's weight, added to the scaled gradient that passes by the layer. -/
def product (A : FVec Ideal S8192x2048 .bf16) (B : FVec Ideal S2x1024x2048 .bf16) (Z : FVec Ideal S8192x1024 .f32) : FVec Ideal S8192x1024 .f32 :=
  fun i => Ideal.ofBits .f32 0x3FD744FD#32 * Z i + ∑ k : Fin 2048, A (ix2 (i 0) k) * B (ix3 (1 : Fin 2) (i 1) k)

/-- The result array after the run. -/
theorem final_product (c : Dev nD) : (dats m 0 c).arrAt 3 cfg0.N = product (V m c main_v0) (V m c main_v1) (V m c main_arg2) := by
  refine (dats m 0 c).arrAt_eq_of_covers 3 _ (by decide +kernel) fun t hf y => ?_
  blk_simp
  rw [after0_3]
  frame_out
  rw [pay_apply]
  unfold product
  blk_simp [iblk]
  generalize V m c main_v0 = A
  generalize V m c main_v1 = B
  generalize V m c main_arg2 = Z
  blk_point [idx t]

/-- The kernel's operands are the arguments: the casts change nothing on the reals. -/
theorem entry_a (c : Dev nD) : (V m c main_v0 : FVec Ideal S8192x2048 .bf16) = m ((c : Thread nD τ).loc main_arg3) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V m c main_v1 : FVec Ideal S2x1024x2048 .bf16) = m ((c : Thread nD τ).loc main_arg1) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index. -/
theorem ref_apply (x1 : FVec Ideal Cert.LruDxRefIdeal.S2x1024x2048 .f32) (x2 : FVec Ideal Cert.LruDxRefIdeal.S8192x1024 .f32) (x3 : FVec Ideal Cert.LruDxRefIdeal.S8192x2048 .f32) (r : Fin 8192) (q : Fin 1024) :
    Cert.LruDxRefIdeal.Read.val_main_v8 (F := Ideal) x1 x2 x3 (ix2 r q) = Ideal.ofBits .f32 0x3FD744FD#32 * x2 (ix2 r q) + ∑ k : Fin 2048, x3 (ix2 r k) * x1 (ix3 (1 : Fin 2) q k) := by
  pointwise [Cert.LruDxRefIdeal.Read.val_main_v8, Cert.LruDxRefIdeal.Read.val_main_v7, Cert.LruDxRefIdeal.Read.val_main_v6, Cert.LruDxRefIdeal.Read.val_main_cst_0, Cert.LruDxRefIdeal.Read.val_main_v5, Cert.LruDxRefIdeal.Read.val_main_v3, Cert.LruDxRefIdeal.Read.val_main_v2]
  exact add_comm _ _

theorem final (c : Dev nD) : (dats m 0 c).arrAt 3 cfg0.N
    = Cert.LruDxRefIdeal.Read.val_main_v8 (F := Ideal) (m ((c : Thread nD τ).loc main_arg1)) (m ((c : Thread nD τ).loc main_arg2)) (m ((c : Thread nD τ).loc main_arg3)) := by
  refine (final_product m c).trans (funext fun i => ?_)
  obtain ⟨r, q, rfl⟩ : ∃ r q, i = ix2 r q := ⟨i 0, i 1, eq_ix2 i⟩
  rw [ref_apply, entry_a, entry_w, V_main_arg2]
  rfl

/-- The gradient of the recurrent mixer's input: the kernel's tiles of rows are the reference's whole product. -/
theorem claim : Cert.algebraic_LruDxIdeal_LruDxRefIdeal := by
  intro m g m' g' _ hagree
  refine ⟨fun c => (dats m 0 c).arrAt 3 cfg0.N, Cert.LruDxIdeal.Value.run_blocks m g, ?_⟩
  refine (θ_run _ _ _).mono (fun r h c => ⟨?_, (h c).2⟩) (Cert.LruDxRefIdeal.Value.run m' g')
  refine (h c).1.trans ?_
  refine (Cert.LruDxRefIdeal.Read.val_main_v8_eq _ _ _).trans ?_
  show _ = (dats m 0 c).arrAt 3 cfg0.N
  rw [final, (hagree c).2.1, (hagree c).2.2.1, (hagree c).2.2.2]

end Cert.LruDxIdeal.Math

end
-- ==== Proof.LruDxcClaim.lean ====
module

public import proofs.«01_k».proof.Defs
public import proofs.«01_k».proof.Proof.Gen.LruDxcIdeal.Value
public import proofs.«01_k».proof.Proof.Gen.LruDxcRefIdeal.Read
public import proofs.«01_k».proof.Proof.Gen.LruDxcRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LruDxcIdeal.Math

open Cert.LruDxcIdeal Cert.LruDxcIdeal.Gen

variable (m : (ℓ : Loc nD τ sig) → Buf (Elt Ideal) ℓ)

/-- The grid is 16 tiles of 512 rows by 4 diagonal blocks, the blocks fastest; the weight is layer 1's block. -/
theorem idx : ∀ t : Fin cfg0.N, win0_0.index t = ![t.val / 4, t.val % 4] ∧ win0_1.index t = ![1, t.val % 4, 0, 0] ∧
    win0_2.index t = ![t.val / 4, t.val % 4] ∧ win0_3.index t = ![t.val / 4, t.val % 4] :=
  (by decide +kernel : ∀ t : Fin grid0.N, _)

/-- One tile's product, added to the gradient that arrives directly. -/
theorem pay_apply (x : FVec Ideal S512x512 .bf16) (w : FVec Ideal S1x1x256x512 .bf16) (z : FVec Ideal S512x256 .f32) (j : S512x256.Idx) :
    k0_pay1 (F := Ideal) x w z j = ∑ k : Fin 512, x (ix2 (j 0) k) * w (ix4 (0 : Fin 1) (0 : Fin 1) (j 1) k) + z j := by
  pointwise [k0_pay1]

/-- Column `k` of the diagonal block that column `q` of the result lies in. -/
def colOf (q : Fin 1024) (k : Fin 512) : Fin 2048 := ⟨512 * (q.val / 256) + k.val, by omega⟩

def blkOf (q : Fin 1024) : Fin 4 := ⟨q.val / 256, by omega⟩

def inBlk (q : Fin 1024) : Fin 256 := ⟨q.val % 256, by omega⟩

/-- The rows of the operand times the weight's diagonal blocks, added to the gradient that arrives directly. -/
def product (A : FVec Ideal S8192x2048 .bf16) (B : FVec Ideal S2x4x256x512 .bf16) (Z : FVec Ideal S8192x1024 .f32) : FVec Ideal S8192x1024 .f32 :=
  fun i => ∑ k : Fin 512, A (ix2 (i 0) (colOf (i 1) k)) * B (ix4 (1 : Fin 2) (blkOf (i 1)) (inBlk (i 1)) k) + Z i

/-- The result array after the run. -/
theorem final_product (c : Dev nD) : (dats m 0 c).arrAt 3 cfg0.N = product (V m c main_v0) (V m c main_v1) (V m c main_arg2) := by
  refine (dats m 0 c).arrAt_eq_of_covers 3 _ (by decide +kernel) fun t hf y => ?_
  blk_simp
  rw [after0_3]
  frame_out
  rw [pay_apply]
  simp only [product, colOf, blkOf, inBlk]
  blk_simp [iblk]
  generalize V m c main_v0 = A
  generalize V m c main_v1 = B
  generalize V m c main_arg2 = Z
  blk_point [idx t]

/-- The kernel's operands are the arguments: the casts change nothing on the reals. -/
theorem entry_a (c : Dev nD) : (V m c main_v0 : FVec Ideal S8192x2048 .bf16) = m ((c : Thread nD τ).loc main_arg3) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V m c main_v1 : FVec Ideal S2x4x256x512 .bf16) = m ((c : Thread nD τ).loc main_arg1) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index. -/
theorem ref_apply (x1 : FVec Ideal Cert.LruDxcRefIdeal.S2x4x256x512 .f32) (x2 : FVec Ideal Cert.LruDxcRefIdeal.S8192x1024 .f32)
    (x3 : FVec Ideal Cert.LruDxcRefIdeal.S8192x2048 .f32) (r : Fin 8192) (q : Fin 1024) :
    Cert.LruDxcRefIdeal.Read.val_main_v11 (F := Ideal) x1 x2 x3 (ix2 r q)
      = ∑ k : Fin 512, x3 (ix2 r (colOf q k)) * x1 (ix4 (1 : Fin 2) (blkOf q) (inBlk q) k) + x2 (ix2 r q) := by
  rw [Cert.LruDxcRefIdeal.Read.val_main_v11_apply, Cert.LruDxcRefIdeal.Read.val_main_v10_apply, Cert.LruDxcRefIdeal.Read.val_main_v9_apply]
  refine (add_comm _ _).trans (congrArg₂ (· + ·) ((Cert.LruDxcRefIdeal.Read.val_main_v8_apply x1 x3 _).trans ?_) rfl)
  refine Fin.sum_fin_congr fun k => ?_
  rw [Cert.LruDxcRefIdeal.Read.val_main_v7_apply, Cert.LruDxcRefIdeal.Read.val_main_v6_apply, Cert.LruDxcRefIdeal.Read.val_main_v1_apply, Cert.LruDxcRefIdeal.Read.val_main_v0_apply]
  refine congrArg₂ (· * ·) (congrArg x3 (funext fun a => Fin.ext ?_)) (congrArg x1 (funext fun a => Fin.ext ?_))
  · match a with
    | ⟨0, _⟩ => show ((((r.val * 1024 + q.val) / 1024) * 4 + ((r.val * 1024 + q.val) / 256 % 4)) * 512 + k.val) / 2048 = r.val; omega
    | ⟨1, _⟩ => show ((((r.val * 1024 + q.val) / 1024) * 4 + ((r.val * 1024 + q.val) / 256 % 4)) * 512 + k.val) % 2048 = 512 * (q.val / 256) + k.val; omega
  · match a with
    | ⟨0, _⟩ => rfl
    | ⟨1, _⟩ => show ((((r.val * 1024 + q.val) / 256 % 4) * 256 + ((r.val * 1024 + q.val) % 256)) * 512 + k.val) / 131072 % 4 = q.val / 256; omega
    | ⟨2, _⟩ => show ((((r.val * 1024 + q.val) / 256 % 4) * 256 + ((r.val * 1024 + q.val) % 256)) * 512 + k.val) / 512 % 256 = q.val % 256; omega
    | ⟨3, _⟩ => show ((((r.val * 1024 + q.val) / 256 % 4) * 256 + ((r.val * 1024 + q.val) % 256)) * 512 + k.val) % 512 = k.val; omega

theorem final (c : Dev nD) : (dats m 0 c).arrAt 3 cfg0.N
    = Cert.LruDxcRefIdeal.Read.val_main_v11 (F := Ideal) (m ((c : Thread nD τ).loc main_arg1)) (m ((c : Thread nD τ).loc main_arg2)) (m ((c : Thread nD τ).loc main_arg3)) := by
  refine (final_product m c).trans (funext fun i => ?_)
  obtain ⟨r, q, rfl⟩ : ∃ r q, i = ix2 r q := ⟨i 0, i 1, eq_ix2 i⟩
  rw [ref_apply, entry_a, entry_w, V_main_arg2]
  rfl

/-- The gradient of the convolved input: the kernel's tiles of rows are the reference's whole product. -/
theorem claim : Cert.algebraic_LruDxcIdeal_LruDxcRefIdeal := by
  intro m g m' g' _ hagree
  refine ⟨fun c => (dats m 0 c).arrAt 3 cfg0.N, Cert.LruDxcIdeal.Value.run_blocks m g, ?_⟩
  refine (θ_run _ _ _).mono (fun r h c => ⟨?_, (h c).2⟩) (Cert.LruDxcRefIdeal.Value.run m' g')
  refine (h c).1.trans ?_
  refine (Cert.LruDxcRefIdeal.Read.val_main_v11_eq _ _ _).trans ?_
  show _ = (dats m 0 c).arrAt 3 cfg0.N
  rw [final, (hagree c).2.1, (hagree c).2.2.1, (hagree c).2.2.2]

end Cert.LruDxcIdeal.Math

end
-- ==== Proof.LruInClaim.lean ====
module

public import proofs.«01_k».proof.Defs
public import proofs.«01_k».proof.Proof.Gen.LruInIdeal.Value
public import proofs.«01_k».proof.Proof.Gen.LruInRefIdeal.Read
public import proofs.«01_k».proof.Proof.Gen.LruInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LruInIdeal.Math

open Cert.LruInIdeal Cert.LruInIdeal.Gen

variable (m : (ℓ : Loc nD τ sig) → Buf (Elt Ideal) ℓ)

/-- The grid is 16 tiles of 512 rows; the weight is layer 1, whole. -/
theorem idx : ∀ t : Fin cfg0.N, win0_0.index t = ![t.val, 0] ∧ win0_1.index t = ![1, 0, 0] ∧ win0_2.index t = ![t.val, 0] :=
  (by decide +kernel : ∀ t : Fin grid0.N, _)

/-- One tile's product. -/
theorem pay_apply (x : FVec Ideal S512x1024 .bf16) (w : FVec Ideal S1x1024x2048 .bf16) (j : S512x2048.Idx) :
    k0_pay1 (F := Ideal) x w j = ∑ k : Fin 1024, x (ix2 (j 0) k) * w (ix3 (0 : Fin 1) k (j 1)) := by
  pointwise [k0_pay1]

/-- The rows of the operand times the layer's weight. -/
def product (A : FVec Ideal S8192x1024 .bf16) (B : FVec Ideal S2x1024x2048 .bf16) : FVec Ideal S8192x2048 .f32 :=
  fun i => ∑ k : Fin 1024, A (ix2 (i 0) k) * B (ix3 (1 : Fin 2) k (i 1))

/-- The result array after the run. -/
theorem final_product (c : Dev nD) : (dats m 0 c).arrAt 2 cfg0.N = product (V m c main_v0) (V m c main_v1) := by
  refine (dats m 0 c).arrAt_eq_of_covers 2 _ (by decide +kernel) fun t hf y => ?_
  blk_simp
  rw [after0_2]
  frame_out
  rw [pay_apply]
  unfold product
  blk_simp [iblk]
  generalize V m c main_v0 = A
  generalize V m c main_v1 = B
  blk_point [idx t]

/-- The kernel's operands are the arguments: the casts change nothing on the reals. -/
theorem entry_a (c : Dev nD) : (V m c main_v0 : FVec Ideal S8192x1024 .bf16) = m ((c : Thread nD τ).loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V m c main_v1 : FVec Ideal S2x1024x2048 .bf16) = m ((c : Thread nD τ).loc main_arg1) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

/-- The reference's result at one index. -/
theorem ref_apply (x0 : FVec Ideal Cert.LruInRefIdeal.S8192x1024 .f32) (x1 : FVec Ideal Cert.LruInRefIdeal.S2x1024x2048 .f32) (r : Fin 8192) (q : Fin 2048) :
    Cert.LruInRefIdeal.Read.val_main_v2 (F := Ideal) x0 x1 (ix2 r q) = ∑ k : Fin 1024, x0 (ix2 r k) * x1 (ix3 (1 : Fin 2) k q) := by
  pointwise [Cert.LruInRefIdeal.Read.val_main_v2, Cert.LruInRefIdeal.Read.val_main_v1, Cert.LruInRefIdeal.Read.val_main_v0]

theorem final (c : Dev nD) : (dats m 0 c).arrAt 2 cfg0.N
    = Cert.LruInRefIdeal.Read.val_main_v2 (F := Ideal) (m ((c : Thread nD τ).loc main_arg0)) (m ((c : Thread nD τ).loc main_arg1)) := by
  refine (final_product m c).trans (funext fun i => ?_)
  obtain ⟨r, q, rfl⟩ : ∃ r q, i = ix2 r q := ⟨i 0, i 1, eq_ix2 i⟩
  rw [ref_apply, entry_a, entry_w]
  rfl

/-- The recurrent mixer's input product: the kernel's tiles of rows are the reference's whole product. -/
theorem claim : Cert.algebraic_LruInIdeal_LruInRefIdeal := by
  intro m g m' g' _ hagree
  refine ⟨fun c => (dats m 0 c).arrAt 2 cfg0.N, Cert.LruInIdeal.Value.run_blocks m g, ?_⟩
  refine (θ_run _ _ _).mono (fun r h c => ⟨?_, (h c).2⟩) (Cert.LruInRefIdeal.Value.run m' g')
  refine (h c).1.trans ?_
  refine (Cert.LruInRefIdeal.Read.val_main_v2_eq _ _).trans ?_
  show _ = (dats m 0 c).arrAt 2 cfg0.N
  rw [final, (hagree c).1, (hagree c).2]

end Cert.LruInIdeal.Math

end
-- ==== Proof.AdamWInClaim.lean ====
module

public import proofs.«01_k».proof.Defs
public import proofs.«01_k».proof.Proof.Gen.AdamWInIdeal.Value
public import proofs.«01_k».proof.Proof.Gen.AdamWInRefIdeal.Read
public import proofs.«01_k».proof.Proof.Gen.AdamWInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamWInIdeal.Math

open Cert.AdamWInIdeal Cert.AdamWInIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The gradient goes through as it is. -/
theorem final_g (c : Dev nD) : (dats m 0 c).arrAt 4 cfg0.N = V m c main_arg1 := by
  refine (dats m 0 c).arrAt_eq_of_covers 4 _ (by decide +kernel) fun t hf y => ?_
  blk_simp
  rw [after0_4]
  frame_out
  blk_simp [iblk]
  generalize V m c main_arg1 = A
  blk_point [idx t]

/-- One entry of the new first moment. -/
def mean1 (g n : EReal) : EReal := Ideal.ofBits .f32 0x3F666666#32 * n + Ideal.ofBits .f32 0x3DCCCCCD#32 * g

/-- One entry of the new second moment. -/
def mean2 (g v : EReal) : EReal := Ideal.ofBits .f32 0x3F7FBE77#32 * v + Ideal.ofBits .f32 0x3A83126F#32 * (g * g)

/-- One entry of the weight's step. -/
def step (w g n v : EReal) : EReal :=
  Ideal.ofBits .f32 0xBA83126F#32 * (Ideal.div (Ideal.div (mean1 g n) (Ideal.ofBits .f32 0x3F26BD02#32))
      (Ideal.sqrt (Ideal.div (mean2 g v) (Ideal.ofBits .f32 0x3C231ACC#32)) + Ideal.ofBits .f32 0x322BCC77#32)
    + Ideal.ofBits .f32 0x3C23D70A#32 * w)

theorem pay1_apply (g n : FVec Ideal S256x1408 .f32) (j : S256x1408.Idx) : k0_pay1 (F := Ideal) g n j = mean1 (g j) (n j) := by
  rfl

theorem pay2_apply (g v : FVec Ideal S256x1408 .f32) (j : S256x1408.Idx) : k0_pay2 (F := Ideal) g v j = mean2 (g j) (v j) := by
  rfl

theorem pay3_apply (w g n v : FVec Ideal S256x1408 .f32) (j : S256x1408.Idx) :
    k0_pay3 (F := Ideal) w g n v j = step (w j) (g j) (n j) (v j) := by
  rfl

theorem final_d (c : Dev nD) : (dats m 0 c).arrAt 5 cfg0.N
    = fun i => step (V m c main_arg0 i) (V m c main_arg1 i) (V m c main_arg2 i) (V m c main_arg3 i) := by
  refine (dats m 0 c).arrAt_eq_of_covers 5 _ (by decide +kernel) fun t hf y => ?_
  blk_simp
  rw [after0_5]
  frame_out
  rw [pay3_apply]
  blk_simp [iblk]
  generalize V m c main_arg0 = A
  generalize V m c main_arg1 = B
  generalize V m c main_arg2 = C
  generalize V m c main_arg3 = D
  blk_point [idx t]

theorem final_m (c : Dev nD) : (dats m 0 c).arrAt 6 cfg0.N = fun i => mean1 (V m c main_arg1 i) (V m c main_arg2 i) := by
  refine (dats m 0 c).arrAt_eq_of_covers 6 _ (by decide +kernel) fun t hf y => ?_
  blk_simp
  rw [after0_6]
  frame_out
  rw [pay1_apply]
  blk_simp [iblk]
  generalize V m c main_arg1 = B
  generalize V m c main_arg2 = C
  blk_point [idx t]

theorem final_v (c : Dev nD) : (dats m 0 c).arrAt 7 cfg0.N = fun i => mean2 (V m c main_arg1 i) (V m c main_arg3 i) := by
  refine (dats m 0 c).arrAt_eq_of_covers 7 _ (by decide +kernel) fun t hf y => ?_
  blk_simp
  rw [after0_7]
  frame_out
  rw [pay2_apply]
  blk_simp [iblk]
  generalize V m c main_arg1 = B
  generalize V m c main_arg3 = D
  blk_point [idx t]

/-- AdamW on a weight's block: the step and both moments are the reference's, entry by entry. -/
theorem claim : Cert.algebraic_AdamWInIdeal_AdamWInRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamWInIdeal.Value.run_blocks m g, ?_⟩
  refine (θ_run _ _ _).mono (fun r h c => ⟨?_, ?_, ?_, ?_, (h c).2.2.2.2⟩) (Cert.AdamWInRefIdeal.Value.run m' g')
  · refine ((h c).1).trans ?_
    show _ = (dats m 0 c).arrAt 4 cfg0.N
    rw [final_g, V_main_arg1]
    exact (hagree c).2.1
  · refine ((h c).2.1).trans ?_
    refine (Cert.AdamWInRefIdeal.Read.val_main_v23_eq _ _ _ _).trans ?_
    show _ = (dats m 0 c).arrAt 5 cfg0.N
    rw [final_d, V_main_arg0, V_main_arg1, V_main_arg2, V_main_arg3, (hagree c).1, (hagree c).2.1, (hagree c).2.2.1, (hagree c).2.2.2]
    rfl
  · refine ((h c).2.2.1).trans ?_
    refine (Cert.AdamWInRefIdeal.Read.val_main_v4_eq _ _).trans ?_
    show _ = (dats m 0 c).arrAt 6 cfg0.N
    rw [final_m, V_main_arg1, V_main_arg2, (hagree c).2.1, (hagree c).2.2.1]
    rfl
  · refine ((h c).2.2.2.1).trans ?_
    refine (Cert.AdamWInRefIdeal.Read.val_main_v10_eq _ _).trans ?_
    show _ = (dats m 0 c).arrAt 7 cfg0.N
    rw [final_v, V_main_arg1, V_main_arg3, (hagree c).2.1, (hagree c).2.2.2]
    rfl

end Cert.AdamWInIdeal.Math

end
-- ==== Proof.AdamWOutClaim.lean ====
module

public import proofs.«01_k».proof.Defs
public import proofs.«01_k».proof.Proof.Gen.AdamWOutIdeal.Value
public import proofs.«01_k».proof.Proof.Gen.AdamWOutRefIdeal.Read
public import proofs.«01_k».proof.Proof.Gen.AdamWOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamWOutIdeal.Math

open Cert.AdamWOutIdeal Cert.AdamWOutIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The gradient goes through as it is. -/
theorem final_g (c : Dev nD) : (dats m 0 c).arrAt 4 cfg0.N = V m c main_arg1 := by
  refine (dats m 0 c).arrAt_eq_of_covers 4 _ (by decide +kernel) fun t hf y => ?_
  blk_simp
  rw [after0_4]
  frame_out
  blk_simp [iblk]
  generalize V m c main_arg1 = A
  blk_point [idx t]

/-- One entry of the new first moment. -/
def mean1 (g n : EReal) : EReal := Ideal.ofBits .f32 0x3F666666#32 * n + Ideal.ofBits .f32 0x3DCCCCCD#32 * g

/-- One entry of the new second moment. -/
def mean2 (g v : EReal) : EReal := Ideal.ofBits .f32 0x3F7FBE77#32 * v + Ideal.ofBits .f32 0x3A83126F#32 * (g * g)

/-- One entry of the weight's step. -/
def step (w g n v : EReal) : EReal :=
  Ideal.ofBits .f32 0xBA83126F#32 * (Ideal.div (Ideal.div (mean1 g n) (Ideal.ofBits .f32 0x3F26BD02#32))
      (Ideal.sqrt (Ideal.div (mean2 g v) (Ideal.ofBits .f32 0x3C231ACC#32)) + Ideal.ofBits .f32 0x322BCC77#32)
    + Ideal.ofBits .f32 0x3C23D70A#32 * w)

theorem pay1_apply (g n : FVec Ideal S256x1024 .f32) (j : S256x1024.Idx) : k0_pay1 (F := Ideal) g n j = mean1 (g j) (n j) := by
  rfl

theorem pay2_apply (g v : FVec Ideal S256x1024 .f32) (j : S256x1024.Idx) : k0_pay2 (F := Ideal) g v j = mean2 (g j) (v j) := by
  rfl

theorem pay3_apply (w g n v : FVec Ideal S256x1024 .f32) (j : S256x1024.Idx) :
    k0_pay3 (F := Ideal) w g n v j = step (w j) (g j) (n j) (v j) := by
  rfl

theorem final_d (c : Dev nD) : (dats m 0 c).arrAt 5 cfg0.N
    = fun i => step (V m c main_arg0 i) (V m c main_arg1 i) (V m c main_arg2 i) (V m c main_arg3 i) := by
  refine (dats m 0 c).arrAt_eq_of_covers 5 _ (by decide +kernel) fun t hf y => ?_
  blk_simp
  rw [after0_5]
  frame_out
  rw [pay3_apply]
  blk_simp [iblk]
  generalize V m c main_arg0 = A
  generalize V m c main_arg1 = B
  generalize V m c main_arg2 = C
  generalize V m c main_arg3 = D
  blk_point [idx t]

theorem final_m (c : Dev nD) : (dats m 0 c).arrAt 6 cfg0.N = fun i => mean1 (V m c main_arg1 i) (V m c main_arg2 i) := by
  refine (dats m 0 c).arrAt_eq_of_covers 6 _ (by decide +kernel) fun t hf y => ?_
  blk_simp
  rw [after0_6]
  frame_out
  rw [pay1_apply]
  blk_simp [iblk]
  generalize V m c main_arg1 = B
  generalize V m c main_arg2 = C
  blk_point [idx t]

theorem final_v (c : Dev nD) : (dats m 0 c).arrAt 7 cfg0.N = fun i => mean2 (V m c main_arg1 i) (V m c main_arg3 i) := by
  refine (dats m 0 c).arrAt_eq_of_covers 7 _ (by decide +kernel) fun t hf y => ?_
  blk_simp
  rw [after0_7]
  frame_out
  rw [pay2_apply]
  blk_simp [iblk]
  generalize V m c main_arg1 = B
  generalize V m c main_arg3 = D
  blk_point [idx t]

/-- AdamW on a weight's block: the step and both moments are the reference's, entry by entry. -/
theorem claim : Cert.algebraic_AdamWOutIdeal_AdamWOutRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamWOutIdeal.Value.run_blocks m g, ?_⟩
  refine (θ_run _ _ _).mono (fun r h c => ⟨?_, ?_, ?_, ?_, (h c).2.2.2.2⟩) (Cert.AdamWOutRefIdeal.Value.run m' g')
  · refine ((h c).1).trans ?_
    show _ = (dats m 0 c).arrAt 4 cfg0.N
    rw [final_g, V_main_arg1]
    exact (hagree c).2.1
  · refine ((h c).2.1).trans ?_
    refine (Cert.AdamWOutRefIdeal.Read.val_main_v23_eq _ _ _ _).trans ?_
    show _ = (dats m 0 c).arrAt 5 cfg0.N
    rw [final_d, V_main_arg0, V_main_arg1, V_main_arg2, V_main_arg3, (hagree c).1, (hagree c).2.1, (hagree c).2.2.1, (hagree c).2.2.2]
    rfl
  · refine ((h c).2.2.1).trans ?_
    refine (Cert.AdamWOutRefIdeal.Read.val_main_v4_eq _ _).trans ?_
    show _ = (dats m 0 c).arrAt 6 cfg0.N
    rw [final_m, V_main_arg1, V_main_arg2, (hagree c).2.1, (hagree c).2.2.1]
    rfl
  · refine ((h c).2.2.2.1).trans ?_
    refine (Cert.AdamWOutRefIdeal.Read.val_main_v10_eq _ _).trans ?_
    show _ = (dats m 0 c).arrAt 7 cfg0.N
    rw [final_v, V_main_arg1, V_main_arg3, (hagree c).2.1, (hagree c).2.2.2]
    rfl

end Cert.AdamWOutIdeal.Math

end
-- ==== Proof.AdamQkvClaim.lean ====
module

public import proofs.«01_k».proof.Defs
public import proofs.«01_k».proof.Proof.Gen.AdamQkvIdeal.Value
public import proofs.«01_k».proof.Proof.Gen.AdamQkvRefIdeal.Read
public import proofs.«01_k».proof.Proof.Gen.AdamQkvRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamQkvIdeal.Math

open Cert.AdamQkvIdeal Cert.AdamQkvIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The gradient goes through as it is. -/
theorem final_g (c : Dev nD) : (dats m 0 c).arrAt 4 cfg0.N = V m c main_arg1 := by
  refine (dats m 0 c).arrAt_eq_of_covers 4 _ (by decide +kernel) fun t hf y => ?_
  blk_simp
  rw [after0_4]
  frame_out
  blk_simp [iblk]
  generalize V m c main_arg1 = A
  blk_point [idx t]

/-- One entry of the new first moment. -/
def mean1 (g n : EReal) : EReal := Ideal.ofBits .f32 0x3F666666#32 * n + Ideal.ofBits .f32 0x3DCCCCCD#32 * g

/-- One entry of the new second moment. -/
def mean2 (g v : EReal) : EReal := Ideal.ofBits .f32 0x3F7FBE77#32 * v + Ideal.ofBits .f32 0x3A83126F#32 * (g * g)

/-- One entry of the weight's step. -/
def step (w g n v : EReal) : EReal :=
  Ideal.ofBits .f32 0xBA83126F#32 * (Ideal.div (Ideal.div (mean1 g n) (Ideal.ofBits .f32 0x3F26BD02#32))
      (Ideal.sqrt (Ideal.div (mean2 g v) (Ideal.ofBits .f32 0x3C231ACC#32)) + Ideal.ofBits .f32 0x322BCC77#32)
    + Ideal.ofBits .f32 0x3C23D70A#32 * w)

theorem pay1_apply (g n : FVec Ideal S256x384 .f32) (j : S256x384.Idx) : k0_pay1 (F := Ideal) g n j = mean1 (g j) (n j) := by
  rfl

theorem pay2_apply (g v : FVec Ideal S256x384 .f32) (j : S256x384.Idx) : k0_pay2 (F := Ideal) g v j = mean2 (g j) (v j) := by
  rfl

theorem pay3_apply (w g n v : FVec Ideal S256x384 .f32) (j : S256x384.Idx) :
    k0_pay3 (F := Ideal) w g n v j = step (w j) (g j) (n j) (v j) := by
  rfl

theorem final_d (c : Dev nD) : (dats m 0 c).arrAt 5 cfg0.N
    = fun i => step (V m c main_arg0 i) (V m c main_arg1 i) (V m c main_arg2 i) (V m c main_arg3 i) := by
  refine (dats m 0 c).arrAt_eq_of_covers 5 _ (by decide +kernel) fun t hf y => ?_
  blk_simp
  rw [after0_5]
  frame_out
  rw [pay3_apply]
  blk_simp [iblk]
  generalize V m c main_arg0 = A
  generalize V m c main_arg1 = B
  generalize V m c main_arg2 = C
  generalize V m c main_arg3 = D
  blk_point [idx t]

theorem final_m (c : Dev nD) : (dats m 0 c).arrAt 6 cfg0.N = fun i => mean1 (V m c main_arg1 i) (V m c main_arg2 i) := by
  refine (dats m 0 c).arrAt_eq_of_covers 6 _ (by decide +kernel) fun t hf y => ?_
  blk_simp
  rw [after0_6]
  frame_out
  rw [pay1_apply]
  blk_simp [iblk]
  generalize V m c main_arg1 = B
  generalize V m c main_arg2 = C
  blk_point [idx t]

theorem final_v (c : Dev nD) : (dats m 0 c).arrAt 7 cfg0.N = fun i => mean2 (V m c main_arg1 i) (V m c main_arg3 i) := by
  refine (dats m 0 c).arrAt_eq_of_covers 7 _ (by decide +kernel) fun t hf y => ?_
  blk_simp
  rw [after0_7]
  frame_out
  rw [pay2_apply]
  blk_simp [iblk]
  generalize V m c main_arg1 = B
  generalize V m c main_arg3 = D
  blk_point [idx t]

/-- AdamW on a weight's block: the step and both moments are the reference's, entry by entry. -/
theorem claim : Cert.algebraic_AdamQkvIdeal_AdamQkvRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamQkvIdeal.Value.run_blocks m g, ?_⟩
  refine (θ_run _ _ _).mono (fun r h c => ⟨?_, ?_, ?_, ?_, (h c).2.2.2.2⟩) (Cert.AdamQkvRefIdeal.Value.run m' g')
  · refine ((h c).1).trans ?_
    show _ = (dats m 0 c).arrAt 4 cfg0.N
    rw [final_g, V_main_arg1]
    exact (hagree c).2.1
  · refine ((h c).2.1).trans ?_
    refine (Cert.AdamQkvRefIdeal.Read.val_main_v23_eq _ _ _ _).trans ?_
    show _ = (dats m 0 c).arrAt 5 cfg0.N
    rw [final_d, V_main_arg0, V_main_arg1, V_main_arg2, V_main_arg3, (hagree c).1, (hagree c).2.1, (hagree c).2.2.1, (hagree c).2.2.2]
    rfl
  · refine ((h c).2.2.1).trans ?_
    refine (Cert.AdamQkvRefIdeal.Read.val_main_v4_eq _ _).trans ?_
    show _ = (dats m 0 c).arrAt 6 cfg0.N
    rw [final_m, V_main_arg1, V_main_arg2, (hagree c).2.1, (hagree c).2.2.1]
    rfl
  · refine ((h c).2.2.2.1).trans ?_
    refine (Cert.AdamQkvRefIdeal.Read.val_main_v10_eq _ _).trans ?_
    show _ = (dats m 0 c).arrAt 7 cfg0.N
    rw [final_v, V_main_arg1, V_main_arg3, (hagree c).2.1, (hagree c).2.2.2]
    rfl

end Cert.AdamQkvIdeal.Math

end
-- ==== Proof.AdamSqClaim.lean ====
module

public import proofs.«01_k».proof.Defs
public import proofs.«01_k».proof.Proof.Gen.AdamSqIdeal.Value
public import proofs.«01_k».proof.Proof.Gen.AdamSqRefIdeal.Read
public import proofs.«01_k».proof.Proof.Gen.AdamSqRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamSqIdeal.Math

open Cert.AdamSqIdeal Cert.AdamSqIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The gradient goes through as it is. -/
theorem final_g (c : Dev nD) : (dats m 0 c).arrAt 4 cfg0.N = V m c main_arg1 := by
  refine (dats m 0 c).arrAt_eq_of_covers 4 _ (by decide +kernel) fun t hf y => ?_
  blk_simp
  rw [after0_4]
  frame_out
  blk_simp [iblk]
  generalize V m c main_arg1 = A
  blk_point [idx t]

/-- One entry of the new first moment. -/
def mean1 (g n : EReal) : EReal := Ideal.ofBits .f32 0x3F666666#32 * n + Ideal.ofBits .f32 0x3DCCCCCD#32 * g

/-- One entry of the new second moment. -/
def mean2 (g v : EReal) : EReal := Ideal.ofBits .f32 0x3F7FBE77#32 * v + Ideal.ofBits .f32 0x3A83126F#32 * (g * g)

/-- One entry of the weight's step. -/
def step (w g n v : EReal) : EReal :=
  Ideal.ofBits .f32 0xBA83126F#32 * (Ideal.div (Ideal.div (mean1 g n) (Ideal.ofBits .f32 0x3F26BD02#32))
      (Ideal.sqrt (Ideal.div (mean2 g v) (Ideal.ofBits .f32 0x3C231ACC#32)) + Ideal.ofBits .f32 0x322BCC77#32)
    + Ideal.ofBits .f32 0x3C23D70A#32 * w)

theorem pay1_apply (g n : FVec Ideal S256x1024 .f32) (j : S256x1024.Idx) : k0_pay1 (F := Ideal) g n j = mean1 (g j) (n j) := by
  rfl

theorem pay2_apply (g v : FVec Ideal S256x1024 .f32) (j : S256x1024.Idx) : k0_pay2 (F := Ideal) g v j = mean2 (g j) (v j) := by
  rfl

theorem pay3_apply (w g n v : FVec Ideal S256x1024 .f32) (j : S256x1024.Idx) :
    k0_pay3 (F := Ideal) w g n v j = step (w j) (g j) (n j) (v j) := by
  rfl

theorem final_d (c : Dev nD) : (dats m 0 c).arrAt 5 cfg0.N
    = fun i => step (V m c main_arg0 i) (V m c main_arg1 i) (V m c main_arg2 i) (V m c main_arg3 i) := by
  refine (dats m 0 c).arrAt_eq_of_covers 5 _ (by decide +kernel) fun t hf y => ?_
  blk_simp
  rw [after0_5]
  frame_out
  rw [pay3_apply]
  blk_simp [iblk]
  generalize V m c main_arg0 = A
  generalize V m c main_arg1 = B
  generalize V m c main_arg2 = C
  generalize V m c main_arg3 = D
  blk_point [idx t]

theorem final_m (c : Dev nD) : (dats m 0 c).arrAt 6 cfg0.N = fun i => mean1 (V m c main_arg1 i) (V m c main_arg2 i) := by
  refine (dats m 0 c).arrAt_eq_of_covers 6 _ (by decide +kernel) fun t hf y => ?_
  blk_simp
  rw [after0_6]
  frame_out
  rw [pay1_apply]
  blk_simp [iblk]
  generalize V m c main_arg1 = B
  generalize V m c main_arg2 = C
  blk_point [idx t]

theorem final_v (c : Dev nD) : (dats m 0 c).arrAt 7 cfg0.N = fun i => mean2 (V m c main_arg1 i) (V m c main_arg3 i) := by
  refine (dats m 0 c).arrAt_eq_of_covers 7 _ (by decide +kernel) fun t hf y => ?_
  blk_simp
  rw [after0_7]
  frame_out
  rw [pay2_apply]
  blk_simp [iblk]
  generalize V m c main_arg1 = B
  generalize V m c main_arg3 = D
  blk_point [idx t]

/-- AdamW on a weight's block: the step and both moments are the reference's, entry by entry. -/
theorem claim : Cert.algebraic_AdamSqIdeal_AdamSqRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamSqIdeal.Value.run_blocks m g, ?_⟩
  refine (θ_run _ _ _).mono (fun r h c => ⟨?_, ?_, ?_, ?_, (h c).2.2.2.2⟩) (Cert.AdamSqRefIdeal.Value.run m' g')
  · refine ((h c).1).trans ?_
    show _ = (dats m 0 c).arrAt 4 cfg0.N
    rw [final_g, V_main_arg1]
    exact (hagree c).2.1
  · refine ((h c).2.1).trans ?_
    refine (Cert.AdamSqRefIdeal.Read.val_main_v23_eq _ _ _ _).trans ?_
    show _ = (dats m 0 c).arrAt 5 cfg0.N
    rw [final_d, V_main_arg0, V_main_arg1, V_main_arg2, V_main_arg3, (hagree c).1, (hagree c).2.1, (hagree c).2.2.1, (hagree c).2.2.2]
    rfl
  · refine ((h c).2.2.1).trans ?_
    refine (Cert.AdamSqRefIdeal.Read.val_main_v4_eq _ _).trans ?_
    show _ = (dats m 0 c).arrAt 6 cfg0.N
    rw [final_m, V_main_arg1, V_main_arg2, (hagree c).2.1, (hagree c).2.2.1]
    rfl
  · refine ((h c).2.2.2.1).trans ?_
    refine (Cert.AdamSqRefIdeal.Read.val_main_v10_eq _ _).trans ?_
    show _ = (dats m 0 c).arrAt 7 cfg0.N
    rw [final_v, V_main_arg1, V_main_arg3, (hagree c).2.1, (hagree c).2.2.2]
    rfl

end Cert.AdamSqIdeal.Math

end
-- ==== Proof.AdamLinClaim.lean ====
module

public import proofs.«01_k».proof.Defs
public import proofs.«01_k».proof.Proof.Gen.AdamLinIdeal.Value
public import proofs.«01_k».proof.Proof.Gen.AdamLinRefIdeal.Read
public import proofs.«01_k».proof.Proof.Gen.AdamLinRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamLinIdeal.Math

open Cert.AdamLinIdeal Cert.AdamLinIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The gradient goes through as it is. -/
theorem final_g (c : Dev nD) : (dats m 0 c).arrAt 4 cfg0.N = V m c main_arg1 := by
  refine (dats m 0 c).arrAt_eq_of_covers 4 _ (by decide +kernel) fun t hf y => ?_
  blk_simp
  rw [after0_4]
  frame_out
  blk_simp [iblk]
  generalize V m c main_arg1 = A
  blk_point [idx t]

/-- One entry of the new first moment. -/
def mean1 (g n : EReal) : EReal := Ideal.ofBits .f32 0x3F666666#32 * n + Ideal.ofBits .f32 0x3DCCCCCD#32 * g

/-- One entry of the new second moment. -/
def mean2 (g v : EReal) : EReal := Ideal.ofBits .f32 0x3F7FBE77#32 * v + Ideal.ofBits .f32 0x3A83126F#32 * (g * g)

/-- One entry of the weight's step. -/
def step (w g n v : EReal) : EReal :=
  Ideal.ofBits .f32 0xBA83126F#32 * (Ideal.div (Ideal.div (mean1 g n) (Ideal.ofBits .f32 0x3F26BD02#32))
      (Ideal.sqrt (Ideal.div (mean2 g v) (Ideal.ofBits .f32 0x3C231ACC#32)) + Ideal.ofBits .f32 0x322BCC77#32)
    + Ideal.ofBits .f32 0x3C23D70A#32 * w)

theorem pay1_apply (g n : FVec Ideal S256x512 .f32) (j : S256x512.Idx) : k0_pay1 (F := Ideal) g n j = mean1 (g j) (n j) := by
  rfl

theorem pay2_apply (g v : FVec Ideal S256x512 .f32) (j : S256x512.Idx) : k0_pay2 (F := Ideal) g v j = mean2 (g j) (v j) := by
  rfl

theorem pay3_apply (w g n v : FVec Ideal S256x512 .f32) (j : S256x512.Idx) :
    k0_pay3 (F := Ideal) w g n v j = step (w j) (g j) (n j) (v j) := by
  rfl

theorem final_d (c : Dev nD) : (dats m 0 c).arrAt 5 cfg0.N
    = fun i => step (V m c main_arg0 i) (V m c main_arg1 i) (V m c main_arg2 i) (V m c main_arg3 i) := by
  refine (dats m 0 c).arrAt_eq_of_covers 5 _ (by decide +kernel) fun t hf y => ?_
  blk_simp
  rw [after0_5]
  frame_out
  rw [pay3_apply]
  blk_simp [iblk]
  generalize V m c main_arg0 = A
  generalize V m c main_arg1 = B
  generalize V m c main_arg2 = C
  generalize V m c main_arg3 = D
  blk_point [idx t]

theorem final_m (c : Dev nD) : (dats m 0 c).arrAt 6 cfg0.N = fun i => mean1 (V m c main_arg1 i) (V m c main_arg2 i) := by
  refine (dats m 0 c).arrAt_eq_of_covers 6 _ (by decide +kernel) fun t hf y => ?_
  blk_simp
  rw [after0_6]
  frame_out
  rw [pay1_apply]
  blk_simp [iblk]
  generalize V m c main_arg1 = B
  generalize V m c main_arg2 = C
  blk_point [idx t]

theorem final_v (c : Dev nD) : (dats m 0 c).arrAt 7 cfg0.N = fun i => mean2 (V m c main_arg1 i) (V m c main_arg3 i) := by
  refine (dats m 0 c).arrAt_eq_of_covers 7 _ (by decide +kernel) fun t hf y => ?_
  blk_simp
  rw [after0_7]
  frame_out
  rw [pay2_apply]
  blk_simp [iblk]
  generalize V m c main_arg1 = B
  generalize V m c main_arg3 = D
  blk_point [idx t]

/-- AdamW on a weight's block: the step and both moments are the reference's, entry by entry. -/
theorem claim : Cert.algebraic_AdamLinIdeal_AdamLinRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamLinIdeal.Value.run_blocks m g, ?_⟩
  refine (θ_run _ _ _).mono (fun r h c => ⟨?_, ?_, ?_, ?_, (h c).2.2.2.2⟩) (Cert.AdamLinRefIdeal.Value.run m' g')
  · refine ((h c).1).trans ?_
    show _ = (dats m 0 c).arrAt 4 cfg0.N
    rw [final_g, V_main_arg1]
    exact (hagree c).2.1
  · refine ((h c).2.1).trans ?_
    refine (Cert.AdamLinRefIdeal.Read.val_main_v23_eq _ _ _ _).trans ?_
    show _ = (dats m 0 c).arrAt 5 cfg0.N
    rw [final_d, V_main_arg0, V_main_arg1, V_main_arg2, V_main_arg3, (hagree c).1, (hagree c).2.1, (hagree c).2.2.1, (hagree c).2.2.2]
    rfl
  · refine ((h c).2.2.1).trans ?_
    refine (Cert.AdamLinRefIdeal.Read.val_main_v4_eq _ _).trans ?_
    show _ = (dats m 0 c).arrAt 6 cfg0.N
    rw [final_m, V_main_arg1, V_main_arg2, (hagree c).2.1, (hagree c).2.2.1]
    rfl
  · refine ((h c).2.2.2.1).trans ?_
    refine (Cert.AdamLinRefIdeal.Read.val_main_v10_eq _ _).trans ?_
    show _ = (dats m 0 c).arrAt 7 cfg0.N
    rw [final_v, V_main_arg1, V_main_arg3, (hagree c).2.1, (hagree c).2.2.2]
    rfl

end Cert.AdamLinIdeal.Math

end
-- ==== Proof.AdamGatesClaim.lean ====
module

public import proofs.«01_k».proof.Defs
public import proofs.«01_k».proof.Proof.Gen.AdamGatesIdeal.Value
public import proofs.«01_k».proof.Proof.Gen.AdamGatesRefIdeal.Read
public import proofs.«01_k».proof.Proof.Gen.AdamGatesRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamGatesIdeal.Math

open Cert.AdamGatesIdeal Cert.AdamGatesIdeal.Gen

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] :=
  (by decide +kernel : ∀ t : Fin grid0.N, _)

/-- The gradient goes through as it is. -/
theorem final_g (c : Dev nD) : (dats m 0 c).arrAt 4 cfg0.N = V m c main_arg1 := by
  refine (dats m 0 c).arrAt_eq_of_covers 4 _ (by decide +kernel) fun t hf y => ?_
  blk_simp
  rw [after0_4]
  frame_out
  blk_simp [iblk]
  generalize V m c main_arg1 = A
  blk_point [idx t]

/-- One entry of the new first moment. -/
def mean1 (g n : EReal) : EReal := Ideal.ofBits .f32 0x3F666666#32 * n + Ideal.ofBits .f32 0x3DCCCCCD#32 * g

/-- One entry of the new second moment. -/
def mean2 (g v : EReal) : EReal := Ideal.ofBits .f32 0x3F7FBE77#32 * v + Ideal.ofBits .f32 0x3A83126F#32 * (g * g)

/-- One entry of the weight's step. -/
def step (w g n v : EReal) : EReal :=
  Ideal.ofBits .f32 0xBA83126F#32 * (Ideal.div (Ideal.div (mean1 g n) (Ideal.ofBits .f32 0x3F26BD02#32))
      (Ideal.sqrt (Ideal.div (mean2 g v) (Ideal.ofBits .f32 0x3C231ACC#32)) + Ideal.ofBits .f32 0x322BCC77#32)
    + Ideal.ofBits .f32 0x3C23D70A#32 * w)

theorem pay1_apply (g n : FVec Ideal S256x256 .f32) (j : S256x256.Idx) : k0_pay1 (F := Ideal) g n j = mean1 (g j) (n j) := by
  rfl

theorem pay2_apply (g v : FVec Ideal S256x256 .f32) (j : S256x256.Idx) : k0_pay2 (F := Ideal) g v j = mean2 (g j) (v j) := by
  rfl

theorem pay3_apply (w g n v : FVec Ideal S256x256 .f32) (j : S256x256.Idx) :
    k0_pay3 (F := Ideal) w g n v j = step (w j) (g j) (n j) (v j) := by
  rfl

theorem final_d (c : Dev nD) : (dats m 0 c).arrAt 5 cfg0.N
    = fun i => step (V m c main_arg0 i) (V m c main_arg1 i) (V m c main_arg2 i) (V m c main_arg3 i) := by
  refine (dats m 0 c).arrAt_eq_of_covers 5 _ (by decide +kernel) fun t hf y => ?_
  blk_simp
  rw [after0_5]
  frame_out
  rw [pay3_apply]
  blk_simp [iblk]
  generalize V m c main_arg0 = A
  generalize V m c main_arg1 = B
  generalize V m c main_arg2 = C
  generalize V m c main_arg3 = D
  blk_point [idx t]

theorem final_m (c : Dev nD) : (dats m 0 c).arrAt 6 cfg0.N = fun i => mean1 (V m c main_arg1 i) (V m c main_arg2 i) := by
  refine (dats m 0 c).arrAt_eq_of_covers 6 _ (by decide +kernel) fun t hf y => ?_
  blk_simp
  rw [after0_6]
  frame_out
  rw [pay1_apply]
  blk_simp [iblk]
  generalize V m c main_arg1 = B
  generalize V m c main_arg2 = C
  blk_point [idx t]

theorem final_v (c : Dev nD) : (dats m 0 c).arrAt 7 cfg0.N = fun i => mean2 (V m c main_arg1 i) (V m c main_arg3 i) := by
  refine (dats m 0 c).arrAt_eq_of_covers 7 _ (by decide +kernel) fun t hf y => ?_
  blk_simp
  rw [after0_7]
  frame_out
  rw [pay2_apply]
  blk_simp [iblk]
  generalize V m c main_arg1 = B
  generalize V m c main_arg3 = D
  blk_point [idx t]

/-- AdamW on a weight's block: the step and both moments are the reference's, entry by entry. -/
theorem claim : Cert.algebraic_AdamGatesIdeal_AdamGatesRefIdeal := by
  intro m g m' g' _ hagree
  refine ⟨fun c => (dats m 0 c).arrAt 4 cfg0.N, fun c => (dats m 0 c).arrAt 5 cfg0.N, fun c => (dats m 0 c).arrAt 6 cfg0.N,
    fun c => (dats m 0 c).arrAt 7 cfg0.N, Cert.AdamGatesIdeal.Value.run_blocks m g, ?_⟩
  refine (θ_run _ _ _).mono (fun r h c => ⟨?_, ?_, ?_, ?_, (h c).2.2.2.2⟩) (Cert.AdamGatesRefIdeal.Value.run m' g')
  · refine ((h c).1).trans ?_
    show _ = (dats m 0 c).arrAt 4 cfg0.N
    rw [final_g, V_main_arg1]
    exact (hagree c).2.1
  · refine ((h c).2.1).trans ?_
    refine (Cert.AdamGatesRefIdeal.Read.val_main_v23_eq _ _ _ _).trans ?_
    show _ = (dats m 0 c).arrAt 5 cfg0.N
    rw [final_d, V_main_arg0, V_main_arg1, V_main_arg2, V_main_arg3, (hagree c).1, (hagree c).2.1, (hagree c).2.2.1, (hagree c).2.2.2]
    rfl
  · refine ((h c).2.2.1).trans ?_
    refine (Cert.AdamGatesRefIdeal.Read.val_main_v4_eq _ _).trans ?_
    show _ = (dats m 0 c).arrAt 6 cfg0.N
    rw [final_m, V_main_arg1, V_main_arg2, (hagree c).2.1, (hagree c).2.2.1]
    rfl
  · refine ((h c).2.2.2.1).trans ?_
    refine (Cert.AdamGatesRefIdeal.Read.val_main_v10_eq _ _).trans ?_
    show _ = (dats m 0 c).arrAt 7 cfg0.N
    rw [final_v, V_main_arg1, V_main_arg3, (hagree c).2.1, (hagree c).2.2.2]
    rfl

end Cert.AdamGatesIdeal.Math

end
-- ==== Proof.AttnFwdClaim.lean ====
module

public import proofs.«01_k».proof.Defs
public import proofs.«01_k».proof.Proof.Gen.AttnFwdIdeal.Value
public import proofs.«01_k».proof.Proof.Gen.AttnFwdRefIdeal.Read
public import proofs.«01_k».proof.Proof.Gen.AttnFwdRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnFwdIdeal.Math

open Cert.AttnFwdIdeal Cert.AttnFwdIdeal.Gen

/-! ## The softmax with a sink -/

/-- The greatest of a row's scores and its sink. -/
def peak (s : Fin 256 → EReal) (z : EReal) : EReal := max (Finset.univ.fold max ⊥ s) z

/-- The sum the weights are divided by: every score's exponential and the sink's. -/
def denom (s : Fin 256 → EReal) (z : EReal) : EReal := (∑ j, Ideal.exp (s j - peak s z)) + Ideal.exp (z - peak s z)

/-- The softmax of the scores and the sink, weighing the values. -/
def att (s : Fin 256 → EReal) (z : EReal) (v : Fin 256 → EReal) : EReal :=
  ∑ j, Ideal.div (Ideal.exp (s j - peak s z)) (denom s z) * v j

/-- The exponential is never negative. -/
theorem exp_nonneg (x : EReal) : 0 ≤ Ideal.exp x := by
  induction x using EReal.rec with
  | bot => exact le_of_eq rfl
  | top => exact le_top
  | coe x => exact EReal.coe_nonneg.mpr (Real.exp_pos x).le

/-- A sum of infinities of one sign and zeros is its own double. -/
theorem sum_bot_double (v : Fin 128 → EReal) : (∑ j, ⊥ * v j) + (∑ j, ⊥ * v j) = ∑ j, (⊥ : EReal) * v j := by
  rw [← Finset.sum_add_distrib]
  refine Finset.sum_congr rfl fun j _ => ?_
  generalize v j = x
  rcases lt_trichotomy x 0 with h | h | h
  · rw [EReal.bot_mul_of_neg h]; rfl
  · rw [h, mul_zero, add_zero]
  · rw [EReal.bot_mul_of_pos h]; rfl

/-- A sum over the 256 columns is the sum over the first 128 and the sum over the last. -/
theorem sum_halves (f : Fin 256 → EReal) :
    ∑ j, f j = (∑ j : Fin 128, f ⟨j.val, by omega⟩) + ∑ j : Fin 128, f ⟨128 + j.val, by omega⟩ :=
  Fin.sum_univ_add (a := 128) (b := 128) f

/-- Where the first 128 scores are masked, the values under them do not matter, if they repeat the others: a masked
    score weighs nothing, unless every weight is zero over zero, and then the repeated sum is the sum. -/
theorem att_first (s : Fin 256 → EReal) (z : EReal) (v v' : Fin 256 → EReal)
    (hs : ∀ j : Fin 256, j.val < 128 → s j = ⊥)
    (hv : ∀ j : Fin 128, v ⟨j.val, by omega⟩ = v ⟨128 + j.val, by omega⟩)
    (h0 : ∀ j : Fin 128, v' ⟨j.val, by omega⟩ = 0)
    (h1 : ∀ j : Fin 128, v' ⟨128 + j.val, by omega⟩ = v ⟨128 + j.val, by omega⟩) : att s z v = att s z v' := by
  unfold att
  rw [sum_halves, sum_halves]
  simp only [h0, h1, hv, mul_zero, Finset.sum_const_zero, zero_add]
  by_cases hd : denom s z = 0
  · have hz := (add_eq_zero_iff_of_nonneg (Finset.sum_nonneg fun j _ => exp_nonneg (s j - peak s z)) (exp_nonneg (z - peak s z))).mp hd
    have he := (Finset.sum_eq_zero_iff_of_nonneg fun j _ => exp_nonneg (s j - peak s z)).mp hz.1
    have hw : ∀ j, Ideal.div (Ideal.exp (s j - peak s z)) (denom s z) = ⊥ := fun j => by
      rw [he j (Finset.mem_univ _), hd]; simp [Ideal.div]
    simp only [hw]
    exact sum_bot_double _
  · have hw : ∀ j : Fin 128, Ideal.div (Ideal.exp (s ⟨j.val, by omega⟩ - peak s z)) (denom s z) = 0 := fun j => by
      rw [hs _ j.isLt, EReal.bot_sub, show Ideal.exp ⊥ = 0 from rfl]; simp [Ideal.div, hd]
    simp only [hw, zero_mul, Finset.sum_const_zero, zero_add]

/-- A real scale taken out of the products. -/
theorem scale_out {n : ℕ} (c : EReal) (h0 : 0 ≤ c) (ht : c ≠ ⊤) (x y : Fin n → EReal) :
    ∑ k, (x k * c) * y k = (∑ k, y k * x k) * c := by
  have : ∀ S : Finset (Fin n), ∑ k ∈ S, (x k * c) * y k = (∑ k ∈ S, y k * x k) * c := fun S => by
    classical
    induction S using Finset.induction_on with
    | empty => simp
    | insert a S ha ih =>
      rw [Finset.sum_insert ha, Finset.sum_insert ha, ih, EReal.right_distrib_of_nonneg_of_ne_top h0 ht]
      congr 1
      rw [mul_comm (y a), mul_assoc, mul_assoc, mul_comm c]
  exact this Finset.univ

/-- One head's weighted values, of its scores, its sinks and its value columns. -/
def soft (v : FVec Ideal S256x64 .bf16) (sk : FVec Ideal S512x1 .f32) (s : FVec Ideal S512x256 .f32) : FVec Ideal S512x64 .f32 :=
  have v82 : FVec Ideal S512 .f32 := multiReduction .maximumf [1] S512 s 0xFF800000#32 reduces_S512x256_S512 (.inl rfl) rfl
  have v83 : FVec Ideal S512x1 .f32 := shapeCast S512x1 v82 shapeCasts_S512_S512x1
  have v84 : FVec Ideal S512x1 .f32 := maximumf v83 sk
  have v85 : FVec Ideal S512x256 .f32 := broadcastTo S512x256 v84 broadcasts_S512x1_S512x256
  have v86 : FVec Ideal S512x256 .f32 := subf s v85
  have v87 : FVec Ideal S512x256 .f32 := exp v86
  have v88 : FVec Ideal S512x1 .f32 := subf sk v84
  have v89 : FVec Ideal S512x1 .f32 := exp v88
  have v90 : FVec Ideal S512 .f32 := multiReduction .add [1] S512 v87 0x00000000#32 reduces_S512x256_S512 (.inl rfl) rfl
  have v91 : FVec Ideal S512x1 .f32 := shapeCast S512x1 v90 shapeCasts_S512_S512x1
  have v92 : FVec Ideal S512x1 .f32 := addf v91 v89
  have v93 : FVec Ideal S512x256 .f32 := broadcastTo S512x256 v92 broadcasts_S512x1_S512x256
  have v94 : FVec Ideal S512x256 .f32 := divf v87 v93
  have v95 : FVec Ideal S512x256 .bf16 := truncf .bf16 v94 bitsLt_bf16_f32
  have cst_27 : FVec Ideal S512x64 .f32 := constant S512x64 .f32 0x00000000#32
  matmul dot_S512x256_S256x64_S512x64_1_0_0_1_n_n none v95 v cst_27

/-- The sinks down the rows: each row of a head's stack has the sink of its group `w`. -/
def sinks (w : IVec S512x1 32) (a b c d : Ideal .f32) : FVec Ideal S512x1 .f32 :=
  select (cmpi .eq w (broadcast S512x1 3#32)) (broadcast S512x1 d)
    (select (cmpi .eq w (broadcast S512x1 2#32)) (broadcast S512x1 c)
      (select (cmpi .eq w (broadcast S512x1 1#32)) (broadcast S512x1 b) (broadcast S512x1 a)))

theorem pay9_eq (a b c d : Ideal .f32) : k0_pay9 (F := Ideal) (iota .tc S512x1 32 [0] iota_S512x1_d0_w32) 128#32 k0_pay8 0#32 a b c d = sinks k0_pay14 a b c d := rfl
theorem pay19_eq (a b c d : Ideal .f32) : k0_pay19 (F := Ideal) (iota .tc S512x1 32 [0] iota_S512x1_d0_w32) 128#32 k0_pay18 0#32 a b c d = sinks k0_pay14 a b c d := rfl
theorem pay24_eq : k0_pay24 = k0_pay14 := rfl
theorem pay20_eq : k0_pay20 (F := Ideal) = k0_pay10 := rfl

theorem pay11_eq (v : FVec Ideal S256x256 .bf16) (sk : FVec Ideal S512x1 .f32) (s : FVec Ideal S512x256 .f32) :
    k0_pay11 (F := Ideal) v sk s = soft (extractStridedSlice S256x64 ![0, 0] v slices_S256x256_o0_0_S256x64) sk s := rfl
theorem pay15_eq (m : IVec S512x256 1) (v : FVec Ideal S256x256 .bf16) (q : FVec Ideal S512x64 .bf16) (k : FVec Ideal S256x64 .bf16) (w : IVec S512x1 32) (a b c d : Ideal .f32) :
    k0_pay15 (F := Ideal) m v q k w a b c d = soft (extractStridedSlice S256x64 ![0, 64] v slices_S256x256_o0_64_S256x64) (sinks w a b c d) (k0_pay10 m q k) := rfl
theorem pay21_eq (v : FVec Ideal S256x256 .bf16) (sk : FVec Ideal S512x1 .f32) (s : FVec Ideal S512x256 .f32) :
    k0_pay21 (F := Ideal) v sk s = soft (extractStridedSlice S256x64 ![0, 128] v slices_S256x256_o0_128_S256x64) sk s := rfl
theorem pay25_eq (m : IVec S512x256 1) (v : FVec Ideal S256x256 .bf16) (q : FVec Ideal S512x64 .bf16) (k : FVec Ideal S256x64 .bf16) (w : IVec S512x1 32) (a b c d : Ideal .f32) :
    k0_pay25 (F := Ideal) m v q k w a b c d = soft (extractStridedSlice S256x64 ![0, 192] v slices_S256x256_o0_192_S256x64) (sinks w a b c d) (k0_pay10 m q k) := rfl

/-- The pattern the maxima start from is minus infinity. -/
theorem ofBits_bot : Ideal.ofBits .f32 0xFF800000#32 = (⊥ : EReal) := by
  simp [Ideal.ofBits, Ideal.ieee]

/-- The scale of the scores is an eighth. -/
theorem ofBits_eighth : Ideal.ofBits .f32 0x3E000000#32 = ((1 / 8 : ℝ) : EReal) := by
  simp [Ideal.ofBits, Ideal.ieee, -EReal.coe_mul]
  norm_num

/-- One row of one head's stack is the softmax of its scores and its sink, weighing the values. -/
theorem soft_apply (v : FVec Ideal S256x64 .bf16) (sk : FVec Ideal S512x1 .f32) (s : FVec Ideal S512x256 .f32) (r : Fin 512) (d : Fin 64) :
    soft v sk s (ix2 r d) = att (fun j => s (ix2 r j)) (sk (ix2 r (0 : Fin 1))) (fun j => v (ix2 j d)) := by
  unfold att denom peak
  rw [← ofBits_bot]
  pointwise [soft]

/-- The mask constant is minus infinity. -/
theorem mask_bot : (Named.named κ "mask" 0xF149F2CA#32 : Ideal .f32) = (⊥ : EReal) :=
  IdealRules.named_const.ideal_named_scalar _ _ _ _ (by decide)

/-- One masked score. -/
theorem score_apply (m : IVec S512x256 1) (q : FVec Ideal S512x64 .bf16) (k : FVec Ideal S256x64 .bf16) (r : Fin 512) (j : Fin 256) :
    k0_pay10 (F := Ideal) m q k (ix2 r j) = Scalar.select (m (ix2 r j)) (∑ e : Fin 64, q (ix2 r e) * k (ix2 j e)) (⊥ : EReal) := by
  rw [← mask_bot]
  pointwise [k0_pay10]

/-- The group of a row is its number over 128. -/
theorem group_apply : ∀ r : Fin 512, k0_pay14 (ix2 r (0 : Fin 1)) = BitVec.ofNat 32 (r.val / 128) := by
  decide +kernel

/-- The bands of the keys and of the values: the previous block's rows above the current block's. -/
def band (a b : FVec Ideal S128x256 .bf16) : FVec Ideal S256x256 .bf16 :=
  fun i => if h : (i 0).val < 128 then a (ix2 ⟨(i 0).val, h⟩ (i 1)) else b (ix2 ⟨(i 0).val - 128, by have : (i 0).val < 256 := (i 0).isLt; omega⟩ (i 1))

theorem bandk_eq (a b : FVec Ideal S128x256 .bf16) : k0_pay4 (F := Ideal) a b = band a b := by
  funext i
  obtain ⟨r, q, rfl⟩ : ∃ r q, i = ix2 r q := ⟨i 0, i 1, eq_ix2 i⟩
  unfold band
  pointwise [k0_pay4]

theorem bandv_eq (a b : FVec Ideal S128x256 .bf16) : k0_pay5 (F := Ideal) a b = band a b := bandk_eq a b

/-! ## The parts of a tile, read at an index -/

/-- The queries of key head 0: its four query heads' rows, one group of 128 under another. -/
theorem queries0 (x : FVec Ideal S128x1024 .bf16) (r : Fin 512) (e : Fin 64) :
    k0_pay6 (F := Ideal) x (ix2 r e) = x (ix2 ⟨r.val % 128, by omega⟩ ⟨(0 + r.val / 128) * 64 + e.val, by omega⟩) := by
  pointwise [k0_pay6, k0_pay3]
  split_ifs <;> congr 2 <;> ext <;> simp <;> omega

/-- The queries of key head 1: its four query heads' rows, one group of 128 under another. -/
theorem queries1 (x : FVec Ideal S128x1024 .bf16) (r : Fin 512) (e : Fin 64) :
    k0_pay12 (F := Ideal) x (ix2 r e) = x (ix2 ⟨r.val % 128, by omega⟩ ⟨(4 + r.val / 128) * 64 + e.val, by omega⟩) := by
  pointwise [k0_pay12, k0_pay3]
  split_ifs <;> congr 2 <;> ext <;> simp <;> omega

/-- The queries of key head 2: its four query heads' rows, one group of 128 under another. -/
theorem queries2 (x : FVec Ideal S128x1024 .bf16) (r : Fin 512) (e : Fin 64) :
    k0_pay16 (F := Ideal) x (ix2 r e) = x (ix2 ⟨r.val % 128, by omega⟩ ⟨(8 + r.val / 128) * 64 + e.val, by omega⟩) := by
  pointwise [k0_pay16, k0_pay3]
  split_ifs <;> congr 2 <;> ext <;> simp <;> omega

/-- The queries of key head 3: its four query heads' rows, one group of 128 under another. -/
theorem queries3 (x : FVec Ideal S128x1024 .bf16) (r : Fin 512) (e : Fin 64) :
    k0_pay22 (F := Ideal) x (ix2 r e) = x (ix2 ⟨r.val % 128, by omega⟩ ⟨(12 + r.val / 128) * 64 + e.val, by omega⟩) := by
  pointwise [k0_pay22, k0_pay3]
  split_ifs <;> congr 2 <;> ext <;> simp <;> omega

/-- The columns of key head 0. -/
theorem keys0 (a b : FVec Ideal S128x256 .bf16) (j : Fin 256) (e : Fin 64) :
    k0_pay7 (F := Ideal) a b (ix2 j e) = band a b (ix2 j ⟨0 + e.val, by omega⟩) := by
  rw [← bandk_eq]
  pointwise [k0_pay7]

/-- The columns of key head 1. -/
theorem keys1 (a b : FVec Ideal S128x256 .bf16) (j : Fin 256) (e : Fin 64) :
    k0_pay13 (F := Ideal) (band a b) (ix2 j e) = band a b (ix2 j ⟨64 + e.val, by omega⟩) := by
  generalize band a b = K
  pointwise [k0_pay13]

/-- The columns of key head 2. -/
theorem keys2 (a b : FVec Ideal S128x256 .bf16) (j : Fin 256) (e : Fin 64) :
    k0_pay17 (F := Ideal) (band a b) (ix2 j e) = band a b (ix2 j ⟨128 + e.val, by omega⟩) := by
  generalize band a b = K
  pointwise [k0_pay17]

/-- The columns of key head 3. -/
theorem keys3 (a b : FVec Ideal S128x256 .bf16) (j : Fin 256) (e : Fin 64) :
    k0_pay23 (F := Ideal) (band a b) (ix2 j e) = band a b (ix2 j ⟨192 + e.val, by omega⟩) := by
  generalize band a b = K
  pointwise [k0_pay23]

theorem values0 (V : FVec Ideal S256x256 .bf16) (j : Fin 256) (e : Fin 64) :
    extractStridedSlice S256x64 ![0, 0] V slices_S256x256_o0_0_S256x64 (ix2 j e) = V (ix2 j ⟨0 + e.val, by omega⟩) := by
  pointwise []

theorem values1 (V : FVec Ideal S256x256 .bf16) (j : Fin 256) (e : Fin 64) :
    extractStridedSlice S256x64 ![0, 64] V slices_S256x256_o0_64_S256x64 (ix2 j e) = V (ix2 j ⟨64 + e.val, by omega⟩) := by
  pointwise []

theorem values2 (V : FVec Ideal S256x256 .bf16) (j : Fin 256) (e : Fin 64) :
    extractStridedSlice S256x64 ![0, 128] V slices_S256x256_o0_128_S256x64 (ix2 j e) = V (ix2 j ⟨128 + e.val, by omega⟩) := by
  pointwise []

theorem values3 (V : FVec Ideal S256x256 .bf16) (j : Fin 256) (e : Fin 64) :
    extractStridedSlice S256x64 ![0, 192] V slices_S256x256_o0_192_S256x64 (ix2 j e) = V (ix2 j ⟨192 + e.val, by omega⟩) := by
  pointwise []

/-- Whether query row `p` of block `n` sees band column `j`: at most 128 rows back, not ahead, and no row before the first. -/
def near (n : ℕ) (p : Fin 128) (j : Fin 256) : Prop := j.val ≤ p.val + 128 ∧ p.val < j.val ∧ (128 ≤ j.val ∨ 0 < n)

instance (n p j) : Decidable (near n p j) := inferInstanceAs (Decidable (_ ∧ _))

/-- The row within its group. -/
theorem row_word : ∀ r : Fin 512, IntOp.andi (BitVec.ofNat 32 r.val) 127#32 = BitVec.ofNat 32 (r.val % 128) := by decide +kernel

theorem window_word : ∀ (p : Fin 128) (j : Fin 256),
    IntOp.andi (IntOp.cmpi CmpIPredicate.sge (IntOp.subi (IntOp.addi (BitVec.ofNat 32 p.val) 128#32) (BitVec.ofNat 32 j.val)) 0#32)
        (IntOp.cmpi CmpIPredicate.slt (IntOp.subi (IntOp.addi (BitVec.ofNat 32 p.val) 128#32) (BitVec.ofNat 32 j.val)) 128#32)
      = BitVec.ofBool (decide (j.val ≤ p.val + 128 ∧ p.val < j.val)) := by decide +kernel

theorem first_word : ∀ (n : Fin 64) (j : Fin 256), IntOp.ori (IntOp.cmpi CmpIPredicate.sge (BitVec.ofNat 32 j.val) 128#32)
        (Scalar.xori (Scalar.cmpi CmpIPredicate.eq (BitVec.ofNat 32 n.val) 0#32) 1#1) = BitVec.ofBool (decide (128 ≤ j.val ∨ 0 < n.val)) := by decide +kernel

theorem mask_apply (i : grid0.Coords) (r : Fin 512) (j : Fin 256) (x y : EReal) : Scalar.select (k0_pay2 i (ix2 r j)) x y
     = if near (i 0).val ⟨r.val % 128, by omega⟩ j then x else y := by
  have e : k0_pay2 i (ix2 r j) = BitVec.ofBool (decide (near (i 0).val ⟨r.val % 128, by omega⟩ j)) := by
    pointwise [k0_pay2]
    rw [row_word, window_word ⟨r.val % 128, by omega⟩ j, first_word (i 0) j]
    unfold near
    simp only [← and_assoc]
    by_cases h : j.val ≤ r.val % 128 + 128 ∧ r.val % 128 < j.val <;> by_cases h' : 128 ≤ j.val ∨ 0 < (i 0).val <;> simp [h, h'] <;> rfl
  rw [e]
  by_cases h : near (i 0).val ⟨r.val % 128, by omega⟩ j <;> simp [h, Scalar.select]

/-- The sinks at one row: the row's group's. -/
theorem sinks_apply (z : Fin 4 → EReal) (r : Fin 512) : sinks k0_pay14 (z 0) (z 1) (z 2) (z 3) (ix2 r (0 : Fin 1)) = z ⟨r.val / 128, by omega⟩ := by
  pointwise [sinks]
  rw [group_apply]
  obtain h | h | h | h : r.val / 128 = 0 ∨ r.val / 128 = 1 ∨ r.val / 128 = 2 ∨ r.val / 128 = 3 := by omega
  all_goals simp only [h]; rfl

/-! ## The heads side by side -/

/-- The four stacks' rows side by side, one query head after another. -/
def unstack (u0 u1 u2 u3 : FVec Ideal S512x64 .f32) : FVec Ideal S128x1024 .bf16 :=
  k0_pay1 (F := Ideal) u2 u3 (k0_pay26 u0) (k0_pay27 u0) (k0_pay28 u0) (k0_pay29 u0) (k0_pay30 u1) (k0_pay31 u1) (k0_pay32 u1) (k0_pay33 u1) (k0_pay34 u2) (k0_pay35 u2) (k0_pay36 u2)

theorem unstack_0 (u0 u1 u2 u3 : FVec Ideal S512x64 .f32) (p : Fin 128) (d : Fin 64) :
    unstack u0 u1 u2 u3 (ix2 p ⟨0 + d.val, by omega⟩) = u0 (ix2 ⟨0 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨0 + d.val, by omega⟩) 0 (by show 0 < 16; omega) S128x64 _ rfl rfl 0 rfl (ix2 p d) (fun b hb => ?_) rfl).trans ?_
  · match b with
    | ⟨0, _⟩ => rfl
    | ⟨1, _⟩ => exact absurd rfl hb
  · pointwise [k0_pay26]

theorem unstack_1 (u0 u1 u2 u3 : FVec Ideal S512x64 .f32) (p : Fin 128) (d : Fin 64) :
    unstack u0 u1 u2 u3 (ix2 p ⟨64 + d.val, by omega⟩) = u0 (ix2 ⟨128 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨64 + d.val, by omega⟩) 1 (by show 1 < 16; omega) S128x64 _ rfl rfl 64 rfl (ix2 p d) (fun b hb => ?_) rfl).trans ?_
  · match b with
    | ⟨0, _⟩ => rfl
    | ⟨1, _⟩ => exact absurd rfl hb
  · pointwise [k0_pay27]

theorem unstack_2 (u0 u1 u2 u3 : FVec Ideal S512x64 .f32) (p : Fin 128) (d : Fin 64) :
    unstack u0 u1 u2 u3 (ix2 p ⟨128 + d.val, by omega⟩) = u0 (ix2 ⟨256 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨128 + d.val, by omega⟩) 2 (by show 2 < 16; omega) S128x64 _ rfl rfl 128 rfl (ix2 p d) (fun b hb => ?_) rfl).trans ?_
  · match b with
    | ⟨0, _⟩ => rfl
    | ⟨1, _⟩ => exact absurd rfl hb
  · pointwise [k0_pay28]

theorem unstack_3 (u0 u1 u2 u3 : FVec Ideal S512x64 .f32) (p : Fin 128) (d : Fin 64) :
    unstack u0 u1 u2 u3 (ix2 p ⟨192 + d.val, by omega⟩) = u0 (ix2 ⟨384 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨192 + d.val, by omega⟩) 3 (by show 3 < 16; omega) S128x64 _ rfl rfl 192 rfl (ix2 p d) (fun b hb => ?_) rfl).trans ?_
  · match b with
    | ⟨0, _⟩ => rfl
    | ⟨1, _⟩ => exact absurd rfl hb
  · pointwise [k0_pay29]

theorem unstack_4 (u0 u1 u2 u3 : FVec Ideal S512x64 .f32) (p : Fin 128) (d : Fin 64) :
    unstack u0 u1 u2 u3 (ix2 p ⟨256 + d.val, by omega⟩) = u1 (ix2 ⟨0 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨256 + d.val, by omega⟩) 4 (by show 4 < 16; omega) S128x64 _ rfl rfl 256 rfl (ix2 p d) (fun b hb => ?_) rfl).trans ?_
  · match b with
    | ⟨0, _⟩ => rfl
    | ⟨1, _⟩ => exact absurd rfl hb
  · pointwise [k0_pay30]

theorem unstack_5 (u0 u1 u2 u3 : FVec Ideal S512x64 .f32) (p : Fin 128) (d : Fin 64) :
    unstack u0 u1 u2 u3 (ix2 p ⟨320 + d.val, by omega⟩) = u1 (ix2 ⟨128 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨320 + d.val, by omega⟩) 5 (by show 5 < 16; omega) S128x64 _ rfl rfl 320 rfl (ix2 p d) (fun b hb => ?_) rfl).trans ?_
  · match b with
    | ⟨0, _⟩ => rfl
    | ⟨1, _⟩ => exact absurd rfl hb
  · pointwise [k0_pay31]

theorem unstack_6 (u0 u1 u2 u3 : FVec Ideal S512x64 .f32) (p : Fin 128) (d : Fin 64) :
    unstack u0 u1 u2 u3 (ix2 p ⟨384 + d.val, by omega⟩) = u1 (ix2 ⟨256 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨384 + d.val, by omega⟩) 6 (by show 6 < 16; omega) S128x64 _ rfl rfl 384 rfl (ix2 p d) (fun b hb => ?_) rfl).trans ?_
  · match b with
    | ⟨0, _⟩ => rfl
    | ⟨1, _⟩ => exact absurd rfl hb
  · pointwise [k0_pay32]

theorem unstack_7 (u0 u1 u2 u3 : FVec Ideal S512x64 .f32) (p : Fin 128) (d : Fin 64) :
    unstack u0 u1 u2 u3 (ix2 p ⟨448 + d.val, by omega⟩) = u1 (ix2 ⟨384 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨448 + d.val, by omega⟩) 7 (by show 7 < 16; omega) S128x64 _ rfl rfl 448 rfl (ix2 p d) (fun b hb => ?_) rfl).trans ?_
  · match b with
    | ⟨0, _⟩ => rfl
    | ⟨1, _⟩ => exact absurd rfl hb
  · pointwise [k0_pay33]

theorem unstack_8 (u0 u1 u2 u3 : FVec Ideal S512x64 .f32) (p : Fin 128) (d : Fin 64) :
    unstack u0 u1 u2 u3 (ix2 p ⟨512 + d.val, by omega⟩) = u2 (ix2 ⟨0 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨512 + d.val, by omega⟩) 8 (by show 8 < 16; omega) S128x64 _ rfl rfl 512 rfl (ix2 p d) (fun b hb => ?_) rfl).trans ?_
  · match b with
    | ⟨0, _⟩ => rfl
    | ⟨1, _⟩ => exact absurd rfl hb
  · pointwise [k0_pay34]

theorem unstack_9 (u0 u1 u2 u3 : FVec Ideal S512x64 .f32) (p : Fin 128) (d : Fin 64) :
    unstack u0 u1 u2 u3 (ix2 p ⟨576 + d.val, by omega⟩) = u2 (ix2 ⟨128 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨576 + d.val, by omega⟩) 9 (by show 9 < 16; omega) S128x64 _ rfl rfl 576 rfl (ix2 p d) (fun b hb => ?_) rfl).trans ?_
  · match b with
    | ⟨0, _⟩ => rfl
    | ⟨1, _⟩ => exact absurd rfl hb
  · pointwise [k0_pay35]

theorem unstack_10 (u0 u1 u2 u3 : FVec Ideal S512x64 .f32) (p : Fin 128) (d : Fin 64) :
    unstack u0 u1 u2 u3 (ix2 p ⟨640 + d.val, by omega⟩) = u2 (ix2 ⟨256 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨640 + d.val, by omega⟩) 10 (by show 10 < 16; omega) S128x64 _ rfl rfl 640 rfl (ix2 p d) (fun b hb => ?_) rfl).trans ?_
  · match b with
    | ⟨0, _⟩ => rfl
    | ⟨1, _⟩ => exact absurd rfl hb
  · pointwise [k0_pay36]

theorem unstack_11 (u0 u1 u2 u3 : FVec Ideal S512x64 .f32) (p : Fin 128) (d : Fin 64) :
    unstack u0 u1 u2 u3 (ix2 p ⟨704 + d.val, by omega⟩) = u2 (ix2 ⟨384 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨704 + d.val, by omega⟩) 11 (by show 11 < 16; omega) S128x64 _ rfl rfl 704 rfl (ix2 p d) (fun b hb => ?_) rfl).trans ?_
  · match b with
    | ⟨0, _⟩ => rfl
    | ⟨1, _⟩ => exact absurd rfl hb
  · pointwise []

set_option maxHeartbeats 1000000 in
theorem unstack_12 (u0 u1 u2 u3 : FVec Ideal S512x64 .f32) (p : Fin 128) (d : Fin 64) :
    unstack u0 u1 u2 u3 (ix2 p ⟨768 + d.val, by omega⟩) = u3 (ix2 ⟨0 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨768 + d.val, by omega⟩) 12 (by show 12 < 16; omega) S128x64 _ rfl rfl 768 rfl (ix2 p d) (fun b hb => ?_) rfl).trans ?_
  · match b with
    | ⟨0, _⟩ => rfl
    | ⟨1, _⟩ => exact absurd rfl hb
  · pointwise []

set_option maxHeartbeats 1000000 in
theorem unstack_13 (u0 u1 u2 u3 : FVec Ideal S512x64 .f32) (p : Fin 128) (d : Fin 64) :
    unstack u0 u1 u2 u3 (ix2 p ⟨832 + d.val, by omega⟩) = u3 (ix2 ⟨128 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨832 + d.val, by omega⟩) 13 (by show 13 < 16; omega) S128x64 _ rfl rfl 832 rfl (ix2 p d) (fun b hb => ?_) rfl).trans ?_
  · match b with
    | ⟨0, _⟩ => rfl
    | ⟨1, _⟩ => exact absurd rfl hb
  · pointwise []

set_option maxHeartbeats 1000000 in
theorem unstack_14 (u0 u1 u2 u3 : FVec Ideal S512x64 .f32) (p : Fin 128) (d : Fin 64) :
    unstack u0 u1 u2 u3 (ix2 p ⟨896 + d.val, by omega⟩) = u3 (ix2 ⟨256 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨896 + d.val, by omega⟩) 14 (by show 14 < 16; omega) S128x64 _ rfl rfl 896 rfl (ix2 p d) (fun b hb => ?_) rfl).trans ?_
  · match b with
    | ⟨0, _⟩ => rfl
    | ⟨1, _⟩ => exact absurd rfl hb
  · pointwise []

set_option maxHeartbeats 1000000 in
theorem unstack_15 (u0 u1 u2 u3 : FVec Ideal S512x64 .f32) (p : Fin 128) (d : Fin 64) :
    unstack u0 u1 u2 u3 (ix2 p ⟨960 + d.val, by omega⟩) = u3 (ix2 ⟨384 + p.val, by omega⟩ d) := by
  unfold unstack k0_pay1
  refine (concatenate_apply_piece (α := EReal) (t := S128x1024) 1 _ (by exact concatenates_S128x64_S128x64_S128x64_S128x64_S128x64_S128x64_S128x64_S128x64_S128x64_S128x64_S128x64_S128x64_S128x64_S128x64_S128x64_S128x64_S128x1024_d1) (ix2 p ⟨960 + d.val, by omega⟩) 15 (by show 15 < 16; omega) S128x64 _ rfl rfl 960 rfl (ix2 p d) (fun b hb => ?_) rfl).trans ?_
  · match b with
    | ⟨0, _⟩ => rfl
    | ⟨1, _⟩ => exact absurd rfl hb
  · pointwise []

/-! ## A tile -/

theorem pay3_eq (x : FVec Ideal S128x1024 .bf16) : k0_pay3 (F := Ideal) x = x := by
  funext i
  obtain ⟨r, q, rfl⟩ : ∃ r q, i = ix2 r q := ⟨i 0, i 1, eq_ix2 i⟩
  pointwise [k0_pay3]

/-- Key head 0's stack of a tile. -/
def stack0 (i : grid0.Coords) (x : FVec Ideal S128x1024 .bf16) (ka kb va vb : FVec Ideal S128x256 .bf16) (z : Fin 16 → Ideal .f32) : FVec Ideal S512x64 .f32 :=
  k0_pay11 (k0_pay5 va vb) (k0_pay9 (iota .tc S512x1 32 [0] iota_S512x1_d0_w32) 128#32 k0_pay8 0#32 (z 0) (z 1) (z 2) (z 3)) (k0_pay10 (k0_pay2 i) (k0_pay6 x) (k0_pay7 ka kb))

theorem stack0_apply (i : grid0.Coords) (x : FVec Ideal S128x1024 .bf16) (ka kb va vb : FVec Ideal S128x256 .bf16) (z : Fin 16 → Ideal .f32) (r : Fin 512) (d : Fin 64) :
    stack0 i x ka kb va vb z (ix2 r d)
      = att (fun j => if near (i 0).val ⟨r.val % 128, by omega⟩ j then
            ∑ e : Fin 64, x (ix2 ⟨r.val % 128, by omega⟩ ⟨(0 + r.val / 128) * 64 + e.val, by omega⟩) * band ka kb (ix2 j ⟨0 + e.val, by omega⟩) else ⊥)
          (z ⟨0 + r.val / 128, by omega⟩) (fun j => band va vb (ix2 j ⟨0 + d.val, by omega⟩)) := by
  unfold stack0
  rw [pay11_eq, pay9_eq, bandv_eq, soft_apply]
  have hz := sinks_apply (fun g => z ⟨0 + g.val, by omega⟩) r
  simp only [score_apply, mask_apply, queries0, keys0, values0]
  congr 1

/-- Key head 1's stack of a tile. -/
def stack1 (i : grid0.Coords) (x : FVec Ideal S128x1024 .bf16) (ka kb va vb : FVec Ideal S128x256 .bf16) (z : Fin 16 → Ideal .f32) : FVec Ideal S512x64 .f32 :=
  k0_pay15 (k0_pay2 i) (k0_pay5 va vb) (k0_pay12 (k0_pay3 x)) (k0_pay13 (k0_pay4 ka kb)) k0_pay14 (z 4) (z 5) (z 6) (z 7)

theorem stack1_apply (i : grid0.Coords) (x : FVec Ideal S128x1024 .bf16) (ka kb va vb : FVec Ideal S128x256 .bf16) (z : Fin 16 → Ideal .f32) (r : Fin 512) (d : Fin 64) :
    stack1 i x ka kb va vb z (ix2 r d)
      = att (fun j => if near (i 0).val ⟨r.val % 128, by omega⟩ j then
            ∑ e : Fin 64, x (ix2 ⟨r.val % 128, by omega⟩ ⟨(4 + r.val / 128) * 64 + e.val, by omega⟩) * band ka kb (ix2 j ⟨64 + e.val, by omega⟩) else ⊥)
          (z ⟨4 + r.val / 128, by omega⟩) (fun j => band va vb (ix2 j ⟨64 + d.val, by omega⟩)) := by
  unfold stack1
  rw [pay15_eq, pay3_eq, bandk_eq, bandv_eq, soft_apply]
  have hz := sinks_apply (fun g => z ⟨4 + g.val, by omega⟩) r
  simp only [score_apply, mask_apply, queries1, keys1, values1]
  congr 1

/-- Key head 2's stack of a tile. -/
def stack2 (i : grid0.Coords) (x : FVec Ideal S128x1024 .bf16) (ka kb va vb : FVec Ideal S128x256 .bf16) (z : Fin 16 → Ideal .f32) : FVec Ideal S512x64 .f32 :=
  k0_pay21 (k0_pay5 va vb) (k0_pay19 (iota .tc S512x1 32 [0] iota_S512x1_d0_w32) 128#32 k0_pay18 0#32 (z 8) (z 9) (z 10) (z 11)) (k0_pay20 (k0_pay2 i) (k0_pay16 (k0_pay3 x)) (k0_pay17 (k0_pay4 ka kb)))

theorem stack2_apply (i : grid0.Coords) (x : FVec Ideal S128x1024 .bf16) (ka kb va vb : FVec Ideal S128x256 .bf16) (z : Fin 16 → Ideal .f32) (r : Fin 512) (d : Fin 64) :
    stack2 i x ka kb va vb z (ix2 r d)
      = att (fun j => if near (i 0).val ⟨r.val % 128, by omega⟩ j then
            ∑ e : Fin 64, x (ix2 ⟨r.val % 128, by omega⟩ ⟨(8 + r.val / 128) * 64 + e.val, by omega⟩) * band ka kb (ix2 j ⟨128 + e.val, by omega⟩) else ⊥)
          (z ⟨8 + r.val / 128, by omega⟩) (fun j => band va vb (ix2 j ⟨128 + d.val, by omega⟩)) := by
  unfold stack2
  rw [pay21_eq, pay19_eq, pay20_eq, pay3_eq, bandk_eq, bandv_eq, soft_apply]
  have hz := sinks_apply (fun g => z ⟨8 + g.val, by omega⟩) r
  simp only [score_apply, mask_apply, queries2, keys2, values2]
  congr 1

/-- Key head 3's stack of a tile. -/
def stack3 (i : grid0.Coords) (x : FVec Ideal S128x1024 .bf16) (ka kb va vb : FVec Ideal S128x256 .bf16) (z : Fin 16 → Ideal .f32) : FVec Ideal S512x64 .f32 :=
  k0_pay25 (k0_pay2 i) (k0_pay5 va vb) (k0_pay22 (k0_pay3 x)) (k0_pay23 (k0_pay4 ka kb)) k0_pay24 (z 12) (z 13) (z 14) (z 15)

theorem stack3_apply (i : grid0.Coords) (x : FVec Ideal S128x1024 .bf16) (ka kb va vb : FVec Ideal S128x256 .bf16) (z : Fin 16 → Ideal .f32) (r : Fin 512) (d : Fin 64) :
    stack3 i x ka kb va vb z (ix2 r d)
      = att (fun j => if near (i 0).val ⟨r.val % 128, by omega⟩ j then
            ∑ e : Fin 64, x (ix2 ⟨r.val % 128, by omega⟩ ⟨(12 + r.val / 128) * 64 + e.val, by omega⟩) * band ka kb (ix2 j ⟨192 + e.val, by omega⟩) else ⊥)
          (z ⟨12 + r.val / 128, by omega⟩) (fun j => band va vb (ix2 j ⟨192 + d.val, by omega⟩)) := by
  unfold stack3
  rw [pay24_eq, pay25_eq, pay3_eq, bandk_eq, bandv_eq, soft_apply]
  have hz := sinks_apply (fun g => z ⟨12 + g.val, by omega⟩) r
  simp only [score_apply, mask_apply, queries3, keys3, values3]
  congr 1

/-- A tile of the result: the sixteen heads of 128 rows. -/
def tile (i : grid0.Coords) (x : FVec Ideal S128x1024 .bf16) (ka kb va vb : FVec Ideal S128x256 .bf16) (z : Fin 16 → Ideal .f32) : FVec Ideal S128x1024 .bf16 :=
  unstack (stack0 i x ka kb va vb z) (stack1 i x ka kb va vb z) (stack2 i x ka kb va vb z) (stack3 i x ka kb va vb z)

/-- One head of a tile: the softmax of the scores of the columns it sees. -/
def headOf (n : ℕ) (x : FVec Ideal S128x1024 .bf16) (K V : FVec Ideal S256x256 .bf16) (z : Fin 16 → EReal) (p : Fin 128) (hd : Fin 16) (d : Fin 64) : EReal :=
  att (fun j => if near n p j then ∑ e : Fin 64, x (ix2 p ⟨hd.val * 64 + e.val, by omega⟩) * K (ix2 j ⟨hd.val / 4 * 64 + e.val, by omega⟩) else ⊥)
    (z hd) (fun j => V (ix2 j ⟨hd.val / 4 * 64 + d.val, by omega⟩))

theorem tile_0 (i : grid0.Coords) (x : FVec Ideal S128x1024 .bf16) (ka kb va vb : FVec Ideal S128x256 .bf16) (z : Fin 16 → Ideal .f32) (p : Fin 128) (d : Fin 64) :
    tile i x ka kb va vb z (ix2 p ⟨0 + d.val, by omega⟩) = headOf (i 0).val x (band ka kb) (band va vb) z p 0 d := by
  refine (unstack_0 _ _ _ _ p d).trans ((stack0_apply i x ka kb va vb z _ d).trans ?_)
  have h1 : (0 + p.val) % 128 = p.val := by omega
  have h2 : (0 + p.val) / 128 = 0 := by omega
  simp only [h1, h2]
  rfl

theorem tile_1 (i : grid0.Coords) (x : FVec Ideal S128x1024 .bf16) (ka kb va vb : FVec Ideal S128x256 .bf16) (z : Fin 16 → Ideal .f32) (p : Fin 128) (d : Fin 64) :
    tile i x ka kb va vb z (ix2 p ⟨64 + d.val, by omega⟩) = headOf (i 0).val x (band ka kb) (band va vb) z p 1 d := by
  refine (unstack_1 _ _ _ _ p d).trans ((stack0_apply i x ka kb va vb z _ d).trans ?_)
  have h1 : (128 + p.val) % 128 = p.val := by omega
  have h2 : (128 + p.val) / 128 = 1 := by omega
  simp only [h1, h2]
  rfl

theorem tile_2 (i : grid0.Coords) (x : FVec Ideal S128x1024 .bf16) (ka kb va vb : FVec Ideal S128x256 .bf16) (z : Fin 16 → Ideal .f32) (p : Fin 128) (d : Fin 64) :
    tile i x ka kb va vb z (ix2 p ⟨128 + d.val, by omega⟩) = headOf (i 0).val x (band ka kb) (band va vb) z p 2 d := by
  refine (unstack_2 _ _ _ _ p d).trans ((stack0_apply i x ka kb va vb z _ d).trans ?_)
  have h1 : (256 + p.val) % 128 = p.val := by omega
  have h2 : (256 + p.val) / 128 = 2 := by omega
  simp only [h1, h2]
  rfl

theorem tile_3 (i : grid0.Coords) (x : FVec Ideal S128x1024 .bf16) (ka kb va vb : FVec Ideal S128x256 .bf16) (z : Fin 16 → Ideal .f32) (p : Fin 128) (d : Fin 64) :
    tile i x ka kb va vb z (ix2 p ⟨192 + d.val, by omega⟩) = headOf (i 0).val x (band ka kb) (band va vb) z p 3 d := by
  refine (unstack_3 _ _ _ _ p d).trans ((stack0_apply i x ka kb va vb z _ d).trans ?_)
  have h1 : (384 + p.val) % 128 = p.val := by omega
  have h2 : (384 + p.val) / 128 = 3 := by omega
  simp only [h1, h2]
  rfl

theorem tile_4 (i : grid0.Coords) (x : FVec Ideal S128x1024 .bf16) (ka kb va vb : FVec Ideal S128x256 .bf16) (z : Fin 16 → Ideal .f32) (p : Fin 128) (d : Fin 64) :
    tile i x ka kb va vb z (ix2 p ⟨256 + d.val, by omega⟩) = headOf (i 0).val x (band ka kb) (band va vb) z p 4 d := by
  refine (unstack_4 _ _ _ _ p d).trans ((stack1_apply i x ka kb va vb z _ d).trans ?_)
  have h1 : (0 + p.val) % 128 = p.val := by omega
  have h2 : (0 + p.val) / 128 = 0 := by omega
  simp only [h1, h2]
  rfl

theorem tile_5 (i : grid0.Coords) (x : FVec Ideal S128x1024 .bf16) (ka kb va vb : FVec Ideal S128x256 .bf16) (z : Fin 16 → Ideal .f32) (p : Fin 128) (d : Fin 64) :
    tile i x ka kb va vb z (ix2 p ⟨320 + d.val, by omega⟩) = headOf (i 0).val x (band ka kb) (band va vb) z p 5 d := by
  refine (unstack_5 _ _ _ _ p d).trans ((stack1_apply i x ka kb va vb z _ d).trans ?_)
  have h1 : (128 + p.val) % 128 = p.val := by omega
  have h2 : (128 + p.val) / 128 = 1 := by omega
  simp only [h1, h2]
  rfl

theorem tile_6 (i : grid0.Coords) (x : FVec Ideal S128x1024 .bf16) (ka kb va vb : FVec Ideal S128x256 .bf16) (z : Fin 16 → Ideal .f32) (p : Fin 128) (d : Fin 64) :
    tile i x ka kb va vb z (ix2 p ⟨384 + d.val, by omega⟩) = headOf (i 0).val x (band ka kb) (band va vb) z p 6 d := by
  refine (unstack_6 _ _ _ _ p d).trans ((stack1_apply i x ka kb va vb z _ d).trans ?_)
  have h1 : (256 + p.val) % 128 = p.val := by omega
  have h2 : (256 + p.val) / 128 = 2 := by omega
  simp only [h1, h2]
  rfl

theorem tile_7 (i : grid0.Coords) (x : FVec Ideal S128x1024 .bf16) (ka kb va vb : FVec Ideal S128x256 .bf16) (z : Fin 16 → Ideal .f32) (p : Fin 128) (d : Fin 64) :
    tile i x ka kb va vb z (ix2 p ⟨448 + d.val, by omega⟩) = headOf (i 0).val x (band ka kb) (band va vb) z p 7 d := by
  refine (unstack_7 _ _ _ _ p d).trans ((stack1_apply i x ka kb va vb z _ d).trans ?_)
  have h1 : (384 + p.val) % 128 = p.val := by omega
  have h2 : (384 + p.val) / 128 = 3 := by omega
  simp only [h1, h2]
  rfl

theorem tile_8 (i : grid0.Coords) (x : FVec Ideal S128x1024 .bf16) (ka kb va vb : FVec Ideal S128x256 .bf16) (z : Fin 16 → Ideal .f32) (p : Fin 128) (d : Fin 64) :
    tile i x ka kb va vb z (ix2 p ⟨512 + d.val, by omega⟩) = headOf (i 0).val x (band ka kb) (band va vb) z p 8 d := by
  refine (unstack_8 _ _ _ _ p d).trans ((stack2_apply i x ka kb va vb z _ d).trans ?_)
  have h1 : (0 + p.val) % 128 = p.val := by omega
  have h2 : (0 + p.val) / 128 = 0 := by omega
  simp only [h1, h2]
  rfl

theorem tile_9 (i : grid0.Coords) (x : FVec Ideal S128x1024 .bf16) (ka kb va vb : FVec Ideal S128x256 .bf16) (z : Fin 16 → Ideal .f32) (p : Fin 128) (d : Fin 64) :
    tile i x ka kb va vb z (ix2 p ⟨576 + d.val, by omega⟩) = headOf (i 0).val x (band ka kb) (band va vb) z p 9 d := by
  refine (unstack_9 _ _ _ _ p d).trans ((stack2_apply i x ka kb va vb z _ d).trans ?_)
  have h1 : (128 + p.val) % 128 = p.val := by omega
  have h2 : (128 + p.val) / 128 = 1 := by omega
  simp only [h1, h2]
  rfl

theorem tile_10 (i : grid0.Coords) (x : FVec Ideal S128x1024 .bf16) (ka kb va vb : FVec Ideal S128x256 .bf16) (z : Fin 16 → Ideal .f32) (p : Fin 128) (d : Fin 64) :
    tile i x ka kb va vb z (ix2 p ⟨640 + d.val, by omega⟩) = headOf (i 0).val x (band ka kb) (band va vb) z p 10 d := by
  refine (unstack_10 _ _ _ _ p d).trans ((stack2_apply i x ka kb va vb z _ d).trans ?_)
  have h1 : (256 + p.val) % 128 = p.val := by omega
  have h2 : (256 + p.val) / 128 = 2 := by omega
  simp only [h1, h2]
  rfl

theorem tile_11 (i : grid0.Coords) (x : FVec Ideal S128x1024 .bf16) (ka kb va vb : FVec Ideal S128x256 .bf16) (z : Fin 16 → Ideal .f32) (p : Fin 128) (d : Fin 64) :
    tile i x ka kb va vb z (ix2 p ⟨704 + d.val, by omega⟩) = headOf (i 0).val x (band ka kb) (band va vb) z p 11 d := by
  refine (unstack_11 _ _ _ _ p d).trans ((stack2_apply i x ka kb va vb z _ d).trans ?_)
  have h1 : (384 + p.val) % 128 = p.val := by omega
  have h2 : (384 + p.val) / 128 = 3 := by omega
  simp only [h1, h2]
  rfl

theorem tile_12 (i : grid0.Coords) (x : FVec Ideal S128x1024 .bf16) (ka kb va vb : FVec Ideal S128x256 .bf16) (z : Fin 16 → Ideal .f32) (p : Fin 128) (d : Fin 64) :
    tile i x ka kb va vb z (ix2 p ⟨768 + d.val, by omega⟩) = headOf (i 0).val x (band ka kb) (band va vb) z p 12 d := by
  refine (unstack_12 _ _ _ _ p d).trans ((stack3_apply i x ka kb va vb z _ d).trans ?_)
  have h1 : (0 + p.val) % 128 = p.val := by omega
  have h2 : (0 + p.val) / 128 = 0 := by omega
  simp only [h1, h2]
  rfl

theorem tile_13 (i : grid0.Coords) (x : FVec Ideal S128x1024 .bf16) (ka kb va vb : FVec Ideal S128x256 .bf16) (z : Fin 16 → Ideal .f32) (p : Fin 128) (d : Fin 64) :
    tile i x ka kb va vb z (ix2 p ⟨832 + d.val, by omega⟩) = headOf (i 0).val x (band ka kb) (band va vb) z p 13 d := by
  refine (unstack_13 _ _ _ _ p d).trans ((stack3_apply i x ka kb va vb z _ d).trans ?_)
  have h1 : (128 + p.val) % 128 = p.val := by omega
  have h2 : (128 + p.val) / 128 = 1 := by omega
  simp only [h1, h2]
  rfl

theorem tile_14 (i : grid0.Coords) (x : FVec Ideal S128x1024 .bf16) (ka kb va vb : FVec Ideal S128x256 .bf16) (z : Fin 16 → Ideal .f32) (p : Fin 128) (d : Fin 64) :
    tile i x ka kb va vb z (ix2 p ⟨896 + d.val, by omega⟩) = headOf (i 0).val x (band ka kb) (band va vb) z p 14 d := by
  refine (unstack_14 _ _ _ _ p d).trans ((stack3_apply i x ka kb va vb z _ d).trans ?_)
  have h1 : (256 + p.val) % 128 = p.val := by omega
  have h2 : (256 + p.val) / 128 = 2 := by omega
  simp only [h1, h2]
  rfl

theorem tile_15 (i : grid0.Coords) (x : FVec Ideal S128x1024 .bf16) (ka kb va vb : FVec Ideal S128x256 .bf16) (z : Fin 16 → Ideal .f32) (p : Fin 128) (d : Fin 64) :
    tile i x ka kb va vb z (ix2 p ⟨960 + d.val, by omega⟩) = headOf (i 0).val x (band ka kb) (band va vb) z p 15 d := by
  refine (unstack_15 _ _ _ _ p d).trans ((stack3_apply i x ka kb va vb z _ d).trans ?_)
  have h1 : (384 + p.val) % 128 = p.val := by omega
  have h2 : (384 + p.val) / 128 = 3 := by omega
  simp only [h1, h2]
  rfl

/-- A tile at one index. -/
theorem tile_apply (i : grid0.Coords) (x : FVec Ideal S128x1024 .bf16) (ka kb va vb : FVec Ideal S128x256 .bf16) (z : Fin 16 → Ideal .f32) (p : Fin 128) (hd : Fin 16) (d : Fin 64) :
    tile i x ka kb va vb z (ix2 p ⟨64 * hd.val + d.val, by omega⟩) = headOf (i 0).val x (band ka kb) (band va vb) z p hd d := by
  match hd with
  | ⟨0, _⟩ => exact tile_0 i x ka kb va vb z p d
  | ⟨1, _⟩ => exact tile_1 i x ka kb va vb z p d
  | ⟨2, _⟩ => exact tile_2 i x ka kb va vb z p d
  | ⟨3, _⟩ => exact tile_3 i x ka kb va vb z p d
  | ⟨4, _⟩ => exact tile_4 i x ka kb va vb z p d
  | ⟨5, _⟩ => exact tile_5 i x ka kb va vb z p d
  | ⟨6, _⟩ => exact tile_6 i x ka kb va vb z p d
  | ⟨7, _⟩ => exact tile_7 i x ka kb va vb z p d
  | ⟨8, _⟩ => exact tile_8 i x ka kb va vb z p d
  | ⟨9, _⟩ => exact tile_9 i x ka kb va vb z p d
  | ⟨10, _⟩ => exact tile_10 i x ka kb va vb z p d
  | ⟨11, _⟩ => exact tile_11 i x ka kb va vb z p d
  | ⟨12, _⟩ => exact tile_12 i x ka kb va vb z p d
  | ⟨13, _⟩ => exact tile_13 i x ka kb va vb z p d
  | ⟨14, _⟩ => exact tile_14 i x ka kb va vb z p d
  | ⟨15, _⟩ => exact tile_15 i x ka kb va vb z p d
  | ⟨n + 16, h⟩ => exact absurd h (by omega)

/-! ## The result array -/

variable (m : (ℓ : Loc nD τ sig) → Buf (Elt Ideal) ℓ)

/-- The grid is 64 blocks of 128 rows; the keys and the values are column blocks, the current rows' and the previous rows'. -/
theorem idx : ∀ t : Fin cfg0.N, win0_0.index t = ![t.val, 0] ∧ win0_1.index t = ![t.val, 4] ∧ win0_2.index t = ![t.val - 1, 4]
    ∧ win0_3.index t = ![t.val, 5] ∧ win0_4.index t = ![t.val - 1, 5] ∧ win0_5.index t = ![0, 0] ∧ win0_6.index t = ![t.val, 0] :=
  (by decide +kernel : ∀ t : Fin grid0.N, _)

theorem coords_val : ∀ t : Fin cfg0.N, ((grid0.coords t) 0).val = t.val := (by decide +kernel : ∀ t : Fin grid0.N, _)

/-- The row of the arrays that band column `j` of block `n` is. -/
def bandRow (n : Fin 64) (j : Fin 256) : Fin 8192 :=
  if j.val < 128 then ⟨(n.val - 1) * 128 + j.val % 128, by omega⟩ else ⟨n.val * 128 + j.val % 128, by omega⟩

/-- The attention of the stacked queries, keys and values. -/
def attend (A : FVec Ideal S8192x1536 .bf16) (S : FVec Ideal S1x16 .f32) : FVec Ideal S8192x1024 .bf16 := fun i =>
  have h0 : (i 0).val < 8192 := (i 0).isLt
  have h1 : (i 1).val < 1024 := (i 1).isLt
  att (fun j => if near ((i 0).val / 128) ⟨(i 0).val % 128, by omega⟩ j then
      ∑ e : Fin 64, A (ix2 ⟨(i 0).val, by omega⟩ ⟨(i 1).val / 64 * 64 + e.val, by omega⟩) * A (ix2 (bandRow ⟨(i 0).val / 128, by omega⟩ j) ⟨1024 + ((i 1).val / 64 / 4 * 64 + e.val), by omega⟩) else ⊥)
    (S (ix2 (0 : Fin 1) ⟨(i 1).val / 64, by omega⟩)) (fun j => A (ix2 (bandRow ⟨(i 0).val / 128, by omega⟩ j) ⟨1280 + ((i 1).val / 64 / 4 * 64 + (i 1).val % 64), by omega⟩))

theorem blk0 (c : Dev nD) (t : Fin cfg0.N) (p : Fin 128) (q : Fin 1024) :
    (X0_0 m c t : FVec Ideal S128x1024 .bf16) (ix2 p q) = (V m c main_v3 : FVec Ideal S8192x1536 .bf16) (ix2 ⟨t.val * 128 + p.val, by have : t.val < 64 := t.isLt; omega⟩ ⟨q.val, by omega⟩) := by
  unfold X0_0 Pipeline.Window.fill
  rw [dif_pos (moved0_0 t (ix2 p q))]
  blk_simp [iblk]
  generalize V m c main_v3 = A
  blk_point [idx t]

theorem blk1 (c : Dev nD) (t : Fin cfg0.N) (p : Fin 128) (q : Fin 256) :
    (iblk m c 1 t : FVec Ideal S128x256 .bf16) (ix2 p q) = (V m c main_v3 : FVec Ideal S8192x1536 .bf16) (ix2 ⟨t.val * 128 + p.val, by have : t.val < 64 := t.isLt; omega⟩ ⟨1024 + q.val, by omega⟩) := by
  blk_simp [iblk]
  generalize V m c main_v3 = A
  blk_point [idx t]

theorem blk2 (c : Dev nD) (t : Fin cfg0.N) (p : Fin 128) (q : Fin 256) :
    (iblk m c 2 t : FVec Ideal S128x256 .bf16) (ix2 p q) = (V m c main_v3 : FVec Ideal S8192x1536 .bf16) (ix2 ⟨(t.val - 1) * 128 + p.val, by have : t.val < 64 := t.isLt; omega⟩ ⟨1024 + q.val, by omega⟩) := by
  blk_simp [iblk]
  generalize V m c main_v3 = A
  blk_point [idx t]

theorem blk3 (c : Dev nD) (t : Fin cfg0.N) (p : Fin 128) (q : Fin 256) :
    (iblk m c 3 t : FVec Ideal S128x256 .bf16) (ix2 p q) = (V m c main_v3 : FVec Ideal S8192x1536 .bf16) (ix2 ⟨t.val * 128 + p.val, by have : t.val < 64 := t.isLt; omega⟩ ⟨1280 + q.val, by omega⟩) := by
  blk_simp [iblk]
  generalize V m c main_v3 = A
  blk_point [idx t]

theorem blk4 (c : Dev nD) (t : Fin cfg0.N) (p : Fin 128) (q : Fin 256) :
    (iblk m c 4 t : FVec Ideal S128x256 .bf16) (ix2 p q) = (V m c main_v3 : FVec Ideal S8192x1536 .bf16) (ix2 ⟨(t.val - 1) * 128 + p.val, by have : t.val < 64 := t.isLt; omega⟩ ⟨1280 + q.val, by omega⟩) := by
  blk_simp [iblk]
  generalize V m c main_v3 = A
  blk_point [idx t]

theorem blk5 (c : Dev nD) (t : Fin cfg0.N) (q : Fin 16) :
    (iblk m c 5 t : FVec Ideal S1x16 .f32) (ix2 (0 : Fin 1) q) = (V m c main_v4 : FVec Ideal S1x16 .f32) (ix2 (0 : Fin 1) q) := by
  blk_simp [iblk]
  generalize V m c main_v4 = A
  blk_point [idx t]

theorem ld_0 (x : FVec Ideal S1x16 .f32) (h) : View.ld (Val := Elt Ideal) (e' := .f32) x (Rect.unit (s := S1x16) ![0, 0] ![1, 1] inb_S1x16_S1x1_0_0) (Shape.Idx.first h) = x (ix2 (0 : Fin 1) 0) :=
  congrArg x (funext fun a => match a with | ⟨0, _⟩ => rfl | ⟨1, _⟩ => rfl)

theorem ld_1 (x : FVec Ideal S1x16 .f32) (h) : View.ld (Val := Elt Ideal) (e' := .f32) x (Rect.unit (s := S1x16) ![0, 1] ![1, 1] inb_S1x16_S1x1_0_1) (Shape.Idx.first h) = x (ix2 (0 : Fin 1) 1) :=
  congrArg x (funext fun a => match a with | ⟨0, _⟩ => rfl | ⟨1, _⟩ => rfl)

theorem ld_2 (x : FVec Ideal S1x16 .f32) (h) : View.ld (Val := Elt Ideal) (e' := .f32) x (Rect.unit (s := S1x16) ![0, 2] ![1, 1] inb_S1x16_S1x1_0_2) (Shape.Idx.first h) = x (ix2 (0 : Fin 1) 2) :=
  congrArg x (funext fun a => match a with | ⟨0, _⟩ => rfl | ⟨1, _⟩ => rfl)

theorem ld_3 (x : FVec Ideal S1x16 .f32) (h) : View.ld (Val := Elt Ideal) (e' := .f32) x (Rect.unit (s := S1x16) ![0, 3] ![1, 1] inb_S1x16_S1x1_0_3) (Shape.Idx.first h) = x (ix2 (0 : Fin 1) 3) :=
  congrArg x (funext fun a => match a with | ⟨0, _⟩ => rfl | ⟨1, _⟩ => rfl)

theorem ld_4 (x : FVec Ideal S1x16 .f32) (h) : View.ld (Val := Elt Ideal) (e' := .f32) x (Rect.unit (s := S1x16) ![0, 4] ![1, 1] inb_S1x16_S1x1_0_4) (Shape.Idx.first h) = x (ix2 (0 : Fin 1) 4) :=
  congrArg x (funext fun a => match a with | ⟨0, _⟩ => rfl | ⟨1, _⟩ => rfl)

theorem ld_5 (x : FVec Ideal S1x16 .f32) (h) : View.ld (Val := Elt Ideal) (e' := .f32) x (Rect.unit (s := S1x16) ![0, 5] ![1, 1] inb_S1x16_S1x1_0_5) (Shape.Idx.first h) = x (ix2 (0 : Fin 1) 5) :=
  congrArg x (funext fun a => match a with | ⟨0, _⟩ => rfl | ⟨1, _⟩ => rfl)

theorem ld_6 (x : FVec Ideal S1x16 .f32) (h) : View.ld (Val := Elt Ideal) (e' := .f32) x (Rect.unit (s := S1x16) ![0, 6] ![1, 1] inb_S1x16_S1x1_0_6) (Shape.Idx.first h) = x (ix2 (0 : Fin 1) 6) :=
  congrArg x (funext fun a => match a with | ⟨0, _⟩ => rfl | ⟨1, _⟩ => rfl)

theorem ld_7 (x : FVec Ideal S1x16 .f32) (h) : View.ld (Val := Elt Ideal) (e' := .f32) x (Rect.unit (s := S1x16) ![0, 7] ![1, 1] inb_S1x16_S1x1_0_7) (Shape.Idx.first h) = x (ix2 (0 : Fin 1) 7) :=
  congrArg x (funext fun a => match a with | ⟨0, _⟩ => rfl | ⟨1, _⟩ => rfl)

theorem ld_8 (x : FVec Ideal S1x16 .f32) (h) : View.ld (Val := Elt Ideal) (e' := .f32) x (Rect.unit (s := S1x16) ![0, 8] ![1, 1] inb_S1x16_S1x1_0_8) (Shape.Idx.first h) = x (ix2 (0 : Fin 1) 8) :=
  congrArg x (funext fun a => match a with | ⟨0, _⟩ => rfl | ⟨1, _⟩ => rfl)

theorem ld_9 (x : FVec Ideal S1x16 .f32) (h) : View.ld (Val := Elt Ideal) (e' := .f32) x (Rect.unit (s := S1x16) ![0, 9] ![1, 1] inb_S1x16_S1x1_0_9) (Shape.Idx.first h) = x (ix2 (0 : Fin 1) 9) :=
  congrArg x (funext fun a => match a with | ⟨0, _⟩ => rfl | ⟨1, _⟩ => rfl)

theorem ld_10 (x : FVec Ideal S1x16 .f32) (h) : View.ld (Val := Elt Ideal) (e' := .f32) x (Rect.unit (s := S1x16) ![0, 10] ![1, 1] inb_S1x16_S1x1_0_10) (Shape.Idx.first h) = x (ix2 (0 : Fin 1) 10) :=
  congrArg x (funext fun a => match a with | ⟨0, _⟩ => rfl | ⟨1, _⟩ => rfl)

theorem ld_11 (x : FVec Ideal S1x16 .f32) (h) : View.ld (Val := Elt Ideal) (e' := .f32) x (Rect.unit (s := S1x16) ![0, 11] ![1, 1] inb_S1x16_S1x1_0_11) (Shape.Idx.first h) = x (ix2 (0 : Fin 1) 11) :=
  congrArg x (funext fun a => match a with | ⟨0, _⟩ => rfl | ⟨1, _⟩ => rfl)

theorem ld_12 (x : FVec Ideal S1x16 .f32) (h) : View.ld (Val := Elt Ideal) (e' := .f32) x (Rect.unit (s := S1x16) ![0, 12] ![1, 1] inb_S1x16_S1x1_0_12) (Shape.Idx.first h) = x (ix2 (0 : Fin 1) 12) :=
  congrArg x (funext fun a => match a with | ⟨0, _⟩ => rfl | ⟨1, _⟩ => rfl)

theorem ld_13 (x : FVec Ideal S1x16 .f32) (h) : View.ld (Val := Elt Ideal) (e' := .f32) x (Rect.unit (s := S1x16) ![0, 13] ![1, 1] inb_S1x16_S1x1_0_13) (Shape.Idx.first h) = x (ix2 (0 : Fin 1) 13) :=
  congrArg x (funext fun a => match a with | ⟨0, _⟩ => rfl | ⟨1, _⟩ => rfl)

theorem ld_14 (x : FVec Ideal S1x16 .f32) (h) : View.ld (Val := Elt Ideal) (e' := .f32) x (Rect.unit (s := S1x16) ![0, 14] ![1, 1] inb_S1x16_S1x1_0_14) (Shape.Idx.first h) = x (ix2 (0 : Fin 1) 14) :=
  congrArg x (funext fun a => match a with | ⟨0, _⟩ => rfl | ⟨1, _⟩ => rfl)

theorem ld_15 (x : FVec Ideal S1x16 .f32) (h) : View.ld (Val := Elt Ideal) (e' := .f32) x (Rect.unit (s := S1x16) ![0, 15] ![1, 1] inb_S1x16_S1x1_0_15) (Shape.Idx.first h) = x (ix2 (0 : Fin 1) 15) :=
  congrArg x (funext fun a => match a with | ⟨0, _⟩ => rfl | ⟨1, _⟩ => rfl)

theorem out_eq (c : Dev nD) (t : Fin cfg0.N) : outsAt0 m c t
    = tile (grid0.coords t) (X0_0 m c t) (iblk m c 2 t) (iblk m c 1 t) (iblk m c 4 t) (iblk m c 3 t) (fun n => (iblk m c 5 t : FVec Ideal S1x16 .f32) (ix2 (0 : Fin 1) n)) := by
  unfold outsAt0
  frame_out
  generalize iblk m c 5 t = x5
  generalize iblk m c 4 t = x4
  generalize iblk m c 3 t = x3
  generalize iblk m c 2 t = x2
  generalize iblk m c 1 t = x1
  generalize X0_0 m c t = x0
  rw [ld_0, ld_1, ld_2, ld_3, ld_4, ld_5, ld_6, ld_7, ld_8, ld_9, ld_10, ld_11, ld_12, ld_13, ld_14, ld_15]
  unfold tile unstack stack0 stack1 stack2 stack3
  rfl

/-- Where the result's tile lies. -/
theorem out_at (X : S8192x1024.Idx → EReal) (t : Fin cfg0.N) (p : Fin 128) (q : Fin 1024) :
    X ((win0_6.blk t).view.emb (ix2 p q : S128x1024.Idx)) = X (ix2 ⟨t.val * 128 + p.val, by have : t.val < 64 := t.isLt; omega⟩ q) := by
  blk_point [idx t]

theorem band_keys (c : Dev nD) (t : Fin cfg0.N) (j : Fin 256) (q : Fin 256) :
    band (iblk m c 2 t) (iblk m c 1 t) (ix2 j q) = (V m c main_v3 : FVec Ideal S8192x1536 .bf16) (ix2 (bandRow t j) ⟨1024 + q.val, by omega⟩) := by
  have ht : t.val < 64 := t.isLt
  unfold band bandRow
  by_cases h : j.val < 128
  · refine (dif_pos h).trans ((blk2 m c t ⟨j.val, h⟩ q).trans ?_)
    rw [if_pos h]
    have : j.val % 128 = j.val := by omega
    simp only [this]
  · refine (dif_neg h).trans ((blk1 m c t ⟨j.val - 128, by omega⟩ q).trans ?_)
    rw [if_neg h]
    have : j.val % 128 = j.val - 128 := by omega
    simp only [this]

theorem band_values (c : Dev nD) (t : Fin cfg0.N) (j : Fin 256) (q : Fin 256) :
    band (iblk m c 4 t) (iblk m c 3 t) (ix2 j q) = (V m c main_v3 : FVec Ideal S8192x1536 .bf16) (ix2 (bandRow t j) ⟨1280 + q.val, by omega⟩) := by
  have ht : t.val < 64 := t.isLt
  unfold band bandRow
  by_cases h : j.val < 128
  · refine (dif_pos h).trans ((blk4 m c t ⟨j.val, h⟩ q).trans ?_)
    rw [if_pos h]
    have : j.val % 128 = j.val := by omega
    simp only [this]
  · refine (dif_neg h).trans ((blk3 m c t ⟨j.val - 128, by omega⟩ q).trans ?_)
    rw [if_neg h]
    have : j.val % 128 = j.val - 128 := by omega
    simp only [this]

theorem final_attend (c : Dev nD) : (dats m 0 c).arrAt 6 cfg0.N = attend (V m c main_v3) (V m c main_v4) := by
  refine (dats m 0 c).arrAt_eq_of_covers 6 _ (by decide +kernel) fun t hf y => ?_
  obtain ⟨p, hd, d, rfl⟩ : ∃ (p : Fin 128) (hd : Fin 16) (d : Fin 64), y = (ix2 p ⟨64 * hd.val + d.val, by omega⟩ : S128x1024.Idx) := by
    have h : (y 1).val < 1024 := (y 1).isLt
    refine ⟨y 0, ⟨(y 1).val / 64, by omega⟩, ⟨(y 1).val % 64, by omega⟩, ?_⟩
    refine (eq_ix2 y).trans ?_
    congr 1
    exact Fin.ext (Nat.div_add_mod _ _).symm
  blk_simp
  rw [after0_6, out_eq, tile_apply]
  rw [out_at (attend (V m c main_v3) (V m c main_v4))]
  unfold headOf attend
  have ht : t.val < 64 := t.isLt
  have e0 : (t.val * 128 + p.val) / 128 = t.val := by omega
  have e1 : (t.val * 128 + p.val) % 128 = p.val := by omega
  have e2 : (64 * hd.val + d.val) / 64 = hd.val := by omega
  have e3 : (64 * hd.val + d.val) % 64 = d.val := by omega
  rw [coords_val]
  simp only [ix2_0, ix2_1, e0, e1, e2, e3, blk0, blk5, band_keys, band_values]
  rfl

/-! ## The reference -/

/-- The reference's bands: zeros before the first row. -/
theorem r_keys (x1 : FVec Ideal Cert.AttnFwdRefIdeal.S8192x256 .f32) (n : Fin 64) (j : Fin 256) (h : Fin 4) (e : Fin 64) :
    Cert.AttnFwdRefIdeal.Read.val_main_v6 (F := Ideal) x1 (ix4 n j h e) = if j.val < 128 ∧ n.val < 1 then (0 : EReal) else x1 (ix2 (bandRow n j) ⟨h.val * 64 + e.val, by omega⟩) := by
  pointwise [Cert.AttnFwdRefIdeal.Read.val_main_v6, Cert.AttnFwdRefIdeal.Read.val_main_v5, Cert.AttnFwdRefIdeal.Read.val_main_v4, Cert.AttnFwdRefIdeal.Read.val_main_v3, Cert.AttnFwdRefIdeal.Read.val_main_cst, Cert.AttnFwdRefIdeal.Read.val_main_v1]
  unfold bandRow
  by_cases hj : j.val < 128
  · by_cases hn : n.val < 1
    · simp only [hj, hn, and_self, if_true, dif_pos]
    · have e1 : j.val % 128 = j.val := by omega
      simp only [hj, hn, and_false, if_true, if_false, dif_pos, dif_neg, not_false_eq_true, e1]
  · have e1 : j.val % 128 = j.val - 128 := by omega
    simp only [hj, false_and, if_false, dif_neg, not_false_eq_true, e1]

theorem r_values (x2 : FVec Ideal Cert.AttnFwdRefIdeal.S8192x256 .f32) (n : Fin 64) (j : Fin 256) (h : Fin 4) (e : Fin 64) :
    Cert.AttnFwdRefIdeal.Read.val_main_v12 (F := Ideal) x2 (ix4 n j h e) = if j.val < 128 ∧ n.val < 1 then (0 : EReal) else x2 (ix2 (bandRow n j) ⟨h.val * 64 + e.val, by omega⟩) := by
  pointwise [Cert.AttnFwdRefIdeal.Read.val_main_v12, Cert.AttnFwdRefIdeal.Read.val_main_v11, Cert.AttnFwdRefIdeal.Read.val_main_v10, Cert.AttnFwdRefIdeal.Read.val_main_v9, Cert.AttnFwdRefIdeal.Read.val_main_cst_0, Cert.AttnFwdRefIdeal.Read.val_main_v7]
  unfold bandRow
  by_cases hj : j.val < 128
  · by_cases hn : n.val < 1
    · simp only [hj, hn, and_self, if_true, dif_pos]
    · have e1 : j.val % 128 = j.val := by omega
      simp only [hj, hn, and_false, if_true, if_false, dif_pos, dif_neg, not_false_eq_true, e1]
  · have e1 : j.val % 128 = j.val - 128 := by omega
    simp only [hj, false_and, if_false, dif_neg, not_false_eq_true, e1]

theorem first_row_word : ∀ (n : Fin 64) (j : Fin 256),
    IntOp.cmpi CmpIPredicate.sge (IntOp.addi (IntOp.subi (IntOp.muli (BitVec.ofNat 32 n.val) 128#32) 128#32) (BitVec.ofNat 32 j.val)) 0#32
      = BitVec.ofBool (decide (128 ≤ j.val ∨ 0 < n.val)) := by decide +kernel

theorem and_word (a b : Prop) [Decidable a] [Decidable b] :
    IntOp.andi (BitVec.ofBool (decide a)) (BitVec.ofBool (decide b)) = BitVec.ofBool (decide (a ∧ b)) := by
  by_cases ha : a <;> by_cases hb : b <;> simp only [ha, hb, decide_true, decide_false, and_self, and_false, false_and] <;> rfl

theorem r_mask (n : Fin 64) (h g : Fin 4) (p : Fin 128) (j : Fin 256) :
    Cert.AttnFwdRefIdeal.Read.val_main_call0_v1 (F := Ideal) (ix5 n h g p j) = BitVec.ofBool (decide (near n.val p j)) := by
  pointwise [Cert.AttnFwdRefIdeal.Read.val_main_call0_v1, Cert.AttnFwdRefIdeal.Read.val_main_v49, Cert.AttnFwdRefIdeal.Read.val_main_v48, Cert.AttnFwdRefIdeal.Read.val_main_v47, Cert.AttnFwdRefIdeal.Read.val_main_v46, Cert.AttnFwdRefIdeal.Read.val_main_v45, Cert.AttnFwdRefIdeal.Read.val_main_v44, Cert.AttnFwdRefIdeal.Read.val_main_v43, Cert.AttnFwdRefIdeal.Read.val_main_c_6, Cert.AttnFwdRefIdeal.Read.val_main_v42, Cert.AttnFwdRefIdeal.Read.val_main_v41, Cert.AttnFwdRefIdeal.Read.val_main_v40, Cert.AttnFwdRefIdeal.Read.val_main_v39, Cert.AttnFwdRefIdeal.Read.val_main_c_5, Cert.AttnFwdRefIdeal.Read.val_main_v38, Cert.AttnFwdRefIdeal.Read.val_main_v37, Cert.AttnFwdRefIdeal.Read.val_main_c_4, Cert.AttnFwdRefIdeal.Read.val_main_v36, Cert.AttnFwdRefIdeal.Read.val_main_v35, Cert.AttnFwdRefIdeal.Read.val_main_v34, Cert.AttnFwdRefIdeal.Read.val_main_v33, Cert.AttnFwdRefIdeal.Read.val_main_v32, Cert.AttnFwdRefIdeal.Read.val_main_v31, Cert.AttnFwdRefIdeal.Read.val_main_v30, Cert.AttnFwdRefIdeal.Read.val_main_c_3, Cert.AttnFwdRefIdeal.Read.val_main_v29, Cert.AttnFwdRefIdeal.Read.val_main_v28, Cert.AttnFwdRefIdeal.Read.val_main_c_2, Cert.AttnFwdRefIdeal.Read.val_main_v27, Cert.AttnFwdRefIdeal.Read.val_main_v26, Cert.AttnFwdRefIdeal.Read.val_main_v25, Cert.AttnFwdRefIdeal.Read.val_main_v24, Cert.AttnFwdRefIdeal.Read.val_main_v23, Cert.AttnFwdRefIdeal.Read.val_main_v22, Cert.AttnFwdRefIdeal.Read.val_main_v21, Cert.AttnFwdRefIdeal.Read.val_main_v20, Cert.AttnFwdRefIdeal.Read.val_main_v19, Cert.AttnFwdRefIdeal.Read.val_main_c, Cert.AttnFwdRefIdeal.Read.val_main_v18, Cert.AttnFwdRefIdeal.Read.val_main_v17]
  rw [window_word, first_row_word]
  unfold near
  refine (and_word _ _).trans (congrArg BitVec.ofBool (decide_eq_decide.mpr and_assoc))

theorem r_select (x0 : FVec Ideal Cert.AttnFwdRefIdeal.S8192x1024 .f32) (x1 : FVec Ideal Cert.AttnFwdRefIdeal.S8192x256 .f32) (n : Fin 64) (h g : Fin 4) (p : Fin 128) (j : Fin 256) :
    Cert.AttnFwdRefIdeal.Read.val_main_v50 (F := Ideal) x0 x1 (ix5 n h g p j) = Scalar.select (Cert.AttnFwdRefIdeal.Read.val_main_call0_v1 (F := Ideal) (ix5 n h g p j))
      ((∑ e : Fin 64, Cert.AttnFwdRefIdeal.Read.val_main_v6 (F := Ideal) x1 (ix4 n j h e) * x0 (ix2 ⟨n.val * 128 + p.val, by omega⟩ ⟨h.val * 256 + g.val * 64 + e.val, by omega⟩)) * Ideal.ofBits .f32 0x3E000000#32)
      (Ideal.ofBits .f32 0xFF800000#32) := by
  pointwise [Cert.AttnFwdRefIdeal.Read.val_main_v50, Cert.AttnFwdRefIdeal.Read.val_main_call0_v2, Cert.AttnFwdRefIdeal.Read.val_main_call0_v0, Cert.AttnFwdRefIdeal.Read.val_main_cst_7, Cert.AttnFwdRefIdeal.Read.val_main_v16, Cert.AttnFwdRefIdeal.Read.val_main_v15, Cert.AttnFwdRefIdeal.Read.val_main_cst_1, Cert.AttnFwdRefIdeal.Read.val_main_v14, Cert.AttnFwdRefIdeal.Read.val_main_v13, Cert.AttnFwdRefIdeal.Read.val_main_v0]
  try rfl

/-- The reference's scores: −∞ where the mask is off. -/
theorem r_score (x0 : FVec Ideal Cert.AttnFwdRefIdeal.S8192x1024 .f32) (x1 : FVec Ideal Cert.AttnFwdRefIdeal.S8192x256 .f32) (n : Fin 64) (h g : Fin 4) (p : Fin 128) (j : Fin 256) :
    Cert.AttnFwdRefIdeal.Read.val_main_v50 (F := Ideal) x0 x1 (ix5 n h g p j) = if near n.val p j then
      (∑ e : Fin 64, x1 (ix2 (bandRow n j) ⟨h.val * 64 + e.val, by omega⟩) * x0 (ix2 ⟨n.val * 128 + p.val, by omega⟩ ⟨h.val * 256 + g.val * 64 + e.val, by omega⟩)) * ((1 / 8 : ℝ) : EReal)
      else (⊥ : EReal) := by
  rw [r_select, r_mask, ofBits_bot, ofBits_eighth]
  by_cases hn : near n.val p j
  · have hz : ¬ (j.val < 128 ∧ n.val < 1) := by have := hn.2.2; omega
    simp only [hn, decide_true, if_true, r_keys, hz, if_false]
    rfl
  · simp only [hn, decide_false, if_false]
    rfl

theorem r_max (x0 : FVec Ideal Cert.AttnFwdRefIdeal.S8192x1024 .f32) (x1 : FVec Ideal Cert.AttnFwdRefIdeal.S8192x256 .f32) (n : Fin 64) (h g : Fin 4) (p : Fin 128) :
    Cert.AttnFwdRefIdeal.Read.val_main_v53 (F := Ideal) x0 x1 (ix4 n h g p) = Finset.univ.fold max (⊥ : EReal) (fun j : Fin 256 => Cert.AttnFwdRefIdeal.Read.val_main_v50 (F := Ideal) x0 x1 (ix5 n h g p j)) := by
  rw [← ofBits_bot]
  unfold Cert.AttnFwdRefIdeal.Read.val_main_v53
  generalize Cert.AttnFwdRefIdeal.Read.val_main_v50 (F := Ideal) x0 x1 = s
  pointwise [Cert.AttnFwdRefIdeal.Read.val_main_cst_8]

theorem r_col (x0 : FVec Ideal Cert.AttnFwdRefIdeal.S8192x1024 .f32) (x1 : FVec Ideal Cert.AttnFwdRefIdeal.S8192x256 .f32) (n : Fin 64) (h g : Fin 4) (p : Fin 128) (q : Fin 1) :
    Cert.AttnFwdRefIdeal.Read.val_main_v54 (F := Ideal) x0 x1 (ix5 n h g p q) = Cert.AttnFwdRefIdeal.Read.val_main_v53 (F := Ideal) x0 x1 (ix4 n h g p) := by
  rw [Cert.AttnFwdRefIdeal.Read.val_main_v54_apply]
  generalize Cert.AttnFwdRefIdeal.Read.val_main_v53 (F := Ideal) x0 x1 = s
  refine congrArg s (funext fun a => ?_)
  match a with
  | ⟨0, _⟩ => rfl
  | ⟨1, _⟩ => rfl
  | ⟨2, _⟩ => rfl
  | ⟨3, _⟩ => rfl

theorem r_peak (x0 : FVec Ideal Cert.AttnFwdRefIdeal.S8192x1024 .f32) (x1 : FVec Ideal Cert.AttnFwdRefIdeal.S8192x256 .f32) (x3 : FVec Ideal Cert.AttnFwdRefIdeal.S16 .f32) (n : Fin 64) (h g : Fin 4) (p : Fin 128) (q : Fin 1) :
    (Cert.AttnFwdRefIdeal.Read.val_main_v56 (F := Ideal) x0 x1 x3 (ix5 n h g p q) : EReal) = max (Cert.AttnFwdRefIdeal.Read.val_main_v54 (F := Ideal) x0 x1 (ix5 n h g p q) : EReal) (x3 (ix1 ⟨h.val * 4 + g.val, by omega⟩) : EReal) := by
  unfold Cert.AttnFwdRefIdeal.Read.val_main_v56
  obtain ⟨s, hs⟩ : ∃ s, Cert.AttnFwdRefIdeal.Read.val_main_v54 (F := Ideal) x0 x1 = s := ⟨_, rfl⟩
  rw [hs]
  pointwise [Cert.AttnFwdRefIdeal.Read.val_main_v55, Cert.AttnFwdRefIdeal.Read.val_main_v52, Cert.AttnFwdRefIdeal.Read.val_main_v51]

theorem r_exp (x0 : FVec Ideal Cert.AttnFwdRefIdeal.S8192x1024 .f32) (x1 : FVec Ideal Cert.AttnFwdRefIdeal.S8192x256 .f32) (x3 : FVec Ideal Cert.AttnFwdRefIdeal.S16 .f32) (n : Fin 64) (h g : Fin 4) (p : Fin 128) (j : Fin 256) :
    Cert.AttnFwdRefIdeal.Read.val_main_v59 (F := Ideal) x0 x1 x3 (ix5 n h g p j) = Ideal.exp (Cert.AttnFwdRefIdeal.Read.val_main_v50 (F := Ideal) x0 x1 (ix5 n h g p j) - Cert.AttnFwdRefIdeal.Read.val_main_v56 (F := Ideal) x0 x1 x3 (ix5 n h g p (0 : Fin 1))) := by
  unfold Cert.AttnFwdRefIdeal.Read.val_main_v59 Cert.AttnFwdRefIdeal.Read.val_main_v58 Cert.AttnFwdRefIdeal.Read.val_main_v57
  generalize Cert.AttnFwdRefIdeal.Read.val_main_v50 (F := Ideal) x0 x1 = s
  generalize Cert.AttnFwdRefIdeal.Read.val_main_v56 (F := Ideal) x0 x1 x3 = t
  pointwise []

theorem r_sink (x0 : FVec Ideal Cert.AttnFwdRefIdeal.S8192x1024 .f32) (x1 : FVec Ideal Cert.AttnFwdRefIdeal.S8192x256 .f32) (x3 : FVec Ideal Cert.AttnFwdRefIdeal.S16 .f32) (n : Fin 64) (h g : Fin 4) (p : Fin 128) (q : Fin 1) :
    Cert.AttnFwdRefIdeal.Read.val_main_v64 (F := Ideal) x0 x1 x3 (ix5 n h g p q) = Ideal.exp (x3 (ix1 ⟨h.val * 4 + g.val, by omega⟩) - Cert.AttnFwdRefIdeal.Read.val_main_v56 (F := Ideal) x0 x1 x3 (ix5 n h g p q)) := by
  unfold Cert.AttnFwdRefIdeal.Read.val_main_v64 Cert.AttnFwdRefIdeal.Read.val_main_v63
  generalize Cert.AttnFwdRefIdeal.Read.val_main_v56 (F := Ideal) x0 x1 x3 = t
  pointwise [Cert.AttnFwdRefIdeal.Read.val_main_v62, Cert.AttnFwdRefIdeal.Read.val_main_v52, Cert.AttnFwdRefIdeal.Read.val_main_v51]

theorem r_denom (x0 : FVec Ideal Cert.AttnFwdRefIdeal.S8192x1024 .f32) (x1 : FVec Ideal Cert.AttnFwdRefIdeal.S8192x256 .f32) (x3 : FVec Ideal Cert.AttnFwdRefIdeal.S16 .f32) (n : Fin 64) (h g : Fin 4) (p : Fin 128) (q : Fin 1) :
    Cert.AttnFwdRefIdeal.Read.val_main_v65 (F := Ideal) x0 x1 x3 (ix5 n h g p q) = (∑ j : Fin 256, Cert.AttnFwdRefIdeal.Read.val_main_v59 (F := Ideal) x0 x1 x3 (ix5 n h g p j)) + Cert.AttnFwdRefIdeal.Read.val_main_v64 (F := Ideal) x0 x1 x3 (ix5 n h g p q) := by
  unfold Cert.AttnFwdRefIdeal.Read.val_main_v65 Cert.AttnFwdRefIdeal.Read.val_main_v61 Cert.AttnFwdRefIdeal.Read.val_main_v60
  generalize Cert.AttnFwdRefIdeal.Read.val_main_v59 (F := Ideal) x0 x1 x3 = s
  generalize Cert.AttnFwdRefIdeal.Read.val_main_v64 (F := Ideal) x0 x1 x3 = t
  pointwise [Cert.AttnFwdRefIdeal.Read.val_main_cst_9]

theorem r_weight (x0 : FVec Ideal Cert.AttnFwdRefIdeal.S8192x1024 .f32) (x1 : FVec Ideal Cert.AttnFwdRefIdeal.S8192x256 .f32) (x3 : FVec Ideal Cert.AttnFwdRefIdeal.S16 .f32) (n : Fin 64) (h g : Fin 4) (p : Fin 128) (j : Fin 256) :
    Cert.AttnFwdRefIdeal.Read.val_main_v67 (F := Ideal) x0 x1 x3 (ix5 n h g p j) = Ideal.div (Cert.AttnFwdRefIdeal.Read.val_main_v59 (F := Ideal) x0 x1 x3 (ix5 n h g p j)) (Cert.AttnFwdRefIdeal.Read.val_main_v65 (F := Ideal) x0 x1 x3 (ix5 n h g p (0 : Fin 1))) := by
  unfold Cert.AttnFwdRefIdeal.Read.val_main_v67 Cert.AttnFwdRefIdeal.Read.val_main_v66
  generalize Cert.AttnFwdRefIdeal.Read.val_main_v59 (F := Ideal) x0 x1 x3 = s
  generalize Cert.AttnFwdRefIdeal.Read.val_main_v65 (F := Ideal) x0 x1 x3 = t
  pointwise []

theorem r_att (x0 : FVec Ideal Cert.AttnFwdRefIdeal.S8192x1024 .f32) (x1 : FVec Ideal Cert.AttnFwdRefIdeal.S8192x256 .f32) (x2 : FVec Ideal Cert.AttnFwdRefIdeal.S8192x256 .f32) (x3 : FVec Ideal Cert.AttnFwdRefIdeal.S16 .f32) (r : Fin 8192) (q : Fin 1024) :
    Cert.AttnFwdRefIdeal.Read.val_main_v71 (F := Ideal) x0 x1 x2 x3 (ix2 r q) = ∑ j : Fin 256, Cert.AttnFwdRefIdeal.Read.val_main_v12 (F := Ideal) x2 (ix4 (⟨r.val / 128, by omega⟩ : Fin 64) j (⟨q.val / 256, by omega⟩ : Fin 4) (⟨q.val % 64, by omega⟩ : Fin 64))
      * Cert.AttnFwdRefIdeal.Read.val_main_v67 (F := Ideal) x0 x1 x3 (ix5 (⟨r.val / 128, by omega⟩ : Fin 64) (⟨q.val / 256, by omega⟩ : Fin 4) (⟨q.val / 64 % 4, by omega⟩ : Fin 4) (⟨r.val % 128, by omega⟩ : Fin 128) j) := by
  pointwise [Cert.AttnFwdRefIdeal.Read.val_main_v71, Cert.AttnFwdRefIdeal.Read.val_main_v70, Cert.AttnFwdRefIdeal.Read.val_main_v69, Cert.AttnFwdRefIdeal.Read.val_main_v68]

/-- The reference's weights are the softmax of its scores with the sink. -/
theorem r_soft (x0 : FVec Ideal Cert.AttnFwdRefIdeal.S8192x1024 .f32) (x1 : FVec Ideal Cert.AttnFwdRefIdeal.S8192x256 .f32) (x3 : FVec Ideal Cert.AttnFwdRefIdeal.S16 .f32) (n : Fin 64) (h g : Fin 4) (p : Fin 128) (j : Fin 256) (s : Fin 256 → EReal) (hs : ∀ k, Cert.AttnFwdRefIdeal.Read.val_main_v50 (F := Ideal) x0 x1 (ix5 n h g p k) = s k)
    (z : EReal) (hz : x3 (ix1 ⟨h.val * 4 + g.val, by omega⟩) = z) :
    Cert.AttnFwdRefIdeal.Read.val_main_v67 (F := Ideal) x0 x1 x3 (ix5 n h g p j) = Ideal.div (Ideal.exp (s j - peak s z)) (denom s z) := by
  have hp : ∀ q : Fin 1, (Cert.AttnFwdRefIdeal.Read.val_main_v56 (F := Ideal) x0 x1 x3 (ix5 n h g p q) : EReal) = peak s z := fun q => by
    rw [r_peak, r_col, r_max, hz]
    simp only [hs]
    rfl
  rw [r_weight, r_denom, r_sink, hz]
  simp only [r_exp, hp, hs]
  rfl

/-- The reference's result at one index. -/
theorem ref_apply (x0 : FVec Ideal Cert.AttnFwdRefIdeal.S8192x1024 .f32) (x1 : FVec Ideal Cert.AttnFwdRefIdeal.S8192x256 .f32) (x2 : FVec Ideal Cert.AttnFwdRefIdeal.S8192x256 .f32) (x3 : FVec Ideal Cert.AttnFwdRefIdeal.S16 .f32) (r : Fin 8192) (q : Fin 1024) :
    Cert.AttnFwdRefIdeal.Read.val_main_v71 (F := Ideal) x0 x1 x2 x3 (ix2 r q) = att
      (fun j => if near (r.val / 128) ⟨r.val % 128, by omega⟩ j then
        (∑ e : Fin 64, x1 (ix2 (bandRow ⟨r.val / 128, by omega⟩ j) ⟨q.val / 64 / 4 * 64 + e.val, by omega⟩) * x0 (ix2 r ⟨q.val / 64 * 64 + e.val, by omega⟩)) * ((1 / 8 : ℝ) : EReal)
        else (⊥ : EReal))
      (x3 (ix1 ⟨q.val / 64, by omega⟩))
      (fun j => if j.val < 128 ∧ r.val / 128 < 1 then (0 : EReal) else x2 (ix2 (bandRow ⟨r.val / 128, by omega⟩ j) ⟨q.val / 64 / 4 * 64 + q.val % 64, by omega⟩)) := by
  have e0 : q.val / 256 = q.val / 64 / 4 := by omega
  have e1 : q.val / 64 / 4 * 4 + q.val / 64 % 4 = q.val / 64 := by omega
  have e2 : ∀ e, q.val / 64 / 4 * 256 + q.val / 64 % 4 * 64 + e = q.val / 64 * 64 + e := fun e => by omega
  have e3 : r.val / 128 * 128 + r.val % 128 = r.val := by omega
  rw [r_att]
  unfold att
  refine Finset.sum_congr rfl fun j _ => ?_
  rw [mul_comm]
  refine congrArg₂ (fun a b : EReal => a * b) (r_soft x0 x1 x3 _ _ _ _ j _ (fun k => ?_) _ ?_) ?_
  · rw [r_score]
    simp only [e0, e2, e3]
  · simp only [e0, e1]
  · rw [r_values]
    simp only [e0]

/-! ## The kernel's operands -/

/-- The queries scaled, the keys and the values side by side. -/
theorem entry_qkv (c : Dev nD) : (V m c main_v3 : FVec Ideal S8192x1536 .bf16)
    = concatenate S8192x1536 1 [⟨S8192x1024, (mulf (m ((c : Thread nD τ).loc main_arg0)) (broadcastInDim S8192x1024 ![] bcast_S_S8192x1024 (constant (F := Ideal) S_ .f32 0x3E000000#32)) : FVec Ideal S8192x1024 .f32)⟩,
        ⟨S8192x256, (m ((c : Thread nD τ).loc main_arg1) : FVec Ideal S8192x256 .f32)⟩, ⟨S8192x256, (m ((c : Thread nD τ).loc main_arg2) : FVec Ideal S8192x256 .f32)⟩] concatenates_S8192x1024_S8192x256_S8192x256_S8192x1536_d1 := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_sink (c : Dev nD) : (V m c main_v4 : FVec Ideal S1x16 .f32) = broadcastInDim S1x16 ![1] bcast_S16_S1x16_1 (m ((c : Thread nD τ).loc main_arg3) : FVec Ideal S16 .f32) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp

/-! ## The two agree -/

theorem qkv_q (c : Dev nD) (a : FVec Ideal S8192x1024 .f32) (ha : m ((c : Thread nD τ).loc main_arg0) = a) (r : Fin 8192) (q : Fin 1024) :
    (V m c main_v3 : FVec Ideal S8192x1536 .bf16) (ix2 r ⟨q.val, by omega⟩) = (a (ix2 r q) : EReal) * ((1 / 8 : ℝ) : EReal) := by
  rw [entry_qkv, ha, ← ofBits_eighth]
  generalize (m ((c : Thread nD τ).loc main_arg1) : FVec Ideal S8192x256 .f32) = b
  generalize (m ((c : Thread nD τ).loc main_arg2) : FVec Ideal S8192x256 .f32) = d
  pointwise []

theorem qkv_k (c : Dev nD) (r : Fin 8192) (q : Fin 256) : (V m c main_v3 : FVec Ideal S8192x1536 .bf16) (ix2 r ⟨1024 + q.val, by omega⟩)
    = (m ((c : Thread nD τ).loc main_arg1) : FVec Ideal S8192x256 .f32) (ix2 r q) := by
  rw [entry_qkv]
  generalize (m ((c : Thread nD τ).loc main_arg0) : FVec Ideal S8192x1024 .f32) = a
  generalize (m ((c : Thread nD τ).loc main_arg1) : FVec Ideal S8192x256 .f32) = b
  generalize (m ((c : Thread nD τ).loc main_arg2) : FVec Ideal S8192x256 .f32) = d
  pointwise []

theorem qkv_v (c : Dev nD) (r : Fin 8192) (q : Fin 256) : (V m c main_v3 : FVec Ideal S8192x1536 .bf16) (ix2 r ⟨1280 + q.val, by omega⟩)
    = (m ((c : Thread nD τ).loc main_arg2) : FVec Ideal S8192x256 .f32) (ix2 r q) := by
  rw [entry_qkv]
  generalize (m ((c : Thread nD τ).loc main_arg0) : FVec Ideal S8192x1024 .f32) = a
  generalize (m ((c : Thread nD τ).loc main_arg1) : FVec Ideal S8192x256 .f32) = b
  generalize (m ((c : Thread nD τ).loc main_arg2) : FVec Ideal S8192x256 .f32) = d
  pointwise []
  rw [dif_neg (show ¬ 1280 + q.val < 1024 by omega), dif_neg (show ¬ 1280 + q.val - 1024 < 256 by omega)]
  have e : 1280 + q.val - 1024 - 256 = q.val := by omega
  simp only [e]

theorem sink_at (c : Dev nD) (n : Fin 16) : (V m c main_v4 : FVec Ideal S1x16 .f32) (ix2 (0 : Fin 1) n)
    = (m ((c : Thread nD τ).loc main_arg3) : FVec Ideal S16 .f32) (ix1 n) := by
  rw [entry_sink]
  generalize (m ((c : Thread nD τ).loc main_arg3) : FVec Ideal S16 .f32) = a
  pointwise []

/-- The kernel's attention of the stacked arrays is the reference's: the scale comes out of the products, and the
    first block's masked columns weigh nothing. -/
theorem agree (A : FVec Ideal S8192x1536 .bf16) (S : FVec Ideal S1x16 .f32) (x0 : FVec Ideal Cert.AttnFwdRefIdeal.S8192x1024 .f32)
    (x1 x2 : FVec Ideal Cert.AttnFwdRefIdeal.S8192x256 .f32) (x3 : FVec Ideal Cert.AttnFwdRefIdeal.S16 .f32)
    (hq : ∀ (r : Fin 8192) (q : Fin 1024), (A (ix2 r ⟨q.val, by omega⟩) : EReal) = (x0 (ix2 r q) : EReal) * ((1 / 8 : ℝ) : EReal))
    (hk : ∀ (r : Fin 8192) (q : Fin 256), A (ix2 r ⟨1024 + q.val, by omega⟩) = x1 (ix2 r q))
    (hv : ∀ (r : Fin 8192) (q : Fin 256), A (ix2 r ⟨1280 + q.val, by omega⟩) = x2 (ix2 r q))
    (hs : ∀ n : Fin 16, S (ix2 (0 : Fin 1) n) = x3 (ix1 n)) (r : Fin 8192) (q : Fin 1024) :
    attend A S (ix2 r q) = Cert.AttnFwdRefIdeal.Read.val_main_v71 (F := Ideal) x0 x1 x2 x3 (ix2 r q) := by
  have hr : r.val < 8192 := r.isLt
  have hq' : q.val < 1024 := q.isLt
  rw [ref_apply]
  unfold attend
  show att (fun j => if near (r.val / 128) ⟨r.val % 128, by omega⟩ j then
      ∑ e : Fin 64, A (ix2 r ⟨q.val / 64 * 64 + e.val, by omega⟩) * A (ix2 (bandRow ⟨r.val / 128, by omega⟩ j) ⟨1024 + (q.val / 64 / 4 * 64 + e.val), by omega⟩) else ⊥)
    (S (ix2 (0 : Fin 1) ⟨q.val / 64, by omega⟩)) (fun j => A (ix2 (bandRow ⟨r.val / 128, by omega⟩ j) ⟨1280 + (q.val / 64 / 4 * 64 + q.val % 64), by omega⟩)) = _
  have es : ∀ j : Fin 256, (∑ e : Fin 64, A (ix2 r ⟨q.val / 64 * 64 + e.val, by omega⟩) * A (ix2 (bandRow ⟨r.val / 128, by omega⟩ j) ⟨1024 + (q.val / 64 / 4 * 64 + e.val), by omega⟩) : EReal)
      = (∑ e : Fin 64, x1 (ix2 (bandRow ⟨r.val / 128, by omega⟩ j) ⟨q.val / 64 / 4 * 64 + e.val, by omega⟩) * x0 (ix2 r ⟨q.val / 64 * 64 + e.val, by omega⟩) : EReal) * ((1 / 8 : ℝ) : EReal) := fun j => by
    rw [← scale_out _ (EReal.coe_nonneg.mpr (by norm_num)) (EReal.coe_ne_top _)]
    refine Finset.sum_congr rfl fun e _ => ?_
    exact congrArg₂ (fun a b : EReal => a * b) (hq r ⟨q.val / 64 * 64 + e.val, by omega⟩) (hk _ ⟨q.val / 64 / 4 * 64 + e.val, by omega⟩)
  simp only [es]
  rw [hs ⟨q.val / 64, by omega⟩]
  have ev : ∀ j : Fin 256, A (ix2 (bandRow ⟨r.val / 128, by omega⟩ j) ⟨1280 + (q.val / 64 / 4 * 64 + q.val % 64), by omega⟩)
      = x2 (ix2 (bandRow ⟨r.val / 128, by omega⟩ j) ⟨q.val / 64 / 4 * 64 + q.val % 64, by omega⟩) := fun j => hv _ ⟨q.val / 64 / 4 * 64 + q.val % 64, by omega⟩
  simp only [ev]
  by_cases hn : r.val / 128 < 1
  · refine att_first _ _ _ _ (fun j hj => ?_) (fun j => ?_) (fun j => ?_) (fun j => ?_)
    · refine if_neg fun h => ?_
      have := h.2.2
      omega
    · have e : bandRow ⟨r.val / 128, by omega⟩ ⟨j.val, by omega⟩ = bandRow ⟨r.val / 128, by omega⟩ ⟨128 + j.val, by omega⟩ := by
        unfold bandRow
        have h1 : j.val < 128 := j.isLt
        have h2 : ¬ 128 + j.val < 128 := by omega
        simp only [h1, h2, if_true, if_false]
        apply Fin.ext
        show (r.val / 128 - 1) * 128 + j.val % 128 = r.val / 128 * 128 + (128 + j.val) % 128
        omega
      show x2 (ix2 (bandRow ⟨r.val / 128, by omega⟩ ⟨j.val, by omega⟩) _) = x2 (ix2 (bandRow ⟨r.val / 128, by omega⟩ ⟨128 + j.val, by omega⟩) _)
      rw [e]
    · exact if_pos ⟨j.isLt, hn⟩
    · exact if_neg fun h => absurd h.1 (by show ¬ 128 + j.val < 128; omega)
  · simp only [hn, and_false, if_false]

theorem final (c : Dev nD) : (dats m 0 c).arrAt 6 cfg0.N
    = Cert.AttnFwdRefIdeal.Read.val_main_v71 (F := Ideal) (m ((c : Thread nD τ).loc main_arg0)) (m ((c : Thread nD τ).loc main_arg1)) (m ((c : Thread nD τ).loc main_arg2)) (m ((c : Thread nD τ).loc main_arg3)) := by
  refine (final_attend m c).trans (funext fun i => ?_)
  obtain ⟨r, q, rfl⟩ : ∃ r q, i = ix2 r q := ⟨i 0, i 1, eq_ix2 i⟩
  exact agree _ _ _ _ _ _ (qkv_q m c _ rfl) (qkv_k m c) (qkv_v m c) (sink_at m c) r q

/-- The attention of one layer: the kernel's heads, taken from stacked and banded blocks, are the reference's. -/
theorem claim : Cert.algebraic_AttnFwdIdeal_AttnFwdRefIdeal := by
  intro m g m' g' _ hagree
  refine ⟨fun c => (dats m 0 c).arrAt 6 cfg0.N, Cert.AttnFwdIdeal.Value.run_blocks m g, ?_⟩
  refine (θ_run _ _ _).mono (fun r h c => ⟨?_, (h c).2⟩) (Cert.AttnFwdRefIdeal.Value.run m' g')
  refine (h c).1.trans ?_
  refine (Cert.AttnFwdRefIdeal.Read.val_main_v71_eq _ _).trans ?_
  show _ = (dats m 0 c).arrAt 6 cfg0.N
  rw [final, (hagree c).1, (hagree c).2.1, (hagree c).2.2.1, (hagree c).2.2.2]

/-- The mask's constant is −∞ in the ideal program. -/
theorem preserves : Cert.preserves_AttnFwd_AttnFwdIdeal :=
  IdealRules.named_const.statement _ _ _ _ _ rfl

end Cert.AttnFwdIdeal.Math

end
-- ==== Proof.MixOutClaim.lean ====
module

public import proofs.«01_k».proof.Defs
public import proofs.«01_k».proof.Proof.Gen.MixOutIdeal.Value
public import proofs.«01_k».proof.Proof.Gen.MixOutRefIdeal.Read
public import proofs.«01_k».proof.Proof.Gen.MixOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutIdeal.Math

open Cert.MixOutIdeal Cert.MixOutIdeal.Gen

variable (m : (ℓ : Loc nD τ sig) → Buf (Elt Ideal) ℓ)

/-- The grid is 8 tiles of 1024 rows; the weight is layer 1, whole. -/
theorem idx : ∀ t : Fin cfg0.N, win0_0.index t = ![t.val, 0] ∧ win0_1.index t = ![1, 0, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] :=
  (by decide +kernel : ∀ t : Fin grid0.N, _)

/-- A row's entry less the row's mean. -/
def center (z : Fin 1024 → EReal) (n : Fin 1024) : EReal := z n - Ideal.div (∑ k : Fin 1024, z k) (Ideal.ofBits .f32 0x44800000#32)

/-- A row's reciprocal standard deviation. -/
def invDev (z : Fin 1024 → EReal) : EReal :=
  Ideal.rsqrt (Ideal.div (∑ k : Fin 1024, center z k * center z k) (Ideal.ofBits .f32 0x44800000#32) + Ideal.ofBits .f32 0x3727C5AC#32)

/-- A row of a tile's sum before the norm. -/
def row (A : FVec Ideal S1024x1024 .bf16) (w : FVec Ideal S1x1024x1024 .bf16) (x : FVec Ideal S1024x1024 .f32) (s o : FVec Ideal S1x1024 .f32)
    (r n : Fin 1024) : EReal :=
  Ideal.ofBits .f32 0x3FD744FD#32 * (x (ix2 r n) * s (ix2 (0 : Fin 1) n) + o (ix2 (0 : Fin 1) n))
    + Ideal.ofBits .f32 0x3F800000#32 * ∑ k : Fin 1024, A (ix2 r k) * w (ix3 (0 : Fin 1) k n)

theorem pay7 (A : FVec Ideal S1024x1024 .bf16) (w : FVec Ideal S1x1024x1024 .bf16) (x : FVec Ideal S1024x1024 .f32) (s o : FVec Ideal S1x1024 .f32)
    (r n : Fin 1024) : k0_pay7 (F := Ideal) A w x s o (ix2 r n) = center (row A w x s o r) n := by
  pointwise [k0_pay7, center, row]

theorem pay8 (A : FVec Ideal S1024x1024 .bf16) (w : FVec Ideal S1x1024x1024 .bf16) (x : FVec Ideal S1024x1024 .f32) (s o : FVec Ideal S1x1024 .f32)
    (r : Fin 1024) (q : Fin 1) : k0_pay8 (F := Ideal) A w x s o (ix2 r q)
      = Ideal.div (∑ k : Fin 1024, center (row A w x s o r) k * center (row A w x s o r) k) (Ideal.ofBits .f32 0x44800000#32) := by
  pointwise [k0_pay8, pay7]

theorem pay9 (A : FVec Ideal S1024x1024 .bf16) (w : FVec Ideal S1x1024x1024 .bf16) (x : FVec Ideal S1024x1024 .f32) (s o g b : FVec Ideal S1x1024 .f32)
    (r n : Fin 1024) : k0_pay9 (F := Ideal) A w x s o g b (ix2 r n) = center (row A w x s o r) n := by
  unfold k0_pay9
  frame_out
  exact pay7 A w x s o r n

theorem pay10 (A : FVec Ideal S1024x1024 .bf16) (w : FVec Ideal S1x1024x1024 .bf16) (x : FVec Ideal S1024x1024 .f32) (s o g b : FVec Ideal S1x1024 .f32)
    (r : Fin 1024) (q : Fin 1) : k0_pay10 (F := Ideal) A w x s o g b (ix2 r q)
      = Ideal.div (∑ k : Fin 1024, center (row A w x s o r) k * center (row A w x s o r) k) (Ideal.ofBits .f32 0x44800000#32) := by
  unfold k0_pay10
  frame_out
  exact pay8 A w x s o r q

theorem norm_block (c : Dev nD) (t : Fin cfg0.N) (r n : Fin 1024) :
    (dats m 0 c).after 7 t (ix2 r n) = center (row (iblk m c 0 t) (iblk m c 1 t) (iblk m c 2 t) (iblk m c 3 t) (iblk m c 4 t) r) n
      * invDev (row (iblk m c 0 t) (iblk m c 1 t) (iblk m c 2 t) (iblk m c 3 t) (iblk m c 4 t) r) := by
  rw [after0_7]; frame_out
  pointwise [k0_pay2, k0_pay1, pay9, pay10, invDev]

theorem out_block (c : Dev nD) (t : Fin cfg0.N) (r n : Fin 1024) :
    (dats m 0 c).after 8 t (ix2 r n) = center (row (iblk m c 0 t) (iblk m c 1 t) (iblk m c 2 t) (iblk m c 3 t) (iblk m c 4 t) r) n
      * invDev (row (iblk m c 0 t) (iblk m c 1 t) (iblk m c 2 t) (iblk m c 3 t) (iblk m c 4 t) r)
      * (iblk m c 5 t : FVec Ideal S1x1024 .f32) (ix2 (0 : Fin 1) n) + (iblk m c 6 t : FVec Ideal S1x1024 .f32) (ix2 (0 : Fin 1) n) := by
  rw [after0_8]; frame_out
  pointwise [k0_pay2, k0_pay1, k0_pay4, k0_pay5, k0_pay6, pay9, pay10, invDev]

theorem dev_block (c : Dev nD) (t : Fin cfg0.N) (r : Fin 1024) (n : Fin 128) :
    (dats m 0 c).after 9 t (ix2 r n) = invDev (row (iblk m c 0 t) (iblk m c 1 t) (iblk m c 2 t) (iblk m c 3 t) (iblk m c 4 t) r) := by
  rw [after0_9]; frame_out
  pointwise [k0_pay1, k0_pay3, pay9, pay10, invDev]

/-- A row of the whole sum before the norm. -/
def rowAt (A : FVec Ideal S8192x1024 .bf16) (w : FVec Ideal S2x1024x1024 .bf16) (x : FVec Ideal S8192x1024 .f32) (s o : FVec Ideal S1x1024 .f32)
    (p : Fin 8192) (n : Fin 1024) : EReal :=
  Ideal.ofBits .f32 0x3FD744FD#32 * (x (ix2 p n) * s (ix2 (0 : Fin 1) n) + o (ix2 (0 : Fin 1) n))
    + Ideal.ofBits .f32 0x3F800000#32 * ∑ k : Fin 1024, A (ix2 p k) * w (ix3 (1 : Fin 2) k n)

theorem row_block (c : Dev nD) (t : Fin cfg0.N) (r : Fin 1024) (p : Fin 8192) (hr : p.val = t.val * 1024 + r.val) :
    row (iblk m c 0 t) (iblk m c 1 t) (iblk m c 2 t) (iblk m c 3 t) (iblk m c 4 t) r
      = rowAt (V m c main_v0) (V m c main_v1) (V m c main_arg2) (V m c main_v2) (V m c main_v3) p := by
  funext n
  unfold row rowAt
  blk_simp [iblk]
  generalize V m c main_v0 = A
  generalize V m c main_v1 = B
  generalize V m c main_arg2 = C
  generalize V m c main_v2 = D
  generalize V m c main_v3 = E
  blk_point [idx t]

theorem final7 (c : Dev nD) : (dats m 0 c).arrAt 7 cfg0.N = fun i =>
    center (rowAt (V m c main_v0) (V m c main_v1) (V m c main_arg2) (V m c main_v2) (V m c main_v3) (i 0)) (i 1)
      * invDev (rowAt (V m c main_v0) (V m c main_v1) (V m c main_arg2) (V m c main_v2) (V m c main_v3) (i 0)) := by
  refine (dats m 0 c).arrAt_eq_of_covers 7 _ (by decide +kernel) fun t hf y => ?_
  blk_simp
  have e0 : ((win0_7.blk t).view.emb y 0).val = t.val * 1024 + (y 0).val := by blk_point [idx t]
  have e1 : ((win0_7.blk t).view.emb y 1).val = (y 1).val := by blk_point [idx t]
  obtain ⟨r, n, rfl⟩ : ∃ r n, y = ix2 r n := ⟨y 0, y 1, eq_ix2 y⟩
  rw [norm_block, row_block m c t r _ e0]
  exact congrArg (fun k => center _ k * _) (Fin.ext e1).symm

theorem final8 (c : Dev nD) : (dats m 0 c).arrAt 8 cfg0.N = fun i =>
    center (rowAt (V m c main_v0) (V m c main_v1) (V m c main_arg2) (V m c main_v2) (V m c main_v3) (i 0)) (i 1)
      * invDev (rowAt (V m c main_v0) (V m c main_v1) (V m c main_arg2) (V m c main_v2) (V m c main_v3) (i 0))
      * (V m c main_v4 : FVec Ideal S1x1024 .f32) (ix2 (0 : Fin 1) (i 1)) + (V m c main_v5 : FVec Ideal S1x1024 .f32) (ix2 (0 : Fin 1) (i 1)) := by
  refine (dats m 0 c).arrAt_eq_of_covers 8 _ (by decide +kernel) fun t hf y => ?_
  blk_simp
  have e0 : ((win0_8.blk t).view.emb y 0).val = t.val * 1024 + (y 0).val := by blk_point [idx t]
  have e1 : ((win0_8.blk t).view.emb y 1).val = (y 1).val := by blk_point [idx t]
  obtain ⟨r, n, rfl⟩ : ∃ r n, y = ix2 r n := ⟨y 0, y 1, eq_ix2 y⟩
  have g5 : (iblk m c 5 t : FVec Ideal S1x1024 .f32) (ix2 (0 : Fin 1) n) = (V m c main_v4 : FVec Ideal S1x1024 .f32) (ix2 (0 : Fin 1) n) := by
    blk_simp [iblk]
    generalize V m c main_v4 = A
    blk_point [idx t]
  have g6 : (iblk m c 6 t : FVec Ideal S1x1024 .f32) (ix2 (0 : Fin 1) n) = (V m c main_v5 : FVec Ideal S1x1024 .f32) (ix2 (0 : Fin 1) n) := by
    blk_simp [iblk]
    generalize V m c main_v5 = A
    blk_point [idx t]
  rw [out_block, row_block m c t r _ e0, g5, g6]
  exact congrArg (fun k => center _ k * _ * (V m c main_v4 : FVec Ideal S1x1024 .f32) (ix2 (0 : Fin 1) k)
    + (V m c main_v5 : FVec Ideal S1x1024 .f32) (ix2 (0 : Fin 1) k)) (Fin.ext e1).symm

theorem final9 (c : Dev nD) : (dats m 0 c).arrAt 9 cfg0.N = fun i =>
    invDev (rowAt (V m c main_v0) (V m c main_v1) (V m c main_arg2) (V m c main_v2) (V m c main_v3) (i 0)) := by
  refine (dats m 0 c).arrAt_eq_of_covers 9 _ (by decide +kernel) fun t hf y => ?_
  blk_simp
  have e0 : ((win0_9.blk t).view.emb y 0).val = t.val * 1024 + (y 0).val := by blk_point [idx t]
  obtain ⟨r, n, rfl⟩ : ∃ r n, y = ix2 r n := ⟨y 0, y 1, eq_ix2 y⟩
  rw [dev_block, row_block m c t r _ e0]

section Ref

open Cert.MixOutRefIdeal.Read

variable (y : FVec Ideal S8192x1024 .f32) (w : FVec Ideal S2x1024x1024 .f32) (x : FVec Ideal S8192x1024 .f32) (s o g b : FVec Ideal S1024 .f32)

/-- A row of the sum, in the arguments. -/
def rowRef (p : Fin 8192) (n : Fin 1024) : EReal :=
  Ideal.ofBits .f32 0x3FD744FD#32 * (x (ix2 p n) * s (ix1 n) + o (ix1 n)) + ∑ k : Fin 1024, y (ix2 p k) * w (ix3 (1 : Fin 2) k n)

theorem one_eq : Ideal.ofBits .f32 0x3F800000#32 = 1 := by
  simp [Ideal.ofBits, Ideal.ieee]
  norm_cast
  norm_num

theorem ref_row (p : Fin 8192) (n : Fin 1024) : val_main_v11 (F := Ideal) y w x s o (ix2 p n) = rowRef y w x s o p n := by
  pointwise [val_main_v11, val_main_v10, val_main_v9, val_main_v8, val_main_v7, val_main_v6, val_main_v5, val_main_v4, val_main_v3, val_main_v2,
    val_main_v1, val_main_v0, val_main_cst, rowRef]

theorem zero_eq : Ideal.ofBits .f32 0x00000000#32 = 0 := by simp [Ideal.ofBits, Ideal.ieee]

theorem constant_zero (s : Shape) (j : s.Idx) : constant (F := Ideal) s .f32 0x00000000#32 j = 0 := zero_eq

theorem ref_center (p : Fin 8192) (n : Fin 1024) : val_main_v17 (F := Ideal) y w x s o (ix2 p n) = center (rowRef y w x s o p) n := by
  pointwise [val_main_v17, val_main_v16, val_main_v15, val_main_v14, val_main_v13, val_main_v12, val_main_cst_1, ref_row, center]
  simp only [val_main_cst_0, constant_zero, zero_add]

theorem ref_dev (p : Fin 8192) (q : Fin 1) : val_main_v25 (F := Ideal) y w x s o (ix2 p q) = invDev (rowRef y w x s o p) := by
  pointwise [val_main_v25, val_main_v24, val_main_v23, val_main_v22, val_main_v21, val_main_v20, val_main_v19, val_main_v18, val_main_cst_3, val_main_cst_4, ref_center, invDev]
  simp only [val_main_cst_2, constant_zero, zero_add]

theorem ref_center' (p : Fin 8192) (n : Fin 1024) : val_main_v33 (F := Ideal) y w x s o (ix2 p n) = center (rowRef y w x s o p) n := by
  pointwise [val_main_v33, val_main_v32, val_main_v31, val_main_v30, val_main_v29, val_main_v28, val_main_cst_6, ref_row, center]
  simp only [val_main_cst_5, constant_zero, zero_add]

theorem ref_dev' (p : Fin 8192) (q : Fin 1) : val_main_v41 (F := Ideal) y w x s o (ix2 p q) = invDev (rowRef y w x s o p) := by
  pointwise [val_main_v41, val_main_v40, val_main_v39, val_main_v38, val_main_v37, val_main_v36, val_main_v35, val_main_v34, val_main_cst_8, val_main_cst_9, ref_center', invDev]
  simp only [val_main_cst_7, constant_zero, zero_add]

theorem ref_norm (p : Fin 8192) (n : Fin 1024) : val_main_v27 (F := Ideal) y w x s o (ix2 p n) = center (rowRef y w x s o p) n * invDev (rowRef y w x s o p) := by
  pointwise [val_main_v27, val_main_v26, ref_center, ref_dev]

theorem ref_out (p : Fin 8192) (n : Fin 1024) : val_main_v50 (F := Ideal) y w x s o g b (ix2 p n)
    = center (rowRef y w x s o p) n * invDev (rowRef y w x s o p) * g (ix1 n) + b (ix1 n) := by
  pointwise [val_main_v50, val_main_v49, val_main_v48, val_main_v47, val_main_v46, val_main_v45, val_main_v44, val_main_v43, val_main_v42, ref_center', ref_dev']

theorem ref_wide (p : Fin 8192) (n : Fin 128) : val_main_v51 (F := Ideal) y w x s o (ix2 p n) = invDev (rowRef y w x s o p) := by
  pointwise [val_main_v51, ref_dev]

end Ref

/-- The call's operands are the arguments: the casts change nothing on the reals. -/
theorem entry_a (c : Dev nD) : (V m c main_v0 : FVec Ideal S8192x1024 .bf16) = m ((c : Thread nD τ).loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V m c main_v1 : FVec Ideal S2x1024x1024 .bf16) = m ((c : Thread nD τ).loc main_arg1) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_s (c : Dev nD) (n : Fin 1024) : (V m c main_v2 : FVec Ideal S1x1024 .f32) (ix2 (0 : Fin 1) n) = (m ((c : Thread nD τ).loc main_arg3) : FVec Ideal S1024 .f32) (ix1 n) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  pointwise

theorem entry_o (c : Dev nD) (n : Fin 1024) : (V m c main_v3 : FVec Ideal S1x1024 .f32) (ix2 (0 : Fin 1) n) = (m ((c : Thread nD τ).loc main_arg4) : FVec Ideal S1024 .f32) (ix1 n) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  pointwise

theorem entry_g (c : Dev nD) (n : Fin 1024) : (V m c main_v4 : FVec Ideal S1x1024 .f32) (ix2 (0 : Fin 1) n) = (m ((c : Thread nD τ).loc main_arg5) : FVec Ideal S1024 .f32) (ix1 n) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  pointwise

theorem entry_b (c : Dev nD) (n : Fin 1024) : (V m c main_v5 : FVec Ideal S1x1024 .f32) (ix2 (0 : Fin 1) n) = (m ((c : Thread nD τ).loc main_arg6) : FVec Ideal S1024 .f32) (ix1 n) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  pointwise

theorem row_eq (c : Dev nD) (p : Fin 8192) : rowAt (V m c main_v0) (V m c main_v1) (V m c main_arg2) (V m c main_v2) (V m c main_v3) p
    = rowRef (m ((c : Thread nD τ).loc main_arg0)) (m ((c : Thread nD τ).loc main_arg1)) (m ((c : Thread nD τ).loc main_arg2))
        (m ((c : Thread nD τ).loc main_arg3)) (m ((c : Thread nD τ).loc main_arg4)) p := by
  funext n
  unfold rowAt rowRef
  rw [entry_s, entry_o, entry_a, entry_w, V_main_arg2, one_eq, one_mul]

/-- A mixer's output product with its norm: the call computes the reference's normalised rows, output and reciprocal deviations. -/
theorem claim : Cert.algebraic_MixOutIdeal_MixOutRefIdeal := by
  intro m g m' g' _ hagree
  refine ⟨fun c => (dats m 0 c).arrAt 7 cfg0.N, fun c => (dats m 0 c).arrAt 8 cfg0.N, fun c => (dats m 0 c).arrAt 9 cfg0.N,
    Cert.MixOutIdeal.Value.run_blocks m g, ?_⟩
  refine (θ_run _ _ _).mono (fun r h c => ⟨?_, ?_, ?_, (h c).2.2.2⟩) (Cert.MixOutRefIdeal.Value.run m' g')
  · refine (h c).1.trans ?_
    refine (Cert.MixOutRefIdeal.Read.val_main_v27_eq _ _).trans ?_
    rw [(hagree c).1, (hagree c).2.1, (hagree c).2.2.1, (hagree c).2.2.2.1, (hagree c).2.2.2.2.1]
    refine Eq.trans ?_ (final7 m c).symm
    funext i
    obtain ⟨p, n, rfl⟩ : ∃ p n, i = ix2 p n := ⟨i 0, i 1, eq_ix2 i⟩
    exact (ref_norm _ _ _ _ _ p n).trans (congrArg (fun z => center z n * invDev z) (row_eq m c p).symm)
  · refine (h c).2.1.trans ?_
    refine (Cert.MixOutRefIdeal.Read.val_main_v50_eq _ _).trans ?_
    rw [(hagree c).1, (hagree c).2.1, (hagree c).2.2.1, (hagree c).2.2.2.1, (hagree c).2.2.2.2.1, (hagree c).2.2.2.2.2.1, (hagree c).2.2.2.2.2.2]
    refine Eq.trans ?_ (final8 m c).symm
    funext i
    obtain ⟨p, n, rfl⟩ : ∃ p n, i = ix2 p n := ⟨i 0, i 1, eq_ix2 i⟩
    refine (ref_out _ _ _ _ _ _ _ p n).trans ((congrArg (fun z => center z n * invDev z * _ + _) (row_eq m c p).symm).trans ?_)
    exact congrArg₂ (fun u z => center _ n * invDev _ * u + z) (entry_g m c n).symm (entry_b m c n).symm
  · refine (h c).2.2.1.trans ?_
    refine (Cert.MixOutRefIdeal.Read.val_main_v51_eq _ _).trans ?_
    rw [(hagree c).1, (hagree c).2.1, (hagree c).2.2.1, (hagree c).2.2.2.1, (hagree c).2.2.2.2.1]
    refine Eq.trans ?_ (final9 m c).symm
    funext i
    obtain ⟨p, n, rfl⟩ : ∃ p n, i = ix2 p n := ⟨i 0, i 1, eq_ix2 i⟩
    exact (ref_wide _ _ _ _ _ p n).trans (congrArg invDev (row_eq m c p).symm)

end Cert.MixOutIdeal.Math

end
-- ==== Proof.LruOutClaim.lean ====
module

public import proofs.«01_k».proof.Defs
public import proofs.«01_k».proof.Proof.Gen.LruOutIdeal.Value
public import proofs.«01_k».proof.Proof.Gen.LruOutRefIdeal.Read
public import proofs.«01_k».proof.Proof.Gen.LruOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.LruOutIdeal.Math

open Cert.LruOutIdeal Cert.LruOutIdeal.Gen

variable (m : (ℓ : Loc nD τ sig) → Buf (Elt Ideal) ℓ)

theorem idx : ∀ t : Fin cfg0.N, win0_0.index t = ![t.val, 0] ∧ win0_1.index t = ![t.val, 1] ∧ win0_2.index t = ![t.val, 0] :=
  (by decide +kernel : ∀ t : Fin grid0.N, _)

/-- The factor the gelu multiplies its argument with. -/
def phi (x : EReal) : EReal := Ideal.ofBits .f32 0x3F000000#32 * (Ideal.ofBits .f32 0x3F800000#32
  + Ideal.tanh (Ideal.ofBits .f32 0x3F4C422A#32 * (x + Ideal.ofBits .f32 0x3D372713#32 * (x * x * x))))

theorem pay_apply (h x : FVec Ideal S512x1024 .f32) (j : S512x1024.Idx) : k0_pay1 (F := Ideal) h x j = h j * (x j * phi (x j)) := by
  rfl

/-- The gate's pre-activation beside entry `i`: the second half of the projection's columns. -/
def gateAt (g : FVec Ideal S8192x2048 .f32) (i : S8192x1024.Idx) : EReal :=
  g (ix2 (i 0) ⟨1024 + (i 1).val, by have h1 : (i 1).val < 1024 := (i 1).isLt; show 1024 + (i 1).val < 2048; omega⟩)

/-- The recurrence's states times the gelu of the gates. -/
def gated (h : FVec Ideal S8192x1024 .f32) (g : FVec Ideal S8192x2048 .f32) : FVec Ideal S8192x1024 .bf16 :=
  fun i => h i * (gateAt g i * phi (gateAt g i))

theorem final (c : Dev nD) : (dats m 0 c).arrAt 2 cfg0.N = gated (V m c main_arg0) (V m c main_arg1) := by
  refine (dats m 0 c).arrAt_eq_of_covers 2 _ (by decide +kernel) fun t hf y => ?_
  blk_simp
  rw [after0_2]
  frame_out
  rw [pay_apply]
  blk_simp [iblk]
  unfold gated gateAt
  generalize V m c main_arg0 = A
  generalize V m c main_arg1 = B
  blk_point [idx t]

section Ref

open Cert.LruOutRefIdeal.Read

variable (h : FVec Ideal S8192x1024 .f32) (g : FVec Ideal S8192x2048 .f32)

theorem ref_gate (i : S8192x1024.Idx) : val_main_v0 (F := Ideal) g i = gateAt g i := by
  unfold gateAt
  rw [val_main_v0_apply]
  refine congrArg g (funext fun a => ?_)
  match a with
  | ⟨0, _⟩ => rfl
  | ⟨1, _⟩ => rfl

theorem ref_out : val_main_v15 (F := Ideal) h g = gated h g := by
  refine funext fun i => ?_
  show h i * (val_main_v0 (F := Ideal) g i * phi (val_main_v0 (F := Ideal) g i)) = h i * (gateAt g i * phi (gateAt g i))
  rw [ref_gate]

end Ref

/-- The recurrent block's output gate: the kernel's tiles hold the reference's products. -/
theorem claim : Cert.algebraic_LruOutIdeal_LruOutRefIdeal := by
  intro m g m' g' _ hagree
  refine ⟨fun c => (dats m 0 c).arrAt 2 cfg0.N, Cert.LruOutIdeal.Value.run_blocks m g, ?_⟩
  refine (θ_run _ _ _).mono (fun r h c => ⟨?_, (h c).2⟩) (Cert.LruOutRefIdeal.Value.run m' g')
  refine (h c).1.trans ?_
  refine (Cert.LruOutRefIdeal.Read.val_main_v15_eq _ _).trans ?_
  show _ = (dats m 0 c).arrAt 2 cfg0.N
  rw [final, V_main_arg0, V_main_arg1, (hagree c).1, (hagree c).2]
  exact ref_out _ _

end Cert.LruOutIdeal.Math

end
-- ==== Proof.QkvRopeClaim.lean ====
module

public import proofs.«01_k».proof.Defs
public import proofs.«01_k».proof.Proof.Gen.QkvRopeIdeal.Value
public import proofs.«01_k».proof.Proof.Gen.QkvRopeRefIdeal.Read
public import proofs.«01_k».proof.Proof.Gen.QkvRopeRefIdeal.Run
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvRopeIdeal.Math

open Cert.QkvRopeIdeal Cert.QkvRopeIdeal.Gen

variable (m : (ℓ : Loc nD τ sig) → Buf (Elt Ideal) ℓ)

/-- The grid is 16 tiles of 512 rows; the weight is layer 1, whole. -/
theorem idx : ∀ t : Fin cfg0.N, win0_0.index t = ![t.val, 0] ∧ win0_1.index t = ![1, 0, 0] ∧ win0_2.index t = ![t.val, 0]
    ∧ win0_3.index t = ![t.val, 0] ∧ win0_4.index t = ![t.val, 0] :=
  (by decide +kernel : ∀ t : Fin grid0.N, _)

/-- The column a column is turned with: 32 further in the first half of a head, 32 back in the second. -/
def other (j : Fin 1280) : Fin 1280 := ⟨if j.val % 64 < 32 then j.val + 32 else j.val - 32, by split_ifs <;> omega⟩

/-- A column of the queries and keys among all columns. -/
def col (j : Fin 1280) : Fin 1536 := ⟨j.val, by omega⟩

/-- A turned entry, from a row of products and a row of each table. -/
def turn (D : Fin 1536 → EReal) (c s : Fin 128 → EReal) (j : Fin 1280) : EReal :=
  D (col j) * c ⟨j.val % 128, by omega⟩ + D (col (other j)) * s ⟨j.val % 128, by omega⟩

/-- An entry of a row of the result: queries turned and scaled, keys turned, values as they are. -/
def entry (D : Fin 1536 → EReal) (c s : Fin 128 → EReal) (j : Fin 1536) : EReal :=
  if h : j.val < 1280 then
    if j.val < 1024 then turn D c s ⟨j.val, h⟩ * Ideal.ofBits .f32 0x3E000000#32 else turn D c s ⟨j.val, h⟩
  else D j

theorem pay2 (x : FVec Ideal S512x1024 .bf16) (w : FVec Ideal S1x1024x1536 .bf16) (r : Fin 512) (j : Fin 1536) :
    k0_pay2 (F := Ideal) x w (ix2 r j) = ∑ k : Fin 1024, x (ix2 r k) * w (ix3 (0 : Fin 1) k j) := by
  pointwise [k0_pay2]

theorem tile (v : FVec Ideal S512x128 .f32) (r : Fin 512) (j : Fin 1280) :
    concatenate S512x1280 1 [⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩] concatenates_S512x128_S512x128_S512x128_S512x128_S512x128_S512x128_S512x128_S512x128_S512x128_S512x128_S512x1280_d1 (ix2 r j)
      = v (ix2 r ⟨j.val % 128, by omega⟩) := by
  pointwise []
  split_ifs <;> (refine congrArg (fun j => v (ix2 r j)) (Fin.ext ?_); dsimp only; omega)

theorem back (v : FVec Ideal S512x1280 .f32) (r : Fin 512) (j : Fin 1280) :
    dynamicRotate 1 32#32 none v rotates_S512x1280_d1 (ix2 r j) = v (ix2 r ⟨(j.val + 1280 - 32) % 1280, by omega⟩) := by
  pointwise []

theorem ahead (v : FVec Ideal S512x1280 .f32) (r : Fin 512) (j : Fin 1280) :
    dynamicRotate 1 1248#32 none v rotates_S512x1280_d1 (ix2 r j) = v (ix2 r ⟨(j.val + 1280 - 1248) % 1280, by omega⟩) := by
  pointwise []

/-- Whether a column lies in the first half of its head, as the kernel's words say it. -/
def half (j : Fin 1280) : BitVec 1 :=
  IntOp.cmpi CmpIPredicate.slt
    (Scalar.select
      (IntOp.andi
        (IntOp.xori (IntOp.cmpi CmpIPredicate.slt (IntOp.remsi ArithUnit.vector (BitVec.ofNat 32 j.val) (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne (IntOp.remsi ArithUnit.vector (BitVec.ofNat 32 j.val) (Scalar.select (Scalar.cmpi CmpIPredicate.eq 64#32 0#32) 1#32 64#32)) 0#32))
      (IntOp.addi (IntOp.remsi ArithUnit.vector (BitVec.ofNat 32 j.val) (Scalar.select (Scalar.cmpi CmpIPredicate.eq 64#32 0#32) 1#32 64#32)) (Scalar.select (Scalar.cmpi CmpIPredicate.eq 64#32 0#32) 1#32 64#32))
      (IntOp.remsi ArithUnit.vector (BitVec.ofNat 32 j.val) (Scalar.select (Scalar.cmpi CmpIPredicate.eq 64#32 0#32) 1#32 64#32)))
    32#32

theorem half_word : ∀ j : Fin 1280, half j = BitVec.ofBool (decide (j.val % 64 < 32)) := by decide +kernel

theorem half_select (j : Fin 1280) (a b : EReal) : Scalar.select (half j) a b = if j.val % 64 < 32 then a else b := by
  rw [half_word]
  by_cases h : j.val % 64 < 32 <;> simp [h, Scalar.select]

theorem pay3 (x : FVec Ideal S512x1024 .bf16) (w : FVec Ideal S1x1024x1536 .bf16) (c s : FVec Ideal S512x128 .f32) (r : Fin 512) (j : Fin 1280) :
    k0_pay3 (F := Ideal) x w c s (ix2 r j) = turn (fun j => k0_pay2 (F := Ideal) x w (ix2 r j)) (fun q => c (ix2 r q)) (fun q => s (ix2 r q)) j := by
  unfold k0_pay3
  generalize k0_pay2 (F := Ideal) x w = D
  pointwise [tile, back, ahead]
  show D _ * c _ + Scalar.select (half j) _ _ * s _ = _
  rw [half_select]
  unfold turn
  refine congrArg (fun z => D _ * c _ + z * s _) ?_
  by_cases h : j.val % 64 < 32
  · rw [if_pos h]
    refine congrArg (fun q => D (ix2 r q)) (Fin.ext ?_)
    show (j.val + 1280 - 1248) % 1280 = (if j.val % 64 < 32 then j.val + 32 else j.val - 32)
    rw [if_pos h]
    omega
  · rw [if_neg h]
    refine congrArg (fun q => D (ix2 r q)) (Fin.ext ?_)
    show (j.val + 1280 - 32) % 1280 = (if j.val % 64 < 32 then j.val + 32 else j.val - 32)
    rw [if_neg h]
    omega

theorem pay1 (x : FVec Ideal S512x1024 .bf16) (w : FVec Ideal S1x1024x1536 .bf16) (c s : FVec Ideal S512x128 .f32) (r : Fin 512) (j : Fin 1536) :
    k0_pay1 (F := Ideal) (k0_pay2 (F := Ideal) x w) (k0_pay3 (F := Ideal) x w c s) (k0_pay4 (F := Ideal) x w c s) (Scalar.ofBits .f32 0x3E000000#32) (ix2 r j)
      = entry (fun j => k0_pay2 (F := Ideal) x w (ix2 r j)) (fun q => c (ix2 r q)) (fun q => s (ix2 r q)) j := by
  pointwise [k0_pay1, k0_pay4, pay3, entry]
  by_cases h1 : j.val < 1024
  · have h2 : j.val < 1280 := by omega
    rw [dif_pos h1, dif_pos h2, if_pos h1]
  · by_cases h2 : j.val < 1280
    · have h3 : j.val - 1024 < 256 := by omega
      rw [dif_neg h1, dif_pos h3, dif_pos h2, if_neg h1]
      refine congrArg (turn _ _ _) (Fin.ext ?_)
      show 1024 + (j.val - 1024) = j.val
      omega
    · have h3 : ¬ j.val - 1024 < 256 := by omega
      rw [dif_neg h1, dif_neg h3, dif_neg h2]
      refine congrArg (fun q => k0_pay2 (F := Ideal) x w (ix2 r q)) (Fin.ext ?_)
      show 1280 + (j.val - 1024 - 256) = j.val
      omega

/-- One entry of the product of the rows and the mixer's weight. -/
def dot {α β : FTy} (A : FVec Ideal S8192x1024 α) (B : FVec Ideal S2x1024x1536 β) (p : Fin 8192) (j : Fin 1536) : EReal :=
  ∑ k : Fin 1024, (A (ix2 p k) : EReal) * (B (ix3 (1 : Fin 2) k j) : EReal)

/-- The sine's table at one entry: negated in the first half of a head. -/
def sine (s : FVec Ideal S8192x32 .f32) (p : Fin 8192) (q : Fin 128) : EReal :=
  if q.val % 64 < 32 then -(s (ix2 p ⟨q.val % 32, by omega⟩) : EReal) else s (ix2 p ⟨q.val % 32, by omega⟩)

/-- The result from the rows, the weight and the two tables. -/
def result (A : FVec Ideal S8192x1024 .bf16) (B : FVec Ideal S2x1024x1536 .bf16) (C S : FVec Ideal S8192x128 .f32) : FVec Ideal S8192x1536 .bf16 :=
  fun i => entry (dot A B (i 0)) (fun q => C (ix2 (i 0) q)) (fun q => S (ix2 (i 0) q)) (i 1)

theorem dot_block (c : Dev nD) (t : Fin cfg0.N) (r : Fin 512) (p : Fin 8192) (hr : p.val = t.val * 512 + r.val) (j : Fin 1536) :
    k0_pay2 (F := Ideal) (iblk m c 0 t) (iblk m c 1 t) (ix2 r j)
      = dot (α := .bf16) (β := .bf16) (V m c main_v8) (V m c main_v9) p j := by
  rw [pay2]
  unfold dot
  blk_simp [iblk]
  generalize V m c main_v8 = A
  generalize V m c main_v9 = B
  blk_point [idx t]

theorem cos_block (c : Dev nD) (t : Fin cfg0.N) (r : Fin 512) (p : Fin 8192) (hr : p.val = t.val * 512 + r.val) (q : Fin 128) :
    (iblk m c 2 t : FVec Ideal S512x128 .f32) (ix2 r q) = (V m c main_v2 : FVec Ideal S8192x128 .f32) (ix2 p q) := by
  blk_simp [iblk]
  generalize V m c main_v2 = A
  blk_point [idx t]

theorem sin_block (c : Dev nD) (t : Fin cfg0.N) (r : Fin 512) (p : Fin 8192) (hr : p.val = t.val * 512 + r.val) (q : Fin 128) :
    (iblk m c 3 t : FVec Ideal S512x128 .f32) (ix2 r q) = (V m c main_v7 : FVec Ideal S8192x128 .f32) (ix2 p q) := by
  blk_simp [iblk]
  generalize V m c main_v7 = A
  blk_point [idx t]

theorem final_result (c : Dev nD) : (dats m 0 c).arrAt 4 cfg0.N = result (V m c main_v8) (V m c main_v9) (V m c main_v2) (V m c main_v7) := by
  refine (dats m 0 c).arrAt_eq_of_covers 4 _ (by decide +kernel) fun t hf y => ?_
  blk_simp
  have e0 : ((win0_4.blk t).view.emb y 0).val = t.val * 512 + (y 0).val := by blk_point [idx t]
  have e1 : ((win0_4.blk t).view.emb y 1).val = (y 1).val := by blk_point [idx t]
  obtain ⟨r, n, rfl⟩ : ∃ r n, y = ix2 r n := ⟨y 0, y 1, eq_ix2 y⟩
  rw [after0_4]
  frame_out
  show _ = result _ _ _ _ ((win0_4.blk t).view.emb (ix2 r n))
  generalize (win0_4.blk t).view.emb (ix2 r n) = E at e0 e1 ⊢
  obtain ⟨p, j, rfl⟩ : ∃ (p : Fin 8192) (j : Fin 1536), E = ix2 p j := ⟨E 0, E 1, eq_ix2 E⟩
  have hr : p.val = t.val * 512 + r.val := e0
  obtain rfl : j = n := Fin.ext e1
  rw [pay1]
  have hd := funext (dot_block m c t r p hr)
  have hc := funext (cos_block m c t r p hr)
  have hs := funext (sin_block m c t r p hr)
  rw [hd, hc, hs]
  rfl

theorem entry_x (c : Dev nD) : (V m c main_v8 : FVec Ideal S8192x1024 .bf16) = m ((c : Thread nD τ).loc main_arg0) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_w (c : Dev nD) : (V m c main_v9 : FVec Ideal S2x1024x1536 .bf16) = m ((c : Thread nD τ).loc main_arg1) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  rfl

theorem entry_c (c : Dev nD) (p : Fin 8192) (q : Fin 128) : (V m c main_v2 : FVec Ideal S8192x128 .f32) (ix2 p q)
    = (m ((c : Thread nD τ).loc main_arg2) : FVec Ideal S8192x32 .f32) (ix2 p ⟨q.val % 32, by omega⟩) := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  pointwise []

theorem entry_s (c : Dev nD) (p : Fin 8192) (q : Fin 128) : (V m c main_v7 : FVec Ideal S8192x128 .f32) (ix2 p q)
    = sine (m ((c : Thread nD τ).loc main_arg3)) p q := by
  unfold V
  simp only [hostOps0, List.flatten_cons, List.flatten_nil, List.cons_append, List.nil_append,
    StableHlo.TRef.binary, StableHlo.TRef.nullary, StableHlo.TRef.unary, StableHlo.TRef.toBuf, StableHlo.TRef.ofBuf, cast_eq]
  after_results_simp
  pointwise []
  unfold sine
  by_cases h : q.val % 64 < 32
  · rw [dif_pos h, if_pos h]
    after_results_simp
    refine congrArg (fun z : EReal => -z) (congrArg (fun j => (m ((c : Thread nD τ).loc main_arg3) : FVec Ideal S8192x32 .f32) (ix2 p j)) (Fin.ext ?_))
    dsimp only
    omega
  · rw [dif_neg h, if_neg h]
    after_results_simp
    refine congrArg (fun j => (m ((c : Thread nD τ).loc main_arg3) : FVec Ideal S8192x32 .f32) (ix2 p j)) (Fin.ext ?_)
    dsimp only
    omega

section Ref

open Cert.QkvRopeRefIdeal.Read

variable (x : FVec Ideal S8192x1024 .f32) (w : FVec Ideal S2x1024x1536 .f32) (c s : FVec Ideal S8192x32 .f32)

theorem ref_dot (p : Fin 8192) (j : Fin 1536) : val_main_v2 (F := Ideal) x w (ix2 p j) = dot x w p j := by
  unfold dot
  pointwise [val_main_v2, val_main_v1, val_main_v0]

theorem ref_head (p : Fin 8192) (h : Fin 20) (e : Fin 64) : val_main_v4 (F := Ideal) x w (ix3 p h e)
    = val_main_v2 (F := Ideal) x w (ix2 p ⟨h.val * 64 + e.val, by omega⟩) := by
  pointwise [val_main_v4, val_main_v3]

theorem ref_first (p : Fin 8192) (h : Fin 20) (e : Fin 32) : val_main_v13 (F := Ideal) x w c s (ix3 p h e)
    = (val_main_v2 (F := Ideal) x w (ix2 p ⟨h.val * 64 + e.val, by omega⟩) * c (ix2 p e)
      - val_main_v2 (F := Ideal) x w (ix2 p ⟨h.val * 64 + (32 + e.val), by omega⟩) * s (ix2 p e) : EReal) := by
  pointwise [val_main_v13, val_main_v12, val_main_v11, val_main_v10, val_main_v9, val_main_v8, val_main_v7, val_main_v6, val_main_v5, ref_head]

theorem ref_second (p : Fin 8192) (h : Fin 20) (e : Fin 32) : val_main_v18 (F := Ideal) x w c s (ix3 p h e)
    = (val_main_v2 (F := Ideal) x w (ix2 p ⟨h.val * 64 + (32 + e.val), by omega⟩) * c (ix2 p e)
      + val_main_v2 (F := Ideal) x w (ix2 p ⟨h.val * 64 + e.val, by omega⟩) * s (ix2 p e) : EReal) := by
  pointwise [val_main_v18, val_main_v17, val_main_v16, val_main_v15, val_main_v14, val_main_v8, val_main_v7, val_main_v6, val_main_v5, ref_head]

theorem ref_turn (p : Fin 8192) (j : Fin 1280) : val_main_v20 (F := Ideal) x w c s (ix2 p j)
    = turn (fun j => val_main_v2 (F := Ideal) x w (ix2 p j)) (fun q => c (ix2 p ⟨q.val % 32, by omega⟩))
        (sine s p) j := by
  pointwise [val_main_v20, val_main_v19, ref_first, ref_second]
  unfold turn sine other col
  by_cases h : j.val % 64 < 32
  · have h' : j.val % 128 % 64 < 32 := by omega
    rw [dif_pos h, if_pos h']
    rw [mul_neg, ← sub_eq_add_neg]
    congr 1
    · congr 1
      · exact congrArg (fun q => val_main_v2 (F := Ideal) x w (ix2 p q)) (Fin.ext (by dsimp only; omega))
      · exact congrArg (fun q => c (ix2 p q)) (Fin.ext (by dsimp only; omega))
    · congr 1
      · exact congrArg (fun q => val_main_v2 (F := Ideal) x w (ix2 p q)) (Fin.ext (by dsimp only; rw [if_pos h]; omega))
      · exact congrArg (fun q => s (ix2 p q)) (Fin.ext (by dsimp only; omega))
  · have h' : ¬ j.val % 128 % 64 < 32 := by omega
    rw [dif_neg h, if_neg h']
    congr 1
    · congr 1
      · exact congrArg (fun q => val_main_v2 (F := Ideal) x w (ix2 p q)) (Fin.ext (by dsimp only; omega))
      · exact congrArg (fun q => c (ix2 p q)) (Fin.ext (by dsimp only; omega))
    · congr 1
      · exact congrArg (fun q => val_main_v2 (F := Ideal) x w (ix2 p q)) (Fin.ext (by dsimp only; rw [if_neg h]; omega))
      · exact congrArg (fun q => s (ix2 p q)) (Fin.ext (by dsimp only; omega))

theorem ref_entry (p : Fin 8192) (j : Fin 1536) : val_main_v27 (F := Ideal) x w c s (ix2 p j)
    = entry (fun j => val_main_v2 (F := Ideal) x w (ix2 p j)) (fun q => c (ix2 p ⟨q.val % 32, by omega⟩))
        (sine s p) j := by
  pointwise [val_main_v27, val_main_v26, val_main_v25, val_main_v24, val_main_v23, val_main_v22, val_main_v21, val_main_cst, ref_turn, entry]
  by_cases h1 : j.val < 1024
  · have h2 : j.val < 1280 := by omega
    rw [dif_pos h1, dif_pos h2, if_pos h1]
  · by_cases h2 : j.val < 1280
    · have h3 : j.val - 1024 < 256 := by omega
      rw [dif_neg h1, dif_pos h3, dif_pos h2, if_neg h1]
      exact congrArg (turn _ _ _) (Fin.ext (by dsimp only; omega))
    · have h3 : ¬ j.val - 1024 < 256 := by omega
      rw [dif_neg h1, dif_neg h3, dif_neg h2]
      exact congrArg (fun q => val_main_v2 (F := Ideal) x w (ix2 p q)) (Fin.ext (by dsimp only; omega))

end Ref

theorem final (c : Dev nD) : (dats m 0 c).arrAt 4 cfg0.N
    = Cert.QkvRopeRefIdeal.Read.val_main_v27 (F := Ideal) (m ((c : Thread nD τ).loc main_arg0)) (m ((c : Thread nD τ).loc main_arg1))
        (m ((c : Thread nD τ).loc main_arg2)) (m ((c : Thread nD τ).loc main_arg3)) := by
  refine (final_result m c).trans (funext fun i => ?_)
  obtain ⟨p, j, rfl⟩ : ∃ (p : Fin 8192) (j : Fin 1536), i = ix2 p j := ⟨i 0, i 1, eq_ix2 i⟩
  rw [ref_entry, entry_x, entry_w, funext (ref_dot _ _ p)]
  show entry _ (fun q => (V m c main_v2 : FVec Ideal S8192x128 .f32) (ix2 p q)) (fun q => (V m c main_v7 : FVec Ideal S8192x128 .f32) (ix2 p q)) j = _
  rw [funext (entry_c m c p), funext (entry_s m c p)]
  rfl

/-- The attention's product for queries, keys and values: the kernel's tiles of rows, turned by two rotations and a choice, are the reference's. -/
theorem claim : Cert.algebraic_QkvRopeIdeal_QkvRopeRefIdeal := by
  intro m g m' g' _ hagree
  refine ⟨fun c => (dats m 0 c).arrAt 4 cfg0.N, Cert.QkvRopeIdeal.Value.run_blocks m g, ?_⟩
  refine (θ_run _ _ _).mono (fun r h c => ⟨?_, (h c).2⟩) (Cert.QkvRopeRefIdeal.Value.run m' g')
  refine (h c).1.trans ?_
  refine (Cert.QkvRopeRefIdeal.Read.val_main_v27_eq _ _).trans ?_
  show _ = (dats m 0 c).arrAt 4 cfg0.N
  rw [final, (hagree c).1, (hagree c).2.1, (hagree c).2.2.1, (hagree c).2.2.2]

end Cert.QkvRopeIdeal.Math

end
-- ==== Proof.lean ====
module

public import proofs.«01_k».proof.Defs
public import proofs.«01_k».proof.Proof.Gen.Pre_finite_scan
public import proofs.«01_k».proof.Proof.Gen.Pre_finite_norm
public import proofs.«01_k».proof.Proof.Gen.Pre_finite_ffn
public import proofs.«01_k».proof.Proof.Gen.Scan
public import proofs.«01_k».proof.Proof.Gen.Scan.Skeleton
public import proofs.«01_k».proof.Proof.Gen.Scan.Loops
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Loops
public import proofs.«01_k».proof.Proof.Gen.ScanIdeal.Launch
public import proofs.«01_k».proof.Proof.Gen.ScanIdeal.Points
public import proofs.«01_k».proof.Proof.Gen.ScanIdeal.Frame
public import proofs.«01_k».proof.Proof.Gen.ScanRefIdeal
public import proofs.«01_k».proof.Proof.Gen.FfnDx
public import proofs.«01_k».proof.Proof.Gen.FfnDx.Skeleton
public import proofs.«01_k».proof.Proof.Gen.FfnDx.Launch
public import proofs.«01_k».proof.Proof.Gen.FfnDx.Points
public import proofs.«01_k».proof.Proof.Gen.FfnDx.Frame
public import proofs.«01_k».proof.Proof.Gen.FfnDxIdeal
public import proofs.«01_k».proof.Proof.Gen.FfnDxIdeal.Skeleton
public import proofs.«01_k».proof.Proof.Gen.FfnDxIdeal.Launch
public import proofs.«01_k».proof.Proof.Gen.FfnDxIdeal.Points
public import proofs.«01_k».proof.Proof.Gen.FfnDxIdeal.Frame
public import proofs.«01_k».proof.Proof.Gen.FfnDxRefIdeal
public import proofs.«01_k».proof.Proof.Gen.FfnDwOut
public import proofs.«01_k».proof.Proof.Gen.FfnDwOut.Skeleton
public import proofs.«01_k».proof.Proof.Gen.FfnDwOut.Launch
public import proofs.«01_k».proof.Proof.Gen.FfnDwOut.Points
public import proofs.«01_k».proof.Proof.Gen.FfnDwOut.Frame
public import proofs.«01_k».proof.Proof.Gen.FfnDwOutIdeal
public import proofs.«01_k».proof.Proof.Gen.FfnDwOutIdeal.Skeleton
public import proofs.«01_k».proof.Proof.Gen.FfnDwOutIdeal.Launch
public import proofs.«01_k».proof.Proof.Gen.FfnDwOutIdeal.Points
public import proofs.«01_k».proof.Proof.Gen.FfnDwOutIdeal.Frame
public import proofs.«01_k».proof.Proof.Gen.FfnDwOutRefIdeal
public import proofs.«01_k».proof.Proof.Gen.FfnDwIn
public import proofs.«01_k».proof.Proof.Gen.FfnDwIn.Skeleton
public import proofs.«01_k».proof.Proof.Gen.FfnDwIn.Launch
public import proofs.«01_k».proof.Proof.Gen.FfnDwIn.Points
public import proofs.«01_k».proof.Proof.Gen.FfnDwIn.Frame
public import proofs.«01_k».proof.Proof.Gen.FfnDwInIdeal
public import proofs.«01_k».proof.Proof.Gen.FfnDwInIdeal.Skeleton
public import proofs.«01_k».proof.Proof.Gen.FfnDwInIdeal.Launch
public import proofs.«01_k».proof.Proof.Gen.FfnDwInIdeal.Points
public import proofs.«01_k».proof.Proof.Gen.FfnDwInIdeal.Frame
public import proofs.«01_k».proof.Proof.Gen.FfnDwInRefIdeal
public import proofs.«01_k».proof.Proof.Gen.FfnDwOutIdeal.Value
public import proofs.«01_k».proof.Proof.Gen.FfnDwInRefIdeal.Run
public import proofs.«01_k».proof.Proof.Gen.FfnDxRefIdeal.Run
public import proofs.«01_k».proof.Proof.Gen.FfnDwOutRefIdeal.Run
public import proofs.«01_k».proof.Proof.Gen.ScanRefIdeal.Run
public import proofs.«01_k».proof.Proof.Gen.FfnDwInRefIdeal.Read
public import proofs.«01_k».proof.Proof.Gen.FfnDxRefIdeal.Read
public import proofs.«01_k».proof.Proof.Gen.FfnDwOutRefIdeal.Read
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormRefIdeal
public import proofs.«01_k».proof.Proof.Gen.NormRefIdeal.Run
public import proofs.«01_k».proof.Proof.Gen.NormRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.Gen.FfnFwdRefIdeal.Read
public import proofs.«01_k».proof.Proof.Gen.MixDw
public import proofs.«01_k».proof.Proof.Gen.MixDw.Skeleton
public import proofs.«01_k».proof.Proof.Gen.MixDw.Launch
public import proofs.«01_k».proof.Proof.Gen.MixDw.Points
public import proofs.«01_k».proof.Proof.Gen.MixDw.Frame
public import proofs.«01_k».proof.Proof.Gen.MixDwIdeal
public import proofs.«01_k».proof.Proof.Gen.MixDwIdeal.Skeleton
public import proofs.«01_k».proof.Proof.Gen.MixDwIdeal.Launch
public import proofs.«01_k».proof.Proof.Gen.MixDwIdeal.Points
public import proofs.«01_k».proof.Proof.Gen.MixDwIdeal.Frame
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.MixDwRefIdeal.Read
public import proofs.«01_k».proof.Proof.Gen.AttnDwQkv
public import proofs.«01_k».proof.Proof.Gen.AttnDwQkv.Skeleton
public import proofs.«01_k».proof.Proof.Gen.AttnDwQkv.Launch
public import proofs.«01_k».proof.Proof.Gen.AttnDwQkv.Points
public import proofs.«01_k».proof.Proof.Gen.AttnDwQkv.Frame
public import proofs.«01_k».proof.Proof.Gen.AttnDwQkvIdeal
public import proofs.«01_k».proof.Proof.Gen.AttnDwQkvIdeal.Skeleton
public import proofs.«01_k».proof.Proof.Gen.AttnDwQkvIdeal.Launch
public import proofs.«01_k».proof.Proof.Gen.AttnDwQkvIdeal.Points
public import proofs.«01_k».proof.Proof.Gen.AttnDwQkvIdeal.Frame
public import proofs.«01_k».proof.Proof.Gen.AttnDwQkvIdeal.Value
public import proofs.«01_k».proof.Proof.Gen.AttnDwQkvRefIdeal
public import proofs.«01_k».proof.Proof.Gen.AttnDwQkvRefIdeal.Run
public import proofs.«01_k».proof.Proof.Gen.AttnDwQkvRefIdeal.Read
public import proofs.«01_k».proof.Proof.Gen.LruDwIn
public import proofs.«01_k».proof.Proof.Gen.LruDwIn.Skeleton
public import proofs.«01_k».proof.Proof.Gen.LruDwIn.Launch
public import proofs.«01_k».proof.Proof.Gen.LruDwIn.Points
public import proofs.«01_k».proof.Proof.Gen.LruDwIn.Frame
public import proofs.«01_k».proof.Proof.Gen.LruDwInIdeal
public import proofs.«01_k».proof.Proof.Gen.LruDwInIdeal.Skeleton
public import proofs.«01_k».proof.Proof.Gen.LruDwInIdeal.Launch
public import proofs.«01_k».proof.Proof.Gen.LruDwInIdeal.Points
public import proofs.«01_k».proof.Proof.Gen.LruDwInIdeal.Frame
public import proofs.«01_k».proof.Proof.Gen.LruDwInIdeal.Value
public import proofs.«01_k».proof.Proof.Gen.LruDwInRefIdeal
public import proofs.«01_k».proof.Proof.Gen.LruDwInRefIdeal.Run
public import proofs.«01_k».proof.Proof.Gen.LruDwInRefIdeal.Read
public import proofs.«01_k».proof.Proof.Gen.LruDwGates
public import proofs.«01_k».proof.Proof.Gen.LruDwGates.Skeleton
public import proofs.«01_k».proof.Proof.Gen.LruDwGates.Launch
public import proofs.«01_k».proof.Proof.Gen.LruDwGates.Points
public import proofs.«01_k».proof.Proof.Gen.LruDwGates.Frame
public import proofs.«01_k».proof.Proof.Gen.LruDwGatesIdeal
public import proofs.«01_k».proof.Proof.Gen.LruDwGatesIdeal.Skeleton
public import proofs.«01_k».proof.Proof.Gen.LruDwGatesIdeal.Launch
public import proofs.«01_k».proof.Proof.Gen.LruDwGatesIdeal.Points
public import proofs.«01_k».proof.Proof.Gen.LruDwGatesIdeal.Frame
public import proofs.«01_k».proof.Proof.Gen.LruDwGatesIdeal.Value
public import proofs.«01_k».proof.Proof.Gen.LruDwGatesRefIdeal
public import proofs.«01_k».proof.Proof.Gen.LruDwGatesRefIdeal.Run
public import proofs.«01_k».proof.Proof.Gen.LruDwGatesRefIdeal.Read
public import proofs.«01_k».proof.Proof.Gen.AttnDo
public import proofs.«01_k».proof.Proof.Gen.AttnDo.Skeleton
public import proofs.«01_k».proof.Proof.Gen.AttnDo.Launch
public import proofs.«01_k».proof.Proof.Gen.AttnDo.Points
public import proofs.«01_k».proof.Proof.Gen.AttnDo.Frame
public import proofs.«01_k».proof.Proof.Gen.AttnDoIdeal
public import proofs.«01_k».proof.Proof.Gen.AttnDoIdeal.Skeleton
public import proofs.«01_k».proof.Proof.Gen.AttnDoIdeal.Launch
public import proofs.«01_k».proof.Proof.Gen.AttnDoIdeal.Points
public import proofs.«01_k».proof.Proof.Gen.AttnDoIdeal.Frame
public import proofs.«01_k».proof.Proof.Gen.AttnDoIdeal.Value
public import proofs.«01_k».proof.Proof.Gen.AttnDoRefIdeal
public import proofs.«01_k».proof.Proof.Gen.AttnDoRefIdeal.Run
public import proofs.«01_k».proof.Proof.Gen.AttnDoRefIdeal.Read
public import proofs.«01_k».proof.Proof.Gen.LruDy
public import proofs.«01_k».proof.Proof.Gen.LruDy.Skeleton
public import proofs.«01_k».proof.Proof.Gen.LruDy.Launch
public import proofs.«01_k».proof.Proof.Gen.LruDy.Points
public import proofs.«01_k».proof.Proof.Gen.LruDy.Frame
public import proofs.«01_k».proof.Proof.Gen.LruDyIdeal
public import proofs.«01_k».proof.Proof.Gen.LruDyIdeal.Skeleton
public import proofs.«01_k».proof.Proof.Gen.LruDyIdeal.Launch
public import proofs.«01_k».proof.Proof.Gen.LruDyIdeal.Points
public import proofs.«01_k».proof.Proof.Gen.LruDyIdeal.Frame
public import proofs.«01_k».proof.Proof.Gen.LruDyIdeal.Value
public import proofs.«01_k».proof.Proof.Gen.LruDyRefIdeal
public import proofs.«01_k».proof.Proof.Gen.LruDyRefIdeal.Run
public import proofs.«01_k».proof.Proof.Gen.LruDyRefIdeal.Read
public import proofs.«01_k».proof.Proof.Gen.AttnDx
public import proofs.«01_k».proof.Proof.Gen.AttnDx.Skeleton
public import proofs.«01_k».proof.Proof.Gen.AttnDx.Launch
public import proofs.«01_k».proof.Proof.Gen.AttnDx.Points
public import proofs.«01_k».proof.Proof.Gen.AttnDx.Frame
public import proofs.«01_k».proof.Proof.Gen.AttnDxIdeal
public import proofs.«01_k».proof.Proof.Gen.AttnDxIdeal.Skeleton
public import proofs.«01_k».proof.Proof.Gen.AttnDxIdeal.Launch
public import proofs.«01_k».proof.Proof.Gen.AttnDxIdeal.Points
public import proofs.«01_k».proof.Proof.Gen.AttnDxIdeal.Frame
public import proofs.«01_k».proof.Proof.Gen.AttnDxIdeal.Value
public import proofs.«01_k».proof.Proof.Gen.AttnDxRefIdeal
public import proofs.«01_k».proof.Proof.Gen.AttnDxRefIdeal.Run
public import proofs.«01_k».proof.Proof.Gen.AttnDxRefIdeal.Read
public import proofs.«01_k».proof.Proof.Gen.LruDx
public import proofs.«01_k».proof.Proof.Gen.LruDx.Skeleton
public import proofs.«01_k».proof.Proof.Gen.LruDx.Launch
public import proofs.«01_k».proof.Proof.Gen.LruDx.Points
public import proofs.«01_k».proof.Proof.Gen.LruDx.Frame
public import proofs.«01_k».proof.Proof.Gen.LruDxIdeal
public import proofs.«01_k».proof.Proof.Gen.LruDxIdeal.Skeleton
public import proofs.«01_k».proof.Proof.Gen.LruDxIdeal.Launch
public import proofs.«01_k».proof.Proof.Gen.LruDxIdeal.Points
public import proofs.«01_k».proof.Proof.Gen.LruDxIdeal.Frame
public import proofs.«01_k».proof.Proof.Gen.LruDxIdeal.Value
public import proofs.«01_k».proof.Proof.Gen.LruDxRefIdeal
public import proofs.«01_k».proof.Proof.Gen.LruDxRefIdeal.Run
public import proofs.«01_k».proof.Proof.Gen.LruDxRefIdeal.Read
public import proofs.«01_k».proof.Proof.Gen.LruDxc
public import proofs.«01_k».proof.Proof.Gen.LruDxc.Skeleton
public import proofs.«01_k».proof.Proof.Gen.LruDxc.Launch
public import proofs.«01_k».proof.Proof.Gen.LruDxc.Points
public import proofs.«01_k».proof.Proof.Gen.LruDxc.Frame
public import proofs.«01_k».proof.Proof.Gen.LruDxcIdeal
public import proofs.«01_k».proof.Proof.Gen.LruDxcIdeal.Skeleton
public import proofs.«01_k».proof.Proof.Gen.LruDxcIdeal.Launch
public import proofs.«01_k».proof.Proof.Gen.LruDxcIdeal.Points
public import proofs.«01_k».proof.Proof.Gen.LruDxcIdeal.Frame
public import proofs.«01_k».proof.Proof.Gen.LruDxcIdeal.Value
public import proofs.«01_k».proof.Proof.Gen.LruDxcRefIdeal
public import proofs.«01_k».proof.Proof.Gen.LruDxcRefIdeal.Run
public import proofs.«01_k».proof.Proof.Gen.LruDxcRefIdeal.Read
public import proofs.«01_k».proof.Proof.Gen.LruIn
public import proofs.«01_k».proof.Proof.Gen.LruIn.Skeleton
public import proofs.«01_k».proof.Proof.Gen.LruIn.Launch
public import proofs.«01_k».proof.Proof.Gen.LruIn.Points
public import proofs.«01_k».proof.Proof.Gen.LruIn.Frame
public import proofs.«01_k».proof.Proof.Gen.LruInIdeal
public import proofs.«01_k».proof.Proof.Gen.LruInIdeal.Skeleton
public import proofs.«01_k».proof.Proof.Gen.LruInIdeal.Launch
public import proofs.«01_k».proof.Proof.Gen.LruInIdeal.Points
public import proofs.«01_k».proof.Proof.Gen.LruInIdeal.Frame
public import proofs.«01_k».proof.Proof.Gen.LruInIdeal.Value
public import proofs.«01_k».proof.Proof.Gen.LruInRefIdeal
public import proofs.«01_k».proof.Proof.Gen.LruInRefIdeal.Run
public import proofs.«01_k».proof.Proof.Gen.LruInRefIdeal.Read
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInIdeal.Value
public import proofs.«01_k».proof.Proof.Gen.AdamWInRefIdeal
public import proofs.«01_k».proof.Proof.Gen.AdamWInRefIdeal.Run
public import proofs.«01_k».proof.Proof.Gen.AdamWInRefIdeal.Read
public import proofs.«01_k».proof.Proof.Gen.AdamWOut
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOutIdeal
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutIdeal.Value
public import proofs.«01_k».proof.Proof.Gen.AdamWOutRefIdeal
public import proofs.«01_k».proof.Proof.Gen.AdamWOutRefIdeal.Run
public import proofs.«01_k».proof.Proof.Gen.AdamWOutRefIdeal.Read
public import proofs.«01_k».proof.Proof.Gen.AdamQkv
public import proofs.«01_k».proof.Proof.Gen.AdamQkv.Skeleton
public import proofs.«01_k».proof.Proof.Gen.AdamQkv.Launch
public import proofs.«01_k».proof.Proof.Gen.AdamQkv.Points
public import proofs.«01_k».proof.Proof.Gen.AdamQkv.Frame
public import proofs.«01_k».proof.Proof.Gen.AdamQkvIdeal
public import proofs.«01_k».proof.Proof.Gen.AdamQkvIdeal.Skeleton
public import proofs.«01_k».proof.Proof.Gen.AdamQkvIdeal.Launch
public import proofs.«01_k».proof.Proof.Gen.AdamQkvIdeal.Points
public import proofs.«01_k».proof.Proof.Gen.AdamQkvIdeal.Frame
public import proofs.«01_k».proof.Proof.Gen.AdamQkvIdeal.Value
public import proofs.«01_k».proof.Proof.Gen.AdamQkvRefIdeal
public import proofs.«01_k».proof.Proof.Gen.AdamQkvRefIdeal.Run
public import proofs.«01_k».proof.Proof.Gen.AdamQkvRefIdeal.Read
public import proofs.«01_k».proof.Proof.Gen.AdamSq
public import proofs.«01_k».proof.Proof.Gen.AdamSq.Skeleton
public import proofs.«01_k».proof.Proof.Gen.AdamSq.Launch
public import proofs.«01_k».proof.Proof.Gen.AdamSq.Points
public import proofs.«01_k».proof.Proof.Gen.AdamSq.Frame
public import proofs.«01_k».proof.Proof.Gen.AdamSqIdeal
public import proofs.«01_k».proof.Proof.Gen.AdamSqIdeal.Skeleton
public import proofs.«01_k».proof.Proof.Gen.AdamSqIdeal.Launch
public import proofs.«01_k».proof.Proof.Gen.AdamSqIdeal.Points
public import proofs.«01_k».proof.Proof.Gen.AdamSqIdeal.Frame
public import proofs.«01_k».proof.Proof.Gen.AdamSqIdeal.Value
public import proofs.«01_k».proof.Proof.Gen.AdamSqRefIdeal
public import proofs.«01_k».proof.Proof.Gen.AdamSqRefIdeal.Run
public import proofs.«01_k».proof.Proof.Gen.AdamSqRefIdeal.Read
public import proofs.«01_k».proof.Proof.Gen.AdamLin
public import proofs.«01_k».proof.Proof.Gen.AdamLin.Skeleton
public import proofs.«01_k».proof.Proof.Gen.AdamLin.Launch
public import proofs.«01_k».proof.Proof.Gen.AdamLin.Points
public import proofs.«01_k».proof.Proof.Gen.AdamLin.Frame
public import proofs.«01_k».proof.Proof.Gen.AdamLinIdeal
public import proofs.«01_k».proof.Proof.Gen.AdamLinIdeal.Skeleton
public import proofs.«01_k».proof.Proof.Gen.AdamLinIdeal.Launch
public import proofs.«01_k».proof.Proof.Gen.AdamLinIdeal.Points
public import proofs.«01_k».proof.Proof.Gen.AdamLinIdeal.Frame
public import proofs.«01_k».proof.Proof.Gen.AdamLinIdeal.Value
public import proofs.«01_k».proof.Proof.Gen.AdamLinRefIdeal
public import proofs.«01_k».proof.Proof.Gen.AdamLinRefIdeal.Run
public import proofs.«01_k».proof.Proof.Gen.AdamLinRefIdeal.Read
public import proofs.«01_k».proof.Proof.Gen.AdamGates
public import proofs.«01_k».proof.Proof.Gen.AdamGates.Skeleton
public import proofs.«01_k».proof.Proof.Gen.AdamGates.Launch
public import proofs.«01_k».proof.Proof.Gen.AdamGates.Points
public import proofs.«01_k».proof.Proof.Gen.AdamGates.Frame
public import proofs.«01_k».proof.Proof.Gen.AdamGatesIdeal
public import proofs.«01_k».proof.Proof.Gen.AdamGatesIdeal.Skeleton
public import proofs.«01_k».proof.Proof.Gen.AdamGatesIdeal.Launch
public import proofs.«01_k».proof.Proof.Gen.AdamGatesIdeal.Points
public import proofs.«01_k».proof.Proof.Gen.AdamGatesIdeal.Frame
public import proofs.«01_k».proof.Proof.Gen.AdamGatesIdeal.Value
public import proofs.«01_k».proof.Proof.Gen.AdamGatesRefIdeal
public import proofs.«01_k».proof.Proof.Gen.AdamGatesRefIdeal.Run
public import proofs.«01_k».proof.Proof.Gen.AdamGatesRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.LruOut
public import proofs.«01_k».proof.Proof.Gen.LruOut.Skeleton
public import proofs.«01_k».proof.Proof.Gen.LruOut.Launch
public import proofs.«01_k».proof.Proof.Gen.LruOut.Points
public import proofs.«01_k».proof.Proof.Gen.LruOut.Frame
public import proofs.«01_k».proof.Proof.Gen.LruOutIdeal
public import proofs.«01_k».proof.Proof.Gen.LruOutIdeal.Skeleton
public import proofs.«01_k».proof.Proof.Gen.LruOutIdeal.Launch
public import proofs.«01_k».proof.Proof.Gen.LruOutIdeal.Points
public import proofs.«01_k».proof.Proof.Gen.LruOutIdeal.Frame
public import proofs.«01_k».proof.Proof.Gen.LruOutIdeal.Value
public import proofs.«01_k».proof.Proof.Gen.LruOutRefIdeal
public import proofs.«01_k».proof.Proof.Gen.LruOutRefIdeal.Run
public import proofs.«01_k».proof.Proof.Gen.LruOutRefIdeal.Read
public import proofs.«01_k».proof.Proof.Gen.QkvRope
public import proofs.«01_k».proof.Proof.Gen.QkvRope.Skeleton
public import proofs.«01_k».proof.Proof.Gen.QkvRope.Launch
public import proofs.«01_k».proof.Proof.Gen.QkvRope.Points
public import proofs.«01_k».proof.Proof.Gen.QkvRope.Frame
public import proofs.«01_k».proof.Proof.Gen.QkvRopeIdeal
public import proofs.«01_k».proof.Proof.Gen.QkvRopeIdeal.Skeleton
public import proofs.«01_k».proof.Proof.Gen.QkvRopeIdeal.Launch
public import proofs.«01_k».proof.Proof.Gen.QkvRopeIdeal.Points
public import proofs.«01_k».proof.Proof.Gen.QkvRopeIdeal.Frame
public import proofs.«01_k».proof.Proof.Gen.QkvRopeIdeal.Value
public import proofs.«01_k».proof.Proof.Gen.QkvRopeRefIdeal
public import proofs.«01_k».proof.Proof.Gen.QkvRopeRefIdeal.Run
public import proofs.«01_k».proof.Proof.Gen.QkvRopeRefIdeal.Read
public import proofs.«01_k».proof.Proof.Frames
public import proofs.«01_k».proof.Proof.DwOutClaim
public import proofs.«01_k».proof.Proof.DwInClaim
public import proofs.«01_k».proof.Proof.DxClaim
public import proofs.«01_k».proof.Proof.ScanClaim
public import proofs.«01_k».proof.Proof.NormClaim
public import proofs.«01_k».proof.Proof.GateValue
public import proofs.«01_k».proof.Proof.ConvClaim
public import proofs.«01_k».proof.Proof.FwdClaim
public import proofs.«01_k».proof.Proof.MixDwClaim
public import proofs.«01_k».proof.Proof.AttnDwQkvClaim
public import proofs.«01_k».proof.Proof.LruDwInClaim
public import proofs.«01_k».proof.Proof.LruDwGatesClaim
public import proofs.«01_k».proof.Proof.AttnDoClaim
public import proofs.«01_k».proof.Proof.LruDyClaim
public import proofs.«01_k».proof.Proof.AttnDxClaim
public import proofs.«01_k».proof.Proof.LruDxClaim
public import proofs.«01_k».proof.Proof.LruDxcClaim
public import proofs.«01_k».proof.Proof.LruInClaim
public import proofs.«01_k».proof.Proof.AdamWInClaim
public import proofs.«01_k».proof.Proof.AdamWOutClaim
public import proofs.«01_k».proof.Proof.AdamQkvClaim
public import proofs.«01_k».proof.Proof.AdamSqClaim
public import proofs.«01_k».proof.Proof.AdamLinClaim
public import proofs.«01_k».proof.Proof.AdamGatesClaim
public import proofs.«01_k».proof.Proof.AttnFwdClaim
public import proofs.«01_k».proof.Proof.MixOutClaim
public import proofs.«01_k».proof.Proof.LruOutClaim
public import proofs.«01_k».proof.Proof.QkvRopeClaim
public import Idealize.ShloMosaic.Adequacy
public import Idealize.ShloMosaic.Init

@[expose] public section

noncomputable section

namespace Cert.Proof

open Idealize.ShloMosaic Idealize.SL.Sem Cert.Scan

theorem claim : Cert.Claim := ⟨Cert.Scan.Gen.facts, Cert.ScanIdeal.Gen.facts, Cert.ScanRefIdeal.Gen.facts, Cert.FfnDx.Gen.facts, Cert.FfnDxIdeal.Gen.facts, Cert.FfnDxRefIdeal.Gen.facts, Cert.FfnDwOut.Gen.facts, Cert.FfnDwOutIdeal.Gen.facts, Cert.FfnDwOutRefIdeal.Gen.facts, Cert.FfnDwIn.Gen.facts, Cert.FfnDwInIdeal.Gen.facts, Cert.FfnDwInRefIdeal.Gen.facts, Cert.Norm.Gen.facts, Cert.NormIdeal.Gen.facts, Cert.NormRefIdeal.Gen.facts, Cert.Gate.Gen.facts, Cert.GateIdeal.Gen.facts, Cert.GateRefIdeal.Gen.facts, Cert.Conv.Gen.facts, Cert.ConvIdeal.Gen.facts, Cert.ConvRefIdeal.Gen.facts, Cert.FfnFwd.Gen.facts, Cert.FfnFwdIdeal.Gen.facts, Cert.FfnFwdRefIdeal.Gen.facts, Cert.MixDw.Gen.facts, Cert.MixDwIdeal.Gen.facts, Cert.MixDwRefIdeal.Gen.facts, Cert.AttnDwQkv.Gen.facts, Cert.AttnDwQkvIdeal.Gen.facts, Cert.AttnDwQkvRefIdeal.Gen.facts, Cert.LruDwIn.Gen.facts, Cert.LruDwInIdeal.Gen.facts, Cert.LruDwInRefIdeal.Gen.facts, Cert.LruDwGates.Gen.facts, Cert.LruDwGatesIdeal.Gen.facts, Cert.LruDwGatesRefIdeal.Gen.facts, Cert.AttnDo.Gen.facts, Cert.AttnDoIdeal.Gen.facts, Cert.AttnDoRefIdeal.Gen.facts, Cert.LruDy.Gen.facts, Cert.LruDyIdeal.Gen.facts, Cert.LruDyRefIdeal.Gen.facts, Cert.AttnDx.Gen.facts, Cert.AttnDxIdeal.Gen.facts, Cert.AttnDxRefIdeal.Gen.facts, Cert.LruDx.Gen.facts, Cert.LruDxIdeal.Gen.facts, Cert.LruDxRefIdeal.Gen.facts, Cert.LruDxc.Gen.facts, Cert.LruDxcIdeal.Gen.facts, Cert.LruDxcRefIdeal.Gen.facts, Cert.LruIn.Gen.facts, Cert.LruInIdeal.Gen.facts, Cert.LruInRefIdeal.Gen.facts, Cert.AdamWIn.Gen.facts, Cert.AdamWInIdeal.Gen.facts, Cert.AdamWInRefIdeal.Gen.facts, Cert.AdamWOut.Gen.facts, Cert.AdamWOutIdeal.Gen.facts, Cert.AdamWOutRefIdeal.Gen.facts, Cert.AdamQkv.Gen.facts, Cert.AdamQkvIdeal.Gen.facts, Cert.AdamQkvRefIdeal.Gen.facts, Cert.AdamSq.Gen.facts, Cert.AdamSqIdeal.Gen.facts, Cert.AdamSqRefIdeal.Gen.facts, Cert.AdamLin.Gen.facts, Cert.AdamLinIdeal.Gen.facts, Cert.AdamLinRefIdeal.Gen.facts, Cert.AdamGates.Gen.facts, Cert.AdamGatesIdeal.Gen.facts, Cert.AdamGatesRefIdeal.Gen.facts, Cert.AttnFwd.Gen.facts, Cert.AttnFwdIdeal.Gen.facts, Cert.AttnFwdRefIdeal.Gen.facts, Cert.MixOut.Gen.facts, Cert.MixOutIdeal.Gen.facts, Cert.MixOutRefIdeal.Gen.facts, Cert.LruOut.Gen.facts, Cert.LruOutIdeal.Gen.facts, Cert.LruOutRefIdeal.Gen.facts, Cert.QkvRope.Gen.facts, Cert.QkvRopeIdeal.Gen.facts, Cert.QkvRopeRefIdeal.Gen.facts, Cert.Pre_finite_scan.Gen.facts, Cert.Pre_finite_ffn.Gen.facts, Cert.Pre_finite_norm.Gen.facts,
  Cert.Frames.scan,
  fun m ρ _ => Cert.ScanIdeal.Body.frame m ρ,
  fun m ρ _ => Cert.ScanIdeal.Body.frame m ρ,
  Cert.Frames.scanRef,
  fun m ρ _ => Cert.Frames.scanRef m ρ trivial,
  fun m ρ _ => Cert.FfnDx.Gen.frame m ρ,
  fun m ρ _ => Cert.FfnDxIdeal.Gen.frame m ρ,
  fun m ρ _ => Cert.FfnDxIdeal.Gen.frame m ρ,
  Cert.Frames.dxRef,
  fun m ρ _ => Cert.Frames.dxRef m ρ trivial,
  fun m ρ _ => Cert.FfnDwOut.Gen.frame m ρ,
  fun m ρ _ => Cert.FfnDwOutIdeal.Gen.frame m ρ,
  Cert.Frames.dwOutRef,
  fun m ρ _ => Cert.FfnDwIn.Gen.frame m ρ,
  fun m ρ _ => Cert.FfnDwInIdeal.Gen.frame m ρ,
  Cert.Frames.dwInRef,
  fun m ρ _ => Cert.Norm.Gen.frame m ρ,
  fun m ρ _ => Cert.NormIdeal.Gen.frame m ρ,
  fun m ρ _ => Cert.NormIdeal.Gen.frame m ρ,
  Cert.Frames.normRef,
  fun m ρ _ => Cert.Frames.normRef m ρ trivial,
  fun m ρ _ => Cert.Gate.Gen.frame m ρ,
  fun m ρ _ => Cert.GateIdeal.Gen.frame m ρ,
  Cert.Frames.gateRef,
  fun m ρ _ => Cert.Conv.Gen.frame m ρ,
  fun m ρ _ => Cert.ConvIdeal.Gen.frame m ρ,
  Cert.Frames.convRef,
  fun m ρ _ => Cert.FfnFwd.Gen.frame m ρ,
  fun m ρ _ => Cert.FfnFwdIdeal.Gen.frame m ρ,
  Cert.Frames.ffnFwdRef,
  fun m ρ _ => Cert.MixDw.Gen.frame m ρ,
  fun m ρ _ => Cert.MixDwIdeal.Gen.frame m ρ,
  Cert.Frames.mixDwRef,
  fun m ρ _ => Cert.AttnDwQkv.Gen.frame m ρ,
  fun m ρ _ => Cert.AttnDwQkvIdeal.Gen.frame m ρ,
  Cert.Frames.attnDwQkvRef,
  fun m ρ _ => Cert.LruDwIn.Gen.frame m ρ,
  fun m ρ _ => Cert.LruDwInIdeal.Gen.frame m ρ,
  Cert.Frames.lruDwInRef,
  fun m ρ _ => Cert.LruDwGates.Gen.frame m ρ,
  fun m ρ _ => Cert.LruDwGatesIdeal.Gen.frame m ρ,
  Cert.Frames.lruDwGatesRef,
  fun m ρ _ => Cert.AttnDo.Gen.frame m ρ,
  fun m ρ _ => Cert.AttnDoIdeal.Gen.frame m ρ,
  Cert.Frames.attnDoRef,
  fun m ρ _ => Cert.LruDy.Gen.frame m ρ,
  fun m ρ _ => Cert.LruDyIdeal.Gen.frame m ρ,
  Cert.Frames.lruDyRef,
  fun m ρ _ => Cert.AttnDx.Gen.frame m ρ,
  fun m ρ _ => Cert.AttnDxIdeal.Gen.frame m ρ,
  Cert.Frames.attnDxRef,
  fun m ρ _ => Cert.LruDx.Gen.frame m ρ,
  fun m ρ _ => Cert.LruDxIdeal.Gen.frame m ρ,
  Cert.Frames.lruDxRef,
  fun m ρ _ => Cert.LruDxc.Gen.frame m ρ,
  fun m ρ _ => Cert.LruDxcIdeal.Gen.frame m ρ,
  Cert.Frames.lruDxcRef,
  fun m ρ _ => Cert.LruIn.Gen.frame m ρ,
  fun m ρ _ => Cert.LruInIdeal.Gen.frame m ρ,
  Cert.Frames.lruInRef,
  fun m ρ _ => Cert.AdamWIn.Gen.frame m ρ,
  fun m ρ _ => Cert.AdamWInIdeal.Gen.frame m ρ,
  Cert.Frames.adamWInRef,
  fun m ρ _ => Cert.AdamWOut.Gen.frame m ρ,
  fun m ρ _ => Cert.AdamWOutIdeal.Gen.frame m ρ,
  Cert.Frames.adamWOutRef,
  fun m ρ _ => Cert.AdamQkv.Gen.frame m ρ,
  fun m ρ _ => Cert.AdamQkvIdeal.Gen.frame m ρ,
  Cert.Frames.adamQkvRef,
  fun m ρ _ => Cert.AdamSq.Gen.frame m ρ,
  fun m ρ _ => Cert.AdamSqIdeal.Gen.frame m ρ,
  Cert.Frames.adamSqRef,
  fun m ρ _ => Cert.AdamLin.Gen.frame m ρ,
  fun m ρ _ => Cert.AdamLinIdeal.Gen.frame m ρ,
  Cert.Frames.adamLinRef,
  fun m ρ _ => Cert.AdamGates.Gen.frame m ρ,
  fun m ρ _ => Cert.AdamGatesIdeal.Gen.frame m ρ,
  Cert.Frames.adamGatesRef,
  fun m ρ _ => Cert.AttnFwd.Gen.frame m ρ,
  fun m ρ _ => Cert.AttnFwdIdeal.Gen.frame m ρ,
  Cert.Frames.attnFwdRef,
  fun m ρ _ => Cert.MixOut.Gen.frame m ρ,
  fun m ρ _ => Cert.MixOutIdeal.Gen.frame m ρ,
  Cert.Frames.mixOutRef,
  fun m ρ _ => Cert.LruOut.Gen.frame m ρ,
  fun m ρ _ => Cert.LruOutIdeal.Gen.frame m ρ,
  Cert.Frames.lruOutRef,
  fun m ρ _ => Cert.QkvRope.Gen.frame m ρ,
  fun m ρ _ => Cert.QkvRopeIdeal.Gen.frame m ρ,
  Cert.Frames.qkvRopeRef,
  trivial,
  Cert.ScanIdeal.Math.claim,
  trivial,
  Cert.FfnDxIdeal.Math.claim,
  trivial,
  Cert.FfnDwOutIdeal.Math.claim,
  trivial,
  Cert.FfnDwInIdeal.Math.claim,
  trivial,
  Cert.NormIdeal.Math.claim,
  trivial,
  Cert.GateIdeal.Math.claim,
  trivial,
  Cert.ConvIdeal.Math.claim,
  trivial,
  Cert.FfnFwdIdeal.Math.claim, trivial, Cert.MixDwIdeal.Math.claim, trivial, Cert.AttnDwQkvIdeal.Math.claim, trivial, Cert.LruDwInIdeal.Math.claim, trivial, Cert.LruDwGatesIdeal.Math.claim, trivial, Cert.AttnDoIdeal.Math.claim, trivial, Cert.LruDyIdeal.Math.claim, trivial, Cert.AttnDxIdeal.Math.claim, trivial, Cert.LruDxIdeal.Math.claim, trivial, Cert.LruDxcIdeal.Math.claim, trivial, Cert.LruInIdeal.Math.claim, trivial, Cert.AdamWInIdeal.Math.claim, trivial, Cert.AdamWOutIdeal.Math.claim, trivial, Cert.AdamQkvIdeal.Math.claim, trivial, Cert.AdamSqIdeal.Math.claim, trivial, Cert.AdamLinIdeal.Math.claim, trivial, Cert.AdamGatesIdeal.Math.claim, Cert.AttnFwdIdeal.Math.preserves, Cert.AttnFwdIdeal.Math.claim, trivial, Cert.MixOutIdeal.Math.claim, trivial, Cert.LruOutIdeal.Math.claim, trivial, Cert.QkvRopeIdeal.Math.claim⟩

end Cert.Proof

end
